-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_PlainDActIdeal (m : (ℓ : Loc Cert.PlainDActIdeal.nD Cert.PlainDActIdeal.τ Cert.PlainDActIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_PlainDwDownIdeal (m : (ℓ : Loc Cert.PlainDwDownIdeal.nD Cert.PlainDwDownIdeal.τ Cert.PlainDwDownIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_PlainDxInIdeal (m : (ℓ : Loc Cert.PlainDxInIdeal.nD Cert.PlainDxInIdeal.τ Cert.PlainDxInIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_PlainDMergedIdeal (m : (ℓ : Loc Cert.PlainDMergedIdeal.nD Cert.PlainDMergedIdeal.τ Cert.PlainDMergedIdeal.sig) → Buf (Elt Ideal) ℓ) : Prop :=
  True

def Pre_DwMix (m : (ℓ : Loc Cert.DwMix.nD Cert.DwMix.τ Cert.DwMix.sig) → Buf (Elt Bits) ℓ) : Prop :=
  True

def Pre_DwMixIdeal (m : (ℓ : Loc Cert.DwMixIdeal.nD Cert.DwMixIdeal.τ Cert.DwMixIdeal.sig) → Buf (Elt Ideal) ℓ) : Prop :=
  True

def Pre_PlainDwMixIdeal (m : (ℓ : Loc Cert.PlainDwMixIdeal.nD Cert.PlainDwMixIdeal.τ Cert.PlainDwMixIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_PlainDwBranchIdeal (m : (ℓ : Loc Cert.PlainDwBranchIdeal.nD Cert.PlainDwBranchIdeal.τ Cert.PlainDwBranchIdeal.sig) → Buf (Elt Ideal) ℓ) : Prop :=
  True

def Pre_DwXq (m : (ℓ : Loc Cert.DwXq.nD Cert.DwXq.τ Cert.DwXq.sig) → Buf (Elt Bits) ℓ) : Prop :=
  True

def Pre_DwXqIdeal (m : (ℓ : Loc Cert.DwXqIdeal.nD Cert.DwXqIdeal.τ Cert.DwXqIdeal.sig) → Buf (Elt Ideal) ℓ) : Prop :=
  True

def Pre_PlainDwXqIdeal (m : (ℓ : Loc Cert.PlainDwXqIdeal.nD Cert.PlainDwXqIdeal.τ Cert.PlainDwXqIdeal.sig) → Buf (Elt Ideal) ℓ) : Prop :=
  True

def Pre_Dxo (m : (ℓ : Loc Cert.Dxo.nD Cert.Dxo.τ Cert.Dxo.sig) → Buf (Elt Bits) ℓ) : Prop :=
  True

def Pre_DxoIdeal (m : (ℓ : Loc Cert.DxoIdeal.nD Cert.DxoIdeal.τ Cert.DxoIdeal.sig) → Buf (Elt Ideal) ℓ) : Prop :=
  True

def Pre_PlainDxoIdeal (m : (ℓ : Loc Cert.PlainDxoIdeal.nD Cert.PlainDxoIdeal.τ Cert.PlainDxoIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_PlainDwUpIdeal (m : (ℓ : Loc Cert.PlainDwUpIdeal.nD Cert.PlainDwUpIdeal.τ Cert.PlainDwUpIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_PlainProjIdeal (m : (ℓ : Loc Cert.PlainProjIdeal.nD Cert.PlainProjIdeal.τ Cert.PlainProjIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_PlainDownLnIdeal (m : (ℓ : Loc Cert.PlainDownLnIdeal.nD Cert.PlainDownLnIdeal.τ Cert.PlainDownLnIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_PlainMergeFwdIdeal (m : (ℓ : Loc Cert.PlainMergeFwdIdeal.nD Cert.PlainMergeFwdIdeal.τ Cert.PlainMergeFwdIdeal.sig) → Buf (Elt Ideal) ℓ) : Prop :=
  True

def Pre_MixLn (m : (ℓ : Loc Cert.MixLn.nD Cert.MixLn.τ Cert.MixLn.sig) → Buf (Elt Bits) ℓ) : Prop :=
  True

def Pre_MixLnIdeal (m : (ℓ : Loc Cert.MixLnIdeal.nD Cert.MixLnIdeal.τ Cert.MixLnIdeal.sig) → Buf (Elt Ideal) ℓ) : Prop :=
  True

def Pre_PlainMixLnIdeal (m : (ℓ : Loc Cert.PlainMixLnIdeal.nD Cert.PlainMixLnIdeal.τ Cert.PlainMixLnIdeal.sig) → Buf (Elt Ideal) ℓ) : Prop :=
  True

def Pre_XoLn (m : (ℓ : Loc Cert.XoLn.nD Cert.XoLn.τ Cert.XoLn.sig) → Buf (Elt Bits) ℓ) : Prop :=
  True

def Pre_XoLnIdeal (m : (ℓ : Loc Cert.XoLnIdeal.nD Cert.XoLnIdeal.τ Cert.XoLnIdeal.sig) → Buf (Elt Ideal) ℓ) : Prop :=
  True

def Pre_PlainXoLnIdeal (m : (ℓ : Loc Cert.PlainXoLnIdeal.nD Cert.PlainXoLnIdeal.τ Cert.PlainXoLnIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_PlainXqIdeal (m : (ℓ : Loc Cert.PlainXqIdeal.nD Cert.PlainXqIdeal.τ Cert.PlainXqIdeal.sig) → Buf (Elt Ideal) ℓ) : Prop :=
  True

def Pre_DwUpA (m : (ℓ : Loc Cert.DwUpA.nD Cert.DwUpA.τ Cert.DwUpA.sig) → Buf (Elt Bits) ℓ) : Prop :=
  True

def Pre_DwUpAIdeal (m : (ℓ : Loc Cert.DwUpAIdeal.nD Cert.DwUpAIdeal.τ Cert.DwUpAIdeal.sig) → Buf (Elt Ideal) ℓ) : Prop :=
  True

def Pre_PlainDwUpAIdeal (m : (ℓ : Loc Cert.PlainDwUpAIdeal.nD Cert.PlainDwUpAIdeal.τ Cert.PlainDwUpAIdeal.sig) → Buf (Elt Ideal) ℓ) : Prop :=
  True

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_PlainDwInAIdeal (m : (ℓ : Loc Cert.PlainDwInAIdeal.nD Cert.PlainDwInAIdeal.τ Cert.PlainDwInAIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_PlainDwInBIdeal (m : (ℓ : Loc Cert.PlainDwInBIdeal.nD Cert.PlainDwInBIdeal.τ Cert.PlainDwInBIdeal.sig) → Buf (Elt Ideal) ℓ) : Prop :=
  True

def Pre_DwInC (m : (ℓ : Loc Cert.DwInC.nD Cert.DwInC.τ Cert.DwInC.sig) → Buf (Elt Bits) ℓ) : Prop :=
  True

def Pre_DwInCIdeal (m : (ℓ : Loc Cert.DwInCIdeal.nD Cert.DwInCIdeal.τ Cert.DwInCIdeal.sig) → Buf (Elt Ideal) ℓ) : Prop :=
  True

def Pre_PlainDwInCIdeal (m : (ℓ : Loc Cert.PlainDwInCIdeal.nD Cert.PlainDwInCIdeal.τ Cert.PlainDwInCIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpIdeal_finite_dxup [hPre_finite_dxup : Cert.Pre_finite_dxup.Facts] (m : (ℓ : Loc Cert.DxUpIdeal.nD Cert.DxUpIdeal.τ Cert.DxUpIdeal.sig) → Buf (Elt Ideal) ℓ) : Prop :=
  ∀ c : Dev Cert.DxUpIdeal.nD,
    (Cert.Pre_finite_dxup.fn (F := Ideal) (m ((c.tc : Thread Cert.DxUpIdeal.nD Cert.DxUpIdeal.τ).loc Cert.DxUpIdeal.main_arg0)) (m ((c.tc : Thread Cert.DxUpIdeal.nD Cert.DxUpIdeal.τ).loc Cert.DxUpIdeal.main_arg1)) (m ((c.tc : Thread Cert.DxUpIdeal.nD Cert.DxUpIdeal.τ).loc Cert.DxUpIdeal.main_arg2)) (m ((c.tc : Thread Cert.DxUpIdeal.nD Cert.DxUpIdeal.τ).loc Cert.DxUpIdeal.main_arg3)) (m ((c.tc : Thread Cert.DxUpIdeal.nD Cert.DxUpIdeal.τ).loc Cert.DxUpIdeal.main_arg4)) (m ((c.tc : Thread Cert.DxUpIdeal.nD Cert.DxUpIdeal.τ).loc Cert.DxUpIdeal.main_arg5))).1 = (fun _ => 1#1)
    ∧ (Cert.Pre_finite_dxup.fn (F := Ideal) (m ((c.tc : Thread Cert.DxUpIdeal.nD Cert.DxUpIdeal.τ).loc Cert.DxUpIdeal.main_arg0)) (m ((c.tc : Thread Cert.DxUpIdeal.nD Cert.DxUpIdeal.τ).loc Cert.DxUpIdeal.main_arg1)) (m ((c.tc : Thread Cert.DxUpIdeal.nD Cert.DxUpIdeal.τ).loc Cert.DxUpIdeal.main_arg2)) (m ((c.tc : Thread Cert.DxUpIdeal.nD Cert.DxUpIdeal.τ).loc Cert.DxUpIdeal.main_arg3)) (m ((c.tc : Thread Cert.DxUpIdeal.nD Cert.DxUpIdeal.τ).loc Cert.DxUpIdeal.main_arg4)) (m ((c.tc : Thread Cert.DxUpIdeal.nD Cert.DxUpIdeal.τ).loc Cert.DxUpIdeal.main_arg5))).2.1 = (fun _ => 1#1)
    ∧ (Cert.Pre_finite_dxup.fn (F := Ideal) (m ((c.tc : Thread Cert.DxUpIdeal.nD Cert.DxUpIdeal.τ).loc Cert.DxUpIdeal.main_arg0)) (m ((c.tc : Thread Cert.DxUpIdeal.nD Cert.DxUpIdeal.τ).loc Cert.DxUpIdeal.main_arg1)) (m ((c.tc : Thread Cert.DxUpIdeal.nD Cert.DxUpIdeal.τ).loc Cert.DxUpIdeal.main_arg2)) (m ((c.tc : Thread Cert.DxUpIdeal.nD Cert.DxUpIdeal.τ).loc Cert.DxUpIdeal.main_arg3)) (m ((c.tc : Thread Cert.DxUpIdeal.nD Cert.DxUpIdeal.τ).loc Cert.DxUpIdeal.main_arg4)) (m ((c.tc : Thread Cert.DxUpIdeal.nD Cert.DxUpIdeal.τ).loc Cert.DxUpIdeal.main_arg5))).2.2.1 = (fun _ => 1#1)
    ∧ (Cert.Pre_finite_dxup.fn (F := Ideal) (m ((c.tc : Thread Cert.DxUpIdeal.nD Cert.DxUpIdeal.τ).loc Cert.DxUpIdeal.main_arg0)) (m ((c.tc : Thread Cert.DxUpIdeal.nD Cert.DxUpIdeal.τ).loc Cert.DxUpIdeal.main_arg1)) (m ((c.tc : Thread Cert.DxUpIdeal.nD Cert.DxUpIdeal.τ).loc Cert.DxUpIdeal.main_arg2)) (m ((c.tc : Thread Cert.DxUpIdeal.nD Cert.DxUpIdeal.τ).loc Cert.DxUpIdeal.main_arg3)) (m ((c.tc : Thread Cert.DxUpIdeal.nD Cert.DxUpIdeal.τ).loc Cert.DxUpIdeal.main_arg4)) (m ((c.tc : Thread Cert.DxUpIdeal.nD Cert.DxUpIdeal.τ).loc Cert.DxUpIdeal.main_arg5))).2.2.2.1 = (fun _ => 1#1)
    ∧ (Cert.Pre_finite_dxup.fn (F := Ideal) (m ((c.tc : Thread Cert.DxUpIdeal.nD Cert.DxUpIdeal.τ).loc Cert.DxUpIdeal.main_arg0)) (m ((c.tc : Thread Cert.DxUpIdeal.nD Cert.DxUpIdeal.τ).loc Cert.DxUpIdeal.main_arg1)) (m ((c.tc : Thread Cert.DxUpIdeal.nD Cert.DxUpIdeal.τ).loc Cert.DxUpIdeal.main_arg2)) (m ((c.tc : Thread Cert.DxUpIdeal.nD Cert.DxUpIdeal.τ).loc Cert.DxUpIdeal.main_arg3)) (m ((c.tc : Thread Cert.DxUpIdeal.nD Cert.DxUpIdeal.τ).loc Cert.DxUpIdeal.main_arg4)) (m ((c.tc : Thread Cert.DxUpIdeal.nD Cert.DxUpIdeal.τ).loc Cert.DxUpIdeal.main_arg5))).2.2.2.2.1 = (fun _ => 1#1)
    ∧ (Cert.Pre_finite_dxup.fn (F := Ideal) (m ((c.tc : Thread Cert.DxUpIdeal.nD Cert.DxUpIdeal.τ).loc Cert.DxUpIdeal.main_arg0)) (m ((c.tc : Thread Cert.DxUpIdeal.nD Cert.DxUpIdeal.τ).loc Cert.DxUpIdeal.main_arg1)) (m ((c.tc : Thread Cert.DxUpIdeal.nD Cert.DxUpIdeal.τ).loc Cert.DxUpIdeal.main_arg2)) (m ((c.tc : Thread Cert.DxUpIdeal.nD Cert.DxUpIdeal.τ).loc Cert.DxUpIdeal.main_arg3)) (m ((c.tc : Thread Cert.DxUpIdeal.nD Cert.DxUpIdeal.τ).loc Cert.DxUpIdeal.main_arg4)) (m ((c.tc : Thread Cert.DxUpIdeal.nD Cert.DxUpIdeal.τ).loc Cert.DxUpIdeal.main_arg5))).2.2.2.2.2 = (fun _ => 1#1)

def Pre_PlainDxUpIdeal (m : (ℓ : Loc Cert.PlainDxUpIdeal.nD Cert.PlainDxUpIdeal.τ Cert.PlainDxUpIdeal.sig) → Buf (Elt Ideal) ℓ) : Prop :=
  True

def Pre_PlainDxUpIdeal_finite_dxup [hPre_finite_dxup : Cert.Pre_finite_dxup.Facts] (m : (ℓ : Loc Cert.PlainDxUpIdeal.nD Cert.PlainDxUpIdeal.τ Cert.PlainDxUpIdeal.sig) → Buf (Elt Ideal) ℓ) : Prop :=
  ∀ c : Dev Cert.PlainDxUpIdeal.nD,
    (Cert.Pre_finite_dxup.fn (F := Ideal) (m ((c.tc : Thread Cert.PlainDxUpIdeal.nD Cert.PlainDxUpIdeal.τ).loc Cert.PlainDxUpIdeal.main_arg0)) (m ((c.tc : Thread Cert.PlainDxUpIdeal.nD Cert.PlainDxUpIdeal.τ).loc Cert.PlainDxUpIdeal.main_arg1)) (m ((c.tc : Thread Cert.PlainDxUpIdeal.nD Cert.PlainDxUpIdeal.τ).loc Cert.PlainDxUpIdeal.main_arg2)) (m ((c.tc : Thread Cert.PlainDxUpIdeal.nD Cert.PlainDxUpIdeal.τ).loc Cert.PlainDxUpIdeal.main_arg3)) (m ((c.tc : Thread Cert.PlainDxUpIdeal.nD Cert.PlainDxUpIdeal.τ).loc Cert.PlainDxUpIdeal.main_arg4)) (m ((c.tc : Thread Cert.PlainDxUpIdeal.nD Cert.PlainDxUpIdeal.τ).loc Cert.PlainDxUpIdeal.main_arg5))).1 = (fun _ => 1#1)
    ∧ (Cert.Pre_finite_dxup.fn (F := Ideal) (m ((c.tc : Thread Cert.PlainDxUpIdeal.nD Cert.PlainDxUpIdeal.τ).loc Cert.PlainDxUpIdeal.main_arg0)) (m ((c.tc : Thread Cert.PlainDxUpIdeal.nD Cert.PlainDxUpIdeal.τ).loc Cert.PlainDxUpIdeal.main_arg1)) (m ((c.tc : Thread Cert.PlainDxUpIdeal.nD Cert.PlainDxUpIdeal.τ).loc Cert.PlainDxUpIdeal.main_arg2)) (m ((c.tc : Thread Cert.PlainDxUpIdeal.nD Cert.PlainDxUpIdeal.τ).loc Cert.PlainDxUpIdeal.main_arg3)) (m ((c.tc : Thread Cert.PlainDxUpIdeal.nD Cert.PlainDxUpIdeal.τ).loc Cert.PlainDxUpIdeal.main_arg4)) (m ((c.tc : Thread Cert.PlainDxUpIdeal.nD Cert.PlainDxUpIdeal.τ).loc Cert.PlainDxUpIdeal.main_arg5))).2.1 = (fun _ => 1#1)
    ∧ (Cert.Pre_finite_dxup.fn (F := Ideal) (m ((c.tc : Thread Cert.PlainDxUpIdeal.nD Cert.PlainDxUpIdeal.τ).loc Cert.PlainDxUpIdeal.main_arg0)) (m ((c.tc : Thread Cert.PlainDxUpIdeal.nD Cert.PlainDxUpIdeal.τ).loc Cert.PlainDxUpIdeal.main_arg1)) (m ((c.tc : Thread Cert.PlainDxUpIdeal.nD Cert.PlainDxUpIdeal.τ).loc Cert.PlainDxUpIdeal.main_arg2)) (m ((c.tc : Thread Cert.PlainDxUpIdeal.nD Cert.PlainDxUpIdeal.τ).loc Cert.PlainDxUpIdeal.main_arg3)) (m ((c.tc : Thread Cert.PlainDxUpIdeal.nD Cert.PlainDxUpIdeal.τ).loc Cert.PlainDxUpIdeal.main_arg4)) (m ((c.tc : Thread Cert.PlainDxUpIdeal.nD Cert.PlainDxUpIdeal.τ).loc Cert.PlainDxUpIdeal.main_arg5))).2.2.1 = (fun _ => 1#1)
    ∧ (Cert.Pre_finite_dxup.fn (F := Ideal) (m ((c.tc : Thread Cert.PlainDxUpIdeal.nD Cert.PlainDxUpIdeal.τ).loc Cert.PlainDxUpIdeal.main_arg0)) (m ((c.tc : Thread Cert.PlainDxUpIdeal.nD Cert.PlainDxUpIdeal.τ).loc Cert.PlainDxUpIdeal.main_arg1)) (m ((c.tc : Thread Cert.PlainDxUpIdeal.nD Cert.PlainDxUpIdeal.τ).loc Cert.PlainDxUpIdeal.main_arg2)) (m ((c.tc : Thread Cert.PlainDxUpIdeal.nD Cert.PlainDxUpIdeal.τ).loc Cert.PlainDxUpIdeal.main_arg3)) (m ((c.tc : Thread Cert.PlainDxUpIdeal.nD Cert.PlainDxUpIdeal.τ).loc Cert.PlainDxUpIdeal.main_arg4)) (m ((c.tc : Thread Cert.PlainDxUpIdeal.nD Cert.PlainDxUpIdeal.τ).loc Cert.PlainDxUpIdeal.main_arg5))).2.2.2.1 = (fun _ => 1#1)
    ∧ (Cert.Pre_finite_dxup.fn (F := Ideal) (m ((c.tc : Thread Cert.PlainDxUpIdeal.nD Cert.PlainDxUpIdeal.τ).loc Cert.PlainDxUpIdeal.main_arg0)) (m ((c.tc : Thread Cert.PlainDxUpIdeal.nD Cert.PlainDxUpIdeal.τ).loc Cert.PlainDxUpIdeal.main_arg1)) (m ((c.tc : Thread Cert.PlainDxUpIdeal.nD Cert.PlainDxUpIdeal.τ).loc Cert.PlainDxUpIdeal.main_arg2)) (m ((c.tc : Thread Cert.PlainDxUpIdeal.nD Cert.PlainDxUpIdeal.τ).loc Cert.PlainDxUpIdeal.main_arg3)) (m ((c.tc : Thread Cert.PlainDxUpIdeal.nD Cert.PlainDxUpIdeal.τ).loc Cert.PlainDxUpIdeal.main_arg4)) (m ((c.tc : Thread Cert.PlainDxUpIdeal.nD Cert.PlainDxUpIdeal.τ).loc Cert.PlainDxUpIdeal.main_arg5))).2.2.2.2.1 = (fun _ => 1#1)
    ∧ (Cert.Pre_finite_dxup.fn (F := Ideal) (m ((c.tc : Thread Cert.PlainDxUpIdeal.nD Cert.PlainDxUpIdeal.τ).loc Cert.PlainDxUpIdeal.main_arg0)) (m ((c.tc : Thread Cert.PlainDxUpIdeal.nD Cert.PlainDxUpIdeal.τ).loc Cert.PlainDxUpIdeal.main_arg1)) (m ((c.tc : Thread Cert.PlainDxUpIdeal.nD Cert.PlainDxUpIdeal.τ).loc Cert.PlainDxUpIdeal.main_arg2)) (m ((c.tc : Thread Cert.PlainDxUpIdeal.nD Cert.PlainDxUpIdeal.τ).loc Cert.PlainDxUpIdeal.main_arg3)) (m ((c.tc : Thread Cert.PlainDxUpIdeal.nD Cert.PlainDxUpIdeal.τ).loc Cert.PlainDxUpIdeal.main_arg4)) (m ((c.tc : Thread Cert.PlainDxUpIdeal.nD Cert.PlainDxUpIdeal.τ).loc Cert.PlainDxUpIdeal.main_arg5))).2.2.2.2.2 = (fun _ => 1#1)

def Pre_DxQ (m : (ℓ : Loc Cert.DxQ.nD Cert.DxQ.τ Cert.DxQ.sig) → Buf (Elt Bits) ℓ) : Prop :=
  True

def Pre_DxQIdeal (m : (ℓ : Loc Cert.DxQIdeal.nD Cert.DxQIdeal.τ Cert.DxQIdeal.sig) → Buf (Elt Ideal) ℓ) : Prop :=
  True

def Pre_DxQIdeal_finite_dxq [hPre_finite_dxq : Cert.Pre_finite_dxq.Facts] (m : (ℓ : Loc Cert.DxQIdeal.nD Cert.DxQIdeal.τ Cert.DxQIdeal.sig) → Buf (Elt Ideal) ℓ) : Prop :=
  ∀ c : Dev Cert.DxQIdeal.nD,
    (Cert.Pre_finite_dxq.fn (F := Ideal) (m ((c.tc : Thread Cert.DxQIdeal.nD Cert.DxQIdeal.τ).loc Cert.DxQIdeal.main_arg0)) (m ((c.tc : Thread Cert.DxQIdeal.nD Cert.DxQIdeal.τ).loc Cert.DxQIdeal.main_arg1)) (m ((c.tc : Thread Cert.DxQIdeal.nD Cert.DxQIdeal.τ).loc Cert.DxQIdeal.main_arg2)) (m ((c.tc : Thread Cert.DxQIdeal.nD Cert.DxQIdeal.τ).loc Cert.DxQIdeal.main_arg3)) (m ((c.tc : Thread Cert.DxQIdeal.nD Cert.DxQIdeal.τ).loc Cert.DxQIdeal.main_arg4))).1 = (fun _ => 1#1)
    ∧ (Cert.Pre_finite_dxq.fn (F := Ideal) (m ((c.tc : Thread Cert.DxQIdeal.nD Cert.DxQIdeal.τ).loc Cert.DxQIdeal.main_arg0)) (m ((c.tc : Thread Cert.DxQIdeal.nD Cert.DxQIdeal.τ).loc Cert.DxQIdeal.main_arg1)) (m ((c.tc : Thread Cert.DxQIdeal.nD Cert.DxQIdeal.τ).loc Cert.DxQIdeal.main_arg2)) (m ((c.tc : Thread Cert.DxQIdeal.nD Cert.DxQIdeal.τ).loc Cert.DxQIdeal.main_arg3)) (m ((c.tc : Thread Cert.DxQIdeal.nD Cert.DxQIdeal.τ).loc Cert.DxQIdeal.main_arg4))).2.1 = (fun _ => 1#1)
    ∧ (Cert.Pre_finite_dxq.fn (F := Ideal) (m ((c.tc : Thread Cert.DxQIdeal.nD Cert.DxQIdeal.τ).loc Cert.DxQIdeal.main_arg0)) (m ((c.tc : Thread Cert.DxQIdeal.nD Cert.DxQIdeal.τ).loc Cert.DxQIdeal.main_arg1)) (m ((c.tc : Thread Cert.DxQIdeal.nD Cert.DxQIdeal.τ).loc Cert.DxQIdeal.main_arg2)) (m ((c.tc : Thread Cert.DxQIdeal.nD Cert.DxQIdeal.τ).loc Cert.DxQIdeal.main_arg3)) (m ((c.tc : Thread Cert.DxQIdeal.nD Cert.DxQIdeal.τ).loc Cert.DxQIdeal.main_arg4))).2.2.1 = (fun _ => 1#1)
    ∧ (Cert.Pre_finite_dxq.fn (F := Ideal) (m ((c.tc : Thread Cert.DxQIdeal.nD Cert.DxQIdeal.τ).loc Cert.DxQIdeal.main_arg0)) (m ((c.tc : Thread Cert.DxQIdeal.nD Cert.DxQIdeal.τ).loc Cert.DxQIdeal.main_arg1)) (m ((c.tc : Thread Cert.DxQIdeal.nD Cert.DxQIdeal.τ).loc Cert.DxQIdeal.main_arg2)) (m ((c.tc : Thread Cert.DxQIdeal.nD Cert.DxQIdeal.τ).loc Cert.DxQIdeal.main_arg3)) (m ((c.tc : Thread Cert.DxQIdeal.nD Cert.DxQIdeal.τ).loc Cert.DxQIdeal.main_arg4))).2.2.2.1 = (fun _ => 1#1)
    ∧ (Cert.Pre_finite_dxq.fn (F := Ideal) (m ((c.tc : Thread Cert.DxQIdeal.nD Cert.DxQIdeal.τ).loc Cert.DxQIdeal.main_arg0)) (m ((c.tc : Thread Cert.DxQIdeal.nD Cert.DxQIdeal.τ).loc Cert.DxQIdeal.main_arg1)) (m ((c.tc : Thread Cert.DxQIdeal.nD Cert.DxQIdeal.τ).loc Cert.DxQIdeal.main_arg2)) (m ((c.tc : Thread Cert.DxQIdeal.nD Cert.DxQIdeal.τ).loc Cert.DxQIdeal.main_arg3)) (m ((c.tc : Thread Cert.DxQIdeal.nD Cert.DxQIdeal.τ).loc Cert.DxQIdeal.main_arg4))).2.2.2.2 = (fun _ => 1#1)

def Pre_PlainDxQIdeal (m : (ℓ : Loc Cert.PlainDxQIdeal.nD Cert.PlainDxQIdeal.τ Cert.PlainDxQIdeal.sig) → Buf (Elt Ideal) ℓ) : Prop :=
  True

def Pre_PlainDxQIdeal_finite_dxq [hPre_finite_dxq : Cert.Pre_finite_dxq.Facts] (m : (ℓ : Loc Cert.PlainDxQIdeal.nD Cert.PlainDxQIdeal.τ Cert.PlainDxQIdeal.sig) → Buf (Elt Ideal) ℓ) : Prop :=
  ∀ c : Dev Cert.PlainDxQIdeal.nD,
    (Cert.Pre_finite_dxq.fn (F := Ideal) (m ((c.tc : Thread Cert.PlainDxQIdeal.nD Cert.PlainDxQIdeal.τ).loc Cert.PlainDxQIdeal.main_arg0)) (m ((c.tc : Thread Cert.PlainDxQIdeal.nD Cert.PlainDxQIdeal.τ).loc Cert.PlainDxQIdeal.main_arg1)) (m ((c.tc : Thread Cert.PlainDxQIdeal.nD Cert.PlainDxQIdeal.τ).loc Cert.PlainDxQIdeal.main_arg2)) (m ((c.tc : Thread Cert.PlainDxQIdeal.nD Cert.PlainDxQIdeal.τ).loc Cert.PlainDxQIdeal.main_arg3)) (m ((c.tc : Thread Cert.PlainDxQIdeal.nD Cert.PlainDxQIdeal.τ).loc Cert.PlainDxQIdeal.main_arg4))).1 = (fun _ => 1#1)
    ∧ (Cert.Pre_finite_dxq.fn (F := Ideal) (m ((c.tc : Thread Cert.PlainDxQIdeal.nD Cert.PlainDxQIdeal.τ).loc Cert.PlainDxQIdeal.main_arg0)) (m ((c.tc : Thread Cert.PlainDxQIdeal.nD Cert.PlainDxQIdeal.τ).loc Cert.PlainDxQIdeal.main_arg1)) (m ((c.tc : Thread Cert.PlainDxQIdeal.nD Cert.PlainDxQIdeal.τ).loc Cert.PlainDxQIdeal.main_arg2)) (m ((c.tc : Thread Cert.PlainDxQIdeal.nD Cert.PlainDxQIdeal.τ).loc Cert.PlainDxQIdeal.main_arg3)) (m ((c.tc : Thread Cert.PlainDxQIdeal.nD Cert.PlainDxQIdeal.τ).loc Cert.PlainDxQIdeal.main_arg4))).2.1 = (fun _ => 1#1)
    ∧ (Cert.Pre_finite_dxq.fn (F := Ideal) (m ((c.tc : Thread Cert.PlainDxQIdeal.nD Cert.PlainDxQIdeal.τ).loc Cert.PlainDxQIdeal.main_arg0)) (m ((c.tc : Thread Cert.PlainDxQIdeal.nD Cert.PlainDxQIdeal.τ).loc Cert.PlainDxQIdeal.main_arg1)) (m ((c.tc : Thread Cert.PlainDxQIdeal.nD Cert.PlainDxQIdeal.τ).loc Cert.PlainDxQIdeal.main_arg2)) (m ((c.tc : Thread Cert.PlainDxQIdeal.nD Cert.PlainDxQIdeal.τ).loc Cert.PlainDxQIdeal.main_arg3)) (m ((c.tc : Thread Cert.PlainDxQIdeal.nD Cert.PlainDxQIdeal.τ).loc Cert.PlainDxQIdeal.main_arg4))).2.2.1 = (fun _ => 1#1)
    ∧ (Cert.Pre_finite_dxq.fn (F := Ideal) (m ((c.tc : Thread Cert.PlainDxQIdeal.nD Cert.PlainDxQIdeal.τ).loc Cert.PlainDxQIdeal.main_arg0)) (m ((c.tc : Thread Cert.PlainDxQIdeal.nD Cert.PlainDxQIdeal.τ).loc Cert.PlainDxQIdeal.main_arg1)) (m ((c.tc : Thread Cert.PlainDxQIdeal.nD Cert.PlainDxQIdeal.τ).loc Cert.PlainDxQIdeal.main_arg2)) (m ((c.tc : Thread Cert.PlainDxQIdeal.nD Cert.PlainDxQIdeal.τ).loc Cert.PlainDxQIdeal.main_arg3)) (m ((c.tc : Thread Cert.PlainDxQIdeal.nD Cert.PlainDxQIdeal.τ).loc Cert.PlainDxQIdeal.main_arg4))).2.2.2.1 = (fun _ => 1#1)
    ∧ (Cert.Pre_finite_dxq.fn (F := Ideal) (m ((c.tc : Thread Cert.PlainDxQIdeal.nD Cert.PlainDxQIdeal.τ).loc Cert.PlainDxQIdeal.main_arg0)) (m ((c.tc : Thread Cert.PlainDxQIdeal.nD Cert.PlainDxQIdeal.τ).loc Cert.PlainDxQIdeal.main_arg1)) (m ((c.tc : Thread Cert.PlainDxQIdeal.nD Cert.PlainDxQIdeal.τ).loc Cert.PlainDxQIdeal.main_arg2)) (m ((c.tc : Thread Cert.PlainDxQIdeal.nD Cert.PlainDxQIdeal.τ).loc Cert.PlainDxQIdeal.main_arg3)) (m ((c.tc : Thread Cert.PlainDxQIdeal.nD Cert.PlainDxQIdeal.τ).loc Cert.PlainDxQIdeal.main_arg4))).2.2.2.2 = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_PlainAdamInIdeal (m : (ℓ : Loc Cert.PlainAdamInIdeal.nD Cert.PlainAdamInIdeal.τ Cert.PlainAdamInIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_PlainAdamBranchIdeal (m : (ℓ : Loc Cert.PlainAdamBranchIdeal.nD Cert.PlainAdamBranchIdeal.τ Cert.PlainAdamBranchIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_PlainAdamMixIdeal (m : (ℓ : Loc Cert.PlainAdamMixIdeal.nD Cert.PlainAdamMixIdeal.τ Cert.PlainAdamMixIdeal.sig) → Buf (Elt Ideal) ℓ) : Prop :=
  True

def Pre_AdamXq (m : (ℓ : Loc Cert.AdamXq.nD Cert.AdamXq.τ Cert.AdamXq.sig) → Buf (Elt Bits) ℓ) : Prop :=
  True

def Pre_AdamXqIdeal (m : (ℓ : Loc Cert.AdamXqIdeal.nD Cert.AdamXqIdeal.τ Cert.AdamXqIdeal.sig) → Buf (Elt Ideal) ℓ) : Prop :=
  True

def Pre_PlainAdamXqIdeal (m : (ℓ : Loc Cert.PlainAdamXqIdeal.nD Cert.PlainAdamXqIdeal.τ Cert.PlainAdamXqIdeal.sig) → Buf (Elt Ideal) ℓ) : Prop :=
  True

def Pre_AdamXo (m : (ℓ : Loc Cert.AdamXo.nD Cert.AdamXo.τ Cert.AdamXo.sig) → Buf (Elt Bits) ℓ) : Prop :=
  True

def Pre_AdamXoIdeal (m : (ℓ : Loc Cert.AdamXoIdeal.nD Cert.AdamXoIdeal.τ Cert.AdamXoIdeal.sig) → Buf (Elt Ideal) ℓ) : Prop :=
  True

def Pre_PlainAdamXoIdeal (m : (ℓ : Loc Cert.PlainAdamXoIdeal.nD Cert.PlainAdamXoIdeal.τ Cert.PlainAdamXoIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_PlainAdamDownIdeal (m : (ℓ : Loc Cert.PlainAdamDownIdeal.nD Cert.PlainAdamDownIdeal.τ Cert.PlainAdamDownIdeal.sig) → Buf (Elt Ideal) ℓ) : Prop :=
  True

def Pre_XBwd (m : (ℓ : Loc Cert.XBwd.nD Cert.XBwd.τ Cert.XBwd.sig) → Buf (Elt Bits) ℓ) : Prop :=
  True

def Pre_XBwdIdeal (m : (ℓ : Loc Cert.XBwdIdeal.nD Cert.XBwdIdeal.τ Cert.XBwdIdeal.sig) → Buf (Elt Ideal) ℓ) : Prop :=
  True

def Pre_XBwdIdeal_finite_xbwd [hPre_finite_xbwd : Cert.Pre_finite_xbwd.Facts] (m : (ℓ : Loc Cert.XBwdIdeal.nD Cert.XBwdIdeal.τ Cert.XBwdIdeal.sig) → Buf (Elt Ideal) ℓ) : Prop :=
  ∀ c : Dev Cert.XBwdIdeal.nD,
    (Cert.Pre_finite_xbwd.fn (F := Ideal) (m ((c.tc : Thread Cert.XBwdIdeal.nD Cert.XBwdIdeal.τ).loc Cert.XBwdIdeal.main_arg0)) (m ((c.tc : Thread Cert.XBwdIdeal.nD Cert.XBwdIdeal.τ).loc Cert.XBwdIdeal.main_arg1)) (m ((c.tc : Thread Cert.XBwdIdeal.nD Cert.XBwdIdeal.τ).loc Cert.XBwdIdeal.main_arg2))).1 = (fun _ => 1#1)
    ∧ (Cert.Pre_finite_xbwd.fn (F := Ideal) (m ((c.tc : Thread Cert.XBwdIdeal.nD Cert.XBwdIdeal.τ).loc Cert.XBwdIdeal.main_arg0)) (m ((c.tc : Thread Cert.XBwdIdeal.nD Cert.XBwdIdeal.τ).loc Cert.XBwdIdeal.main_arg1)) (m ((c.tc : Thread Cert.XBwdIdeal.nD Cert.XBwdIdeal.τ).loc Cert.XBwdIdeal.main_arg2))).2.1 = (fun _ => 1#1)
    ∧ (Cert.Pre_finite_xbwd.fn (F := Ideal) (m ((c.tc : Thread Cert.XBwdIdeal.nD Cert.XBwdIdeal.τ).loc Cert.XBwdIdeal.main_arg0)) (m ((c.tc : Thread Cert.XBwdIdeal.nD Cert.XBwdIdeal.τ).loc Cert.XBwdIdeal.main_arg1)) (m ((c.tc : Thread Cert.XBwdIdeal.nD Cert.XBwdIdeal.τ).loc Cert.XBwdIdeal.main_arg2))).2.2 = (fun _ => 1#1)

def Pre_PlainXBwdIdeal (m : (ℓ : Loc Cert.PlainXBwdIdeal.nD Cert.PlainXBwdIdeal.τ Cert.PlainXBwdIdeal.sig) → Buf (Elt Ideal) ℓ) : Prop :=
  True

def Pre_PlainXBwdIdeal_finite_xbwd [hPre_finite_xbwd : Cert.Pre_finite_xbwd.Facts] (m : (ℓ : Loc Cert.PlainXBwdIdeal.nD Cert.PlainXBwdIdeal.τ Cert.PlainXBwdIdeal.sig) → Buf (Elt Ideal) ℓ) : Prop :=
  ∀ c : Dev Cert.PlainXBwdIdeal.nD,
    (Cert.Pre_finite_xbwd.fn (F := Ideal) (m ((c.tc : Thread Cert.PlainXBwdIdeal.nD Cert.PlainXBwdIdeal.τ).loc Cert.PlainXBwdIdeal.main_arg0)) (m ((c.tc : Thread Cert.PlainXBwdIdeal.nD Cert.PlainXBwdIdeal.τ).loc Cert.PlainXBwdIdeal.main_arg1)) (m ((c.tc : Thread Cert.PlainXBwdIdeal.nD Cert.PlainXBwdIdeal.τ).loc Cert.PlainXBwdIdeal.main_arg2))).1 = (fun _ => 1#1)
    ∧ (Cert.Pre_finite_xbwd.fn (F := Ideal) (m ((c.tc : Thread Cert.PlainXBwdIdeal.nD Cert.PlainXBwdIdeal.τ).loc Cert.PlainXBwdIdeal.main_arg0)) (m ((c.tc : Thread Cert.PlainXBwdIdeal.nD Cert.PlainXBwdIdeal.τ).loc Cert.PlainXBwdIdeal.main_arg1)) (m ((c.tc : Thread Cert.PlainXBwdIdeal.nD Cert.PlainXBwdIdeal.τ).loc Cert.PlainXBwdIdeal.main_arg2))).2.1 = (fun _ => 1#1)
    ∧ (Cert.Pre_finite_xbwd.fn (F := Ideal) (m ((c.tc : Thread Cert.PlainXBwdIdeal.nD Cert.PlainXBwdIdeal.τ).loc Cert.PlainXBwdIdeal.main_arg0)) (m ((c.tc : Thread Cert.PlainXBwdIdeal.nD Cert.PlainXBwdIdeal.τ).loc Cert.PlainXBwdIdeal.main_arg1)) (m ((c.tc : Thread Cert.PlainXBwdIdeal.nD Cert.PlainXBwdIdeal.τ).loc Cert.PlainXBwdIdeal.main_arg2))).2.2 = (fun _ => 1#1)

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_PlainSumSmallIdeal (m : (ℓ : Loc Cert.PlainSumSmallIdeal.nD Cert.PlainSumSmallIdeal.τ Cert.PlainSumSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_PlainDActIdeal [hPlainDActIdeal : Cert.PlainDActIdeal.Facts] : Prop :=
  ∀ (m : (ℓ : Loc Cert.PlainDActIdeal.nD Cert.PlainDActIdeal.τ Cert.PlainDActIdeal.sig) → Buf (Elt Ideal) ℓ) (g : Dev Cert.PlainDActIdeal.nD → PrngReg), Pre_PlainDActIdeal m →
    θ_run (Cert.PlainDActIdeal.defs (F := Ideal)) (onTc (τ := Cert.PlainDActIdeal.τ) (Cert.PlainDActIdeal.main (F := Ideal))) ⟨m, fun _ => 0, g⟩ (fun r => (∀ c : Dev Cert.PlainDActIdeal.nD,
      r.2.mem ((c.tc : Thread Cert.PlainDActIdeal.nD Cert.PlainDActIdeal.τ).loc Cert.PlainDActIdeal.main_arg0) = m ((c.tc : Thread Cert.PlainDActIdeal.nD Cert.PlainDActIdeal.τ).loc Cert.PlainDActIdeal.main_arg0)
      ∧ r.2.mem ((c.tc : Thread Cert.PlainDActIdeal.nD Cert.PlainDActIdeal.τ).loc Cert.PlainDActIdeal.main_arg1) = m ((c.tc : Thread Cert.PlainDActIdeal.nD Cert.PlainDActIdeal.τ).loc Cert.PlainDActIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_PlainDwDownIdeal [hPlainDwDownIdeal : Cert.PlainDwDownIdeal.Facts] : Prop :=
  ∀ (m : (ℓ : Loc Cert.PlainDwDownIdeal.nD Cert.PlainDwDownIdeal.τ Cert.PlainDwDownIdeal.sig) → Buf (Elt Ideal) ℓ) (g : Dev Cert.PlainDwDownIdeal.nD → PrngReg), Pre_PlainDwDownIdeal m →
    θ_run (Cert.PlainDwDownIdeal.defs (F := Ideal)) (onTc (τ := Cert.PlainDwDownIdeal.τ) (Cert.PlainDwDownIdeal.main (F := Ideal))) ⟨m, fun _ => 0, g⟩ (fun r => (∀ c : Dev Cert.PlainDwDownIdeal.nD,
      r.2.mem ((c.tc : Thread Cert.PlainDwDownIdeal.nD Cert.PlainDwDownIdeal.τ).loc Cert.PlainDwDownIdeal.main_arg0) = m ((c.tc : Thread Cert.PlainDwDownIdeal.nD Cert.PlainDwDownIdeal.τ).loc Cert.PlainDwDownIdeal.main_arg0)
      ∧ r.2.mem ((c.tc : Thread Cert.PlainDwDownIdeal.nD Cert.PlainDwDownIdeal.τ).loc Cert.PlainDwDownIdeal.main_arg1) = m ((c.tc : Thread Cert.PlainDwDownIdeal.nD Cert.PlainDwDownIdeal.τ).loc Cert.PlainDwDownIdeal.main_arg1))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1)
      ∧ r.2.mem ((c.tc : Thread Cert.DxIn.nD Cert.DxIn.τ).loc Cert.DxIn.main_arg2) = m ((c.tc : Thread Cert.DxIn.nD Cert.DxIn.τ).loc Cert.DxIn.main_arg2)
      ∧ r.2.mem ((c.tc : Thread Cert.DxIn.nD Cert.DxIn.τ).loc Cert.DxIn.main_arg3) = m ((c.tc : Thread Cert.DxIn.nD Cert.DxIn.τ).loc Cert.DxIn.main_arg3)
      ∧ r.2.mem ((c.tc : Thread Cert.DxIn.nD Cert.DxIn.τ).loc Cert.DxIn.main_arg4) = m ((c.tc : Thread Cert.DxIn.nD Cert.DxIn.τ).loc Cert.DxIn.main_arg4))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
      ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
      ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
      ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ r.2.sem = fun _ => 0)

def quiescent_PlainDxInIdeal [hPlainDxInIdeal : Cert.PlainDxInIdeal.Facts] : Prop :=
  ∀ (m : (ℓ : Loc Cert.PlainDxInIdeal.nD Cert.PlainDxInIdeal.τ Cert.PlainDxInIdeal.sig) → Buf (Elt Ideal) ℓ) (g : Dev Cert.PlainDxInIdeal.nD → PrngReg), Pre_PlainDxInIdeal m →
    θ_run (Cert.PlainDxInIdeal.defs (F := Ideal)) (onTc (τ := Cert.PlainDxInIdeal.τ) (Cert.PlainDxInIdeal.main (F := Ideal))) ⟨m, fun _ => 0, g⟩ (fun r => (∀ c : Dev Cert.PlainDxInIdeal.nD,
      r.2.mem ((c.tc : Thread Cert.PlainDxInIdeal.nD Cert.PlainDxInIdeal.τ).loc Cert.PlainDxInIdeal.main_arg0) = m ((c.tc : Thread Cert.PlainDxInIdeal.nD Cert.PlainDxInIdeal.τ).loc Cert.PlainDxInIdeal.main_arg0)
      ∧ r.2.mem ((c.tc : Thread Cert.PlainDxInIdeal.nD Cert.PlainDxInIdeal.τ).loc Cert.PlainDxInIdeal.main_arg1) = m ((c.tc : Thread Cert.PlainDxInIdeal.nD Cert.PlainDxInIdeal.τ).loc Cert.PlainDxInIdeal.main_arg1)
      ∧ r.2.mem ((c.tc : Thread Cert.PlainDxInIdeal.nD Cert.PlainDxInIdeal.τ).loc Cert.PlainDxInIdeal.main_arg2) = m ((c.tc : Thread Cert.PlainDxInIdeal.nD Cert.PlainDxInIdeal.τ).loc Cert.PlainDxInIdeal.main_arg2)
      ∧ r.2.mem ((c.tc : Thread Cert.PlainDxInIdeal.nD Cert.PlainDxInIdeal.τ).loc Cert.PlainDxInIdeal.main_arg3) = m ((c.tc : Thread Cert.PlainDxInIdeal.nD Cert.PlainDxInIdeal.τ).loc Cert.PlainDxInIdeal.main_arg3)
      ∧ r.2.mem ((c.tc : Thread Cert.PlainDxInIdeal.nD Cert.PlainDxInIdeal.τ).loc Cert.PlainDxInIdeal.main_arg4) = m ((c.tc : Thread Cert.PlainDxInIdeal.nD Cert.PlainDxInIdeal.τ).loc Cert.PlainDxInIdeal.main_arg4))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_PlainDMergedIdeal [hPlainDMergedIdeal : Cert.PlainDMergedIdeal.Facts] : Prop :=
  ∀ (m : (ℓ : Loc Cert.PlainDMergedIdeal.nD Cert.PlainDMergedIdeal.τ Cert.PlainDMergedIdeal.sig) → Buf (Elt Ideal) ℓ) (g : Dev Cert.PlainDMergedIdeal.nD → PrngReg), Pre_PlainDMergedIdeal m →
    θ_run (Cert.PlainDMergedIdeal.defs (F := Ideal)) (onTc (τ := Cert.PlainDMergedIdeal.τ) (Cert.PlainDMergedIdeal.main (F := Ideal))) ⟨m, fun _ => 0, g⟩ (fun r => (∀ c : Dev Cert.PlainDMergedIdeal.nD,
      r.2.mem ((c.tc : Thread Cert.PlainDMergedIdeal.nD Cert.PlainDMergedIdeal.τ).loc Cert.PlainDMergedIdeal.main_arg0) = m ((c.tc : Thread Cert.PlainDMergedIdeal.nD Cert.PlainDMergedIdeal.τ).loc Cert.PlainDMergedIdeal.main_arg0)
      ∧ r.2.mem ((c.tc : Thread Cert.PlainDMergedIdeal.nD Cert.PlainDMergedIdeal.τ).loc Cert.PlainDMergedIdeal.main_arg1) = m ((c.tc : Thread Cert.PlainDMergedIdeal.nD Cert.PlainDMergedIdeal.τ).loc Cert.PlainDMergedIdeal.main_arg1))
      ∧ r.2.sem = fun _ => 0)

def quiescent_DwMix [hDwMix : Cert.DwMix.Facts] : Prop :=
  ∀ (m : (ℓ : Loc Cert.DwMix.nD Cert.DwMix.τ Cert.DwMix.sig) → Buf (Elt Bits) ℓ) (g : Dev Cert.DwMix.nD → PrngReg), Pre_DwMix m →
    θ_run (Cert.DwMix.defs (F := Bits)) (onTc (τ := Cert.DwMix.τ) (Cert.DwMix.main (F := Bits))) ⟨m, fun _ => 0, g⟩ (fun r => (∀ c : Dev Cert.DwMix.nD,
      r.2.mem ((c.tc : Thread Cert.DwMix.nD Cert.DwMix.τ).loc Cert.DwMix.main_arg0) = m ((c.tc : Thread Cert.DwMix.nD Cert.DwMix.τ).loc Cert.DwMix.main_arg0)
      ∧ r.2.mem ((c.tc : Thread Cert.DwMix.nD Cert.DwMix.τ).loc Cert.DwMix.main_arg1) = m ((c.tc : Thread Cert.DwMix.nD Cert.DwMix.τ).loc Cert.DwMix.main_arg1))
      ∧ r.2.sem = fun _ => 0)

def quiescent_DwMixIdeal [hDwMixIdeal : Cert.DwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg), Pre_DwMixIdeal m →
    θ_run (Cert.DwMixIdeal.defs (F := Ideal)) (onTc (τ := Cert.DwMixIdeal.τ) (Cert.DwMixIdeal.main (F := Ideal))) ⟨m, fun _ => 0, g⟩ (fun r => (∀ c : Dev Cert.DwMixIdeal.nD,
      r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
      ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ r.2.sem = fun _ => 0)

def quiescent_PlainDwMixIdeal [hPlainDwMixIdeal : Cert.PlainDwMixIdeal.Facts] : Prop :=
  ∀ (m : (ℓ : Loc Cert.PlainDwMixIdeal.nD Cert.PlainDwMixIdeal.τ Cert.PlainDwMixIdeal.sig) → Buf (Elt Ideal) ℓ) (g : Dev Cert.PlainDwMixIdeal.nD → PrngReg), Pre_PlainDwMixIdeal m →
    θ_run (Cert.PlainDwMixIdeal.defs (F := Ideal)) (onTc (τ := Cert.PlainDwMixIdeal.τ) (Cert.PlainDwMixIdeal.main (F := Ideal))) ⟨m, fun _ => 0, g⟩ (fun r => (∀ c : Dev Cert.PlainDwMixIdeal.nD,
      r.2.mem ((c.tc : Thread Cert.PlainDwMixIdeal.nD Cert.PlainDwMixIdeal.τ).loc Cert.PlainDwMixIdeal.main_arg0) = m ((c.tc : Thread Cert.PlainDwMixIdeal.nD Cert.PlainDwMixIdeal.τ).loc Cert.PlainDwMixIdeal.main_arg0)
      ∧ r.2.mem ((c.tc : Thread Cert.PlainDwMixIdeal.nD Cert.PlainDwMixIdeal.τ).loc Cert.PlainDwMixIdeal.main_arg1) = m ((c.tc : Thread Cert.PlainDwMixIdeal.nD Cert.PlainDwMixIdeal.τ).loc Cert.PlainDwMixIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_PlainDwBranchIdeal [hPlainDwBranchIdeal : Cert.PlainDwBranchIdeal.Facts] : Prop :=
  ∀ (m : (ℓ : Loc Cert.PlainDwBranchIdeal.nD Cert.PlainDwBranchIdeal.τ Cert.PlainDwBranchIdeal.sig) → Buf (Elt Ideal) ℓ) (g : Dev Cert.PlainDwBranchIdeal.nD → PrngReg), Pre_PlainDwBranchIdeal m →
    θ_run (Cert.PlainDwBranchIdeal.defs (F := Ideal)) (onTc (τ := Cert.PlainDwBranchIdeal.τ) (Cert.PlainDwBranchIdeal.main (F := Ideal))) ⟨m, fun _ => 0, g⟩ (fun r => (∀ c : Dev Cert.PlainDwBranchIdeal.nD,
      r.2.mem ((c.tc : Thread Cert.PlainDwBranchIdeal.nD Cert.PlainDwBranchIdeal.τ).loc Cert.PlainDwBranchIdeal.main_arg0) = m ((c.tc : Thread Cert.PlainDwBranchIdeal.nD Cert.PlainDwBranchIdeal.τ).loc Cert.PlainDwBranchIdeal.main_arg0)
      ∧ r.2.mem ((c.tc : Thread Cert.PlainDwBranchIdeal.nD Cert.PlainDwBranchIdeal.τ).loc Cert.PlainDwBranchIdeal.main_arg1) = m ((c.tc : Thread Cert.PlainDwBranchIdeal.nD Cert.PlainDwBranchIdeal.τ).loc Cert.PlainDwBranchIdeal.main_arg1))
      ∧ r.2.sem = fun _ => 0)

def quiescent_DwXq [hDwXq : Cert.DwXq.Facts] : Prop :=
  ∀ (m : (ℓ : Loc Cert.DwXq.nD Cert.DwXq.τ Cert.DwXq.sig) → Buf (Elt Bits) ℓ) (g : Dev Cert.DwXq.nD → PrngReg), Pre_DwXq m →
    θ_run (Cert.DwXq.defs (F := Bits)) (onTc (τ := Cert.DwXq.τ) (Cert.DwXq.main (F := Bits))) ⟨m, fun _ => 0, g⟩ (fun r => (∀ c : Dev Cert.DwXq.nD,
      r.2.mem ((c.tc : Thread Cert.DwXq.nD Cert.DwXq.τ).loc Cert.DwXq.main_arg0) = m ((c.tc : Thread Cert.DwXq.nD Cert.DwXq.τ).loc Cert.DwXq.main_arg0)
      ∧ r.2.mem ((c.tc : Thread Cert.DwXq.nD Cert.DwXq.τ).loc Cert.DwXq.main_arg1) = m ((c.tc : Thread Cert.DwXq.nD Cert.DwXq.τ).loc Cert.DwXq.main_arg1))
      ∧ r.2.sem = fun _ => 0)

def quiescent_DwXqIdeal [hDwXqIdeal : Cert.DwXqIdeal.Facts] : Prop :=
  ∀ (m : (ℓ : Loc Cert.DwXqIdeal.nD Cert.DwXqIdeal.τ Cert.DwXqIdeal.sig) → Buf (Elt Ideal) ℓ) (g : Dev Cert.DwXqIdeal.nD → PrngReg), Pre_DwXqIdeal m →
    θ_run (Cert.DwXqIdeal.defs (F := Ideal)) (onTc (τ := Cert.DwXqIdeal.τ) (Cert.DwXqIdeal.main (F := Ideal))) ⟨m, fun _ => 0, g⟩ (fun r => (∀ c : Dev Cert.DwXqIdeal.nD,
      r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
      ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1))
      ∧ r.2.sem = fun _ => 0)

def quiescent_PlainDwXqIdeal [hPlainDwXqIdeal : Cert.PlainDwXqIdeal.Facts] : Prop :=
  ∀ (m : (ℓ : Loc Cert.PlainDwXqIdeal.nD Cert.PlainDwXqIdeal.τ Cert.PlainDwXqIdeal.sig) → Buf (Elt Ideal) ℓ) (g : Dev Cert.PlainDwXqIdeal.nD → PrngReg), Pre_PlainDwXqIdeal m →
    θ_run (Cert.PlainDwXqIdeal.defs (F := Ideal)) (onTc (τ := Cert.PlainDwXqIdeal.τ) (Cert.PlainDwXqIdeal.main (F := Ideal))) ⟨m, fun _ => 0, g⟩ (fun r => (∀ c : Dev Cert.PlainDwXqIdeal.nD,
      r.2.mem ((c.tc : Thread Cert.PlainDwXqIdeal.nD Cert.PlainDwXqIdeal.τ).loc Cert.PlainDwXqIdeal.main_arg0) = m ((c.tc : Thread Cert.PlainDwXqIdeal.nD Cert.PlainDwXqIdeal.τ).loc Cert.PlainDwXqIdeal.main_arg0)
      ∧ r.2.mem ((c.tc : Thread Cert.PlainDwXqIdeal.nD Cert.PlainDwXqIdeal.τ).loc Cert.PlainDwXqIdeal.main_arg1) = m ((c.tc : Thread Cert.PlainDwXqIdeal.nD Cert.PlainDwXqIdeal.τ).loc Cert.PlainDwXqIdeal.main_arg1))
      ∧ r.2.sem = fun _ => 0)

def quiescent_Dxo [hDxo : Cert.Dxo.Facts] : Prop :=
  ∀ (m : (ℓ : Loc Cert.Dxo.nD Cert.Dxo.τ Cert.Dxo.sig) → Buf (Elt Bits) ℓ) (g : Dev Cert.Dxo.nD → PrngReg), Pre_Dxo m →
    θ_run (Cert.Dxo.defs (F := Bits)) (onTc (τ := Cert.Dxo.τ) (Cert.Dxo.main (F := Bits))) ⟨m, fun _ => 0, g⟩ (fun r => (∀ c : Dev Cert.Dxo.nD,
      r.2.mem ((c.tc : Thread Cert.Dxo.nD Cert.Dxo.τ).loc Cert.Dxo.main_arg0) = m ((c.tc : Thread Cert.Dxo.nD Cert.Dxo.τ).loc Cert.Dxo.main_arg0)
      ∧ r.2.mem ((c.tc : Thread Cert.Dxo.nD Cert.Dxo.τ).loc Cert.Dxo.main_arg1) = m ((c.tc : Thread Cert.Dxo.nD Cert.Dxo.τ).loc Cert.Dxo.main_arg1))
      ∧ r.2.sem = fun _ => 0)

def quiescent_DxoIdeal [hDxoIdeal : Cert.DxoIdeal.Facts] : Prop :=
  ∀ (m : (ℓ : Loc Cert.DxoIdeal.nD Cert.DxoIdeal.τ Cert.DxoIdeal.sig) → Buf (Elt Ideal) ℓ) (g : Dev Cert.DxoIdeal.nD → PrngReg), Pre_DxoIdeal m →
    θ_run (Cert.DxoIdeal.defs (F := Ideal)) (onTc (τ := Cert.DxoIdeal.τ) (Cert.DxoIdeal.main (F := Ideal))) ⟨m, fun _ => 0, g⟩ (fun r => (∀ c : Dev Cert.DxoIdeal.nD,
      r.2.mem ((c.tc : Thread Cert.DxoIdeal.nD Cert.DxoIdeal.τ).loc Cert.DxoIdeal.main_arg0) = m ((c.tc : Thread Cert.DxoIdeal.nD Cert.DxoIdeal.τ).loc Cert.DxoIdeal.main_arg0)
      ∧ r.2.mem ((c.tc : Thread Cert.DxoIdeal.nD Cert.DxoIdeal.τ).loc Cert.DxoIdeal.main_arg1) = m ((c.tc : Thread Cert.DxoIdeal.nD Cert.DxoIdeal.τ).loc Cert.DxoIdeal.main_arg1))
      ∧ r.2.sem = fun _ => 0)

def quiescent_PlainDxoIdeal [hPlainDxoIdeal : Cert.PlainDxoIdeal.Facts] : Prop :=
  ∀ (m : (ℓ : Loc Cert.PlainDxoIdeal.nD Cert.PlainDxoIdeal.τ Cert.PlainDxoIdeal.sig) → Buf (Elt Ideal) ℓ) (g : Dev Cert.PlainDxoIdeal.nD → PrngReg), Pre_PlainDxoIdeal m →
    θ_run (Cert.PlainDxoIdeal.defs (F := Ideal)) (onTc (τ := Cert.PlainDxoIdeal.τ) (Cert.PlainDxoIdeal.main (F := Ideal))) ⟨m, fun _ => 0, g⟩ (fun r => (∀ c : Dev Cert.PlainDxoIdeal.nD,
      r.2.mem ((c.tc : Thread Cert.PlainDxoIdeal.nD Cert.PlainDxoIdeal.τ).loc Cert.PlainDxoIdeal.main_arg0) = m ((c.tc : Thread Cert.PlainDxoIdeal.nD Cert.PlainDxoIdeal.τ).loc Cert.PlainDxoIdeal.main_arg0)
      ∧ r.2.mem ((c.tc : Thread Cert.PlainDxoIdeal.nD Cert.PlainDxoIdeal.τ).loc Cert.PlainDxoIdeal.main_arg1) = m ((c.tc : Thread Cert.PlainDxoIdeal.nD Cert.PlainDxoIdeal.τ).loc Cert.PlainDxoIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_PlainDwUpIdeal [hPlainDwUpIdeal : Cert.PlainDwUpIdeal.Facts] : Prop :=
  ∀ (m : (ℓ : Loc Cert.PlainDwUpIdeal.nD Cert.PlainDwUpIdeal.τ Cert.PlainDwUpIdeal.sig) → Buf (Elt Ideal) ℓ) (g : Dev Cert.PlainDwUpIdeal.nD → PrngReg), Pre_PlainDwUpIdeal m →
    θ_run (Cert.PlainDwUpIdeal.defs (F := Ideal)) (onTc (τ := Cert.PlainDwUpIdeal.τ) (Cert.PlainDwUpIdeal.main (F := Ideal))) ⟨m, fun _ => 0, g⟩ (fun r => (∀ c : Dev Cert.PlainDwUpIdeal.nD,
      r.2.mem ((c.tc : Thread Cert.PlainDwUpIdeal.nD Cert.PlainDwUpIdeal.τ).loc Cert.PlainDwUpIdeal.main_arg0) = m ((c.tc : Thread Cert.PlainDwUpIdeal.nD Cert.PlainDwUpIdeal.τ).loc Cert.PlainDwUpIdeal.main_arg0)
      ∧ r.2.mem ((c.tc : Thread Cert.PlainDwUpIdeal.nD Cert.PlainDwUpIdeal.τ).loc Cert.PlainDwUpIdeal.main_arg1) = m ((c.tc : Thread Cert.PlainDwUpIdeal.nD Cert.PlainDwUpIdeal.τ).loc Cert.PlainDwUpIdeal.main_arg1)
      ∧ r.2.mem ((c.tc : Thread Cert.PlainDwUpIdeal.nD Cert.PlainDwUpIdeal.τ).loc Cert.PlainDwUpIdeal.main_arg2) = m ((c.tc : Thread Cert.PlainDwUpIdeal.nD Cert.PlainDwUpIdeal.τ).loc Cert.PlainDwUpIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_PlainProjIdeal [hPlainProjIdeal : Cert.PlainProjIdeal.Facts] : Prop :=
  ∀ (m : (ℓ : Loc Cert.PlainProjIdeal.nD Cert.PlainProjIdeal.τ Cert.PlainProjIdeal.sig) → Buf (Elt Ideal) ℓ) (g : Dev Cert.PlainProjIdeal.nD → PrngReg), Pre_PlainProjIdeal m →
    θ_run (Cert.PlainProjIdeal.defs (F := Ideal)) (onTc (τ := Cert.PlainProjIdeal.τ) (Cert.PlainProjIdeal.main (F := Ideal))) ⟨m, fun _ => 0, g⟩ (fun r => (∀ c : Dev Cert.PlainProjIdeal.nD,
      r.2.mem ((c.tc : Thread Cert.PlainProjIdeal.nD Cert.PlainProjIdeal.τ).loc Cert.PlainProjIdeal.main_arg0) = m ((c.tc : Thread Cert.PlainProjIdeal.nD Cert.PlainProjIdeal.τ).loc Cert.PlainProjIdeal.main_arg0)
      ∧ r.2.mem ((c.tc : Thread Cert.PlainProjIdeal.nD Cert.PlainProjIdeal.τ).loc Cert.PlainProjIdeal.main_arg1) = m ((c.tc : Thread Cert.PlainProjIdeal.nD Cert.PlainProjIdeal.τ).loc Cert.PlainProjIdeal.main_arg1))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_PlainDownLnIdeal [hPlainDownLnIdeal : Cert.PlainDownLnIdeal.Facts] : Prop :=
  ∀ (m : (ℓ : Loc Cert.PlainDownLnIdeal.nD Cert.PlainDownLnIdeal.τ Cert.PlainDownLnIdeal.sig) → Buf (Elt Ideal) ℓ) (g : Dev Cert.PlainDownLnIdeal.nD → PrngReg), Pre_PlainDownLnIdeal m →
    θ_run (Cert.PlainDownLnIdeal.defs (F := Ideal)) (onTc (τ := Cert.PlainDownLnIdeal.τ) (Cert.PlainDownLnIdeal.main (F := Ideal))) ⟨m, fun _ => 0, g⟩ (fun r => (∀ c : Dev Cert.PlainDownLnIdeal.nD,
      r.2.mem ((c.tc : Thread Cert.PlainDownLnIdeal.nD Cert.PlainDownLnIdeal.τ).loc Cert.PlainDownLnIdeal.main_arg0) = m ((c.tc : Thread Cert.PlainDownLnIdeal.nD Cert.PlainDownLnIdeal.τ).loc Cert.PlainDownLnIdeal.main_arg0)
      ∧ r.2.mem ((c.tc : Thread Cert.PlainDownLnIdeal.nD Cert.PlainDownLnIdeal.τ).loc Cert.PlainDownLnIdeal.main_arg1) = m ((c.tc : Thread Cert.PlainDownLnIdeal.nD Cert.PlainDownLnIdeal.τ).loc Cert.PlainDownLnIdeal.main_arg1)
      ∧ r.2.mem ((c.tc : Thread Cert.PlainDownLnIdeal.nD Cert.PlainDownLnIdeal.τ).loc Cert.PlainDownLnIdeal.main_arg2) = m ((c.tc : Thread Cert.PlainDownLnIdeal.nD Cert.PlainDownLnIdeal.τ).loc Cert.PlainDownLnIdeal.main_arg2)
      ∧ r.2.mem ((c.tc : Thread Cert.PlainDownLnIdeal.nD Cert.PlainDownLnIdeal.τ).loc Cert.PlainDownLnIdeal.main_arg3) = m ((c.tc : Thread Cert.PlainDownLnIdeal.nD Cert.PlainDownLnIdeal.τ).loc Cert.PlainDownLnIdeal.main_arg3)
      ∧ r.2.mem ((c.tc : Thread Cert.PlainDownLnIdeal.nD Cert.PlainDownLnIdeal.τ).loc Cert.PlainDownLnIdeal.main_arg4) = m ((c.tc : Thread Cert.PlainDownLnIdeal.nD Cert.PlainDownLnIdeal.τ).loc Cert.PlainDownLnIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_PlainMergeFwdIdeal [hPlainMergeFwdIdeal : Cert.PlainMergeFwdIdeal.Facts] : Prop :=
  ∀ (m : (ℓ : Loc Cert.PlainMergeFwdIdeal.nD Cert.PlainMergeFwdIdeal.τ Cert.PlainMergeFwdIdeal.sig) → Buf (Elt Ideal) ℓ) (g : Dev Cert.PlainMergeFwdIdeal.nD → PrngReg), Pre_PlainMergeFwdIdeal m →
    θ_run (Cert.PlainMergeFwdIdeal.defs (F := Ideal)) (onTc (τ := Cert.PlainMergeFwdIdeal.τ) (Cert.PlainMergeFwdIdeal.main (F := Ideal))) ⟨m, fun _ => 0, g⟩ (fun r => (∀ c : Dev Cert.PlainMergeFwdIdeal.nD,
      r.2.mem ((c.tc : Thread Cert.PlainMergeFwdIdeal.nD Cert.PlainMergeFwdIdeal.τ).loc Cert.PlainMergeFwdIdeal.main_arg0) = m ((c.tc : Thread Cert.PlainMergeFwdIdeal.nD Cert.PlainMergeFwdIdeal.τ).loc Cert.PlainMergeFwdIdeal.main_arg0)
      ∧ r.2.mem ((c.tc : Thread Cert.PlainMergeFwdIdeal.nD Cert.PlainMergeFwdIdeal.τ).loc Cert.PlainMergeFwdIdeal.main_arg1) = m ((c.tc : Thread Cert.PlainMergeFwdIdeal.nD Cert.PlainMergeFwdIdeal.τ).loc Cert.PlainMergeFwdIdeal.main_arg1)
      ∧ r.2.mem ((c.tc : Thread Cert.PlainMergeFwdIdeal.nD Cert.PlainMergeFwdIdeal.τ).loc Cert.PlainMergeFwdIdeal.main_arg2) = m ((c.tc : Thread Cert.PlainMergeFwdIdeal.nD Cert.PlainMergeFwdIdeal.τ).loc Cert.PlainMergeFwdIdeal.main_arg2)
      ∧ r.2.mem ((c.tc : Thread Cert.PlainMergeFwdIdeal.nD Cert.PlainMergeFwdIdeal.τ).loc Cert.PlainMergeFwdIdeal.main_arg3) = m ((c.tc : Thread Cert.PlainMergeFwdIdeal.nD Cert.PlainMergeFwdIdeal.τ).loc Cert.PlainMergeFwdIdeal.main_arg3)
      ∧ r.2.mem ((c.tc : Thread Cert.PlainMergeFwdIdeal.nD Cert.PlainMergeFwdIdeal.τ).loc Cert.PlainMergeFwdIdeal.main_arg4) = m ((c.tc : Thread Cert.PlainMergeFwdIdeal.nD Cert.PlainMergeFwdIdeal.τ).loc Cert.PlainMergeFwdIdeal.main_arg4)
      ∧ r.2.mem ((c.tc : Thread Cert.PlainMergeFwdIdeal.nD Cert.PlainMergeFwdIdeal.τ).loc Cert.PlainMergeFwdIdeal.main_arg5) = m ((c.tc : Thread Cert.PlainMergeFwdIdeal.nD Cert.PlainMergeFwdIdeal.τ).loc Cert.PlainMergeFwdIdeal.main_arg5))
      ∧ r.2.sem = fun _ => 0)

def quiescent_MixLn [hMixLn : Cert.MixLn.Facts] : Prop :=
  ∀ (m : (ℓ : Loc Cert.MixLn.nD Cert.MixLn.τ Cert.MixLn.sig) → Buf (Elt Bits) ℓ) (g : Dev Cert.MixLn.nD → PrngReg), Pre_MixLn m →
    θ_run (Cert.MixLn.defs (F := Bits)) (onTc (τ := Cert.MixLn.τ) (Cert.MixLn.main (F := Bits))) ⟨m, fun _ => 0, g⟩ (fun r => (∀ c : Dev Cert.MixLn.nD,
      r.2.mem ((c.tc : Thread Cert.MixLn.nD Cert.MixLn.τ).loc Cert.MixLn.main_arg0) = m ((c.tc : Thread Cert.MixLn.nD Cert.MixLn.τ).loc Cert.MixLn.main_arg0)
      ∧ r.2.mem ((c.tc : Thread Cert.MixLn.nD Cert.MixLn.τ).loc Cert.MixLn.main_arg1) = m ((c.tc : Thread Cert.MixLn.nD Cert.MixLn.τ).loc Cert.MixLn.main_arg1)
      ∧ r.2.mem ((c.tc : Thread Cert.MixLn.nD Cert.MixLn.τ).loc Cert.MixLn.main_arg2) = m ((c.tc : Thread Cert.MixLn.nD Cert.MixLn.τ).loc Cert.MixLn.main_arg2)
      ∧ r.2.mem ((c.tc : Thread Cert.MixLn.nD Cert.MixLn.τ).loc Cert.MixLn.main_arg3) = m ((c.tc : Thread Cert.MixLn.nD Cert.MixLn.τ).loc Cert.MixLn.main_arg3)
      ∧ r.2.mem ((c.tc : Thread Cert.MixLn.nD Cert.MixLn.τ).loc Cert.MixLn.main_arg4) = m ((c.tc : Thread Cert.MixLn.nD Cert.MixLn.τ).loc Cert.MixLn.main_arg4))
      ∧ r.2.sem = fun _ => 0)

def quiescent_MixLnIdeal [hMixLnIdeal : Cert.MixLnIdeal.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4))
      ∧ r.2.sem = fun _ => 0)

def quiescent_PlainMixLnIdeal [hPlainMixLnIdeal : Cert.PlainMixLnIdeal.Facts] : Prop :=
  ∀ (m : (ℓ : Loc Cert.PlainMixLnIdeal.nD Cert.PlainMixLnIdeal.τ Cert.PlainMixLnIdeal.sig) → Buf (Elt Ideal) ℓ) (g : Dev Cert.PlainMixLnIdeal.nD → PrngReg), Pre_PlainMixLnIdeal m →
    θ_run (Cert.PlainMixLnIdeal.defs (F := Ideal)) (onTc (τ := Cert.PlainMixLnIdeal.τ) (Cert.PlainMixLnIdeal.main (F := Ideal))) ⟨m, fun _ => 0, g⟩ (fun r => (∀ c : Dev Cert.PlainMixLnIdeal.nD,
      r.2.mem ((c.tc : Thread Cert.PlainMixLnIdeal.nD Cert.PlainMixLnIdeal.τ).loc Cert.PlainMixLnIdeal.main_arg0) = m ((c.tc : Thread Cert.PlainMixLnIdeal.nD Cert.PlainMixLnIdeal.τ).loc Cert.PlainMixLnIdeal.main_arg0)
      ∧ r.2.mem ((c.tc : Thread Cert.PlainMixLnIdeal.nD Cert.PlainMixLnIdeal.τ).loc Cert.PlainMixLnIdeal.main_arg1) = m ((c.tc : Thread Cert.PlainMixLnIdeal.nD Cert.PlainMixLnIdeal.τ).loc Cert.PlainMixLnIdeal.main_arg1)
      ∧ r.2.mem ((c.tc : Thread Cert.PlainMixLnIdeal.nD Cert.PlainMixLnIdeal.τ).loc Cert.PlainMixLnIdeal.main_arg2) = m ((c.tc : Thread Cert.PlainMixLnIdeal.nD Cert.PlainMixLnIdeal.τ).loc Cert.PlainMixLnIdeal.main_arg2)
      ∧ r.2.mem ((c.tc : Thread Cert.PlainMixLnIdeal.nD Cert.PlainMixLnIdeal.τ).loc Cert.PlainMixLnIdeal.main_arg3) = m ((c.tc : Thread Cert.PlainMixLnIdeal.nD Cert.PlainMixLnIdeal.τ).loc Cert.PlainMixLnIdeal.main_arg3)
      ∧ r.2.mem ((c.tc : Thread Cert.PlainMixLnIdeal.nD Cert.PlainMixLnIdeal.τ).loc Cert.PlainMixLnIdeal.main_arg4) = m ((c.tc : Thread Cert.PlainMixLnIdeal.nD Cert.PlainMixLnIdeal.τ).loc Cert.PlainMixLnIdeal.main_arg4))
      ∧ r.2.sem = fun _ => 0)

def quiescent_XoLn [hXoLn : Cert.XoLn.Facts] : Prop :=
  ∀ (m : (ℓ : Loc Cert.XoLn.nD Cert.XoLn.τ Cert.XoLn.sig) → Buf (Elt Bits) ℓ) (g : Dev Cert.XoLn.nD → PrngReg), Pre_XoLn m →
    θ_run (Cert.XoLn.defs (F := Bits)) (onTc (τ := Cert.XoLn.τ) (Cert.XoLn.main (F := Bits))) ⟨m, fun _ => 0, g⟩ (fun r => (∀ c : Dev Cert.XoLn.nD,
      r.2.mem ((c.tc : Thread Cert.XoLn.nD Cert.XoLn.τ).loc Cert.XoLn.main_arg0) = m ((c.tc : Thread Cert.XoLn.nD Cert.XoLn.τ).loc Cert.XoLn.main_arg0)
      ∧ r.2.mem ((c.tc : Thread Cert.XoLn.nD Cert.XoLn.τ).loc Cert.XoLn.main_arg1) = m ((c.tc : Thread Cert.XoLn.nD Cert.XoLn.τ).loc Cert.XoLn.main_arg1)
      ∧ r.2.mem ((c.tc : Thread Cert.XoLn.nD Cert.XoLn.τ).loc Cert.XoLn.main_arg2) = m ((c.tc : Thread Cert.XoLn.nD Cert.XoLn.τ).loc Cert.XoLn.main_arg2)
      ∧ r.2.mem ((c.tc : Thread Cert.XoLn.nD Cert.XoLn.τ).loc Cert.XoLn.main_arg3) = m ((c.tc : Thread Cert.XoLn.nD Cert.XoLn.τ).loc Cert.XoLn.main_arg3)
      ∧ r.2.mem ((c.tc : Thread Cert.XoLn.nD Cert.XoLn.τ).loc Cert.XoLn.main_arg4) = m ((c.tc : Thread Cert.XoLn.nD Cert.XoLn.τ).loc Cert.XoLn.main_arg4))
      ∧ r.2.sem = fun _ => 0)

def quiescent_XoLnIdeal [hXoLnIdeal : Cert.XoLnIdeal.Facts] : Prop :=
  ∀ (m : (ℓ : Loc Cert.XoLnIdeal.nD Cert.XoLnIdeal.τ Cert.XoLnIdeal.sig) → Buf (Elt Ideal) ℓ) (g : Dev Cert.XoLnIdeal.nD → PrngReg), Pre_XoLnIdeal m →
    θ_run (Cert.XoLnIdeal.defs (F := Ideal)) (onTc (τ := Cert.XoLnIdeal.τ) (Cert.XoLnIdeal.main (F := Ideal))) ⟨m, fun _ => 0, g⟩ (fun r => (∀ c : Dev Cert.XoLnIdeal.nD,
      r.2.mem ((c.tc : Thread Cert.XoLnIdeal.nD Cert.XoLnIdeal.τ).loc Cert.XoLnIdeal.main_arg0) = m ((c.tc : Thread Cert.XoLnIdeal.nD Cert.XoLnIdeal.τ).loc Cert.XoLnIdeal.main_arg0)
      ∧ r.2.mem ((c.tc : Thread Cert.XoLnIdeal.nD Cert.XoLnIdeal.τ).loc Cert.XoLnIdeal.main_arg1) = m ((c.tc : Thread Cert.XoLnIdeal.nD Cert.XoLnIdeal.τ).loc Cert.XoLnIdeal.main_arg1)
      ∧ r.2.mem ((c.tc : Thread Cert.XoLnIdeal.nD Cert.XoLnIdeal.τ).loc Cert.XoLnIdeal.main_arg2) = m ((c.tc : Thread Cert.XoLnIdeal.nD Cert.XoLnIdeal.τ).loc Cert.XoLnIdeal.main_arg2)
      ∧ r.2.mem ((c.tc : Thread Cert.XoLnIdeal.nD Cert.XoLnIdeal.τ).loc Cert.XoLnIdeal.main_arg3) = m ((c.tc : Thread Cert.XoLnIdeal.nD Cert.XoLnIdeal.τ).loc Cert.XoLnIdeal.main_arg3)
      ∧ r.2.mem ((c.tc : Thread Cert.XoLnIdeal.nD Cert.XoLnIdeal.τ).loc Cert.XoLnIdeal.main_arg4) = m ((c.tc : Thread Cert.XoLnIdeal.nD Cert.XoLnIdeal.τ).loc Cert.XoLnIdeal.main_arg4))
      ∧ r.2.sem = fun _ => 0)

def quiescent_PlainXoLnIdeal [hPlainXoLnIdeal : Cert.PlainXoLnIdeal.Facts] : Prop :=
  ∀ (m : (ℓ : Loc Cert.PlainXoLnIdeal.nD Cert.PlainXoLnIdeal.τ Cert.PlainXoLnIdeal.sig) → Buf (Elt Ideal) ℓ) (g : Dev Cert.PlainXoLnIdeal.nD → PrngReg), Pre_PlainXoLnIdeal m →
    θ_run (Cert.PlainXoLnIdeal.defs (F := Ideal)) (onTc (τ := Cert.PlainXoLnIdeal.τ) (Cert.PlainXoLnIdeal.main (F := Ideal))) ⟨m, fun _ => 0, g⟩ (fun r => (∀ c : Dev Cert.PlainXoLnIdeal.nD,
      r.2.mem ((c.tc : Thread Cert.PlainXoLnIdeal.nD Cert.PlainXoLnIdeal.τ).loc Cert.PlainXoLnIdeal.main_arg0) = m ((c.tc : Thread Cert.PlainXoLnIdeal.nD Cert.PlainXoLnIdeal.τ).loc Cert.PlainXoLnIdeal.main_arg0)
      ∧ r.2.mem ((c.tc : Thread Cert.PlainXoLnIdeal.nD Cert.PlainXoLnIdeal.τ).loc Cert.PlainXoLnIdeal.main_arg1) = m ((c.tc : Thread Cert.PlainXoLnIdeal.nD Cert.PlainXoLnIdeal.τ).loc Cert.PlainXoLnIdeal.main_arg1)
      ∧ r.2.mem ((c.tc : Thread Cert.PlainXoLnIdeal.nD Cert.PlainXoLnIdeal.τ).loc Cert.PlainXoLnIdeal.main_arg2) = m ((c.tc : Thread Cert.PlainXoLnIdeal.nD Cert.PlainXoLnIdeal.τ).loc Cert.PlainXoLnIdeal.main_arg2)
      ∧ r.2.mem ((c.tc : Thread Cert.PlainXoLnIdeal.nD Cert.PlainXoLnIdeal.τ).loc Cert.PlainXoLnIdeal.main_arg3) = m ((c.tc : Thread Cert.PlainXoLnIdeal.nD Cert.PlainXoLnIdeal.τ).loc Cert.PlainXoLnIdeal.main_arg3)
      ∧ r.2.mem ((c.tc : Thread Cert.PlainXoLnIdeal.nD Cert.PlainXoLnIdeal.τ).loc Cert.PlainXoLnIdeal.main_arg4) = m ((c.tc : Thread Cert.PlainXoLnIdeal.nD Cert.PlainXoLnIdeal.τ).loc Cert.PlainXoLnIdeal.main_arg4))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_PlainXqIdeal [hPlainXqIdeal : Cert.PlainXqIdeal.Facts] : Prop :=
  ∀ (m : (ℓ : Loc Cert.PlainXqIdeal.nD Cert.PlainXqIdeal.τ Cert.PlainXqIdeal.sig) → Buf (Elt Ideal) ℓ) (g : Dev Cert.PlainXqIdeal.nD → PrngReg), Pre_PlainXqIdeal m →
    θ_run (Cert.PlainXqIdeal.defs (F := Ideal)) (onTc (τ := Cert.PlainXqIdeal.τ) (Cert.PlainXqIdeal.main (F := Ideal))) ⟨m, fun _ => 0, g⟩ (fun r => (∀ c : Dev Cert.PlainXqIdeal.nD,
      r.2.mem ((c.tc : Thread Cert.PlainXqIdeal.nD Cert.PlainXqIdeal.τ).loc Cert.PlainXqIdeal.main_arg0) = m ((c.tc : Thread Cert.PlainXqIdeal.nD Cert.PlainXqIdeal.τ).loc Cert.PlainXqIdeal.main_arg0)
      ∧ r.2.mem ((c.tc : Thread Cert.PlainXqIdeal.nD Cert.PlainXqIdeal.τ).loc Cert.PlainXqIdeal.main_arg1) = m ((c.tc : Thread Cert.PlainXqIdeal.nD Cert.PlainXqIdeal.τ).loc Cert.PlainXqIdeal.main_arg1))
      ∧ r.2.sem = fun _ => 0)

def quiescent_DwUpA [hDwUpA : Cert.DwUpA.Facts] : Prop :=
  ∀ (m : (ℓ : Loc Cert.DwUpA.nD Cert.DwUpA.τ Cert.DwUpA.sig) → Buf (Elt Bits) ℓ) (g : Dev Cert.DwUpA.nD → PrngReg), Pre_DwUpA m →
    θ_run (Cert.DwUpA.defs (F := Bits)) (onTc (τ := Cert.DwUpA.τ) (Cert.DwUpA.main (F := Bits))) ⟨m, fun _ => 0, g⟩ (fun r => (∀ c : Dev Cert.DwUpA.nD,
      r.2.mem ((c.tc : Thread Cert.DwUpA.nD Cert.DwUpA.τ).loc Cert.DwUpA.main_arg0) = m ((c.tc : Thread Cert.DwUpA.nD Cert.DwUpA.τ).loc Cert.DwUpA.main_arg0)
      ∧ r.2.mem ((c.tc : Thread Cert.DwUpA.nD Cert.DwUpA.τ).loc Cert.DwUpA.main_arg1) = m ((c.tc : Thread Cert.DwUpA.nD Cert.DwUpA.τ).loc Cert.DwUpA.main_arg1)
      ∧ r.2.mem ((c.tc : Thread Cert.DwUpA.nD Cert.DwUpA.τ).loc Cert.DwUpA.main_arg2) = m ((c.tc : Thread Cert.DwUpA.nD Cert.DwUpA.τ).loc Cert.DwUpA.main_arg2))
      ∧ r.2.sem = fun _ => 0)

def quiescent_DwUpAIdeal [hDwUpAIdeal : Cert.DwUpAIdeal.Facts] : Prop :=
  ∀ (m : (ℓ : Loc Cert.DwUpAIdeal.nD Cert.DwUpAIdeal.τ Cert.DwUpAIdeal.sig) → Buf (Elt Ideal) ℓ) (g : Dev Cert.DwUpAIdeal.nD → PrngReg), Pre_DwUpAIdeal m →
    θ_run (Cert.DwUpAIdeal.defs (F := Ideal)) (onTc (τ := Cert.DwUpAIdeal.τ) (Cert.DwUpAIdeal.main (F := Ideal))) ⟨m, fun _ => 0, g⟩ (fun r => (∀ c : Dev Cert.DwUpAIdeal.nD,
      r.2.mem ((c.tc : Thread Cert.DwUpAIdeal.nD Cert.DwUpAIdeal.τ).loc Cert.DwUpAIdeal.main_arg0) = m ((c.tc : Thread Cert.DwUpAIdeal.nD Cert.DwUpAIdeal.τ).loc Cert.DwUpAIdeal.main_arg0)
      ∧ r.2.mem ((c.tc : Thread Cert.DwUpAIdeal.nD Cert.DwUpAIdeal.τ).loc Cert.DwUpAIdeal.main_arg1) = m ((c.tc : Thread Cert.DwUpAIdeal.nD Cert.DwUpAIdeal.τ).loc Cert.DwUpAIdeal.main_arg1)
      ∧ r.2.mem ((c.tc : Thread Cert.DwUpAIdeal.nD Cert.DwUpAIdeal.τ).loc Cert.DwUpAIdeal.main_arg2) = m ((c.tc : Thread Cert.DwUpAIdeal.nD Cert.DwUpAIdeal.τ).loc Cert.DwUpAIdeal.main_arg2))
      ∧ r.2.sem = fun _ => 0)

def quiescent_PlainDwUpAIdeal [hPlainDwUpAIdeal : Cert.PlainDwUpAIdeal.Facts] : Prop :=
  ∀ (m : (ℓ : Loc Cert.PlainDwUpAIdeal.nD Cert.PlainDwUpAIdeal.τ Cert.PlainDwUpAIdeal.sig) → Buf (Elt Ideal) ℓ) (g : Dev Cert.PlainDwUpAIdeal.nD → PrngReg), Pre_PlainDwUpAIdeal m →
    θ_run (Cert.PlainDwUpAIdeal.defs (F := Ideal)) (onTc (τ := Cert.PlainDwUpAIdeal.τ) (Cert.PlainDwUpAIdeal.main (F := Ideal))) ⟨m, fun _ => 0, g⟩ (fun r => (∀ c : Dev Cert.PlainDwUpAIdeal.nD,
      r.2.mem ((c.tc : Thread Cert.PlainDwUpAIdeal.nD Cert.PlainDwUpAIdeal.τ).loc Cert.PlainDwUpAIdeal.main_arg0) = m ((c.tc : Thread Cert.PlainDwUpAIdeal.nD Cert.PlainDwUpAIdeal.τ).loc Cert.PlainDwUpAIdeal.main_arg0)
      ∧ r.2.mem ((c.tc : Thread Cert.PlainDwUpAIdeal.nD Cert.PlainDwUpAIdeal.τ).loc Cert.PlainDwUpAIdeal.main_arg1) = m ((c.tc : Thread Cert.PlainDwUpAIdeal.nD Cert.PlainDwUpAIdeal.τ).loc Cert.PlainDwUpAIdeal.main_arg1)
      ∧ r.2.mem ((c.tc : Thread Cert.PlainDwUpAIdeal.nD Cert.PlainDwUpAIdeal.τ).loc Cert.PlainDwUpAIdeal.main_arg2) = m ((c.tc : Thread Cert.PlainDwUpAIdeal.nD Cert.PlainDwUpAIdeal.τ).loc Cert.PlainDwUpAIdeal.main_arg2))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1)
      ∧ r.2.mem ((c.tc : Thread Cert.DwInA.nD Cert.DwInA.τ).loc Cert.DwInA.main_arg2) = m ((c.tc : Thread Cert.DwInA.nD Cert.DwInA.τ).loc Cert.DwInA.main_arg2))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
      ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ r.2.sem = fun _ => 0)

def quiescent_PlainDwInAIdeal [hPlainDwInAIdeal : Cert.PlainDwInAIdeal.Facts] : Prop :=
  ∀ (m : (ℓ : Loc Cert.PlainDwInAIdeal.nD Cert.PlainDwInAIdeal.τ Cert.PlainDwInAIdeal.sig) → Buf (Elt Ideal) ℓ) (g : Dev Cert.PlainDwInAIdeal.nD → PrngReg), Pre_PlainDwInAIdeal m →
    θ_run (Cert.PlainDwInAIdeal.defs (F := Ideal)) (onTc (τ := Cert.PlainDwInAIdeal.τ) (Cert.PlainDwInAIdeal.main (F := Ideal))) ⟨m, fun _ => 0, g⟩ (fun r => (∀ c : Dev Cert.PlainDwInAIdeal.nD,
      r.2.mem ((c.tc : Thread Cert.PlainDwInAIdeal.nD Cert.PlainDwInAIdeal.τ).loc Cert.PlainDwInAIdeal.main_arg0) = m ((c.tc : Thread Cert.PlainDwInAIdeal.nD Cert.PlainDwInAIdeal.τ).loc Cert.PlainDwInAIdeal.main_arg0)
      ∧ r.2.mem ((c.tc : Thread Cert.PlainDwInAIdeal.nD Cert.PlainDwInAIdeal.τ).loc Cert.PlainDwInAIdeal.main_arg1) = m ((c.tc : Thread Cert.PlainDwInAIdeal.nD Cert.PlainDwInAIdeal.τ).loc Cert.PlainDwInAIdeal.main_arg1)
      ∧ r.2.mem ((c.tc : Thread Cert.PlainDwInAIdeal.nD Cert.PlainDwInAIdeal.τ).loc Cert.PlainDwInAIdeal.main_arg2) = m ((c.tc : Thread Cert.PlainDwInAIdeal.nD Cert.PlainDwInAIdeal.τ).loc Cert.PlainDwInAIdeal.main_arg2))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1)
      ∧ r.2.mem ((c.tc : Thread Cert.DwInB.nD Cert.DwInB.τ).loc Cert.DwInB.main_arg2) = m ((c.tc : Thread Cert.DwInB.nD Cert.DwInB.τ).loc Cert.DwInB.main_arg2))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
      ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2))
      ∧ r.2.sem = fun _ => 0)

def quiescent_PlainDwInBIdeal [hPlainDwInBIdeal : Cert.PlainDwInBIdeal.Facts] : Prop :=
  ∀ (m : (ℓ : Loc Cert.PlainDwInBIdeal.nD Cert.PlainDwInBIdeal.τ Cert.PlainDwInBIdeal.sig) → Buf (Elt Ideal) ℓ) (g : Dev Cert.PlainDwInBIdeal.nD → PrngReg), Pre_PlainDwInBIdeal m →
    θ_run (Cert.PlainDwInBIdeal.defs (F := Ideal)) (onTc (τ := Cert.PlainDwInBIdeal.τ) (Cert.PlainDwInBIdeal.main (F := Ideal))) ⟨m, fun _ => 0, g⟩ (fun r => (∀ c : Dev Cert.PlainDwInBIdeal.nD,
      r.2.mem ((c.tc : Thread Cert.PlainDwInBIdeal.nD Cert.PlainDwInBIdeal.τ).loc Cert.PlainDwInBIdeal.main_arg0) = m ((c.tc : Thread Cert.PlainDwInBIdeal.nD Cert.PlainDwInBIdeal.τ).loc Cert.PlainDwInBIdeal.main_arg0)
      ∧ r.2.mem ((c.tc : Thread Cert.PlainDwInBIdeal.nD Cert.PlainDwInBIdeal.τ).loc Cert.PlainDwInBIdeal.main_arg1) = m ((c.tc : Thread Cert.PlainDwInBIdeal.nD Cert.PlainDwInBIdeal.τ).loc Cert.PlainDwInBIdeal.main_arg1)
      ∧ r.2.mem ((c.tc : Thread Cert.PlainDwInBIdeal.nD Cert.PlainDwInBIdeal.τ).loc Cert.PlainDwInBIdeal.main_arg2) = m ((c.tc : Thread Cert.PlainDwInBIdeal.nD Cert.PlainDwInBIdeal.τ).loc Cert.PlainDwInBIdeal.main_arg2))
      ∧ r.2.sem = fun _ => 0)

def quiescent_DwInC [hDwInC : Cert.DwInC.Facts] : Prop :=
  ∀ (m : (ℓ : Loc Cert.DwInC.nD Cert.DwInC.τ Cert.DwInC.sig) → Buf (Elt Bits) ℓ) (g : Dev Cert.DwInC.nD → PrngReg), Pre_DwInC m →
    θ_run (Cert.DwInC.defs (F := Bits)) (onTc (τ := Cert.DwInC.τ) (Cert.DwInC.main (F := Bits))) ⟨m, fun _ => 0, g⟩ (fun r => (∀ c : Dev Cert.DwInC.nD,
      r.2.mem ((c.tc : Thread Cert.DwInC.nD Cert.DwInC.τ).loc Cert.DwInC.main_arg0) = m ((c.tc : Thread Cert.DwInC.nD Cert.DwInC.τ).loc Cert.DwInC.main_arg0)
      ∧ r.2.mem ((c.tc : Thread Cert.DwInC.nD Cert.DwInC.τ).loc Cert.DwInC.main_arg1) = m ((c.tc : Thread Cert.DwInC.nD Cert.DwInC.τ).loc Cert.DwInC.main_arg1)
      ∧ r.2.mem ((c.tc : Thread Cert.DwInC.nD Cert.DwInC.τ).loc Cert.DwInC.main_arg2) = m ((c.tc : Thread Cert.DwInC.nD Cert.DwInC.τ).loc Cert.DwInC.main_arg2))
      ∧ r.2.sem = fun _ => 0)

def quiescent_DwInCIdeal [hDwInCIdeal : Cert.DwInCIdeal.Facts] : Prop :=
  ∀ (m : (ℓ : Loc Cert.DwInCIdeal.nD Cert.DwInCIdeal.τ Cert.DwInCIdeal.sig) → Buf (Elt Ideal) ℓ) (g : Dev Cert.DwInCIdeal.nD → PrngReg), Pre_DwInCIdeal m →
    θ_run (Cert.DwInCIdeal.defs (F := Ideal)) (onTc (τ := Cert.DwInCIdeal.τ) (Cert.DwInCIdeal.main (F := Ideal))) ⟨m, fun _ => 0, g⟩ (fun r => (∀ c : Dev Cert.DwInCIdeal.nD,
      r.2.mem ((c.tc : Thread Cert.DwInCIdeal.nD Cert.DwInCIdeal.τ).loc Cert.DwInCIdeal.main_arg0) = m ((c.tc : Thread Cert.DwInCIdeal.nD Cert.DwInCIdeal.τ).loc Cert.DwInCIdeal.main_arg0)
      ∧ r.2.mem ((c.tc : Thread Cert.DwInCIdeal.nD Cert.DwInCIdeal.τ).loc Cert.DwInCIdeal.main_arg1) = m ((c.tc : Thread Cert.DwInCIdeal.nD Cert.DwInCIdeal.τ).loc Cert.DwInCIdeal.main_arg1)
      ∧ r.2.mem ((c.tc : Thread Cert.DwInCIdeal.nD Cert.DwInCIdeal.τ).loc Cert.DwInCIdeal.main_arg2) = m ((c.tc : Thread Cert.DwInCIdeal.nD Cert.DwInCIdeal.τ).loc Cert.DwInCIdeal.main_arg2))
      ∧ r.2.sem = fun _ => 0)

def quiescent_PlainDwInCIdeal [hPlainDwInCIdeal : Cert.PlainDwInCIdeal.Facts] : Prop :=
  ∀ (m : (ℓ : Loc Cert.PlainDwInCIdeal.nD Cert.PlainDwInCIdeal.τ Cert.PlainDwInCIdeal.sig) → Buf (Elt Ideal) ℓ) (g : Dev Cert.PlainDwInCIdeal.nD → PrngReg), Pre_PlainDwInCIdeal m →
    θ_run (Cert.PlainDwInCIdeal.defs (F := Ideal)) (onTc (τ := Cert.PlainDwInCIdeal.τ) (Cert.PlainDwInCIdeal.main (F := Ideal))) ⟨m, fun _ => 0, g⟩ (fun r => (∀ c : Dev Cert.PlainDwInCIdeal.nD,
      r.2.mem ((c.tc : Thread Cert.PlainDwInCIdeal.nD Cert.PlainDwInCIdeal.τ).loc Cert.PlainDwInCIdeal.main_arg0) = m ((c.tc : Thread Cert.PlainDwInCIdeal.nD Cert.PlainDwInCIdeal.τ).loc Cert.PlainDwInCIdeal.main_arg0)
      ∧ r.2.mem ((c.tc : Thread Cert.PlainDwInCIdeal.nD Cert.PlainDwInCIdeal.τ).loc Cert.PlainDwInCIdeal.main_arg1) = m ((c.tc : Thread Cert.PlainDwInCIdeal.nD Cert.PlainDwInCIdeal.τ).loc Cert.PlainDwInCIdeal.main_arg1)
      ∧ r.2.mem ((c.tc : Thread Cert.PlainDwInCIdeal.nD Cert.PlainDwInCIdeal.τ).loc Cert.PlainDwInCIdeal.main_arg2) = m ((c.tc : Thread Cert.PlainDwInCIdeal.nD Cert.PlainDwInCIdeal.τ).loc Cert.PlainDwInCIdeal.main_arg2))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2)
      ∧ r.2.mem ((c.tc : Thread Cert.DxUp.nD Cert.DxUp.τ).loc Cert.DxUp.main_arg3) = m ((c.tc : Thread Cert.DxUp.nD Cert.DxUp.τ).loc Cert.DxUp.main_arg3)
      ∧ r.2.mem ((c.tc : Thread Cert.DxUp.nD Cert.DxUp.τ).loc Cert.DxUp.main_arg4) = m ((c.tc : Thread Cert.DxUp.nD Cert.DxUp.τ).loc Cert.DxUp.main_arg4)
      ∧ r.2.mem ((c.tc : Thread Cert.DxUp.nD Cert.DxUp.τ).loc Cert.DxUp.main_arg5) = m ((c.tc : Thread Cert.DxUp.nD Cert.DxUp.τ).loc Cert.DxUp.main_arg5))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
      ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3)
      ∧ r.2.mem ((c.tc : Thread Cert.DxUpIdeal.nD Cert.DxUpIdeal.τ).loc Cert.DxUpIdeal.main_arg4) = m ((c.tc : Thread Cert.DxUpIdeal.nD Cert.DxUpIdeal.τ).loc Cert.DxUpIdeal.main_arg4)
      ∧ r.2.mem ((c.tc : Thread Cert.DxUpIdeal.nD Cert.DxUpIdeal.τ).loc Cert.DxUpIdeal.main_arg5) = m ((c.tc : Thread Cert.DxUpIdeal.nD Cert.DxUpIdeal.τ).loc Cert.DxUpIdeal.main_arg5))
      ∧ r.2.sem = fun _ => 0)

def quiescent_DxUpIdeal_pre_finite_dxup [hDxUpIdeal : Cert.DxUpIdeal.Facts] [hPre_finite_dxup : Cert.Pre_finite_dxup.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal_finite_dxup m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
      ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3)
      ∧ r.2.mem ((c.tc : Thread Cert.DxUpIdeal.nD Cert.DxUpIdeal.τ).loc Cert.DxUpIdeal.main_arg4) = m ((c.tc : Thread Cert.DxUpIdeal.nD Cert.DxUpIdeal.τ).loc Cert.DxUpIdeal.main_arg4)
      ∧ r.2.mem ((c.tc : Thread Cert.DxUpIdeal.nD Cert.DxUpIdeal.τ).loc Cert.DxUpIdeal.main_arg5) = m ((c.tc : Thread Cert.DxUpIdeal.nD Cert.DxUpIdeal.τ).loc Cert.DxUpIdeal.main_arg5))
      ∧ r.2.sem = fun _ => 0)

def quiescent_PlainDxUpIdeal [hPlainDxUpIdeal : Cert.PlainDxUpIdeal.Facts] : Prop :=
  ∀ (m : (ℓ : Loc Cert.PlainDxUpIdeal.nD Cert.PlainDxUpIdeal.τ Cert.PlainDxUpIdeal.sig) → Buf (Elt Ideal) ℓ) (g : Dev Cert.PlainDxUpIdeal.nD → PrngReg), Pre_PlainDxUpIdeal m →
    θ_run (Cert.PlainDxUpIdeal.defs (F := Ideal)) (onTc (τ := Cert.PlainDxUpIdeal.τ) (Cert.PlainDxUpIdeal.main (F := Ideal))) ⟨m, fun _ => 0, g⟩ (fun r => (∀ c : Dev Cert.PlainDxUpIdeal.nD,
      r.2.mem ((c.tc : Thread Cert.PlainDxUpIdeal.nD Cert.PlainDxUpIdeal.τ).loc Cert.PlainDxUpIdeal.main_arg0) = m ((c.tc : Thread Cert.PlainDxUpIdeal.nD Cert.PlainDxUpIdeal.τ).loc Cert.PlainDxUpIdeal.main_arg0)
      ∧ r.2.mem ((c.tc : Thread Cert.PlainDxUpIdeal.nD Cert.PlainDxUpIdeal.τ).loc Cert.PlainDxUpIdeal.main_arg1) = m ((c.tc : Thread Cert.PlainDxUpIdeal.nD Cert.PlainDxUpIdeal.τ).loc Cert.PlainDxUpIdeal.main_arg1)
      ∧ r.2.mem ((c.tc : Thread Cert.PlainDxUpIdeal.nD Cert.PlainDxUpIdeal.τ).loc Cert.PlainDxUpIdeal.main_arg2) = m ((c.tc : Thread Cert.PlainDxUpIdeal.nD Cert.PlainDxUpIdeal.τ).loc Cert.PlainDxUpIdeal.main_arg2)
      ∧ r.2.mem ((c.tc : Thread Cert.PlainDxUpIdeal.nD Cert.PlainDxUpIdeal.τ).loc Cert.PlainDxUpIdeal.main_arg3) = m ((c.tc : Thread Cert.PlainDxUpIdeal.nD Cert.PlainDxUpIdeal.τ).loc Cert.PlainDxUpIdeal.main_arg3)
      ∧ r.2.mem ((c.tc : Thread Cert.PlainDxUpIdeal.nD Cert.PlainDxUpIdeal.τ).loc Cert.PlainDxUpIdeal.main_arg4) = m ((c.tc : Thread Cert.PlainDxUpIdeal.nD Cert.PlainDxUpIdeal.τ).loc Cert.PlainDxUpIdeal.main_arg4)
      ∧ r.2.mem ((c.tc : Thread Cert.PlainDxUpIdeal.nD Cert.PlainDxUpIdeal.τ).loc Cert.PlainDxUpIdeal.main_arg5) = m ((c.tc : Thread Cert.PlainDxUpIdeal.nD Cert.PlainDxUpIdeal.τ).loc Cert.PlainDxUpIdeal.main_arg5))
      ∧ r.2.sem = fun _ => 0)

def quiescent_PlainDxUpIdeal_pre_finite_dxup [hPlainDxUpIdeal : Cert.PlainDxUpIdeal.Facts] [hPre_finite_dxup : Cert.Pre_finite_dxup.Facts] : Prop :=
  ∀ (m : (ℓ : Loc Cert.PlainDxUpIdeal.nD Cert.PlainDxUpIdeal.τ Cert.PlainDxUpIdeal.sig) → Buf (Elt Ideal) ℓ) (g : Dev Cert.PlainDxUpIdeal.nD → PrngReg), Pre_PlainDxUpIdeal_finite_dxup m →
    θ_run (Cert.PlainDxUpIdeal.defs (F := Ideal)) (onTc (τ := Cert.PlainDxUpIdeal.τ) (Cert.PlainDxUpIdeal.main (F := Ideal))) ⟨m, fun _ => 0, g⟩ (fun r => (∀ c : Dev Cert.PlainDxUpIdeal.nD,
      r.2.mem ((c.tc : Thread Cert.PlainDxUpIdeal.nD Cert.PlainDxUpIdeal.τ).loc Cert.PlainDxUpIdeal.main_arg0) = m ((c.tc : Thread Cert.PlainDxUpIdeal.nD Cert.PlainDxUpIdeal.τ).loc Cert.PlainDxUpIdeal.main_arg0)
      ∧ r.2.mem ((c.tc : Thread Cert.PlainDxUpIdeal.nD Cert.PlainDxUpIdeal.τ).loc Cert.PlainDxUpIdeal.main_arg1) = m ((c.tc : Thread Cert.PlainDxUpIdeal.nD Cert.PlainDxUpIdeal.τ).loc Cert.PlainDxUpIdeal.main_arg1)
      ∧ r.2.mem ((c.tc : Thread Cert.PlainDxUpIdeal.nD Cert.PlainDxUpIdeal.τ).loc Cert.PlainDxUpIdeal.main_arg2) = m ((c.tc : Thread Cert.PlainDxUpIdeal.nD Cert.PlainDxUpIdeal.τ).loc Cert.PlainDxUpIdeal.main_arg2)
      ∧ r.2.mem ((c.tc : Thread Cert.PlainDxUpIdeal.nD Cert.PlainDxUpIdeal.τ).loc Cert.PlainDxUpIdeal.main_arg3) = m ((c.tc : Thread Cert.PlainDxUpIdeal.nD Cert.PlainDxUpIdeal.τ).loc Cert.PlainDxUpIdeal.main_arg3)
      ∧ r.2.mem ((c.tc : Thread Cert.PlainDxUpIdeal.nD Cert.PlainDxUpIdeal.τ).loc Cert.PlainDxUpIdeal.main_arg4) = m ((c.tc : Thread Cert.PlainDxUpIdeal.nD Cert.PlainDxUpIdeal.τ).loc Cert.PlainDxUpIdeal.main_arg4)
      ∧ r.2.mem ((c.tc : Thread Cert.PlainDxUpIdeal.nD Cert.PlainDxUpIdeal.τ).loc Cert.PlainDxUpIdeal.main_arg5) = m ((c.tc : Thread Cert.PlainDxUpIdeal.nD Cert.PlainDxUpIdeal.τ).loc Cert.PlainDxUpIdeal.main_arg5))
      ∧ r.2.sem = fun _ => 0)

def quiescent_DxQ [hDxQ : Cert.DxQ.Facts] : Prop :=
  ∀ (m : (ℓ : Loc Cert.DxQ.nD Cert.DxQ.τ Cert.DxQ.sig) → Buf (Elt Bits) ℓ) (g : Dev Cert.DxQ.nD → PrngReg), Pre_DxQ m →
    θ_run (Cert.DxQ.defs (F := Bits)) (onTc (τ := Cert.DxQ.τ) (Cert.DxQ.main (F := Bits))) ⟨m, fun _ => 0, g⟩ (fun r => (∀ c : Dev Cert.DxQ.nD,
      r.2.mem ((c.tc : Thread Cert.DxQ.nD Cert.DxQ.τ).loc Cert.DxQ.main_arg0) = m ((c.tc : Thread Cert.DxQ.nD Cert.DxQ.τ).loc Cert.DxQ.main_arg0)
      ∧ r.2.mem ((c.tc : Thread Cert.DxQ.nD Cert.DxQ.τ).loc Cert.DxQ.main_arg1) = m ((c.tc : Thread Cert.DxQ.nD Cert.DxQ.τ).loc Cert.DxQ.main_arg1)
      ∧ r.2.mem ((c.tc : Thread Cert.DxQ.nD Cert.DxQ.τ).loc Cert.DxQ.main_arg2) = m ((c.tc : Thread Cert.DxQ.nD Cert.DxQ.τ).loc Cert.DxQ.main_arg2)
      ∧ r.2.mem ((c.tc : Thread Cert.DxQ.nD Cert.DxQ.τ).loc Cert.DxQ.main_arg3) = m ((c.tc : Thread Cert.DxQ.nD Cert.DxQ.τ).loc Cert.DxQ.main_arg3)
      ∧ r.2.mem ((c.tc : Thread Cert.DxQ.nD Cert.DxQ.τ).loc Cert.DxQ.main_arg4) = m ((c.tc : Thread Cert.DxQ.nD Cert.DxQ.τ).loc Cert.DxQ.main_arg4))
      ∧ r.2.sem = fun _ => 0)

def quiescent_DxQIdeal [hDxQIdeal : Cert.DxQIdeal.Facts] : Prop :=
  ∀ (m : (ℓ : Loc Cert.DxQIdeal.nD Cert.DxQIdeal.τ Cert.DxQIdeal.sig) → Buf (Elt Ideal) ℓ) (g : Dev Cert.DxQIdeal.nD → PrngReg), Pre_DxQIdeal m →
    θ_run (Cert.DxQIdeal.defs (F := Ideal)) (onTc (τ := Cert.DxQIdeal.τ) (Cert.DxQIdeal.main (F := Ideal))) ⟨m, fun _ => 0, g⟩ (fun r => (∀ c : Dev Cert.DxQIdeal.nD,
      r.2.mem ((c.tc : Thread Cert.DxQIdeal.nD Cert.DxQIdeal.τ).loc Cert.DxQIdeal.main_arg0) = m ((c.tc : Thread Cert.DxQIdeal.nD Cert.DxQIdeal.τ).loc Cert.DxQIdeal.main_arg0)
      ∧ r.2.mem ((c.tc : Thread Cert.DxQIdeal.nD Cert.DxQIdeal.τ).loc Cert.DxQIdeal.main_arg1) = m ((c.tc : Thread Cert.DxQIdeal.nD Cert.DxQIdeal.τ).loc Cert.DxQIdeal.main_arg1)
      ∧ r.2.mem ((c.tc : Thread Cert.DxQIdeal.nD Cert.DxQIdeal.τ).loc Cert.DxQIdeal.main_arg2) = m ((c.tc : Thread Cert.DxQIdeal.nD Cert.DxQIdeal.τ).loc Cert.DxQIdeal.main_arg2)
      ∧ r.2.mem ((c.tc : Thread Cert.DxQIdeal.nD Cert.DxQIdeal.τ).loc Cert.DxQIdeal.main_arg3) = m ((c.tc : Thread Cert.DxQIdeal.nD Cert.DxQIdeal.τ).loc Cert.DxQIdeal.main_arg3)
      ∧ r.2.mem ((c.tc : Thread Cert.DxQIdeal.nD Cert.DxQIdeal.τ).loc Cert.DxQIdeal.main_arg4) = m ((c.tc : Thread Cert.DxQIdeal.nD Cert.DxQIdeal.τ).loc Cert.DxQIdeal.main_arg4))
      ∧ r.2.sem = fun _ => 0)

def quiescent_DxQIdeal_pre_finite_dxq [hDxQIdeal : Cert.DxQIdeal.Facts] [hPre_finite_dxq : Cert.Pre_finite_dxq.Facts] : Prop :=
  ∀ (m : (ℓ : Loc Cert.DxQIdeal.nD Cert.DxQIdeal.τ Cert.DxQIdeal.sig) → Buf (Elt Ideal) ℓ) (g : Dev Cert.DxQIdeal.nD → PrngReg), Pre_DxQIdeal_finite_dxq m →
    θ_run (Cert.DxQIdeal.defs (F := Ideal)) (onTc (τ := Cert.DxQIdeal.τ) (Cert.DxQIdeal.main (F := Ideal))) ⟨m, fun _ => 0, g⟩ (fun r => (∀ c : Dev Cert.DxQIdeal.nD,
      r.2.mem ((c.tc : Thread Cert.DxQIdeal.nD Cert.DxQIdeal.τ).loc Cert.DxQIdeal.main_arg0) = m ((c.tc : Thread Cert.DxQIdeal.nD Cert.DxQIdeal.τ).loc Cert.DxQIdeal.main_arg0)
      ∧ r.2.mem ((c.tc : Thread Cert.DxQIdeal.nD Cert.DxQIdeal.τ).loc Cert.DxQIdeal.main_arg1) = m ((c.tc : Thread Cert.DxQIdeal.nD Cert.DxQIdeal.τ).loc Cert.DxQIdeal.main_arg1)
      ∧ r.2.mem ((c.tc : Thread Cert.DxQIdeal.nD Cert.DxQIdeal.τ).loc Cert.DxQIdeal.main_arg2) = m ((c.tc : Thread Cert.DxQIdeal.nD Cert.DxQIdeal.τ).loc Cert.DxQIdeal.main_arg2)
      ∧ r.2.mem ((c.tc : Thread Cert.DxQIdeal.nD Cert.DxQIdeal.τ).loc Cert.DxQIdeal.main_arg3) = m ((c.tc : Thread Cert.DxQIdeal.nD Cert.DxQIdeal.τ).loc Cert.DxQIdeal.main_arg3)
      ∧ r.2.mem ((c.tc : Thread Cert.DxQIdeal.nD Cert.DxQIdeal.τ).loc Cert.DxQIdeal.main_arg4) = m ((c.tc : Thread Cert.DxQIdeal.nD Cert.DxQIdeal.τ).loc Cert.DxQIdeal.main_arg4))
      ∧ r.2.sem = fun _ => 0)

def quiescent_PlainDxQIdeal [hPlainDxQIdeal : Cert.PlainDxQIdeal.Facts] : Prop :=
  ∀ (m : (ℓ : Loc Cert.PlainDxQIdeal.nD Cert.PlainDxQIdeal.τ Cert.PlainDxQIdeal.sig) → Buf (Elt Ideal) ℓ) (g : Dev Cert.PlainDxQIdeal.nD → PrngReg), Pre_PlainDxQIdeal m →
    θ_run (Cert.PlainDxQIdeal.defs (F := Ideal)) (onTc (τ := Cert.PlainDxQIdeal.τ) (Cert.PlainDxQIdeal.main (F := Ideal))) ⟨m, fun _ => 0, g⟩ (fun r => (∀ c : Dev Cert.PlainDxQIdeal.nD,
      r.2.mem ((c.tc : Thread Cert.PlainDxQIdeal.nD Cert.PlainDxQIdeal.τ).loc Cert.PlainDxQIdeal.main_arg0) = m ((c.tc : Thread Cert.PlainDxQIdeal.nD Cert.PlainDxQIdeal.τ).loc Cert.PlainDxQIdeal.main_arg0)
      ∧ r.2.mem ((c.tc : Thread Cert.PlainDxQIdeal.nD Cert.PlainDxQIdeal.τ).loc Cert.PlainDxQIdeal.main_arg1) = m ((c.tc : Thread Cert.PlainDxQIdeal.nD Cert.PlainDxQIdeal.τ).loc Cert.PlainDxQIdeal.main_arg1)
      ∧ r.2.mem ((c.tc : Thread Cert.PlainDxQIdeal.nD Cert.PlainDxQIdeal.τ).loc Cert.PlainDxQIdeal.main_arg2) = m ((c.tc : Thread Cert.PlainDxQIdeal.nD Cert.PlainDxQIdeal.τ).loc Cert.PlainDxQIdeal.main_arg2)
      ∧ r.2.mem ((c.tc : Thread Cert.PlainDxQIdeal.nD Cert.PlainDxQIdeal.τ).loc Cert.PlainDxQIdeal.main_arg3) = m ((c.tc : Thread Cert.PlainDxQIdeal.nD Cert.PlainDxQIdeal.τ).loc Cert.PlainDxQIdeal.main_arg3)
      ∧ r.2.mem ((c.tc : Thread Cert.PlainDxQIdeal.nD Cert.PlainDxQIdeal.τ).loc Cert.PlainDxQIdeal.main_arg4) = m ((c.tc : Thread Cert.PlainDxQIdeal.nD Cert.PlainDxQIdeal.τ).loc Cert.PlainDxQIdeal.main_arg4))
      ∧ r.2.sem = fun _ => 0)

def quiescent_PlainDxQIdeal_pre_finite_dxq [hPlainDxQIdeal : Cert.PlainDxQIdeal.Facts] [hPre_finite_dxq : Cert.Pre_finite_dxq.Facts] : Prop :=
  ∀ (m : (ℓ : Loc Cert.PlainDxQIdeal.nD Cert.PlainDxQIdeal.τ Cert.PlainDxQIdeal.sig) → Buf (Elt Ideal) ℓ) (g : Dev Cert.PlainDxQIdeal.nD → PrngReg), Pre_PlainDxQIdeal_finite_dxq m →
    θ_run (Cert.PlainDxQIdeal.defs (F := Ideal)) (onTc (τ := Cert.PlainDxQIdeal.τ) (Cert.PlainDxQIdeal.main (F := Ideal))) ⟨m, fun _ => 0, g⟩ (fun r => (∀ c : Dev Cert.PlainDxQIdeal.nD,
      r.2.mem ((c.tc : Thread Cert.PlainDxQIdeal.nD Cert.PlainDxQIdeal.τ).loc Cert.PlainDxQIdeal.main_arg0) = m ((c.tc : Thread Cert.PlainDxQIdeal.nD Cert.PlainDxQIdeal.τ).loc Cert.PlainDxQIdeal.main_arg0)
      ∧ r.2.mem ((c.tc : Thread Cert.PlainDxQIdeal.nD Cert.PlainDxQIdeal.τ).loc Cert.PlainDxQIdeal.main_arg1) = m ((c.tc : Thread Cert.PlainDxQIdeal.nD Cert.PlainDxQIdeal.τ).loc Cert.PlainDxQIdeal.main_arg1)
      ∧ r.2.mem ((c.tc : Thread Cert.PlainDxQIdeal.nD Cert.PlainDxQIdeal.τ).loc Cert.PlainDxQIdeal.main_arg2) = m ((c.tc : Thread Cert.PlainDxQIdeal.nD Cert.PlainDxQIdeal.τ).loc Cert.PlainDxQIdeal.main_arg2)
      ∧ r.2.mem ((c.tc : Thread Cert.PlainDxQIdeal.nD Cert.PlainDxQIdeal.τ).loc Cert.PlainDxQIdeal.main_arg3) = m ((c.tc : Thread Cert.PlainDxQIdeal.nD Cert.PlainDxQIdeal.τ).loc Cert.PlainDxQIdeal.main_arg3)
      ∧ r.2.mem ((c.tc : Thread Cert.PlainDxQIdeal.nD Cert.PlainDxQIdeal.τ).loc Cert.PlainDxQIdeal.main_arg4) = m ((c.tc : Thread Cert.PlainDxQIdeal.nD Cert.PlainDxQIdeal.τ).loc Cert.PlainDxQIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_PlainAdamInIdeal [hPlainAdamInIdeal : Cert.PlainAdamInIdeal.Facts] : Prop :=
  ∀ (m : (ℓ : Loc Cert.PlainAdamInIdeal.nD Cert.PlainAdamInIdeal.τ Cert.PlainAdamInIdeal.sig) → Buf (Elt Ideal) ℓ) (g : Dev Cert.PlainAdamInIdeal.nD → PrngReg), Pre_PlainAdamInIdeal m →
    θ_run (Cert.PlainAdamInIdeal.defs (F := Ideal)) (onTc (τ := Cert.PlainAdamInIdeal.τ) (Cert.PlainAdamInIdeal.main (F := Ideal))) ⟨m, fun _ => 0, g⟩ (fun r => (∀ c : Dev Cert.PlainAdamInIdeal.nD,
      r.2.mem ((c.tc : Thread Cert.PlainAdamInIdeal.nD Cert.PlainAdamInIdeal.τ).loc Cert.PlainAdamInIdeal.main_arg0) = m ((c.tc : Thread Cert.PlainAdamInIdeal.nD Cert.PlainAdamInIdeal.τ).loc Cert.PlainAdamInIdeal.main_arg0)
      ∧ r.2.mem ((c.tc : Thread Cert.PlainAdamInIdeal.nD Cert.PlainAdamInIdeal.τ).loc Cert.PlainAdamInIdeal.main_arg1) = m ((c.tc : Thread Cert.PlainAdamInIdeal.nD Cert.PlainAdamInIdeal.τ).loc Cert.PlainAdamInIdeal.main_arg1)
      ∧ r.2.mem ((c.tc : Thread Cert.PlainAdamInIdeal.nD Cert.PlainAdamInIdeal.τ).loc Cert.PlainAdamInIdeal.main_arg2) = m ((c.tc : Thread Cert.PlainAdamInIdeal.nD Cert.PlainAdamInIdeal.τ).loc Cert.PlainAdamInIdeal.main_arg2)
      ∧ r.2.mem ((c.tc : Thread Cert.PlainAdamInIdeal.nD Cert.PlainAdamInIdeal.τ).loc Cert.PlainAdamInIdeal.main_arg3) = m ((c.tc : Thread Cert.PlainAdamInIdeal.nD Cert.PlainAdamInIdeal.τ).loc Cert.PlainAdamInIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_PlainAdamBranchIdeal [hPlainAdamBranchIdeal : Cert.PlainAdamBranchIdeal.Facts] : Prop :=
  ∀ (m : (ℓ : Loc Cert.PlainAdamBranchIdeal.nD Cert.PlainAdamBranchIdeal.τ Cert.PlainAdamBranchIdeal.sig) → Buf (Elt Ideal) ℓ) (g : Dev Cert.PlainAdamBranchIdeal.nD → PrngReg), Pre_PlainAdamBranchIdeal m →
    θ_run (Cert.PlainAdamBranchIdeal.defs (F := Ideal)) (onTc (τ := Cert.PlainAdamBranchIdeal.τ) (Cert.PlainAdamBranchIdeal.main (F := Ideal))) ⟨m, fun _ => 0, g⟩ (fun r => (∀ c : Dev Cert.PlainAdamBranchIdeal.nD,
      r.2.mem ((c.tc : Thread Cert.PlainAdamBranchIdeal.nD Cert.PlainAdamBranchIdeal.τ).loc Cert.PlainAdamBranchIdeal.main_arg0) = m ((c.tc : Thread Cert.PlainAdamBranchIdeal.nD Cert.PlainAdamBranchIdeal.τ).loc Cert.PlainAdamBranchIdeal.main_arg0)
      ∧ r.2.mem ((c.tc : Thread Cert.PlainAdamBranchIdeal.nD Cert.PlainAdamBranchIdeal.τ).loc Cert.PlainAdamBranchIdeal.main_arg1) = m ((c.tc : Thread Cert.PlainAdamBranchIdeal.nD Cert.PlainAdamBranchIdeal.τ).loc Cert.PlainAdamBranchIdeal.main_arg1)
      ∧ r.2.mem ((c.tc : Thread Cert.PlainAdamBranchIdeal.nD Cert.PlainAdamBranchIdeal.τ).loc Cert.PlainAdamBranchIdeal.main_arg2) = m ((c.tc : Thread Cert.PlainAdamBranchIdeal.nD Cert.PlainAdamBranchIdeal.τ).loc Cert.PlainAdamBranchIdeal.main_arg2)
      ∧ r.2.mem ((c.tc : Thread Cert.PlainAdamBranchIdeal.nD Cert.PlainAdamBranchIdeal.τ).loc Cert.PlainAdamBranchIdeal.main_arg3) = m ((c.tc : Thread Cert.PlainAdamBranchIdeal.nD Cert.PlainAdamBranchIdeal.τ).loc Cert.PlainAdamBranchIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_PlainAdamMixIdeal [hPlainAdamMixIdeal : Cert.PlainAdamMixIdeal.Facts] : Prop :=
  ∀ (m : (ℓ : Loc Cert.PlainAdamMixIdeal.nD Cert.PlainAdamMixIdeal.τ Cert.PlainAdamMixIdeal.sig) → Buf (Elt Ideal) ℓ) (g : Dev Cert.PlainAdamMixIdeal.nD → PrngReg), Pre_PlainAdamMixIdeal m →
    θ_run (Cert.PlainAdamMixIdeal.defs (F := Ideal)) (onTc (τ := Cert.PlainAdamMixIdeal.τ) (Cert.PlainAdamMixIdeal.main (F := Ideal))) ⟨m, fun _ => 0, g⟩ (fun r => (∀ c : Dev Cert.PlainAdamMixIdeal.nD,
      r.2.mem ((c.tc : Thread Cert.PlainAdamMixIdeal.nD Cert.PlainAdamMixIdeal.τ).loc Cert.PlainAdamMixIdeal.main_arg0) = m ((c.tc : Thread Cert.PlainAdamMixIdeal.nD Cert.PlainAdamMixIdeal.τ).loc Cert.PlainAdamMixIdeal.main_arg0)
      ∧ r.2.mem ((c.tc : Thread Cert.PlainAdamMixIdeal.nD Cert.PlainAdamMixIdeal.τ).loc Cert.PlainAdamMixIdeal.main_arg1) = m ((c.tc : Thread Cert.PlainAdamMixIdeal.nD Cert.PlainAdamMixIdeal.τ).loc Cert.PlainAdamMixIdeal.main_arg1)
      ∧ r.2.mem ((c.tc : Thread Cert.PlainAdamMixIdeal.nD Cert.PlainAdamMixIdeal.τ).loc Cert.PlainAdamMixIdeal.main_arg2) = m ((c.tc : Thread Cert.PlainAdamMixIdeal.nD Cert.PlainAdamMixIdeal.τ).loc Cert.PlainAdamMixIdeal.main_arg2)
      ∧ r.2.mem ((c.tc : Thread Cert.PlainAdamMixIdeal.nD Cert.PlainAdamMixIdeal.τ).loc Cert.PlainAdamMixIdeal.main_arg3) = m ((c.tc : Thread Cert.PlainAdamMixIdeal.nD Cert.PlainAdamMixIdeal.τ).loc Cert.PlainAdamMixIdeal.main_arg3))
      ∧ r.2.sem = fun _ => 0)

def quiescent_AdamXq [hAdamXq : Cert.AdamXq.Facts] : Prop :=
  ∀ (m : (ℓ : Loc Cert.AdamXq.nD Cert.AdamXq.τ Cert.AdamXq.sig) → Buf (Elt Bits) ℓ) (g : Dev Cert.AdamXq.nD → PrngReg), Pre_AdamXq m →
    θ_run (Cert.AdamXq.defs (F := Bits)) (onTc (τ := Cert.AdamXq.τ) (Cert.AdamXq.main (F := Bits))) ⟨m, fun _ => 0, g⟩ (fun r => (∀ c : Dev Cert.AdamXq.nD,
      r.2.mem ((c.tc : Thread Cert.AdamXq.nD Cert.AdamXq.τ).loc Cert.AdamXq.main_arg0) = m ((c.tc : Thread Cert.AdamXq.nD Cert.AdamXq.τ).loc Cert.AdamXq.main_arg0)
      ∧ r.2.mem ((c.tc : Thread Cert.AdamXq.nD Cert.AdamXq.τ).loc Cert.AdamXq.main_arg1) = m ((c.tc : Thread Cert.AdamXq.nD Cert.AdamXq.τ).loc Cert.AdamXq.main_arg1)
      ∧ r.2.mem ((c.tc : Thread Cert.AdamXq.nD Cert.AdamXq.τ).loc Cert.AdamXq.main_arg2) = m ((c.tc : Thread Cert.AdamXq.nD Cert.AdamXq.τ).loc Cert.AdamXq.main_arg2)
      ∧ r.2.mem ((c.tc : Thread Cert.AdamXq.nD Cert.AdamXq.τ).loc Cert.AdamXq.main_arg3) = m ((c.tc : Thread Cert.AdamXq.nD Cert.AdamXq.τ).loc Cert.AdamXq.main_arg3))
      ∧ r.2.sem = fun _ => 0)

def quiescent_AdamXqIdeal [hAdamXqIdeal : Cert.AdamXqIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg), Pre_AdamXqIdeal m →
    θ_run (Cert.AdamXqIdeal.defs (F := Ideal)) (onTc (τ := Cert.AdamXqIdeal.τ) (Cert.AdamXqIdeal.main (F := Ideal))) ⟨m, fun _ => 0, g⟩ (fun r => (∀ c : Dev Cert.AdamXqIdeal.nD,
      r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
      ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
      ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
      ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3))
      ∧ r.2.sem = fun _ => 0)

def quiescent_PlainAdamXqIdeal [hPlainAdamXqIdeal : Cert.PlainAdamXqIdeal.Facts] : Prop :=
  ∀ (m : (ℓ : Loc Cert.PlainAdamXqIdeal.nD Cert.PlainAdamXqIdeal.τ Cert.PlainAdamXqIdeal.sig) → Buf (Elt Ideal) ℓ) (g : Dev Cert.PlainAdamXqIdeal.nD → PrngReg), Pre_PlainAdamXqIdeal m →
    θ_run (Cert.PlainAdamXqIdeal.defs (F := Ideal)) (onTc (τ := Cert.PlainAdamXqIdeal.τ) (Cert.PlainAdamXqIdeal.main (F := Ideal))) ⟨m, fun _ => 0, g⟩ (fun r => (∀ c : Dev Cert.PlainAdamXqIdeal.nD,
      r.2.mem ((c.tc : Thread Cert.PlainAdamXqIdeal.nD Cert.PlainAdamXqIdeal.τ).loc Cert.PlainAdamXqIdeal.main_arg0) = m ((c.tc : Thread Cert.PlainAdamXqIdeal.nD Cert.PlainAdamXqIdeal.τ).loc Cert.PlainAdamXqIdeal.main_arg0)
      ∧ r.2.mem ((c.tc : Thread Cert.PlainAdamXqIdeal.nD Cert.PlainAdamXqIdeal.τ).loc Cert.PlainAdamXqIdeal.main_arg1) = m ((c.tc : Thread Cert.PlainAdamXqIdeal.nD Cert.PlainAdamXqIdeal.τ).loc Cert.PlainAdamXqIdeal.main_arg1)
      ∧ r.2.mem ((c.tc : Thread Cert.PlainAdamXqIdeal.nD Cert.PlainAdamXqIdeal.τ).loc Cert.PlainAdamXqIdeal.main_arg2) = m ((c.tc : Thread Cert.PlainAdamXqIdeal.nD Cert.PlainAdamXqIdeal.τ).loc Cert.PlainAdamXqIdeal.main_arg2)
      ∧ r.2.mem ((c.tc : Thread Cert.PlainAdamXqIdeal.nD Cert.PlainAdamXqIdeal.τ).loc Cert.PlainAdamXqIdeal.main_arg3) = m ((c.tc : Thread Cert.PlainAdamXqIdeal.nD Cert.PlainAdamXqIdeal.τ).loc Cert.PlainAdamXqIdeal.main_arg3))
      ∧ r.2.sem = fun _ => 0)

def quiescent_AdamXo [hAdamXo : Cert.AdamXo.Facts] : Prop :=
  ∀ (m : (ℓ : Loc Cert.AdamXo.nD Cert.AdamXo.τ Cert.AdamXo.sig) → Buf (Elt Bits) ℓ) (g : Dev Cert.AdamXo.nD → PrngReg), Pre_AdamXo m →
    θ_run (Cert.AdamXo.defs (F := Bits)) (onTc (τ := Cert.AdamXo.τ) (Cert.AdamXo.main (F := Bits))) ⟨m, fun _ => 0, g⟩ (fun r => (∀ c : Dev Cert.AdamXo.nD,
      r.2.mem ((c.tc : Thread Cert.AdamXo.nD Cert.AdamXo.τ).loc Cert.AdamXo.main_arg0) = m ((c.tc : Thread Cert.AdamXo.nD Cert.AdamXo.τ).loc Cert.AdamXo.main_arg0)
      ∧ r.2.mem ((c.tc : Thread Cert.AdamXo.nD Cert.AdamXo.τ).loc Cert.AdamXo.main_arg1) = m ((c.tc : Thread Cert.AdamXo.nD Cert.AdamXo.τ).loc Cert.AdamXo.main_arg1)
      ∧ r.2.mem ((c.tc : Thread Cert.AdamXo.nD Cert.AdamXo.τ).loc Cert.AdamXo.main_arg2) = m ((c.tc : Thread Cert.AdamXo.nD Cert.AdamXo.τ).loc Cert.AdamXo.main_arg2)
      ∧ r.2.mem ((c.tc : Thread Cert.AdamXo.nD Cert.AdamXo.τ).loc Cert.AdamXo.main_arg3) = m ((c.tc : Thread Cert.AdamXo.nD Cert.AdamXo.τ).loc Cert.AdamXo.main_arg3))
      ∧ r.2.sem = fun _ => 0)

def quiescent_AdamXoIdeal [hAdamXoIdeal : Cert.AdamXoIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg), Pre_AdamXoIdeal m →
    θ_run (Cert.AdamXoIdeal.defs (F := Ideal)) (onTc (τ := Cert.AdamXoIdeal.τ) (Cert.AdamXoIdeal.main (F := Ideal))) ⟨m, fun _ => 0, g⟩ (fun r => (∀ c : Dev Cert.AdamXoIdeal.nD,
      r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
      ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
      ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
      ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3))
      ∧ r.2.sem = fun _ => 0)

def quiescent_PlainAdamXoIdeal [hPlainAdamXoIdeal : Cert.PlainAdamXoIdeal.Facts] : Prop :=
  ∀ (m : (ℓ : Loc Cert.PlainAdamXoIdeal.nD Cert.PlainAdamXoIdeal.τ Cert.PlainAdamXoIdeal.sig) → Buf (Elt Ideal) ℓ) (g : Dev Cert.PlainAdamXoIdeal.nD → PrngReg), Pre_PlainAdamXoIdeal m →
    θ_run (Cert.PlainAdamXoIdeal.defs (F := Ideal)) (onTc (τ := Cert.PlainAdamXoIdeal.τ) (Cert.PlainAdamXoIdeal.main (F := Ideal))) ⟨m, fun _ => 0, g⟩ (fun r => (∀ c : Dev Cert.PlainAdamXoIdeal.nD,
      r.2.mem ((c.tc : Thread Cert.PlainAdamXoIdeal.nD Cert.PlainAdamXoIdeal.τ).loc Cert.PlainAdamXoIdeal.main_arg0) = m ((c.tc : Thread Cert.PlainAdamXoIdeal.nD Cert.PlainAdamXoIdeal.τ).loc Cert.PlainAdamXoIdeal.main_arg0)
      ∧ r.2.mem ((c.tc : Thread Cert.PlainAdamXoIdeal.nD Cert.PlainAdamXoIdeal.τ).loc Cert.PlainAdamXoIdeal.main_arg1) = m ((c.tc : Thread Cert.PlainAdamXoIdeal.nD Cert.PlainAdamXoIdeal.τ).loc Cert.PlainAdamXoIdeal.main_arg1)
      ∧ r.2.mem ((c.tc : Thread Cert.PlainAdamXoIdeal.nD Cert.PlainAdamXoIdeal.τ).loc Cert.PlainAdamXoIdeal.main_arg2) = m ((c.tc : Thread Cert.PlainAdamXoIdeal.nD Cert.PlainAdamXoIdeal.τ).loc Cert.PlainAdamXoIdeal.main_arg2)
      ∧ r.2.mem ((c.tc : Thread Cert.PlainAdamXoIdeal.nD Cert.PlainAdamXoIdeal.τ).loc Cert.PlainAdamXoIdeal.main_arg3) = m ((c.tc : Thread Cert.PlainAdamXoIdeal.nD Cert.PlainAdamXoIdeal.τ).loc Cert.PlainAdamXoIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_PlainAdamDownIdeal [hPlainAdamDownIdeal : Cert.PlainAdamDownIdeal.Facts] : Prop :=
  ∀ (m : (ℓ : Loc Cert.PlainAdamDownIdeal.nD Cert.PlainAdamDownIdeal.τ Cert.PlainAdamDownIdeal.sig) → Buf (Elt Ideal) ℓ) (g : Dev Cert.PlainAdamDownIdeal.nD → PrngReg), Pre_PlainAdamDownIdeal m →
    θ_run (Cert.PlainAdamDownIdeal.defs (F := Ideal)) (onTc (τ := Cert.PlainAdamDownIdeal.τ) (Cert.PlainAdamDownIdeal.main (F := Ideal))) ⟨m, fun _ => 0, g⟩ (fun r => (∀ c : Dev Cert.PlainAdamDownIdeal.nD,
      r.2.mem ((c.tc : Thread Cert.PlainAdamDownIdeal.nD Cert.PlainAdamDownIdeal.τ).loc Cert.PlainAdamDownIdeal.main_arg0) = m ((c.tc : Thread Cert.PlainAdamDownIdeal.nD Cert.PlainAdamDownIdeal.τ).loc Cert.PlainAdamDownIdeal.main_arg0)
      ∧ r.2.mem ((c.tc : Thread Cert.PlainAdamDownIdeal.nD Cert.PlainAdamDownIdeal.τ).loc Cert.PlainAdamDownIdeal.main_arg1) = m ((c.tc : Thread Cert.PlainAdamDownIdeal.nD Cert.PlainAdamDownIdeal.τ).loc Cert.PlainAdamDownIdeal.main_arg1)
      ∧ r.2.mem ((c.tc : Thread Cert.PlainAdamDownIdeal.nD Cert.PlainAdamDownIdeal.τ).loc Cert.PlainAdamDownIdeal.main_arg2) = m ((c.tc : Thread Cert.PlainAdamDownIdeal.nD Cert.PlainAdamDownIdeal.τ).loc Cert.PlainAdamDownIdeal.main_arg2)
      ∧ r.2.mem ((c.tc : Thread Cert.PlainAdamDownIdeal.nD Cert.PlainAdamDownIdeal.τ).loc Cert.PlainAdamDownIdeal.main_arg3) = m ((c.tc : Thread Cert.PlainAdamDownIdeal.nD Cert.PlainAdamDownIdeal.τ).loc Cert.PlainAdamDownIdeal.main_arg3))
      ∧ r.2.sem = fun _ => 0)

def quiescent_XBwd [hXBwd : Cert.XBwd.Facts] : Prop :=
  ∀ (m : (ℓ : Loc Cert.XBwd.nD Cert.XBwd.τ Cert.XBwd.sig) → Buf (Elt Bits) ℓ) (g : Dev Cert.XBwd.nD → PrngReg), Pre_XBwd m →
    θ_run (Cert.XBwd.defs (F := Bits)) (onTc (τ := Cert.XBwd.τ) (Cert.XBwd.main (F := Bits))) ⟨m, fun _ => 0, g⟩ (fun r => (∀ c : Dev Cert.XBwd.nD,
      r.2.mem ((c.tc : Thread Cert.XBwd.nD Cert.XBwd.τ).loc Cert.XBwd.main_arg0) = m ((c.tc : Thread Cert.XBwd.nD Cert.XBwd.τ).loc Cert.XBwd.main_arg0)
      ∧ r.2.mem ((c.tc : Thread Cert.XBwd.nD Cert.XBwd.τ).loc Cert.XBwd.main_arg1) = m ((c.tc : Thread Cert.XBwd.nD Cert.XBwd.τ).loc Cert.XBwd.main_arg1)
      ∧ r.2.mem ((c.tc : Thread Cert.XBwd.nD Cert.XBwd.τ).loc Cert.XBwd.main_arg2) = m ((c.tc : Thread Cert.XBwd.nD Cert.XBwd.τ).loc Cert.XBwd.main_arg2))
      ∧ r.2.sem = fun _ => 0)

def quiescent_XBwdIdeal [hXBwdIdeal : Cert.XBwdIdeal.Facts] : Prop :=
  ∀ (m : (ℓ : Loc Cert.XBwdIdeal.nD Cert.XBwdIdeal.τ Cert.XBwdIdeal.sig) → Buf (Elt Ideal) ℓ) (g : Dev Cert.XBwdIdeal.nD → PrngReg), Pre_XBwdIdeal m →
    θ_run (Cert.XBwdIdeal.defs (F := Ideal)) (onTc (τ := Cert.XBwdIdeal.τ) (Cert.XBwdIdeal.main (F := Ideal))) ⟨m, fun _ => 0, g⟩ (fun r => (∀ c : Dev Cert.XBwdIdeal.nD,
      r.2.mem ((c.tc : Thread Cert.XBwdIdeal.nD Cert.XBwdIdeal.τ).loc Cert.XBwdIdeal.main_arg0) = m ((c.tc : Thread Cert.XBwdIdeal.nD Cert.XBwdIdeal.τ).loc Cert.XBwdIdeal.main_arg0)
      ∧ r.2.mem ((c.tc : Thread Cert.XBwdIdeal.nD Cert.XBwdIdeal.τ).loc Cert.XBwdIdeal.main_arg1) = m ((c.tc : Thread Cert.XBwdIdeal.nD Cert.XBwdIdeal.τ).loc Cert.XBwdIdeal.main_arg1)
      ∧ r.2.mem ((c.tc : Thread Cert.XBwdIdeal.nD Cert.XBwdIdeal.τ).loc Cert.XBwdIdeal.main_arg2) = m ((c.tc : Thread Cert.XBwdIdeal.nD Cert.XBwdIdeal.τ).loc Cert.XBwdIdeal.main_arg2))
      ∧ r.2.sem = fun _ => 0)

def quiescent_XBwdIdeal_pre_finite_xbwd [hXBwdIdeal : Cert.XBwdIdeal.Facts] [hPre_finite_xbwd : Cert.Pre_finite_xbwd.Facts] : Prop :=
  ∀ (m : (ℓ : Loc Cert.XBwdIdeal.nD Cert.XBwdIdeal.τ Cert.XBwdIdeal.sig) → Buf (Elt Ideal) ℓ) (g : Dev Cert.XBwdIdeal.nD → PrngReg), Pre_XBwdIdeal_finite_xbwd m →
    θ_run (Cert.XBwdIdeal.defs (F := Ideal)) (onTc (τ := Cert.XBwdIdeal.τ) (Cert.XBwdIdeal.main (F := Ideal))) ⟨m, fun _ => 0, g⟩ (fun r => (∀ c : Dev Cert.XBwdIdeal.nD,
      r.2.mem ((c.tc : Thread Cert.XBwdIdeal.nD Cert.XBwdIdeal.τ).loc Cert.XBwdIdeal.main_arg0) = m ((c.tc : Thread Cert.XBwdIdeal.nD Cert.XBwdIdeal.τ).loc Cert.XBwdIdeal.main_arg0)
      ∧ r.2.mem ((c.tc : Thread Cert.XBwdIdeal.nD Cert.XBwdIdeal.τ).loc Cert.XBwdIdeal.main_arg1) = m ((c.tc : Thread Cert.XBwdIdeal.nD Cert.XBwdIdeal.τ).loc Cert.XBwdIdeal.main_arg1)
      ∧ r.2.mem ((c.tc : Thread Cert.XBwdIdeal.nD Cert.XBwdIdeal.τ).loc Cert.XBwdIdeal.main_arg2) = m ((c.tc : Thread Cert.XBwdIdeal.nD Cert.XBwdIdeal.τ).loc Cert.XBwdIdeal.main_arg2))
      ∧ r.2.sem = fun _ => 0)

def quiescent_PlainXBwdIdeal [hPlainXBwdIdeal : Cert.PlainXBwdIdeal.Facts] : Prop :=
  ∀ (m : (ℓ : Loc Cert.PlainXBwdIdeal.nD Cert.PlainXBwdIdeal.τ Cert.PlainXBwdIdeal.sig) → Buf (Elt Ideal) ℓ) (g : Dev Cert.PlainXBwdIdeal.nD → PrngReg), Pre_PlainXBwdIdeal m →
    θ_run (Cert.PlainXBwdIdeal.defs (F := Ideal)) (onTc (τ := Cert.PlainXBwdIdeal.τ) (Cert.PlainXBwdIdeal.main (F := Ideal))) ⟨m, fun _ => 0, g⟩ (fun r => (∀ c : Dev Cert.PlainXBwdIdeal.nD,
      r.2.mem ((c.tc : Thread Cert.PlainXBwdIdeal.nD Cert.PlainXBwdIdeal.τ).loc Cert.PlainXBwdIdeal.main_arg0) = m ((c.tc : Thread Cert.PlainXBwdIdeal.nD Cert.PlainXBwdIdeal.τ).loc Cert.PlainXBwdIdeal.main_arg0)
      ∧ r.2.mem ((c.tc : Thread Cert.PlainXBwdIdeal.nD Cert.PlainXBwdIdeal.τ).loc Cert.PlainXBwdIdeal.main_arg1) = m ((c.tc : Thread Cert.PlainXBwdIdeal.nD Cert.PlainXBwdIdeal.τ).loc Cert.PlainXBwdIdeal.main_arg1)
      ∧ r.2.mem ((c.tc : Thread Cert.PlainXBwdIdeal.nD Cert.PlainXBwdIdeal.τ).loc Cert.PlainXBwdIdeal.main_arg2) = m ((c.tc : Thread Cert.PlainXBwdIdeal.nD Cert.PlainXBwdIdeal.τ).loc Cert.PlainXBwdIdeal.main_arg2))
      ∧ r.2.sem = fun _ => 0)

def quiescent_PlainXBwdIdeal_pre_finite_xbwd [hPlainXBwdIdeal : Cert.PlainXBwdIdeal.Facts] [hPre_finite_xbwd : Cert.Pre_finite_xbwd.Facts] : Prop :=
  ∀ (m : (ℓ : Loc Cert.PlainXBwdIdeal.nD Cert.PlainXBwdIdeal.τ Cert.PlainXBwdIdeal.sig) → Buf (Elt Ideal) ℓ) (g : Dev Cert.PlainXBwdIdeal.nD → PrngReg), Pre_PlainXBwdIdeal_finite_xbwd m →
    θ_run (Cert.PlainXBwdIdeal.defs (F := Ideal)) (onTc (τ := Cert.PlainXBwdIdeal.τ) (Cert.PlainXBwdIdeal.main (F := Ideal))) ⟨m, fun _ => 0, g⟩ (fun r => (∀ c : Dev Cert.PlainXBwdIdeal.nD,
      r.2.mem ((c.tc : Thread Cert.PlainXBwdIdeal.nD Cert.PlainXBwdIdeal.τ).loc Cert.PlainXBwdIdeal.main_arg0) = m ((c.tc : Thread Cert.PlainXBwdIdeal.nD Cert.PlainXBwdIdeal.τ).loc Cert.PlainXBwdIdeal.main_arg0)
      ∧ r.2.mem ((c.tc : Thread Cert.PlainXBwdIdeal.nD Cert.PlainXBwdIdeal.τ).loc Cert.PlainXBwdIdeal.main_arg1) = m ((c.tc : Thread Cert.PlainXBwdIdeal.nD Cert.PlainXBwdIdeal.τ).loc Cert.PlainXBwdIdeal.main_arg1)
      ∧ r.2.mem ((c.tc : Thread Cert.PlainXBwdIdeal.nD Cert.PlainXBwdIdeal.τ).loc Cert.PlainXBwdIdeal.main_arg2) = m ((c.tc : Thread Cert.PlainXBwdIdeal.nD Cert.PlainXBwdIdeal.τ).loc Cert.PlainXBwdIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_PlainSumSmallIdeal [hPlainSumSmallIdeal : Cert.PlainSumSmallIdeal.Facts] : Prop :=
  ∀ (m : (ℓ : Loc Cert.PlainSumSmallIdeal.nD Cert.PlainSumSmallIdeal.τ Cert.PlainSumSmallIdeal.sig) → Buf (Elt Ideal) ℓ) (g : Dev Cert.PlainSumSmallIdeal.nD → PrngReg), Pre_PlainSumSmallIdeal m →
    θ_run (Cert.PlainSumSmallIdeal.defs (F := Ideal)) (onTc (τ := Cert.PlainSumSmallIdeal.τ) (Cert.PlainSumSmallIdeal.main (F := Ideal))) ⟨m, fun _ => 0, g⟩ (fun r => (∀ c : Dev Cert.PlainSumSmallIdeal.nD,
      r.2.mem ((c.tc : Thread Cert.PlainSumSmallIdeal.nD Cert.PlainSumSmallIdeal.τ).loc Cert.PlainSumSmallIdeal.main_arg0) = m ((c.tc : Thread Cert.PlainSumSmallIdeal.nD Cert.PlainSumSmallIdeal.τ).loc Cert.PlainSumSmallIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v49) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_v54) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DAct_DActIdeal : Prop :=
  True

def algebraic_DActIdeal_PlainDActIdeal [hDActIdeal : Cert.DActIdeal.Facts] [hPlainDActIdeal : Cert.PlainDActIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.PlainDActIdeal.nD Cert.PlainDActIdeal.τ Cert.PlainDActIdeal.sig) → Buf (Elt Ideal) ℓ) (g' : Dev Cert.PlainDActIdeal.nD → PrngReg), Pre_DActIdeal m →
    (∀ c : Dev Cert.DActIdeal.nD,
      m' ((c.tc : Thread Cert.PlainDActIdeal.nD Cert.PlainDActIdeal.τ).loc Cert.PlainDActIdeal.main_arg0) = m ((c.tc : Thread Cert.DActIdeal.nD Cert.DActIdeal.τ).loc Cert.DActIdeal.main_arg0)
      ∧ m' ((c.tc : Thread Cert.PlainDActIdeal.nD Cert.PlainDActIdeal.τ).loc Cert.PlainDActIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.PlainDActIdeal.defs (F := Ideal)) (onTc (τ := Cert.PlainDActIdeal.τ) (Cert.PlainDActIdeal.main (F := Ideal))) ⟨m', fun _ => 0, g'⟩ (fun r => ∀ c : Dev Cert.PlainDActIdeal.nD,
          r.2.mem ((c.tc : Thread Cert.PlainDActIdeal.nD Cert.PlainDActIdeal.τ).loc Cert.PlainDActIdeal.main_v4) = v0 c
          ∧ r.2.mem ((c.tc : Thread Cert.PlainDActIdeal.nD Cert.PlainDActIdeal.τ).loc Cert.PlainDActIdeal.main_arg0) = m' ((c.tc : Thread Cert.PlainDActIdeal.nD Cert.PlainDActIdeal.τ).loc Cert.PlainDActIdeal.main_arg0)
          ∧ r.2.mem ((c.tc : Thread Cert.PlainDActIdeal.nD Cert.PlainDActIdeal.τ).loc Cert.PlainDActIdeal.main_arg1) = m' ((c.tc : Thread Cert.PlainDActIdeal.nD Cert.PlainDActIdeal.τ).loc Cert.PlainDActIdeal.main_arg1))

def preserves_DwDown_DwDownIdeal : Prop :=
  True

def algebraic_DwDownIdeal_PlainDwDownIdeal [hDwDownIdeal : Cert.DwDownIdeal.Facts] [hPlainDwDownIdeal : Cert.PlainDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.PlainDwDownIdeal.nD Cert.PlainDwDownIdeal.τ Cert.PlainDwDownIdeal.sig) → Buf (Elt Ideal) ℓ) (g' : Dev Cert.PlainDwDownIdeal.nD → PrngReg), Pre_DwDownIdeal m →
    (∀ c : Dev Cert.DwDownIdeal.nD,
      m' ((c.tc : Thread Cert.PlainDwDownIdeal.nD Cert.PlainDwDownIdeal.τ).loc Cert.PlainDwDownIdeal.main_arg0) = m ((c.tc : Thread Cert.DwDownIdeal.nD Cert.DwDownIdeal.τ).loc Cert.DwDownIdeal.main_arg0)
      ∧ m' ((c.tc : Thread Cert.PlainDwDownIdeal.nD Cert.PlainDwDownIdeal.τ).loc Cert.PlainDwDownIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.PlainDwDownIdeal.defs (F := Ideal)) (onTc (τ := Cert.PlainDwDownIdeal.τ) (Cert.PlainDwDownIdeal.main (F := Ideal))) ⟨m', fun _ => 0, g'⟩ (fun r => ∀ c : Dev Cert.PlainDwDownIdeal.nD,
          r.2.mem ((c.tc : Thread Cert.PlainDwDownIdeal.nD Cert.PlainDwDownIdeal.τ).loc Cert.PlainDwDownIdeal.main_v6) = v0 c
          ∧ r.2.mem ((c.tc : Thread Cert.PlainDwDownIdeal.nD Cert.PlainDwDownIdeal.τ).loc Cert.PlainDwDownIdeal.main_arg0) = m' ((c.tc : Thread Cert.PlainDwDownIdeal.nD Cert.PlainDwDownIdeal.τ).loc Cert.PlainDwDownIdeal.main_arg0)
          ∧ r.2.mem ((c.tc : Thread Cert.PlainDwDownIdeal.nD Cert.PlainDwDownIdeal.τ).loc Cert.PlainDwDownIdeal.main_arg1) = m' ((c.tc : Thread Cert.PlainDwDownIdeal.nD Cert.PlainDwDownIdeal.τ).loc Cert.PlainDwDownIdeal.main_arg1))

def preserves_DxIn_DxInIdeal : Prop :=
  True

def algebraic_DxInIdeal_PlainDxInIdeal [hDxInIdeal : Cert.DxInIdeal.Facts] [hPlainDxInIdeal : Cert.PlainDxInIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.PlainDxInIdeal.nD Cert.PlainDxInIdeal.τ Cert.PlainDxInIdeal.sig) → Buf (Elt Ideal) ℓ) (g' : Dev Cert.PlainDxInIdeal.nD → PrngReg), Pre_DxInIdeal m →
    (∀ c : Dev Cert.DxInIdeal.nD,
      m' ((c.tc : Thread Cert.PlainDxInIdeal.nD Cert.PlainDxInIdeal.τ).loc Cert.PlainDxInIdeal.main_arg0) = m ((c.tc : Thread Cert.DxInIdeal.nD Cert.DxInIdeal.τ).loc Cert.DxInIdeal.main_arg0)
      ∧ m' ((c.tc : Thread Cert.PlainDxInIdeal.nD Cert.PlainDxInIdeal.τ).loc Cert.PlainDxInIdeal.main_arg1) = m ((c.tc : Thread Cert.DxInIdeal.nD Cert.DxInIdeal.τ).loc Cert.DxInIdeal.main_arg1)
      ∧ m' ((c.tc : Thread Cert.PlainDxInIdeal.nD Cert.PlainDxInIdeal.τ).loc Cert.PlainDxInIdeal.main_arg2) = m ((c.tc : Thread Cert.DxInIdeal.nD Cert.DxInIdeal.τ).loc Cert.DxInIdeal.main_arg2)
      ∧ m' ((c.tc : Thread Cert.PlainDxInIdeal.nD Cert.PlainDxInIdeal.τ).loc Cert.PlainDxInIdeal.main_arg3) = m ((c.tc : Thread Cert.DxInIdeal.nD Cert.DxInIdeal.τ).loc Cert.DxInIdeal.main_arg3)
      ∧ m' ((c.tc : Thread Cert.PlainDxInIdeal.nD Cert.PlainDxInIdeal.τ).loc Cert.PlainDxInIdeal.main_arg4) = m ((c.tc : Thread Cert.DxInIdeal.nD Cert.DxInIdeal.τ).loc Cert.DxInIdeal.main_arg4)) →
    ∃ (v0 : (c : Dev Cert.DxInIdeal.nD) → Buf (Elt Ideal) ((c.tc : Thread Cert.DxInIdeal.nD Cert.DxInIdeal.τ).loc Cert.DxInIdeal.main_v0)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v0) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1)
          ∧ r.2.mem ((c.tc : Thread Cert.DxInIdeal.nD Cert.DxInIdeal.τ).loc Cert.DxInIdeal.main_arg2) = m ((c.tc : Thread Cert.DxInIdeal.nD Cert.DxInIdeal.τ).loc Cert.DxInIdeal.main_arg2)
          ∧ r.2.mem ((c.tc : Thread Cert.DxInIdeal.nD Cert.DxInIdeal.τ).loc Cert.DxInIdeal.main_arg3) = m ((c.tc : Thread Cert.DxInIdeal.nD Cert.DxInIdeal.τ).loc Cert.DxInIdeal.main_arg3)
          ∧ r.2.mem ((c.tc : Thread Cert.DxInIdeal.nD Cert.DxInIdeal.τ).loc Cert.DxInIdeal.main_arg4) = m ((c.tc : Thread Cert.DxInIdeal.nD Cert.DxInIdeal.τ).loc Cert.DxInIdeal.main_arg4))
      ∧ θ_run (Cert.PlainDxInIdeal.defs (F := Ideal)) (onTc (τ := Cert.PlainDxInIdeal.τ) (Cert.PlainDxInIdeal.main (F := Ideal))) ⟨m', fun _ => 0, g'⟩ (fun r => ∀ c : Dev Cert.PlainDxInIdeal.nD,
          r.2.mem ((c.tc : Thread Cert.PlainDxInIdeal.nD Cert.PlainDxInIdeal.τ).loc Cert.PlainDxInIdeal.main_v13) = v0 c
          ∧ r.2.mem ((c.tc : Thread Cert.PlainDxInIdeal.nD Cert.PlainDxInIdeal.τ).loc Cert.PlainDxInIdeal.main_arg0) = m' ((c.tc : Thread Cert.PlainDxInIdeal.nD Cert.PlainDxInIdeal.τ).loc Cert.PlainDxInIdeal.main_arg0)
          ∧ r.2.mem ((c.tc : Thread Cert.PlainDxInIdeal.nD Cert.PlainDxInIdeal.τ).loc Cert.PlainDxInIdeal.main_arg1) = m' ((c.tc : Thread Cert.PlainDxInIdeal.nD Cert.PlainDxInIdeal.τ).loc Cert.PlainDxInIdeal.main_arg1)
          ∧ r.2.mem ((c.tc : Thread Cert.PlainDxInIdeal.nD Cert.PlainDxInIdeal.τ).loc Cert.PlainDxInIdeal.main_arg2) = m' ((c.tc : Thread Cert.PlainDxInIdeal.nD Cert.PlainDxInIdeal.τ).loc Cert.PlainDxInIdeal.main_arg2)
          ∧ r.2.mem ((c.tc : Thread Cert.PlainDxInIdeal.nD Cert.PlainDxInIdeal.τ).loc Cert.PlainDxInIdeal.main_arg3) = m' ((c.tc : Thread Cert.PlainDxInIdeal.nD Cert.PlainDxInIdeal.τ).loc Cert.PlainDxInIdeal.main_arg3)
          ∧ r.2.mem ((c.tc : Thread Cert.PlainDxInIdeal.nD Cert.PlainDxInIdeal.τ).loc Cert.PlainDxInIdeal.main_arg4) = m' ((c.tc : Thread Cert.PlainDxInIdeal.nD Cert.PlainDxInIdeal.τ).loc Cert.PlainDxInIdeal.main_arg4))

def preserves_DMerged_DMergedIdeal : Prop :=
  True

def algebraic_DMergedIdeal_PlainDMergedIdeal [hDMergedIdeal : Cert.DMergedIdeal.Facts] [hPlainDMergedIdeal : Cert.PlainDMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.PlainDMergedIdeal.nD Cert.PlainDMergedIdeal.τ Cert.PlainDMergedIdeal.sig) → Buf (Elt Ideal) ℓ) (g' : Dev Cert.PlainDMergedIdeal.nD → PrngReg), Pre_DMergedIdeal m →
    (∀ c : Dev Cert.DMergedIdeal.nD,
      m' ((c.tc : Thread Cert.PlainDMergedIdeal.nD Cert.PlainDMergedIdeal.τ).loc Cert.PlainDMergedIdeal.main_arg0) = m ((c.tc : Thread Cert.DMergedIdeal.nD Cert.DMergedIdeal.τ).loc Cert.DMergedIdeal.main_arg0)
      ∧ m' ((c.tc : Thread Cert.PlainDMergedIdeal.nD Cert.PlainDMergedIdeal.τ).loc Cert.PlainDMergedIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.PlainDMergedIdeal.defs (F := Ideal)) (onTc (τ := Cert.PlainDMergedIdeal.τ) (Cert.PlainDMergedIdeal.main (F := Ideal))) ⟨m', fun _ => 0, g'⟩ (fun r => ∀ c : Dev Cert.PlainDMergedIdeal.nD,
          r.2.mem ((c.tc : Thread Cert.PlainDMergedIdeal.nD Cert.PlainDMergedIdeal.τ).loc Cert.PlainDMergedIdeal.main_v4) = v0 c
          ∧ r.2.mem ((c.tc : Thread Cert.PlainDMergedIdeal.nD Cert.PlainDMergedIdeal.τ).loc Cert.PlainDMergedIdeal.main_arg0) = m' ((c.tc : Thread Cert.PlainDMergedIdeal.nD Cert.PlainDMergedIdeal.τ).loc Cert.PlainDMergedIdeal.main_arg0)
          ∧ r.2.mem ((c.tc : Thread Cert.PlainDMergedIdeal.nD Cert.PlainDMergedIdeal.τ).loc Cert.PlainDMergedIdeal.main_arg1) = m' ((c.tc : Thread Cert.PlainDMergedIdeal.nD Cert.PlainDMergedIdeal.τ).loc Cert.PlainDMergedIdeal.main_arg1))

def preserves_DwMix_DwMixIdeal : Prop :=
  True

def algebraic_DwMixIdeal_PlainDwMixIdeal [hDwMixIdeal : Cert.DwMixIdeal.Facts] [hPlainDwMixIdeal : Cert.PlainDwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg)
    (m' : (ℓ : Loc Cert.PlainDwMixIdeal.nD Cert.PlainDwMixIdeal.τ Cert.PlainDwMixIdeal.sig) → Buf (Elt Ideal) ℓ) (g' : Dev Cert.PlainDwMixIdeal.nD → PrngReg), Pre_DwMixIdeal m →
    (∀ c : Dev Cert.DwMixIdeal.nD,
      m' ((c.tc : Thread Cert.PlainDwMixIdeal.nD Cert.PlainDwMixIdeal.τ).loc Cert.PlainDwMixIdeal.main_arg0) = m ((c.tc : Thread Cert.DwMixIdeal.nD Cert.DwMixIdeal.τ).loc Cert.DwMixIdeal.main_arg0)
      ∧ m' ((c.tc : Thread Cert.PlainDwMixIdeal.nD Cert.PlainDwMixIdeal.τ).loc Cert.PlainDwMixIdeal.main_arg1) = m ((c.tc : Thread Cert.DwMixIdeal.nD Cert.DwMixIdeal.τ).loc Cert.DwMixIdeal.main_arg1)) →
    ∃ (v0 : (c : Dev Cert.DwMixIdeal.nD) → Buf (Elt Ideal) ((c.tc : Thread Cert.DwMixIdeal.nD Cert.DwMixIdeal.τ).loc Cert.DwMixIdeal.main_v0)),
      θ_run (Cert.DwMixIdeal.defs (F := Ideal)) (onTc (τ := Cert.DwMixIdeal.τ) (Cert.DwMixIdeal.main (F := Ideal))) ⟨m, fun _ => 0, g⟩ (fun r => ∀ c : Dev Cert.DwMixIdeal.nD,
          r.2.mem ((c.tc : Thread Cert.DwMixIdeal.nD Cert.DwMixIdeal.τ).loc Cert.DwMixIdeal.main_v0) = v0 c
          ∧ r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
          ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1))
      ∧ θ_run (Cert.PlainDwMixIdeal.defs (F := Ideal)) (onTc (τ := Cert.PlainDwMixIdeal.τ) (Cert.PlainDwMixIdeal.main (F := Ideal))) ⟨m', fun _ => 0, g'⟩ (fun r => ∀ c : Dev Cert.PlainDwMixIdeal.nD,
          r.2.mem ((c.tc : Thread Cert.PlainDwMixIdeal.nD Cert.PlainDwMixIdeal.τ).loc Cert.PlainDwMixIdeal.main_v6) = v0 c
          ∧ r.2.mem ((c.tc : Thread Cert.PlainDwMixIdeal.nD Cert.PlainDwMixIdeal.τ).loc Cert.PlainDwMixIdeal.main_arg0) = m' ((c.tc : Thread Cert.PlainDwMixIdeal.nD Cert.PlainDwMixIdeal.τ).loc Cert.PlainDwMixIdeal.main_arg0)
          ∧ r.2.mem ((c.tc : Thread Cert.PlainDwMixIdeal.nD Cert.PlainDwMixIdeal.τ).loc Cert.PlainDwMixIdeal.main_arg1) = m' ((c.tc : Thread Cert.PlainDwMixIdeal.nD Cert.PlainDwMixIdeal.τ).loc Cert.PlainDwMixIdeal.main_arg1))

def preserves_DwBranch_DwBranchIdeal : Prop :=
  True

def algebraic_DwBranchIdeal_PlainDwBranchIdeal [hDwBranchIdeal : Cert.DwBranchIdeal.Facts] [hPlainDwBranchIdeal : Cert.PlainDwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.PlainDwBranchIdeal.nD Cert.PlainDwBranchIdeal.τ Cert.PlainDwBranchIdeal.sig) → Buf (Elt Ideal) ℓ) (g' : Dev Cert.PlainDwBranchIdeal.nD → PrngReg), Pre_DwBranchIdeal m →
    (∀ c : Dev Cert.DwBranchIdeal.nD,
      m' ((c.tc : Thread Cert.PlainDwBranchIdeal.nD Cert.PlainDwBranchIdeal.τ).loc Cert.PlainDwBranchIdeal.main_arg0) = m ((c.tc : Thread Cert.DwBranchIdeal.nD Cert.DwBranchIdeal.τ).loc Cert.DwBranchIdeal.main_arg0)
      ∧ m' ((c.tc : Thread Cert.PlainDwBranchIdeal.nD Cert.PlainDwBranchIdeal.τ).loc Cert.PlainDwBranchIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.PlainDwBranchIdeal.defs (F := Ideal)) (onTc (τ := Cert.PlainDwBranchIdeal.τ) (Cert.PlainDwBranchIdeal.main (F := Ideal))) ⟨m', fun _ => 0, g'⟩ (fun r => ∀ c : Dev Cert.PlainDwBranchIdeal.nD,
          r.2.mem ((c.tc : Thread Cert.PlainDwBranchIdeal.nD Cert.PlainDwBranchIdeal.τ).loc Cert.PlainDwBranchIdeal.main_v6) = v0 c
          ∧ r.2.mem ((c.tc : Thread Cert.PlainDwBranchIdeal.nD Cert.PlainDwBranchIdeal.τ).loc Cert.PlainDwBranchIdeal.main_arg0) = m' ((c.tc : Thread Cert.PlainDwBranchIdeal.nD Cert.PlainDwBranchIdeal.τ).loc Cert.PlainDwBranchIdeal.main_arg0)
          ∧ r.2.mem ((c.tc : Thread Cert.PlainDwBranchIdeal.nD Cert.PlainDwBranchIdeal.τ).loc Cert.PlainDwBranchIdeal.main_arg1) = m' ((c.tc : Thread Cert.PlainDwBranchIdeal.nD Cert.PlainDwBranchIdeal.τ).loc Cert.PlainDwBranchIdeal.main_arg1))

def preserves_DwXq_DwXqIdeal : Prop :=
  True

def algebraic_DwXqIdeal_PlainDwXqIdeal [hDwXqIdeal : Cert.DwXqIdeal.Facts] [hPlainDwXqIdeal : Cert.PlainDwXqIdeal.Facts] : Prop :=
  ∀ (m : (ℓ : Loc Cert.DwXqIdeal.nD Cert.DwXqIdeal.τ Cert.DwXqIdeal.sig) → Buf (Elt Ideal) ℓ) (g : Dev Cert.DwXqIdeal.nD → PrngReg)
    (m' : (ℓ : Loc Cert.PlainDwXqIdeal.nD Cert.PlainDwXqIdeal.τ Cert.PlainDwXqIdeal.sig) → Buf (Elt Ideal) ℓ) (g' : Dev Cert.PlainDwXqIdeal.nD → PrngReg), Pre_DwXqIdeal m →
    (∀ c : Dev Cert.DwXqIdeal.nD,
      m' ((c.tc : Thread Cert.PlainDwXqIdeal.nD Cert.PlainDwXqIdeal.τ).loc Cert.PlainDwXqIdeal.main_arg0) = m ((c.tc : Thread Cert.DwXqIdeal.nD Cert.DwXqIdeal.τ).loc Cert.DwXqIdeal.main_arg0)
      ∧ m' ((c.tc : Thread Cert.PlainDwXqIdeal.nD Cert.PlainDwXqIdeal.τ).loc Cert.PlainDwXqIdeal.main_arg1) = m ((c.tc : Thread Cert.DwXqIdeal.nD Cert.DwXqIdeal.τ).loc Cert.DwXqIdeal.main_arg1)) →
    ∃ (v0 : (c : Dev Cert.DwXqIdeal.nD) → Buf (Elt Ideal) ((c.tc : Thread Cert.DwXqIdeal.nD Cert.DwXqIdeal.τ).loc Cert.DwXqIdeal.main_v0)),
      θ_run (Cert.DwXqIdeal.defs (F := Ideal)) (onTc (τ := Cert.DwXqIdeal.τ) (Cert.DwXqIdeal.main (F := Ideal))) ⟨m, fun _ => 0, g⟩ (fun r => ∀ c : Dev Cert.DwXqIdeal.nD,
          r.2.mem ((c.tc : Thread Cert.DwXqIdeal.nD Cert.DwXqIdeal.τ).loc Cert.DwXqIdeal.main_v0) = v0 c
          ∧ r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
          ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1))
      ∧ θ_run (Cert.PlainDwXqIdeal.defs (F := Ideal)) (onTc (τ := Cert.PlainDwXqIdeal.τ) (Cert.PlainDwXqIdeal.main (F := Ideal))) ⟨m', fun _ => 0, g'⟩ (fun r => ∀ c : Dev Cert.PlainDwXqIdeal.nD,
          r.2.mem ((c.tc : Thread Cert.PlainDwXqIdeal.nD Cert.PlainDwXqIdeal.τ).loc Cert.PlainDwXqIdeal.main_v6) = v0 c
          ∧ r.2.mem ((c.tc : Thread Cert.PlainDwXqIdeal.nD Cert.PlainDwXqIdeal.τ).loc Cert.PlainDwXqIdeal.main_arg0) = m' ((c.tc : Thread Cert.PlainDwXqIdeal.nD Cert.PlainDwXqIdeal.τ).loc Cert.PlainDwXqIdeal.main_arg0)
          ∧ r.2.mem ((c.tc : Thread Cert.PlainDwXqIdeal.nD Cert.PlainDwXqIdeal.τ).loc Cert.PlainDwXqIdeal.main_arg1) = m' ((c.tc : Thread Cert.PlainDwXqIdeal.nD Cert.PlainDwXqIdeal.τ).loc Cert.PlainDwXqIdeal.main_arg1))

def preserves_Dxo_DxoIdeal : Prop :=
  True

def algebraic_DxoIdeal_PlainDxoIdeal [hDxoIdeal : Cert.DxoIdeal.Facts] [hPlainDxoIdeal : Cert.PlainDxoIdeal.Facts] : Prop :=
  ∀ (m : (ℓ : Loc Cert.DxoIdeal.nD Cert.DxoIdeal.τ Cert.DxoIdeal.sig) → Buf (Elt Ideal) ℓ) (g : Dev Cert.DxoIdeal.nD → PrngReg)
    (m' : (ℓ : Loc Cert.PlainDxoIdeal.nD Cert.PlainDxoIdeal.τ Cert.PlainDxoIdeal.sig) → Buf (Elt Ideal) ℓ) (g' : Dev Cert.PlainDxoIdeal.nD → PrngReg), Pre_DxoIdeal m →
    (∀ c : Dev Cert.DxoIdeal.nD,
      m' ((c.tc : Thread Cert.PlainDxoIdeal.nD Cert.PlainDxoIdeal.τ).loc Cert.PlainDxoIdeal.main_arg0) = m ((c.tc : Thread Cert.DxoIdeal.nD Cert.DxoIdeal.τ).loc Cert.DxoIdeal.main_arg0)
      ∧ m' ((c.tc : Thread Cert.PlainDxoIdeal.nD Cert.PlainDxoIdeal.τ).loc Cert.PlainDxoIdeal.main_arg1) = m ((c.tc : Thread Cert.DxoIdeal.nD Cert.DxoIdeal.τ).loc Cert.DxoIdeal.main_arg1)) →
    ∃ (v0 : (c : Dev Cert.DxoIdeal.nD) → Buf (Elt Ideal) ((c.tc : Thread Cert.DxoIdeal.nD Cert.DxoIdeal.τ).loc Cert.DxoIdeal.main_v0)),
      θ_run (Cert.DxoIdeal.defs (F := Ideal)) (onTc (τ := Cert.DxoIdeal.τ) (Cert.DxoIdeal.main (F := Ideal))) ⟨m, fun _ => 0, g⟩ (fun r => ∀ c : Dev Cert.DxoIdeal.nD,
          r.2.mem ((c.tc : Thread Cert.DxoIdeal.nD Cert.DxoIdeal.τ).loc Cert.DxoIdeal.main_v0) = v0 c
          ∧ r.2.mem ((c.tc : Thread Cert.DxoIdeal.nD Cert.DxoIdeal.τ).loc Cert.DxoIdeal.main_arg0) = m ((c.tc : Thread Cert.DxoIdeal.nD Cert.DxoIdeal.τ).loc Cert.DxoIdeal.main_arg0)
          ∧ r.2.mem ((c.tc : Thread Cert.DxoIdeal.nD Cert.DxoIdeal.τ).loc Cert.DxoIdeal.main_arg1) = m ((c.tc : Thread Cert.DxoIdeal.nD Cert.DxoIdeal.τ).loc Cert.DxoIdeal.main_arg1))
      ∧ θ_run (Cert.PlainDxoIdeal.defs (F := Ideal)) (onTc (τ := Cert.PlainDxoIdeal.τ) (Cert.PlainDxoIdeal.main (F := Ideal))) ⟨m', fun _ => 0, g'⟩ (fun r => ∀ c : Dev Cert.PlainDxoIdeal.nD,
          r.2.mem ((c.tc : Thread Cert.PlainDxoIdeal.nD Cert.PlainDxoIdeal.τ).loc Cert.PlainDxoIdeal.main_v5) = v0 c
          ∧ r.2.mem ((c.tc : Thread Cert.PlainDxoIdeal.nD Cert.PlainDxoIdeal.τ).loc Cert.PlainDxoIdeal.main_arg0) = m' ((c.tc : Thread Cert.PlainDxoIdeal.nD Cert.PlainDxoIdeal.τ).loc Cert.PlainDxoIdeal.main_arg0)
          ∧ r.2.mem ((c.tc : Thread Cert.PlainDxoIdeal.nD Cert.PlainDxoIdeal.τ).loc Cert.PlainDxoIdeal.main_arg1) = m' ((c.tc : Thread Cert.PlainDxoIdeal.nD Cert.PlainDxoIdeal.τ).loc Cert.PlainDxoIdeal.main_arg1))

def preserves_DwUp_DwUpIdeal : Prop :=
  True

def algebraic_DwUpIdeal_PlainDwUpIdeal [hDwUpIdeal : Cert.DwUpIdeal.Facts] [hPlainDwUpIdeal : Cert.PlainDwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.PlainDwUpIdeal.nD Cert.PlainDwUpIdeal.τ Cert.PlainDwUpIdeal.sig) → Buf (Elt Ideal) ℓ) (g' : Dev Cert.PlainDwUpIdeal.nD → PrngReg), Pre_DwUpIdeal m →
    (∀ c : Dev Cert.DwUpIdeal.nD,
      m' ((c.tc : Thread Cert.PlainDwUpIdeal.nD Cert.PlainDwUpIdeal.τ).loc Cert.PlainDwUpIdeal.main_arg0) = m ((c.tc : Thread Cert.DwUpIdeal.nD Cert.DwUpIdeal.τ).loc Cert.DwUpIdeal.main_arg0)
      ∧ m' ((c.tc : Thread Cert.PlainDwUpIdeal.nD Cert.PlainDwUpIdeal.τ).loc Cert.PlainDwUpIdeal.main_arg1) = m ((c.tc : Thread Cert.DwUpIdeal.nD Cert.DwUpIdeal.τ).loc Cert.DwUpIdeal.main_arg1)
      ∧ m' ((c.tc : Thread Cert.PlainDwUpIdeal.nD Cert.PlainDwUpIdeal.τ).loc Cert.PlainDwUpIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.PlainDwUpIdeal.defs (F := Ideal)) (onTc (τ := Cert.PlainDwUpIdeal.τ) (Cert.PlainDwUpIdeal.main (F := Ideal))) ⟨m', fun _ => 0, g'⟩ (fun r => ∀ c : Dev Cert.PlainDwUpIdeal.nD,
          r.2.mem ((c.tc : Thread Cert.PlainDwUpIdeal.nD Cert.PlainDwUpIdeal.τ).loc Cert.PlainDwUpIdeal.main_v9) = v0 c
          ∧ r.2.mem ((c.tc : Thread Cert.PlainDwUpIdeal.nD Cert.PlainDwUpIdeal.τ).loc Cert.PlainDwUpIdeal.main_arg0) = m' ((c.tc : Thread Cert.PlainDwUpIdeal.nD Cert.PlainDwUpIdeal.τ).loc Cert.PlainDwUpIdeal.main_arg0)
          ∧ r.2.mem ((c.tc : Thread Cert.PlainDwUpIdeal.nD Cert.PlainDwUpIdeal.τ).loc Cert.PlainDwUpIdeal.main_arg1) = m' ((c.tc : Thread Cert.PlainDwUpIdeal.nD Cert.PlainDwUpIdeal.τ).loc Cert.PlainDwUpIdeal.main_arg1)
          ∧ r.2.mem ((c.tc : Thread Cert.PlainDwUpIdeal.nD Cert.PlainDwUpIdeal.τ).loc Cert.PlainDwUpIdeal.main_arg2) = m' ((c.tc : Thread Cert.PlainDwUpIdeal.nD Cert.PlainDwUpIdeal.τ).loc Cert.PlainDwUpIdeal.main_arg2))

def preserves_Proj_ProjIdeal : Prop :=
  True

def algebraic_ProjIdeal_PlainProjIdeal [hProjIdeal : Cert.ProjIdeal.Facts] [hPlainProjIdeal : Cert.PlainProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.PlainProjIdeal.nD Cert.PlainProjIdeal.τ Cert.PlainProjIdeal.sig) → Buf (Elt Ideal) ℓ) (g' : Dev Cert.PlainProjIdeal.nD → PrngReg), Pre_ProjIdeal m →
    (∀ c : Dev Cert.ProjIdeal.nD,
      m' ((c.tc : Thread Cert.PlainProjIdeal.nD Cert.PlainProjIdeal.τ).loc Cert.PlainProjIdeal.main_arg0) = m ((c.tc : Thread Cert.ProjIdeal.nD Cert.ProjIdeal.τ).loc Cert.ProjIdeal.main_arg0)
      ∧ m' ((c.tc : Thread Cert.PlainProjIdeal.nD Cert.PlainProjIdeal.τ).loc Cert.PlainProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.PlainProjIdeal.defs (F := Ideal)) (onTc (τ := Cert.PlainProjIdeal.τ) (Cert.PlainProjIdeal.main (F := Ideal))) ⟨m', fun _ => 0, g'⟩ (fun r => ∀ c : Dev Cert.PlainProjIdeal.nD,
          r.2.mem ((c.tc : Thread Cert.PlainProjIdeal.nD Cert.PlainProjIdeal.τ).loc Cert.PlainProjIdeal.main_v3) = v0 c
          ∧ r.2.mem ((c.tc : Thread Cert.PlainProjIdeal.nD Cert.PlainProjIdeal.τ).loc Cert.PlainProjIdeal.main_arg0) = m' ((c.tc : Thread Cert.PlainProjIdeal.nD Cert.PlainProjIdeal.τ).loc Cert.PlainProjIdeal.main_arg0)
          ∧ r.2.mem ((c.tc : Thread Cert.PlainProjIdeal.nD Cert.PlainProjIdeal.τ).loc Cert.PlainProjIdeal.main_arg1) = m' ((c.tc : Thread Cert.PlainProjIdeal.nD Cert.PlainProjIdeal.τ).loc Cert.PlainProjIdeal.main_arg1))

def preserves_DownLn_DownLnIdeal : Prop :=
  True

def algebraic_DownLnIdeal_PlainDownLnIdeal [hDownLnIdeal : Cert.DownLnIdeal.Facts] [hPlainDownLnIdeal : Cert.PlainDownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.PlainDownLnIdeal.nD Cert.PlainDownLnIdeal.τ Cert.PlainDownLnIdeal.sig) → Buf (Elt Ideal) ℓ) (g' : Dev Cert.PlainDownLnIdeal.nD → PrngReg), Pre_DownLnIdeal m →
    (∀ c : Dev Cert.DownLnIdeal.nD,
      m' ((c.tc : Thread Cert.PlainDownLnIdeal.nD Cert.PlainDownLnIdeal.τ).loc Cert.PlainDownLnIdeal.main_arg0) = m ((c.tc : Thread Cert.DownLnIdeal.nD Cert.DownLnIdeal.τ).loc Cert.DownLnIdeal.main_arg0)
      ∧ m' ((c.tc : Thread Cert.PlainDownLnIdeal.nD Cert.PlainDownLnIdeal.τ).loc Cert.PlainDownLnIdeal.main_arg1) = m ((c.tc : Thread Cert.DownLnIdeal.nD Cert.DownLnIdeal.τ).loc Cert.DownLnIdeal.main_arg1)
      ∧ m' ((c.tc : Thread Cert.PlainDownLnIdeal.nD Cert.PlainDownLnIdeal.τ).loc Cert.PlainDownLnIdeal.main_arg2) = m ((c.tc : Thread Cert.DownLnIdeal.nD Cert.DownLnIdeal.τ).loc Cert.DownLnIdeal.main_arg2)
      ∧ m' ((c.tc : Thread Cert.PlainDownLnIdeal.nD Cert.PlainDownLnIdeal.τ).loc Cert.PlainDownLnIdeal.main_arg3) = m ((c.tc : Thread Cert.DownLnIdeal.nD Cert.DownLnIdeal.τ).loc Cert.DownLnIdeal.main_arg3)
      ∧ m' ((c.tc : Thread Cert.PlainDownLnIdeal.nD Cert.PlainDownLnIdeal.τ).loc Cert.PlainDownLnIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v0_0)) (v1 : (c : Dev Cert.DownLnIdeal.nD) → Buf (Elt Ideal) ((c.tc : Thread Cert.DownLnIdeal.nD Cert.DownLnIdeal.τ).loc Cert.DownLnIdeal.main_v0_1)) (v2 : (c : Dev Cert.DownLnIdeal.nD) → Buf (Elt Ideal) ((c.tc : Thread Cert.DownLnIdeal.nD Cert.DownLnIdeal.τ).loc Cert.DownLnIdeal.main_v0_2)) (v3 : (c : Dev Cert.DownLnIdeal.nD) → Buf (Elt Ideal) ((c.tc : Thread Cert.DownLnIdeal.nD Cert.DownLnIdeal.τ).loc Cert.DownLnIdeal.main_v0_3)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v0_0) = v0 c
          ∧ r.2.mem ((c.tc : Thread Cert.DownLnIdeal.nD Cert.DownLnIdeal.τ).loc Cert.DownLnIdeal.main_v0_1) = v1 c
          ∧ r.2.mem ((c.tc : Thread Cert.DownLnIdeal.nD Cert.DownLnIdeal.τ).loc Cert.DownLnIdeal.main_v0_2) = v2 c
          ∧ r.2.mem ((c.tc : Thread Cert.DownLnIdeal.nD Cert.DownLnIdeal.τ).loc Cert.DownLnIdeal.main_v0_3) = v3 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.PlainDownLnIdeal.defs (F := Ideal)) (onTc (τ := Cert.PlainDownLnIdeal.τ) (Cert.PlainDownLnIdeal.main (F := Ideal))) ⟨m', fun _ => 0, g'⟩ (fun r => ∀ c : Dev Cert.PlainDownLnIdeal.nD,
          r.2.mem ((c.tc : Thread Cert.PlainDownLnIdeal.nD Cert.PlainDownLnIdeal.τ).loc Cert.PlainDownLnIdeal.main_v27) = v0 c
          ∧ r.2.mem ((c.tc : Thread Cert.PlainDownLnIdeal.nD Cert.PlainDownLnIdeal.τ).loc Cert.PlainDownLnIdeal.main_v28) = v1 c
          ∧ r.2.mem ((c.tc : Thread Cert.PlainDownLnIdeal.nD Cert.PlainDownLnIdeal.τ).loc Cert.PlainDownLnIdeal.main_v46) = v2 c
          ∧ r.2.mem ((c.tc : Thread Cert.PlainDownLnIdeal.nD Cert.PlainDownLnIdeal.τ).loc Cert.PlainDownLnIdeal.main_v42) = v3 c
          ∧ r.2.mem ((c.tc : Thread Cert.PlainDownLnIdeal.nD Cert.PlainDownLnIdeal.τ).loc Cert.PlainDownLnIdeal.main_arg0) = m' ((c.tc : Thread Cert.PlainDownLnIdeal.nD Cert.PlainDownLnIdeal.τ).loc Cert.PlainDownLnIdeal.main_arg0)
          ∧ r.2.mem ((c.tc : Thread Cert.PlainDownLnIdeal.nD Cert.PlainDownLnIdeal.τ).loc Cert.PlainDownLnIdeal.main_arg1) = m' ((c.tc : Thread Cert.PlainDownLnIdeal.nD Cert.PlainDownLnIdeal.τ).loc Cert.PlainDownLnIdeal.main_arg1)
          ∧ r.2.mem ((c.tc : Thread Cert.PlainDownLnIdeal.nD Cert.PlainDownLnIdeal.τ).loc Cert.PlainDownLnIdeal.main_arg2) = m' ((c.tc : Thread Cert.PlainDownLnIdeal.nD Cert.PlainDownLnIdeal.τ).loc Cert.PlainDownLnIdeal.main_arg2)
          ∧ r.2.mem ((c.tc : Thread Cert.PlainDownLnIdeal.nD Cert.PlainDownLnIdeal.τ).loc Cert.PlainDownLnIdeal.main_arg3) = m' ((c.tc : Thread Cert.PlainDownLnIdeal.nD Cert.PlainDownLnIdeal.τ).loc Cert.PlainDownLnIdeal.main_arg3)
          ∧ r.2.mem ((c.tc : Thread Cert.PlainDownLnIdeal.nD Cert.PlainDownLnIdeal.τ).loc Cert.PlainDownLnIdeal.main_arg4) = m' ((c.tc : Thread Cert.PlainDownLnIdeal.nD Cert.PlainDownLnIdeal.τ).loc Cert.PlainDownLnIdeal.main_arg4))

def preserves_MergeFwd_MergeFwdIdeal : Prop :=
  True

def algebraic_MergeFwdIdeal_PlainMergeFwdIdeal [hMergeFwdIdeal : Cert.MergeFwdIdeal.Facts] [hPlainMergeFwdIdeal : Cert.PlainMergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.PlainMergeFwdIdeal.nD Cert.PlainMergeFwdIdeal.τ Cert.PlainMergeFwdIdeal.sig) → Buf (Elt Ideal) ℓ) (g' : Dev Cert.PlainMergeFwdIdeal.nD → PrngReg), Pre_MergeFwdIdeal m →
    (∀ c : Dev Cert.MergeFwdIdeal.nD,
      m' ((c.tc : Thread Cert.PlainMergeFwdIdeal.nD Cert.PlainMergeFwdIdeal.τ).loc Cert.PlainMergeFwdIdeal.main_arg0) = m ((c.tc : Thread Cert.MergeFwdIdeal.nD Cert.MergeFwdIdeal.τ).loc Cert.MergeFwdIdeal.main_arg0)
      ∧ m' ((c.tc : Thread Cert.PlainMergeFwdIdeal.nD Cert.PlainMergeFwdIdeal.τ).loc Cert.PlainMergeFwdIdeal.main_arg1) = m ((c.tc : Thread Cert.MergeFwdIdeal.nD Cert.MergeFwdIdeal.τ).loc Cert.MergeFwdIdeal.main_arg1)
      ∧ m' ((c.tc : Thread Cert.PlainMergeFwdIdeal.nD Cert.PlainMergeFwdIdeal.τ).loc Cert.PlainMergeFwdIdeal.main_arg2) = m ((c.tc : Thread Cert.MergeFwdIdeal.nD Cert.MergeFwdIdeal.τ).loc Cert.MergeFwdIdeal.main_arg2)
      ∧ m' ((c.tc : Thread Cert.PlainMergeFwdIdeal.nD Cert.PlainMergeFwdIdeal.τ).loc Cert.PlainMergeFwdIdeal.main_arg3) = m ((c.tc : Thread Cert.MergeFwdIdeal.nD Cert.MergeFwdIdeal.τ).loc Cert.MergeFwdIdeal.main_arg3)
      ∧ m' ((c.tc : Thread Cert.PlainMergeFwdIdeal.nD Cert.PlainMergeFwdIdeal.τ).loc Cert.PlainMergeFwdIdeal.main_arg4) = m ((c.tc : Thread Cert.MergeFwdIdeal.nD Cert.MergeFwdIdeal.τ).loc Cert.MergeFwdIdeal.main_arg4)
      ∧ m' ((c.tc : Thread Cert.PlainMergeFwdIdeal.nD Cert.PlainMergeFwdIdeal.τ).loc Cert.PlainMergeFwdIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.PlainMergeFwdIdeal.defs (F := Ideal)) (onTc (τ := Cert.PlainMergeFwdIdeal.τ) (Cert.PlainMergeFwdIdeal.main (F := Ideal))) ⟨m', fun _ => 0, g'⟩ (fun r => ∀ c : Dev Cert.PlainMergeFwdIdeal.nD,
          r.2.mem ((c.tc : Thread Cert.PlainMergeFwdIdeal.nD Cert.PlainMergeFwdIdeal.τ).loc Cert.PlainMergeFwdIdeal.main_v22) = v0 c
          ∧ r.2.mem ((c.tc : Thread Cert.PlainMergeFwdIdeal.nD Cert.PlainMergeFwdIdeal.τ).loc Cert.PlainMergeFwdIdeal.main_arg0) = m' ((c.tc : Thread Cert.PlainMergeFwdIdeal.nD Cert.PlainMergeFwdIdeal.τ).loc Cert.PlainMergeFwdIdeal.main_arg0)
          ∧ r.2.mem ((c.tc : Thread Cert.PlainMergeFwdIdeal.nD Cert.PlainMergeFwdIdeal.τ).loc Cert.PlainMergeFwdIdeal.main_arg1) = m' ((c.tc : Thread Cert.PlainMergeFwdIdeal.nD Cert.PlainMergeFwdIdeal.τ).loc Cert.PlainMergeFwdIdeal.main_arg1)
          ∧ r.2.mem ((c.tc : Thread Cert.PlainMergeFwdIdeal.nD Cert.PlainMergeFwdIdeal.τ).loc Cert.PlainMergeFwdIdeal.main_arg2) = m' ((c.tc : Thread Cert.PlainMergeFwdIdeal.nD Cert.PlainMergeFwdIdeal.τ).loc Cert.PlainMergeFwdIdeal.main_arg2)
          ∧ r.2.mem ((c.tc : Thread Cert.PlainMergeFwdIdeal.nD Cert.PlainMergeFwdIdeal.τ).loc Cert.PlainMergeFwdIdeal.main_arg3) = m' ((c.tc : Thread Cert.PlainMergeFwdIdeal.nD Cert.PlainMergeFwdIdeal.τ).loc Cert.PlainMergeFwdIdeal.main_arg3)
          ∧ r.2.mem ((c.tc : Thread Cert.PlainMergeFwdIdeal.nD Cert.PlainMergeFwdIdeal.τ).loc Cert.PlainMergeFwdIdeal.main_arg4) = m' ((c.tc : Thread Cert.PlainMergeFwdIdeal.nD Cert.PlainMergeFwdIdeal.τ).loc Cert.PlainMergeFwdIdeal.main_arg4)
          ∧ r.2.mem ((c.tc : Thread Cert.PlainMergeFwdIdeal.nD Cert.PlainMergeFwdIdeal.τ).loc Cert.PlainMergeFwdIdeal.main_arg5) = m' ((c.tc : Thread Cert.PlainMergeFwdIdeal.nD Cert.PlainMergeFwdIdeal.τ).loc Cert.PlainMergeFwdIdeal.main_arg5))

def preserves_MixLn_MixLnIdeal : Prop :=
  True

def algebraic_MixLnIdeal_PlainMixLnIdeal [hMixLnIdeal : Cert.MixLnIdeal.Facts] [hPlainMixLnIdeal : Cert.PlainMixLnIdeal.Facts] : Prop :=
  ∀ (m : (ℓ : Loc Cert.MixLnIdeal.nD Cert.MixLnIdeal.τ Cert.MixLnIdeal.sig) → Buf (Elt Ideal) ℓ) (g : Dev Cert.MixLnIdeal.nD → PrngReg)
    (m' : (ℓ : Loc Cert.PlainMixLnIdeal.nD Cert.PlainMixLnIdeal.τ Cert.PlainMixLnIdeal.sig) → Buf (Elt Ideal) ℓ) (g' : Dev Cert.PlainMixLnIdeal.nD → PrngReg), Pre_MixLnIdeal m →
    (∀ c : Dev Cert.MixLnIdeal.nD,
      m' ((c.tc : Thread Cert.PlainMixLnIdeal.nD Cert.PlainMixLnIdeal.τ).loc Cert.PlainMixLnIdeal.main_arg0) = m ((c.tc : Thread Cert.MixLnIdeal.nD Cert.MixLnIdeal.τ).loc Cert.MixLnIdeal.main_arg0)
      ∧ m' ((c.tc : Thread Cert.PlainMixLnIdeal.nD Cert.PlainMixLnIdeal.τ).loc Cert.PlainMixLnIdeal.main_arg1) = m ((c.tc : Thread Cert.MixLnIdeal.nD Cert.MixLnIdeal.τ).loc Cert.MixLnIdeal.main_arg1)
      ∧ m' ((c.tc : Thread Cert.PlainMixLnIdeal.nD Cert.PlainMixLnIdeal.τ).loc Cert.PlainMixLnIdeal.main_arg2) = m ((c.tc : Thread Cert.MixLnIdeal.nD Cert.MixLnIdeal.τ).loc Cert.MixLnIdeal.main_arg2)
      ∧ m' ((c.tc : Thread Cert.PlainMixLnIdeal.nD Cert.PlainMixLnIdeal.τ).loc Cert.PlainMixLnIdeal.main_arg3) = m ((c.tc : Thread Cert.MixLnIdeal.nD Cert.MixLnIdeal.τ).loc Cert.MixLnIdeal.main_arg3)
      ∧ m' ((c.tc : Thread Cert.PlainMixLnIdeal.nD Cert.PlainMixLnIdeal.τ).loc Cert.PlainMixLnIdeal.main_arg4) = m ((c.tc : Thread Cert.MixLnIdeal.nD Cert.MixLnIdeal.τ).loc Cert.MixLnIdeal.main_arg4)) →
    ∃ (v0 : (c : Dev Cert.MixLnIdeal.nD) → Buf (Elt Ideal) ((c.tc : Thread Cert.MixLnIdeal.nD Cert.MixLnIdeal.τ).loc Cert.MixLnIdeal.main_v0_0)) (v1 : (c : Dev Cert.MixLnIdeal.nD) → Buf (Elt Ideal) ((c.tc : Thread Cert.MixLnIdeal.nD Cert.MixLnIdeal.τ).loc Cert.MixLnIdeal.main_v0_1)) (v2 : (c : Dev Cert.MixLnIdeal.nD) → Buf (Elt Ideal) ((c.tc : Thread Cert.MixLnIdeal.nD Cert.MixLnIdeal.τ).loc Cert.MixLnIdeal.main_v0_2)) (v3 : (c : Dev Cert.MixLnIdeal.nD) → Buf (Elt Ideal) ((c.tc : Thread Cert.MixLnIdeal.nD Cert.MixLnIdeal.τ).loc Cert.MixLnIdeal.main_v0_3)),
      θ_run (Cert.MixLnIdeal.defs (F := Ideal)) (onTc (τ := Cert.MixLnIdeal.τ) (Cert.MixLnIdeal.main (F := Ideal))) ⟨m, fun _ => 0, g⟩ (fun r => ∀ c : Dev Cert.MixLnIdeal.nD,
          r.2.mem ((c.tc : Thread Cert.MixLnIdeal.nD Cert.MixLnIdeal.τ).loc Cert.MixLnIdeal.main_v0_0) = v0 c
          ∧ r.2.mem ((c.tc : Thread Cert.MixLnIdeal.nD Cert.MixLnIdeal.τ).loc Cert.MixLnIdeal.main_v0_1) = v1 c
          ∧ r.2.mem ((c.tc : Thread Cert.MixLnIdeal.nD Cert.MixLnIdeal.τ).loc Cert.MixLnIdeal.main_v0_2) = v2 c
          ∧ r.2.mem ((c.tc : Thread Cert.MixLnIdeal.nD Cert.MixLnIdeal.τ).loc Cert.MixLnIdeal.main_v0_3) = v3 c
          ∧ r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
          ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
          ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
          ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
          ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4))
      ∧ θ_run (Cert.PlainMixLnIdeal.defs (F := Ideal)) (onTc (τ := Cert.PlainMixLnIdeal.τ) (Cert.PlainMixLnIdeal.main (F := Ideal))) ⟨m', fun _ => 0, g'⟩ (fun r => ∀ c : Dev Cert.PlainMixLnIdeal.nD,
          r.2.mem ((c.tc : Thread Cert.PlainMixLnIdeal.nD Cert.PlainMixLnIdeal.τ).loc Cert.PlainMixLnIdeal.main_v27) = v0 c
          ∧ r.2.mem ((c.tc : Thread Cert.PlainMixLnIdeal.nD Cert.PlainMixLnIdeal.τ).loc Cert.PlainMixLnIdeal.main_v28) = v1 c
          ∧ r.2.mem ((c.tc : Thread Cert.PlainMixLnIdeal.nD Cert.PlainMixLnIdeal.τ).loc Cert.PlainMixLnIdeal.main_v46) = v2 c
          ∧ r.2.mem ((c.tc : Thread Cert.PlainMixLnIdeal.nD Cert.PlainMixLnIdeal.τ).loc Cert.PlainMixLnIdeal.main_v42) = v3 c
          ∧ r.2.mem ((c.tc : Thread Cert.PlainMixLnIdeal.nD Cert.PlainMixLnIdeal.τ).loc Cert.PlainMixLnIdeal.main_arg0) = m' ((c.tc : Thread Cert.PlainMixLnIdeal.nD Cert.PlainMixLnIdeal.τ).loc Cert.PlainMixLnIdeal.main_arg0)
          ∧ r.2.mem ((c.tc : Thread Cert.PlainMixLnIdeal.nD Cert.PlainMixLnIdeal.τ).loc Cert.PlainMixLnIdeal.main_arg1) = m' ((c.tc : Thread Cert.PlainMixLnIdeal.nD Cert.PlainMixLnIdeal.τ).loc Cert.PlainMixLnIdeal.main_arg1)
          ∧ r.2.mem ((c.tc : Thread Cert.PlainMixLnIdeal.nD Cert.PlainMixLnIdeal.τ).loc Cert.PlainMixLnIdeal.main_arg2) = m' ((c.tc : Thread Cert.PlainMixLnIdeal.nD Cert.PlainMixLnIdeal.τ).loc Cert.PlainMixLnIdeal.main_arg2)
          ∧ r.2.mem ((c.tc : Thread Cert.PlainMixLnIdeal.nD Cert.PlainMixLnIdeal.τ).loc Cert.PlainMixLnIdeal.main_arg3) = m' ((c.tc : Thread Cert.PlainMixLnIdeal.nD Cert.PlainMixLnIdeal.τ).loc Cert.PlainMixLnIdeal.main_arg3)
          ∧ r.2.mem ((c.tc : Thread Cert.PlainMixLnIdeal.nD Cert.PlainMixLnIdeal.τ).loc Cert.PlainMixLnIdeal.main_arg4) = m' ((c.tc : Thread Cert.PlainMixLnIdeal.nD Cert.PlainMixLnIdeal.τ).loc Cert.PlainMixLnIdeal.main_arg4))

def preserves_XoLn_XoLnIdeal : Prop :=
  True

def algebraic_XoLnIdeal_PlainXoLnIdeal [hXoLnIdeal : Cert.XoLnIdeal.Facts] [hPlainXoLnIdeal : Cert.PlainXoLnIdeal.Facts] : Prop :=
  ∀ (m : (ℓ : Loc Cert.XoLnIdeal.nD Cert.XoLnIdeal.τ Cert.XoLnIdeal.sig) → Buf (Elt Ideal) ℓ) (g : Dev Cert.XoLnIdeal.nD → PrngReg)
    (m' : (ℓ : Loc Cert.PlainXoLnIdeal.nD Cert.PlainXoLnIdeal.τ Cert.PlainXoLnIdeal.sig) → Buf (Elt Ideal) ℓ) (g' : Dev Cert.PlainXoLnIdeal.nD → PrngReg), Pre_XoLnIdeal m →
    (∀ c : Dev Cert.XoLnIdeal.nD,
      m' ((c.tc : Thread Cert.PlainXoLnIdeal.nD Cert.PlainXoLnIdeal.τ).loc Cert.PlainXoLnIdeal.main_arg0) = m ((c.tc : Thread Cert.XoLnIdeal.nD Cert.XoLnIdeal.τ).loc Cert.XoLnIdeal.main_arg0)
      ∧ m' ((c.tc : Thread Cert.PlainXoLnIdeal.nD Cert.PlainXoLnIdeal.τ).loc Cert.PlainXoLnIdeal.main_arg1) = m ((c.tc : Thread Cert.XoLnIdeal.nD Cert.XoLnIdeal.τ).loc Cert.XoLnIdeal.main_arg1)
      ∧ m' ((c.tc : Thread Cert.PlainXoLnIdeal.nD Cert.PlainXoLnIdeal.τ).loc Cert.PlainXoLnIdeal.main_arg2) = m ((c.tc : Thread Cert.XoLnIdeal.nD Cert.XoLnIdeal.τ).loc Cert.XoLnIdeal.main_arg2)
      ∧ m' ((c.tc : Thread Cert.PlainXoLnIdeal.nD Cert.PlainXoLnIdeal.τ).loc Cert.PlainXoLnIdeal.main_arg3) = m ((c.tc : Thread Cert.XoLnIdeal.nD Cert.XoLnIdeal.τ).loc Cert.XoLnIdeal.main_arg3)
      ∧ m' ((c.tc : Thread Cert.PlainXoLnIdeal.nD Cert.PlainXoLnIdeal.τ).loc Cert.PlainXoLnIdeal.main_arg4) = m ((c.tc : Thread Cert.XoLnIdeal.nD Cert.XoLnIdeal.τ).loc Cert.XoLnIdeal.main_arg4)) →
    ∃ (v0 : (c : Dev Cert.XoLnIdeal.nD) → Buf (Elt Ideal) ((c.tc : Thread Cert.XoLnIdeal.nD Cert.XoLnIdeal.τ).loc Cert.XoLnIdeal.main_v0_0)) (v1 : (c : Dev Cert.XoLnIdeal.nD) → Buf (Elt Ideal) ((c.tc : Thread Cert.XoLnIdeal.nD Cert.XoLnIdeal.τ).loc Cert.XoLnIdeal.main_v0_1)) (v2 : (c : Dev Cert.XoLnIdeal.nD) → Buf (Elt Ideal) ((c.tc : Thread Cert.XoLnIdeal.nD Cert.XoLnIdeal.τ).loc Cert.XoLnIdeal.main_v0_2)) (v3 : (c : Dev Cert.XoLnIdeal.nD) → Buf (Elt Ideal) ((c.tc : Thread Cert.XoLnIdeal.nD Cert.XoLnIdeal.τ).loc Cert.XoLnIdeal.main_v0_3)),
      θ_run (Cert.XoLnIdeal.defs (F := Ideal)) (onTc (τ := Cert.XoLnIdeal.τ) (Cert.XoLnIdeal.main (F := Ideal))) ⟨m, fun _ => 0, g⟩ (fun r => ∀ c : Dev Cert.XoLnIdeal.nD,
          r.2.mem ((c.tc : Thread Cert.XoLnIdeal.nD Cert.XoLnIdeal.τ).loc Cert.XoLnIdeal.main_v0_0) = v0 c
          ∧ r.2.mem ((c.tc : Thread Cert.XoLnIdeal.nD Cert.XoLnIdeal.τ).loc Cert.XoLnIdeal.main_v0_1) = v1 c
          ∧ r.2.mem ((c.tc : Thread Cert.XoLnIdeal.nD Cert.XoLnIdeal.τ).loc Cert.XoLnIdeal.main_v0_2) = v2 c
          ∧ r.2.mem ((c.tc : Thread Cert.XoLnIdeal.nD Cert.XoLnIdeal.τ).loc Cert.XoLnIdeal.main_v0_3) = v3 c
          ∧ r.2.mem ((c.tc : Thread Cert.XoLnIdeal.nD Cert.XoLnIdeal.τ).loc Cert.XoLnIdeal.main_arg0) = m ((c.tc : Thread Cert.XoLnIdeal.nD Cert.XoLnIdeal.τ).loc Cert.XoLnIdeal.main_arg0)
          ∧ r.2.mem ((c.tc : Thread Cert.XoLnIdeal.nD Cert.XoLnIdeal.τ).loc Cert.XoLnIdeal.main_arg1) = m ((c.tc : Thread Cert.XoLnIdeal.nD Cert.XoLnIdeal.τ).loc Cert.XoLnIdeal.main_arg1)
          ∧ r.2.mem ((c.tc : Thread Cert.XoLnIdeal.nD Cert.XoLnIdeal.τ).loc Cert.XoLnIdeal.main_arg2) = m ((c.tc : Thread Cert.XoLnIdeal.nD Cert.XoLnIdeal.τ).loc Cert.XoLnIdeal.main_arg2)
          ∧ r.2.mem ((c.tc : Thread Cert.XoLnIdeal.nD Cert.XoLnIdeal.τ).loc Cert.XoLnIdeal.main_arg3) = m ((c.tc : Thread Cert.XoLnIdeal.nD Cert.XoLnIdeal.τ).loc Cert.XoLnIdeal.main_arg3)
          ∧ r.2.mem ((c.tc : Thread Cert.XoLnIdeal.nD Cert.XoLnIdeal.τ).loc Cert.XoLnIdeal.main_arg4) = m ((c.tc : Thread Cert.XoLnIdeal.nD Cert.XoLnIdeal.τ).loc Cert.XoLnIdeal.main_arg4))
      ∧ θ_run (Cert.PlainXoLnIdeal.defs (F := Ideal)) (onTc (τ := Cert.PlainXoLnIdeal.τ) (Cert.PlainXoLnIdeal.main (F := Ideal))) ⟨m', fun _ => 0, g'⟩ (fun r => ∀ c : Dev Cert.PlainXoLnIdeal.nD,
          r.2.mem ((c.tc : Thread Cert.PlainXoLnIdeal.nD Cert.PlainXoLnIdeal.τ).loc Cert.PlainXoLnIdeal.main_v27) = v0 c
          ∧ r.2.mem ((c.tc : Thread Cert.PlainXoLnIdeal.nD Cert.PlainXoLnIdeal.τ).loc Cert.PlainXoLnIdeal.main_v28) = v1 c
          ∧ r.2.mem ((c.tc : Thread Cert.PlainXoLnIdeal.nD Cert.PlainXoLnIdeal.τ).loc Cert.PlainXoLnIdeal.main_v46) = v2 c
          ∧ r.2.mem ((c.tc : Thread Cert.PlainXoLnIdeal.nD Cert.PlainXoLnIdeal.τ).loc Cert.PlainXoLnIdeal.main_v42) = v3 c
          ∧ r.2.mem ((c.tc : Thread Cert.PlainXoLnIdeal.nD Cert.PlainXoLnIdeal.τ).loc Cert.PlainXoLnIdeal.main_arg0) = m' ((c.tc : Thread Cert.PlainXoLnIdeal.nD Cert.PlainXoLnIdeal.τ).loc Cert.PlainXoLnIdeal.main_arg0)
          ∧ r.2.mem ((c.tc : Thread Cert.PlainXoLnIdeal.nD Cert.PlainXoLnIdeal.τ).loc Cert.PlainXoLnIdeal.main_arg1) = m' ((c.tc : Thread Cert.PlainXoLnIdeal.nD Cert.PlainXoLnIdeal.τ).loc Cert.PlainXoLnIdeal.main_arg1)
          ∧ r.2.mem ((c.tc : Thread Cert.PlainXoLnIdeal.nD Cert.PlainXoLnIdeal.τ).loc Cert.PlainXoLnIdeal.main_arg2) = m' ((c.tc : Thread Cert.PlainXoLnIdeal.nD Cert.PlainXoLnIdeal.τ).loc Cert.PlainXoLnIdeal.main_arg2)
          ∧ r.2.mem ((c.tc : Thread Cert.PlainXoLnIdeal.nD Cert.PlainXoLnIdeal.τ).loc Cert.PlainXoLnIdeal.main_arg3) = m' ((c.tc : Thread Cert.PlainXoLnIdeal.nD Cert.PlainXoLnIdeal.τ).loc Cert.PlainXoLnIdeal.main_arg3)
          ∧ r.2.mem ((c.tc : Thread Cert.PlainXoLnIdeal.nD Cert.PlainXoLnIdeal.τ).loc Cert.PlainXoLnIdeal.main_arg4) = m' ((c.tc : Thread Cert.PlainXoLnIdeal.nD Cert.PlainXoLnIdeal.τ).loc Cert.PlainXoLnIdeal.main_arg4))

def preserves_Xq_XqIdeal : Prop :=
  True

def algebraic_XqIdeal_PlainXqIdeal [hXqIdeal : Cert.XqIdeal.Facts] [hPlainXqIdeal : Cert.PlainXqIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.PlainXqIdeal.nD Cert.PlainXqIdeal.τ Cert.PlainXqIdeal.sig) → Buf (Elt Ideal) ℓ) (g' : Dev Cert.PlainXqIdeal.nD → PrngReg), Pre_XqIdeal m →
    (∀ c : Dev Cert.XqIdeal.nD,
      m' ((c.tc : Thread Cert.PlainXqIdeal.nD Cert.PlainXqIdeal.τ).loc Cert.PlainXqIdeal.main_arg0) = m ((c.tc : Thread Cert.XqIdeal.nD Cert.XqIdeal.τ).loc Cert.XqIdeal.main_arg0)
      ∧ m' ((c.tc : Thread Cert.PlainXqIdeal.nD Cert.PlainXqIdeal.τ).loc Cert.PlainXqIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.PlainXqIdeal.defs (F := Ideal)) (onTc (τ := Cert.PlainXqIdeal.τ) (Cert.PlainXqIdeal.main (F := Ideal))) ⟨m', fun _ => 0, g'⟩ (fun r => ∀ c : Dev Cert.PlainXqIdeal.nD,
          r.2.mem ((c.tc : Thread Cert.PlainXqIdeal.nD Cert.PlainXqIdeal.τ).loc Cert.PlainXqIdeal.main_v3) = v0 c
          ∧ r.2.mem ((c.tc : Thread Cert.PlainXqIdeal.nD Cert.PlainXqIdeal.τ).loc Cert.PlainXqIdeal.main_arg0) = m' ((c.tc : Thread Cert.PlainXqIdeal.nD Cert.PlainXqIdeal.τ).loc Cert.PlainXqIdeal.main_arg0)
          ∧ r.2.mem ((c.tc : Thread Cert.PlainXqIdeal.nD Cert.PlainXqIdeal.τ).loc Cert.PlainXqIdeal.main_arg1) = m' ((c.tc : Thread Cert.PlainXqIdeal.nD Cert.PlainXqIdeal.τ).loc Cert.PlainXqIdeal.main_arg1))

def preserves_DwUpA_DwUpAIdeal : Prop :=
  True

def algebraic_DwUpAIdeal_PlainDwUpAIdeal [hDwUpAIdeal : Cert.DwUpAIdeal.Facts] [hPlainDwUpAIdeal : Cert.PlainDwUpAIdeal.Facts] : Prop :=
  ∀ (m : (ℓ : Loc Cert.DwUpAIdeal.nD Cert.DwUpAIdeal.τ Cert.DwUpAIdeal.sig) → Buf (Elt Ideal) ℓ) (g : Dev Cert.DwUpAIdeal.nD → PrngReg)
    (m' : (ℓ : Loc Cert.PlainDwUpAIdeal.nD Cert.PlainDwUpAIdeal.τ Cert.PlainDwUpAIdeal.sig) → Buf (Elt Ideal) ℓ) (g' : Dev Cert.PlainDwUpAIdeal.nD → PrngReg), Pre_DwUpAIdeal m →
    (∀ c : Dev Cert.DwUpAIdeal.nD,
      m' ((c.tc : Thread Cert.PlainDwUpAIdeal.nD Cert.PlainDwUpAIdeal.τ).loc Cert.PlainDwUpAIdeal.main_arg0) = m ((c.tc : Thread Cert.DwUpAIdeal.nD Cert.DwUpAIdeal.τ).loc Cert.DwUpAIdeal.main_arg0)
      ∧ m' ((c.tc : Thread Cert.PlainDwUpAIdeal.nD Cert.PlainDwUpAIdeal.τ).loc Cert.PlainDwUpAIdeal.main_arg1) = m ((c.tc : Thread Cert.DwUpAIdeal.nD Cert.DwUpAIdeal.τ).loc Cert.DwUpAIdeal.main_arg1)
      ∧ m' ((c.tc : Thread Cert.PlainDwUpAIdeal.nD Cert.PlainDwUpAIdeal.τ).loc Cert.PlainDwUpAIdeal.main_arg2) = m ((c.tc : Thread Cert.DwUpAIdeal.nD Cert.DwUpAIdeal.τ).loc Cert.DwUpAIdeal.main_arg2)) →
    ∃ (v0 : (c : Dev Cert.DwUpAIdeal.nD) → Buf (Elt Ideal) ((c.tc : Thread Cert.DwUpAIdeal.nD Cert.DwUpAIdeal.τ).loc Cert.DwUpAIdeal.main_v0)),
      θ_run (Cert.DwUpAIdeal.defs (F := Ideal)) (onTc (τ := Cert.DwUpAIdeal.τ) (Cert.DwUpAIdeal.main (F := Ideal))) ⟨m, fun _ => 0, g⟩ (fun r => ∀ c : Dev Cert.DwUpAIdeal.nD,
          r.2.mem ((c.tc : Thread Cert.DwUpAIdeal.nD Cert.DwUpAIdeal.τ).loc Cert.DwUpAIdeal.main_v0) = v0 c
          ∧ r.2.mem ((c.tc : Thread Cert.DwUpAIdeal.nD Cert.DwUpAIdeal.τ).loc Cert.DwUpAIdeal.main_arg0) = m ((c.tc : Thread Cert.DwUpAIdeal.nD Cert.DwUpAIdeal.τ).loc Cert.DwUpAIdeal.main_arg0)
          ∧ r.2.mem ((c.tc : Thread Cert.DwUpAIdeal.nD Cert.DwUpAIdeal.τ).loc Cert.DwUpAIdeal.main_arg1) = m ((c.tc : Thread Cert.DwUpAIdeal.nD Cert.DwUpAIdeal.τ).loc Cert.DwUpAIdeal.main_arg1)
          ∧ r.2.mem ((c.tc : Thread Cert.DwUpAIdeal.nD Cert.DwUpAIdeal.τ).loc Cert.DwUpAIdeal.main_arg2) = m ((c.tc : Thread Cert.DwUpAIdeal.nD Cert.DwUpAIdeal.τ).loc Cert.DwUpAIdeal.main_arg2))
      ∧ θ_run (Cert.PlainDwUpAIdeal.defs (F := Ideal)) (onTc (τ := Cert.PlainDwUpAIdeal.τ) (Cert.PlainDwUpAIdeal.main (F := Ideal))) ⟨m', fun _ => 0, g'⟩ (fun r => ∀ c : Dev Cert.PlainDwUpAIdeal.nD,
          r.2.mem ((c.tc : Thread Cert.PlainDwUpAIdeal.nD Cert.PlainDwUpAIdeal.τ).loc Cert.PlainDwUpAIdeal.main_v9) = v0 c
          ∧ r.2.mem ((c.tc : Thread Cert.PlainDwUpAIdeal.nD Cert.PlainDwUpAIdeal.τ).loc Cert.PlainDwUpAIdeal.main_arg0) = m' ((c.tc : Thread Cert.PlainDwUpAIdeal.nD Cert.PlainDwUpAIdeal.τ).loc Cert.PlainDwUpAIdeal.main_arg0)
          ∧ r.2.mem ((c.tc : Thread Cert.PlainDwUpAIdeal.nD Cert.PlainDwUpAIdeal.τ).loc Cert.PlainDwUpAIdeal.main_arg1) = m' ((c.tc : Thread Cert.PlainDwUpAIdeal.nD Cert.PlainDwUpAIdeal.τ).loc Cert.PlainDwUpAIdeal.main_arg1)
          ∧ r.2.mem ((c.tc : Thread Cert.PlainDwUpAIdeal.nD Cert.PlainDwUpAIdeal.τ).loc Cert.PlainDwUpAIdeal.main_arg2) = m' ((c.tc : Thread Cert.PlainDwUpAIdeal.nD Cert.PlainDwUpAIdeal.τ).loc Cert.PlainDwUpAIdeal.main_arg2))

def preserves_DwInA_DwInAIdeal : Prop :=
  True

def algebraic_DwInAIdeal_PlainDwInAIdeal [hDwInAIdeal : Cert.DwInAIdeal.Facts] [hPlainDwInAIdeal : Cert.PlainDwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.PlainDwInAIdeal.nD Cert.PlainDwInAIdeal.τ Cert.PlainDwInAIdeal.sig) → Buf (Elt Ideal) ℓ) (g' : Dev Cert.PlainDwInAIdeal.nD → PrngReg), Pre_DwInAIdeal m →
    (∀ c : Dev Cert.DwInAIdeal.nD,
      m' ((c.tc : Thread Cert.PlainDwInAIdeal.nD Cert.PlainDwInAIdeal.τ).loc Cert.PlainDwInAIdeal.main_arg0) = m ((c.tc : Thread Cert.DwInAIdeal.nD Cert.DwInAIdeal.τ).loc Cert.DwInAIdeal.main_arg0)
      ∧ m' ((c.tc : Thread Cert.PlainDwInAIdeal.nD Cert.PlainDwInAIdeal.τ).loc Cert.PlainDwInAIdeal.main_arg1) = m ((c.tc : Thread Cert.DwInAIdeal.nD Cert.DwInAIdeal.τ).loc Cert.DwInAIdeal.main_arg1)
      ∧ m' ((c.tc : Thread Cert.PlainDwInAIdeal.nD Cert.PlainDwInAIdeal.τ).loc Cert.PlainDwInAIdeal.main_arg2) = m ((c.tc : Thread Cert.DwInAIdeal.nD Cert.DwInAIdeal.τ).loc Cert.DwInAIdeal.main_arg2)) →
    ∃ (v0 : (c : Dev Cert.DwInAIdeal.nD) → Buf (Elt Ideal) ((c.tc : Thread Cert.DwInAIdeal.nD Cert.DwInAIdeal.τ).loc Cert.DwInAIdeal.main_v0)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v0) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
          ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ θ_run (Cert.PlainDwInAIdeal.defs (F := Ideal)) (onTc (τ := Cert.PlainDwInAIdeal.τ) (Cert.PlainDwInAIdeal.main (F := Ideal))) ⟨m', fun _ => 0, g'⟩ (fun r => ∀ c : Dev Cert.PlainDwInAIdeal.nD,
          r.2.mem ((c.tc : Thread Cert.PlainDwInAIdeal.nD Cert.PlainDwInAIdeal.τ).loc Cert.PlainDwInAIdeal.main_v9) = v0 c
          ∧ r.2.mem ((c.tc : Thread Cert.PlainDwInAIdeal.nD Cert.PlainDwInAIdeal.τ).loc Cert.PlainDwInAIdeal.main_arg0) = m' ((c.tc : Thread Cert.PlainDwInAIdeal.nD Cert.PlainDwInAIdeal.τ).loc Cert.PlainDwInAIdeal.main_arg0)
          ∧ r.2.mem ((c.tc : Thread Cert.PlainDwInAIdeal.nD Cert.PlainDwInAIdeal.τ).loc Cert.PlainDwInAIdeal.main_arg1) = m' ((c.tc : Thread Cert.PlainDwInAIdeal.nD Cert.PlainDwInAIdeal.τ).loc Cert.PlainDwInAIdeal.main_arg1)
          ∧ r.2.mem ((c.tc : Thread Cert.PlainDwInAIdeal.nD Cert.PlainDwInAIdeal.τ).loc Cert.PlainDwInAIdeal.main_arg2) = m' ((c.tc : Thread Cert.PlainDwInAIdeal.nD Cert.PlainDwInAIdeal.τ).loc Cert.PlainDwInAIdeal.main_arg2))

def preserves_DwInB_DwInBIdeal : Prop :=
  True

def algebraic_DwInBIdeal_PlainDwInBIdeal [hDwInBIdeal : Cert.DwInBIdeal.Facts] [hPlainDwInBIdeal : Cert.PlainDwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.PlainDwInBIdeal.nD Cert.PlainDwInBIdeal.τ Cert.PlainDwInBIdeal.sig) → Buf (Elt Ideal) ℓ) (g' : Dev Cert.PlainDwInBIdeal.nD → PrngReg), Pre_DwInBIdeal m →
    (∀ c : Dev Cert.DwInBIdeal.nD,
      m' ((c.tc : Thread Cert.PlainDwInBIdeal.nD Cert.PlainDwInBIdeal.τ).loc Cert.PlainDwInBIdeal.main_arg0) = m ((c.tc : Thread Cert.DwInBIdeal.nD Cert.DwInBIdeal.τ).loc Cert.DwInBIdeal.main_arg0)
      ∧ m' ((c.tc : Thread Cert.PlainDwInBIdeal.nD Cert.PlainDwInBIdeal.τ).loc Cert.PlainDwInBIdeal.main_arg1) = m ((c.tc : Thread Cert.DwInBIdeal.nD Cert.DwInBIdeal.τ).loc Cert.DwInBIdeal.main_arg1)
      ∧ m' ((c.tc : Thread Cert.PlainDwInBIdeal.nD Cert.PlainDwInBIdeal.τ).loc Cert.PlainDwInBIdeal.main_arg2) = m ((c.tc : Thread Cert.DwInBIdeal.nD Cert.DwInBIdeal.τ).loc Cert.DwInBIdeal.main_arg2)) →
    ∃ (v0 : (c : Dev Cert.DwInBIdeal.nD) → Buf (Elt Ideal) ((c.tc : Thread Cert.DwInBIdeal.nD Cert.DwInBIdeal.τ).loc Cert.DwInBIdeal.main_v0)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v0) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
          ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2))
      ∧ θ_run (Cert.PlainDwInBIdeal.defs (F := Ideal)) (onTc (τ := Cert.PlainDwInBIdeal.τ) (Cert.PlainDwInBIdeal.main (F := Ideal))) ⟨m', fun _ => 0, g'⟩ (fun r => ∀ c : Dev Cert.PlainDwInBIdeal.nD,
          r.2.mem ((c.tc : Thread Cert.PlainDwInBIdeal.nD Cert.PlainDwInBIdeal.τ).loc Cert.PlainDwInBIdeal.main_v10) = v0 c
          ∧ r.2.mem ((c.tc : Thread Cert.PlainDwInBIdeal.nD Cert.PlainDwInBIdeal.τ).loc Cert.PlainDwInBIdeal.main_arg0) = m' ((c.tc : Thread Cert.PlainDwInBIdeal.nD Cert.PlainDwInBIdeal.τ).loc Cert.PlainDwInBIdeal.main_arg0)
          ∧ r.2.mem ((c.tc : Thread Cert.PlainDwInBIdeal.nD Cert.PlainDwInBIdeal.τ).loc Cert.PlainDwInBIdeal.main_arg1) = m' ((c.tc : Thread Cert.PlainDwInBIdeal.nD Cert.PlainDwInBIdeal.τ).loc Cert.PlainDwInBIdeal.main_arg1)
          ∧ r.2.mem ((c.tc : Thread Cert.PlainDwInBIdeal.nD Cert.PlainDwInBIdeal.τ).loc Cert.PlainDwInBIdeal.main_arg2) = m' ((c.tc : Thread Cert.PlainDwInBIdeal.nD Cert.PlainDwInBIdeal.τ).loc Cert.PlainDwInBIdeal.main_arg2))

def preserves_DwInC_DwInCIdeal : Prop :=
  True

def algebraic_DwInCIdeal_PlainDwInCIdeal [hDwInCIdeal : Cert.DwInCIdeal.Facts] [hPlainDwInCIdeal : Cert.PlainDwInCIdeal.Facts] : Prop :=
  ∀ (m : (ℓ : Loc Cert.DwInCIdeal.nD Cert.DwInCIdeal.τ Cert.DwInCIdeal.sig) → Buf (Elt Ideal) ℓ) (g : Dev Cert.DwInCIdeal.nD → PrngReg)
    (m' : (ℓ : Loc Cert.PlainDwInCIdeal.nD Cert.PlainDwInCIdeal.τ Cert.PlainDwInCIdeal.sig) → Buf (Elt Ideal) ℓ) (g' : Dev Cert.PlainDwInCIdeal.nD → PrngReg), Pre_DwInCIdeal m →
    (∀ c : Dev Cert.DwInCIdeal.nD,
      m' ((c.tc : Thread Cert.PlainDwInCIdeal.nD Cert.PlainDwInCIdeal.τ).loc Cert.PlainDwInCIdeal.main_arg0) = m ((c.tc : Thread Cert.DwInCIdeal.nD Cert.DwInCIdeal.τ).loc Cert.DwInCIdeal.main_arg0)
      ∧ m' ((c.tc : Thread Cert.PlainDwInCIdeal.nD Cert.PlainDwInCIdeal.τ).loc Cert.PlainDwInCIdeal.main_arg1) = m ((c.tc : Thread Cert.DwInCIdeal.nD Cert.DwInCIdeal.τ).loc Cert.DwInCIdeal.main_arg1)
      ∧ m' ((c.tc : Thread Cert.PlainDwInCIdeal.nD Cert.PlainDwInCIdeal.τ).loc Cert.PlainDwInCIdeal.main_arg2) = m ((c.tc : Thread Cert.DwInCIdeal.nD Cert.DwInCIdeal.τ).loc Cert.DwInCIdeal.main_arg2)) →
    ∃ (v0 : (c : Dev Cert.DwInCIdeal.nD) → Buf (Elt Ideal) ((c.tc : Thread Cert.DwInCIdeal.nD Cert.DwInCIdeal.τ).loc Cert.DwInCIdeal.main_v0)),
      θ_run (Cert.DwInCIdeal.defs (F := Ideal)) (onTc (τ := Cert.DwInCIdeal.τ) (Cert.DwInCIdeal.main (F := Ideal))) ⟨m, fun _ => 0, g⟩ (fun r => ∀ c : Dev Cert.DwInCIdeal.nD,
          r.2.mem ((c.tc : Thread Cert.DwInCIdeal.nD Cert.DwInCIdeal.τ).loc Cert.DwInCIdeal.main_v0) = v0 c
          ∧ r.2.mem ((c.tc : Thread Cert.DwInCIdeal.nD Cert.DwInCIdeal.τ).loc Cert.DwInCIdeal.main_arg0) = m ((c.tc : Thread Cert.DwInCIdeal.nD Cert.DwInCIdeal.τ).loc Cert.DwInCIdeal.main_arg0)
          ∧ r.2.mem ((c.tc : Thread Cert.DwInCIdeal.nD Cert.DwInCIdeal.τ).loc Cert.DwInCIdeal.main_arg1) = m ((c.tc : Thread Cert.DwInCIdeal.nD Cert.DwInCIdeal.τ).loc Cert.DwInCIdeal.main_arg1)
          ∧ r.2.mem ((c.tc : Thread Cert.DwInCIdeal.nD Cert.DwInCIdeal.τ).loc Cert.DwInCIdeal.main_arg2) = m ((c.tc : Thread Cert.DwInCIdeal.nD Cert.DwInCIdeal.τ).loc Cert.DwInCIdeal.main_arg2))
      ∧ θ_run (Cert.PlainDwInCIdeal.defs (F := Ideal)) (onTc (τ := Cert.PlainDwInCIdeal.τ) (Cert.PlainDwInCIdeal.main (F := Ideal))) ⟨m', fun _ => 0, g'⟩ (fun r => ∀ c : Dev Cert.PlainDwInCIdeal.nD,
          r.2.mem ((c.tc : Thread Cert.PlainDwInCIdeal.nD Cert.PlainDwInCIdeal.τ).loc Cert.PlainDwInCIdeal.main_v9) = v0 c
          ∧ r.2.mem ((c.tc : Thread Cert.PlainDwInCIdeal.nD Cert.PlainDwInCIdeal.τ).loc Cert.PlainDwInCIdeal.main_arg0) = m' ((c.tc : Thread Cert.PlainDwInCIdeal.nD Cert.PlainDwInCIdeal.τ).loc Cert.PlainDwInCIdeal.main_arg0)
          ∧ r.2.mem ((c.tc : Thread Cert.PlainDwInCIdeal.nD Cert.PlainDwInCIdeal.τ).loc Cert.PlainDwInCIdeal.main_arg1) = m' ((c.tc : Thread Cert.PlainDwInCIdeal.nD Cert.PlainDwInCIdeal.τ).loc Cert.PlainDwInCIdeal.main_arg1)
          ∧ r.2.mem ((c.tc : Thread Cert.PlainDwInCIdeal.nD Cert.PlainDwInCIdeal.τ).loc Cert.PlainDwInCIdeal.main_arg2) = m' ((c.tc : Thread Cert.PlainDwInCIdeal.nD Cert.PlainDwInCIdeal.τ).loc Cert.PlainDwInCIdeal.main_arg2))

def preserves_DxUp_DxUpIdeal : Prop :=
  True

def algebraic_DxUpIdeal_PlainDxUpIdeal_pre_finite_dxup [hDxUpIdeal : Cert.DxUpIdeal.Facts] [hPlainDxUpIdeal : Cert.PlainDxUpIdeal.Facts] [hPre_finite_dxup : Cert.Pre_finite_dxup.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.PlainDxUpIdeal.nD Cert.PlainDxUpIdeal.τ Cert.PlainDxUpIdeal.sig) → Buf (Elt Ideal) ℓ) (g' : Dev Cert.PlainDxUpIdeal.nD → PrngReg), Pre_DxUpIdeal_finite_dxup m →
    (∀ c : Dev Cert.DxUpIdeal.nD,
      m' ((c.tc : Thread Cert.PlainDxUpIdeal.nD Cert.PlainDxUpIdeal.τ).loc Cert.PlainDxUpIdeal.main_arg0) = m ((c.tc : Thread Cert.DxUpIdeal.nD Cert.DxUpIdeal.τ).loc Cert.DxUpIdeal.main_arg0)
      ∧ m' ((c.tc : Thread Cert.PlainDxUpIdeal.nD Cert.PlainDxUpIdeal.τ).loc Cert.PlainDxUpIdeal.main_arg1) = m ((c.tc : Thread Cert.DxUpIdeal.nD Cert.DxUpIdeal.τ).loc Cert.DxUpIdeal.main_arg1)
      ∧ m' ((c.tc : Thread Cert.PlainDxUpIdeal.nD Cert.PlainDxUpIdeal.τ).loc Cert.PlainDxUpIdeal.main_arg2) = m ((c.tc : Thread Cert.DxUpIdeal.nD Cert.DxUpIdeal.τ).loc Cert.DxUpIdeal.main_arg2)
      ∧ m' ((c.tc : Thread Cert.PlainDxUpIdeal.nD Cert.PlainDxUpIdeal.τ).loc Cert.PlainDxUpIdeal.main_arg3) = m ((c.tc : Thread Cert.DxUpIdeal.nD Cert.DxUpIdeal.τ).loc Cert.DxUpIdeal.main_arg3)
      ∧ m' ((c.tc : Thread Cert.PlainDxUpIdeal.nD Cert.PlainDxUpIdeal.τ).loc Cert.PlainDxUpIdeal.main_arg4) = m ((c.tc : Thread Cert.DxUpIdeal.nD Cert.DxUpIdeal.τ).loc Cert.DxUpIdeal.main_arg4)
      ∧ m' ((c.tc : Thread Cert.PlainDxUpIdeal.nD Cert.PlainDxUpIdeal.τ).loc Cert.PlainDxUpIdeal.main_arg5) = m ((c.tc : Thread Cert.DxUpIdeal.nD Cert.DxUpIdeal.τ).loc Cert.DxUpIdeal.main_arg5)) →
    ∃ (v0 : (c : Dev Cert.DxUpIdeal.nD) → Buf (Elt Ideal) ((c.tc : Thread Cert.DxUpIdeal.nD Cert.DxUpIdeal.τ).loc Cert.DxUpIdeal.main_v18_0)) (v1 : (c : Dev Cert.DxUpIdeal.nD) → Buf (Elt Ideal) ((c.tc : Thread Cert.DxUpIdeal.nD Cert.DxUpIdeal.τ).loc Cert.DxUpIdeal.main_v18_1)) (v2 : (c : Dev Cert.DxUpIdeal.nD) → Buf (Elt Ideal) ((c.tc : Thread Cert.DxUpIdeal.nD Cert.DxUpIdeal.τ).loc Cert.DxUpIdeal.main_v18_2)) (v3 : (c : Dev Cert.DxUpIdeal.nD) → Buf (Elt Ideal) ((c.tc : Thread Cert.DxUpIdeal.nD Cert.DxUpIdeal.τ).loc Cert.DxUpIdeal.main_v18_3)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v18_0) = v0 c
          ∧ r.2.mem ((c.tc : Thread Cert.DxUpIdeal.nD Cert.DxUpIdeal.τ).loc Cert.DxUpIdeal.main_v18_1) = v1 c
          ∧ r.2.mem ((c.tc : Thread Cert.DxUpIdeal.nD Cert.DxUpIdeal.τ).loc Cert.DxUpIdeal.main_v18_2) = v2 c
          ∧ r.2.mem ((c.tc : Thread Cert.DxUpIdeal.nD Cert.DxUpIdeal.τ).loc Cert.DxUpIdeal.main_v18_3) = v3 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2)
          ∧ r.2.mem ((c.tc : Thread Cert.DxUpIdeal.nD Cert.DxUpIdeal.τ).loc Cert.DxUpIdeal.main_arg3) = m ((c.tc : Thread Cert.DxUpIdeal.nD Cert.DxUpIdeal.τ).loc Cert.DxUpIdeal.main_arg3)
          ∧ r.2.mem ((c.tc : Thread Cert.DxUpIdeal.nD Cert.DxUpIdeal.τ).loc Cert.DxUpIdeal.main_arg4) = m ((c.tc : Thread Cert.DxUpIdeal.nD Cert.DxUpIdeal.τ).loc Cert.DxUpIdeal.main_arg4)
          ∧ r.2.mem ((c.tc : Thread Cert.DxUpIdeal.nD Cert.DxUpIdeal.τ).loc Cert.DxUpIdeal.main_arg5) = m ((c.tc : Thread Cert.DxUpIdeal.nD Cert.DxUpIdeal.τ).loc Cert.DxUpIdeal.main_arg5))
      ∧ θ_run (Cert.PlainDxUpIdeal.defs (F := Ideal)) (onTc (τ := Cert.PlainDxUpIdeal.τ) (Cert.PlainDxUpIdeal.main (F := Ideal))) ⟨m', fun _ => 0, g'⟩ (fun r => ∀ c : Dev Cert.PlainDxUpIdeal.nD,
          r.2.mem ((c.tc : Thread Cert.PlainDxUpIdeal.nD Cert.PlainDxUpIdeal.τ).loc Cert.PlainDxUpIdeal.main_v70) = v0 c
          ∧ r.2.mem ((c.tc : Thread Cert.PlainDxUpIdeal.nD Cert.PlainDxUpIdeal.τ).loc Cert.PlainDxUpIdeal.main_v71) = v1 c
          ∧ r.2.mem ((c.tc : Thread Cert.PlainDxUpIdeal.nD Cert.PlainDxUpIdeal.τ).loc Cert.PlainDxUpIdeal.main_v44) = v2 c
          ∧ r.2.mem ((c.tc : Thread Cert.PlainDxUpIdeal.nD Cert.PlainDxUpIdeal.τ).loc Cert.PlainDxUpIdeal.main_v41) = v3 c
          ∧ r.2.mem ((c.tc : Thread Cert.PlainDxUpIdeal.nD Cert.PlainDxUpIdeal.τ).loc Cert.PlainDxUpIdeal.main_arg0) = m' ((c.tc : Thread Cert.PlainDxUpIdeal.nD Cert.PlainDxUpIdeal.τ).loc Cert.PlainDxUpIdeal.main_arg0)
          ∧ r.2.mem ((c.tc : Thread Cert.PlainDxUpIdeal.nD Cert.PlainDxUpIdeal.τ).loc Cert.PlainDxUpIdeal.main_arg1) = m' ((c.tc : Thread Cert.PlainDxUpIdeal.nD Cert.PlainDxUpIdeal.τ).loc Cert.PlainDxUpIdeal.main_arg1)
          ∧ r.2.mem ((c.tc : Thread Cert.PlainDxUpIdeal.nD Cert.PlainDxUpIdeal.τ).loc Cert.PlainDxUpIdeal.main_arg2) = m' ((c.tc : Thread Cert.PlainDxUpIdeal.nD Cert.PlainDxUpIdeal.τ).loc Cert.PlainDxUpIdeal.main_arg2)
          ∧ r.2.mem ((c.tc : Thread Cert.PlainDxUpIdeal.nD Cert.PlainDxUpIdeal.τ).loc Cert.PlainDxUpIdeal.main_arg3) = m' ((c.tc : Thread Cert.PlainDxUpIdeal.nD Cert.PlainDxUpIdeal.τ).loc Cert.PlainDxUpIdeal.main_arg3)
          ∧ r.2.mem ((c.tc : Thread Cert.PlainDxUpIdeal.nD Cert.PlainDxUpIdeal.τ).loc Cert.PlainDxUpIdeal.main_arg4) = m' ((c.tc : Thread Cert.PlainDxUpIdeal.nD Cert.PlainDxUpIdeal.τ).loc Cert.PlainDxUpIdeal.main_arg4)
          ∧ r.2.mem ((c.tc : Thread Cert.PlainDxUpIdeal.nD Cert.PlainDxUpIdeal.τ).loc Cert.PlainDxUpIdeal.main_arg5) = m' ((c.tc : Thread Cert.PlainDxUpIdeal.nD Cert.PlainDxUpIdeal.τ).loc Cert.PlainDxUpIdeal.main_arg5))

def preserves_DxQ_DxQIdeal : Prop :=
  True

def algebraic_DxQIdeal_PlainDxQIdeal_pre_finite_dxq [hDxQIdeal : Cert.DxQIdeal.Facts] [hPlainDxQIdeal : Cert.PlainDxQIdeal.Facts] [hPre_finite_dxq : Cert.Pre_finite_dxq.Facts] : Prop :=
  ∀ (m : (ℓ : Loc Cert.DxQIdeal.nD Cert.DxQIdeal.τ Cert.DxQIdeal.sig) → Buf (Elt Ideal) ℓ) (g : Dev Cert.DxQIdeal.nD → PrngReg)
    (m' : (ℓ : Loc Cert.PlainDxQIdeal.nD Cert.PlainDxQIdeal.τ Cert.PlainDxQIdeal.sig) → Buf (Elt Ideal) ℓ) (g' : Dev Cert.PlainDxQIdeal.nD → PrngReg), Pre_DxQIdeal_finite_dxq m →
    (∀ c : Dev Cert.DxQIdeal.nD,
      m' ((c.tc : Thread Cert.PlainDxQIdeal.nD Cert.PlainDxQIdeal.τ).loc Cert.PlainDxQIdeal.main_arg0) = m ((c.tc : Thread Cert.DxQIdeal.nD Cert.DxQIdeal.τ).loc Cert.DxQIdeal.main_arg0)
      ∧ m' ((c.tc : Thread Cert.PlainDxQIdeal.nD Cert.PlainDxQIdeal.τ).loc Cert.PlainDxQIdeal.main_arg1) = m ((c.tc : Thread Cert.DxQIdeal.nD Cert.DxQIdeal.τ).loc Cert.DxQIdeal.main_arg1)
      ∧ m' ((c.tc : Thread Cert.PlainDxQIdeal.nD Cert.PlainDxQIdeal.τ).loc Cert.PlainDxQIdeal.main_arg2) = m ((c.tc : Thread Cert.DxQIdeal.nD Cert.DxQIdeal.τ).loc Cert.DxQIdeal.main_arg2)
      ∧ m' ((c.tc : Thread Cert.PlainDxQIdeal.nD Cert.PlainDxQIdeal.τ).loc Cert.PlainDxQIdeal.main_arg3) = m ((c.tc : Thread Cert.DxQIdeal.nD Cert.DxQIdeal.τ).loc Cert.DxQIdeal.main_arg3)
      ∧ m' ((c.tc : Thread Cert.PlainDxQIdeal.nD Cert.PlainDxQIdeal.τ).loc Cert.PlainDxQIdeal.main_arg4) = m ((c.tc : Thread Cert.DxQIdeal.nD Cert.DxQIdeal.τ).loc Cert.DxQIdeal.main_arg4)) →
    ∃ (v0 : (c : Dev Cert.DxQIdeal.nD) → Buf (Elt Ideal) ((c.tc : Thread Cert.DxQIdeal.nD Cert.DxQIdeal.τ).loc Cert.DxQIdeal.main_v18_0)) (v1 : (c : Dev Cert.DxQIdeal.nD) → Buf (Elt Ideal) ((c.tc : Thread Cert.DxQIdeal.nD Cert.DxQIdeal.τ).loc Cert.DxQIdeal.main_v18_1)) (v2 : (c : Dev Cert.DxQIdeal.nD) → Buf (Elt Ideal) ((c.tc : Thread Cert.DxQIdeal.nD Cert.DxQIdeal.τ).loc Cert.DxQIdeal.main_v18_2)) (v3 : (c : Dev Cert.DxQIdeal.nD) → Buf (Elt Ideal) ((c.tc : Thread Cert.DxQIdeal.nD Cert.DxQIdeal.τ).loc Cert.DxQIdeal.main_v18_3)),
      θ_run (Cert.DxQIdeal.defs (F := Ideal)) (onTc (τ := Cert.DxQIdeal.τ) (Cert.DxQIdeal.main (F := Ideal))) ⟨m, fun _ => 0, g⟩ (fun r => ∀ c : Dev Cert.DxQIdeal.nD,
          r.2.mem ((c.tc : Thread Cert.DxQIdeal.nD Cert.DxQIdeal.τ).loc Cert.DxQIdeal.main_v18_0) = v0 c
          ∧ r.2.mem ((c.tc : Thread Cert.DxQIdeal.nD Cert.DxQIdeal.τ).loc Cert.DxQIdeal.main_v18_1) = v1 c
          ∧ r.2.mem ((c.tc : Thread Cert.DxQIdeal.nD Cert.DxQIdeal.τ).loc Cert.DxQIdeal.main_v18_2) = v2 c
          ∧ r.2.mem ((c.tc : Thread Cert.DxQIdeal.nD Cert.DxQIdeal.τ).loc Cert.DxQIdeal.main_v18_3) = v3 c
          ∧ r.2.mem ((c.tc : Thread Cert.DxQIdeal.nD Cert.DxQIdeal.τ).loc Cert.DxQIdeal.main_arg0) = m ((c.tc : Thread Cert.DxQIdeal.nD Cert.DxQIdeal.τ).loc Cert.DxQIdeal.main_arg0)
          ∧ r.2.mem ((c.tc : Thread Cert.DxQIdeal.nD Cert.DxQIdeal.τ).loc Cert.DxQIdeal.main_arg1) = m ((c.tc : Thread Cert.DxQIdeal.nD Cert.DxQIdeal.τ).loc Cert.DxQIdeal.main_arg1)
          ∧ r.2.mem ((c.tc : Thread Cert.DxQIdeal.nD Cert.DxQIdeal.τ).loc Cert.DxQIdeal.main_arg2) = m ((c.tc : Thread Cert.DxQIdeal.nD Cert.DxQIdeal.τ).loc Cert.DxQIdeal.main_arg2)
          ∧ r.2.mem ((c.tc : Thread Cert.DxQIdeal.nD Cert.DxQIdeal.τ).loc Cert.DxQIdeal.main_arg3) = m ((c.tc : Thread Cert.DxQIdeal.nD Cert.DxQIdeal.τ).loc Cert.DxQIdeal.main_arg3)
          ∧ r.2.mem ((c.tc : Thread Cert.DxQIdeal.nD Cert.DxQIdeal.τ).loc Cert.DxQIdeal.main_arg4) = m ((c.tc : Thread Cert.DxQIdeal.nD Cert.DxQIdeal.τ).loc Cert.DxQIdeal.main_arg4))
      ∧ θ_run (Cert.PlainDxQIdeal.defs (F := Ideal)) (onTc (τ := Cert.PlainDxQIdeal.τ) (Cert.PlainDxQIdeal.main (F := Ideal))) ⟨m', fun _ => 0, g'⟩ (fun r => ∀ c : Dev Cert.PlainDxQIdeal.nD,
          r.2.mem ((c.tc : Thread Cert.PlainDxQIdeal.nD Cert.PlainDxQIdeal.τ).loc Cert.PlainDxQIdeal.main_v67) = v0 c
          ∧ r.2.mem ((c.tc : Thread Cert.PlainDxQIdeal.nD Cert.PlainDxQIdeal.τ).loc Cert.PlainDxQIdeal.main_v68) = v1 c
          ∧ r.2.mem ((c.tc : Thread Cert.PlainDxQIdeal.nD Cert.PlainDxQIdeal.τ).loc Cert.PlainDxQIdeal.main_v41) = v2 c
          ∧ r.2.mem ((c.tc : Thread Cert.PlainDxQIdeal.nD Cert.PlainDxQIdeal.τ).loc Cert.PlainDxQIdeal.main_v38) = v3 c
          ∧ r.2.mem ((c.tc : Thread Cert.PlainDxQIdeal.nD Cert.PlainDxQIdeal.τ).loc Cert.PlainDxQIdeal.main_arg0) = m' ((c.tc : Thread Cert.PlainDxQIdeal.nD Cert.PlainDxQIdeal.τ).loc Cert.PlainDxQIdeal.main_arg0)
          ∧ r.2.mem ((c.tc : Thread Cert.PlainDxQIdeal.nD Cert.PlainDxQIdeal.τ).loc Cert.PlainDxQIdeal.main_arg1) = m' ((c.tc : Thread Cert.PlainDxQIdeal.nD Cert.PlainDxQIdeal.τ).loc Cert.PlainDxQIdeal.main_arg1)
          ∧ r.2.mem ((c.tc : Thread Cert.PlainDxQIdeal.nD Cert.PlainDxQIdeal.τ).loc Cert.PlainDxQIdeal.main_arg2) = m' ((c.tc : Thread Cert.PlainDxQIdeal.nD Cert.PlainDxQIdeal.τ).loc Cert.PlainDxQIdeal.main_arg2)
          ∧ r.2.mem ((c.tc : Thread Cert.PlainDxQIdeal.nD Cert.PlainDxQIdeal.τ).loc Cert.PlainDxQIdeal.main_arg3) = m' ((c.tc : Thread Cert.PlainDxQIdeal.nD Cert.PlainDxQIdeal.τ).loc Cert.PlainDxQIdeal.main_arg3)
          ∧ r.2.mem ((c.tc : Thread Cert.PlainDxQIdeal.nD Cert.PlainDxQIdeal.τ).loc Cert.PlainDxQIdeal.main_arg4) = m' ((c.tc : Thread Cert.PlainDxQIdeal.nD Cert.PlainDxQIdeal.τ).loc Cert.PlainDxQIdeal.main_arg4))

def preserves_AdamIn_AdamInIdeal : Prop :=
  True

def algebraic_AdamInIdeal_PlainAdamInIdeal [hAdamInIdeal : Cert.AdamInIdeal.Facts] [hPlainAdamInIdeal : Cert.PlainAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.PlainAdamInIdeal.nD Cert.PlainAdamInIdeal.τ Cert.PlainAdamInIdeal.sig) → Buf (Elt Ideal) ℓ) (g' : Dev Cert.PlainAdamInIdeal.nD → PrngReg), Pre_AdamInIdeal m →
    (∀ c : Dev Cert.AdamInIdeal.nD,
      m' ((c.tc : Thread Cert.PlainAdamInIdeal.nD Cert.PlainAdamInIdeal.τ).loc Cert.PlainAdamInIdeal.main_arg0) = m ((c.tc : Thread Cert.AdamInIdeal.nD Cert.AdamInIdeal.τ).loc Cert.AdamInIdeal.main_arg0)
      ∧ m' ((c.tc : Thread Cert.PlainAdamInIdeal.nD Cert.PlainAdamInIdeal.τ).loc Cert.PlainAdamInIdeal.main_arg1) = m ((c.tc : Thread Cert.AdamInIdeal.nD Cert.AdamInIdeal.τ).loc Cert.AdamInIdeal.main_arg1)
      ∧ m' ((c.tc : Thread Cert.PlainAdamInIdeal.nD Cert.PlainAdamInIdeal.τ).loc Cert.PlainAdamInIdeal.main_arg2) = m ((c.tc : Thread Cert.AdamInIdeal.nD Cert.AdamInIdeal.τ).loc Cert.AdamInIdeal.main_arg2)
      ∧ m' ((c.tc : Thread Cert.PlainAdamInIdeal.nD Cert.PlainAdamInIdeal.τ).loc Cert.PlainAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.PlainAdamInIdeal.defs (F := Ideal)) (onTc (τ := Cert.PlainAdamInIdeal.τ) (Cert.PlainAdamInIdeal.main (F := Ideal))) ⟨m', fun _ => 0, g'⟩ (fun r => ∀ c : Dev Cert.PlainAdamInIdeal.nD,
          r.2.mem ((c.tc : Thread Cert.PlainAdamInIdeal.nD Cert.PlainAdamInIdeal.τ).loc Cert.PlainAdamInIdeal.main_v1) = v0 c
          ∧ r.2.mem ((c.tc : Thread Cert.PlainAdamInIdeal.nD Cert.PlainAdamInIdeal.τ).loc Cert.PlainAdamInIdeal.main_v25) = v1 c
          ∧ r.2.mem ((c.tc : Thread Cert.PlainAdamInIdeal.nD Cert.PlainAdamInIdeal.τ).loc Cert.PlainAdamInIdeal.main_v6) = v2 c
          ∧ r.2.mem ((c.tc : Thread Cert.PlainAdamInIdeal.nD Cert.PlainAdamInIdeal.τ).loc Cert.PlainAdamInIdeal.main_v12) = v3 c
          ∧ r.2.mem ((c.tc : Thread Cert.PlainAdamInIdeal.nD Cert.PlainAdamInIdeal.τ).loc Cert.PlainAdamInIdeal.main_arg0) = m' ((c.tc : Thread Cert.PlainAdamInIdeal.nD Cert.PlainAdamInIdeal.τ).loc Cert.PlainAdamInIdeal.main_arg0)
          ∧ r.2.mem ((c.tc : Thread Cert.PlainAdamInIdeal.nD Cert.PlainAdamInIdeal.τ).loc Cert.PlainAdamInIdeal.main_arg1) = m' ((c.tc : Thread Cert.PlainAdamInIdeal.nD Cert.PlainAdamInIdeal.τ).loc Cert.PlainAdamInIdeal.main_arg1)
          ∧ r.2.mem ((c.tc : Thread Cert.PlainAdamInIdeal.nD Cert.PlainAdamInIdeal.τ).loc Cert.PlainAdamInIdeal.main_arg2) = m' ((c.tc : Thread Cert.PlainAdamInIdeal.nD Cert.PlainAdamInIdeal.τ).loc Cert.PlainAdamInIdeal.main_arg2)
          ∧ r.2.mem ((c.tc : Thread Cert.PlainAdamInIdeal.nD Cert.PlainAdamInIdeal.τ).loc Cert.PlainAdamInIdeal.main_arg3) = m' ((c.tc : Thread Cert.PlainAdamInIdeal.nD Cert.PlainAdamInIdeal.τ).loc Cert.PlainAdamInIdeal.main_arg3))

def preserves_AdamBranch_AdamBranchIdeal : Prop :=
  True

def algebraic_AdamBranchIdeal_PlainAdamBranchIdeal [hAdamBranchIdeal : Cert.AdamBranchIdeal.Facts] [hPlainAdamBranchIdeal : Cert.PlainAdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.PlainAdamBranchIdeal.nD Cert.PlainAdamBranchIdeal.τ Cert.PlainAdamBranchIdeal.sig) → Buf (Elt Ideal) ℓ) (g' : Dev Cert.PlainAdamBranchIdeal.nD → PrngReg), Pre_AdamBranchIdeal m →
    (∀ c : Dev Cert.AdamBranchIdeal.nD,
      m' ((c.tc : Thread Cert.PlainAdamBranchIdeal.nD Cert.PlainAdamBranchIdeal.τ).loc Cert.PlainAdamBranchIdeal.main_arg0) = m ((c.tc : Thread Cert.AdamBranchIdeal.nD Cert.AdamBranchIdeal.τ).loc Cert.AdamBranchIdeal.main_arg0)
      ∧ m' ((c.tc : Thread Cert.PlainAdamBranchIdeal.nD Cert.PlainAdamBranchIdeal.τ).loc Cert.PlainAdamBranchIdeal.main_arg1) = m ((c.tc : Thread Cert.AdamBranchIdeal.nD Cert.AdamBranchIdeal.τ).loc Cert.AdamBranchIdeal.main_arg1)
      ∧ m' ((c.tc : Thread Cert.PlainAdamBranchIdeal.nD Cert.PlainAdamBranchIdeal.τ).loc Cert.PlainAdamBranchIdeal.main_arg2) = m ((c.tc : Thread Cert.AdamBranchIdeal.nD Cert.AdamBranchIdeal.τ).loc Cert.AdamBranchIdeal.main_arg2)
      ∧ m' ((c.tc : Thread Cert.PlainAdamBranchIdeal.nD Cert.PlainAdamBranchIdeal.τ).loc Cert.PlainAdamBranchIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.PlainAdamBranchIdeal.defs (F := Ideal)) (onTc (τ := Cert.PlainAdamBranchIdeal.τ) (Cert.PlainAdamBranchIdeal.main (F := Ideal))) ⟨m', fun _ => 0, g'⟩ (fun r => ∀ c : Dev Cert.PlainAdamBranchIdeal.nD,
          r.2.mem ((c.tc : Thread Cert.PlainAdamBranchIdeal.nD Cert.PlainAdamBranchIdeal.τ).loc Cert.PlainAdamBranchIdeal.main_v1) = v0 c
          ∧ r.2.mem ((c.tc : Thread Cert.PlainAdamBranchIdeal.nD Cert.PlainAdamBranchIdeal.τ).loc Cert.PlainAdamBranchIdeal.main_v25) = v1 c
          ∧ r.2.mem ((c.tc : Thread Cert.PlainAdamBranchIdeal.nD Cert.PlainAdamBranchIdeal.τ).loc Cert.PlainAdamBranchIdeal.main_v6) = v2 c
          ∧ r.2.mem ((c.tc : Thread Cert.PlainAdamBranchIdeal.nD Cert.PlainAdamBranchIdeal.τ).loc Cert.PlainAdamBranchIdeal.main_v12) = v3 c
          ∧ r.2.mem ((c.tc : Thread Cert.PlainAdamBranchIdeal.nD Cert.PlainAdamBranchIdeal.τ).loc Cert.PlainAdamBranchIdeal.main_arg0) = m' ((c.tc : Thread Cert.PlainAdamBranchIdeal.nD Cert.PlainAdamBranchIdeal.τ).loc Cert.PlainAdamBranchIdeal.main_arg0)
          ∧ r.2.mem ((c.tc : Thread Cert.PlainAdamBranchIdeal.nD Cert.PlainAdamBranchIdeal.τ).loc Cert.PlainAdamBranchIdeal.main_arg1) = m' ((c.tc : Thread Cert.PlainAdamBranchIdeal.nD Cert.PlainAdamBranchIdeal.τ).loc Cert.PlainAdamBranchIdeal.main_arg1)
          ∧ r.2.mem ((c.tc : Thread Cert.PlainAdamBranchIdeal.nD Cert.PlainAdamBranchIdeal.τ).loc Cert.PlainAdamBranchIdeal.main_arg2) = m' ((c.tc : Thread Cert.PlainAdamBranchIdeal.nD Cert.PlainAdamBranchIdeal.τ).loc Cert.PlainAdamBranchIdeal.main_arg2)
          ∧ r.2.mem ((c.tc : Thread Cert.PlainAdamBranchIdeal.nD Cert.PlainAdamBranchIdeal.τ).loc Cert.PlainAdamBranchIdeal.main_arg3) = m' ((c.tc : Thread Cert.PlainAdamBranchIdeal.nD Cert.PlainAdamBranchIdeal.τ).loc Cert.PlainAdamBranchIdeal.main_arg3))

def preserves_AdamMix_AdamMixIdeal : Prop :=
  True

def algebraic_AdamMixIdeal_PlainAdamMixIdeal [hAdamMixIdeal : Cert.AdamMixIdeal.Facts] [hPlainAdamMixIdeal : Cert.PlainAdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.PlainAdamMixIdeal.nD Cert.PlainAdamMixIdeal.τ Cert.PlainAdamMixIdeal.sig) → Buf (Elt Ideal) ℓ) (g' : Dev Cert.PlainAdamMixIdeal.nD → PrngReg), Pre_AdamMixIdeal m →
    (∀ c : Dev Cert.AdamMixIdeal.nD,
      m' ((c.tc : Thread Cert.PlainAdamMixIdeal.nD Cert.PlainAdamMixIdeal.τ).loc Cert.PlainAdamMixIdeal.main_arg0) = m ((c.tc : Thread Cert.AdamMixIdeal.nD Cert.AdamMixIdeal.τ).loc Cert.AdamMixIdeal.main_arg0)
      ∧ m' ((c.tc : Thread Cert.PlainAdamMixIdeal.nD Cert.PlainAdamMixIdeal.τ).loc Cert.PlainAdamMixIdeal.main_arg1) = m ((c.tc : Thread Cert.AdamMixIdeal.nD Cert.AdamMixIdeal.τ).loc Cert.AdamMixIdeal.main_arg1)
      ∧ m' ((c.tc : Thread Cert.PlainAdamMixIdeal.nD Cert.PlainAdamMixIdeal.τ).loc Cert.PlainAdamMixIdeal.main_arg2) = m ((c.tc : Thread Cert.AdamMixIdeal.nD Cert.AdamMixIdeal.τ).loc Cert.AdamMixIdeal.main_arg2)
      ∧ m' ((c.tc : Thread Cert.PlainAdamMixIdeal.nD Cert.PlainAdamMixIdeal.τ).loc Cert.PlainAdamMixIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v0_0)) (v1 : (c : Dev Cert.AdamMixIdeal.nD) → Buf (Elt Ideal) ((c.tc : Thread Cert.AdamMixIdeal.nD Cert.AdamMixIdeal.τ).loc Cert.AdamMixIdeal.main_v0_1)) (v2 : (c : Dev Cert.AdamMixIdeal.nD) → Buf (Elt Ideal) ((c.tc : Thread Cert.AdamMixIdeal.nD Cert.AdamMixIdeal.τ).loc Cert.AdamMixIdeal.main_v0_2)) (v3 : (c : Dev Cert.AdamMixIdeal.nD) → Buf (Elt Ideal) ((c.tc : Thread Cert.AdamMixIdeal.nD Cert.AdamMixIdeal.τ).loc Cert.AdamMixIdeal.main_v0_3)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v0_0) = v0 c
          ∧ r.2.mem ((c.tc : Thread Cert.AdamMixIdeal.nD Cert.AdamMixIdeal.τ).loc Cert.AdamMixIdeal.main_v0_1) = v1 c
          ∧ r.2.mem ((c.tc : Thread Cert.AdamMixIdeal.nD Cert.AdamMixIdeal.τ).loc Cert.AdamMixIdeal.main_v0_2) = v2 c
          ∧ r.2.mem ((c.tc : Thread Cert.AdamMixIdeal.nD Cert.AdamMixIdeal.τ).loc Cert.AdamMixIdeal.main_v0_3) = v3 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.PlainAdamMixIdeal.defs (F := Ideal)) (onTc (τ := Cert.PlainAdamMixIdeal.τ) (Cert.PlainAdamMixIdeal.main (F := Ideal))) ⟨m', fun _ => 0, g'⟩ (fun r => ∀ c : Dev Cert.PlainAdamMixIdeal.nD,
          r.2.mem ((c.tc : Thread Cert.PlainAdamMixIdeal.nD Cert.PlainAdamMixIdeal.τ).loc Cert.PlainAdamMixIdeal.main_v1) = v0 c
          ∧ r.2.mem ((c.tc : Thread Cert.PlainAdamMixIdeal.nD Cert.PlainAdamMixIdeal.τ).loc Cert.PlainAdamMixIdeal.main_v25) = v1 c
          ∧ r.2.mem ((c.tc : Thread Cert.PlainAdamMixIdeal.nD Cert.PlainAdamMixIdeal.τ).loc Cert.PlainAdamMixIdeal.main_v6) = v2 c
          ∧ r.2.mem ((c.tc : Thread Cert.PlainAdamMixIdeal.nD Cert.PlainAdamMixIdeal.τ).loc Cert.PlainAdamMixIdeal.main_v12) = v3 c
          ∧ r.2.mem ((c.tc : Thread Cert.PlainAdamMixIdeal.nD Cert.PlainAdamMixIdeal.τ).loc Cert.PlainAdamMixIdeal.main_arg0) = m' ((c.tc : Thread Cert.PlainAdamMixIdeal.nD Cert.PlainAdamMixIdeal.τ).loc Cert.PlainAdamMixIdeal.main_arg0)
          ∧ r.2.mem ((c.tc : Thread Cert.PlainAdamMixIdeal.nD Cert.PlainAdamMixIdeal.τ).loc Cert.PlainAdamMixIdeal.main_arg1) = m' ((c.tc : Thread Cert.PlainAdamMixIdeal.nD Cert.PlainAdamMixIdeal.τ).loc Cert.PlainAdamMixIdeal.main_arg1)
          ∧ r.2.mem ((c.tc : Thread Cert.PlainAdamMixIdeal.nD Cert.PlainAdamMixIdeal.τ).loc Cert.PlainAdamMixIdeal.main_arg2) = m' ((c.tc : Thread Cert.PlainAdamMixIdeal.nD Cert.PlainAdamMixIdeal.τ).loc Cert.PlainAdamMixIdeal.main_arg2)
          ∧ r.2.mem ((c.tc : Thread Cert.PlainAdamMixIdeal.nD Cert.PlainAdamMixIdeal.τ).loc Cert.PlainAdamMixIdeal.main_arg3) = m' ((c.tc : Thread Cert.PlainAdamMixIdeal.nD Cert.PlainAdamMixIdeal.τ).loc Cert.PlainAdamMixIdeal.main_arg3))

def preserves_AdamXq_AdamXqIdeal : Prop :=
  True

def algebraic_AdamXqIdeal_PlainAdamXqIdeal [hAdamXqIdeal : Cert.AdamXqIdeal.Facts] [hPlainAdamXqIdeal : Cert.PlainAdamXqIdeal.Facts] : Prop :=
  ∀ (m : (ℓ : Loc Cert.AdamXqIdeal.nD Cert.AdamXqIdeal.τ Cert.AdamXqIdeal.sig) → Buf (Elt Ideal) ℓ) (g : Dev Cert.AdamXqIdeal.nD → PrngReg)
    (m' : (ℓ : Loc Cert.PlainAdamXqIdeal.nD Cert.PlainAdamXqIdeal.τ Cert.PlainAdamXqIdeal.sig) → Buf (Elt Ideal) ℓ) (g' : Dev Cert.PlainAdamXqIdeal.nD → PrngReg), Pre_AdamXqIdeal m →
    (∀ c : Dev Cert.AdamXqIdeal.nD,
      m' ((c.tc : Thread Cert.PlainAdamXqIdeal.nD Cert.PlainAdamXqIdeal.τ).loc Cert.PlainAdamXqIdeal.main_arg0) = m ((c.tc : Thread Cert.AdamXqIdeal.nD Cert.AdamXqIdeal.τ).loc Cert.AdamXqIdeal.main_arg0)
      ∧ m' ((c.tc : Thread Cert.PlainAdamXqIdeal.nD Cert.PlainAdamXqIdeal.τ).loc Cert.PlainAdamXqIdeal.main_arg1) = m ((c.tc : Thread Cert.AdamXqIdeal.nD Cert.AdamXqIdeal.τ).loc Cert.AdamXqIdeal.main_arg1)
      ∧ m' ((c.tc : Thread Cert.PlainAdamXqIdeal.nD Cert.PlainAdamXqIdeal.τ).loc Cert.PlainAdamXqIdeal.main_arg2) = m ((c.tc : Thread Cert.AdamXqIdeal.nD Cert.AdamXqIdeal.τ).loc Cert.AdamXqIdeal.main_arg2)
      ∧ m' ((c.tc : Thread Cert.PlainAdamXqIdeal.nD Cert.PlainAdamXqIdeal.τ).loc Cert.PlainAdamXqIdeal.main_arg3) = m ((c.tc : Thread Cert.AdamXqIdeal.nD Cert.AdamXqIdeal.τ).loc Cert.AdamXqIdeal.main_arg3)) →
    ∃ (v0 : (c : Dev Cert.AdamXqIdeal.nD) → Buf (Elt Ideal) ((c.tc : Thread Cert.AdamXqIdeal.nD Cert.AdamXqIdeal.τ).loc Cert.AdamXqIdeal.main_v0_0)) (v1 : (c : Dev Cert.AdamXqIdeal.nD) → Buf (Elt Ideal) ((c.tc : Thread Cert.AdamXqIdeal.nD Cert.AdamXqIdeal.τ).loc Cert.AdamXqIdeal.main_v0_1)) (v2 : (c : Dev Cert.AdamXqIdeal.nD) → Buf (Elt Ideal) ((c.tc : Thread Cert.AdamXqIdeal.nD Cert.AdamXqIdeal.τ).loc Cert.AdamXqIdeal.main_v0_2)) (v3 : (c : Dev Cert.AdamXqIdeal.nD) → Buf (Elt Ideal) ((c.tc : Thread Cert.AdamXqIdeal.nD Cert.AdamXqIdeal.τ).loc Cert.AdamXqIdeal.main_v0_3)),
      θ_run (Cert.AdamXqIdeal.defs (F := Ideal)) (onTc (τ := Cert.AdamXqIdeal.τ) (Cert.AdamXqIdeal.main (F := Ideal))) ⟨m, fun _ => 0, g⟩ (fun r => ∀ c : Dev Cert.AdamXqIdeal.nD,
          r.2.mem ((c.tc : Thread Cert.AdamXqIdeal.nD Cert.AdamXqIdeal.τ).loc Cert.AdamXqIdeal.main_v0_0) = v0 c
          ∧ r.2.mem ((c.tc : Thread Cert.AdamXqIdeal.nD Cert.AdamXqIdeal.τ).loc Cert.AdamXqIdeal.main_v0_1) = v1 c
          ∧ r.2.mem ((c.tc : Thread Cert.AdamXqIdeal.nD Cert.AdamXqIdeal.τ).loc Cert.AdamXqIdeal.main_v0_2) = v2 c
          ∧ r.2.mem ((c.tc : Thread Cert.AdamXqIdeal.nD Cert.AdamXqIdeal.τ).loc Cert.AdamXqIdeal.main_v0_3) = v3 c
          ∧ r.2.mem ((c.tc : Thread Cert.AdamXqIdeal.nD Cert.AdamXqIdeal.τ).loc Cert.AdamXqIdeal.main_arg0) = m ((c.tc : Thread Cert.AdamXqIdeal.nD Cert.AdamXqIdeal.τ).loc Cert.AdamXqIdeal.main_arg0)
          ∧ r.2.mem ((c.tc : Thread Cert.AdamXqIdeal.nD Cert.AdamXqIdeal.τ).loc Cert.AdamXqIdeal.main_arg1) = m ((c.tc : Thread Cert.AdamXqIdeal.nD Cert.AdamXqIdeal.τ).loc Cert.AdamXqIdeal.main_arg1)
          ∧ r.2.mem ((c.tc : Thread Cert.AdamXqIdeal.nD Cert.AdamXqIdeal.τ).loc Cert.AdamXqIdeal.main_arg2) = m ((c.tc : Thread Cert.AdamXqIdeal.nD Cert.AdamXqIdeal.τ).loc Cert.AdamXqIdeal.main_arg2)
          ∧ r.2.mem ((c.tc : Thread Cert.AdamXqIdeal.nD Cert.AdamXqIdeal.τ).loc Cert.AdamXqIdeal.main_arg3) = m ((c.tc : Thread Cert.AdamXqIdeal.nD Cert.AdamXqIdeal.τ).loc Cert.AdamXqIdeal.main_arg3))
      ∧ θ_run (Cert.PlainAdamXqIdeal.defs (F := Ideal)) (onTc (τ := Cert.PlainAdamXqIdeal.τ) (Cert.PlainAdamXqIdeal.main (F := Ideal))) ⟨m', fun _ => 0, g'⟩ (fun r => ∀ c : Dev Cert.PlainAdamXqIdeal.nD,
          r.2.mem ((c.tc : Thread Cert.PlainAdamXqIdeal.nD Cert.PlainAdamXqIdeal.τ).loc Cert.PlainAdamXqIdeal.main_v1) = v0 c
          ∧ r.2.mem ((c.tc : Thread Cert.PlainAdamXqIdeal.nD Cert.PlainAdamXqIdeal.τ).loc Cert.PlainAdamXqIdeal.main_v25) = v1 c
          ∧ r.2.mem ((c.tc : Thread Cert.PlainAdamXqIdeal.nD Cert.PlainAdamXqIdeal.τ).loc Cert.PlainAdamXqIdeal.main_v6) = v2 c
          ∧ r.2.mem ((c.tc : Thread Cert.PlainAdamXqIdeal.nD Cert.PlainAdamXqIdeal.τ).loc Cert.PlainAdamXqIdeal.main_v12) = v3 c
          ∧ r.2.mem ((c.tc : Thread Cert.PlainAdamXqIdeal.nD Cert.PlainAdamXqIdeal.τ).loc Cert.PlainAdamXqIdeal.main_arg0) = m' ((c.tc : Thread Cert.PlainAdamXqIdeal.nD Cert.PlainAdamXqIdeal.τ).loc Cert.PlainAdamXqIdeal.main_arg0)
          ∧ r.2.mem ((c.tc : Thread Cert.PlainAdamXqIdeal.nD Cert.PlainAdamXqIdeal.τ).loc Cert.PlainAdamXqIdeal.main_arg1) = m' ((c.tc : Thread Cert.PlainAdamXqIdeal.nD Cert.PlainAdamXqIdeal.τ).loc Cert.PlainAdamXqIdeal.main_arg1)
          ∧ r.2.mem ((c.tc : Thread Cert.PlainAdamXqIdeal.nD Cert.PlainAdamXqIdeal.τ).loc Cert.PlainAdamXqIdeal.main_arg2) = m' ((c.tc : Thread Cert.PlainAdamXqIdeal.nD Cert.PlainAdamXqIdeal.τ).loc Cert.PlainAdamXqIdeal.main_arg2)
          ∧ r.2.mem ((c.tc : Thread Cert.PlainAdamXqIdeal.nD Cert.PlainAdamXqIdeal.τ).loc Cert.PlainAdamXqIdeal.main_arg3) = m' ((c.tc : Thread Cert.PlainAdamXqIdeal.nD Cert.PlainAdamXqIdeal.τ).loc Cert.PlainAdamXqIdeal.main_arg3))

def preserves_AdamXo_AdamXoIdeal : Prop :=
  True

def algebraic_AdamXoIdeal_PlainAdamXoIdeal [hAdamXoIdeal : Cert.AdamXoIdeal.Facts] [hPlainAdamXoIdeal : Cert.PlainAdamXoIdeal.Facts] : Prop :=
  ∀ (m : (ℓ : Loc Cert.AdamXoIdeal.nD Cert.AdamXoIdeal.τ Cert.AdamXoIdeal.sig) → Buf (Elt Ideal) ℓ) (g : Dev Cert.AdamXoIdeal.nD → PrngReg)
    (m' : (ℓ : Loc Cert.PlainAdamXoIdeal.nD Cert.PlainAdamXoIdeal.τ Cert.PlainAdamXoIdeal.sig) → Buf (Elt Ideal) ℓ) (g' : Dev Cert.PlainAdamXoIdeal.nD → PrngReg), Pre_AdamXoIdeal m →
    (∀ c : Dev Cert.AdamXoIdeal.nD,
      m' ((c.tc : Thread Cert.PlainAdamXoIdeal.nD Cert.PlainAdamXoIdeal.τ).loc Cert.PlainAdamXoIdeal.main_arg0) = m ((c.tc : Thread Cert.AdamXoIdeal.nD Cert.AdamXoIdeal.τ).loc Cert.AdamXoIdeal.main_arg0)
      ∧ m' ((c.tc : Thread Cert.PlainAdamXoIdeal.nD Cert.PlainAdamXoIdeal.τ).loc Cert.PlainAdamXoIdeal.main_arg1) = m ((c.tc : Thread Cert.AdamXoIdeal.nD Cert.AdamXoIdeal.τ).loc Cert.AdamXoIdeal.main_arg1)
      ∧ m' ((c.tc : Thread Cert.PlainAdamXoIdeal.nD Cert.PlainAdamXoIdeal.τ).loc Cert.PlainAdamXoIdeal.main_arg2) = m ((c.tc : Thread Cert.AdamXoIdeal.nD Cert.AdamXoIdeal.τ).loc Cert.AdamXoIdeal.main_arg2)
      ∧ m' ((c.tc : Thread Cert.PlainAdamXoIdeal.nD Cert.PlainAdamXoIdeal.τ).loc Cert.PlainAdamXoIdeal.main_arg3) = m ((c.tc : Thread Cert.AdamXoIdeal.nD Cert.AdamXoIdeal.τ).loc Cert.AdamXoIdeal.main_arg3)) →
    ∃ (v0 : (c : Dev Cert.AdamXoIdeal.nD) → Buf (Elt Ideal) ((c.tc : Thread Cert.AdamXoIdeal.nD Cert.AdamXoIdeal.τ).loc Cert.AdamXoIdeal.main_v0_0)) (v1 : (c : Dev Cert.AdamXoIdeal.nD) → Buf (Elt Ideal) ((c.tc : Thread Cert.AdamXoIdeal.nD Cert.AdamXoIdeal.τ).loc Cert.AdamXoIdeal.main_v0_1)) (v2 : (c : Dev Cert.AdamXoIdeal.nD) → Buf (Elt Ideal) ((c.tc : Thread Cert.AdamXoIdeal.nD Cert.AdamXoIdeal.τ).loc Cert.AdamXoIdeal.main_v0_2)) (v3 : (c : Dev Cert.AdamXoIdeal.nD) → Buf (Elt Ideal) ((c.tc : Thread Cert.AdamXoIdeal.nD Cert.AdamXoIdeal.τ).loc Cert.AdamXoIdeal.main_v0_3)),
      θ_run (Cert.AdamXoIdeal.defs (F := Ideal)) (onTc (τ := Cert.AdamXoIdeal.τ) (Cert.AdamXoIdeal.main (F := Ideal))) ⟨m, fun _ => 0, g⟩ (fun r => ∀ c : Dev Cert.AdamXoIdeal.nD,
          r.2.mem ((c.tc : Thread Cert.AdamXoIdeal.nD Cert.AdamXoIdeal.τ).loc Cert.AdamXoIdeal.main_v0_0) = v0 c
          ∧ r.2.mem ((c.tc : Thread Cert.AdamXoIdeal.nD Cert.AdamXoIdeal.τ).loc Cert.AdamXoIdeal.main_v0_1) = v1 c
          ∧ r.2.mem ((c.tc : Thread Cert.AdamXoIdeal.nD Cert.AdamXoIdeal.τ).loc Cert.AdamXoIdeal.main_v0_2) = v2 c
          ∧ r.2.mem ((c.tc : Thread Cert.AdamXoIdeal.nD Cert.AdamXoIdeal.τ).loc Cert.AdamXoIdeal.main_v0_3) = v3 c
          ∧ r.2.mem ((c.tc : Thread Cert.AdamXoIdeal.nD Cert.AdamXoIdeal.τ).loc Cert.AdamXoIdeal.main_arg0) = m ((c.tc : Thread Cert.AdamXoIdeal.nD Cert.AdamXoIdeal.τ).loc Cert.AdamXoIdeal.main_arg0)
          ∧ r.2.mem ((c.tc : Thread Cert.AdamXoIdeal.nD Cert.AdamXoIdeal.τ).loc Cert.AdamXoIdeal.main_arg1) = m ((c.tc : Thread Cert.AdamXoIdeal.nD Cert.AdamXoIdeal.τ).loc Cert.AdamXoIdeal.main_arg1)
          ∧ r.2.mem ((c.tc : Thread Cert.AdamXoIdeal.nD Cert.AdamXoIdeal.τ).loc Cert.AdamXoIdeal.main_arg2) = m ((c.tc : Thread Cert.AdamXoIdeal.nD Cert.AdamXoIdeal.τ).loc Cert.AdamXoIdeal.main_arg2)
          ∧ r.2.mem ((c.tc : Thread Cert.AdamXoIdeal.nD Cert.AdamXoIdeal.τ).loc Cert.AdamXoIdeal.main_arg3) = m ((c.tc : Thread Cert.AdamXoIdeal.nD Cert.AdamXoIdeal.τ).loc Cert.AdamXoIdeal.main_arg3))
      ∧ θ_run (Cert.PlainAdamXoIdeal.defs (F := Ideal)) (onTc (τ := Cert.PlainAdamXoIdeal.τ) (Cert.PlainAdamXoIdeal.main (F := Ideal))) ⟨m', fun _ => 0, g'⟩ (fun r => ∀ c : Dev Cert.PlainAdamXoIdeal.nD,
          r.2.mem ((c.tc : Thread Cert.PlainAdamXoIdeal.nD Cert.PlainAdamXoIdeal.τ).loc Cert.PlainAdamXoIdeal.main_v1) = v0 c
          ∧ r.2.mem ((c.tc : Thread Cert.PlainAdamXoIdeal.nD Cert.PlainAdamXoIdeal.τ).loc Cert.PlainAdamXoIdeal.main_v25) = v1 c
          ∧ r.2.mem ((c.tc : Thread Cert.PlainAdamXoIdeal.nD Cert.PlainAdamXoIdeal.τ).loc Cert.PlainAdamXoIdeal.main_v6) = v2 c
          ∧ r.2.mem ((c.tc : Thread Cert.PlainAdamXoIdeal.nD Cert.PlainAdamXoIdeal.τ).loc Cert.PlainAdamXoIdeal.main_v12) = v3 c
          ∧ r.2.mem ((c.tc : Thread Cert.PlainAdamXoIdeal.nD Cert.PlainAdamXoIdeal.τ).loc Cert.PlainAdamXoIdeal.main_arg0) = m' ((c.tc : Thread Cert.PlainAdamXoIdeal.nD Cert.PlainAdamXoIdeal.τ).loc Cert.PlainAdamXoIdeal.main_arg0)
          ∧ r.2.mem ((c.tc : Thread Cert.PlainAdamXoIdeal.nD Cert.PlainAdamXoIdeal.τ).loc Cert.PlainAdamXoIdeal.main_arg1) = m' ((c.tc : Thread Cert.PlainAdamXoIdeal.nD Cert.PlainAdamXoIdeal.τ).loc Cert.PlainAdamXoIdeal.main_arg1)
          ∧ r.2.mem ((c.tc : Thread Cert.PlainAdamXoIdeal.nD Cert.PlainAdamXoIdeal.τ).loc Cert.PlainAdamXoIdeal.main_arg2) = m' ((c.tc : Thread Cert.PlainAdamXoIdeal.nD Cert.PlainAdamXoIdeal.τ).loc Cert.PlainAdamXoIdeal.main_arg2)
          ∧ r.2.mem ((c.tc : Thread Cert.PlainAdamXoIdeal.nD Cert.PlainAdamXoIdeal.τ).loc Cert.PlainAdamXoIdeal.main_arg3) = m' ((c.tc : Thread Cert.PlainAdamXoIdeal.nD Cert.PlainAdamXoIdeal.τ).loc Cert.PlainAdamXoIdeal.main_arg3))

def preserves_AdamDown_AdamDownIdeal : Prop :=
  True

def algebraic_AdamDownIdeal_PlainAdamDownIdeal [hAdamDownIdeal : Cert.AdamDownIdeal.Facts] [hPlainAdamDownIdeal : Cert.PlainAdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.PlainAdamDownIdeal.nD Cert.PlainAdamDownIdeal.τ Cert.PlainAdamDownIdeal.sig) → Buf (Elt Ideal) ℓ) (g' : Dev Cert.PlainAdamDownIdeal.nD → PrngReg), Pre_AdamDownIdeal m →
    (∀ c : Dev Cert.AdamDownIdeal.nD,
      m' ((c.tc : Thread Cert.PlainAdamDownIdeal.nD Cert.PlainAdamDownIdeal.τ).loc Cert.PlainAdamDownIdeal.main_arg0) = m ((c.tc : Thread Cert.AdamDownIdeal.nD Cert.AdamDownIdeal.τ).loc Cert.AdamDownIdeal.main_arg0)
      ∧ m' ((c.tc : Thread Cert.PlainAdamDownIdeal.nD Cert.PlainAdamDownIdeal.τ).loc Cert.PlainAdamDownIdeal.main_arg1) = m ((c.tc : Thread Cert.AdamDownIdeal.nD Cert.AdamDownIdeal.τ).loc Cert.AdamDownIdeal.main_arg1)
      ∧ m' ((c.tc : Thread Cert.PlainAdamDownIdeal.nD Cert.PlainAdamDownIdeal.τ).loc Cert.PlainAdamDownIdeal.main_arg2) = m ((c.tc : Thread Cert.AdamDownIdeal.nD Cert.AdamDownIdeal.τ).loc Cert.AdamDownIdeal.main_arg2)
      ∧ m' ((c.tc : Thread Cert.PlainAdamDownIdeal.nD Cert.PlainAdamDownIdeal.τ).loc Cert.PlainAdamDownIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.PlainAdamDownIdeal.defs (F := Ideal)) (onTc (τ := Cert.PlainAdamDownIdeal.τ) (Cert.PlainAdamDownIdeal.main (F := Ideal))) ⟨m', fun _ => 0, g'⟩ (fun r => ∀ c : Dev Cert.PlainAdamDownIdeal.nD,
          r.2.mem ((c.tc : Thread Cert.PlainAdamDownIdeal.nD Cert.PlainAdamDownIdeal.τ).loc Cert.PlainAdamDownIdeal.main_v1) = v0 c
          ∧ r.2.mem ((c.tc : Thread Cert.PlainAdamDownIdeal.nD Cert.PlainAdamDownIdeal.τ).loc Cert.PlainAdamDownIdeal.main_v25) = v1 c
          ∧ r.2.mem ((c.tc : Thread Cert.PlainAdamDownIdeal.nD Cert.PlainAdamDownIdeal.τ).loc Cert.PlainAdamDownIdeal.main_v6) = v2 c
          ∧ r.2.mem ((c.tc : Thread Cert.PlainAdamDownIdeal.nD Cert.PlainAdamDownIdeal.τ).loc Cert.PlainAdamDownIdeal.main_v12) = v3 c
          ∧ r.2.mem ((c.tc : Thread Cert.PlainAdamDownIdeal.nD Cert.PlainAdamDownIdeal.τ).loc Cert.PlainAdamDownIdeal.main_arg0) = m' ((c.tc : Thread Cert.PlainAdamDownIdeal.nD Cert.PlainAdamDownIdeal.τ).loc Cert.PlainAdamDownIdeal.main_arg0)
          ∧ r.2.mem ((c.tc : Thread Cert.PlainAdamDownIdeal.nD Cert.PlainAdamDownIdeal.τ).loc Cert.PlainAdamDownIdeal.main_arg1) = m' ((c.tc : Thread Cert.PlainAdamDownIdeal.nD Cert.PlainAdamDownIdeal.τ).loc Cert.PlainAdamDownIdeal.main_arg1)
          ∧ r.2.mem ((c.tc : Thread Cert.PlainAdamDownIdeal.nD Cert.PlainAdamDownIdeal.τ).loc Cert.PlainAdamDownIdeal.main_arg2) = m' ((c.tc : Thread Cert.PlainAdamDownIdeal.nD Cert.PlainAdamDownIdeal.τ).loc Cert.PlainAdamDownIdeal.main_arg2)
          ∧ r.2.mem ((c.tc : Thread Cert.PlainAdamDownIdeal.nD Cert.PlainAdamDownIdeal.τ).loc Cert.PlainAdamDownIdeal.main_arg3) = m' ((c.tc : Thread Cert.PlainAdamDownIdeal.nD Cert.PlainAdamDownIdeal.τ).loc Cert.PlainAdamDownIdeal.main_arg3))

def preserves_XBwd_XBwdIdeal : Prop :=
  IdealRules.named_const.Statement Cert.XBwdIdeal.κ "x_scale" .f32 0x3DB504F3#32 (((Real.sqrt 128)⁻¹ : ℝ) : EReal)

def algebraic_XBwdIdeal_PlainXBwdIdeal_pre_finite_xbwd [hXBwdIdeal : Cert.XBwdIdeal.Facts] [hPlainXBwdIdeal : Cert.PlainXBwdIdeal.Facts] [hPre_finite_xbwd : Cert.Pre_finite_xbwd.Facts] : Prop :=
  ∀ (m : (ℓ : Loc Cert.XBwdIdeal.nD Cert.XBwdIdeal.τ Cert.XBwdIdeal.sig) → Buf (Elt Ideal) ℓ) (g : Dev Cert.XBwdIdeal.nD → PrngReg)
    (m' : (ℓ : Loc Cert.PlainXBwdIdeal.nD Cert.PlainXBwdIdeal.τ Cert.PlainXBwdIdeal.sig) → Buf (Elt Ideal) ℓ) (g' : Dev Cert.PlainXBwdIdeal.nD → PrngReg), Pre_XBwdIdeal_finite_xbwd m →
    (∀ c : Dev Cert.XBwdIdeal.nD,
      m' ((c.tc : Thread Cert.PlainXBwdIdeal.nD Cert.PlainXBwdIdeal.τ).loc Cert.PlainXBwdIdeal.main_arg0) = m ((c.tc : Thread Cert.XBwdIdeal.nD Cert.XBwdIdeal.τ).loc Cert.XBwdIdeal.main_arg0)
      ∧ m' ((c.tc : Thread Cert.PlainXBwdIdeal.nD Cert.PlainXBwdIdeal.τ).loc Cert.PlainXBwdIdeal.main_arg1) = m ((c.tc : Thread Cert.XBwdIdeal.nD Cert.XBwdIdeal.τ).loc Cert.XBwdIdeal.main_arg1)
      ∧ m' ((c.tc : Thread Cert.PlainXBwdIdeal.nD Cert.PlainXBwdIdeal.τ).loc Cert.PlainXBwdIdeal.main_arg2) = m ((c.tc : Thread Cert.XBwdIdeal.nD Cert.XBwdIdeal.τ).loc Cert.XBwdIdeal.main_arg2)) →
    ∃ (v0 : (c : Dev Cert.XBwdIdeal.nD) → Buf (Elt Ideal) ((c.tc : Thread Cert.XBwdIdeal.nD Cert.XBwdIdeal.τ).loc Cert.XBwdIdeal.main_v18_0)) (v1 : (c : Dev Cert.XBwdIdeal.nD) → Buf (Elt Ideal) ((c.tc : Thread Cert.XBwdIdeal.nD Cert.XBwdIdeal.τ).loc Cert.XBwdIdeal.main_v18_1)),
      θ_run (Cert.XBwdIdeal.defs (F := Ideal)) (onTc (τ := Cert.XBwdIdeal.τ) (Cert.XBwdIdeal.main (F := Ideal))) ⟨m, fun _ => 0, g⟩ (fun r => ∀ c : Dev Cert.XBwdIdeal.nD,
          r.2.mem ((c.tc : Thread Cert.XBwdIdeal.nD Cert.XBwdIdeal.τ).loc Cert.XBwdIdeal.main_v18_0) = v0 c
          ∧ r.2.mem ((c.tc : Thread Cert.XBwdIdeal.nD Cert.XBwdIdeal.τ).loc Cert.XBwdIdeal.main_v18_1) = v1 c
          ∧ r.2.mem ((c.tc : Thread Cert.XBwdIdeal.nD Cert.XBwdIdeal.τ).loc Cert.XBwdIdeal.main_arg0) = m ((c.tc : Thread Cert.XBwdIdeal.nD Cert.XBwdIdeal.τ).loc Cert.XBwdIdeal.main_arg0)
          ∧ r.2.mem ((c.tc : Thread Cert.XBwdIdeal.nD Cert.XBwdIdeal.τ).loc Cert.XBwdIdeal.main_arg1) = m ((c.tc : Thread Cert.XBwdIdeal.nD Cert.XBwdIdeal.τ).loc Cert.XBwdIdeal.main_arg1)
          ∧ r.2.mem ((c.tc : Thread Cert.XBwdIdeal.nD Cert.XBwdIdeal.τ).loc Cert.XBwdIdeal.main_arg2) = m ((c.tc : Thread Cert.XBwdIdeal.nD Cert.XBwdIdeal.τ).loc Cert.XBwdIdeal.main_arg2))
      ∧ θ_run (Cert.PlainXBwdIdeal.defs (F := Ideal)) (onTc (τ := Cert.PlainXBwdIdeal.τ) (Cert.PlainXBwdIdeal.main (F := Ideal))) ⟨m', fun _ => 0, g'⟩ (fun r => ∀ c : Dev Cert.PlainXBwdIdeal.nD,
          r.2.mem ((c.tc : Thread Cert.PlainXBwdIdeal.nD Cert.PlainXBwdIdeal.τ).loc Cert.PlainXBwdIdeal.main_v72) = v0 c
          ∧ r.2.mem ((c.tc : Thread Cert.PlainXBwdIdeal.nD Cert.PlainXBwdIdeal.τ).loc Cert.PlainXBwdIdeal.main_v71) = v1 c
          ∧ r.2.mem ((c.tc : Thread Cert.PlainXBwdIdeal.nD Cert.PlainXBwdIdeal.τ).loc Cert.PlainXBwdIdeal.main_arg0) = m' ((c.tc : Thread Cert.PlainXBwdIdeal.nD Cert.PlainXBwdIdeal.τ).loc Cert.PlainXBwdIdeal.main_arg0)
          ∧ r.2.mem ((c.tc : Thread Cert.PlainXBwdIdeal.nD Cert.PlainXBwdIdeal.τ).loc Cert.PlainXBwdIdeal.main_arg1) = m' ((c.tc : Thread Cert.PlainXBwdIdeal.nD Cert.PlainXBwdIdeal.τ).loc Cert.PlainXBwdIdeal.main_arg1)
          ∧ r.2.mem ((c.tc : Thread Cert.PlainXBwdIdeal.nD Cert.PlainXBwdIdeal.τ).loc Cert.PlainXBwdIdeal.main_arg2) = m' ((c.tc : Thread Cert.PlainXBwdIdeal.nD Cert.PlainXBwdIdeal.τ).loc Cert.PlainXBwdIdeal.main_arg2))

def preserves_SumSmall_SumSmallIdeal : Prop :=
  True

def algebraic_SumSmallIdeal_PlainSumSmallIdeal [hSumSmallIdeal : Cert.SumSmallIdeal.Facts] [hPlainSumSmallIdeal : Cert.PlainSumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.PlainSumSmallIdeal.nD Cert.PlainSumSmallIdeal.τ Cert.PlainSumSmallIdeal.sig) → Buf (Elt Ideal) ℓ) (g' : Dev Cert.PlainSumSmallIdeal.nD → PrngReg), Pre_SumSmallIdeal m →
    (∀ c : Dev Cert.SumSmallIdeal.nD,
      m' ((c.tc : Thread Cert.PlainSumSmallIdeal.nD Cert.PlainSumSmallIdeal.τ).loc Cert.PlainSumSmallIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.PlainSumSmallIdeal.defs (F := Ideal)) (onTc (τ := Cert.PlainSumSmallIdeal.τ) (Cert.PlainSumSmallIdeal.main (F := Ideal))) ⟨m', fun _ => 0, g'⟩ (fun r => ∀ c : Dev Cert.PlainSumSmallIdeal.nD,
          r.2.mem ((c.tc : Thread Cert.PlainSumSmallIdeal.nD Cert.PlainSumSmallIdeal.τ).loc Cert.PlainSumSmallIdeal.main_v0) = v0 c
          ∧ r.2.mem ((c.tc : Thread Cert.PlainSumSmallIdeal.nD Cert.PlainSumSmallIdeal.τ).loc Cert.PlainSumSmallIdeal.main_arg0) = m' ((c.tc : Thread Cert.PlainSumSmallIdeal.nD Cert.PlainSumSmallIdeal.τ).loc Cert.PlainSumSmallIdeal.main_arg0))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hPlainDActIdeal : Cert.PlainDActIdeal.Facts) (hDwDown : Cert.DwDown.Facts) (hDwDownIdeal : Cert.DwDownIdeal.Facts) (hPlainDwDownIdeal : Cert.PlainDwDownIdeal.Facts) (hDxIn : Cert.DxIn.Facts) (hDxInIdeal : Cert.DxInIdeal.Facts) (hPlainDxInIdeal : Cert.PlainDxInIdeal.Facts) (hDMerged : Cert.DMerged.Facts) (hDMergedIdeal : Cert.DMergedIdeal.Facts) (hPlainDMergedIdeal : Cert.PlainDMergedIdeal.Facts) (hDwMix : Cert.DwMix.Facts) (hDwMixIdeal : Cert.DwMixIdeal.Facts) (hPlainDwMixIdeal : Cert.PlainDwMixIdeal.Facts) (hDwBranch : Cert.DwBranch.Facts) (hDwBranchIdeal : Cert.DwBranchIdeal.Facts) (hPlainDwBranchIdeal : Cert.PlainDwBranchIdeal.Facts) (hDwXq : Cert.DwXq.Facts) (hDwXqIdeal : Cert.DwXqIdeal.Facts) (hPlainDwXqIdeal : Cert.PlainDwXqIdeal.Facts) (hDxo : Cert.Dxo.Facts) (hDxoIdeal : Cert.DxoIdeal.Facts) (hPlainDxoIdeal : Cert.PlainDxoIdeal.Facts) (hDwUp : Cert.DwUp.Facts) (hDwUpIdeal : Cert.DwUpIdeal.Facts) (hPlainDwUpIdeal : Cert.PlainDwUpIdeal.Facts) (hProj : Cert.Proj.Facts) (hProjIdeal : Cert.ProjIdeal.Facts) (hPlainProjIdeal : Cert.PlainProjIdeal.Facts) (hDownLn : Cert.DownLn.Facts) (hDownLnIdeal : Cert.DownLnIdeal.Facts) (hPlainDownLnIdeal : Cert.PlainDownLnIdeal.Facts) (hMergeFwd : Cert.MergeFwd.Facts) (hMergeFwdIdeal : Cert.MergeFwdIdeal.Facts) (hPlainMergeFwdIdeal : Cert.PlainMergeFwdIdeal.Facts) (hMixLn : Cert.MixLn.Facts) (hMixLnIdeal : Cert.MixLnIdeal.Facts) (hPlainMixLnIdeal : Cert.PlainMixLnIdeal.Facts) (hXoLn : Cert.XoLn.Facts) (hXoLnIdeal : Cert.XoLnIdeal.Facts) (hPlainXoLnIdeal : Cert.PlainXoLnIdeal.Facts) (hXq : Cert.Xq.Facts) (hXqIdeal : Cert.XqIdeal.Facts) (hPlainXqIdeal : Cert.PlainXqIdeal.Facts) (hDwUpA : Cert.DwUpA.Facts) (hDwUpAIdeal : Cert.DwUpAIdeal.Facts) (hPlainDwUpAIdeal : Cert.PlainDwUpAIdeal.Facts) (hDwInA : Cert.DwInA.Facts) (hDwInAIdeal : Cert.DwInAIdeal.Facts) (hPlainDwInAIdeal : Cert.PlainDwInAIdeal.Facts) (hDwInB : Cert.DwInB.Facts) (hDwInBIdeal : Cert.DwInBIdeal.Facts) (hPlainDwInBIdeal : Cert.PlainDwInBIdeal.Facts) (hDwInC : Cert.DwInC.Facts) (hDwInCIdeal : Cert.DwInCIdeal.Facts) (hPlainDwInCIdeal : Cert.PlainDwInCIdeal.Facts) (hDxUp : Cert.DxUp.Facts) (hDxUpIdeal : Cert.DxUpIdeal.Facts) (hPlainDxUpIdeal : Cert.PlainDxUpIdeal.Facts) (hDxQ : Cert.DxQ.Facts) (hDxQIdeal : Cert.DxQIdeal.Facts) (hPlainDxQIdeal : Cert.PlainDxQIdeal.Facts) (hAdamIn : Cert.AdamIn.Facts) (hAdamInIdeal : Cert.AdamInIdeal.Facts) (hPlainAdamInIdeal : Cert.PlainAdamInIdeal.Facts) (hAdamBranch : Cert.AdamBranch.Facts) (hAdamBranchIdeal : Cert.AdamBranchIdeal.Facts) (hPlainAdamBranchIdeal : Cert.PlainAdamBranchIdeal.Facts) (hAdamMix : Cert.AdamMix.Facts) (hAdamMixIdeal : Cert.AdamMixIdeal.Facts) (hPlainAdamMixIdeal : Cert.PlainAdamMixIdeal.Facts) (hAdamXq : Cert.AdamXq.Facts) (hAdamXqIdeal : Cert.AdamXqIdeal.Facts) (hPlainAdamXqIdeal : Cert.PlainAdamXqIdeal.Facts) (hAdamXo : Cert.AdamXo.Facts) (hAdamXoIdeal : Cert.AdamXoIdeal.Facts) (hPlainAdamXoIdeal : Cert.PlainAdamXoIdeal.Facts) (hAdamDown : Cert.AdamDown.Facts) (hAdamDownIdeal : Cert.AdamDownIdeal.Facts) (hPlainAdamDownIdeal : Cert.PlainAdamDownIdeal.Facts) (hXBwd : Cert.XBwd.Facts) (hXBwdIdeal : Cert.XBwdIdeal.Facts) (hPlainXBwdIdeal : Cert.PlainXBwdIdeal.Facts) (hSumSmall : Cert.SumSmall.Facts) (hSumSmallIdeal : Cert.SumSmallIdeal.Facts) (hPlainSumSmallIdeal : Cert.PlainSumSmallIdeal.Facts) (hPre_finite_dxup : Cert.Pre_finite_dxup.Facts) (hPre_finite_dxq : Cert.Pre_finite_dxq.Facts) (hPre_finite_xbwd : Cert.Pre_finite_xbwd.Facts),
    quiescent_Kernel (hKernel := hKernel)
    ∧ quiescent_KernelIdeal (hKernelIdeal := hKernelIdeal)
    ∧ quiescent_ReferenceIdeal (hReferenceIdeal := hReferenceIdeal)
    ∧ quiescent_DAct (hDAct := hDAct)
    ∧ quiescent_DActIdeal (hDActIdeal := hDActIdeal)
    ∧ quiescent_PlainDActIdeal (hPlainDActIdeal := hPlainDActIdeal)
    ∧ quiescent_DwDown (hDwDown := hDwDown)
    ∧ quiescent_DwDownIdeal (hDwDownIdeal := hDwDownIdeal)
    ∧ quiescent_PlainDwDownIdeal (hPlainDwDownIdeal := hPlainDwDownIdeal)
    ∧ quiescent_DxIn (hDxIn := hDxIn)
    ∧ quiescent_DxInIdeal (hDxInIdeal := hDxInIdeal)
    ∧ quiescent_PlainDxInIdeal (hPlainDxInIdeal := hPlainDxInIdeal)
    ∧ quiescent_DMerged (hDMerged := hDMerged)
    ∧ quiescent_DMergedIdeal (hDMergedIdeal := hDMergedIdeal)
    ∧ quiescent_PlainDMergedIdeal (hPlainDMergedIdeal := hPlainDMergedIdeal)
    ∧ quiescent_DwMix (hDwMix := hDwMix)
    ∧ quiescent_DwMixIdeal (hDwMixIdeal := hDwMixIdeal)
    ∧ quiescent_PlainDwMixIdeal (hPlainDwMixIdeal := hPlainDwMixIdeal)
    ∧ quiescent_DwBranch (hDwBranch := hDwBranch)
    ∧ quiescent_DwBranchIdeal (hDwBranchIdeal := hDwBranchIdeal)
    ∧ quiescent_PlainDwBranchIdeal (hPlainDwBranchIdeal := hPlainDwBranchIdeal)
    ∧ quiescent_DwXq (hDwXq := hDwXq)
    ∧ quiescent_DwXqIdeal (hDwXqIdeal := hDwXqIdeal)
    ∧ quiescent_PlainDwXqIdeal (hPlainDwXqIdeal := hPlainDwXqIdeal)
    ∧ quiescent_Dxo (hDxo := hDxo)
    ∧ quiescent_DxoIdeal (hDxoIdeal := hDxoIdeal)
    ∧ quiescent_PlainDxoIdeal (hPlainDxoIdeal := hPlainDxoIdeal)
    ∧ quiescent_DwUp (hDwUp := hDwUp)
    ∧ quiescent_DwUpIdeal (hDwUpIdeal := hDwUpIdeal)
    ∧ quiescent_PlainDwUpIdeal (hPlainDwUpIdeal := hPlainDwUpIdeal)
    ∧ quiescent_Proj (hProj := hProj)
    ∧ quiescent_ProjIdeal (hProjIdeal := hProjIdeal)
    ∧ quiescent_PlainProjIdeal (hPlainProjIdeal := hPlainProjIdeal)
    ∧ quiescent_DownLn (hDownLn := hDownLn)
    ∧ quiescent_DownLnIdeal (hDownLnIdeal := hDownLnIdeal)
    ∧ quiescent_PlainDownLnIdeal (hPlainDownLnIdeal := hPlainDownLnIdeal)
    ∧ quiescent_MergeFwd (hMergeFwd := hMergeFwd)
    ∧ quiescent_MergeFwdIdeal (hMergeFwdIdeal := hMergeFwdIdeal)
    ∧ quiescent_PlainMergeFwdIdeal (hPlainMergeFwdIdeal := hPlainMergeFwdIdeal)
    ∧ quiescent_MixLn (hMixLn := hMixLn)
    ∧ quiescent_MixLnIdeal (hMixLnIdeal := hMixLnIdeal)
    ∧ quiescent_PlainMixLnIdeal (hPlainMixLnIdeal := hPlainMixLnIdeal)
    ∧ quiescent_XoLn (hXoLn := hXoLn)
    ∧ quiescent_XoLnIdeal (hXoLnIdeal := hXoLnIdeal)
    ∧ quiescent_PlainXoLnIdeal (hPlainXoLnIdeal := hPlainXoLnIdeal)
    ∧ quiescent_Xq (hXq := hXq)
    ∧ quiescent_XqIdeal (hXqIdeal := hXqIdeal)
    ∧ quiescent_PlainXqIdeal (hPlainXqIdeal := hPlainXqIdeal)
    ∧ quiescent_DwUpA (hDwUpA := hDwUpA)
    ∧ quiescent_DwUpAIdeal (hDwUpAIdeal := hDwUpAIdeal)
    ∧ quiescent_PlainDwUpAIdeal (hPlainDwUpAIdeal := hPlainDwUpAIdeal)
    ∧ quiescent_DwInA (hDwInA := hDwInA)
    ∧ quiescent_DwInAIdeal (hDwInAIdeal := hDwInAIdeal)
    ∧ quiescent_PlainDwInAIdeal (hPlainDwInAIdeal := hPlainDwInAIdeal)
    ∧ quiescent_DwInB (hDwInB := hDwInB)
    ∧ quiescent_DwInBIdeal (hDwInBIdeal := hDwInBIdeal)
    ∧ quiescent_PlainDwInBIdeal (hPlainDwInBIdeal := hPlainDwInBIdeal)
    ∧ quiescent_DwInC (hDwInC := hDwInC)
    ∧ quiescent_DwInCIdeal (hDwInCIdeal := hDwInCIdeal)
    ∧ quiescent_PlainDwInCIdeal (hPlainDwInCIdeal := hPlainDwInCIdeal)
    ∧ quiescent_DxUp (hDxUp := hDxUp)
    ∧ quiescent_DxUpIdeal (hDxUpIdeal := hDxUpIdeal)
    ∧ quiescent_DxUpIdeal_pre_finite_dxup (hDxUpIdeal := hDxUpIdeal) (hPre_finite_dxup := hPre_finite_dxup)
    ∧ quiescent_PlainDxUpIdeal (hPlainDxUpIdeal := hPlainDxUpIdeal)
    ∧ quiescent_PlainDxUpIdeal_pre_finite_dxup (hPlainDxUpIdeal := hPlainDxUpIdeal) (hPre_finite_dxup := hPre_finite_dxup)
    ∧ quiescent_DxQ (hDxQ := hDxQ)
    ∧ quiescent_DxQIdeal (hDxQIdeal := hDxQIdeal)
    ∧ quiescent_DxQIdeal_pre_finite_dxq (hDxQIdeal := hDxQIdeal) (hPre_finite_dxq := hPre_finite_dxq)
    ∧ quiescent_PlainDxQIdeal (hPlainDxQIdeal := hPlainDxQIdeal)
    ∧ quiescent_PlainDxQIdeal_pre_finite_dxq (hPlainDxQIdeal := hPlainDxQIdeal) (hPre_finite_dxq := hPre_finite_dxq)
    ∧ quiescent_AdamIn (hAdamIn := hAdamIn)
    ∧ quiescent_AdamInIdeal (hAdamInIdeal := hAdamInIdeal)
    ∧ quiescent_PlainAdamInIdeal (hPlainAdamInIdeal := hPlainAdamInIdeal)
    ∧ quiescent_AdamBranch (hAdamBranch := hAdamBranch)
    ∧ quiescent_AdamBranchIdeal (hAdamBranchIdeal := hAdamBranchIdeal)
    ∧ quiescent_PlainAdamBranchIdeal (hPlainAdamBranchIdeal := hPlainAdamBranchIdeal)
    ∧ quiescent_AdamMix (hAdamMix := hAdamMix)
    ∧ quiescent_AdamMixIdeal (hAdamMixIdeal := hAdamMixIdeal)
    ∧ quiescent_PlainAdamMixIdeal (hPlainAdamMixIdeal := hPlainAdamMixIdeal)
    ∧ quiescent_AdamXq (hAdamXq := hAdamXq)
    ∧ quiescent_AdamXqIdeal (hAdamXqIdeal := hAdamXqIdeal)
    ∧ quiescent_PlainAdamXqIdeal (hPlainAdamXqIdeal := hPlainAdamXqIdeal)
    ∧ quiescent_AdamXo (hAdamXo := hAdamXo)
    ∧ quiescent_AdamXoIdeal (hAdamXoIdeal := hAdamXoIdeal)
    ∧ quiescent_PlainAdamXoIdeal (hPlainAdamXoIdeal := hPlainAdamXoIdeal)
    ∧ quiescent_AdamDown (hAdamDown := hAdamDown)
    ∧ quiescent_AdamDownIdeal (hAdamDownIdeal := hAdamDownIdeal)
    ∧ quiescent_PlainAdamDownIdeal (hPlainAdamDownIdeal := hPlainAdamDownIdeal)
    ∧ quiescent_XBwd (hXBwd := hXBwd)
    ∧ quiescent_XBwdIdeal (hXBwdIdeal := hXBwdIdeal)
    ∧ quiescent_XBwdIdeal_pre_finite_xbwd (hXBwdIdeal := hXBwdIdeal) (hPre_finite_xbwd := hPre_finite_xbwd)
    ∧ quiescent_PlainXBwdIdeal (hPlainXBwdIdeal := hPlainXBwdIdeal)
    ∧ quiescent_PlainXBwdIdeal_pre_finite_xbwd (hPlainXBwdIdeal := hPlainXBwdIdeal) (hPre_finite_xbwd := hPre_finite_xbwd)
    ∧ quiescent_SumSmall (hSumSmall := hSumSmall)
    ∧ quiescent_SumSmallIdeal (hSumSmallIdeal := hSumSmallIdeal)
    ∧ quiescent_PlainSumSmallIdeal (hPlainSumSmallIdeal := hPlainSumSmallIdeal)
    ∧ preserves_Kernel_KernelIdeal
    ∧ algebraic_KernelIdeal_ReferenceIdeal (hKernelIdeal := hKernelIdeal) (hReferenceIdeal := hReferenceIdeal)
    ∧ preserves_DAct_DActIdeal
    ∧ algebraic_DActIdeal_PlainDActIdeal (hDActIdeal := hDActIdeal) (hPlainDActIdeal := hPlainDActIdeal)
    ∧ preserves_DwDown_DwDownIdeal
    ∧ algebraic_DwDownIdeal_PlainDwDownIdeal (hDwDownIdeal := hDwDownIdeal) (hPlainDwDownIdeal := hPlainDwDownIdeal)
    ∧ preserves_DxIn_DxInIdeal
    ∧ algebraic_DxInIdeal_PlainDxInIdeal (hDxInIdeal := hDxInIdeal) (hPlainDxInIdeal := hPlainDxInIdeal)
    ∧ preserves_DMerged_DMergedIdeal
    ∧ algebraic_DMergedIdeal_PlainDMergedIdeal (hDMergedIdeal := hDMergedIdeal) (hPlainDMergedIdeal := hPlainDMergedIdeal)
    ∧ preserves_DwMix_DwMixIdeal
    ∧ algebraic_DwMixIdeal_PlainDwMixIdeal (hDwMixIdeal := hDwMixIdeal) (hPlainDwMixIdeal := hPlainDwMixIdeal)
    ∧ preserves_DwBranch_DwBranchIdeal
    ∧ algebraic_DwBranchIdeal_PlainDwBranchIdeal (hDwBranchIdeal := hDwBranchIdeal) (hPlainDwBranchIdeal := hPlainDwBranchIdeal)
    ∧ preserves_DwXq_DwXqIdeal
    ∧ algebraic_DwXqIdeal_PlainDwXqIdeal (hDwXqIdeal := hDwXqIdeal) (hPlainDwXqIdeal := hPlainDwXqIdeal)
    ∧ preserves_Dxo_DxoIdeal
    ∧ algebraic_DxoIdeal_PlainDxoIdeal (hDxoIdeal := hDxoIdeal) (hPlainDxoIdeal := hPlainDxoIdeal)
    ∧ preserves_DwUp_DwUpIdeal
    ∧ algebraic_DwUpIdeal_PlainDwUpIdeal (hDwUpIdeal := hDwUpIdeal) (hPlainDwUpIdeal := hPlainDwUpIdeal)
    ∧ preserves_Proj_ProjIdeal
    ∧ algebraic_ProjIdeal_PlainProjIdeal (hProjIdeal := hProjIdeal) (hPlainProjIdeal := hPlainProjIdeal)
    ∧ preserves_DownLn_DownLnIdeal
    ∧ algebraic_DownLnIdeal_PlainDownLnIdeal (hDownLnIdeal := hDownLnIdeal) (hPlainDownLnIdeal := hPlainDownLnIdeal)
    ∧ preserves_MergeFwd_MergeFwdIdeal
    ∧ algebraic_MergeFwdIdeal_PlainMergeFwdIdeal (hMergeFwdIdeal := hMergeFwdIdeal) (hPlainMergeFwdIdeal := hPlainMergeFwdIdeal)
    ∧ preserves_MixLn_MixLnIdeal
    ∧ algebraic_MixLnIdeal_PlainMixLnIdeal (hMixLnIdeal := hMixLnIdeal) (hPlainMixLnIdeal := hPlainMixLnIdeal)
    ∧ preserves_XoLn_XoLnIdeal
    ∧ algebraic_XoLnIdeal_PlainXoLnIdeal (hXoLnIdeal := hXoLnIdeal) (hPlainXoLnIdeal := hPlainXoLnIdeal)
    ∧ preserves_Xq_XqIdeal
    ∧ algebraic_XqIdeal_PlainXqIdeal (hXqIdeal := hXqIdeal) (hPlainXqIdeal := hPlainXqIdeal)
    ∧ preserves_DwUpA_DwUpAIdeal
    ∧ algebraic_DwUpAIdeal_PlainDwUpAIdeal (hDwUpAIdeal := hDwUpAIdeal) (hPlainDwUpAIdeal := hPlainDwUpAIdeal)
    ∧ preserves_DwInA_DwInAIdeal
    ∧ algebraic_DwInAIdeal_PlainDwInAIdeal (hDwInAIdeal := hDwInAIdeal) (hPlainDwInAIdeal := hPlainDwInAIdeal)
    ∧ preserves_DwInB_DwInBIdeal
    ∧ algebraic_DwInBIdeal_PlainDwInBIdeal (hDwInBIdeal := hDwInBIdeal) (hPlainDwInBIdeal := hPlainDwInBIdeal)
    ∧ preserves_DwInC_DwInCIdeal
    ∧ algebraic_DwInCIdeal_PlainDwInCIdeal (hDwInCIdeal := hDwInCIdeal) (hPlainDwInCIdeal := hPlainDwInCIdeal)
    ∧ preserves_DxUp_DxUpIdeal
    ∧ algebraic_DxUpIdeal_PlainDxUpIdeal_pre_finite_dxup (hDxUpIdeal := hDxUpIdeal) (hPlainDxUpIdeal := hPlainDxUpIdeal) (hPre_finite_dxup := hPre_finite_dxup)
    ∧ preserves_DxQ_DxQIdeal
    ∧ algebraic_DxQIdeal_PlainDxQIdeal_pre_finite_dxq (hDxQIdeal := hDxQIdeal) (hPlainDxQIdeal := hPlainDxQIdeal) (hPre_finite_dxq := hPre_finite_dxq)
    ∧ preserves_AdamIn_AdamInIdeal
    ∧ algebraic_AdamInIdeal_PlainAdamInIdeal (hAdamInIdeal := hAdamInIdeal) (hPlainAdamInIdeal := hPlainAdamInIdeal)
    ∧ preserves_AdamBranch_AdamBranchIdeal
    ∧ algebraic_AdamBranchIdeal_PlainAdamBranchIdeal (hAdamBranchIdeal := hAdamBranchIdeal) (hPlainAdamBranchIdeal := hPlainAdamBranchIdeal)
    ∧ preserves_AdamMix_AdamMixIdeal
    ∧ algebraic_AdamMixIdeal_PlainAdamMixIdeal (hAdamMixIdeal := hAdamMixIdeal) (hPlainAdamMixIdeal := hPlainAdamMixIdeal)
    ∧ preserves_AdamXq_AdamXqIdeal
    ∧ algebraic_AdamXqIdeal_PlainAdamXqIdeal (hAdamXqIdeal := hAdamXqIdeal) (hPlainAdamXqIdeal := hPlainAdamXqIdeal)
    ∧ preserves_AdamXo_AdamXoIdeal
    ∧ algebraic_AdamXoIdeal_PlainAdamXoIdeal (hAdamXoIdeal := hAdamXoIdeal) (hPlainAdamXoIdeal := hPlainAdamXoIdeal)
    ∧ preserves_AdamDown_AdamDownIdeal
    ∧ algebraic_AdamDownIdeal_PlainAdamDownIdeal (hAdamDownIdeal := hAdamDownIdeal) (hPlainAdamDownIdeal := hPlainAdamDownIdeal)
    ∧ preserves_XBwd_XBwdIdeal
    ∧ algebraic_XBwdIdeal_PlainXBwdIdeal_pre_finite_xbwd (hXBwdIdeal := hXBwdIdeal) (hPlainXBwdIdeal := hPlainXBwdIdeal) (hPre_finite_xbwd := hPre_finite_xbwd)
    ∧ preserves_SumSmall_SumSmallIdeal
    ∧ algebraic_SumSmallIdeal_PlainSumSmallIdeal (hSumSmallIdeal := hSumSmallIdeal) (hPlainSumSmallIdeal := hPlainSumSmallIdeal)
-- ==== Pre_finite_dxq.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S1024x512 : S_.BroadcastsInDim S1024x512 (![] : Fin 0 → Fin S1024x512.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x512 .bf16) (main_arg1 : FVec F S1024x512 .bf16) (main_arg2 : FVec F S4096x1024 .f32) (main_arg3 : FVec F S4096x1024 .f32) (main_arg4 : FVec F S1x1024 .f32) : IVec S4096x512 1 × IVec S1024x512 1 × IVec S4096x1024 1 × IVec S4096x1024 1 × IVec S1x1024 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S1024x512 .f32 := (extf .f32 · bitsLt_bf16_f32) main_arg1
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S1x1024 .f32 := Host.absf main_arg4
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v3, main_v7, main_v10, main_v13, main_v16)
-- ==== Pre_finite_dxup.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S5632x1024 : S_.BroadcastsInDim S5632x1024 (![] : Fin 0 → Fin S5632x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_v3 : IVec S4096x2816 1) (main_v7 : IVec S4096x2816 1) (main_v11 : IVec S5632x1024 1) (main_v14 : IVec S4096x1024 1) (main_v17 : IVec S4096x1024 1) (main_v18 : FVec F S1x1024 .f32) : IVec S4096x2816 1 × IVec S4096x2816 1 × IVec S5632x1024 1 × IVec S4096x1024 1 × IVec S4096x1024 1 × IVec S1x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  (main_v3, main_v7, main_v11, main_v14, main_v17, main_v20)

def fn {F : FTy → Type} [FloatOps F] (main_arg0 : FVec F S4096x2816 .bf16) (main_arg1 : FVec F S4096x2816 .bf16) (main_arg2 : FVec F S5632x1024 .bf16) (main_arg3 : FVec F S4096x1024 .f32) (main_arg4 : FVec F S4096x1024 .f32) (main_arg5 : FVec F S1x1024 .f32) : IVec S4096x2816 1 × IVec S4096x2816 1 × IVec S5632x1024 1 × IVec S4096x1024 1 × IVec S4096x1024 1 × IVec S1x1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S5632x1024 .f32 := (extf .f32 · bitsLt_bf16_f32) main_arg2
  let main_v9 : FVec F S5632x1024 .f32 := Host.absf main_v8
  let main_cst_1 : FVec F S_ .f32 := constant S_ .f32 0x7F800000#32
  let main_v10 : FVec F S5632x1024 .f32 := broadcastInDim S5632x1024 ![] bcast_S_S5632x1024 main_cst_1
  let main_v11 : IVec S5632x1024 1 := cmpf .olt main_v9 main_v10
  let main_v12 : FVec F S4096x1024 .f32 := Host.absf main_arg3
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_v15 : FVec F S4096x1024 .f32 := Host.absf main_arg4
  let main_cst_3 : FVec F S_ .f32 := constant S_ .f32 0x7F800000#32
  let main_v16 : FVec F S4096x1024 .f32 := broadcastInDim S4096x1024 ![] bcast_S_S4096x1024 main_cst_3
  let main_v17 : IVec S4096x1024 1 := cmpf .olt main_v15 main_v16
  let main_v18 : FVec F S1x1024 .f32 := Host.absf main_arg5
  fn_part1 (F := F) main_v3 main_v7 main_v11 main_v14 main_v17 main_v18
-- ==== Pre_finite_xbwd.lean ====
abbrev S4096x512 : Shape := ⟨2, ![4096, 512]⟩
abbrev S256x1024 : Shape := ⟨2, ![256, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S256x1024 : S_.BroadcastsInDim S256x1024 (![] : Fin 0 → Fin S256x1024.rank)

variable [Facts]

def fn {F : FTy → Type} [FloatOps F] (main_arg0 : FVec F S4096x512 .bf16) (main_arg1 : FVec F S256x1024 .bf16) (main_arg2 : FVec F S4096x512 .bf16) : IVec S4096x512 1 × IVec S256x1024 1 × IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  (main_v3, main_v7, main_v11)
-- ==== Kernel.lean ====
abbrev S4096x512 : Shape := ⟨2, ![4096, 512]⟩
abbrev S3x512x1024 : Shape := ⟨3, ![3, 512, 1024]⟩
abbrev S4096x5632 : Shape := ⟨2, ![4096, 5632]⟩
abbrev S1x3072 : Shape := ⟨2, ![1, 3072]⟩
abbrev S4096x1024 : Shape := ⟨2, ![4096, 1024]⟩
abbrev S4096x3072 : Shape := ⟨2, ![4096, 3072]⟩
abbrev S512x512 : Shape := ⟨2, ![512, 512]⟩
abbrev S512x1024 : Shape := ⟨2, ![512, 1024]⟩
abbrev S512x3072 : Shape := ⟨2, ![512, 3072]⟩
abbrev S1x512x512 : Shape := ⟨3, ![1, 512, 512]⟩
abbrev S1x512 : Shape := ⟨2, ![1, 512]⟩
abbrev S512 : Shape := ⟨1, ![512]⟩

abbrev nBuf : Space → Nat
  | .hbm => 15
  | .vmem => 37
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x5632, .f32⟩
  | .hbm, ⟨5, _⟩ => ⟨S1x3072, .f32⟩
  | .hbm, ⟨6, _⟩ => ⟨S4096x1024, .f32⟩
  | .hbm, ⟨7, _⟩ => ⟨S4096x3072, .bf16⟩
  | .hbm, ⟨8, _⟩ => ⟨S1x3072, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x512, .bf16⟩
  | .hbm, ⟨13, _⟩ => ⟨S4096x512, .bf16⟩
  | .hbm, ⟨14, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x1024, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x3072, .f32⟩
  | .local _ .vmem, ⟨20, _⟩ => ⟨S512x1024, .f32⟩
  | .local _ .vmem, ⟨21, _⟩ => ⟨S512x1024, .f32⟩
  | .local _ .vmem, ⟨22, _⟩ => ⟨S512x3072, .bf16⟩
  | .local _ .vmem, ⟨23, _⟩ => ⟨S512x3072, .bf16⟩
  | .local _ .vmem, ⟨24, _⟩ => ⟨S1x3072, .f32⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .f32⟩
  | .local _ .vmem, ⟨36, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S4096x512 : Shape := ⟨2, ![4096, 512]⟩
abbrev S3x512x1024 : Shape := ⟨3, ![3, 512, 1024]⟩
abbrev S4096x5632 : Shape := ⟨2, ![4096, 5632]⟩
abbrev S1x3072 : Shape := ⟨2, ![1, 3072]⟩
abbrev S4096x1024 : Shape := ⟨2, ![4096, 1024]⟩
abbrev S4096x1x512 : Shape := ⟨3, ![4096, 1, 512]⟩
abbrev S4096x3x512 : Shape := ⟨3, ![4096, 3, 512]⟩
abbrev S4096x3072 : Shape := ⟨2, ![4096, 3072]⟩
abbrev S3x1024x4096 : Shape := ⟨3, ![3, 1024, 4096]⟩
abbrev S4096x3x1024 : Shape := ⟨3, ![4096, 3, 1024]⟩
abbrev S_ : Shape := ⟨0, ![]⟩
abbrev S3072 : Shape := ⟨1, ![3072]⟩
abbrev S3x4096x512 : Shape := ⟨3, ![3, 4096, 512]⟩
abbrev S4096x1x1024 : Shape := ⟨3, ![4096, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x5632, .f32⟩
  | .hbm, ⟨5, _⟩ => ⟨S1x3072, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x1x512, .f32⟩
  | .hbm, ⟨11, _⟩ => ⟨S4096x1x512, .f32⟩
  | .hbm, ⟨12, _⟩ => ⟨S4096x1x512, .f32⟩
  | .hbm, ⟨13, _⟩ => ⟨S4096x3x512, .f32⟩
  | .hbm, ⟨14, _⟩ => ⟨S3x512x1024, .f32⟩
  | .hbm, ⟨15, _⟩ => ⟨S4096x3072, .f32⟩
  | .hbm, ⟨16, _⟩ => ⟨S3x1024x4096, .f32⟩
  | .hbm, ⟨17, _⟩ => ⟨S4096x3x1024, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S_, .f32⟩
  | .hbm, ⟨23, _⟩ => ⟨S4096x3072, .f32⟩
  | .hbm, ⟨24, _⟩ => ⟨S4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S4096x3x1024, .f32⟩
  | .hbm, ⟨33, _⟩ => ⟨S4096x3x1024, .f32⟩
  | .hbm, ⟨34, _⟩ => ⟨S_, .f32⟩
  | .hbm, ⟨35, _⟩ => ⟨S4096x1024, .f32⟩
  | .hbm, ⟨36, _⟩ => ⟨S4096x3x1024, .f32⟩
  | .hbm, ⟨37, _⟩ => ⟨S4096x3x1024, .f32⟩
  | .hbm, ⟨38, _⟩ => ⟨S4096x3x1024, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S3072, .f32⟩
  | .hbm, ⟨43, _⟩ => ⟨S1x3072, .f32⟩
  | .hbm, ⟨44, _⟩ => ⟨S3x1024x4096, .f32⟩
  | .hbm, ⟨45, _⟩ => ⟨S4096x3x1024, .f32⟩
  | .hbm, ⟨46, _⟩ => ⟨S3x1024x4096, .f32⟩
  | .hbm, ⟨47, _⟩ => ⟨S3x4096x512, .f32⟩
  | .hbm, ⟨48, _⟩ => ⟨S4096x3x512, .f32⟩
  | .hbm, ⟨49, _⟩ => ⟨S4096x3072, .bf16⟩
  | .hbm, ⟨50, _⟩ => ⟨S4096x1x1024, .f32⟩
  | .hbm, ⟨51, _⟩ => ⟨S4096x1024, .f32⟩
  | .hbm, ⟨52, _⟩ => ⟨S4096x1024, .bf16⟩
  | .hbm, ⟨53, _⟩ => ⟨S4096x1x1024, .f32⟩
  | .hbm, ⟨54, _⟩ => ⟨S4096x1024, .f32⟩
  | .hbm, ⟨55, _⟩ => ⟨S4096x1024, .bf16⟩
  | .hbm, ⟨56, _⟩ => ⟨S4096x1x1024, .f32⟩
  | .hbm, ⟨57, _⟩ => ⟨S4096x1024, .f32⟩
  | .hbm, ⟨58, _⟩ => ⟨S4096x1024, .bf16⟩
  | .hbm, ⟨59, _⟩ => ⟨S4096x1x512, .f32⟩
  | .hbm, ⟨60, _⟩ => ⟨S4096x512, .f32⟩
  | .hbm, ⟨61, _⟩ => ⟨S4096x512, .bf16⟩
  | .hbm, ⟨62, _⟩ => ⟨S4096x1x512, .f32⟩
  | .hbm, ⟨63, _⟩ => ⟨S4096x512, .f32⟩
  | .hbm, ⟨64, _⟩ => ⟨S4096x512, .bf16⟩
  | .hbm, ⟨65, _⟩ => ⟨S4096x1x512, .f32⟩
  | .hbm, ⟨66, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== DAct.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDActIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDwDownIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxIn.lean ====
abbrev S4096x1536 : Shape := ⟨2, ![4096, 1536]⟩
abbrev S4096x1024 : Shape := ⟨2, ![4096, 1024]⟩
abbrev S4096x3072 : Shape := ⟨2, ![4096, 3072]⟩
abbrev S5632x1024 : Shape := ⟨2, ![5632, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x3072, .bf16⟩
  | .hbm, ⟨3, _⟩ => ⟨S5632x1024, .bf16⟩
  | .hbm, ⟨4, _⟩ => ⟨S4096x1024, .f32⟩
  | .hbm, ⟨5, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 11], ![false, false, false]⟩

def k0_cond5 (i : grid0.Coords) : BitVec 1 :=
  let arg2 : BitVec 32 := BitVec.ofNat 32 (i 2).val
  let c10_i32 : BitVec 32 := 10#32
  let v18 : BitVec 1 := Scalar.cmpi .eq arg2 c10_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c5_i32_0 : BitVec 32 := 5#32
  let v1 : BitVec 32 := Scalar.maxsi c0_i32 v0
  let v2 : BitVec 32 := Scalar.minsi c5_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PlainDxInIdeal.lean ====
abbrev S4096x1536 : Shape := ⟨2, ![4096, 1536]⟩
abbrev S4096x1024 : Shape := ⟨2, ![4096, 1024]⟩
abbrev S4096x3072 : Shape := ⟨2, ![4096, 3072]⟩
abbrev S5632x1024 : Shape := ⟨2, ![5632, 1024]⟩
abbrev S_ : Shape := ⟨0, ![]⟩
abbrev S1024x5632 : Shape := ⟨2, ![1024, 5632]⟩
abbrev S4096x5632 : Shape := ⟨2, ![4096, 5632]⟩

abbrev nBuf : Space → Nat
  | .hbm => 22
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x3072, .bf16⟩
  | .hbm, ⟨3, _⟩ => ⟨S5632x1024, .bf16⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S5632x1024, .f32⟩
  | .hbm, ⟨11, _⟩ => ⟨S1024x5632, .f32⟩
  | .hbm, ⟨12, _⟩ => ⟨S4096x5632, .f32⟩
  | .hbm, ⟨13, _⟩ => ⟨S4096x1536, .f32⟩
  | .hbm, ⟨14, _⟩ => ⟨S4096x1024, .f32⟩
  | .hbm, ⟨15, _⟩ => ⟨S4096x3072, .f32⟩
  | .hbm, ⟨16, _⟩ => ⟨S4096x5632, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== DMerged.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDMergedIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwMix.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PlainDwMixIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwBranch.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PlainDwBranchIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwXq.lean ====
abbrev S4096x1024 : Shape := ⟨2, ![4096, 1024]⟩
abbrev S4096x512 : Shape := ⟨2, ![4096, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PlainDwXqIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dxo.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDxoIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .f32⟩
  | .hbm, ⟨3, _⟩ => ⟨S4096x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUp.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDwUpIdeal.lean ====
abbrev S4096x2816 : Shape := ⟨2, ![4096, 2816]⟩
abbrev S4096x1024 : Shape := ⟨2, ![4096, 1024]⟩
abbrev S5632x1024 : Shape := ⟨2, ![5632, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S2816x1024, .bf16⟩
  | .hbm, ⟨4, _⟩ => ⟨S4096x1024, .f32⟩
  | .hbm, ⟨5, _⟩ => ⟨S4096x2816, .f32⟩
  | .hbm, ⟨6, _⟩ => ⟨S_, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proj.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainProjIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownLn.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x1 : Shape := ⟨2, ![4096, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PlainDownLnIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== MergeFwd.lean ====
abbrev S4096x512 : Shape := ⟨2, ![4096, 512]⟩
abbrev S3x512x1024 : Shape := ⟨3, ![3, 512, 1024]⟩
abbrev S4096x5632 : Shape := ⟨2, ![4096, 5632]⟩
abbrev S1x3072 : Shape := ⟨2, ![1, 3072]⟩
abbrev S4096x1024 : Shape := ⟨2, ![4096, 1024]⟩
abbrev S512x512 : Shape := ⟨2, ![512, 512]⟩
abbrev S512x1024 : Shape := ⟨2, ![512, 1024]⟩
abbrev S1x512x512 : Shape := ⟨3, ![1, 512, 512]⟩
abbrev S1x512 : Shape := ⟨2, ![1, 512]⟩

abbrev nBuf : Space → Nat
  | .hbm => 7
  | .vmem => 22
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x5632, .f32⟩
  | .hbm, ⟨5, _⟩ => ⟨S1x3072, .f32⟩
  | .hbm, ⟨6, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x1024, .bf16⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x3072, .f32⟩
  | .local _ .vmem, ⟨20, _⟩ => ⟨S512x1024, .bf16⟩
  | .local _ .vmem, ⟨21, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PlainMergeFwdIdeal.lean ====
abbrev S4096x512 : Shape := ⟨2, ![4096, 512]⟩
abbrev S3x512x1024 : Shape := ⟨3, ![3, 512, 1024]⟩
abbrev S4096x5632 : Shape := ⟨2, ![4096, 5632]⟩
abbrev S1x3072 : Shape := ⟨2, ![1, 3072]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S4096x3072 : Shape := ⟨2, ![4096, 3072]⟩
abbrev S_ : Shape := ⟨0, ![]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x5632, .f32⟩
  | .hbm, ⟨5, _⟩ => ⟨S1x3072, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x1x512, .f32⟩
  | .hbm, ⟨10, _⟩ => ⟨S4096x1x512, .f32⟩
  | .hbm, ⟨11, _⟩ => ⟨S4096x1x512, .f32⟩
  | .hbm, ⟨12, _⟩ => ⟨S4096x3x512, .f32⟩
  | .hbm, ⟨13, _⟩ => ⟨S3x512x1024, .f32⟩
  | .hbm, ⟨14, _⟩ => ⟨S3x1024x4096, .f32⟩
  | .hbm, ⟨15, _⟩ => ⟨S4096x3x1024, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3x1024, .f32⟩
  | .hbm, ⟨28, _⟩ => ⟨S4096x3x1024, .f32⟩
  | .hbm, ⟨29, _⟩ => ⟨S_, .f32⟩
  | .hbm, ⟨30, _⟩ => ⟨S4096x1024, .f32⟩
  | .hbm, ⟨31, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== MixLn.lean ====
abbrev S4096x1024 : Shape := ⟨2, ![4096, 1024]⟩
abbrev S1024x1024 : Shape := ⟨2, ![1024, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PlainMixLnIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== XoLn.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S4096x1 : Shape := ⟨2, ![4096, 1]⟩
abbrev S512x512 : Shape := ⟨2, ![512, 512]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PlainXoLnIdeal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x512, .f32⟩
  | .hbm, ⟨6, _⟩ => ⟨S512x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Xq.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainXqIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | .hbm, ⟨5, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwUpA.lean ====
abbrev S4096x2816 : Shape := ⟨2, ![4096, 2816]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDwUpAIdeal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S4096x1024, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwInA.lean ====
abbrev S4096x1536 : Shape := ⟨2, ![4096, 1536]⟩
abbrev S4096x1024 : Shape := ⟨2, ![4096, 1024]⟩
abbrev S5632x1024 : Shape := ⟨2, ![5632, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PlainDwInAIdeal.lean ====
abbrev S4096x1536 : Shape := ⟨2, ![4096, 1536]⟩
abbrev S4096x1024 : Shape := ⟨2, ![4096, 1024]⟩
abbrev S5632x1024 : Shape := ⟨2, ![5632, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S5632x1024, .bf16⟩
  | .hbm, ⟨3, _⟩ => ⟨S4096x1024, .f32⟩
  | .hbm, ⟨4, _⟩ => ⟨S4096x1536, .f32⟩
  | .hbm, ⟨5, _⟩ => ⟨S_, .f32⟩
  | .hbm, ⟨6, _⟩ => ⟨S1024x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | .hbm, ⟨12, _⟩ => ⟨S4096x1024, .bf16⟩
  | .hbm, ⟨13, _⟩ => ⟨S5632x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwInB.lean ====
abbrev S4096x1024 : Shape := ⟨2, ![4096, 1024]⟩
abbrev S5632x1024 : Shape := ⟨2, ![5632, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDwInBIdeal.lean ====
abbrev S4096x1024 : Shape := ⟨2, ![4096, 1024]⟩
abbrev S5632x1024 : Shape := ⟨2, ![5632, 1024]⟩
abbrev S1536x1024 : Shape := ⟨2, ![1536, 1024]⟩
abbrev S_ : Shape := ⟨0, ![]⟩
abbrev S1024x1024 : Shape := ⟨2, ![1024, 1024]⟩
abbrev S3072x1024 : Shape := ⟨2, ![3072, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S5632x1024, .bf16⟩
  | .hbm, ⟨3, _⟩ => ⟨S1536x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S3072x1024, .bf16⟩
  | .hbm, ⟨14, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DwInC.lean ====
abbrev S4096x3072 : Shape := ⟨2, ![4096, 3072]⟩
abbrev S4096x1024 : Shape := ⟨2, ![4096, 1024]⟩
abbrev S5632x1024 : Shape := ⟨2, ![5632, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PlainDwInCIdeal.lean ====
abbrev S4096x3072 : Shape := ⟨2, ![4096, 3072]⟩
abbrev S4096x1024 : Shape := ⟨2, ![4096, 1024]⟩
abbrev S5632x1024 : Shape := ⟨2, ![5632, 1024]⟩
abbrev S2560x1024 : Shape := ⟨2, ![2560, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S5632x1024, .bf16⟩
  | .hbm, ⟨3, _⟩ => ⟨S2560x1024, .bf16⟩
  | .hbm, ⟨4, _⟩ => ⟨S4096x1024, .f32⟩
  | .hbm, ⟨5, _⟩ => ⟨S4096x3072, .f32⟩
  | .hbm, ⟨6, _⟩ => ⟨S_, .f32⟩
  | .hbm, ⟨7, _⟩ => ⟨S1024x3072, .f32⟩
  | .hbm, ⟨8, _⟩ => ⟨S4096x3072, .f32⟩
  | .hbm, ⟨9, _⟩ => ⟨S3072x1024, .f32⟩
  | .hbm, ⟨10, _⟩ => ⟨S1024x3072, .f32⟩
  | .hbm, ⟨11, _⟩ => ⟨S3072x1024, .f32⟩
  | .hbm, ⟨12, _⟩ => ⟨S3072x1024, .bf16⟩
  | .hbm, ⟨13, _⟩ => ⟨S5632x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DxUp.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x1408 : Shape := ⟨2, ![512, 1408]⟩
abbrev S1408x1024 : Shape := ⟨2, ![1408, 1024]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 33
  | .vmem => 20
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S1x1024, .f32⟩
  | .hbm, ⟨32, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v22 : BitVec 32 := Scalar.extui v0
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== PlainDxUpIdeal.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S5632x1024, .f32⟩
  | .hbm, ⟨7, _⟩ => ⟨S1024x5632, .f32⟩
  | .hbm, ⟨8, _⟩ => ⟨S4096x2816, .f32⟩
  | .hbm, ⟨9, _⟩ => ⟨S4096x2816, .f32⟩
  | .hbm, ⟨10, _⟩ => ⟨S4096x5632, .f32⟩
  | .hbm, ⟨11, _⟩ => ⟨S_, .f32⟩
  | .hbm, ⟨12, _⟩ => ⟨S1x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x5632, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== DxQ.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 32
  | .vmem => 16
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S1x1024, .f32⟩
  | .hbm, ⟨31, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]
-- ==== PlainDxQIdeal.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x512, .f32⟩
  | .hbm, ⟨6, _⟩ => ⟨S4096x512, .f32⟩
  | .hbm, ⟨7, _⟩ => ⟨S_, .f32⟩
  | .hbm, ⟨8, _⟩ => ⟨S1x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x512, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== AdamIn.lean ====
abbrev S4x8x704x1024 : Shape := ⟨4, ![4, 8, 704, 1024]⟩
abbrev S4x704x1024 : Shape := ⟨3, ![4, 704, 1024]⟩
abbrev S1x8x352x1024 : Shape := ⟨4, ![1, 8, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PlainAdamInIdeal.lean ====
abbrev S4x8x704x1024 : Shape := ⟨4, ![4, 8, 704, 1024]⟩
abbrev S4x704x1024 : Shape := ⟨3, ![4, 704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x704x1024, .bf16⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x8x704x1024, .f32⟩
  | .hbm, ⟨5, _⟩ => ⟨S_, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S_, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .hbm, ⟨14, _⟩ => ⟨S_, .f32⟩
  | .hbm, ⟨15, _⟩ => ⟨S4x704x1024, .f32⟩
  | .hbm, ⟨16, _⟩ => ⟨S4x704x1024, .f32⟩
  | .hbm, ⟨17, _⟩ => ⟨S4x704x1024, .f32⟩
  | .hbm, ⟨18, _⟩ => ⟨S_, .f32⟩
  | .hbm, ⟨19, _⟩ => ⟨S4x704x1024, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S_, .f32⟩
  | .hbm, ⟨26, _⟩ => ⟨S4x704x1024, .f32⟩
  | .hbm, ⟨27, _⟩ => ⟨S4x704x1024, .f32⟩
  | .hbm, ⟨28, _⟩ => ⟨S4x704x1024, .f32⟩
  | .hbm, ⟨29, _⟩ => ⟨S_, .f32⟩
  | .hbm, ⟨30, _⟩ => ⟨S4x704x1024, .f32⟩
  | .hbm, ⟨31, _⟩ => ⟨S4x704x1024, .f32⟩
  | .hbm, ⟨32, _⟩ => ⟨S4x704x1024, .f32⟩
  | .hbm, ⟨33, _⟩ => ⟨S_, .f32⟩
  | .hbm, ⟨34, _⟩ => ⟨S4x704x1024, .f32⟩
  | .hbm, ⟨35, _⟩ => ⟨S4x704x1024, .f32⟩
  | .hbm, ⟨36, _⟩ => ⟨S4x704x1024, .f32⟩
  | .hbm, ⟨37, _⟩ => ⟨S_, .f32⟩
  | .hbm, ⟨38, _⟩ => ⟨S4x704x1024, .f32⟩
  | .hbm, ⟨39, _⟩ => ⟨S4x704x1024, .f32⟩
  | _, _ => ⟨S4x8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranch.lean ====
abbrev S4x8x1536x128 : Shape := ⟨4, ![4, 8, 1536, 128]⟩
abbrev S4x1536x128 : Shape := ⟨3, ![4, 1536, 128]⟩
abbrev S1x8x1536x128 : Shape := ⟨4, ![1, 8, 1536, 128]⟩
abbrev S1x1536x128 : Shape := ⟨3, ![1, 1536, 128]⟩
abbrev S1x1x1536x128 : Shape := ⟨4, ![1, 1, 1536, 128]⟩
abbrev S1536x128 : Shape := ⟨2, ![1536, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x8x1536x128, .bf16⟩
  | .hbm, ⟨1, _⟩ => ⟨S4x1536x128, .f32⟩
  | .hbm, ⟨2, _⟩ => ⟨S4x1536x128, .f32⟩
  | .hbm, ⟨3, _⟩ => ⟨S4x1536x128, .f32⟩
  | .hbm, ⟨4, _⟩ => ⟨S4x1536x128, .f32⟩
  | .hbm, ⟨5, _⟩ => ⟨S4x1536x128, .f32⟩
  | .hbm, ⟨6, _⟩ => ⟨S4x1536x128, .f32⟩
  | .hbm, ⟨7, _⟩ => ⟨S4x1536x128, .f32⟩
  | .local _ .vmem, ⟨0, _⟩ => ⟨S1x8x1536x128, .bf16⟩
  | .local _ .vmem, ⟨1, _⟩ => ⟨S1x8x1536x128, .bf16⟩
  | .local _ .vmem, ⟨2, _⟩ => ⟨S1x1536x128, .f32⟩
  | .local _ .vmem, ⟨3, _⟩ => ⟨S1x1536x128, .f32⟩
  | .local _ .vmem, ⟨4, _⟩ => ⟨S1x1536x128, .f32⟩
  | .local _ .vmem, ⟨5, _⟩ => ⟨S1x1536x128, .f32⟩
  | .local _ .vmem, ⟨6, _⟩ => ⟨S1x1536x128, .f32⟩
  | .local _ .vmem, ⟨7, _⟩ => ⟨S1x1536x128, .f32⟩
  | .local _ .vmem, ⟨8, _⟩ => ⟨S1x1536x128, .f32⟩
  | .local _ .vmem, ⟨9, _⟩ => ⟨S1x1536x128, .f32⟩
  | .local _ .vmem, ⟨10, _⟩ => ⟨S1x1536x128, .f32⟩
  | .local _ .vmem, ⟨11, _⟩ => ⟨S1x1536x128, .f32⟩
  | .local _ .vmem, ⟨12, _⟩ => ⟨S1x1536x128, .f32⟩
  | .local _ .vmem, ⟨13, _⟩ => ⟨S1x1536x128, .f32⟩
  | .local _ .vmem, ⟨14, _⟩ => ⟨S1x1536x128, .f32⟩
  | .local _ .vmem, ⟨15, _⟩ => ⟨S1x1536x128, .f32⟩
  | _, _ => ⟨S4x8x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1536x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PlainAdamBranchIdeal.lean ====
abbrev S4x8x1536x128 : Shape := ⟨4, ![4, 8, 1536, 128]⟩
abbrev S4x1536x128 : Shape := ⟨3, ![4, 1536, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x1536x128, .bf16⟩
  | .hbm, ⟨1, _⟩ => ⟨S4x1536x128, .f32⟩
  | .hbm, ⟨2, _⟩ => ⟨S4x1536x128, .f32⟩
  | .hbm, ⟨3, _⟩ => ⟨S4x1536x128, .f32⟩
  | .hbm, ⟨4, _⟩ => ⟨S4x8x1536x128, .f32⟩
  | .hbm, ⟨5, _⟩ => ⟨S_, .f32⟩
  | .hbm, ⟨6, _⟩ => ⟨S4x1536x128, .f32⟩
  | .hbm, ⟨7, _⟩ => ⟨S_, .f32⟩
  | .hbm, ⟨8, _⟩ => ⟨S4x1536x128, .f32⟩
  | .hbm, ⟨9, _⟩ => ⟨S4x1536x128, .f32⟩
  | .hbm, ⟨10, _⟩ => ⟨S_, .f32⟩
  | .hbm, ⟨11, _⟩ => ⟨S4x1536x128, .f32⟩
  | .hbm, ⟨12, _⟩ => ⟨S4x1536x128, .f32⟩
  | .hbm, ⟨13, _⟩ => ⟨S4x1536x128, .f32⟩
  | .hbm, ⟨14, _⟩ => ⟨S_, .f32⟩
  | .hbm, ⟨15, _⟩ => ⟨S4x1536x128, .f32⟩
  | .hbm, ⟨16, _⟩ => ⟨S4x1536x128, .f32⟩
  | .hbm, ⟨17, _⟩ => ⟨S4x1536x128, .f32⟩
  | .hbm, ⟨18, _⟩ => ⟨S_, .f32⟩
  | .hbm, ⟨19, _⟩ => ⟨S4x1536x128, .f32⟩
  | .hbm, ⟨20, _⟩ => ⟨S4x1536x128, .f32⟩
  | .hbm, ⟨21, _⟩ => ⟨S4x1536x128, .f32⟩
  | .hbm, ⟨22, _⟩ => ⟨S_, .f32⟩
  | .hbm, ⟨23, _⟩ => ⟨S4x1536x128, .f32⟩
  | .hbm, ⟨24, _⟩ => ⟨S4x1536x128, .f32⟩
  | .hbm, ⟨25, _⟩ => ⟨S_, .f32⟩
  | .hbm, ⟨26, _⟩ => ⟨S4x1536x128, .f32⟩
  | .hbm, ⟨27, _⟩ => ⟨S4x1536x128, .f32⟩
  | .hbm, ⟨28, _⟩ => ⟨S4x1536x128, .f32⟩
  | .hbm, ⟨29, _⟩ => ⟨S_, .f32⟩
  | .hbm, ⟨30, _⟩ => ⟨S4x1536x128, .f32⟩
  | .hbm, ⟨31, _⟩ => ⟨S4x1536x128, .f32⟩
  | .hbm, ⟨32, _⟩ => ⟨S4x1536x128, .f32⟩
  | .hbm, ⟨33, _⟩ => ⟨S_, .f32⟩
  | .hbm, ⟨34, _⟩ => ⟨S4x1536x128, .f32⟩
  | .hbm, ⟨35, _⟩ => ⟨S4x1536x128, .f32⟩
  | .hbm, ⟨36, _⟩ => ⟨S4x1536x128, .f32⟩
  | .hbm, ⟨37, _⟩ => ⟨S_, .f32⟩
  | .hbm, ⟨38, _⟩ => ⟨S4x1536x128, .f32⟩
  | .hbm, ⟨39, _⟩ => ⟨S4x1536x128, .f32⟩
  | _, _ => ⟨S4x8x1536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMix.lean ====
abbrev S4x8x128x1024 : Shape := ⟨4, ![4, 8, 128, 1024]⟩
abbrev S4x128x1024 : Shape := ⟨3, ![4, 128, 1024]⟩
abbrev S1x8x128x1024 : Shape := ⟨4, ![1, 8, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .local _ .vmem, ⟨0, _⟩ => ⟨S1x8x128x1024, .bf16⟩
  | .local _ .vmem, ⟨1, _⟩ => ⟨S1x8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S4x8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PlainAdamMixIdeal.lean ====
abbrev S4x8x128x1024 : Shape := ⟨4, ![4, 8, 128, 1024]⟩
abbrev S4x128x1024 : Shape := ⟨3, ![4, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x8x128x1024, .f32⟩
  | .hbm, ⟨5, _⟩ => ⟨S_, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S_, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S_, .f32⟩
  | .hbm, ⟨15, _⟩ => ⟨S4x128x1024, .f32⟩
  | .hbm, ⟨16, _⟩ => ⟨S4x128x1024, .f32⟩
  | .hbm, ⟨17, _⟩ => ⟨S4x128x1024, .f32⟩
  | .hbm, ⟨18, _⟩ => ⟨S_, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S_, .f32⟩
  | .hbm, ⟨26, _⟩ => ⟨S4x128x1024, .f32⟩
  | .hbm, ⟨27, _⟩ => ⟨S4x128x1024, .f32⟩
  | .hbm, ⟨28, _⟩ => ⟨S4x128x1024, .f32⟩
  | .hbm, ⟨29, _⟩ => ⟨S_, .f32⟩
  | .hbm, ⟨30, _⟩ => ⟨S4x128x1024, .f32⟩
  | .hbm, ⟨31, _⟩ => ⟨S4x128x1024, .f32⟩
  | .hbm, ⟨32, _⟩ => ⟨S4x128x1024, .f32⟩
  | .hbm, ⟨33, _⟩ => ⟨S_, .f32⟩
  | .hbm, ⟨34, _⟩ => ⟨S4x128x1024, .f32⟩
  | .hbm, ⟨35, _⟩ => ⟨S4x128x1024, .f32⟩
  | .hbm, ⟨36, _⟩ => ⟨S4x128x1024, .f32⟩
  | .hbm, ⟨37, _⟩ => ⟨S_, .f32⟩
  | .hbm, ⟨38, _⟩ => ⟨S4x128x1024, .f32⟩
  | .hbm, ⟨39, _⟩ => ⟨S4x128x1024, .f32⟩
  | _, _ => ⟨S4x8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamXq.lean ====
abbrev S4x8x128x512 : Shape := ⟨4, ![4, 8, 128, 512]⟩
abbrev S4x128x512 : Shape := ⟨3, ![4, 128, 512]⟩
abbrev S1x8x128x512 : Shape := ⟨4, ![1, 8, 128, 512]⟩
abbrev S1x128x512 : Shape := ⟨3, ![1, 128, 512]⟩
abbrev S1x1x128x512 : Shape := ⟨4, ![1, 1, 128, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x8x128x512, .bf16⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S4x128x512, .f32⟩
  | .hbm, ⟨5, _⟩ => ⟨S4x128x512, .f32⟩
  | .hbm, ⟨6, _⟩ => ⟨S4x128x512, .f32⟩
  | .hbm, ⟨7, _⟩ => ⟨S4x128x512, .f32⟩
  | .local _ .vmem, ⟨0, _⟩ => ⟨S1x8x128x512, .bf16⟩
  | .local _ .vmem, ⟨1, _⟩ => ⟨S1x8x128x512, .bf16⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | _, _ => ⟨S4x8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PlainAdamXqIdeal.lean ====
abbrev S4x8x128x512 : Shape := ⟨4, ![4, 8, 128, 512]⟩
abbrev S4x128x512 : Shape := ⟨3, ![4, 128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x128x512, .bf16⟩
  | .hbm, ⟨1, _⟩ => ⟨S4x128x512, .f32⟩
  | .hbm, ⟨2, _⟩ => ⟨S4x128x512, .f32⟩
  | .hbm, ⟨3, _⟩ => ⟨S4x128x512, .f32⟩
  | .hbm, ⟨4, _⟩ => ⟨S4x8x128x512, .f32⟩
  | .hbm, ⟨5, _⟩ => ⟨S_, .f32⟩
  | .hbm, ⟨6, _⟩ => ⟨S4x128x512, .f32⟩
  | .hbm, ⟨7, _⟩ => ⟨S_, .f32⟩
  | .hbm, ⟨8, _⟩ => ⟨S4x128x512, .f32⟩
  | .hbm, ⟨9, _⟩ => ⟨S4x128x512, .f32⟩
  | .hbm, ⟨10, _⟩ => ⟨S_, .f32⟩
  | .hbm, ⟨11, _⟩ => ⟨S4x128x512, .f32⟩
  | .hbm, ⟨12, _⟩ => ⟨S4x128x512, .f32⟩
  | .hbm, ⟨13, _⟩ => ⟨S4x128x512, .f32⟩
  | .hbm, ⟨14, _⟩ => ⟨S_, .f32⟩
  | .hbm, ⟨15, _⟩ => ⟨S4x128x512, .f32⟩
  | .hbm, ⟨16, _⟩ => ⟨S4x128x512, .f32⟩
  | .hbm, ⟨17, _⟩ => ⟨S4x128x512, .f32⟩
  | .hbm, ⟨18, _⟩ => ⟨S_, .f32⟩
  | .hbm, ⟨19, _⟩ => ⟨S4x128x512, .f32⟩
  | .hbm, ⟨20, _⟩ => ⟨S4x128x512, .f32⟩
  | .hbm, ⟨21, _⟩ => ⟨S4x128x512, .f32⟩
  | .hbm, ⟨22, _⟩ => ⟨S_, .f32⟩
  | .hbm, ⟨23, _⟩ => ⟨S4x128x512, .f32⟩
  | .hbm, ⟨24, _⟩ => ⟨S4x128x512, .f32⟩
  | .hbm, ⟨25, _⟩ => ⟨S_, .f32⟩
  | .hbm, ⟨26, _⟩ => ⟨S4x128x512, .f32⟩
  | .hbm, ⟨27, _⟩ => ⟨S4x128x512, .f32⟩
  | .hbm, ⟨28, _⟩ => ⟨S4x128x512, .f32⟩
  | .hbm, ⟨29, _⟩ => ⟨S_, .f32⟩
  | .hbm, ⟨30, _⟩ => ⟨S4x128x512, .f32⟩
  | .hbm, ⟨31, _⟩ => ⟨S4x128x512, .f32⟩
  | .hbm, ⟨32, _⟩ => ⟨S4x128x512, .f32⟩
  | .hbm, ⟨33, _⟩ => ⟨S_, .f32⟩
  | .hbm, ⟨34, _⟩ => ⟨S4x128x512, .f32⟩
  | .hbm, ⟨35, _⟩ => ⟨S4x128x512, .f32⟩
  | .hbm, ⟨36, _⟩ => ⟨S4x128x512, .f32⟩
  | .hbm, ⟨37, _⟩ => ⟨S_, .f32⟩
  | .hbm, ⟨38, _⟩ => ⟨S4x128x512, .f32⟩
  | .hbm, ⟨39, _⟩ => ⟨S4x128x512, .f32⟩
  | _, _ => ⟨S4x8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamXo.lean ====
abbrev S4x8x512x128 : Shape := ⟨4, ![4, 8, 512, 128]⟩
abbrev S4x512x128 : Shape := ⟨3, ![4, 512, 128]⟩
abbrev S1x8x512x128 : Shape := ⟨4, ![1, 8, 512, 128]⟩
abbrev S1x512x128 : Shape := ⟨3, ![1, 512, 128]⟩
abbrev S1x1x512x128 : Shape := ⟨4, ![1, 1, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x8x512x128, .bf16⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S4x512x128, .f32⟩
  | .hbm, ⟨5, _⟩ => ⟨S4x512x128, .f32⟩
  | .hbm, ⟨6, _⟩ => ⟨S4x512x128, .f32⟩
  | .hbm, ⟨7, _⟩ => ⟨S4x512x128, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S4x8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PlainAdamXoIdeal.lean ====
abbrev S4x8x512x128 : Shape := ⟨4, ![4, 8, 512, 128]⟩
abbrev S4x512x128 : Shape := ⟨3, ![4, 512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x512x128, .bf16⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S4x8x512x128, .f32⟩
  | .hbm, ⟨5, _⟩ => ⟨S_, .f32⟩
  | .hbm, ⟨6, _⟩ => ⟨S4x512x128, .f32⟩
  | .hbm, ⟨7, _⟩ => ⟨S_, .f32⟩
  | .hbm, ⟨8, _⟩ => ⟨S4x512x128, .f32⟩
  | .hbm, ⟨9, _⟩ => ⟨S4x512x128, .f32⟩
  | .hbm, ⟨10, _⟩ => ⟨S_, .f32⟩
  | .hbm, ⟨11, _⟩ => ⟨S4x512x128, .f32⟩
  | .hbm, ⟨12, _⟩ => ⟨S4x512x128, .f32⟩
  | .hbm, ⟨13, _⟩ => ⟨S4x512x128, .f32⟩
  | .hbm, ⟨14, _⟩ => ⟨S_, .f32⟩
  | .hbm, ⟨15, _⟩ => ⟨S4x512x128, .f32⟩
  | .hbm, ⟨16, _⟩ => ⟨S4x512x128, .f32⟩
  | .hbm, ⟨17, _⟩ => ⟨S4x512x128, .f32⟩
  | .hbm, ⟨18, _⟩ => ⟨S_, .f32⟩
  | .hbm, ⟨19, _⟩ => ⟨S4x512x128, .f32⟩
  | .hbm, ⟨20, _⟩ => ⟨S4x512x128, .f32⟩
  | .hbm, ⟨21, _⟩ => ⟨S4x512x128, .f32⟩
  | .hbm, ⟨22, _⟩ => ⟨S_, .f32⟩
  | .hbm, ⟨23, _⟩ => ⟨S4x512x128, .f32⟩
  | .hbm, ⟨24, _⟩ => ⟨S4x512x128, .f32⟩
  | .hbm, ⟨25, _⟩ => ⟨S_, .f32⟩
  | .hbm, ⟨26, _⟩ => ⟨S4x512x128, .f32⟩
  | .hbm, ⟨27, _⟩ => ⟨S4x512x128, .f32⟩
  | .hbm, ⟨28, _⟩ => ⟨S4x512x128, .f32⟩
  | .hbm, ⟨29, _⟩ => ⟨S_, .f32⟩
  | .hbm, ⟨30, _⟩ => ⟨S4x512x128, .f32⟩
  | .hbm, ⟨31, _⟩ => ⟨S4x512x128, .f32⟩
  | .hbm, ⟨32, _⟩ => ⟨S4x512x128, .f32⟩
  | .hbm, ⟨33, _⟩ => ⟨S_, .f32⟩
  | .hbm, ⟨34, _⟩ => ⟨S4x512x128, .f32⟩
  | .hbm, ⟨35, _⟩ => ⟨S4x512x128, .f32⟩
  | .hbm, ⟨36, _⟩ => ⟨S4x512x128, .f32⟩
  | .hbm, ⟨37, _⟩ => ⟨S_, .f32⟩
  | .hbm, ⟨38, _⟩ => ⟨S4x512x128, .f32⟩
  | .hbm, ⟨39, _⟩ => ⟨S4x512x128, .f32⟩
  | _, _ => ⟨S4x8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S4x8x352x1024 : Shape := ⟨4, ![4, 8, 352, 1024]⟩
abbrev S4x352x1024 : Shape := ⟨3, ![4, 352, 1024]⟩
abbrev S1x8x352x1024 : Shape := ⟨4, ![1, 8, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PlainAdamDownIdeal.lean ====
abbrev S4x8x352x1024 : Shape := ⟨4, ![4, 8, 352, 1024]⟩
abbrev S4x352x1024 : Shape := ⟨3, ![4, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x8x352x1024, .f32⟩
  | .hbm, ⟨5, _⟩ => ⟨S_, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .hbm, ⟨14, _⟩ => ⟨S_, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | _, _ => ⟨S4x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== XBwd.lean ====
abbrev S4096x512 : Shape := ⟨2, ![4096, 512]⟩
abbrev S256x1024 : Shape := ⟨2, ![256, 1024]⟩
abbrev S4096x4x128 : Shape := ⟨3, ![4096, 4, 128]⟩
abbrev S256x512 : Shape := ⟨2, ![256, 512]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S512x512 : Shape := ⟨2, ![512, 512]⟩
abbrev S4x512x1 : Shape := ⟨3, ![4, 512, 1]⟩
abbrev S512x128 : Shape := ⟨2, ![512, 128]⟩
abbrev S256x128 : Shape := ⟨2, ![256, 128]⟩
abbrev S512x256 : Shape := ⟨2, ![512, 256]⟩
abbrev S1x512x1 : Shape := ⟨3, ![1, 512, 1]⟩
abbrev S512x1 : Shape := ⟨2, ![512, 1]⟩
abbrev S512 : Shape := ⟨1, ![512]⟩

abbrev nBuf : Space → Nat
  | .hbm => 26
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .bf16⟩
  | .hbm, ⟨3, _⟩ => ⟨S4096x512, .f32⟩
  | .hbm, ⟨4, _⟩ => ⟨S256x1024, .f32⟩
  | .hbm, ⟨5, _⟩ => ⟨S4096x4x128, .f32⟩
  | .hbm, ⟨6, _⟩ => ⟨S256x512, .f32⟩
  | .hbm, ⟨7, _⟩ => ⟨S256x4x128, .f32⟩
  | .hbm, ⟨8, _⟩ => ⟨S4x4096x256, .f32⟩
  | .hbm, ⟨9, _⟩ => ⟨S_, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4096x512, .bf16⟩
  | .hbm, ⟨25, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S4x512x1, .f32⟩
  | .local _ .vmem, ⟨4, _⟩ => ⟨S4x512x1, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== XBwdIdeal.lean ====
variable {F : FTy → Type} [FloatOps F] [Named F]
def κ : String → Option EReal := fun
  | "x_scale" => some (((Real.sqrt 128)⁻¹ : ℝ) : EReal)
  | _ => none
-- ==== PlainXBwdIdeal.lean ====
abbrev S4096x512 : Shape := ⟨2, ![4096, 512]⟩
abbrev S256x1024 : Shape := ⟨2, ![256, 1024]⟩
abbrev S256x512 : Shape := ⟨2, ![256, 512]⟩
abbrev S256x4x128 : Shape := ⟨3, ![256, 4, 128]⟩
abbrev S4096x4x128 : Shape := ⟨3, ![4096, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .bf16⟩
  | .hbm, ⟨3, _⟩ => ⟨S4096x512, .f32⟩
  | .hbm, ⟨4, _⟩ => ⟨S256x1024, .f32⟩
  | .hbm, ⟨5, _⟩ => ⟨S4096x512, .f32⟩
  | .hbm, ⟨6, _⟩ => ⟨S256x512, .f32⟩
  | .hbm, ⟨7, _⟩ => ⟨S256x4x128, .f32⟩
  | .hbm, ⟨8, _⟩ => ⟨S4096x4x128, .f32⟩
  | .hbm, ⟨9, _⟩ => ⟨S256x512, .f32⟩
  | .hbm, ⟨10, _⟩ => ⟨S256x4x128, .f32⟩
  | .hbm, ⟨11, _⟩ => ⟨S4x4096x256, .f32⟩
  | .hbm, ⟨12, _⟩ => ⟨S_, .f32⟩
  | .hbm, ⟨13, _⟩ => ⟨S_, .f32⟩
  | .hbm, ⟨14, _⟩ => ⟨S4x4096x256, .f32⟩
  | .hbm, ⟨15, _⟩ => ⟨S4x4096x256, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .i1⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S4x4096, .i1⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S4x4096, .f32⟩
  | .hbm, ⟨40, _⟩ => ⟨S4x4096, .f32⟩
  | .hbm, ⟨41, _⟩ => ⟨S4x4096x1, .f32⟩
  | .hbm, ⟨42, _⟩ => ⟨S4x4096x256, .f32⟩
  | .hbm, ⟨43, _⟩ => ⟨S4x4096x256, .f32⟩
  | .hbm, ⟨44, _⟩ => ⟨S4x4096x256, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S4x4096x256, .f32⟩
  | .hbm, ⟨49, _⟩ => ⟨S4x4096x256, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x128x4096, .f32⟩
  | .hbm, ⟨55, _⟩ => ⟨S4096x4x128, .f32⟩
  | .hbm, ⟨56, _⟩ => ⟨S4096x512, .f32⟩
  | .hbm, ⟨57, _⟩ => ⟨S4096x4x128, .f32⟩
  | .hbm, ⟨58, _⟩ => ⟨S4x128x4096, .f32⟩
  | .hbm, ⟨59, _⟩ => ⟨S4x4096x256, .f32⟩
  | .hbm, ⟨60, _⟩ => ⟨S4x128x256, .f32⟩
  | .hbm, ⟨61, _⟩ => ⟨S256x4x128, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S4x4096x256, .f32⟩
  | .hbm, ⟨77, _⟩ => ⟨S4x4096x256, .f32⟩
  | .hbm, ⟨78, _⟩ => ⟨S4x256x128, .f32⟩
  | .hbm, ⟨79, _⟩ => ⟨S256x4x128, .f32⟩
  | .hbm, ⟨80, _⟩ => ⟨S4x4096x128, .f32⟩
  | .hbm, ⟨81, _⟩ => ⟨S4096x4x128, .f32⟩
  | .hbm, ⟨82, _⟩ => ⟨S256x512, .f32⟩
  | .hbm, ⟨83, _⟩ => ⟨S_, .f32⟩
  | .hbm, ⟨84, _⟩ => ⟨S256x1024, .f32⟩
  | .hbm, ⟨85, _⟩ => ⟨S4096x512, .f32⟩
  | .hbm, ⟨86, _⟩ => ⟨S256x512, .f32⟩
  | .hbm, ⟨87, _⟩ => ⟨S_, .f32⟩
  | .hbm, ⟨88, _⟩ => ⟨S256x1024, .f32⟩
  | .hbm, ⟨89, _⟩ => ⟨S256x1024, .f32⟩
  | .hbm, ⟨90, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== SumSmall.lean ====
abbrev S8x464x1024 : Shape := ⟨3, ![8, 464, 1024]⟩
abbrev S464x1024 : Shape := ⟨2, ![464, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x464x1024, .f32⟩
  | .hbm, ⟨1, _⟩ => ⟨S464x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x464x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![29], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PlainSumSmallIdeal.lean ====
abbrev S8x464x1024 : Shape := ⟨3, ![8, 464, 1024]⟩
abbrev S_ : Shape := ⟨0, ![]⟩
abbrev S464x1024 : Shape := ⟨2, ![464, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x464x1024, .f32⟩
  | .hbm, ⟨1, _⟩ => ⟨S_, .f32⟩
  | .hbm, ⟨2, _⟩ => ⟨S464x1024, .f32⟩
  | _, _ => ⟨S8x464x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.MergeMath.lean ====
module

public import Idealize.ShloMosaic.Lib.Pointwise

@[expose] public section

set_option maxRecDepth 16384

noncomputable section

/-! The gradients of the gated merge, written out at one element over the extended reals. -/

namespace Cert.Merge

open Idealize.ShloMosaic

/-- One branch's output: 4096 positions of 512 channels. -/
abbrev Br := FVec Ideal ⟨2, ![4096, 512]⟩ .bf16
/-- The three branch projections. -/
abbrev Wt := FVec Ideal ⟨3, ![3, 512, 1024]⟩ .bf16
/-- The joint projection, whose columns from 2560 on are the gates' logits. -/
abbrev Pj := FVec Ideal ⟨2, ![4096, 5632]⟩ .f32
/-- The gates' bias. -/
abbrev Bg := FVec Ideal ⟨2, ![1, 3072]⟩ .f32
/-- The gradient of the merged array. -/
abbrev Dm := FVec Ideal ⟨2, ![4096, 1024]⟩ .f32

/-- The gate of position `r`, column `q` (branch `q / 1024`, channel `q % 1024`). -/
def gate (P : Pj) (B : Bg) (r : Fin 4096) (q : Fin 3072) : EReal :=
  Ideal.div 1 (1 + Ideal.exp (0 - (P (ix2 r ⟨2560 + q.val, by omega⟩) + B (ix2 0 q))))

/-- Branch `n` projected: position `r`, channel `d`. -/
def proj (O : Br) (W : Wt) (n : Fin 3) (r : Fin 4096) (d : Fin 1024) : EReal :=
  ∑ x : Fin 512, O (ix2 r x) * W (ix3 n x d)

/-- The gradient of branch `n`'s projection. -/
def dt (P : Pj) (B : Bg) (D : Dm) (n : Fin 3) (r : Fin 4096) (d : Fin 1024) : EReal :=
  D (ix2 r d) * gate P B r ⟨n.val * 1024 + d.val, by omega⟩

/-- The gradient of branch `n`'s logit at channel `d`. -/
def dgl (O : Br) (W : Wt) (P : Pj) (B : Bg) (D : Dm) (n : Fin 3) (r : Fin 4096) (d : Fin 1024) : EReal :=
  D (ix2 r d) * proj O W n r d * gate P B r ⟨n.val * 1024 + d.val, by omega⟩
    * (1 - gate P B r ⟨n.val * 1024 + d.val, by omega⟩)

/-- The gradient of branch `n`'s output. -/
def dbr (W : Wt) (P : Pj) (B : Bg) (D : Dm) (n : Fin 3) (r : Fin 4096) (k : Fin 512) : EReal :=
  ∑ x : Fin 1024, dt P B D n r x * W (ix3 n k x)

/-- The branch that column `q` of the logits belongs to. -/
def branch (O₀ O₁ O₂ : Br) (q : Fin 3072) : Br :=
  if q.val / 1024 < 1 then O₀ else if q.val / 1024 < 2 then O₁ else O₂

/-- The logits' gradient at column `q`. -/
def dglAt (O₀ O₁ O₂ : Br) (W : Wt) (P : Pj) (B : Bg) (D : Dm) (r : Fin 4096) (q : Fin 3072) : EReal :=
  dgl (branch O₀ O₁ O₂ q) W P B D ⟨q.val / 1024, by omega⟩ r ⟨q.val % 1024, by omega⟩

section
variable (O₀ O₁ O₂ : Br) (W : Wt) (P : Pj) (B : Bg) (D : Dm) (r : Fin 4096) (q : Fin 3072) (d : Fin 1024)

private theorem dglAt_aux (n : Fin 3) (h : q.val = n.val * 1024 + d.val) :
    dglAt O₀ O₁ O₂ W P B D r q = dgl (branch O₀ O₁ O₂ q) W P B D n r d := by
  have hn : (⟨q.val / 1024, by omega⟩ : Fin 3) = n := Fin.ext (by dsimp only; omega)
  have hd : (⟨q.val % 1024, by omega⟩ : Fin 1024) = d := Fin.ext (by dsimp only; omega)
  unfold dglAt
  rw [hn, hd]

/-- A column of the first branch. -/
theorem dglAt_0 (h : q.val = d.val) : dglAt O₀ O₁ O₂ W P B D r q = dgl O₀ W P B D 0 r d := by
  rw [dglAt_aux O₀ O₁ O₂ W P B D r q d 0 (by simpa using h), branch, if_pos (by omega)]

/-- A column of the second branch. -/
theorem dglAt_1 (h : q.val = 1024 + d.val) : dglAt O₀ O₁ O₂ W P B D r q = dgl O₁ W P B D 1 r d := by
  rw [dglAt_aux O₀ O₁ O₂ W P B D r q d 1 (by simpa using h), branch, if_neg (by omega), if_pos (by omega)]

/-- A column of the third branch. -/
theorem dglAt_2 (h : q.val = 2048 + d.val) : dglAt O₀ O₁ O₂ W P B D r q = dgl O₂ W P B D 2 r d := by
  rw [dglAt_aux O₀ O₁ O₂ W P B D r q d 2 (by simpa using h), branch, if_neg (by omega), if_neg (by omega)]

end

end Cert.Merge
-- ==== Proof.MergeRows.lean ====
module

public import proofs.«01_k».proof.Proof.Gen.KernelIdeal.Value
public import Idealize.ShloMosaic.Lib.Pipeline.ValueKit
public import Idealize.ShloMosaic.Lib.Pipeline.ReadBack
public import proofs.«01_k».proof.Proof.MergeMath

@[expose] public section

set_option maxRecDepth 16384

noncomputable section

/-! What the kernel of the merge's gradient leaves in its eight results. -/

namespace Cert.Merge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The argument arrays. -/
abbrev o0 (c : Dev nD) : Br := m ((c : Thread nD τ).loc main_arg0)
/-- The second branch's output. -/
abbrev o1 (c : Dev nD) : Br := m ((c : Thread nD τ).loc main_arg1)
/-- The third branch's output. -/
abbrev o2 (c : Dev nD) : Br := m ((c : Thread nD τ).loc main_arg2)
/-- The branch projections. -/
abbrev wt (c : Dev nD) : Wt := m ((c : Thread nD τ).loc main_arg3)
/-- The joint projection. -/
abbrev pj (c : Dev nD) : Pj := m ((c : Thread nD τ).loc main_arg4)
/-- The gates' bias. -/
abbrev bg (c : Dev nD) : Bg := m ((c : Thread nD τ).loc main_arg5)
/-- The merged array's gradient. -/
abbrev dm (c : Dev nD) : Dm := m ((c : Thread nD τ).loc main_arg6)

/-- The block of every window at every grid point. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 5] ∧ win0_5.index t = ![t.val, 6] ∧ win0_6.index t = ![t.val, 7]
    ∧ win0_7.index t = ![t.val, 8] ∧ win0_8.index t = ![t.val, 9] ∧ win0_9.index t = ![t.val, 10] ∧ win0_10.index t = ![0, 0]
    ∧ win0_11.index t = ![t.val, 0] ∧ win0_12.index t = ![t.val, 0] ∧ win0_13.index t = ![0, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] :=
  (by decide +kernel : ∀ t : Fin grid0.N, _)

/-- The gradient of branch 0's projection, as an array. -/
def DT0 (c : Dev nD) : FVec Ideal S4096x1024 .bf16 := fun i => dt (pj m c) (bg m c) (dm m c) 0 (i 0) (i 1)

/-- A grid point leaves its rows of the gradient of branch 0's projection. -/
theorem point14 (c : Dev nD) (t : Fin cfg0.N) (y) :
    (outsAt0 m c t.val t.isLt).2.2.1 y = DT0 m c (((cfg0.win 14).blk t).view.emb y) := by
  by_cases h : t.val % 8 = 0
  · rw [outsAt0_A m c t h]; frame_out
    canon_tiles x h
    all_goals
      unfold_payloads
      pointwise [DT0, dt, gate]
      blk_point [iblk, V, idx t]
  · rw [outsAt0_B m c t h]; frame_out
    canon_tiles x h
    all_goals
      unfold_payloads
      pointwise [DT0, dt, gate]
      blk_point [iblk, V, idx t]

/-- The array of the gradient of branch 0's projection after the run. -/
theorem final14 (c : Dev nD) : (dats m 0 c).arrAt 14 (cfgs 0).N = DT0 m c := by
  refine (dats m 0 c).arrAt_eq_of_covers 14 _ (by decide +kernel) fun t _ y => ?_
  blk_simp
  rw [after0_14]
  exact point14 m c t y

/-- The gradient of branch 1's projection, as an array. -/
def DT1 (c : Dev nD) : FVec Ideal S4096x1024 .bf16 := fun i => dt (pj m c) (bg m c) (dm m c) 1 (i 0) (i 1)

/-- A grid point leaves its rows of the gradient of branch 1's projection. -/
theorem point15 (c : Dev nD) (t : Fin cfg0.N) (y) :
    (outsAt0 m c t.val t.isLt).2.2.2.1 y = DT1 m c (((cfg0.win 15).blk t).view.emb y) := by
  by_cases h : t.val % 8 = 0
  · rw [outsAt0_A m c t h]; frame_out
    canon_tiles x h
    all_goals
      unfold_payloads
      pointwise [DT1, dt, gate]
      blk_point [iblk, V, idx t]
  · rw [outsAt0_B m c t h]; frame_out
    canon_tiles x h
    all_goals
      unfold_payloads
      pointwise [DT1, dt, gate]
      blk_point [iblk, V, idx t]

/-- The array of the gradient of branch 1's projection after the run. -/
theorem final15 (c : Dev nD) : (dats m 0 c).arrAt 15 (cfgs 0).N = DT1 m c := by
  refine (dats m 0 c).arrAt_eq_of_covers 15 _ (by decide +kernel) fun t _ y => ?_
  blk_simp
  rw [after0_15]
  exact point15 m c t y

/-- The gradient of branch 2's projection, as an array. -/
def DT2 (c : Dev nD) : FVec Ideal S4096x1024 .bf16 := fun i => dt (pj m c) (bg m c) (dm m c) 2 (i 0) (i 1)

/-- A grid point leaves its rows of the gradient of branch 2's projection. -/
theorem point16 (c : Dev nD) (t : Fin cfg0.N) (y) :
    (outsAt0 m c t.val t.isLt).2.2.2.2.1 y = DT2 m c (((cfg0.win 16).blk t).view.emb y) := by
  by_cases h : t.val % 8 = 0
  · rw [outsAt0_A m c t h]; frame_out
    canon_tiles x h
    all_goals
      unfold_payloads
      pointwise [DT2, dt, gate]
      blk_point [iblk, V, idx t]
  · rw [outsAt0_B m c t h]; frame_out
    canon_tiles x h
    all_goals
      unfold_payloads
      pointwise [DT2, dt, gate]
      blk_point [iblk, V, idx t]

/-- The array of the gradient of branch 2's projection after the run. -/
theorem final16 (c : Dev nD) : (dats m 0 c).arrAt 16 (cfgs 0).N = DT2 m c := by
  refine (dats m 0 c).arrAt_eq_of_covers 16 _ (by decide +kernel) fun t _ y => ?_
  blk_simp
  rw [after0_16]
  exact point16 m c t y

/-- The gradient of branch 0's output, as an array. -/
def DB0 (c : Dev nD) : FVec Ideal S4096x512 .bf16 := fun i => dbr (wt m c) (pj m c) (bg m c) (dm m c) 0 (i 0) (i 1)

/-- A grid point leaves its rows of the gradient of branch 0's output: the two halves of the channels, one after the other. -/
theorem point17 (c : Dev nD) (t : Fin cfg0.N) (y) :
    (outsAt0 m c t.val t.isLt).2.2.2.2.2.1 y = DB0 m c (((cfg0.win 17).blk t).view.emb y) := by
  by_cases h : t.val % 8 = 0
  · rw [outsAt0_A m c t h]; frame_out
    unfold_payloads
    pointwise [DB0, dbr, dt, gate]
    rw [Fin.sum_univ_two_halves 512 512 rfl]
    blk_point [iblk, V, idx t]
  · rw [outsAt0_B m c t h]; frame_out
    unfold_payloads
    pointwise [DB0, dbr, dt, gate]
    rw [Fin.sum_univ_two_halves 512 512 rfl]
    blk_point [iblk, V, idx t]

/-- The array of the gradient of branch 0's output after the run. -/
theorem final17 (c : Dev nD) : (dats m 0 c).arrAt 17 (cfgs 0).N = DB0 m c := by
  refine (dats m 0 c).arrAt_eq_of_covers 17 _ (by decide +kernel) fun t _ y => ?_
  blk_simp
  rw [after0_17]
  exact point17 m c t y

/-- The gradient of branch 1's output, as an array. -/
def DB1 (c : Dev nD) : FVec Ideal S4096x512 .bf16 := fun i => dbr (wt m c) (pj m c) (bg m c) (dm m c) 1 (i 0) (i 1)

/-- A grid point leaves its rows of the gradient of branch 1's output: the two halves of the channels, one after the other. -/
theorem point18 (c : Dev nD) (t : Fin cfg0.N) (y) :
    (outsAt0 m c t.val t.isLt).2.2.2.2.2.2.1 y = DB1 m c (((cfg0.win 18).blk t).view.emb y) := by
  by_cases h : t.val % 8 = 0
  · rw [outsAt0_A m c t h]; frame_out
    unfold_payloads
    pointwise [DB1, dbr, dt, gate]
    rw [Fin.sum_univ_two_halves 512 512 rfl]
    blk_point [iblk, V, idx t]
  · rw [outsAt0_B m c t h]; frame_out
    unfold_payloads
    pointwise [DB1, dbr, dt, gate]
    rw [Fin.sum_univ_two_halves 512 512 rfl]
    blk_point [iblk, V, idx t]

/-- The array of the gradient of branch 1's output after the run. -/
theorem final18 (c : Dev nD) : (dats m 0 c).arrAt 18 (cfgs 0).N = DB1 m c := by
  refine (dats m 0 c).arrAt_eq_of_covers 18 _ (by decide +kernel) fun t _ y => ?_
  blk_simp
  rw [after0_18]
  exact point18 m c t y

/-- The gradient of branch 2's output, as an array. -/
def DB2 (c : Dev nD) : FVec Ideal S4096x512 .f32 := fun i => dbr (wt m c) (pj m c) (bg m c) (dm m c) 2 (i 0) (i 1)

/-- A grid point leaves its rows of the gradient of branch 2's output: the two halves of the channels, one after the other. -/
theorem point19 (c : Dev nD) (t : Fin cfg0.N) (y) :
    (outsAt0 m c t.val t.isLt).2.2.2.2.2.2.2 y = DB2 m c (((cfg0.win 19).blk t).view.emb y) := by
  by_cases h : t.val % 8 = 0
  · rw [outsAt0_A m c t h]; frame_out
    unfold_payloads
    pointwise [DB2, dbr, dt, gate]
    rw [Fin.sum_univ_two_halves 512 512 rfl]
    blk_point [iblk, V, idx t]
  · rw [outsAt0_B m c t h]; frame_out
    unfold_payloads
    pointwise [DB2, dbr, dt, gate]
    rw [Fin.sum_univ_two_halves 512 512 rfl]
    blk_point [iblk, V, idx t]

/-- The array of the gradient of branch 2's output after the run. -/
theorem final19 (c : Dev nD) : (dats m 0 c).arrAt 19 (cfgs 0).N = DB2 m c := by
  refine (dats m 0 c).arrAt_eq_of_covers 19 _ (by decide +kernel) fun t _ y => ?_
  blk_simp
  rw [after0_19]
  exact point19 m c t y

end Cert.Merge
-- ==== Proof.MergeGates.lean ====
module

public import proofs.«01_k».proof.Proof.Gen.KernelIdeal.Value
public import Idealize.ShloMosaic.Lib.Pipeline.ValueKit
public import Idealize.ShloMosaic.Lib.Pipeline.ReadBack
public import proofs.«01_k».proof.Proof.MergeRows

@[expose] public section

set_option maxRecDepth 16384

noncomputable section

/-! What the kernel of the merge's gradient leaves of the gates: the logits' gradient and the bias's. -/

namespace Cert.Merge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The logits' gradient, as an array. -/
def DGL (c : Dev nD) : FVec Ideal S4096x3072 .bf16 := fun i =>
  dglAt (o0 m c) (o1 m c) (o2 m c) (wt m c) (pj m c) (bg m c) (dm m c) (i 0) (i 1)

/-- A grid point leaves its rows of the logits' gradient. -/
theorem point12 (c : Dev nD) (t : Fin cfg0.N) (y) :
    (outsAt0 m c t.val t.isLt).1 y = DGL m c (((cfg0.win 12).blk t).view.emb y) := by
  by_cases h : t.val % 8 = 0
  · rw [outsAt0_A m c t h]; frame_out
    canon_tiles x h
    · refine Eq.trans ?_ (dglAt_2 _ _ _ _ _ _ _ _ _ ⟨512 + (x 1).val, by omega⟩ (by blk_simp [idx t]; first | omega | (dsimp only; omega))).symm
      unfold_payloads
      pointwise [dgl, proj, gate]
      blk_point [iblk, V, idx t]
    · refine Eq.trans ?_ (dglAt_2 _ _ _ _ _ _ _ _ _ ⟨(x 1).val, by omega⟩ (by blk_simp [idx t]; first | omega | (dsimp only; omega))).symm
      unfold_payloads
      pointwise [dgl, proj, gate]
      blk_point [iblk, V, idx t]
    · refine Eq.trans ?_ (dglAt_1 _ _ _ _ _ _ _ _ _ ⟨512 + (x 1).val, by omega⟩ (by blk_simp [idx t]; first | omega | (dsimp only; omega))).symm
      unfold_payloads
      pointwise [dgl, proj, gate]
      blk_point [iblk, V, idx t]
    · refine Eq.trans ?_ (dglAt_1 _ _ _ _ _ _ _ _ _ ⟨(x 1).val, by omega⟩ (by blk_simp [idx t]; first | omega | (dsimp only; omega))).symm
      unfold_payloads
      pointwise [dgl, proj, gate]
      blk_point [iblk, V, idx t]
    · refine Eq.trans ?_ (dglAt_0 _ _ _ _ _ _ _ _ _ ⟨512 + (x 1).val, by omega⟩ (by blk_simp [idx t]; first | omega | (dsimp only; omega))).symm
      unfold_payloads
      pointwise [dgl, proj, gate]
      blk_point [iblk, V, idx t]
    · refine Eq.trans ?_ (dglAt_0 _ _ _ _ _ _ _ _ _ ⟨(x 1).val, by omega⟩ (by blk_simp [idx t]; first | omega | (dsimp only; omega))).symm
      unfold_payloads
      pointwise [dgl, proj, gate]
      blk_point [iblk, V, idx t]
  · rw [outsAt0_B m c t h]; frame_out
    canon_tiles x h
    · refine Eq.trans ?_ (dglAt_2 _ _ _ _ _ _ _ _ _ ⟨512 + (x 1).val, by omega⟩ (by blk_simp [idx t]; first | omega | (dsimp only; omega))).symm
      unfold_payloads
      pointwise [dgl, proj, gate]
      blk_point [iblk, V, idx t]
    · refine Eq.trans ?_ (dglAt_2 _ _ _ _ _ _ _ _ _ ⟨(x 1).val, by omega⟩ (by blk_simp [idx t]; first | omega | (dsimp only; omega))).symm
      unfold_payloads
      pointwise [dgl, proj, gate]
      blk_point [iblk, V, idx t]
    · refine Eq.trans ?_ (dglAt_1 _ _ _ _ _ _ _ _ _ ⟨512 + (x 1).val, by omega⟩ (by blk_simp [idx t]; first | omega | (dsimp only; omega))).symm
      unfold_payloads
      pointwise [dgl, proj, gate]
      blk_point [iblk, V, idx t]
    · refine Eq.trans ?_ (dglAt_1 _ _ _ _ _ _ _ _ _ ⟨(x 1).val, by omega⟩ (by blk_simp [idx t]; first | omega | (dsimp only; omega))).symm
      unfold_payloads
      pointwise [dgl, proj, gate]
      blk_point [iblk, V, idx t]
    · refine Eq.trans ?_ (dglAt_0 _ _ _ _ _ _ _ _ _ ⟨512 + (x 1).val, by omega⟩ (by blk_simp [idx t]; first | omega | (dsimp only; omega))).symm
      unfold_payloads
      pointwise [dgl, proj, gate]
      blk_point [iblk, V, idx t]
    · refine Eq.trans ?_ (dglAt_0 _ _ _ _ _ _ _ _ _ ⟨(x 1).val, by omega⟩ (by blk_simp [idx t]; first | omega | (dsimp only; omega))).symm
      unfold_payloads
      pointwise [dgl, proj, gate]
      blk_point [iblk, V, idx t]

/-- The array of the logits' gradient after the run. -/
theorem final12 (c : Dev nD) : (dats m 0 c).arrAt 12 (cfgs 0).N = DGL m c := by
  refine (dats m 0 c).arrAt_eq_of_covers 12 _ (by decide +kernel) fun t _ y => ?_
  blk_simp
  rw [after0_12]
  exact point12 m c t y

end Cert.Merge
-- ==== Proof.MergeBias.lean ====
module

public import proofs.«01_k».proof.Proof.Gen.KernelIdeal.Value
public import Idealize.ShloMosaic.Lib.Pipeline.ValueKit
public import Idealize.ShloMosaic.Lib.Pipeline.ReadBack
public import proofs.«01_k».proof.Proof.MergeRows

@[expose] public section

set_option maxRecDepth 16384

noncomputable section

/-! What the kernel of the merge's gradient leaves of the gates' bias: its gradient, summed over the positions. -/

namespace Cert.Merge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Row `k` of grid point `t`'s block. -/
def rowOf (t : Fin cfg0.N) (k : Fin 512) : Fin 4096 :=
  ⟨t.val * 512 + k.val, by have := t.isLt; have : cfg0.N = 8 := N_0; omega⟩

/-- What grid point `t` adds to column `q` of the bias's gradient. -/
def part (c : Dev nD) (t : Fin cfg0.N) (q : Fin 3072) : EReal :=
  ∑ k : Fin 512, dglAt (o0 m c) (o1 m c) (o2 m c) (wt m c) (pj m c) (bg m c) (dm m c) (rowOf t k) q

theorem part_0 (c : Dev nD) (t : Fin cfg0.N) (q : Fin 3072) (d : Fin 1024) (h : q.val = d.val) :
    part m c t q = ∑ k : Fin 512, dgl (o0 m c) (wt m c) (pj m c) (bg m c) (dm m c) 0 (rowOf t k) d :=
  Finset.sum_congr rfl fun _ _ => dglAt_0 _ _ _ _ _ _ _ _ _ _ h

theorem part_1 (c : Dev nD) (t : Fin cfg0.N) (q : Fin 3072) (d : Fin 1024) (h : q.val = 1024 + d.val) :
    part m c t q = ∑ k : Fin 512, dgl (o1 m c) (wt m c) (pj m c) (bg m c) (dm m c) 1 (rowOf t k) d :=
  Finset.sum_congr rfl fun _ _ => dglAt_1 _ _ _ _ _ _ _ _ _ _ h

theorem part_2 (c : Dev nD) (t : Fin cfg0.N) (q : Fin 3072) (d : Fin 1024) (h : q.val = 2048 + d.val) :
    part m c t q = ∑ k : Fin 512, dgl (o2 m c) (wt m c) (pj m c) (bg m c) (dm m c) 2 (rowOf t k) d :=
  Finset.sum_congr rfl fun _ _ => dglAt_2 _ _ _ _ _ _ _ _ _ _ h

/-- Stores that cover an index hide every store made before them there. -/
theorem canon_append_of_cover {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; exact absurd hp List.not_mem_nil
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' L y ?_
      obtain ⟨q, hq, hyq⟩ := hy
      rcases List.mem_cons.mp hq with rfl | hq'
      · exact absurd hyq hm
      · exact ⟨q, hq', hyq⟩

/-- The first grid point clears the bias's gradient and adds its part. -/
theorem first13 (c : Dev nD) (t : Fin cfg0.N) (h : t.val % 8 = 0) (y : S1x3072.Idx) :
    (outsAt0 m c t.val t.isLt).2.1 y = 0 + part m c t (y 1) := by
  rw [outsAt0_A m c t h]; frame_open
  simp (disch := decide) only [↓ View.readCov_skip, ↓ View.readCov_cons_toLoadRect, ↓ View.readCov_fill]
  frame_out
  clear h
  refine (canon_append_of_cover [_] [_, _, _, _, _, _] y ?_).trans ?_
  · exact View.cover_of_tiledL (s := S1x3072) _ S1x512.size (by sl_kernel_rfl) y
  rw [zero_add]
  canon_tiles x h
  · rw [part_2 m c t (y 1) ⟨512 + (x 1).val, by omega⟩ (by first | omega | (dsimp only; omega))]
    unfold_payloads
    pointwise [dgl, proj, gate, rowOf]
    blk_point [iblk, V, idx t]
  · rw [part_2 m c t (y 1) ⟨(x 1).val, by omega⟩ (by first | omega | (dsimp only; omega))]
    unfold_payloads
    pointwise [dgl, proj, gate, rowOf]
    blk_point [iblk, V, idx t]
  · rw [part_1 m c t (y 1) ⟨512 + (x 1).val, by omega⟩ (by first | omega | (dsimp only; omega))]
    unfold_payloads
    pointwise [dgl, proj, gate, rowOf]
    blk_point [iblk, V, idx t]
  · rw [part_1 m c t (y 1) ⟨(x 1).val, by omega⟩ (by first | omega | (dsimp only; omega))]
    unfold_payloads
    pointwise [dgl, proj, gate, rowOf]
    blk_point [iblk, V, idx t]
  · rw [part_0 m c t (y 1) ⟨512 + (x 1).val, by omega⟩ (by first | omega | (dsimp only; omega))]
    unfold_payloads
    pointwise [dgl, proj, gate, rowOf]
    blk_point [iblk, V, idx t]
  · rw [part_0 m c t (y 1) ⟨(x 1).val, by omega⟩ (by first | omega | (dsimp only; omega))]
    unfold_payloads
    pointwise [dgl, proj, gate, rowOf]
    blk_point [iblk, V, idx t]

/-- Every other grid point adds its part to what the points before it left. -/
theorem step13 (c : Dev nD) (t : Fin cfg0.N) (h : ¬t.val % 8 = 0) (y : S1x3072.Idx) :
    (outsAt0 m c t.val t.isLt).2.1 y
      = (outsAt0 m c (t.val - 1) (Nat.lt_of_le_of_lt (Nat.sub_le _ _) t.isLt)).2.1 y + part m c t (y 1) := by
  rw [outsAt0_B m c t h]; frame_out
  clear h
  generalize (outsAt0 m c (t.val - 1) (Nat.lt_of_le_of_lt (Nat.sub_le _ _) t.isLt)).2.1 = acc
  canon_tiles x h
  · rw [part_2 m c t (y 1) ⟨512 + (x 1).val, by omega⟩ (by first | omega | (dsimp only; omega))]
    unfold_payloads
    pointwise [dgl, proj, gate, rowOf]
    blk_point [iblk, V, idx t]
  · rw [part_2 m c t (y 1) ⟨(x 1).val, by omega⟩ (by first | omega | (dsimp only; omega))]
    unfold_payloads
    pointwise [dgl, proj, gate, rowOf]
    blk_point [iblk, V, idx t]
  · rw [part_1 m c t (y 1) ⟨512 + (x 1).val, by omega⟩ (by first | omega | (dsimp only; omega))]
    unfold_payloads
    pointwise [dgl, proj, gate, rowOf]
    blk_point [iblk, V, idx t]
  · rw [part_1 m c t (y 1) ⟨(x 1).val, by omega⟩ (by first | omega | (dsimp only; omega))]
    unfold_payloads
    pointwise [dgl, proj, gate, rowOf]
    blk_point [iblk, V, idx t]
  · rw [part_0 m c t (y 1) ⟨512 + (x 1).val, by omega⟩ (by first | omega | (dsimp only; omega))]
    unfold_payloads
    pointwise [dgl, proj, gate, rowOf]
    blk_point [iblk, V, idx t]
  · rw [part_0 m c t (y 1) ⟨(x 1).val, by omega⟩ (by first | omega | (dsimp only; omega))]
    unfold_payloads
    pointwise [dgl, proj, gate, rowOf]
    blk_point [iblk, V, idx t]

/-- The bias's gradient, as an array: the logits' gradient summed over the positions. -/
def DBG (c : Dev nD) : FVec Ideal S1x3072 .f32 := fun i =>
  ∑ r : Fin 4096, dglAt (o0 m c) (o1 m c) (o2 m c) (wt m c) (pj m c) (bg m c) (dm m c) r (i 1)

/-- The array of the bias's gradient after the run. -/
theorem final13 (c : Dev nD) : (dats m 0 c).arrAt 13 (cfgs 0).N = DBG m c := by
  refine (dats m 0 c).arrAt_eq_of_after_last 13 t0_7 (by decide +kernel) _ fun j => ?_
  blk_simp
  rw [after0_13, Pipeline.eq_sum_fin_of_reset_step_apply_last (fun n h => (outsAt0 m c n h).2.1) 8 (fun _ => 0)
    (fun t (y : S1x3072.Idx) => part m c t (y 1)) (fun t h y => first13 m c t h y) (fun t h y => step13 m c t h y) (le_of_eq N_0) t0_7 rfl _,
    zero_add]
  unfold part DBG
  exact Fin.sum_mul_add_congr fun s k hl => rfl

end Cert.Merge
-- ==== Proof.RefMath.lean ====
module

public import proofs.«01_k».proof.Proof.Gen.ReferenceIdeal.Read
public import proofs.«01_k».proof.Proof.MergeMath

@[expose] public section

set_option maxRecDepth 16384

noncomputable section

/-! The plain gradient of the merge, read at one element: its values are those of `MergeMath`. -/

namespace Cert.Merge

open Cert.ReferenceIdeal Cert.ReferenceIdeal.Read Idealize.ShloMosaic Idealize.ShloMosaic.TcCoe Idealize.SL.Sem

variable (x0 x1 x2 : Br) (x3 : Wt) (x4 : Pj) (x5 : Bg) (x6 : Dm)

/-- The gates, position `r`, branch `n`, channel `d`. -/
theorem ref_gate (r : Fin 4096) (n : Fin 3) (d : Fin 1024) :
    val_main_v22 (F := Ideal) x4 x5 (ix3 r n d) = gate x4 x5 r ⟨n.val * 1024 + d.val, by omega⟩ := by
  pointwise [val_main_v22, val_main_v18, val_main_v17, val_main_v16, val_main_v15, val_main_v14, val_main_v13, val_main_v12, val_main_v11, val_main_v8, val_main_cst, val_main_cst_0, gate, zero_sub]

/-- The gradient of the projected branches. -/
theorem ref_dt (r : Fin 4096) (n : Fin 3) (d : Fin 1024) :
    val_main_v27 (F := Ideal) x4 x5 x6 (ix3 r n d) = dt x4 x5 x6 n r d := by
  pointwise [val_main_v27, val_main_v25, ref_gate, dt]

theorem ref_dt0 : val_main_v40 (F := Ideal) x4 x5 x6 = fun i => dt x4 x5 x6 0 (i 0) (i 1) := by
  funext i; idx_vars i
  pointwise [val_main_v40, val_main_v39, val_main_v38, ref_dt]

theorem ref_dt1 : val_main_v43 (F := Ideal) x4 x5 x6 = fun i => dt x4 x5 x6 1 (i 0) (i 1) := by
  funext i; idx_vars i
  pointwise [val_main_v43, val_main_v42, val_main_v41, ref_dt]

theorem ref_dt2 : val_main_v46 (F := Ideal) x4 x5 x6 = fun i => dt x4 x5 x6 2 (i 0) (i 1) := by
  funext i; idx_vars i
  pointwise [val_main_v46, val_main_v45, val_main_v44, ref_dt]

theorem ref_dbr0 : val_main_v49 (F := Ideal) x3 x4 x5 x6 = fun i => dbr x3 x4 x5 x6 0 (i 0) (i 1) := by
  funext i; idx_vars i
  pointwise [val_main_v49, val_main_v48, val_main_v47, val_main_v36, val_main_v35, val_main_v34, val_main_v7, val_main_v6, ref_dt, dbr]

theorem ref_dbr1 : val_main_v52 (F := Ideal) x3 x4 x5 x6 = fun i => dbr x3 x4 x5 x6 1 (i 0) (i 1) := by
  funext i; idx_vars i
  pointwise [val_main_v52, val_main_v51, val_main_v50, val_main_v36, val_main_v35, val_main_v34, val_main_v7, val_main_v6, ref_dt, dbr]

theorem ref_dbr2 : val_main_v54 (F := Ideal) x3 x4 x5 x6 = fun i => dbr x3 x4 x5 x6 2 (i 0) (i 1) := by
  funext i; idx_vars i
  pointwise [val_main_v54, val_main_v53, val_main_v36, val_main_v35, val_main_v34, val_main_v7, val_main_v6, ref_dt, dbr]

/-- The logits' gradient before it is rounded. -/
theorem ref_dgl (r : Fin 4096) (q : Fin 3072) :
    val_main_v29 (F := Ideal) x0 x1 x2 x3 x4 x5 x6 (ix2 r q) = dglAt x0 x1 x2 x3 x4 x5 x6 r q := by
  pointwise [val_main_v29, val_main_v28, val_main_v26, val_main_v25, val_main_v21, val_main_v20, val_main_v19, val_main_cst_1, val_main_v18, val_main_v17, val_main_v16, val_main_v15, val_main_v14, val_main_v13, val_main_v12, val_main_v11, val_main_v8, val_main_cst, val_main_cst_0, val_main_v10, val_main_v9, val_main_v7, val_main_v6, val_main_v5, val_main_v4, val_main_v3, val_main_v2, val_main_v1, val_main_v0, dglAt, dgl, proj, gate, zero_sub, branch]
  simp only [Nat.div_add_mod', Fin.eta, dite_eq_ite]
  rw [← mul_assoc]
  refine congrArg (· * _) (congrArg (· * _) ?_)
  rw [mul_comm]
  refine congrArg (_ * ·) (Finset.sum_congr rfl fun x _ => ?_)
  rw [mul_comm]
  refine congrArg (· * _) ?_
  by_cases h1 : q.val / 1024 < 1
  · rw [if_pos h1, if_pos h1]
  · rw [if_neg h1, if_neg h1]
    by_cases h2 : q.val / 1024 < 2
    · rw [if_pos h2, if_pos (by omega)]
    · rw [if_neg h2, if_neg (by omega)]

theorem ref_dgate : val_main_v37 (F := Ideal) x0 x1 x2 x3 x4 x5 x6 = fun i => dglAt x0 x1 x2 x3 x4 x5 x6 (i 0) (i 1) := by
  funext i; idx_vars i
  pointwise [val_main_v37, ref_dgl]

theorem ref_dbg : val_main_v31 (F := Ideal) x0 x1 x2 x3 x4 x5 x6 = fun i => ∑ r : Fin 4096, dglAt x0 x1 x2 x3 x4 x5 x6 r (i 1) := by
  funext i; idx_vars i
  pointwise [val_main_v31, val_main_v30, val_main_cst_3, ref_dgl]

end Cert.Merge
-- ==== Proof.MergeClaim.lean ====
module

public import proofs.«01_k».proof.Defs
public import proofs.«01_k».proof.Proof.Gen.KernelIdeal.Value
public import proofs.«01_k».proof.Proof.Gen.ReferenceIdeal.Run
public import proofs.«01_k».proof.Proof.MergeGates
public import proofs.«01_k».proof.Proof.MergeBias
public import proofs.«01_k».proof.Proof.RefMath

@[expose] public section

set_option maxRecDepth 16384

noncomputable section

namespace Cert.Merge

open Idealize.ShloMosaic Idealize.SL.Sem

/-- The merge's gradient kernel and the plain gradient agree over the extended reals. -/
theorem algebraic : Cert.algebraic_KernelIdeal_ReferenceIdeal := by
  pair_intro
  · run_from Cert.KernelIdeal.Value.run_blocks m g
  · run_from Cert.ReferenceIdeal.Value.run m' g'
    · exact (Cert.ReferenceIdeal.Read.val_main_v37_eq ..).trans ((ref_dgate ..).trans (final12 m c).symm)
    · exact (Cert.ReferenceIdeal.Read.val_main_v31_eq ..).trans ((ref_dbg ..).trans (final13 m c).symm)
    · exact (Cert.ReferenceIdeal.Read.val_main_v40_eq ..).trans ((ref_dt0 ..).trans (final14 m c).symm)
    · exact (Cert.ReferenceIdeal.Read.val_main_v43_eq ..).trans ((ref_dt1 ..).trans (final15 m c).symm)
    · exact (Cert.ReferenceIdeal.Read.val_main_v46_eq ..).trans ((ref_dt2 ..).trans (final16 m c).symm)
    · exact (Cert.ReferenceIdeal.Read.val_main_v49_eq ..).trans ((ref_dbr0 ..).trans (final17 m c).symm)
    · exact (Cert.ReferenceIdeal.Read.val_main_v52_eq ..).trans ((ref_dbr1 ..).trans (final18 m c).symm)
    · exact (Cert.ReferenceIdeal.Read.val_main_v54_eq ..).trans ((ref_dbr2 ..).trans (final19 m c).symm)

end Cert.Merge
-- ==== Proof.DAct.lean ====
module

public import proofs.«01_k».proof.Defs
public import proofs.«01_k».proof.Proof.Gen.DActIdeal.Value
public import proofs.«01_k».proof.Proof.Gen.PlainDActIdeal.Run
public import proofs.«01_k».proof.Proof.Gen.PlainDActIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the conv feed-forward's activation. -/

namespace Cert.DActProof

open Cert.DActIdeal Cert.DActIdeal.Gen Idealize.ShloMosaic Idealize.ShloMosaic.TcCoe Idealize.SL.Sem
open Idealize.ShloMosaic.Pipeline (Dat)

variable (m : (ℓ : Loc nD τ sig) → Buf (Elt Ideal) ℓ)

/-- The product, one element at a time. -/
def prod (a : FVec Ideal S4096x1024 .bf16) (b : FVec Ideal S2816x1024 .bf16) : FVec Ideal S4096x2816 .f32 :=
  fun i => ∑ k : Fin 1024, a (ix2 (i 0) k) * b (ix2 (i 1) k)

/-- The blocks of every grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise [prod]
  blk_point [iblk, V, idx t]

/-- The reference's array. -/
theorem ref (a : FVec Ideal S4096x1024 .bf16) (b : FVec Ideal S2816x1024 .bf16) :
    Cert.PlainDActIdeal.Read.val_main_v4 (F := Ideal) a b = prod a b := by
  funext i; idx_vars i
  pointwise [Cert.PlainDActIdeal.Read.val_main_v4, Cert.PlainDActIdeal.Read.val_main_v1, Cert.PlainDActIdeal.Read.val_main_v0, prod]

/-- The kernel and the plain product agree over the extended reals. -/
theorem algebraic : Cert.algebraic_DActIdeal_PlainDActIdeal := by
  pair_intro
  · run_from Cert.DActIdeal.Value.run_blocks m g
  · run_from Cert.PlainDActIdeal.Value.run m' g'
    exact (Cert.PlainDActIdeal.Read.val_main_v4_eq ..).trans ((ref ..).trans (final m c).symm)

end Cert.DActProof
-- ==== Proof.DwDown.lean ====
module

public import proofs.«01_k».proof.Defs
public import proofs.«01_k».proof.Proof.Gen.DwDownIdeal.Value
public import proofs.«01_k».proof.Proof.Gen.PlainDwDownIdeal.Run
public import proofs.«01_k».proof.Proof.Gen.PlainDwDownIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the conv feed-forward's second weight. -/

namespace Cert.DwDownProof

open Cert.DwDownIdeal Cert.DwDownIdeal.Gen Idealize.ShloMosaic Idealize.ShloMosaic.TcCoe Idealize.SL.Sem
open Idealize.ShloMosaic.Pipeline (Dat)

variable (m : (ℓ : Loc nD τ sig) → Buf (Elt Ideal) ℓ)

/-- The product over the positions, one element at a time. -/
def prod (a : FVec Ideal S4096x2816 .bf16) (b : FVec Ideal S4096x1024 .bf16) : FVec Ideal S2816x1024 .bf16 :=
  fun i => ∑ k : Fin 4096, a (ix2 k (i 0)) * b (ix2 k (i 1))

/-- The blocks of every grid point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- The product of two blocks, over a grid point's positions. -/
def dot (a : FVec Ideal S2048x1408 .bf16) (b : FVec Ideal S2048x1024 .bf16) (y : S1408x1024.Idx) : EReal :=
  ∑ k : Fin 2048, a (ix2 k (y 0)) * b (ix2 k (y 1))

/-- What grid point `t` adds. -/
def part (c : Dev nD) (t : Fin cfg0.N) (y : S1408x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S1408x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S1408x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, V, idx t]
  exact congrFun (Memref.IsWhole.read_unread _ _) y

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have h2 : t.val % 2 = 1 := (flush0_2 t).mp hf
  blk_simp
  rw [after0_2, point m c t (by omega) h2]
  unfold prod
  rw [Fin.sum_univ_two_halves 2048 2048 rfl]
  pointwise [part, dot]
  blk_point [iblk, V, idx t, idx ⟨t.val - 1, Nat.lt_of_le_of_lt (Nat.sub_le _ _) t.isLt⟩]

/-- The reference's array. -/
theorem ref (a : FVec Ideal S4096x2816 .bf16) (b : FVec Ideal S4096x1024 .bf16) :
    Cert.PlainDwDownIdeal.Read.val_main_v6 (F := Ideal) a b = prod a b := by
  funext i; idx_vars i
  pointwise [Cert.PlainDwDownIdeal.Read.val_main_v6, Cert.PlainDwDownIdeal.Read.val_main_v5, Cert.PlainDwDownIdeal.Read.val_main_v4, Cert.PlainDwDownIdeal.Read.val_main_v1, Cert.PlainDwDownIdeal.Read.val_main_v0, prod]
  exact Finset.sum_congr rfl fun _ _ => mul_comm _ _

/-- The kernel and the plain product agree over the extended reals. -/
theorem algebraic : Cert.algebraic_DwDownIdeal_PlainDwDownIdeal := by
  pair_intro
  · run_from Cert.DwDownIdeal.Value.run_blocks m g
  · run_from Cert.PlainDwDownIdeal.Value.run m' g'
    exact (Cert.PlainDwDownIdeal.Read.val_main_v6_eq ..).trans ((ref ..).trans (final m c).symm)

end Cert.DwDownProof
-- ==== Proof.DxIn.lean ====
module

public import proofs.«01_k».proof.Defs
public import proofs.«01_k».proof.Proof.Gen.DxInIdeal.Value
public import proofs.«01_k».proof.Proof.Gen.PlainDxInIdeal.Run
public import proofs.«01_k».proof.Proof.Gen.PlainDxInIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of a layer's input through the input projection and the residual: three gradients laid side by side, one product. -/

namespace Cert.DxInProof

open Cert.DxInIdeal Cert.DxInIdeal.Gen Idealize.ShloMosaic Idealize.ShloMosaic.TcCoe Idealize.SL.Sem
open Idealize.ShloMosaic.Pipeline (Dat)

variable (m : (ℓ : Loc nD τ sig) → Buf (Elt Ideal) ℓ)

/-- Three gradients laid side by side. -/
def cat (a : FVec Ideal S4096x1536 .bf16) (b : FVec Ideal S4096x1024 .bf16) (e : FVec Ideal S4096x3072 .bf16)
    (r : Fin 4096) (q : Fin 5632) : EReal :=
  if h : q.val < 1536 then a (ix2 r (⟨q.val, h⟩ : Fin 1536))
  else if h : q.val < 2560 then b (ix2 r (⟨q.val - 1536, by omega⟩ : Fin 1024))
  else e (ix2 r (⟨q.val - 2560, by omega⟩ : Fin 3072))

/-- The input's gradient, one element at a time. -/
def prod (a : FVec Ideal S4096x1536 .bf16) (b : FVec Ideal S4096x1024 .bf16) (e : FVec Ideal S4096x3072 .bf16)
    (w : FVec Ideal S5632x1024 .bf16) (dz : FVec Ideal S4096x1024 .f32) : FVec Ideal S4096x1024 .f32 := fun i =>
  (∑ q : Fin 5632, cat a b e (i 0) q * w (ix2 q (i 1))) + Ideal.ofBits .f32 0x3FD744FD#32 * dz i

/-- The blocks of every grid point. -/
theorem idx : ∀ t : Fin cfg0.N, win0_0.index t = ![t.val / 11, min (t.val % 11) 2]
    ∧ win0_1.index t = ![t.val / 11, min (t.val % 11 - 3) 1] ∧ win0_2.index t = ![t.val / 11, min (t.val % 11 - 5) 5]
    ∧ win0_3.index t = ![t.val % 11, 0] ∧ win0_4.index t = ![t.val / 11, 0] ∧ win0_5.index t = ![t.val / 11, 0] :=
  (by decide +kernel : ∀ t : Fin grid0.N, _)

/-- Row `r` of grid point `t`'s block. -/
def rowOf (t : Fin cfg0.N) (r : Fin 1024) : Fin 4096 :=
  ⟨t.val / 11 * 1024 + r.val, by have := t.isLt; have : cfg0.N = 44 := N_0; omega⟩

/-- Channel `k` of grid point `t`'s chunk. -/
def chan (t : Fin cfg0.N) (k : Fin 512) : Fin 5632 := ⟨t.val % 11 * 512 + k.val, by omega⟩

/-- Point `s` of the block of rows that `t` belongs to. -/
def nth (t : Fin cfg0.N) (s : Fin 11) : Fin cfg0.N :=
  ⟨11 * (t.val / 11) + s.val, by have := t.isLt; have : cfg0.N = 44 := N_0; omega⟩

/-- What grid point `t` adds. -/
def part (c : Dev nD) (t : Fin cfg0.N) (y : S1024x1024.Idx) : EReal :=
  ∑ k : Fin 512, cat (m ((c : Thread nD τ).loc main_arg0)) (m ((c : Thread nD τ).loc main_arg1)) (m ((c : Thread nD τ).loc main_arg2))
    (rowOf t (y 0)) (chan t k) * (m ((c : Thread nD τ).loc main_arg3) : FVec Ideal S5632x1024 .bf16) (ix2 (chan t k) (y 1))

/-- The product of two blocks. -/
def dot (a : FVec Ideal S1024x512 .bf16) (b : FVec Ideal S512x1024 .bf16) (y : S1024x1024.Idx) : EReal :=
  ∑ k : Fin 512, a (ix2 (y 0) k) * b (ix2 k (y 1))

/-- The chunks of the first gradient. -/
theorem part_0 (c : Dev nD) (t : Fin cfg0.N) (y : S1024x1024.Idx) (h : t.val % 11 ≤ 2) :
    part m c t y = dot (iblk m c 0 t) (iblk m c 3 t) y := by
  refine Finset.sum_congr rfl fun k _ => ?_
  have e : chan t k = ⟨t.val % 11 * 512 + k.val, by omega⟩ := rfl
  unfold cat
  rw [dif_pos (by rw [e]; dsimp only; omega)]
  blk_point [iblk, V, idx t, chan, rowOf]

/-- The chunks of the second. -/
theorem part_1 (c : Dev nD) (t : Fin cfg0.N) (y : S1024x1024.Idx) (h : 3 ≤ t.val % 11 ∧ t.val % 11 ≤ 4) :
    part m c t y = dot (iblk m c 1 t) (iblk m c 3 t) y := by
  refine Finset.sum_congr rfl fun k _ => ?_
  have e : chan t k = ⟨t.val % 11 * 512 + k.val, by omega⟩ := rfl
  unfold cat
  rw [dif_neg (by rw [e]; dsimp only; omega), dif_pos (by rw [e]; dsimp only; omega)]
  blk_point [iblk, V, idx t, chan, rowOf]

/-- The chunks of the third. -/
theorem part_2 (c : Dev nD) (t : Fin cfg0.N) (y : S1024x1024.Idx) (h : 5 ≤ t.val % 11) :
    part m c t y = dot (iblk m c 2 t) (iblk m c 3 t) y := by
  refine Finset.sum_congr rfl fun k _ => ?_
  have e : chan t k = ⟨t.val % 11 * 512 + k.val, by omega⟩ := rfl
  unfold cat
  rw [dif_neg (by rw [e]; dsimp only; omega), dif_neg (by rw [e]; dsimp only; omega)]
  blk_point [iblk, V, idx t, chan, rowOf]

/-- The first point of a block of rows clears the scratch and adds its part. -/
theorem first (c : Dev nD) (t : Fin cfg0.N) (h : t.val % 11 = 0) (y : S1024x1024.Idx) :
    (outsAt0 m c t.val t.isLt).2 y = 0 + part m c t y := by
  rw [outsAt0_A m c t h (by omega) (by omega) (by omega) (by omega), part_0 m c t y (by omega)]; frame_out
  unfold_payloads
  pointwise [dot]

/-- Every other point adds its part to what the points before it left. -/
theorem step (c : Dev nD) (t : Fin cfg0.N) (h : ¬t.val % 11 = 0) (y : S1024x1024.Idx) :
    (outsAt0 m c t.val t.isLt).2 y
      = (outsAt0 m c (t.val - 1) (Nat.lt_of_le_of_lt (Nat.sub_le _ _) t.isLt)).2 y + part m c t y := by
  by_cases h1 : t.val % 11 ≤ 2
  · rw [outsAt0_B m c t h h1 (by omega) (by omega) (by omega), part_0 m c t y h1]; frame_out
    unfold_payloads
    pointwise [dot]
    blk_point [iblk, V, idx t]
    exact congrFun (Memref.IsWhole.read_unread _ _) y
  · by_cases h2 : 3 ≤ t.val % 11 ∧ t.val % 11 ≤ 4
    · rw [outsAt0_C m c t h h1 h2 (by omega) (by omega), part_1 m c t y h2]; frame_out
      unfold_payloads
      pointwise [dot]
      blk_point [iblk, V, idx t]
      exact congrFun (Memref.IsWhole.read_unread _ _) y
    · by_cases h4 : t.val % 11 = 10
      · rw [outsAt0_E m c t h h1 h2 (by omega) h4, part_2 m c t y (by omega)]; frame_out
        unfold_payloads
        pointwise [dot]
        blk_point [iblk, V, idx t]
        exact congrFun (Memref.IsWhole.read_unread _ _) y
      · rw [outsAt0_D m c t h h1 h2 (by omega) h4, part_2 m c t y (by omega)]; frame_out
        unfold_payloads
        pointwise [dot]
        blk_point [iblk, V, idx t]
        exact congrFun (Memref.IsWhole.read_unread _ _) y

/-- The last point of a block of rows writes the sum and the residual's gradient back. -/
theorem last (c : Dev nD) (t : Fin cfg0.N) (h : t.val % 11 = 10) (y : S1024x1024.Idx) :
    (outsAt0 m c t.val t.isLt).1 y = (outsAt0 m c t.val t.isLt).2 y
      + Ideal.ofBits .f32 0x3FD744FD#32 * (iblk m c 4 t : FVec Ideal S1024x1024 .f32) y := by
  rw [outsAt0_E m c t (by omega) (by omega) (by omega) (by omega) h]; frame_out
  unfold_payloads
  pointwise []

/-- At the last point of a block of rows the scratch holds the eleven parts. -/
theorem scratch (c : Dev nD) (t : Fin cfg0.N) (h : t.val % 11 = 10) (y : S1024x1024.Idx) :
    (outsAt0 m c t.val t.isLt).2 y = ∑ s : Fin 11, part m c (nth t s) y :=
  (Pipeline.eq_sum_fin_of_reset_step_apply_of_flush (fun n h => ((outsAt0 m c n h).2 : S1024x1024.Idx → EReal)) 11
    (fun _ => 0) (fun t y => part m c t y) (fun t h y => first m c t h y) (fun t h y => step m c t h y) t h y).trans (zero_add _)

/-- The array after the run. -/
theorem final (c : Dev nD) : (dats m 0 c).arrAt 5 (cfgs 0).N
    = prod (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have h : t.val % 11 = 10 := (flush0_5 t).mp hf
  blk_simp
  rw [after0_5, last m c t h, scratch m c t h]
  unfold prod
  congr 1
  · have e0 : ((((cfg0.win 5).blk t).view.emb y) 0).val = win0_5.index t 0 * 1024 + 1 * (y 0).val := rfl
    have e1 : ((((cfg0.win 5).blk t).view.emb y) 1).val = win0_5.index t 1 * 1024 + 1 * (y 1).val := rfl
    rw [(idx t).2.2.2.2.2] at e0 e1
    refine Fin.sum_mul_add_congr fun s k hl => ?_
    have hr : rowOf (nth t s) (y 0)
        = ((cfg0.win 5).blk t).view.emb y 0 := Fin.ext (by rw [e0]; simp only [rowOf, nth, Matrix.cons_val_zero]; omega)
    have hk : chan (nth t s) k
        = ⟨s.val * 512 + k.val, hl⟩ := Fin.ext (by simp only [chan, nth]; omega)
    have hy : (y 1 : Fin 1024) = ((cfg0.win 5).blk t).view.emb y 1 := Fin.ext (by rw [e1]; simp)
    rw [hr, hk, hy]
  · blk_point [iblk, V, idx t]

/-- The reference's array. -/
theorem ref (a : FVec Ideal S4096x1536 .bf16) (b : FVec Ideal S4096x1024 .bf16) (e : FVec Ideal S4096x3072 .bf16)
    (w : FVec Ideal S5632x1024 .bf16) (dz : FVec Ideal S4096x1024 .f32) :
    Cert.PlainDxInIdeal.Read.val_main_v13 (F := Ideal) a b e w dz = prod a b e w dz := by
  funext i; idx_vars i
  pointwise [Cert.PlainDxInIdeal.Read.val_main_v13, Cert.PlainDxInIdeal.Read.val_main_v12, Cert.PlainDxInIdeal.Read.val_main_v11, Cert.PlainDxInIdeal.Read.val_main_cst_1, Cert.PlainDxInIdeal.Read.val_main_v10, Cert.PlainDxInIdeal.Read.val_main_v9, Cert.PlainDxInIdeal.Read.val_main_v8, Cert.PlainDxInIdeal.Read.val_main_v7, Cert.PlainDxInIdeal.Read.val_main_v6, Cert.PlainDxInIdeal.Read.val_main_v4, Cert.PlainDxInIdeal.Read.val_main_v3, prod]
  refine congrArg (· + _) (Finset.sum_congr rfl fun q _ => congrArg (· * _) ?_)
  unfold cat
  by_cases h : q.val < 1536
  · rw [dif_pos h, dif_pos h]
  · rw [dif_neg h, dif_neg h]
    by_cases h' : q.val < 2560
    · rw [dif_pos (by omega : q.val - 1536 < 1024), dif_pos h']
    · rw [dif_neg (by omega : ¬q.val - 1536 < 1024), dif_neg h']
      exact congrArg (fun k => e (ix2 i0 k)) (Fin.ext (by dsimp only; omega))

/-- The kernel and the plain gradient agree over the extended reals. -/
theorem algebraic : Cert.algebraic_DxInIdeal_PlainDxInIdeal := by
  pair_intro
  · run_from Cert.DxInIdeal.Value.run_blocks m g
  · run_from Cert.PlainDxInIdeal.Value.run m' g'
    exact (Cert.PlainDxInIdeal.Read.val_main_v13_eq ..).trans ((ref ..).trans (final m c).symm)

end Cert.DxInProof
-- ==== Proof.DMerged.lean ====
module

public import proofs.«01_k».proof.Defs
public import proofs.«01_k».proof.Proof.Gen.DMergedIdeal.Value
public import proofs.«01_k».proof.Proof.Gen.PlainDMergedIdeal.Run
public import proofs.«01_k».proof.Proof.Gen.PlainDMergedIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the merged branches. -/

namespace Cert.DMergedProof

open Cert.DMergedIdeal Cert.DMergedIdeal.Gen Idealize.ShloMosaic Idealize.ShloMosaic.TcCoe Idealize.SL.Sem
open Idealize.ShloMosaic.Pipeline (Dat)

variable (m : (ℓ : Loc nD τ sig) → Buf (Elt Ideal) ℓ)

/-- The product, one element at a time. -/
def prod (a : FVec Ideal S4096x1024 .bf16) (b : FVec Ideal S1024x1024 .bf16) : FVec Ideal S4096x1024 .f32 :=
  fun i => ∑ k : Fin 1024, a (ix2 (i 0) k) * b (ix2 (i 1) k)

/-- The blocks of every grid point. -/
theorem idx : ∀ t : Fin cfg0.N, win0_0.index t = ![t.val, 0] ∧ win0_1.index t = ![0, 0] ∧ win0_2.index t = ![t.val, 0] :=
  (by decide +kernel : ∀ t : Fin grid0.N, _)

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise [prod]
  blk_point [iblk, V, idx t]

/-- The reference's array. -/
theorem ref (a : FVec Ideal S4096x1024 .bf16) (b : FVec Ideal S1024x1024 .bf16) :
    Cert.PlainDMergedIdeal.Read.val_main_v4 (F := Ideal) a b = prod a b := by
  funext i; idx_vars i
  pointwise [Cert.PlainDMergedIdeal.Read.val_main_v4, Cert.PlainDMergedIdeal.Read.val_main_v1, Cert.PlainDMergedIdeal.Read.val_main_v0, prod]

/-- The kernel and the plain product agree over the extended reals. -/
theorem algebraic : Cert.algebraic_DMergedIdeal_PlainDMergedIdeal := by
  pair_intro
  · run_from Cert.DMergedIdeal.Value.run_blocks m g
  · run_from Cert.PlainDMergedIdeal.Value.run m' g'
    exact (Cert.PlainDMergedIdeal.Read.val_main_v4_eq ..).trans ((ref ..).trans (final m c).symm)

end Cert.DMergedProof
-- ==== Proof.DwMix.lean ====
module

public import proofs.«01_k».proof.Defs
public import proofs.«01_k».proof.Proof.Gen.DwMixIdeal.Value
public import proofs.«01_k».proof.Proof.Gen.PlainDwMixIdeal.Run
public import proofs.«01_k».proof.Proof.Gen.PlainDwMixIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the weight that mixes the merged branches. -/

namespace Cert.DwMixProof

open Cert.DwMixIdeal Cert.DwMixIdeal.Gen Idealize.ShloMosaic Idealize.ShloMosaic.TcCoe Idealize.SL.Sem
open Idealize.ShloMosaic.Pipeline (Dat)

variable (m : (ℓ : Loc nD τ sig) → Buf (Elt Ideal) ℓ)

/-- The product over the positions, one element at a time. -/
def prod (a : FVec Ideal S4096x1024 .bf16) (b : FVec Ideal S4096x1024 .bf16) : FVec Ideal S1024x1024 .bf16 :=
  fun i => ∑ k : Fin 4096, a (ix2 k (i 0)) * b (ix2 k (i 1))

/-- The blocks of every grid point. -/
theorem idx : ∀ t : Fin cfg0.N, win0_0.index t = ![t.val % 2, 0] ∧ win0_1.index t = ![t.val % 2, 0] ∧ win0_2.index t = ![0, 0] :=
  (by decide +kernel : ∀ t : Fin grid0.N, _)

/-- The product of two blocks, over a grid point's positions. -/
def dot (a : FVec Ideal S2048x1024 .bf16) (b : FVec Ideal S2048x1024 .bf16) (y : S1024x1024.Idx) : EReal :=
  ∑ k : Fin 2048, a (ix2 k (y 0)) * b (ix2 k (y 1))

/-- What grid point `t` adds. -/
def part (c : Dev nD) (t : Fin cfg0.N) (y : S1024x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S1024x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S1024x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, V, idx t]
  exact congrFun (Memref.IsWhole.read_unread _ _) y

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have h2 : t.val % 2 = 1 := (flush0_2 t).mp hf
  blk_simp
  rw [after0_2, point m c t (by omega) h2]
  unfold prod
  rw [Fin.sum_univ_two_halves 2048 2048 rfl]
  pointwise [part, dot]
  blk_point [iblk, V, idx t, idx ⟨t.val - 1, Nat.lt_of_le_of_lt (Nat.sub_le _ _) t.isLt⟩]

/-- The reference's array. -/
theorem ref (a : FVec Ideal S4096x1024 .bf16) (b : FVec Ideal S4096x1024 .bf16) :
    Cert.PlainDwMixIdeal.Read.val_main_v6 (F := Ideal) a b = prod a b := by
  funext i; idx_vars i
  pointwise [Cert.PlainDwMixIdeal.Read.val_main_v6, Cert.PlainDwMixIdeal.Read.val_main_v5, Cert.PlainDwMixIdeal.Read.val_main_v4, Cert.PlainDwMixIdeal.Read.val_main_v1, Cert.PlainDwMixIdeal.Read.val_main_v0, prod]
  exact Finset.sum_congr rfl fun _ _ => mul_comm _ _

/-- The kernel and the plain product agree over the extended reals. -/
theorem algebraic : Cert.algebraic_DwMixIdeal_PlainDwMixIdeal := by
  pair_intro
  · run_from Cert.DwMixIdeal.Value.run_blocks m g
  · run_from Cert.PlainDwMixIdeal.Value.run m' g'
    exact (Cert.PlainDwMixIdeal.Read.val_main_v6_eq ..).trans ((ref ..).trans (final m c).symm)

end Cert.DwMixProof
-- ==== Proof.DwBranch.lean ====
module

public import proofs.«01_k».proof.Defs
public import proofs.«01_k».proof.Proof.Gen.DwBranchIdeal.Value
public import proofs.«01_k».proof.Proof.Gen.PlainDwBranchIdeal.Run
public import proofs.«01_k».proof.Proof.Gen.PlainDwBranchIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of a branch's projection, and of the cross-attention's output weight. -/

namespace Cert.DwBranchProof

open Cert.DwBranchIdeal Cert.DwBranchIdeal.Gen Idealize.ShloMosaic Idealize.ShloMosaic.TcCoe Idealize.SL.Sem
open Idealize.ShloMosaic.Pipeline (Dat)

variable (m : (ℓ : Loc nD τ sig) → Buf (Elt Ideal) ℓ)

/-- The product over the positions, one element at a time. -/
def prod (a : FVec Ideal S4096x512 .bf16) (b : FVec Ideal S4096x1024 .bf16) : FVec Ideal S512x1024 .bf16 :=
  fun i => ∑ k : Fin 4096, a (ix2 k (i 0)) * b (ix2 k (i 1))

/-- The blocks of every grid point. -/
theorem idx : ∀ t : Fin cfg0.N, win0_0.index t = ![t.val % 2, 0] ∧ win0_1.index t = ![t.val % 2, 0] ∧ win0_2.index t = ![0, 0] :=
  (by decide +kernel : ∀ t : Fin grid0.N, _)

/-- The product of two blocks, over a grid point's positions. -/
def dot (a : FVec Ideal S2048x512 .bf16) (b : FVec Ideal S2048x1024 .bf16) (y : S512x1024.Idx) : EReal :=
  ∑ k : Fin 2048, a (ix2 k (y 0)) * b (ix2 k (y 1))

/-- What grid point `t` adds. -/
def part (c : Dev nD) (t : Fin cfg0.N) (y : S512x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S512x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S512x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, V, idx t]
  exact congrFun (Memref.IsWhole.read_unread _ _) y

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have h2 : t.val % 2 = 1 := (flush0_2 t).mp hf
  blk_simp
  rw [after0_2, point m c t (by omega) h2]
  unfold prod
  rw [Fin.sum_univ_two_halves 2048 2048 rfl]
  pointwise [part, dot]
  blk_point [iblk, V, idx t, idx ⟨t.val - 1, Nat.lt_of_le_of_lt (Nat.sub_le _ _) t.isLt⟩]

/-- The reference's array. -/
theorem ref (a : FVec Ideal S4096x512 .bf16) (b : FVec Ideal S4096x1024 .bf16) :
    Cert.PlainDwBranchIdeal.Read.val_main_v6 (F := Ideal) a b = prod a b := by
  funext i; idx_vars i
  pointwise [Cert.PlainDwBranchIdeal.Read.val_main_v6, Cert.PlainDwBranchIdeal.Read.val_main_v5, Cert.PlainDwBranchIdeal.Read.val_main_v4, Cert.PlainDwBranchIdeal.Read.val_main_v1, Cert.PlainDwBranchIdeal.Read.val_main_v0, prod]
  exact Finset.sum_congr rfl fun _ _ => mul_comm _ _

/-- The kernel and the plain product agree over the extended reals. -/
theorem algebraic : Cert.algebraic_DwBranchIdeal_PlainDwBranchIdeal := by
  pair_intro
  · run_from Cert.DwBranchIdeal.Value.run_blocks m g
  · run_from Cert.PlainDwBranchIdeal.Value.run m' g'
    exact (Cert.PlainDwBranchIdeal.Read.val_main_v6_eq ..).trans ((ref ..).trans (final m c).symm)

end Cert.DwBranchProof
-- ==== Proof.DwXq.lean ====
module

public import proofs.«01_k».proof.Defs
public import proofs.«01_k».proof.Proof.Gen.DwXqIdeal.Value
public import proofs.«01_k».proof.Proof.Gen.PlainDwXqIdeal.Run
public import proofs.«01_k».proof.Proof.Gen.PlainDwXqIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the cross-attention's query weight. -/

namespace Cert.DwXqProof

open Cert.DwXqIdeal Cert.DwXqIdeal.Gen Idealize.ShloMosaic Idealize.ShloMosaic.TcCoe Idealize.SL.Sem
open Idealize.ShloMosaic.Pipeline (Dat)

variable (m : (ℓ : Loc nD τ sig) → Buf (Elt Ideal) ℓ)

/-- The product over the positions, one element at a time. -/
def prod (a : FVec Ideal S4096x1024 .bf16) (b : FVec Ideal S4096x512 .bf16) : FVec Ideal S1024x512 .bf16 :=
  fun i => ∑ k : Fin 4096, a (ix2 k (i 0)) * b (ix2 k (i 1))

/-- The blocks of every grid point. -/
theorem idx : ∀ t : Fin cfg0.N, win0_0.index t = ![t.val % 2, 0] ∧ win0_1.index t = ![t.val % 2, 0] ∧ win0_2.index t = ![0, 0] :=
  (by decide +kernel : ∀ t : Fin grid0.N, _)

/-- The product of two blocks, over a grid point's positions. -/
def dot (a : FVec Ideal S2048x1024 .bf16) (b : FVec Ideal S2048x512 .bf16) (y : S1024x512.Idx) : EReal :=
  ∑ k : Fin 2048, a (ix2 k (y 0)) * b (ix2 k (y 1))

/-- What grid point `t` adds. -/
def part (c : Dev nD) (t : Fin cfg0.N) (y : S1024x512.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S1024x512.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S1024x512.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, V, idx t]
  exact congrFun (Memref.IsWhole.read_unread _ _) y

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t hf y => ?_
  have h2 : t.val % 2 = 1 := (flush0_2 t).mp hf
  blk_simp
  rw [after0_2, point m c t (by omega) h2]
  unfold prod
  rw [Fin.sum_univ_two_halves 2048 2048 rfl]
  pointwise [part, dot]
  blk_point [iblk, V, idx t, idx ⟨t.val - 1, Nat.lt_of_le_of_lt (Nat.sub_le _ _) t.isLt⟩]

/-- The reference's array. -/
theorem ref (a : FVec Ideal S4096x1024 .bf16) (b : FVec Ideal S4096x512 .bf16) :
    Cert.PlainDwXqIdeal.Read.val_main_v6 (F := Ideal) a b = prod a b := by
  funext i; idx_vars i
  pointwise [Cert.PlainDwXqIdeal.Read.val_main_v6, Cert.PlainDwXqIdeal.Read.val_main_v5, Cert.PlainDwXqIdeal.Read.val_main_v4, Cert.PlainDwXqIdeal.Read.val_main_v1, Cert.PlainDwXqIdeal.Read.val_main_v0, prod]
  exact Finset.sum_congr rfl fun _ _ => mul_comm _ _

/-- The kernel and the plain product agree over the extended reals. -/
theorem algebraic : Cert.algebraic_DwXqIdeal_PlainDwXqIdeal := by
  pair_intro
  · run_from Cert.DwXqIdeal.Value.run_blocks m g
  · run_from Cert.PlainDwXqIdeal.Value.run m' g'
    exact (Cert.PlainDwXqIdeal.Read.val_main_v6_eq ..).trans ((ref ..).trans (final m c).symm)

end Cert.DwXqProof
-- ==== Proof.Dxo.lean ====
module

public import proofs.«01_k».proof.Defs
public import proofs.«01_k».proof.Proof.Gen.DxoIdeal.Value
public import proofs.«01_k».proof.Proof.Gen.PlainDxoIdeal.Run
public import proofs.«01_k».proof.Proof.Gen.PlainDxoIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the cross-attention's output. -/

namespace Cert.DxoProof

open Cert.DxoIdeal Cert.DxoIdeal.Gen Idealize.ShloMosaic Idealize.ShloMosaic.TcCoe Idealize.SL.Sem
open Idealize.ShloMosaic.Pipeline (Dat)

variable (m : (ℓ : Loc nD τ sig) → Buf (Elt Ideal) ℓ)

/-- The product, one element at a time. -/
def prod (a : FVec Ideal S4096x1024 .bf16) (b : FVec Ideal S512x1024 .bf16) : FVec Ideal S4096x512 .bf16 :=
  fun i => ∑ k : Fin 1024, a (ix2 (i 0) k) * b (ix2 (i 1) k)

/-- The blocks of every grid point. -/
theorem idx : ∀ t : Fin cfg0.N, win0_0.index t = ![t.val, 0] ∧ win0_1.index t = ![0, 0] ∧ win0_2.index t = ![t.val, 0] :=
  (by decide +kernel : ∀ t : Fin grid0.N, _)

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise [prod]
  blk_point [iblk, V, idx t]

/-- The reference's array. -/
theorem ref (a : FVec Ideal S4096x1024 .bf16) (b : FVec Ideal S512x1024 .bf16) :
    Cert.PlainDxoIdeal.Read.val_main_v5 (F := Ideal) a b = prod a b := by
  funext i; idx_vars i
  pointwise [Cert.PlainDxoIdeal.Read.val_main_v5, Cert.PlainDxoIdeal.Read.val_main_v4, Cert.PlainDxoIdeal.Read.val_main_v1, Cert.PlainDxoIdeal.Read.val_main_v0, prod]

/-- The kernel and the plain product agree over the extended reals. -/
theorem algebraic : Cert.algebraic_DxoIdeal_PlainDxoIdeal := by
  pair_intro
  · run_from Cert.DxoIdeal.Value.run_blocks m g
  · run_from Cert.PlainDxoIdeal.Value.run m' g'
    exact (Cert.PlainDxoIdeal.Read.val_main_v5_eq ..).trans ((ref ..).trans (final m c).symm)

end Cert.DxoProof
-- ==== Proof.DwUp.lean ====
module

public import proofs.«01_k».proof.Defs
public import proofs.«01_k».proof.Proof.Gen.DwUpIdeal.Value
public import proofs.«01_k».proof.Proof.Gen.PlainDwUpIdeal.Run
public import proofs.«01_k».proof.Proof.Gen.PlainDwUpIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The second half of the gradient of the conv feed-forward's first weight, written into the array that holds the first half. -/

namespace Cert.DwUpProof

open Cert.DwUpIdeal Cert.DwUpIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient, one element at a time: the rows the call writes, and those the array held before. -/
def prod (a : FVec Ideal S4096x2816 .bf16) (b : FVec Ideal S4096x1024 .bf16) (w : FVec Ideal S5632x1024 .bf16) :
    FVec Ideal S5632x1024 .bf16 := fun i =>
  if h : 2816 ≤ (i 0).val then
    ∑ k : Fin 4096, a (ix2 k (⟨(i 0).val - 2816, by have := (i 0).isLt; dsimp at this; omega⟩ : Fin 2816)) * b (ix2 k (i 1))
  else w i

/-- The blocks of every grid point. -/
theorem idx : ∀ t : Fin cfg0.N, win0_0.index t = ![t.val % 2, t.val / 2] ∧ win0_1.index t = ![t.val % 2, 0]
    ∧ win0_2.index t = ![t.val / 2 + 2, 0] :=
  (by decide +kernel : ∀ t : Fin grid0.N, _)

/-- The product of two blocks, over a grid point's positions. -/
def dot (a : FVec Ideal S2048x1408 .bf16) (b : FVec Ideal S2048x1024 .bf16) (y : S1408x1024.Idx) : EReal :=
  ∑ k : Fin 2048, a (ix2 k (y 0)) * b (ix2 k (y 1))

/-- What grid point `t` adds. -/
def part (c : Dev nD) (t : Fin cfg0.N) (y : S1408x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S1408x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S1408x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, idx t]
  exact congrFun (Memref.IsWhole.read_unread _ _) y

/-- The result starts as the array the call is given. -/
theorem held (c : Dev nD) : V m c main_v0 = m ((c : Thread nD τ).loc main_arg2) := rfl

/-- The call writes the second half's rows. -/
theorem le22 (t : Fin cfg0.N) (y : ((cfg0.win 2).xblock (cfg0.grid.coords t)).Idx) :
    2816 ≤ (((cfg0.win 2).blk t).view.emb y 0).val := by
  have e : (((cfg0.win 2).blk t).view.emb y 0).val = win0_2.index t (0 : Fin 2) * 1408 + 1 * (y 0).val := rfl
  rw [e, (idx t).2.2]
  show 2816 ≤ (t.val / 2 + 2) * 1408 + 1 * (y 0).val
  omega

/-- The array after the run. -/
theorem final (c : Dev nD) : (dats m 0 c).arrAt 2 (cfgs 0).N
    = prod (m ((c : Thread nD τ).loc main_arg0)) (m ((c : Thread nD τ).loc main_arg1)) (m ((c : Thread nD τ).loc main_arg2)) := by
  refine (dats m 0 c).arrAt_eq_of_coversWhere_of_agree 2 _ (fun β => 2 ≤ β (0 : Fin _)) (by decide +kernel) (fun t hf y => ?_) fun j hj => ?_
  · have h2 : t.val % 2 = 1 := (flush0_2 t).mp hf
    blk_simp
    rw [after0_2, point m c t (by omega) h2]
    unfold prod
    rw [dif_pos (le22 t y)]
    rw [Fin.sum_univ_two_halves 2048 2048 rfl]
    pointwise [part, dot]
    blk_point [iblk, V_main_arg0 m c, V_main_arg1 m c, idx t, idx ⟨t.val - 1, Nat.lt_of_le_of_lt (Nat.sub_le _ _) t.isLt⟩]
  · rw [A_eq]
    refine (congrFun (held m c) _).trans ?_
    unfold prod
    have hn : ¬2816 ≤ ((cfg0.win 2).arr.view.emb j 0).val := fun h => hj (by
      have e : (cfg0.win 2).cell j 0 = (j 0).val / 1408 := rfl
      have h' : 2816 ≤ (j 0).val := h
      rw [e]; omega)
    rw [dif_neg hn]

/-- The reference's array. -/
theorem ref (a : FVec Ideal S4096x2816 .bf16) (b : FVec Ideal S4096x1024 .bf16) (w : FVec Ideal S5632x1024 .bf16) :
    Cert.PlainDwUpIdeal.Read.val_main_v9 (F := Ideal) a b w = prod a b w := by
  funext i; idx_vars i
  pointwise [Cert.PlainDwUpIdeal.Read.val_main_v9, Cert.PlainDwUpIdeal.Read.val_main_v8, Cert.PlainDwUpIdeal.Read.val_main_v7, Cert.PlainDwUpIdeal.Read.val_main_v6, Cert.PlainDwUpIdeal.Read.val_main_v5, Cert.PlainDwUpIdeal.Read.val_main_v2, Cert.PlainDwUpIdeal.Read.val_main_v1, Cert.PlainDwUpIdeal.Read.val_main_v0, prod]
  by_cases h : i0.val < 2816
  · rw [dif_pos h, dif_neg (by omega)]
  · rw [dif_neg h, dif_pos (by omega)]

/-- The kernel and the plain product agree over the extended reals. -/
theorem algebraic : Cert.algebraic_DwUpIdeal_PlainDwUpIdeal := by
  pair_intro
  · run_from Cert.DwUpIdeal.Value.run_blocks m g
  · run_from Cert.PlainDwUpIdeal.Value.run m' g'
    refine (Cert.PlainDwUpIdeal.Read.val_main_v9_eq ..).trans ((ref ..).trans ?_)
    rw [(hagree c).2.2]
    exact (final m c).symm

end Cert.DwUpProof
-- ==== Proof.Proj.lean ====
module

public import proofs.«01_k».proof.Defs
public import proofs.«01_k».proof.Proof.Gen.ProjIdeal.Value
public import proofs.«01_k».proof.Proof.Gen.PlainProjIdeal.Run
public import proofs.«01_k».proof.Proof.Gen.PlainProjIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The input projection, and the first product of the conv feed-forward. -/

namespace Cert.ProjProof

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The product, one element at a time. -/
def prod (a : FVec Ideal S4096x1024 .bf16) (b : FVec Ideal S5632x1024 .bf16) : FVec Ideal S4096x5632 .f32 :=
  fun i => ∑ k : Fin 1024, a (ix2 (i 0) k) * b (ix2 (i 1) k)

/-- The blocks of every grid point. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise [prod]
  blk_point [iblk, V, idx t]

/-- The reference's array. -/
theorem ref (a : FVec Ideal S4096x1024 .bf16) (b : FVec Ideal S5632x1024 .bf16) :
    Cert.PlainProjIdeal.Read.val_main_v3 (F := Ideal) a b = prod a b := by
  funext i; idx_vars i
  pointwise [Cert.PlainProjIdeal.Read.val_main_v3, Cert.PlainProjIdeal.Read.val_main_v2, Cert.PlainProjIdeal.Read.val_main_v1, Cert.PlainProjIdeal.Read.val_main_v0, prod]

/-- The kernel and the plain product agree over the extended reals. -/
theorem algebraic : Cert.algebraic_ProjIdeal_PlainProjIdeal := by
  pair_intro
  · run_from Cert.ProjIdeal.Value.run_blocks m g
  · run_from Cert.PlainProjIdeal.Value.run m' g'
    exact (Cert.PlainProjIdeal.Read.val_main_v3_eq ..).trans ((ref ..).trans (final m c).symm)

end Cert.ProjProof
-- ==== Proof.DownLn.lean ====
module

public import proofs.«01_k».proof.Defs
public import proofs.«01_k».proof.Proof.Gen.DownLnIdeal.Value
public import proofs.«01_k».proof.Proof.Gen.PlainDownLnIdeal.Run
public import proofs.«01_k».proof.Proof.Gen.PlainDownLnIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The feed-forward branch's down projection, the residual and the layer norm in one call. -/

namespace Cert.DownLnProof

open Cert.DownLnIdeal Cert.DownLnIdeal.Gen Idealize.ShloMosaic Idealize.ShloMosaic.TcCoe Idealize.SL.Sem
open Idealize.ShloMosaic.Pipeline (Dat)

variable (m : (ℓ : Loc nD τ sig) → Buf (Elt Ideal) ℓ)

/-- A row's mean. -/
def mean (z : Fin 1024 → EReal) : EReal := Ideal.div (∑ j, z j) (Ideal.ofBits .f32 0x44800000#32)

/-- A row's variance. -/
def var (z : Fin 1024 → EReal) : EReal :=
  Ideal.div (∑ j, (z j - mean z) * (z j - mean z)) (Ideal.ofBits .f32 0x44800000#32)

/-- A row's reciprocal standard deviation. -/
def rstd (z : Fin 1024 → EReal) : EReal := Ideal.rsqrt (var z + Ideal.ofBits .f32 0x3727C5AC#32)

/-- A row standardised. -/
def xhat (z : Fin 1024 → EReal) (j : Fin 1024) : EReal := (z j - mean z) * rstd z

/-- A row before the norm: the scaled residual and the product. -/
def row {R : Nat} (a : FVec Ideal (⟨2, ![R, 2816]⟩) .bf16) (b : FVec Ideal S2816x1024 .bf16)
    (x : FVec Ideal (⟨2, ![R, 1024]⟩) .f32) (r : Fin R) (j : Fin 1024) : EReal :=
  Ideal.ofBits .f32 0x3FD744FD#32 * x (ix2 r j) + ∑ k : Fin 2816, a (ix2 r k) * b (ix2 k j)

/-- The blocks of every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of grid point `t`'s block. -/
def rowOf (t : Fin cfg0.N) (r : Fin 512) : Fin 4096 :=
  ⟨t.val * 512 + r.val, by have := t.isLt; have : cfg0.N = 8 := N_0; omega⟩

/-- A block's rows are the array's. -/
theorem row_blk (c : Dev nD) (t : Fin cfg0.N) (r : Fin 512) :
    row (iblk m c 0 t : FVec Ideal S512x2816 .bf16) (iblk m c 1 t : FVec Ideal S2816x1024 .bf16) (iblk m c 2 t : FVec Ideal S512x1024 .f32) r
      = row (m ((c : Thread nD τ).loc main_arg0)) (m ((c : Thread nD τ).loc main_arg1)) (m ((c : Thread nD τ).loc main_arg2)) (rowOf t r) := by
  funext j
  unfold row
  blk_point [iblk, V, idx t, rowOf]

/-- The normed rows. -/
theorem final5 (c : Dev nD) : (dats m 0 c).arrAt 5 (cfgs 0).N
    = fun i => xhat (row (m ((c : Thread nD τ).loc main_arg0)) (m ((c : Thread nD τ).loc main_arg1)) (m ((c : Thread nD τ).loc main_arg2)) (i 0)) (i 1) * (m ((c : Thread nD τ).loc main_arg3) : FVec Ideal S1x1024 .f32) (ix2 0 (i 1)) + (m ((c : Thread nD τ).loc main_arg4) : FVec Ideal S1x1024 .f32) (ix2 0 (i 1)) := by
  refine (dats m 0 c).arrAt_eq_of_covers 5 _ (by decide +kernel) fun t hf y => ?_
  have e0 : ((((cfg0.win 5).blk t).view.emb y) 0).val = win0_5.index t 0 * 512 + 1 * (y 0).val := rfl
  have e1 : ((((cfg0.win 5).blk t).view.emb y) 1).val = win0_5.index t 1 * 1024 + 1 * (y 1).val := rfl
  rw [(idx t).2.2.2.2.2.1] at e0 e1
  have hr : (((cfg0.win 5).blk t).view.emb y) 0 = rowOf t (y 0) := Fin.ext (by rw [e0]; simp [rowOf])
  have hj : (((cfg0.win 5).blk t).view.emb y) 1 = y 1 := Fin.ext (by rw [e1]; simp)
  blk_simp
  rw [after0_5]
  refine (?_ : out0_5 (iblk m c 0 t) (iblk m c 1 t) (iblk m c 2 t) (iblk m c 3 t) (iblk m c 4 t) y
    = xhat (row (iblk m c 0 t : FVec Ideal S512x2816 .bf16) (iblk m c 1 t : FVec Ideal S2816x1024 .bf16) (iblk m c 2 t : FVec Ideal S512x1024 .f32) (y 0)) (y 1 : Fin 1024) * (iblk m c 3 t : FVec Ideal S1x1024 .f32) (ix2 0 (y 1 : Fin 1024)) + (iblk m c 4 t : FVec Ideal S1x1024 .f32) (ix2 0 (y 1 : Fin 1024))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    refine congrArg₂ (· + ·) (congrArg₂ (· * ·) (congrArg₂ xhat hz hj.symm) ?_) ?_ <;> blk_point [iblk, V, idx t]

/-- The normed rows rounded. -/
theorem final6 (c : Dev nD) : (dats m 0 c).arrAt 6 (cfgs 0).N
    = fun i => xhat (row (m ((c : Thread nD τ).loc main_arg0)) (m ((c : Thread nD τ).loc main_arg1)) (m ((c : Thread nD τ).loc main_arg2)) (i 0)) (i 1) * (m ((c : Thread nD τ).loc main_arg3) : FVec Ideal S1x1024 .f32) (ix2 0 (i 1)) + (m ((c : Thread nD τ).loc main_arg4) : FVec Ideal S1x1024 .f32) (ix2 0 (i 1)) := by
  refine (dats m 0 c).arrAt_eq_of_covers 6 _ (by decide +kernel) fun t hf y => ?_
  have e0 : ((((cfg0.win 6).blk t).view.emb y) 0).val = win0_6.index t 0 * 512 + 1 * (y 0).val := rfl
  have e1 : ((((cfg0.win 6).blk t).view.emb y) 1).val = win0_6.index t 1 * 1024 + 1 * (y 1).val := rfl
  rw [(idx t).2.2.2.2.2.2.1] at e0 e1
  have hr : (((cfg0.win 6).blk t).view.emb y) 0 = rowOf t (y 0) := Fin.ext (by rw [e0]; simp [rowOf])
  have hj : (((cfg0.win 6).blk t).view.emb y) 1 = y 1 := Fin.ext (by rw [e1]; simp)
  blk_simp
  rw [after0_6]
  refine (?_ : out0_6 (iblk m c 0 t) (iblk m c 1 t) (iblk m c 2 t) (iblk m c 3 t) (iblk m c 4 t) y
    = xhat (row (iblk m c 0 t : FVec Ideal S512x2816 .bf16) (iblk m c 1 t : FVec Ideal S2816x1024 .bf16) (iblk m c 2 t : FVec Ideal S512x1024 .f32) (y 0)) (y 1 : Fin 1024) * (iblk m c 3 t : FVec Ideal S1x1024 .f32) (ix2 0 (y 1 : Fin 1024)) + (iblk m c 4 t : FVec Ideal S1x1024 .f32) (ix2 0 (y 1 : Fin 1024))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    refine congrArg₂ (· + ·) (congrArg₂ (· * ·) (congrArg₂ xhat hz hj.symm) ?_) ?_ <;> blk_point [iblk, V, idx t]

/-- The standardised rows. -/
theorem final7 (c : Dev nD) : (dats m 0 c).arrAt 7 (cfgs 0).N
    = fun i => xhat (row (m ((c : Thread nD τ).loc main_arg0)) (m ((c : Thread nD τ).loc main_arg1)) (m ((c : Thread nD τ).loc main_arg2)) (i 0)) (i 1) := by
  refine (dats m 0 c).arrAt_eq_of_covers 7 _ (by decide +kernel) fun t hf y => ?_
  have e0 : ((((cfg0.win 7).blk t).view.emb y) 0).val = win0_7.index t 0 * 512 + 1 * (y 0).val := rfl
  have e1 : ((((cfg0.win 7).blk t).view.emb y) 1).val = win0_7.index t 1 * 1024 + 1 * (y 1).val := rfl
  rw [(idx t).2.2.2.2.2.2.2.1] at e0 e1
  have hr : (((cfg0.win 7).blk t).view.emb y) 0 = rowOf t (y 0) := Fin.ext (by rw [e0]; simp [rowOf])
  have hj : (((cfg0.win 7).blk t).view.emb y) 1 = y 1 := Fin.ext (by rw [e1]; simp)
  blk_simp
  rw [after0_7]
  refine (?_ : out0_7 (iblk m c 0 t) (iblk m c 1 t) (iblk m c 2 t) (iblk m c 3 t) (iblk m c 4 t) y
    = xhat (row (iblk m c 0 t : FVec Ideal S512x2816 .bf16) (iblk m c 1 t : FVec Ideal S2816x1024 .bf16) (iblk m c 2 t : FVec Ideal S512x1024 .f32) (y 0)) (y 1 : Fin 1024)).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    exact congrArg₂ xhat hz hj.symm

/-- The reciprocal standard deviations. -/
theorem final8 (c : Dev nD) : (dats m 0 c).arrAt 8 (cfgs 0).N
    = fun i => rstd (row (m ((c : Thread nD τ).loc main_arg0)) (m ((c : Thread nD τ).loc main_arg1)) (m ((c : Thread nD τ).loc main_arg2)) (i 0)) := by
  refine (dats m 0 c).arrAt_eq_of_covers 8 _ (by decide +kernel) fun t hf y => ?_
  have e0 : ((((cfg0.win 8).blk t).view.emb y) 0).val = win0_8.index t 0 * 512 + 1 * (y 0).val := rfl
  have e1 : ((((cfg0.win 8).blk t).view.emb y) 1).val = win0_8.index t 1 * 1 + 1 * (y 1).val := rfl
  rw [(idx t).2.2.2.2.2.2.2.2] at e0 e1
  have hr : (((cfg0.win 8).blk t).view.emb y) 0 = rowOf t (y 0) := Fin.ext (by rw [e0]; simp [rowOf])
  have hj : (((cfg0.win 8).blk t).view.emb y) 1 = y 1 := Fin.ext (by rw [e1]; simp)
  blk_simp
  rw [after0_8]
  refine (?_ : out0_8 (iblk m c 0 t) (iblk m c 1 t) (iblk m c 2 t) (iblk m c 3 t) (iblk m c 4 t) y
    = rstd (row (iblk m c 0 t : FVec Ideal S512x2816 .bf16) (iblk m c 1 t : FVec Ideal S2816x1024 .bf16) (iblk m c 2 t : FVec Ideal S512x1024 .f32) (y 0))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    exact congrArg rstd hz

/-- The reference's rows. -/
theorem ref_row (a : FVec Ideal S4096x2816 .bf16) (b : FVec Ideal S2816x1024 .bf16) (x : FVec Ideal S4096x1024 .f32)
    (r : Fin 4096) (j : Fin 1024) : Cert.PlainDownLnIdeal.Read.val_main_v5 (F := Ideal) a b x (ix2 r j) = row a b x r j := by
  pointwise [Cert.PlainDownLnIdeal.Read.val_main_cst, Cert.PlainDownLnIdeal.Read.val_main_v0, Cert.PlainDownLnIdeal.Read.val_main_v1, Cert.PlainDownLnIdeal.Read.val_main_v2, Cert.PlainDownLnIdeal.Read.val_main_v3, Cert.PlainDownLnIdeal.Read.val_main_v4, Cert.PlainDownLnIdeal.Read.val_main_v5, row]

/-- The reference's: the normed rows. -/
theorem ref5 (a : FVec Ideal S4096x2816 .bf16) (b : FVec Ideal S2816x1024 .bf16) (x : FVec Ideal S4096x1024 .f32) (g bias : FVec Ideal S1x1024 .f32) :
    Cert.PlainDownLnIdeal.Read.val_main_v27 (F := Ideal) a b x g bias = fun i => xhat (row a b x (i 0)) (i 1) * g (ix2 0 (i 1)) + bias (ix2 0 (i 1)) := by
  funext i; idx_vars i
  pointwise [Cert.PlainDownLnIdeal.Read.val_main_cst_0, Cert.PlainDownLnIdeal.Read.val_main_cst_1, Cert.PlainDownLnIdeal.Read.val_main_cst_2, Cert.PlainDownLnIdeal.Read.val_main_cst_3, Cert.PlainDownLnIdeal.Read.val_main_cst_4, Cert.PlainDownLnIdeal.Read.val_main_cst_5, Cert.PlainDownLnIdeal.Read.val_main_cst_6, Cert.PlainDownLnIdeal.Read.val_main_cst_7, Cert.PlainDownLnIdeal.Read.val_main_cst_8, Cert.PlainDownLnIdeal.Read.val_main_cst_9, Cert.PlainDownLnIdeal.Read.val_main_v6, Cert.PlainDownLnIdeal.Read.val_main_v7, Cert.PlainDownLnIdeal.Read.val_main_v8, Cert.PlainDownLnIdeal.Read.val_main_v9, Cert.PlainDownLnIdeal.Read.val_main_v10, Cert.PlainDownLnIdeal.Read.val_main_v11, Cert.PlainDownLnIdeal.Read.val_main_v12, Cert.PlainDownLnIdeal.Read.val_main_v13, Cert.PlainDownLnIdeal.Read.val_main_v14, Cert.PlainDownLnIdeal.Read.val_main_v15, Cert.PlainDownLnIdeal.Read.val_main_v16, Cert.PlainDownLnIdeal.Read.val_main_v17, Cert.PlainDownLnIdeal.Read.val_main_v18, Cert.PlainDownLnIdeal.Read.val_main_v19, Cert.PlainDownLnIdeal.Read.val_main_v20, Cert.PlainDownLnIdeal.Read.val_main_v21, Cert.PlainDownLnIdeal.Read.val_main_v22, Cert.PlainDownLnIdeal.Read.val_main_v23, Cert.PlainDownLnIdeal.Read.val_main_v24, Cert.PlainDownLnIdeal.Read.val_main_v25, Cert.PlainDownLnIdeal.Read.val_main_v26, Cert.PlainDownLnIdeal.Read.val_main_v27, Cert.PlainDownLnIdeal.Read.val_main_v28, Cert.PlainDownLnIdeal.Read.val_main_v29, Cert.PlainDownLnIdeal.Read.val_main_v30, Cert.PlainDownLnIdeal.Read.val_main_v31, Cert.PlainDownLnIdeal.Read.val_main_v32, Cert.PlainDownLnIdeal.Read.val_main_v33, Cert.PlainDownLnIdeal.Read.val_main_v34, Cert.PlainDownLnIdeal.Read.val_main_v35, Cert.PlainDownLnIdeal.Read.val_main_v36, Cert.PlainDownLnIdeal.Read.val_main_v37, Cert.PlainDownLnIdeal.Read.val_main_v38, Cert.PlainDownLnIdeal.Read.val_main_v39, Cert.PlainDownLnIdeal.Read.val_main_v40, Cert.PlainDownLnIdeal.Read.val_main_v41, Cert.PlainDownLnIdeal.Read.val_main_v42, Cert.PlainDownLnIdeal.Read.val_main_v43, Cert.PlainDownLnIdeal.Read.val_main_v44, Cert.PlainDownLnIdeal.Read.val_main_v45, Cert.PlainDownLnIdeal.Read.val_main_v46, ref_row, xhat, rstd, var, mean]

/-- The reference's: the normed rows rounded. -/
theorem ref6 (a : FVec Ideal S4096x2816 .bf16) (b : FVec Ideal S2816x1024 .bf16) (x : FVec Ideal S4096x1024 .f32) (g bias : FVec Ideal S1x1024 .f32) :
    Cert.PlainDownLnIdeal.Read.val_main_v28 (F := Ideal) a b x g bias = fun i => xhat (row a b x (i 0)) (i 1) * g (ix2 0 (i 1)) + bias (ix2 0 (i 1)) := by
  funext i; idx_vars i
  pointwise [Cert.PlainDownLnIdeal.Read.val_main_cst_0, Cert.PlainDownLnIdeal.Read.val_main_cst_1, Cert.PlainDownLnIdeal.Read.val_main_cst_2, Cert.PlainDownLnIdeal.Read.val_main_cst_3, Cert.PlainDownLnIdeal.Read.val_main_cst_4, Cert.PlainDownLnIdeal.Read.val_main_cst_5, Cert.PlainDownLnIdeal.Read.val_main_cst_6, Cert.PlainDownLnIdeal.Read.val_main_cst_7, Cert.PlainDownLnIdeal.Read.val_main_cst_8, Cert.PlainDownLnIdeal.Read.val_main_cst_9, Cert.PlainDownLnIdeal.Read.val_main_v6, Cert.PlainDownLnIdeal.Read.val_main_v7, Cert.PlainDownLnIdeal.Read.val_main_v8, Cert.PlainDownLnIdeal.Read.val_main_v9, Cert.PlainDownLnIdeal.Read.val_main_v10, Cert.PlainDownLnIdeal.Read.val_main_v11, Cert.PlainDownLnIdeal.Read.val_main_v12, Cert.PlainDownLnIdeal.Read.val_main_v13, Cert.PlainDownLnIdeal.Read.val_main_v14, Cert.PlainDownLnIdeal.Read.val_main_v15, Cert.PlainDownLnIdeal.Read.val_main_v16, Cert.PlainDownLnIdeal.Read.val_main_v17, Cert.PlainDownLnIdeal.Read.val_main_v18, Cert.PlainDownLnIdeal.Read.val_main_v19, Cert.PlainDownLnIdeal.Read.val_main_v20, Cert.PlainDownLnIdeal.Read.val_main_v21, Cert.PlainDownLnIdeal.Read.val_main_v22, Cert.PlainDownLnIdeal.Read.val_main_v23, Cert.PlainDownLnIdeal.Read.val_main_v24, Cert.PlainDownLnIdeal.Read.val_main_v25, Cert.PlainDownLnIdeal.Read.val_main_v26, Cert.PlainDownLnIdeal.Read.val_main_v27, Cert.PlainDownLnIdeal.Read.val_main_v28, Cert.PlainDownLnIdeal.Read.val_main_v29, Cert.PlainDownLnIdeal.Read.val_main_v30, Cert.PlainDownLnIdeal.Read.val_main_v31, Cert.PlainDownLnIdeal.Read.val_main_v32, Cert.PlainDownLnIdeal.Read.val_main_v33, Cert.PlainDownLnIdeal.Read.val_main_v34, Cert.PlainDownLnIdeal.Read.val_main_v35, Cert.PlainDownLnIdeal.Read.val_main_v36, Cert.PlainDownLnIdeal.Read.val_main_v37, Cert.PlainDownLnIdeal.Read.val_main_v38, Cert.PlainDownLnIdeal.Read.val_main_v39, Cert.PlainDownLnIdeal.Read.val_main_v40, Cert.PlainDownLnIdeal.Read.val_main_v41, Cert.PlainDownLnIdeal.Read.val_main_v42, Cert.PlainDownLnIdeal.Read.val_main_v43, Cert.PlainDownLnIdeal.Read.val_main_v44, Cert.PlainDownLnIdeal.Read.val_main_v45, Cert.PlainDownLnIdeal.Read.val_main_v46, ref_row, xhat, rstd, var, mean]

/-- The reference's: the standardised rows. -/
theorem ref7 (a : FVec Ideal S4096x2816 .bf16) (b : FVec Ideal S2816x1024 .bf16) (x : FVec Ideal S4096x1024 .f32) :
    Cert.PlainDownLnIdeal.Read.val_main_v46 (F := Ideal) a b x = fun i => xhat (row a b x (i 0)) (i 1) := by
  funext i; idx_vars i
  pointwise [Cert.PlainDownLnIdeal.Read.val_main_cst_0, Cert.PlainDownLnIdeal.Read.val_main_cst_1, Cert.PlainDownLnIdeal.Read.val_main_cst_2, Cert.PlainDownLnIdeal.Read.val_main_cst_3, Cert.PlainDownLnIdeal.Read.val_main_cst_4, Cert.PlainDownLnIdeal.Read.val_main_cst_5, Cert.PlainDownLnIdeal.Read.val_main_cst_6, Cert.PlainDownLnIdeal.Read.val_main_cst_7, Cert.PlainDownLnIdeal.Read.val_main_cst_8, Cert.PlainDownLnIdeal.Read.val_main_cst_9, Cert.PlainDownLnIdeal.Read.val_main_v6, Cert.PlainDownLnIdeal.Read.val_main_v7, Cert.PlainDownLnIdeal.Read.val_main_v8, Cert.PlainDownLnIdeal.Read.val_main_v9, Cert.PlainDownLnIdeal.Read.val_main_v10, Cert.PlainDownLnIdeal.Read.val_main_v11, Cert.PlainDownLnIdeal.Read.val_main_v12, Cert.PlainDownLnIdeal.Read.val_main_v13, Cert.PlainDownLnIdeal.Read.val_main_v14, Cert.PlainDownLnIdeal.Read.val_main_v15, Cert.PlainDownLnIdeal.Read.val_main_v16, Cert.PlainDownLnIdeal.Read.val_main_v17, Cert.PlainDownLnIdeal.Read.val_main_v18, Cert.PlainDownLnIdeal.Read.val_main_v19, Cert.PlainDownLnIdeal.Read.val_main_v20, Cert.PlainDownLnIdeal.Read.val_main_v21, Cert.PlainDownLnIdeal.Read.val_main_v22, Cert.PlainDownLnIdeal.Read.val_main_v23, Cert.PlainDownLnIdeal.Read.val_main_v24, Cert.PlainDownLnIdeal.Read.val_main_v25, Cert.PlainDownLnIdeal.Read.val_main_v26, Cert.PlainDownLnIdeal.Read.val_main_v27, Cert.PlainDownLnIdeal.Read.val_main_v28, Cert.PlainDownLnIdeal.Read.val_main_v29, Cert.PlainDownLnIdeal.Read.val_main_v30, Cert.PlainDownLnIdeal.Read.val_main_v31, Cert.PlainDownLnIdeal.Read.val_main_v32, Cert.PlainDownLnIdeal.Read.val_main_v33, Cert.PlainDownLnIdeal.Read.val_main_v34, Cert.PlainDownLnIdeal.Read.val_main_v35, Cert.PlainDownLnIdeal.Read.val_main_v36, Cert.PlainDownLnIdeal.Read.val_main_v37, Cert.PlainDownLnIdeal.Read.val_main_v38, Cert.PlainDownLnIdeal.Read.val_main_v39, Cert.PlainDownLnIdeal.Read.val_main_v40, Cert.PlainDownLnIdeal.Read.val_main_v41, Cert.PlainDownLnIdeal.Read.val_main_v42, Cert.PlainDownLnIdeal.Read.val_main_v43, Cert.PlainDownLnIdeal.Read.val_main_v44, Cert.PlainDownLnIdeal.Read.val_main_v45, Cert.PlainDownLnIdeal.Read.val_main_v46, ref_row, xhat, rstd, var, mean]

/-- The reference's: the reciprocal standard deviations. -/
theorem ref8 (a : FVec Ideal S4096x2816 .bf16) (b : FVec Ideal S2816x1024 .bf16) (x : FVec Ideal S4096x1024 .f32) :
    Cert.PlainDownLnIdeal.Read.val_main_v42 (F := Ideal) a b x = fun i => rstd (row a b x (i 0)) := by
  funext i; idx_vars i
  pointwise [Cert.PlainDownLnIdeal.Read.val_main_cst_0, Cert.PlainDownLnIdeal.Read.val_main_cst_1, Cert.PlainDownLnIdeal.Read.val_main_cst_2, Cert.PlainDownLnIdeal.Read.val_main_cst_3, Cert.PlainDownLnIdeal.Read.val_main_cst_4, Cert.PlainDownLnIdeal.Read.val_main_cst_5, Cert.PlainDownLnIdeal.Read.val_main_cst_6, Cert.PlainDownLnIdeal.Read.val_main_cst_7, Cert.PlainDownLnIdeal.Read.val_main_cst_8, Cert.PlainDownLnIdeal.Read.val_main_cst_9, Cert.PlainDownLnIdeal.Read.val_main_v6, Cert.PlainDownLnIdeal.Read.val_main_v7, Cert.PlainDownLnIdeal.Read.val_main_v8, Cert.PlainDownLnIdeal.Read.val_main_v9, Cert.PlainDownLnIdeal.Read.val_main_v10, Cert.PlainDownLnIdeal.Read.val_main_v11, Cert.PlainDownLnIdeal.Read.val_main_v12, Cert.PlainDownLnIdeal.Read.val_main_v13, Cert.PlainDownLnIdeal.Read.val_main_v14, Cert.PlainDownLnIdeal.Read.val_main_v15, Cert.PlainDownLnIdeal.Read.val_main_v16, Cert.PlainDownLnIdeal.Read.val_main_v17, Cert.PlainDownLnIdeal.Read.val_main_v18, Cert.PlainDownLnIdeal.Read.val_main_v19, Cert.PlainDownLnIdeal.Read.val_main_v20, Cert.PlainDownLnIdeal.Read.val_main_v21, Cert.PlainDownLnIdeal.Read.val_main_v22, Cert.PlainDownLnIdeal.Read.val_main_v23, Cert.PlainDownLnIdeal.Read.val_main_v24, Cert.PlainDownLnIdeal.Read.val_main_v25, Cert.PlainDownLnIdeal.Read.val_main_v26, Cert.PlainDownLnIdeal.Read.val_main_v27, Cert.PlainDownLnIdeal.Read.val_main_v28, Cert.PlainDownLnIdeal.Read.val_main_v29, Cert.PlainDownLnIdeal.Read.val_main_v30, Cert.PlainDownLnIdeal.Read.val_main_v31, Cert.PlainDownLnIdeal.Read.val_main_v32, Cert.PlainDownLnIdeal.Read.val_main_v33, Cert.PlainDownLnIdeal.Read.val_main_v34, Cert.PlainDownLnIdeal.Read.val_main_v35, Cert.PlainDownLnIdeal.Read.val_main_v36, Cert.PlainDownLnIdeal.Read.val_main_v37, Cert.PlainDownLnIdeal.Read.val_main_v38, Cert.PlainDownLnIdeal.Read.val_main_v39, Cert.PlainDownLnIdeal.Read.val_main_v40, Cert.PlainDownLnIdeal.Read.val_main_v41, Cert.PlainDownLnIdeal.Read.val_main_v42, Cert.PlainDownLnIdeal.Read.val_main_v43, Cert.PlainDownLnIdeal.Read.val_main_v44, Cert.PlainDownLnIdeal.Read.val_main_v45, Cert.PlainDownLnIdeal.Read.val_main_v46, ref_row, xhat, rstd, var, mean]

/-- The kernel and the plain forward agree over the extended reals. -/
theorem algebraic : Cert.algebraic_DownLnIdeal_PlainDownLnIdeal := by
  pair_intro
  · run_from Cert.DownLnIdeal.Value.run_blocks m g
  · run_from Cert.PlainDownLnIdeal.Value.run m' g'
    · exact (Cert.PlainDownLnIdeal.Read.val_main_v27_eq ..).trans ((ref5 ..).trans (final5 m c).symm)
    · exact (Cert.PlainDownLnIdeal.Read.val_main_v28_eq ..).trans ((ref6 ..).trans (final6 m c).symm)
    · exact (Cert.PlainDownLnIdeal.Read.val_main_v46_eq ..).trans ((ref7 ..).trans (final7 m c).symm)
    · exact (Cert.PlainDownLnIdeal.Read.val_main_v42_eq ..).trans ((ref8 ..).trans (final8 m c).symm)

end Cert.DownLnProof
-- ==== Proof.MergeFwd.lean ====
module

public import proofs.«01_k».proof.Defs
public import proofs.«01_k».proof.Proof.Gen.MergeFwdIdeal.Value
public import proofs.«01_k».proof.Proof.Gen.PlainMergeFwdIdeal.Run
public import proofs.«01_k».proof.Proof.Gen.PlainMergeFwdIdeal.Read
public import proofs.«01_k».proof.Proof.MergeMath
public import Idealize.ShloMosaic.Lib.Pointwise
public import Idealize.ShloMosaic.Lib.Pipeline.ValueKit
public import Idealize.ShloMosaic.Lib.Pipeline.ReadBack

@[expose] public section

set_option maxRecDepth 16384

noncomputable section

/-! The gated merge: the branches projected, each times its sigmoid gate, and their sum. -/

namespace Cert.MergeFwdProof

open Cert.Merge (Br Wt Pj Bg gate proj)
open Cert.MergeFwdIdeal Cert.MergeFwdIdeal.Gen Idealize.ShloMosaic Idealize.ShloMosaic.TcCoe Idealize.SL.Sem
open Idealize.ShloMosaic.Pipeline (Dat)

variable (m : (ℓ : Loc nD τ sig) → Buf (Elt Ideal) ℓ)

/-- The merged array, one element at a time. -/
def merged (o0 o1 o2 : Br) (w : Wt) (p : Pj) (b : Bg) : FVec Ideal S4096x1024 .bf16 := fun i =>
  proj o0 w 0 (i 0) (i 1) * gate p b (i 0) ⟨(i 1).val, by have : (i 1).val < 1024 := (i 1).isLt; omega⟩
    + proj o1 w 1 (i 0) (i 1) * gate p b (i 0) ⟨1024 + (i 1).val, by have : (i 1).val < 1024 := (i 1).isLt; omega⟩
    + proj o2 w 2 (i 0) (i 1) * gate p b (i 0) ⟨2048 + (i 1).val, by have : (i 1).val < 1024 := (i 1).isLt; omega⟩

/-- The blocks of every grid point. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 5] ∧ win0_5.index t = ![t.val, 6] ∧ win0_6.index t = ![t.val, 7]
    ∧ win0_7.index t = ![t.val, 8] ∧ win0_8.index t = ![t.val, 9] ∧ win0_9.index t = ![t.val, 10] ∧ win0_10.index t = ![0, 0]
    ∧ win0_11.index t = ![t.val, 0] :=
  (by decide +kernel : ∀ t : Fin grid0.N, _)

/-- The array after the run. -/
theorem final (c : Dev nD) : (dats m 0 c).arrAt 11 (cfgs 0).N
    = merged (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]; frame_out
  canon_tiles x
  all_goals
    unfold_payloads
    pointwise [merged, proj, gate]
    blk_point [iblk, V, idx t]

/-- The reference's gates. -/
theorem ref_gate (p : Pj) (b : Bg) (r : Fin 4096) (n : Fin 3) (d : Fin 1024) :
    Cert.PlainMergeFwdIdeal.Read.val_main_v19 (F := Ideal) p b (ix3 r n d) = gate p b r ⟨n.val * 1024 + d.val, by omega⟩ := by
  pointwise [Cert.PlainMergeFwdIdeal.Read.val_main_v19, Cert.PlainMergeFwdIdeal.Read.val_main_v18, Cert.PlainMergeFwdIdeal.Read.val_main_v17, Cert.PlainMergeFwdIdeal.Read.val_main_v16, Cert.PlainMergeFwdIdeal.Read.val_main_v15, Cert.PlainMergeFwdIdeal.Read.val_main_v14, Cert.PlainMergeFwdIdeal.Read.val_main_v13, Cert.PlainMergeFwdIdeal.Read.val_main_v12, Cert.PlainMergeFwdIdeal.Read.val_main_v11, Cert.PlainMergeFwdIdeal.Read.val_main_v10, Cert.PlainMergeFwdIdeal.Read.val_main_cst, Cert.PlainMergeFwdIdeal.Read.val_main_cst_0, gate, zero_sub]

/-- The reference's array. -/
theorem ref (o0 o1 o2 : Br) (w : Wt) (p : Pj) (b : Bg) :
    Cert.PlainMergeFwdIdeal.Read.val_main_v22 (F := Ideal) o0 o1 o2 w p b = merged o0 o1 o2 w p b := by
  funext i; idx_vars i
  pointwise [Cert.PlainMergeFwdIdeal.Read.val_main_v22, Cert.PlainMergeFwdIdeal.Read.val_main_v21, Cert.PlainMergeFwdIdeal.Read.val_main_v20, Cert.PlainMergeFwdIdeal.Read.val_main_cst_1, Cert.PlainMergeFwdIdeal.Read.val_main_v9, Cert.PlainMergeFwdIdeal.Read.val_main_v8, Cert.PlainMergeFwdIdeal.Read.val_main_v7, Cert.PlainMergeFwdIdeal.Read.val_main_v6, Cert.PlainMergeFwdIdeal.Read.val_main_v5, Cert.PlainMergeFwdIdeal.Read.val_main_v4, Cert.PlainMergeFwdIdeal.Read.val_main_v3, Cert.PlainMergeFwdIdeal.Read.val_main_v2, Cert.PlainMergeFwdIdeal.Read.val_main_v1, Cert.PlainMergeFwdIdeal.Read.val_main_v0, ref_gate, merged, proj]
  rw [Fin.sum_univ_three]
  refine congrArg₂ (· + ·) (congrArg₂ (· + ·) ?_ ?_) ?_ <;>
    refine congrArg₂ (· * ·) (Finset.sum_congr rfl fun q _ => ?_) (congrArg (gate p b i0) (Fin.ext (by simp)))
  · exact mul_comm _ _
  · exact mul_comm _ _
  · exact mul_comm _ _

/-- The kernel and the plain forward agree over the extended reals. -/
theorem algebraic : Cert.algebraic_MergeFwdIdeal_PlainMergeFwdIdeal := by
  pair_intro
  · run_from Cert.MergeFwdIdeal.Value.run_blocks m g
  · run_from Cert.PlainMergeFwdIdeal.Value.run m' g'
    exact (Cert.PlainMergeFwdIdeal.Read.val_main_v22_eq ..).trans ((ref ..).trans (final m c).symm)

end Cert.MergeFwdProof
-- ==== Proof.MixLn.lean ====
module

public import proofs.«01_k».proof.Defs
public import proofs.«01_k».proof.Proof.Gen.MixLnIdeal.Value
public import proofs.«01_k».proof.Proof.Gen.PlainMixLnIdeal.Run
public import proofs.«01_k».proof.Proof.Gen.PlainMixLnIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The merged array's output projection, the residual and the layer norm in one call. -/

namespace Cert.MixLnProof

open Cert.MixLnIdeal Cert.MixLnIdeal.Gen Idealize.ShloMosaic Idealize.ShloMosaic.TcCoe Idealize.SL.Sem
open Idealize.ShloMosaic.Pipeline (Dat)

variable (m : (ℓ : Loc nD τ sig) → Buf (Elt Ideal) ℓ)

/-- A row's mean. -/
def mean (z : Fin 1024 → EReal) : EReal := Ideal.div (∑ j, z j) (Ideal.ofBits .f32 0x44800000#32)

/-- A row's variance. -/
def var (z : Fin 1024 → EReal) : EReal :=
  Ideal.div (∑ j, (z j - mean z) * (z j - mean z)) (Ideal.ofBits .f32 0x44800000#32)

/-- A row's reciprocal standard deviation. -/
def rstd (z : Fin 1024 → EReal) : EReal := Ideal.rsqrt (var z + Ideal.ofBits .f32 0x3727C5AC#32)

/-- A row standardised. -/
def xhat (z : Fin 1024 → EReal) (j : Fin 1024) : EReal := (z j - mean z) * rstd z

/-- A row before the norm: the scaled residual and the product. -/
def row {R : Nat} (a : FVec Ideal (⟨2, ![R, 1024]⟩) .bf16) (b : FVec Ideal S1024x1024 .bf16)
    (x : FVec Ideal (⟨2, ![R, 1024]⟩) .f32) (r : Fin R) (j : Fin 1024) : EReal :=
  Ideal.ofBits .f32 0x3FD744FD#32 * x (ix2 r j) + ∑ k : Fin 1024, a (ix2 r k) * b (ix2 k j)

/-- The blocks of every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of grid point `t`'s block. -/
def rowOf (t : Fin cfg0.N) (r : Fin 512) : Fin 4096 :=
  ⟨t.val * 512 + r.val, by have := t.isLt; have : cfg0.N = 8 := N_0; omega⟩

/-- A block's rows are the array's. -/
theorem row_blk (c : Dev nD) (t : Fin cfg0.N) (r : Fin 512) :
    row (iblk m c 0 t : FVec Ideal S512x1024 .bf16) (iblk m c 1 t : FVec Ideal S1024x1024 .bf16) (iblk m c 2 t : FVec Ideal S512x1024 .f32) r
      = row (m ((c : Thread nD τ).loc main_arg0)) (m ((c : Thread nD τ).loc main_arg1)) (m ((c : Thread nD τ).loc main_arg2)) (rowOf t r) := by
  funext j
  unfold row
  blk_point [iblk, V, idx t, rowOf]

/-- The normed rows. -/
theorem final5 (c : Dev nD) : (dats m 0 c).arrAt 5 (cfgs 0).N
    = fun i => xhat (row (m ((c : Thread nD τ).loc main_arg0)) (m ((c : Thread nD τ).loc main_arg1)) (m ((c : Thread nD τ).loc main_arg2)) (i 0)) (i 1) * (m ((c : Thread nD τ).loc main_arg3) : FVec Ideal S1x1024 .f32) (ix2 0 (i 1)) + (m ((c : Thread nD τ).loc main_arg4) : FVec Ideal S1x1024 .f32) (ix2 0 (i 1)) := by
  refine (dats m 0 c).arrAt_eq_of_covers 5 _ (by decide +kernel) fun t hf y => ?_
  have e0 : ((((cfg0.win 5).blk t).view.emb y) 0).val = win0_5.index t 0 * 512 + 1 * (y 0).val := rfl
  have e1 : ((((cfg0.win 5).blk t).view.emb y) 1).val = win0_5.index t 1 * 1024 + 1 * (y 1).val := rfl
  rw [(idx t).2.2.2.2.2.1] at e0 e1
  have hr : (((cfg0.win 5).blk t).view.emb y) 0 = rowOf t (y 0) := Fin.ext (by rw [e0]; simp [rowOf])
  have hj : (((cfg0.win 5).blk t).view.emb y) 1 = y 1 := Fin.ext (by rw [e1]; simp)
  blk_simp
  rw [after0_5]
  refine (?_ : out0_5 (iblk m c 0 t) (iblk m c 1 t) (iblk m c 2 t) (iblk m c 3 t) (iblk m c 4 t) y
    = xhat (row (iblk m c 0 t : FVec Ideal S512x1024 .bf16) (iblk m c 1 t : FVec Ideal S1024x1024 .bf16) (iblk m c 2 t : FVec Ideal S512x1024 .f32) (y 0)) (y 1 : Fin 1024) * (iblk m c 3 t : FVec Ideal S1x1024 .f32) (ix2 0 (y 1 : Fin 1024)) + (iblk m c 4 t : FVec Ideal S1x1024 .f32) (ix2 0 (y 1 : Fin 1024))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    refine congrArg₂ (· + ·) (congrArg₂ (· * ·) (congrArg₂ xhat hz hj.symm) ?_) ?_ <;> blk_point [iblk, V, idx t]

/-- The normed rows rounded. -/
theorem final6 (c : Dev nD) : (dats m 0 c).arrAt 6 (cfgs 0).N
    = fun i => xhat (row (m ((c : Thread nD τ).loc main_arg0)) (m ((c : Thread nD τ).loc main_arg1)) (m ((c : Thread nD τ).loc main_arg2)) (i 0)) (i 1) * (m ((c : Thread nD τ).loc main_arg3) : FVec Ideal S1x1024 .f32) (ix2 0 (i 1)) + (m ((c : Thread nD τ).loc main_arg4) : FVec Ideal S1x1024 .f32) (ix2 0 (i 1)) := by
  refine (dats m 0 c).arrAt_eq_of_covers 6 _ (by decide +kernel) fun t hf y => ?_
  have e0 : ((((cfg0.win 6).blk t).view.emb y) 0).val = win0_6.index t 0 * 512 + 1 * (y 0).val := rfl
  have e1 : ((((cfg0.win 6).blk t).view.emb y) 1).val = win0_6.index t 1 * 1024 + 1 * (y 1).val := rfl
  rw [(idx t).2.2.2.2.2.2.1] at e0 e1
  have hr : (((cfg0.win 6).blk t).view.emb y) 0 = rowOf t (y 0) := Fin.ext (by rw [e0]; simp [rowOf])
  have hj : (((cfg0.win 6).blk t).view.emb y) 1 = y 1 := Fin.ext (by rw [e1]; simp)
  blk_simp
  rw [after0_6]
  refine (?_ : out0_6 (iblk m c 0 t) (iblk m c 1 t) (iblk m c 2 t) (iblk m c 3 t) (iblk m c 4 t) y
    = xhat (row (iblk m c 0 t : FVec Ideal S512x1024 .bf16) (iblk m c 1 t : FVec Ideal S1024x1024 .bf16) (iblk m c 2 t : FVec Ideal S512x1024 .f32) (y 0)) (y 1 : Fin 1024) * (iblk m c 3 t : FVec Ideal S1x1024 .f32) (ix2 0 (y 1 : Fin 1024)) + (iblk m c 4 t : FVec Ideal S1x1024 .f32) (ix2 0 (y 1 : Fin 1024))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    refine congrArg₂ (· + ·) (congrArg₂ (· * ·) (congrArg₂ xhat hz hj.symm) ?_) ?_ <;> blk_point [iblk, V, idx t]

/-- The standardised rows. -/
theorem final7 (c : Dev nD) : (dats m 0 c).arrAt 7 (cfgs 0).N
    = fun i => xhat (row (m ((c : Thread nD τ).loc main_arg0)) (m ((c : Thread nD τ).loc main_arg1)) (m ((c : Thread nD τ).loc main_arg2)) (i 0)) (i 1) := by
  refine (dats m 0 c).arrAt_eq_of_covers 7 _ (by decide +kernel) fun t hf y => ?_
  have e0 : ((((cfg0.win 7).blk t).view.emb y) 0).val = win0_7.index t 0 * 512 + 1 * (y 0).val := rfl
  have e1 : ((((cfg0.win 7).blk t).view.emb y) 1).val = win0_7.index t 1 * 1024 + 1 * (y 1).val := rfl
  rw [(idx t).2.2.2.2.2.2.2.1] at e0 e1
  have hr : (((cfg0.win 7).blk t).view.emb y) 0 = rowOf t (y 0) := Fin.ext (by rw [e0]; simp [rowOf])
  have hj : (((cfg0.win 7).blk t).view.emb y) 1 = y 1 := Fin.ext (by rw [e1]; simp)
  blk_simp
  rw [after0_7]
  refine (?_ : out0_7 (iblk m c 0 t) (iblk m c 1 t) (iblk m c 2 t) (iblk m c 3 t) (iblk m c 4 t) y
    = xhat (row (iblk m c 0 t : FVec Ideal S512x1024 .bf16) (iblk m c 1 t : FVec Ideal S1024x1024 .bf16) (iblk m c 2 t : FVec Ideal S512x1024 .f32) (y 0)) (y 1 : Fin 1024)).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    exact congrArg₂ xhat hz hj.symm

/-- The reciprocal standard deviations. -/
theorem final8 (c : Dev nD) : (dats m 0 c).arrAt 8 (cfgs 0).N
    = fun i => rstd (row (m ((c : Thread nD τ).loc main_arg0)) (m ((c : Thread nD τ).loc main_arg1)) (m ((c : Thread nD τ).loc main_arg2)) (i 0)) := by
  refine (dats m 0 c).arrAt_eq_of_covers 8 _ (by decide +kernel) fun t hf y => ?_
  have e0 : ((((cfg0.win 8).blk t).view.emb y) 0).val = win0_8.index t 0 * 512 + 1 * (y 0).val := rfl
  have e1 : ((((cfg0.win 8).blk t).view.emb y) 1).val = win0_8.index t 1 * 1 + 1 * (y 1).val := rfl
  rw [(idx t).2.2.2.2.2.2.2.2] at e0 e1
  have hr : (((cfg0.win 8).blk t).view.emb y) 0 = rowOf t (y 0) := Fin.ext (by rw [e0]; simp [rowOf])
  have hj : (((cfg0.win 8).blk t).view.emb y) 1 = y 1 := Fin.ext (by rw [e1]; simp)
  blk_simp
  rw [after0_8]
  refine (?_ : out0_8 (iblk m c 0 t) (iblk m c 1 t) (iblk m c 2 t) (iblk m c 3 t) (iblk m c 4 t) y
    = rstd (row (iblk m c 0 t : FVec Ideal S512x1024 .bf16) (iblk m c 1 t : FVec Ideal S1024x1024 .bf16) (iblk m c 2 t : FVec Ideal S512x1024 .f32) (y 0))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    exact congrArg rstd hz

/-- The reference's rows. -/
theorem ref_row (a : FVec Ideal S4096x1024 .bf16) (b : FVec Ideal S1024x1024 .bf16) (x : FVec Ideal S4096x1024 .f32)
    (r : Fin 4096) (j : Fin 1024) : Cert.PlainMixLnIdeal.Read.val_main_v5 (F := Ideal) a b x (ix2 r j) = row a b x r j := by
  pointwise [Cert.PlainMixLnIdeal.Read.val_main_cst, Cert.PlainMixLnIdeal.Read.val_main_v0, Cert.PlainMixLnIdeal.Read.val_main_v1, Cert.PlainMixLnIdeal.Read.val_main_v2, Cert.PlainMixLnIdeal.Read.val_main_v3, Cert.PlainMixLnIdeal.Read.val_main_v4, Cert.PlainMixLnIdeal.Read.val_main_v5, row]

/-- The reference's: the normed rows. -/
theorem ref5 (a : FVec Ideal S4096x1024 .bf16) (b : FVec Ideal S1024x1024 .bf16) (x : FVec Ideal S4096x1024 .f32) (g bias : FVec Ideal S1x1024 .f32) :
    Cert.PlainMixLnIdeal.Read.val_main_v27 (F := Ideal) a b x g bias = fun i => xhat (row a b x (i 0)) (i 1) * g (ix2 0 (i 1)) + bias (ix2 0 (i 1)) := by
  funext i; idx_vars i
  pointwise [Cert.PlainMixLnIdeal.Read.val_main_cst_0, Cert.PlainMixLnIdeal.Read.val_main_cst_1, Cert.PlainMixLnIdeal.Read.val_main_cst_2, Cert.PlainMixLnIdeal.Read.val_main_cst_3, Cert.PlainMixLnIdeal.Read.val_main_cst_4, Cert.PlainMixLnIdeal.Read.val_main_cst_5, Cert.PlainMixLnIdeal.Read.val_main_cst_6, Cert.PlainMixLnIdeal.Read.val_main_cst_7, Cert.PlainMixLnIdeal.Read.val_main_cst_8, Cert.PlainMixLnIdeal.Read.val_main_cst_9, Cert.PlainMixLnIdeal.Read.val_main_v6, Cert.PlainMixLnIdeal.Read.val_main_v7, Cert.PlainMixLnIdeal.Read.val_main_v8, Cert.PlainMixLnIdeal.Read.val_main_v9, Cert.PlainMixLnIdeal.Read.val_main_v10, Cert.PlainMixLnIdeal.Read.val_main_v11, Cert.PlainMixLnIdeal.Read.val_main_v12, Cert.PlainMixLnIdeal.Read.val_main_v13, Cert.PlainMixLnIdeal.Read.val_main_v14, Cert.PlainMixLnIdeal.Read.val_main_v15, Cert.PlainMixLnIdeal.Read.val_main_v16, Cert.PlainMixLnIdeal.Read.val_main_v17, Cert.PlainMixLnIdeal.Read.val_main_v18, Cert.PlainMixLnIdeal.Read.val_main_v19, Cert.PlainMixLnIdeal.Read.val_main_v20, Cert.PlainMixLnIdeal.Read.val_main_v21, Cert.PlainMixLnIdeal.Read.val_main_v22, Cert.PlainMixLnIdeal.Read.val_main_v23, Cert.PlainMixLnIdeal.Read.val_main_v24, Cert.PlainMixLnIdeal.Read.val_main_v25, Cert.PlainMixLnIdeal.Read.val_main_v26, Cert.PlainMixLnIdeal.Read.val_main_v27, Cert.PlainMixLnIdeal.Read.val_main_v28, Cert.PlainMixLnIdeal.Read.val_main_v29, Cert.PlainMixLnIdeal.Read.val_main_v30, Cert.PlainMixLnIdeal.Read.val_main_v31, Cert.PlainMixLnIdeal.Read.val_main_v32, Cert.PlainMixLnIdeal.Read.val_main_v33, Cert.PlainMixLnIdeal.Read.val_main_v34, Cert.PlainMixLnIdeal.Read.val_main_v35, Cert.PlainMixLnIdeal.Read.val_main_v36, Cert.PlainMixLnIdeal.Read.val_main_v37, Cert.PlainMixLnIdeal.Read.val_main_v38, Cert.PlainMixLnIdeal.Read.val_main_v39, Cert.PlainMixLnIdeal.Read.val_main_v40, Cert.PlainMixLnIdeal.Read.val_main_v41, Cert.PlainMixLnIdeal.Read.val_main_v42, Cert.PlainMixLnIdeal.Read.val_main_v43, Cert.PlainMixLnIdeal.Read.val_main_v44, Cert.PlainMixLnIdeal.Read.val_main_v45, Cert.PlainMixLnIdeal.Read.val_main_v46, ref_row, xhat, rstd, var, mean]

/-- The reference's: the normed rows rounded. -/
theorem ref6 (a : FVec Ideal S4096x1024 .bf16) (b : FVec Ideal S1024x1024 .bf16) (x : FVec Ideal S4096x1024 .f32) (g bias : FVec Ideal S1x1024 .f32) :
    Cert.PlainMixLnIdeal.Read.val_main_v28 (F := Ideal) a b x g bias = fun i => xhat (row a b x (i 0)) (i 1) * g (ix2 0 (i 1)) + bias (ix2 0 (i 1)) := by
  funext i; idx_vars i
  pointwise [Cert.PlainMixLnIdeal.Read.val_main_cst_0, Cert.PlainMixLnIdeal.Read.val_main_cst_1, Cert.PlainMixLnIdeal.Read.val_main_cst_2, Cert.PlainMixLnIdeal.Read.val_main_cst_3, Cert.PlainMixLnIdeal.Read.val_main_cst_4, Cert.PlainMixLnIdeal.Read.val_main_cst_5, Cert.PlainMixLnIdeal.Read.val_main_cst_6, Cert.PlainMixLnIdeal.Read.val_main_cst_7, Cert.PlainMixLnIdeal.Read.val_main_cst_8, Cert.PlainMixLnIdeal.Read.val_main_cst_9, Cert.PlainMixLnIdeal.Read.val_main_v6, Cert.PlainMixLnIdeal.Read.val_main_v7, Cert.PlainMixLnIdeal.Read.val_main_v8, Cert.PlainMixLnIdeal.Read.val_main_v9, Cert.PlainMixLnIdeal.Read.val_main_v10, Cert.PlainMixLnIdeal.Read.val_main_v11, Cert.PlainMixLnIdeal.Read.val_main_v12, Cert.PlainMixLnIdeal.Read.val_main_v13, Cert.PlainMixLnIdeal.Read.val_main_v14, Cert.PlainMixLnIdeal.Read.val_main_v15, Cert.PlainMixLnIdeal.Read.val_main_v16, Cert.PlainMixLnIdeal.Read.val_main_v17, Cert.PlainMixLnIdeal.Read.val_main_v18, Cert.PlainMixLnIdeal.Read.val_main_v19, Cert.PlainMixLnIdeal.Read.val_main_v20, Cert.PlainMixLnIdeal.Read.val_main_v21, Cert.PlainMixLnIdeal.Read.val_main_v22, Cert.PlainMixLnIdeal.Read.val_main_v23, Cert.PlainMixLnIdeal.Read.val_main_v24, Cert.PlainMixLnIdeal.Read.val_main_v25, Cert.PlainMixLnIdeal.Read.val_main_v26, Cert.PlainMixLnIdeal.Read.val_main_v27, Cert.PlainMixLnIdeal.Read.val_main_v28, Cert.PlainMixLnIdeal.Read.val_main_v29, Cert.PlainMixLnIdeal.Read.val_main_v30, Cert.PlainMixLnIdeal.Read.val_main_v31, Cert.PlainMixLnIdeal.Read.val_main_v32, Cert.PlainMixLnIdeal.Read.val_main_v33, Cert.PlainMixLnIdeal.Read.val_main_v34, Cert.PlainMixLnIdeal.Read.val_main_v35, Cert.PlainMixLnIdeal.Read.val_main_v36, Cert.PlainMixLnIdeal.Read.val_main_v37, Cert.PlainMixLnIdeal.Read.val_main_v38, Cert.PlainMixLnIdeal.Read.val_main_v39, Cert.PlainMixLnIdeal.Read.val_main_v40, Cert.PlainMixLnIdeal.Read.val_main_v41, Cert.PlainMixLnIdeal.Read.val_main_v42, Cert.PlainMixLnIdeal.Read.val_main_v43, Cert.PlainMixLnIdeal.Read.val_main_v44, Cert.PlainMixLnIdeal.Read.val_main_v45, Cert.PlainMixLnIdeal.Read.val_main_v46, ref_row, xhat, rstd, var, mean]

/-- The reference's: the standardised rows. -/
theorem ref7 (a : FVec Ideal S4096x1024 .bf16) (b : FVec Ideal S1024x1024 .bf16) (x : FVec Ideal S4096x1024 .f32) :
    Cert.PlainMixLnIdeal.Read.val_main_v46 (F := Ideal) a b x = fun i => xhat (row a b x (i 0)) (i 1) := by
  funext i; idx_vars i
  pointwise [Cert.PlainMixLnIdeal.Read.val_main_cst_0, Cert.PlainMixLnIdeal.Read.val_main_cst_1, Cert.PlainMixLnIdeal.Read.val_main_cst_2, Cert.PlainMixLnIdeal.Read.val_main_cst_3, Cert.PlainMixLnIdeal.Read.val_main_cst_4, Cert.PlainMixLnIdeal.Read.val_main_cst_5, Cert.PlainMixLnIdeal.Read.val_main_cst_6, Cert.PlainMixLnIdeal.Read.val_main_cst_7, Cert.PlainMixLnIdeal.Read.val_main_cst_8, Cert.PlainMixLnIdeal.Read.val_main_cst_9, Cert.PlainMixLnIdeal.Read.val_main_v6, Cert.PlainMixLnIdeal.Read.val_main_v7, Cert.PlainMixLnIdeal.Read.val_main_v8, Cert.PlainMixLnIdeal.Read.val_main_v9, Cert.PlainMixLnIdeal.Read.val_main_v10, Cert.PlainMixLnIdeal.Read.val_main_v11, Cert.PlainMixLnIdeal.Read.val_main_v12, Cert.PlainMixLnIdeal.Read.val_main_v13, Cert.PlainMixLnIdeal.Read.val_main_v14, Cert.PlainMixLnIdeal.Read.val_main_v15, Cert.PlainMixLnIdeal.Read.val_main_v16, Cert.PlainMixLnIdeal.Read.val_main_v17, Cert.PlainMixLnIdeal.Read.val_main_v18, Cert.PlainMixLnIdeal.Read.val_main_v19, Cert.PlainMixLnIdeal.Read.val_main_v20, Cert.PlainMixLnIdeal.Read.val_main_v21, Cert.PlainMixLnIdeal.Read.val_main_v22, Cert.PlainMixLnIdeal.Read.val_main_v23, Cert.PlainMixLnIdeal.Read.val_main_v24, Cert.PlainMixLnIdeal.Read.val_main_v25, Cert.PlainMixLnIdeal.Read.val_main_v26, Cert.PlainMixLnIdeal.Read.val_main_v27, Cert.PlainMixLnIdeal.Read.val_main_v28, Cert.PlainMixLnIdeal.Read.val_main_v29, Cert.PlainMixLnIdeal.Read.val_main_v30, Cert.PlainMixLnIdeal.Read.val_main_v31, Cert.PlainMixLnIdeal.Read.val_main_v32, Cert.PlainMixLnIdeal.Read.val_main_v33, Cert.PlainMixLnIdeal.Read.val_main_v34, Cert.PlainMixLnIdeal.Read.val_main_v35, Cert.PlainMixLnIdeal.Read.val_main_v36, Cert.PlainMixLnIdeal.Read.val_main_v37, Cert.PlainMixLnIdeal.Read.val_main_v38, Cert.PlainMixLnIdeal.Read.val_main_v39, Cert.PlainMixLnIdeal.Read.val_main_v40, Cert.PlainMixLnIdeal.Read.val_main_v41, Cert.PlainMixLnIdeal.Read.val_main_v42, Cert.PlainMixLnIdeal.Read.val_main_v43, Cert.PlainMixLnIdeal.Read.val_main_v44, Cert.PlainMixLnIdeal.Read.val_main_v45, Cert.PlainMixLnIdeal.Read.val_main_v46, ref_row, xhat, rstd, var, mean]

/-- The reference's: the reciprocal standard deviations. -/
theorem ref8 (a : FVec Ideal S4096x1024 .bf16) (b : FVec Ideal S1024x1024 .bf16) (x : FVec Ideal S4096x1024 .f32) :
    Cert.PlainMixLnIdeal.Read.val_main_v42 (F := Ideal) a b x = fun i => rstd (row a b x (i 0)) := by
  funext i; idx_vars i
  pointwise [Cert.PlainMixLnIdeal.Read.val_main_cst_0, Cert.PlainMixLnIdeal.Read.val_main_cst_1, Cert.PlainMixLnIdeal.Read.val_main_cst_2, Cert.PlainMixLnIdeal.Read.val_main_cst_3, Cert.PlainMixLnIdeal.Read.val_main_cst_4, Cert.PlainMixLnIdeal.Read.val_main_cst_5, Cert.PlainMixLnIdeal.Read.val_main_cst_6, Cert.PlainMixLnIdeal.Read.val_main_cst_7, Cert.PlainMixLnIdeal.Read.val_main_cst_8, Cert.PlainMixLnIdeal.Read.val_main_cst_9, Cert.PlainMixLnIdeal.Read.val_main_v6, Cert.PlainMixLnIdeal.Read.val_main_v7, Cert.PlainMixLnIdeal.Read.val_main_v8, Cert.PlainMixLnIdeal.Read.val_main_v9, Cert.PlainMixLnIdeal.Read.val_main_v10, Cert.PlainMixLnIdeal.Read.val_main_v11, Cert.PlainMixLnIdeal.Read.val_main_v12, Cert.PlainMixLnIdeal.Read.val_main_v13, Cert.PlainMixLnIdeal.Read.val_main_v14, Cert.PlainMixLnIdeal.Read.val_main_v15, Cert.PlainMixLnIdeal.Read.val_main_v16, Cert.PlainMixLnIdeal.Read.val_main_v17, Cert.PlainMixLnIdeal.Read.val_main_v18, Cert.PlainMixLnIdeal.Read.val_main_v19, Cert.PlainMixLnIdeal.Read.val_main_v20, Cert.PlainMixLnIdeal.Read.val_main_v21, Cert.PlainMixLnIdeal.Read.val_main_v22, Cert.PlainMixLnIdeal.Read.val_main_v23, Cert.PlainMixLnIdeal.Read.val_main_v24, Cert.PlainMixLnIdeal.Read.val_main_v25, Cert.PlainMixLnIdeal.Read.val_main_v26, Cert.PlainMixLnIdeal.Read.val_main_v27, Cert.PlainMixLnIdeal.Read.val_main_v28, Cert.PlainMixLnIdeal.Read.val_main_v29, Cert.PlainMixLnIdeal.Read.val_main_v30, Cert.PlainMixLnIdeal.Read.val_main_v31, Cert.PlainMixLnIdeal.Read.val_main_v32, Cert.PlainMixLnIdeal.Read.val_main_v33, Cert.PlainMixLnIdeal.Read.val_main_v34, Cert.PlainMixLnIdeal.Read.val_main_v35, Cert.PlainMixLnIdeal.Read.val_main_v36, Cert.PlainMixLnIdeal.Read.val_main_v37, Cert.PlainMixLnIdeal.Read.val_main_v38, Cert.PlainMixLnIdeal.Read.val_main_v39, Cert.PlainMixLnIdeal.Read.val_main_v40, Cert.PlainMixLnIdeal.Read.val_main_v41, Cert.PlainMixLnIdeal.Read.val_main_v42, Cert.PlainMixLnIdeal.Read.val_main_v43, Cert.PlainMixLnIdeal.Read.val_main_v44, Cert.PlainMixLnIdeal.Read.val_main_v45, Cert.PlainMixLnIdeal.Read.val_main_v46, ref_row, xhat, rstd, var, mean]

/-- The kernel and the plain forward agree over the extended reals. -/
theorem algebraic : Cert.algebraic_MixLnIdeal_PlainMixLnIdeal := by
  pair_intro
  · run_from Cert.MixLnIdeal.Value.run_blocks m g
  · run_from Cert.PlainMixLnIdeal.Value.run m' g'
    · exact (Cert.PlainMixLnIdeal.Read.val_main_v27_eq ..).trans ((ref5 ..).trans (final5 m c).symm)
    · exact (Cert.PlainMixLnIdeal.Read.val_main_v28_eq ..).trans ((ref6 ..).trans (final6 m c).symm)
    · exact (Cert.PlainMixLnIdeal.Read.val_main_v46_eq ..).trans ((ref7 ..).trans (final7 m c).symm)
    · exact (Cert.PlainMixLnIdeal.Read.val_main_v42_eq ..).trans ((ref8 ..).trans (final8 m c).symm)

end Cert.MixLnProof
-- ==== Proof.XoLn.lean ====
module

public import proofs.«01_k».proof.Defs
public import proofs.«01_k».proof.Proof.Gen.XoLnIdeal.Value
public import proofs.«01_k».proof.Proof.Gen.PlainXoLnIdeal.Run
public import proofs.«01_k».proof.Proof.Gen.PlainXoLnIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The cross-attention's output projection, the residual and the layer norm in one call. -/

namespace Cert.XoLnProof

open Cert.XoLnIdeal Cert.XoLnIdeal.Gen Idealize.ShloMosaic Idealize.ShloMosaic.TcCoe Idealize.SL.Sem
open Idealize.ShloMosaic.Pipeline (Dat)

variable (m : (ℓ : Loc nD τ sig) → Buf (Elt Ideal) ℓ)

/-- A row's mean. -/
def mean (z : Fin 1024 → EReal) : EReal := Ideal.div (∑ j, z j) (Ideal.ofBits .f32 0x44800000#32)

/-- A row's variance. -/
def var (z : Fin 1024 → EReal) : EReal :=
  Ideal.div (∑ j, (z j - mean z) * (z j - mean z)) (Ideal.ofBits .f32 0x44800000#32)

/-- A row's reciprocal standard deviation. -/
def rstd (z : Fin 1024 → EReal) : EReal := Ideal.rsqrt (var z + Ideal.ofBits .f32 0x3727C5AC#32)

/-- A row standardised. -/
def xhat (z : Fin 1024 → EReal) (j : Fin 1024) : EReal := (z j - mean z) * rstd z

/-- A row before the norm: the scaled residual and the product. -/
def row {R : Nat} (a : FVec Ideal (⟨2, ![R, 512]⟩) .bf16) (b : FVec Ideal S512x1024 .bf16)
    (x : FVec Ideal (⟨2, ![R, 1024]⟩) .f32) (r : Fin R) (j : Fin 1024) : EReal :=
  Ideal.ofBits .f32 0x3FD744FD#32 * x (ix2 r j) + ∑ k : Fin 512, a (ix2 r k) * b (ix2 k j)

/-- The blocks of every grid point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of grid point `t`'s block. -/
def rowOf (t : Fin cfg0.N) (r : Fin 512) : Fin 4096 :=
  ⟨t.val * 512 + r.val, by have := t.isLt; have : cfg0.N = 8 := N_0; omega⟩

/-- A block's rows are the array's. -/
theorem row_blk (c : Dev nD) (t : Fin cfg0.N) (r : Fin 512) :
    row (iblk m c 0 t : FVec Ideal S512x512 .bf16) (iblk m c 1 t : FVec Ideal S512x1024 .bf16) (iblk m c 2 t : FVec Ideal S512x1024 .f32) r
      = row (m ((c : Thread nD τ).loc main_arg0)) (m ((c : Thread nD τ).loc main_arg1)) (m ((c : Thread nD τ).loc main_arg2)) (rowOf t r) := by
  funext j
  unfold row
  blk_point [iblk, V, idx t, rowOf]

/-- The normed rows. -/
theorem final5 (c : Dev nD) : (dats m 0 c).arrAt 5 (cfgs 0).N
    = fun i => xhat (row (m ((c : Thread nD τ).loc main_arg0)) (m ((c : Thread nD τ).loc main_arg1)) (m ((c : Thread nD τ).loc main_arg2)) (i 0)) (i 1) * (m ((c : Thread nD τ).loc main_arg3) : FVec Ideal S1x1024 .f32) (ix2 0 (i 1)) + (m ((c : Thread nD τ).loc main_arg4) : FVec Ideal S1x1024 .f32) (ix2 0 (i 1)) := by
  refine (dats m 0 c).arrAt_eq_of_covers 5 _ (by decide +kernel) fun t hf y => ?_
  have e0 : ((((cfg0.win 5).blk t).view.emb y) 0).val = win0_5.index t 0 * 512 + 1 * (y 0).val := rfl
  have e1 : ((((cfg0.win 5).blk t).view.emb y) 1).val = win0_5.index t 1 * 1024 + 1 * (y 1).val := rfl
  rw [(idx t).2.2.2.2.2.1] at e0 e1
  have hr : (((cfg0.win 5).blk t).view.emb y) 0 = rowOf t (y 0) := Fin.ext (by rw [e0]; simp [rowOf])
  have hj : (((cfg0.win 5).blk t).view.emb y) 1 = y 1 := Fin.ext (by rw [e1]; simp)
  blk_simp
  rw [after0_5]
  refine (?_ : out0_5 (iblk m c 0 t) (iblk m c 1 t) (iblk m c 2 t) (iblk m c 3 t) (iblk m c 4 t) y
    = xhat (row (iblk m c 0 t : FVec Ideal S512x512 .bf16) (iblk m c 1 t : FVec Ideal S512x1024 .bf16) (iblk m c 2 t : FVec Ideal S512x1024 .f32) (y 0)) (y 1 : Fin 1024) * (iblk m c 3 t : FVec Ideal S1x1024 .f32) (ix2 0 (y 1 : Fin 1024)) + (iblk m c 4 t : FVec Ideal S1x1024 .f32) (ix2 0 (y 1 : Fin 1024))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    refine congrArg₂ (· + ·) (congrArg₂ (· * ·) (congrArg₂ xhat hz hj.symm) ?_) ?_ <;> blk_point [iblk, V, idx t]

/-- The normed rows rounded. -/
theorem final6 (c : Dev nD) : (dats m 0 c).arrAt 6 (cfgs 0).N
    = fun i => xhat (row (m ((c : Thread nD τ).loc main_arg0)) (m ((c : Thread nD τ).loc main_arg1)) (m ((c : Thread nD τ).loc main_arg2)) (i 0)) (i 1) * (m ((c : Thread nD τ).loc main_arg3) : FVec Ideal S1x1024 .f32) (ix2 0 (i 1)) + (m ((c : Thread nD τ).loc main_arg4) : FVec Ideal S1x1024 .f32) (ix2 0 (i 1)) := by
  refine (dats m 0 c).arrAt_eq_of_covers 6 _ (by decide +kernel) fun t hf y => ?_
  have e0 : ((((cfg0.win 6).blk t).view.emb y) 0).val = win0_6.index t 0 * 512 + 1 * (y 0).val := rfl
  have e1 : ((((cfg0.win 6).blk t).view.emb y) 1).val = win0_6.index t 1 * 1024 + 1 * (y 1).val := rfl
  rw [(idx t).2.2.2.2.2.2.1] at e0 e1
  have hr : (((cfg0.win 6).blk t).view.emb y) 0 = rowOf t (y 0) := Fin.ext (by rw [e0]; simp [rowOf])
  have hj : (((cfg0.win 6).blk t).view.emb y) 1 = y 1 := Fin.ext (by rw [e1]; simp)
  blk_simp
  rw [after0_6]
  refine (?_ : out0_6 (iblk m c 0 t) (iblk m c 1 t) (iblk m c 2 t) (iblk m c 3 t) (iblk m c 4 t) y
    = xhat (row (iblk m c 0 t : FVec Ideal S512x512 .bf16) (iblk m c 1 t : FVec Ideal S512x1024 .bf16) (iblk m c 2 t : FVec Ideal S512x1024 .f32) (y 0)) (y 1 : Fin 1024) * (iblk m c 3 t : FVec Ideal S1x1024 .f32) (ix2 0 (y 1 : Fin 1024)) + (iblk m c 4 t : FVec Ideal S1x1024 .f32) (ix2 0 (y 1 : Fin 1024))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    refine congrArg₂ (· + ·) (congrArg₂ (· * ·) (congrArg₂ xhat hz hj.symm) ?_) ?_ <;> blk_point [iblk, V, idx t]

/-- The standardised rows. -/
theorem final7 (c : Dev nD) : (dats m 0 c).arrAt 7 (cfgs 0).N
    = fun i => xhat (row (m ((c : Thread nD τ).loc main_arg0)) (m ((c : Thread nD τ).loc main_arg1)) (m ((c : Thread nD τ).loc main_arg2)) (i 0)) (i 1) := by
  refine (dats m 0 c).arrAt_eq_of_covers 7 _ (by decide +kernel) fun t hf y => ?_
  have e0 : ((((cfg0.win 7).blk t).view.emb y) 0).val = win0_7.index t 0 * 512 + 1 * (y 0).val := rfl
  have e1 : ((((cfg0.win 7).blk t).view.emb y) 1).val = win0_7.index t 1 * 1024 + 1 * (y 1).val := rfl
  rw [(idx t).2.2.2.2.2.2.2.1] at e0 e1
  have hr : (((cfg0.win 7).blk t).view.emb y) 0 = rowOf t (y 0) := Fin.ext (by rw [e0]; simp [rowOf])
  have hj : (((cfg0.win 7).blk t).view.emb y) 1 = y 1 := Fin.ext (by rw [e1]; simp)
  blk_simp
  rw [after0_7]
  refine (?_ : out0_7 (iblk m c 0 t) (iblk m c 1 t) (iblk m c 2 t) (iblk m c 3 t) (iblk m c 4 t) y
    = xhat (row (iblk m c 0 t : FVec Ideal S512x512 .bf16) (iblk m c 1 t : FVec Ideal S512x1024 .bf16) (iblk m c 2 t : FVec Ideal S512x1024 .f32) (y 0)) (y 1 : Fin 1024)).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    exact congrArg₂ xhat hz hj.symm

/-- The reciprocal standard deviations. -/
theorem final8 (c : Dev nD) : (dats m 0 c).arrAt 8 (cfgs 0).N
    = fun i => rstd (row (m ((c : Thread nD τ).loc main_arg0)) (m ((c : Thread nD τ).loc main_arg1)) (m ((c : Thread nD τ).loc main_arg2)) (i 0)) := by
  refine (dats m 0 c).arrAt_eq_of_covers 8 _ (by decide +kernel) fun t hf y => ?_
  have e0 : ((((cfg0.win 8).blk t).view.emb y) 0).val = win0_8.index t 0 * 512 + 1 * (y 0).val := rfl
  have e1 : ((((cfg0.win 8).blk t).view.emb y) 1).val = win0_8.index t 1 * 1 + 1 * (y 1).val := rfl
  rw [(idx t).2.2.2.2.2.2.2.2] at e0 e1
  have hr : (((cfg0.win 8).blk t).view.emb y) 0 = rowOf t (y 0) := Fin.ext (by rw [e0]; simp [rowOf])
  have hj : (((cfg0.win 8).blk t).view.emb y) 1 = y 1 := Fin.ext (by rw [e1]; simp)
  blk_simp
  rw [after0_8]
  refine (?_ : out0_8 (iblk m c 0 t) (iblk m c 1 t) (iblk m c 2 t) (iblk m c 3 t) (iblk m c 4 t) y
    = rstd (row (iblk m c 0 t : FVec Ideal S512x512 .bf16) (iblk m c 1 t : FVec Ideal S512x1024 .bf16) (iblk m c 2 t : FVec Ideal S512x1024 .f32) (y 0))).trans ?_
  · frame_out
    unfold_payloads
    pointwise [xhat, rstd, var, mean, row]
  · have hz := (row_blk m c t (y 0)).trans (congrArg (row (m ((c : Thread nD τ).loc main_arg0)) (m ((c : Thread nD τ).loc main_arg1)) (m ((c : Thread nD τ).loc main_arg2))) hr.symm)
    exact congrArg rstd hz

/-- The reference's rows. -/
theorem ref_row (a : FVec Ideal S4096x512 .bf16) (b : FVec Ideal S512x1024 .bf16) (x : FVec Ideal S4096x1024 .f32)
    (r : Fin 4096) (j : Fin 1024) : Cert.PlainXoLnIdeal.Read.val_main_v5 (F := Ideal) a b x (ix2 r j) = row a b x r j := by
  pointwise [Cert.PlainXoLnIdeal.Read.val_main_cst, Cert.PlainXoLnIdeal.Read.val_main_v0, Cert.PlainXoLnIdeal.Read.val_main_v1, Cert.PlainXoLnIdeal.Read.val_main_v2, Cert.PlainXoLnIdeal.Read.val_main_v3, Cert.PlainXoLnIdeal.Read.val_main_v4, Cert.PlainXoLnIdeal.Read.val_main_v5, row]

/-- The reference's: the normed rows. -/
theorem ref5 (a : FVec Ideal S4096x512 .bf16) (b : FVec Ideal S512x1024 .bf16) (x : FVec Ideal S4096x1024 .f32) (g bias : FVec Ideal S1x1024 .f32) :
    Cert.PlainXoLnIdeal.Read.val_main_v27 (F := Ideal) a b x g bias = fun i => xhat (row a b x (i 0)) (i 1) * g (ix2 0 (i 1)) + bias (ix2 0 (i 1)) := by
  funext i; idx_vars i
  pointwise [Cert.PlainXoLnIdeal.Read.val_main_cst_0, Cert.PlainXoLnIdeal.Read.val_main_cst_1, Cert.PlainXoLnIdeal.Read.val_main_cst_2, Cert.PlainXoLnIdeal.Read.val_main_cst_3, Cert.PlainXoLnIdeal.Read.val_main_cst_4, Cert.PlainXoLnIdeal.Read.val_main_cst_5, Cert.PlainXoLnIdeal.Read.val_main_cst_6, Cert.PlainXoLnIdeal.Read.val_main_cst_7, Cert.PlainXoLnIdeal.Read.val_main_cst_8, Cert.PlainXoLnIdeal.Read.val_main_cst_9, Cert.PlainXoLnIdeal.Read.val_main_v6, Cert.PlainXoLnIdeal.Read.val_main_v7, Cert.PlainXoLnIdeal.Read.val_main_v8, Cert.PlainXoLnIdeal.Read.val_main_v9, Cert.PlainXoLnIdeal.Read.val_main_v10, Cert.PlainXoLnIdeal.Read.val_main_v11, Cert.PlainXoLnIdeal.Read.val_main_v12, Cert.PlainXoLnIdeal.Read.val_main_v13, Cert.PlainXoLnIdeal.Read.val_main_v14, Cert.PlainXoLnIdeal.Read.val_main_v15, Cert.PlainXoLnIdeal.Read.val_main_v16, Cert.PlainXoLnIdeal.Read.val_main_v17, Cert.PlainXoLnIdeal.Read.val_main_v18, Cert.PlainXoLnIdeal.Read.val_main_v19, Cert.PlainXoLnIdeal.Read.val_main_v20, Cert.PlainXoLnIdeal.Read.val_main_v21, Cert.PlainXoLnIdeal.Read.val_main_v22, Cert.PlainXoLnIdeal.Read.val_main_v23, Cert.PlainXoLnIdeal.Read.val_main_v24, Cert.PlainXoLnIdeal.Read.val_main_v25, Cert.PlainXoLnIdeal.Read.val_main_v26, Cert.PlainXoLnIdeal.Read.val_main_v27, Cert.PlainXoLnIdeal.Read.val_main_v28, Cert.PlainXoLnIdeal.Read.val_main_v29, Cert.PlainXoLnIdeal.Read.val_main_v30, Cert.PlainXoLnIdeal.Read.val_main_v31, Cert.PlainXoLnIdeal.Read.val_main_v32, Cert.PlainXoLnIdeal.Read.val_main_v33, Cert.PlainXoLnIdeal.Read.val_main_v34, Cert.PlainXoLnIdeal.Read.val_main_v35, Cert.PlainXoLnIdeal.Read.val_main_v36, Cert.PlainXoLnIdeal.Read.val_main_v37, Cert.PlainXoLnIdeal.Read.val_main_v38, Cert.PlainXoLnIdeal.Read.val_main_v39, Cert.PlainXoLnIdeal.Read.val_main_v40, Cert.PlainXoLnIdeal.Read.val_main_v41, Cert.PlainXoLnIdeal.Read.val_main_v42, Cert.PlainXoLnIdeal.Read.val_main_v43, Cert.PlainXoLnIdeal.Read.val_main_v44, Cert.PlainXoLnIdeal.Read.val_main_v45, Cert.PlainXoLnIdeal.Read.val_main_v46, ref_row, xhat, rstd, var, mean]

/-- The reference's: the normed rows rounded. -/
theorem ref6 (a : FVec Ideal S4096x512 .bf16) (b : FVec Ideal S512x1024 .bf16) (x : FVec Ideal S4096x1024 .f32) (g bias : FVec Ideal S1x1024 .f32) :
    Cert.PlainXoLnIdeal.Read.val_main_v28 (F := Ideal) a b x g bias = fun i => xhat (row a b x (i 0)) (i 1) * g (ix2 0 (i 1)) + bias (ix2 0 (i 1)) := by
  funext i; idx_vars i
  pointwise [Cert.PlainXoLnIdeal.Read.val_main_cst_0, Cert.PlainXoLnIdeal.Read.val_main_cst_1, Cert.PlainXoLnIdeal.Read.val_main_cst_2, Cert.PlainXoLnIdeal.Read.val_main_cst_3, Cert.PlainXoLnIdeal.Read.val_main_cst_4, Cert.PlainXoLnIdeal.Read.val_main_cst_5, Cert.PlainXoLnIdeal.Read.val_main_cst_6, Cert.PlainXoLnIdeal.Read.val_main_cst_7, Cert.PlainXoLnIdeal.Read.val_main_cst_8, Cert.PlainXoLnIdeal.Read.val_main_cst_9, Cert.PlainXoLnIdeal.Read.val_main_v6, Cert.PlainXoLnIdeal.Read.val_main_v7, Cert.PlainXoLnIdeal.Read.val_main_v8, Cert.PlainXoLnIdeal.Read.val_main_v9, Cert.PlainXoLnIdeal.Read.val_main_v10, Cert.PlainXoLnIdeal.Read.val_main_v11, Cert.PlainXoLnIdeal.Read.val_main_v12, Cert.PlainXoLnIdeal.Read.val_main_v13, Cert.PlainXoLnIdeal.Read.val_main_v14, Cert.PlainXoLnIdeal.Read.val_main_v15, Cert.PlainXoLnIdeal.Read.val_main_v16, Cert.PlainXoLnIdeal.Read.val_main_v17, Cert.PlainXoLnIdeal.Read.val_main_v18, Cert.PlainXoLnIdeal.Read.val_main_v19, Cert.PlainXoLnIdeal.Read.val_main_v20, Cert.PlainXoLnIdeal.Read.val_main_v21, Cert.PlainXoLnIdeal.Read.val_main_v22, Cert.PlainXoLnIdeal.Read.val_main_v23, Cert.PlainXoLnIdeal.Read.val_main_v24, Cert.PlainXoLnIdeal.Read.val_main_v25, Cert.PlainXoLnIdeal.Read.val_main_v26, Cert.PlainXoLnIdeal.Read.val_main_v27, Cert.PlainXoLnIdeal.Read.val_main_v28, Cert.PlainXoLnIdeal.Read.val_main_v29, Cert.PlainXoLnIdeal.Read.val_main_v30, Cert.PlainXoLnIdeal.Read.val_main_v31, Cert.PlainXoLnIdeal.Read.val_main_v32, Cert.PlainXoLnIdeal.Read.val_main_v33, Cert.PlainXoLnIdeal.Read.val_main_v34, Cert.PlainXoLnIdeal.Read.val_main_v35, Cert.PlainXoLnIdeal.Read.val_main_v36, Cert.PlainXoLnIdeal.Read.val_main_v37, Cert.PlainXoLnIdeal.Read.val_main_v38, Cert.PlainXoLnIdeal.Read.val_main_v39, Cert.PlainXoLnIdeal.Read.val_main_v40, Cert.PlainXoLnIdeal.Read.val_main_v41, Cert.PlainXoLnIdeal.Read.val_main_v42, Cert.PlainXoLnIdeal.Read.val_main_v43, Cert.PlainXoLnIdeal.Read.val_main_v44, Cert.PlainXoLnIdeal.Read.val_main_v45, Cert.PlainXoLnIdeal.Read.val_main_v46, ref_row, xhat, rstd, var, mean]

/-- The reference's: the standardised rows. -/
theorem ref7 (a : FVec Ideal S4096x512 .bf16) (b : FVec Ideal S512x1024 .bf16) (x : FVec Ideal S4096x1024 .f32) :
    Cert.PlainXoLnIdeal.Read.val_main_v46 (F := Ideal) a b x = fun i => xhat (row a b x (i 0)) (i 1) := by
  funext i; idx_vars i
  pointwise [Cert.PlainXoLnIdeal.Read.val_main_cst_0, Cert.PlainXoLnIdeal.Read.val_main_cst_1, Cert.PlainXoLnIdeal.Read.val_main_cst_2, Cert.PlainXoLnIdeal.Read.val_main_cst_3, Cert.PlainXoLnIdeal.Read.val_main_cst_4, Cert.PlainXoLnIdeal.Read.val_main_cst_5, Cert.PlainXoLnIdeal.Read.val_main_cst_6, Cert.PlainXoLnIdeal.Read.val_main_cst_7, Cert.PlainXoLnIdeal.Read.val_main_cst_8, Cert.PlainXoLnIdeal.Read.val_main_cst_9, Cert.PlainXoLnIdeal.Read.val_main_v6, Cert.PlainXoLnIdeal.Read.val_main_v7, Cert.PlainXoLnIdeal.Read.val_main_v8, Cert.PlainXoLnIdeal.Read.val_main_v9, Cert.PlainXoLnIdeal.Read.val_main_v10, Cert.PlainXoLnIdeal.Read.val_main_v11, Cert.PlainXoLnIdeal.Read.val_main_v12, Cert.PlainXoLnIdeal.Read.val_main_v13, Cert.PlainXoLnIdeal.Read.val_main_v14, Cert.PlainXoLnIdeal.Read.val_main_v15, Cert.PlainXoLnIdeal.Read.val_main_v16, Cert.PlainXoLnIdeal.Read.val_main_v17, Cert.PlainXoLnIdeal.Read.val_main_v18, Cert.PlainXoLnIdeal.Read.val_main_v19, Cert.PlainXoLnIdeal.Read.val_main_v20, Cert.PlainXoLnIdeal.Read.val_main_v21, Cert.PlainXoLnIdeal.Read.val_main_v22, Cert.PlainXoLnIdeal.Read.val_main_v23, Cert.PlainXoLnIdeal.Read.val_main_v24, Cert.PlainXoLnIdeal.Read.val_main_v25, Cert.PlainXoLnIdeal.Read.val_main_v26, Cert.PlainXoLnIdeal.Read.val_main_v27, Cert.PlainXoLnIdeal.Read.val_main_v28, Cert.PlainXoLnIdeal.Read.val_main_v29, Cert.PlainXoLnIdeal.Read.val_main_v30, Cert.PlainXoLnIdeal.Read.val_main_v31, Cert.PlainXoLnIdeal.Read.val_main_v32, Cert.PlainXoLnIdeal.Read.val_main_v33, Cert.PlainXoLnIdeal.Read.val_main_v34, Cert.PlainXoLnIdeal.Read.val_main_v35, Cert.PlainXoLnIdeal.Read.val_main_v36, Cert.PlainXoLnIdeal.Read.val_main_v37, Cert.PlainXoLnIdeal.Read.val_main_v38, Cert.PlainXoLnIdeal.Read.val_main_v39, Cert.PlainXoLnIdeal.Read.val_main_v40, Cert.PlainXoLnIdeal.Read.val_main_v41, Cert.PlainXoLnIdeal.Read.val_main_v42, Cert.PlainXoLnIdeal.Read.val_main_v43, Cert.PlainXoLnIdeal.Read.val_main_v44, Cert.PlainXoLnIdeal.Read.val_main_v45, Cert.PlainXoLnIdeal.Read.val_main_v46, ref_row, xhat, rstd, var, mean]

/-- The reference's: the reciprocal standard deviations. -/
theorem ref8 (a : FVec Ideal S4096x512 .bf16) (b : FVec Ideal S512x1024 .bf16) (x : FVec Ideal S4096x1024 .f32) :
    Cert.PlainXoLnIdeal.Read.val_main_v42 (F := Ideal) a b x = fun i => rstd (row a b x (i 0)) := by
  funext i; idx_vars i
  pointwise [Cert.PlainXoLnIdeal.Read.val_main_cst_0, Cert.PlainXoLnIdeal.Read.val_main_cst_1, Cert.PlainXoLnIdeal.Read.val_main_cst_2, Cert.PlainXoLnIdeal.Read.val_main_cst_3, Cert.PlainXoLnIdeal.Read.val_main_cst_4, Cert.PlainXoLnIdeal.Read.val_main_cst_5, Cert.PlainXoLnIdeal.Read.val_main_cst_6, Cert.PlainXoLnIdeal.Read.val_main_cst_7, Cert.PlainXoLnIdeal.Read.val_main_cst_8, Cert.PlainXoLnIdeal.Read.val_main_cst_9, Cert.PlainXoLnIdeal.Read.val_main_v6, Cert.PlainXoLnIdeal.Read.val_main_v7, Cert.PlainXoLnIdeal.Read.val_main_v8, Cert.PlainXoLnIdeal.Read.val_main_v9, Cert.PlainXoLnIdeal.Read.val_main_v10, Cert.PlainXoLnIdeal.Read.val_main_v11, Cert.PlainXoLnIdeal.Read.val_main_v12, Cert.PlainXoLnIdeal.Read.val_main_v13, Cert.PlainXoLnIdeal.Read.val_main_v14, Cert.PlainXoLnIdeal.Read.val_main_v15, Cert.PlainXoLnIdeal.Read.val_main_v16, Cert.PlainXoLnIdeal.Read.val_main_v17, Cert.PlainXoLnIdeal.Read.val_main_v18, Cert.PlainXoLnIdeal.Read.val_main_v19, Cert.PlainXoLnIdeal.Read.val_main_v20, Cert.PlainXoLnIdeal.Read.val_main_v21, Cert.PlainXoLnIdeal.Read.val_main_v22, Cert.PlainXoLnIdeal.Read.val_main_v23, Cert.PlainXoLnIdeal.Read.val_main_v24, Cert.PlainXoLnIdeal.Read.val_main_v25, Cert.PlainXoLnIdeal.Read.val_main_v26, Cert.PlainXoLnIdeal.Read.val_main_v27, Cert.PlainXoLnIdeal.Read.val_main_v28, Cert.PlainXoLnIdeal.Read.val_main_v29, Cert.PlainXoLnIdeal.Read.val_main_v30, Cert.PlainXoLnIdeal.Read.val_main_v31, Cert.PlainXoLnIdeal.Read.val_main_v32, Cert.PlainXoLnIdeal.Read.val_main_v33, Cert.PlainXoLnIdeal.Read.val_main_v34, Cert.PlainXoLnIdeal.Read.val_main_v35, Cert.PlainXoLnIdeal.Read.val_main_v36, Cert.PlainXoLnIdeal.Read.val_main_v37, Cert.PlainXoLnIdeal.Read.val_main_v38, Cert.PlainXoLnIdeal.Read.val_main_v39, Cert.PlainXoLnIdeal.Read.val_main_v40, Cert.PlainXoLnIdeal.Read.val_main_v41, Cert.PlainXoLnIdeal.Read.val_main_v42, Cert.PlainXoLnIdeal.Read.val_main_v43, Cert.PlainXoLnIdeal.Read.val_main_v44, Cert.PlainXoLnIdeal.Read.val_main_v45, Cert.PlainXoLnIdeal.Read.val_main_v46, ref_row, xhat, rstd, var, mean]

/-- The kernel and the plain forward agree over the extended reals. -/
theorem algebraic : Cert.algebraic_XoLnIdeal_PlainXoLnIdeal := by
  pair_intro
  · run_from Cert.XoLnIdeal.Value.run_blocks m g
  · run_from Cert.PlainXoLnIdeal.Value.run m' g'
    · exact (Cert.PlainXoLnIdeal.Read.val_main_v27_eq ..).trans ((ref5 ..).trans (final5 m c).symm)
    · exact (Cert.PlainXoLnIdeal.Read.val_main_v28_eq ..).trans ((ref6 ..).trans (final6 m c).symm)
    · exact (Cert.PlainXoLnIdeal.Read.val_main_v46_eq ..).trans ((ref7 ..).trans (final7 m c).symm)
    · exact (Cert.PlainXoLnIdeal.Read.val_main_v42_eq ..).trans ((ref8 ..).trans (final8 m c).symm)

end Cert.XoLnProof
-- ==== Proof.Xq.lean ====
module

public import proofs.«01_k».proof.Defs
public import proofs.«01_k».proof.Proof.Gen.XqIdeal.Value
public import proofs.«01_k».proof.Proof.Gen.PlainXqIdeal.Run
public import proofs.«01_k».proof.Proof.Gen.PlainXqIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The cross-attention's queries. -/

namespace Cert.XqProof

open Cert.XqIdeal Cert.XqIdeal.Gen Idealize.ShloMosaic Idealize.ShloMosaic.TcCoe Idealize.SL.Sem
open Idealize.ShloMosaic.Pipeline (Dat)

variable (m : (ℓ : Loc nD τ sig) → Buf (Elt Ideal) ℓ)

/-- The product, one element at a time. -/
def prod (a : FVec Ideal S4096x1024 .bf16) (b : FVec Ideal S1024x512 .bf16) : FVec Ideal S4096x512 .bf16 :=
  fun i => ∑ k : Fin 1024, a (ix2 (i 0) k) * b (ix2 k (i 1))

/-- The blocks of every grid point. -/
theorem idx : ∀ t : Fin cfg0.N, win0_0.index t = ![t.val, 0] ∧ win0_1.index t = ![0, 0] ∧ win0_2.index t = ![t.val, 0] :=
  (by decide +kernel : ∀ t : Fin grid0.N, _)

/-- The array after the run. -/
theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  unfold_payloads
  pointwise [prod]
  blk_point [iblk, V, idx t]

/-- The reference's array. -/
theorem ref (a : FVec Ideal S4096x1024 .bf16) (b : FVec Ideal S1024x512 .bf16) :
    Cert.PlainXqIdeal.Read.val_main_v3 (F := Ideal) a b = prod a b := by
  funext i; idx_vars i
  pointwise [Cert.PlainXqIdeal.Read.val_main_v3, Cert.PlainXqIdeal.Read.val_main_v2, Cert.PlainXqIdeal.Read.val_main_v1, Cert.PlainXqIdeal.Read.val_main_v0, prod]

/-- The kernel and the plain product agree over the extended reals. -/
theorem algebraic : Cert.algebraic_XqIdeal_PlainXqIdeal := by
  pair_intro
  · run_from Cert.XqIdeal.Value.run_blocks m g
  · run_from Cert.PlainXqIdeal.Value.run m' g'
    exact (Cert.PlainXqIdeal.Read.val_main_v3_eq ..).trans ((ref ..).trans (final m c).symm)

end Cert.XqProof
-- ==== Proof.DwUpA.lean ====
module

public import proofs.«01_k».proof.Defs
public import proofs.«01_k».proof.Proof.Gen.DwUpAIdeal.Value
public import proofs.«01_k».proof.Proof.Gen.PlainDwUpAIdeal.Run
public import proofs.«01_k».proof.Proof.Gen.PlainDwUpAIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The first half of the gradient of the conv feed-forward's first weight. -/

namespace Cert.DwUpAProof

open Cert.DwUpAIdeal Cert.DwUpAIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient, one element at a time: the rows the call writes, and those the array held before. -/
def prod (a : FVec Ideal S4096x2816 .bf16) (b : FVec Ideal S4096x1024 .bf16) (w : FVec Ideal S5632x1024 .bf16) :
    FVec Ideal S5632x1024 .bf16 := fun i =>
  if h : 0 ≤ (i 0).val ∧ (i 0).val < 2816 then
    ∑ k : Fin 4096, a (ix2 k (⟨(i 0).val - 0, by omega⟩ : Fin 2816)) * b (ix2 k (i 1))
  else w i

/-- The blocks of every grid point. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The product of two blocks, over a grid point's positions. -/
def dot (a : FVec Ideal S2048x1408 .bf16) (b : FVec Ideal S2048x1024 .bf16) (y : S1408x1024.Idx) : EReal :=
  ∑ k : Fin 2048, a (ix2 k (y 0)) * b (ix2 k (y 1))

/-- What grid point `t` adds. -/
def part (c : Dev nD) (t : Fin cfg0.N) (y : S1408x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S1408x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S1408x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, idx t]
  exact congrFun (Memref.IsWhole.read_unread _ _) y

/-- The result starts as the array the call is given. -/
theorem held (c : Dev nD) : V m c main_v0 = m ((c : Thread nD τ).loc main_arg2) := rfl

/-- The call writes the rows from 0 to 2816. -/
theorem written (t : Fin cfg0.N) (y : ((cfg0.win 2).xblock (cfg0.grid.coords t)).Idx) :
    0 ≤ (((cfg0.win 2).blk t).view.emb y 0).val ∧ (((cfg0.win 2).blk t).view.emb y 0).val < 2816 := by
  have e : (((cfg0.win 2).blk t).view.emb y 0).val = win0_2.index t (0 : Fin 2) * 1408 + 1 * (y 0).val := rfl
  have hN : cfg0.N = 4 := N_0
  have ht : t.val < cfg0.N := t.isLt
  have hy : (y 0).val < 1408 := Nat.lt_of_lt_of_le (y 0).isLt ((cfg0.win 2).xsize_le (cfg0.grid.coords t) 0)
  rw [e, (idx t).2.2]
  show 0 ≤ (t.val / 2) * 1408 + 1 * (y 0).val ∧ (t.val / 2) * 1408 + 1 * (y 0).val < 2816
  omega

/-- The array after the run. -/
theorem final (c : Dev nD) : (dats m 0 c).arrAt 2 (cfgs 0).N
    = prod (m ((c : Thread nD τ).loc main_arg0)) (m ((c : Thread nD τ).loc main_arg1)) (m ((c : Thread nD τ).loc main_arg2)) := by
  refine (dats m 0 c).arrAt_eq_of_coversWhere_of_agree 2 _ (fun β => 0 ≤ β (0 : Fin _) ∧ β (0 : Fin _) < 2) (by decide +kernel) (fun t hf y => ?_) fun j hj => ?_
  · have h2 : t.val % 2 = 1 := (flush0_2 t).mp hf
    blk_simp
    rw [after0_2, point m c t (by omega) h2]
    unfold prod
    rw [dif_pos (written t y)]
    rw [Fin.sum_univ_two_halves 2048 2048 rfl]
    pointwise [part, dot]
    blk_point [iblk, V_main_arg0 m c, V_main_arg1 m c, idx t, idx ⟨t.val - 1, Nat.lt_of_le_of_lt (Nat.sub_le _ _) t.isLt⟩]
  · rw [A_eq]
    refine (congrFun (held m c) _).trans ?_
    unfold prod
    have hn : ¬(0 ≤ ((cfg0.win 2).arr.view.emb j 0).val ∧ ((cfg0.win 2).arr.view.emb j 0).val < 2816) := fun h => hj (by
      have e : (cfg0.win 2).cell j 0 = (j 0).val / 1408 := rfl
      have h' : 0 ≤ (j 0).val ∧ (j 0).val < 2816 := h
      rw [e]; omega)
    rw [dif_neg hn]

/-- The reference's array. -/
theorem ref (a : FVec Ideal S4096x2816 .bf16) (b : FVec Ideal S4096x1024 .bf16) (w : FVec Ideal S5632x1024 .bf16) :
    Cert.PlainDwUpAIdeal.Read.val_main_v9 (F := Ideal) a b w = prod a b w := by
  funext i; idx_vars i
  pointwise [Cert.PlainDwUpAIdeal.Read.val_main_v9, Cert.PlainDwUpAIdeal.Read.val_main_v8, Cert.PlainDwUpAIdeal.Read.val_main_v7, Cert.PlainDwUpAIdeal.Read.val_main_v6, Cert.PlainDwUpAIdeal.Read.val_main_v5, Cert.PlainDwUpAIdeal.Read.val_main_v4, Cert.PlainDwUpAIdeal.Read.val_main_v1, Cert.PlainDwUpAIdeal.Read.val_main_v0, prod]
  by_cases h : i0.val < 2816
  · rw [dif_pos h, dif_pos (by omega)]
  · rw [dif_neg h, dif_neg (by omega)]
    exact congrArg (fun k => w (ix2 k i1)) (Fin.ext (by dsimp only; omega))

/-- The kernel and the plain product agree over the extended reals. -/
theorem algebraic : Cert.algebraic_DwUpAIdeal_PlainDwUpAIdeal := by
  pair_intro
  · run_from Cert.DwUpAIdeal.Value.run_blocks m g
  · run_from Cert.PlainDwUpAIdeal.Value.run m' g'
    refine (Cert.PlainDwUpAIdeal.Read.val_main_v9_eq ..).trans ((ref ..).trans ?_)
    rw [(hagree c).2.2]
    exact (final m c).symm

end Cert.DwUpAProof
-- ==== Proof.DwInA.lean ====
module

public import proofs.«01_k».proof.Defs
public import proofs.«01_k».proof.Proof.Gen.DwInAIdeal.Value
public import proofs.«01_k».proof.Proof.Gen.PlainDwInAIdeal.Run
public import proofs.«01_k».proof.Proof.Gen.PlainDwInAIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the input projection: the rows of the attention branches' queries, keys and values. -/

namespace Cert.DwInAProof

open Cert.DwInAIdeal Cert.DwInAIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient, one element at a time: the rows the call writes, and those the array held before. -/
def prod (a : FVec Ideal S4096x1536 .bf16) (b : FVec Ideal S4096x1024 .bf16) (w : FVec Ideal S5632x1024 .bf16) :
    FVec Ideal S5632x1024 .bf16 := fun i =>
  if h : 0 ≤ (i 0).val ∧ (i 0).val < 1536 then
    ∑ k : Fin 4096, a (ix2 k (⟨(i 0).val - 0, by omega⟩ : Fin 1536)) * b (ix2 k (i 1))
  else w i

/-- The blocks of every grid point. -/
theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

/-- The product of two blocks, over a grid point's positions. -/
def dot (a : FVec Ideal S2048x1536 .bf16) (b : FVec Ideal S2048x1024 .bf16) (y : S1536x1024.Idx) : EReal :=
  ∑ k : Fin 2048, a (ix2 k (y 0)) * b (ix2 k (y 1))

/-- What grid point `t` adds. -/
def part (c : Dev nD) (t : Fin cfg0.N) (y : S1536x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S1536x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S1536x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, idx t]
  exact congrFun (Memref.IsWhole.read_unread _ _) y

/-- The result starts as the array the call is given. -/
theorem held (c : Dev nD) : V m c main_v0 = m ((c : Thread nD τ).loc main_arg2) := rfl

/-- The call writes the rows from 0 to 1536. -/
theorem written (t : Fin cfg0.N) (y : ((cfg0.win 2).xblock (cfg0.grid.coords t)).Idx) :
    0 ≤ (((cfg0.win 2).blk t).view.emb y 0).val ∧ (((cfg0.win 2).blk t).view.emb y 0).val < 1536 := by
  have e : (((cfg0.win 2).blk t).view.emb y 0).val = win0_2.index t (0 : Fin 2) * 1536 + 1 * (y 0).val := rfl
  have hN : cfg0.N = 2 := N_0
  have ht : t.val < cfg0.N := t.isLt
  have hy : (y 0).val < 1536 := Nat.lt_of_lt_of_le (y 0).isLt ((cfg0.win 2).xsize_le (cfg0.grid.coords t) 0)
  rw [e, (idx t).2.2]
  show 0 ≤ (t.val / 2) * 1536 + 1 * (y 0).val ∧ (t.val / 2) * 1536 + 1 * (y 0).val < 1536
  omega

/-- The array after the run. -/
theorem final (c : Dev nD) : (dats m 0 c).arrAt 2 (cfgs 0).N
    = prod (m ((c : Thread nD τ).loc main_arg0)) (m ((c : Thread nD τ).loc main_arg1)) (m ((c : Thread nD τ).loc main_arg2)) := by
  refine (dats m 0 c).arrAt_eq_of_coversWhere_of_agree 2 _ (fun β => 0 ≤ β (0 : Fin _) ∧ β (0 : Fin _) < 1) (by decide +kernel) (fun t hf y => ?_) fun j hj => ?_
  · have h2 : t.val % 2 = 1 := (flush0_2 t).mp hf
    blk_simp
    rw [after0_2, point m c t (by omega) h2]
    unfold prod
    rw [dif_pos (written t y)]
    rw [Fin.sum_univ_two_halves 2048 2048 rfl]
    pointwise [part, dot]
    blk_point [iblk, V_main_arg0 m c, V_main_arg1 m c, idx t, idx ⟨t.val - 1, Nat.lt_of_le_of_lt (Nat.sub_le _ _) t.isLt⟩]
  · rw [A_eq]
    refine (congrFun (held m c) _).trans ?_
    unfold prod
    have hn : ¬(0 ≤ ((cfg0.win 2).arr.view.emb j 0).val ∧ ((cfg0.win 2).arr.view.emb j 0).val < 1536) := fun h => hj (by
      have e : (cfg0.win 2).cell j 0 = (j 0).val / 1536 := rfl
      have h' : 0 ≤ (j 0).val ∧ (j 0).val < 1536 := h
      rw [e]; omega)
    rw [dif_neg hn]

/-- The reference's array. -/
theorem ref (a : FVec Ideal S4096x1536 .bf16) (b : FVec Ideal S4096x1024 .bf16) (w : FVec Ideal S5632x1024 .bf16) :
    Cert.PlainDwInAIdeal.Read.val_main_v9 (F := Ideal) a b w = prod a b w := by
  funext i; idx_vars i
  pointwise [Cert.PlainDwInAIdeal.Read.val_main_v9, Cert.PlainDwInAIdeal.Read.val_main_v8, Cert.PlainDwInAIdeal.Read.val_main_v7, Cert.PlainDwInAIdeal.Read.val_main_v6, Cert.PlainDwInAIdeal.Read.val_main_v5, Cert.PlainDwInAIdeal.Read.val_main_v4, Cert.PlainDwInAIdeal.Read.val_main_v1, Cert.PlainDwInAIdeal.Read.val_main_v0, prod]
  by_cases h : i0.val < 1536
  · rw [dif_pos h, dif_pos (by omega)]
  · rw [dif_neg h, dif_neg (by omega)]
    exact congrArg (fun k => w (ix2 k i1)) (Fin.ext (by dsimp only; omega))

/-- The kernel and the plain product agree over the extended reals. -/
theorem algebraic : Cert.algebraic_DwInAIdeal_PlainDwInAIdeal := by
  pair_intro
  · run_from Cert.DwInAIdeal.Value.run_blocks m g
  · run_from Cert.PlainDwInAIdeal.Value.run m' g'
    refine (Cert.PlainDwInAIdeal.Read.val_main_v9_eq ..).trans ((ref ..).trans ?_)
    rw [(hagree c).2.2]
    exact (final m c).symm

end Cert.DwInAProof
-- ==== Proof.DwInB.lean ====
module

public import proofs.«01_k».proof.Defs
public import proofs.«01_k».proof.Proof.Gen.DwInBIdeal.Value
public import proofs.«01_k».proof.Proof.Gen.PlainDwInBIdeal.Run
public import proofs.«01_k».proof.Proof.Gen.PlainDwInBIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the input projection: the rows of the gated branch, written between the rows the array holds. -/

namespace Cert.DwInBProof

open Cert.DwInBIdeal Cert.DwInBIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient, one element at a time: the rows the call writes, and those the array held before. -/
def prod (a : FVec Ideal S4096x1024 .bf16) (b : FVec Ideal S4096x1024 .bf16) (w : FVec Ideal S5632x1024 .bf16) :
    FVec Ideal S5632x1024 .bf16 := fun i =>
  if h : 1536 ≤ (i 0).val ∧ (i 0).val < 2560 then
    ∑ k : Fin 4096, a (ix2 k (⟨(i 0).val - 1536, by omega⟩ : Fin 1024)) * b (ix2 k (i 1))
  else w i

/-- The blocks of every grid point. -/
theorem idx : ∀ t : Fin cfg0.N, win0_0.index t = ![t.val % 2, t.val / 2] ∧ win0_1.index t = ![t.val % 2, 0]
    ∧ win0_2.index t = ![t.val / 2 + 3, 0] :=
  (by decide +kernel : ∀ t : Fin grid0.N, _)

/-- The product of two blocks, over a grid point's positions. -/
def dot (a : FVec Ideal S2048x512 .bf16) (b : FVec Ideal S2048x1024 .bf16) (y : S512x1024.Idx) : EReal :=
  ∑ k : Fin 2048, a (ix2 k (y 0)) * b (ix2 k (y 1))

/-- What grid point `t` adds. -/
def part (c : Dev nD) (t : Fin cfg0.N) (y : S512x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S512x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S512x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, idx t]
  exact congrFun (Memref.IsWhole.read_unread _ _) y

/-- The result starts as the array the call is given. -/
theorem held (c : Dev nD) : V m c main_v0 = m ((c : Thread nD τ).loc main_arg2) := rfl

/-- The call writes the rows from 1536 to 2560. -/
theorem written (t : Fin cfg0.N) (y : ((cfg0.win 2).xblock (cfg0.grid.coords t)).Idx) :
    1536 ≤ (((cfg0.win 2).blk t).view.emb y 0).val ∧ (((cfg0.win 2).blk t).view.emb y 0).val < 2560 := by
  have e : (((cfg0.win 2).blk t).view.emb y 0).val = win0_2.index t (0 : Fin 2) * 512 + 1 * (y 0).val := rfl
  have hN : cfg0.N = 4 := N_0
  have ht : t.val < cfg0.N := t.isLt
  have hy : (y 0).val < 512 := Nat.lt_of_lt_of_le (y 0).isLt ((cfg0.win 2).xsize_le (cfg0.grid.coords t) 0)
  rw [e, (idx t).2.2]
  show 1536 ≤ (t.val / 2 + 3) * 512 + 1 * (y 0).val ∧ (t.val / 2 + 3) * 512 + 1 * (y 0).val < 2560
  omega

/-- The array after the run. -/
theorem final (c : Dev nD) : (dats m 0 c).arrAt 2 (cfgs 0).N
    = prod (m ((c : Thread nD τ).loc main_arg0)) (m ((c : Thread nD τ).loc main_arg1)) (m ((c : Thread nD τ).loc main_arg2)) := by
  refine (dats m 0 c).arrAt_eq_of_coversWhere_of_agree 2 _ (fun β => 3 ≤ β (0 : Fin _) ∧ β (0 : Fin _) < 5) (by decide +kernel) (fun t hf y => ?_) fun j hj => ?_
  · have h2 : t.val % 2 = 1 := (flush0_2 t).mp hf
    blk_simp
    rw [after0_2, point m c t (by omega) h2]
    unfold prod
    rw [dif_pos (written t y)]
    rw [Fin.sum_univ_two_halves 2048 2048 rfl]
    pointwise [part, dot]
    blk_point [iblk, V_main_arg0 m c, V_main_arg1 m c, idx t, idx ⟨t.val - 1, Nat.lt_of_le_of_lt (Nat.sub_le _ _) t.isLt⟩]
  · rw [A_eq]
    refine (congrFun (held m c) _).trans ?_
    unfold prod
    have hn : ¬(1536 ≤ ((cfg0.win 2).arr.view.emb j 0).val ∧ ((cfg0.win 2).arr.view.emb j 0).val < 2560) := fun h => hj (by
      have e : (cfg0.win 2).cell j 0 = (j 0).val / 512 := rfl
      have h' : 1536 ≤ (j 0).val ∧ (j 0).val < 2560 := h
      rw [e]; omega)
    rw [dif_neg hn]

/-- The reference's array. -/
theorem ref (a : FVec Ideal S4096x1024 .bf16) (b : FVec Ideal S4096x1024 .bf16) (w : FVec Ideal S5632x1024 .bf16) :
    Cert.PlainDwInBIdeal.Read.val_main_v10 (F := Ideal) a b w = prod a b w := by
  funext i; idx_vars i
  pointwise [Cert.PlainDwInBIdeal.Read.val_main_v10, Cert.PlainDwInBIdeal.Read.val_main_v9, Cert.PlainDwInBIdeal.Read.val_main_v8, Cert.PlainDwInBIdeal.Read.val_main_v7, Cert.PlainDwInBIdeal.Read.val_main_v6, Cert.PlainDwInBIdeal.Read.val_main_v5, Cert.PlainDwInBIdeal.Read.val_main_v2, Cert.PlainDwInBIdeal.Read.val_main_v1, Cert.PlainDwInBIdeal.Read.val_main_v0, prod]
  by_cases h : i0.val < 1536
  · rw [dif_pos h, dif_neg (by omega)]
  · rw [dif_neg h]
    by_cases h' : i0.val < 2560
    · rw [dif_pos (by omega), dif_pos (by omega)]
    · rw [dif_neg (by omega), dif_neg (by omega)]
      exact congrArg (fun k => w (ix2 k i1)) (Fin.ext (by dsimp only; omega))

/-- The kernel and the plain product agree over the extended reals. -/
theorem algebraic : Cert.algebraic_DwInBIdeal_PlainDwInBIdeal := by
  pair_intro
  · run_from Cert.DwInBIdeal.Value.run_blocks m g
  · run_from Cert.PlainDwInBIdeal.Value.run m' g'
    refine (Cert.PlainDwInBIdeal.Read.val_main_v10_eq ..).trans ((ref ..).trans ?_)
    rw [(hagree c).2.2]
    exact (final m c).symm

end Cert.DwInBProof
-- ==== Proof.DwInC.lean ====
module

public import proofs.«01_k».proof.Defs
public import proofs.«01_k».proof.Proof.Gen.DwInCIdeal.Value
public import proofs.«01_k».proof.Proof.Gen.PlainDwInCIdeal.Run
public import proofs.«01_k».proof.Proof.Gen.PlainDwInCIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the input projection: the rows of the gates' logits, written after the rows the array holds. -/

namespace Cert.DwInCProof

open Cert.DwInCIdeal Cert.DwInCIdeal.Gen Idealize.ShloMosaic Idealize.ShloMosaic.TcCoe Idealize.SL.Sem
open Idealize.ShloMosaic.Pipeline (Dat)

variable (m : (ℓ : Loc nD τ sig) → Buf (Elt Ideal) ℓ)

/-- The weight's gradient, one element at a time: the rows the call writes, and those the array held before. -/
def prod (a : FVec Ideal S4096x3072 .bf16) (b : FVec Ideal S4096x1024 .bf16) (w : FVec Ideal S5632x1024 .bf16) :
    FVec Ideal S5632x1024 .bf16 := fun i =>
  if h : 2560 ≤ (i 0).val ∧ (i 0).val < 5632 then
    ∑ k : Fin 4096, a (ix2 k (⟨(i 0).val - 2560, by omega⟩ : Fin 3072)) * b (ix2 k (i 1))
  else w i

/-- The blocks of every grid point. -/
theorem idx : ∀ t : Fin cfg0.N, win0_0.index t = ![t.val % 2, t.val / 2] ∧ win0_1.index t = ![t.val % 2, 0]
    ∧ win0_2.index t = ![t.val / 2 + 5, 0] :=
  (by decide +kernel : ∀ t : Fin grid0.N, _)

/-- The product of two blocks, over a grid point's positions. -/
def dot (a : FVec Ideal S2048x512 .bf16) (b : FVec Ideal S2048x1024 .bf16) (y : S512x1024.Idx) : EReal :=
  ∑ k : Fin 2048, a (ix2 k (y 0)) * b (ix2 k (y 1))

/-- What grid point `t` adds. -/
def part (c : Dev nD) (t : Fin cfg0.N) (y : S512x1024.Idx) : EReal := dot (iblk m c 0 t) (iblk m c 1 t) y

/-- The first of a block's two points leaves its part in the scratch. -/
theorem scratch (c : Dev nD) (t : Fin cfg0.N) (h0 : t.val % 2 = 0) (h2 : ¬t.val % 2 = 1) (y : S512x1024.Idx) :
    (outsAt0 m c t.val t.isLt).2 y = part m c t y := by
  rw [outsAt0_A m c t h0 h2]; frame_out
  unfold_payloads
  pointwise [part, dot]

/-- The second adds its own and writes the sum back. -/
theorem point (c : Dev nD) (t : Fin cfg0.N) (h0 : ¬t.val % 2 = 0) (h2 : t.val % 2 = 1) (y : S512x1024.Idx) :
    (outsAt0 m c t.val t.isLt).1 y
      = part m c ⟨t.val - 1, Nat.lt_of_le_of_lt (Nat.sub_le _ _) t.isLt⟩ y + part m c t y := by
  rw [← scratch m c ⟨t.val - 1, Nat.lt_of_le_of_lt (Nat.sub_le _ _) t.isLt⟩ (by dsimp only; omega) (by dsimp only; omega) y]
  rw [outsAt0_B m c t h0 h2]; frame_out
  unfold_payloads
  pointwise [part, dot]
  blk_point [iblk, idx t]
  exact congrFun (Memref.IsWhole.read_unread _ _) y

/-- The result starts as the array the call is given. -/
theorem held (c : Dev nD) : V m c main_v0 = m ((c : Thread nD τ).loc main_arg2) := rfl

/-- The call writes the rows from 2560 to 5632. -/
theorem written (t : Fin cfg0.N) (y : ((cfg0.win 2).xblock (cfg0.grid.coords t)).Idx) :
    2560 ≤ (((cfg0.win 2).blk t).view.emb y 0).val ∧ (((cfg0.win 2).blk t).view.emb y 0).val < 5632 := by
  have e : (((cfg0.win 2).blk t).view.emb y 0).val = win0_2.index t (0 : Fin 2) * 512 + 1 * (y 0).val := rfl
  have hN : cfg0.N = 12 := N_0
  have ht : t.val < cfg0.N := t.isLt
  have hy : (y 0).val < 512 := Nat.lt_of_lt_of_le (y 0).isLt ((cfg0.win 2).xsize_le (cfg0.grid.coords t) 0)
  rw [e, (idx t).2.2]
  show 2560 ≤ (t.val / 2 + 5) * 512 + 1 * (y 0).val ∧ (t.val / 2 + 5) * 512 + 1 * (y 0).val < 5632
  omega

/-- The array after the run. -/
theorem final (c : Dev nD) : (dats m 0 c).arrAt 2 (cfgs 0).N
    = prod (m ((c : Thread nD τ).loc main_arg0)) (m ((c : Thread nD τ).loc main_arg1)) (m ((c : Thread nD τ).loc main_arg2)) := by
  refine (dats m 0 c).arrAt_eq_of_coversWhere_of_agree 2 _ (fun β => 5 ≤ β (0 : Fin _) ∧ β (0 : Fin _) < 11) (by decide +kernel) (fun t hf y => ?_) fun j hj => ?_
  · have h2 : t.val % 2 = 1 := (flush0_2 t).mp hf
    blk_simp
    rw [after0_2, point m c t (by omega) h2]
    unfold prod
    rw [dif_pos (written t y)]
    rw [Fin.sum_univ_two_halves 2048 2048 rfl]
    pointwise [part, dot]
    blk_point [iblk, V_main_arg0 m c, V_main_arg1 m c, idx t, idx ⟨t.val - 1, Nat.lt_of_le_of_lt (Nat.sub_le _ _) t.isLt⟩]
  · rw [A_eq]
    refine (congrFun (held m c) _).trans ?_
    unfold prod
    have hn : ¬(2560 ≤ ((cfg0.win 2).arr.view.emb j 0).val ∧ ((cfg0.win 2).arr.view.emb j 0).val < 5632) := fun h => hj (by
      have e : (cfg0.win 2).cell j 0 = (j 0).val / 512 := rfl
      have h' : 2560 ≤ (j 0).val ∧ (j 0).val < 5632 := h
      rw [e]; omega)
    rw [dif_neg hn]

/-- The reference's array. -/
theorem ref (a : FVec Ideal S4096x3072 .bf16) (b : FVec Ideal S4096x1024 .bf16) (w : FVec Ideal S5632x1024 .bf16) :
    Cert.PlainDwInCIdeal.Read.val_main_v9 (F := Ideal) a b w = prod a b w := by
  funext i; idx_vars i
  pointwise [Cert.PlainDwInCIdeal.Read.val_main_v9, Cert.PlainDwInCIdeal.Read.val_main_v8, Cert.PlainDwInCIdeal.Read.val_main_v7, Cert.PlainDwInCIdeal.Read.val_main_v6, Cert.PlainDwInCIdeal.Read.val_main_v5, Cert.PlainDwInCIdeal.Read.val_main_v2, Cert.PlainDwInCIdeal.Read.val_main_v1, Cert.PlainDwInCIdeal.Read.val_main_v0, prod]
  by_cases h : i0.val < 2560
  · rw [dif_pos h, dif_neg (by omega)]
  · rw [dif_neg h, dif_pos (by omega)]

/-- The kernel and the plain product agree over the extended reals. -/
theorem algebraic : Cert.algebraic_DwInCIdeal_PlainDwInCIdeal := by
  pair_intro
  · run_from Cert.DwInCIdeal.Value.run_blocks m g
  · run_from Cert.PlainDwInCIdeal.Value.run m' g'
    refine (Cert.PlainDwInCIdeal.Read.val_main_v9_eq ..).trans ((ref ..).trans ?_)
    rw [(hagree c).2.2]
    exact (final m c).symm

end Cert.DwInCProof
-- ==== Proof.LnMath.lean ====
module

public import proofs.«01_k».proof.Proof.DownLn

@[expose] public section

noncomputable section

/-! The gradient through a layer norm of a row: the short form a kernel computes is the one the chain rule writes,
    wherever the row and the gradient are real numbers. -/

namespace Cert.LnProof

open Idealize.ShloMosaic Cert.DownLnProof

/-- A value that is a real number. -/
def IsReal (x : EReal) : Prop := ∃ r : ℝ, (r : EReal) = x

theorem IsReal.add {x y : EReal} (hx : IsReal x) (hy : IsReal y) : IsReal (x + y) := by
  obtain ⟨a, rfl⟩ := hx
  obtain ⟨b, rfl⟩ := hy
  exact ⟨a + b, EReal.coe_add a b⟩

theorem IsReal.mul {x y : EReal} (hx : IsReal x) (hy : IsReal y) : IsReal (x * y) := by
  obtain ⟨a, rfl⟩ := hx
  obtain ⟨b, rfl⟩ := hy
  exact ⟨a * b, EReal.coe_mul a b⟩

/-- A sum of reals is the real sum. -/
theorem coe_sum {n : Nat} (f : Fin n → ℝ) : ((∑ i, f i : ℝ) : EReal) = ∑ i, (f i : EReal) := by
  induction n with
  | zero => simp
  | succ n ih => rw [Fin.sum_univ_succ, Fin.sum_univ_succ, EReal.coe_add, ih]

theorem IsReal.sum {n : Nat} {f : Fin n → EReal} (h : ∀ i, IsReal (f i)) : IsReal (∑ i, f i) := by
  choose g hg using h
  exact ⟨∑ i, g i, (coe_sum g).trans (Finset.sum_congr rfl fun i _ => hg i)⟩

/-- A value whose magnitude compares below infinity is real. -/
theorem IsReal.of_olt {x y : EReal} (hy : y = ⊤) (h : Ideal.cmp .olt (max x (-x)) y = 1#1) : IsReal x := by
  subst hy
  induction x with
  | coe r => exact ⟨r, rfl⟩
  | bot => simp [Ideal.cmp] at h
  | top => simp [Ideal.cmp] at h

/-- The f32 pattern of infinity. -/
theorem ofBits_inf : Ideal.ofBits .f32 0x7F800000#32 = ⊤ := by simp [Ideal.ofBits, Ideal.ieee]

/-- The f32 pattern of the row length. -/
theorem ofBits_1024 : Ideal.ofBits .f32 0x44800000#32 = ((1024 : ℝ) : EReal) := by
  simp [Ideal.ofBits, Ideal.ieee, -EReal.coe_mul]; norm_num

/-- The f32 pattern of two. -/
theorem ofBits_two : Ideal.ofBits .f32 0x40000000#32 = ((2 : ℝ) : EReal) := by
  simp [Ideal.ofBits, Ideal.ieee, -EReal.coe_mul]; norm_num

/-- The f32 pattern of minus a half. -/
theorem ofBits_neg_half : Ideal.ofBits .f32 0xBF000000#32 = ((-(1 / 2) : ℝ) : EReal) := by
  simp [Ideal.ofBits, Ideal.ieee, -EReal.coe_mul, -EReal.coe_neg]; norm_num

/-- The residual's scale is real. -/
theorem real_alpha : IsReal (Ideal.ofBits .f32 0x3FD744FD#32) :=
  ⟨_, by simp [Ideal.ofBits, Ideal.ieee, -EReal.coe_mul]; rfl⟩

/-- The norm's small constant is a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The short form: what a kernel computes from the saved standardised row and reciprocal deviation. -/
def back (xh : Fin 1024 → EReal) (rs : EReal) (w : Fin 1024 → EReal) (j : Fin 1024) : EReal :=
  rs * (w j - Ideal.div (∑ k, w k) (Ideal.ofBits .f32 0x44800000#32)
    - xh j * Ideal.div (∑ k, w k * xh k) (Ideal.ofBits .f32 0x44800000#32))

/-- The gradient of the variance. -/
def gradVar (z w : Fin 1024 → EReal) : EReal :=
  Ideal.div ((∑ k, (z k - mean z) * w k) * (Ideal.ofBits .f32 0xBF000000#32
    * Ideal.div (rstd z) (var z + Ideal.ofBits .f32 0x3727C5AC#32))) (Ideal.ofBits .f32 0x44800000#32)

/-- The chain rule's form: through the quotient, through the variance and through the mean. -/
def chain (z w : Fin 1024 → EReal) (j : Fin 1024) : EReal :=
  w j * rstd z + gradVar z w * (Ideal.ofBits .f32 0x40000000#32 * (z j - mean z))
    + Ideal.div ((∑ k, -(w k * rstd z)) + ∑ k, -(gradVar z w * (Ideal.ofBits .f32 0x40000000#32 * (z k - mean z))))
      (Ideal.ofBits .f32 0x44800000#32)

/-- The two forms over the reals. -/
theorem back_real (z w : Fin 1024 → ℝ) (n μ s r q : ℝ) (hn : n = 1024) (hμ : μ = (∑ j, z j) * (1 / n))
    (hr : r * r = 1 / s) (hq : q = ((∑ k, (z k - μ) * w k) * ((-(1 / 2)) * (r * (1 / s)))) * (1 / n)) (j : Fin 1024) :
    r * (w j - (∑ k, w k) * (1 / n) - ((z j - μ) * r) * ((∑ k, w k * ((z k - μ) * r)) * (1 / n)))
      = w j * r + q * (2 * (z j - μ)) + ((∑ k, -(w k * r)) + (∑ k, -(q * (2 * (z k - μ))))) * (1 / n) := by
  have h0 : ∑ k, (z k - μ) = 0 := by
    rw [Finset.sum_sub_distrib, hμ, hn]
    simp
    ring
  have h1 : ∑ k, -(q * (2 * (z k - μ))) = 0 := by
    rw [Finset.sum_neg_distrib, ← Finset.mul_sum, ← Finset.mul_sum, h0]; ring
  have h2 : ∑ k, w k * ((z k - μ) * r) = (∑ k, (z k - μ) * w k) * r := by
    rw [Finset.sum_mul]; exact Finset.sum_congr rfl fun k _ => by ring
  have h3 : ∑ k, -(w k * r) = -((∑ k, w k) * r) := by
    rw [Finset.sum_neg_distrib, Finset.sum_mul]
  rw [h1, h2, h3, hq, ← hr]
  ring

/-- The short form is the chain rule's on a real row and a real gradient. -/
theorem back_eq {z w : Fin 1024 → EReal} (hz : ∀ k, IsReal (z k)) (hw : ∀ k, IsReal (w k)) (j : Fin 1024) :
    back (xhat z) (rstd z) w j = chain z w j := by
  choose Z hZ using hz
  choose W hW using hw
  obtain rfl : (fun k => (Z k : EReal)) = z := funext hZ
  obtain rfl : (fun k => (W k : EReal)) = w := funext hW
  obtain ⟨e, he, hE⟩ := ofBits_eps
  have hn : (1024 : ℝ) ≠ 0 := by norm_num
  obtain ⟨μ, hμ⟩ : ∃ μ : ℝ, μ = (∑ j, Z j) * (1 / 1024) := ⟨_, rfl⟩
  have hmean : mean (fun k => (Z k : EReal)) = (μ : EReal) := by
    unfold mean
    rw [ofBits_1024, Ideal.div_coe hn, ← coe_sum, ← EReal.coe_mul, hμ]
  obtain ⟨v, hv⟩ : ∃ v : ℝ, v = (∑ j, (Z j - μ) * (Z j - μ)) * (1 / 1024) := ⟨_, rfl⟩
  have hvar : var (fun k => (Z k : EReal)) = (v : EReal) := by
    unfold var
    rw [hmean, ofBits_1024, Ideal.div_coe hn]
    simp only [← EReal.coe_sub, ← EReal.coe_mul, ← coe_sum]
    rw [hv]
  have hv0 : 0 ≤ v := by
    rw [hv]
    exact mul_nonneg (Finset.sum_nonneg fun k _ => mul_self_nonneg _) (by norm_num)
  have hs : 0 < v + e := by linarith
  have hrstd : rstd (fun k => (Z k : EReal)) = (((√(v + e))⁻¹ : ℝ) : EReal) := by
    unfold rstd
    rw [hvar, hE, ← EReal.coe_add, Ideal.rsqrt_coe, if_neg (not_lt.mpr hs.le), if_neg hs.ne']
  obtain ⟨r, hr⟩ : ∃ r : ℝ, r = (√(v + e))⁻¹ := ⟨_, rfl⟩
  rw [← hr] at hrstd
  have hrr : r * r = 1 / (v + e) := by
    rw [hr, ← mul_inv, Real.mul_self_sqrt hs.le, one_div]
  obtain ⟨q, hq⟩ : ∃ q : ℝ, q = ((∑ k, (Z k - μ) * W k) * ((-(1 / 2)) * (r * (1 / (v + e))))) * (1 / 1024) := ⟨_, rfl⟩
  have hgv : gradVar (fun k => (Z k : EReal)) (fun k => (W k : EReal)) = (q : EReal) := by
    unfold gradVar
    rw [hmean, hrstd, hvar, hE, ofBits_1024, ofBits_neg_half, ← EReal.coe_add, Ideal.div_coe hs.ne', Ideal.div_coe hn]
    simp only [← EReal.coe_sub, ← EReal.coe_mul, ← coe_sum]
    rw [hq]
  unfold back chain xhat
  rw [hgv, hmean, hrstd, ofBits_1024, ofBits_two]
  simp only [Ideal.div_coe hn, ← EReal.coe_sub, ← EReal.coe_mul, ← EReal.coe_neg, ← coe_sum, ← EReal.coe_add]
  exact congrArg _ (back_real Z W 1024 μ (v + e) r q rfl hμ hrr hq j)

end Cert.LnProof
-- ==== Proof.DxUp.lean ====
module

public import proofs.«01_k».proof.Defs
public import proofs.«01_k».proof.Proof.Gen.DxUpIdeal.Value
public import proofs.«01_k».proof.Proof.Gen.PlainDxUpIdeal.Run
public import proofs.«01_k».proof.Proof.Gen.PlainDxUpIdeal.Read
public import proofs.«01_k».proof.Proof.LnMath
public import Idealize.ShloMosaic.Lib.Pointwise
public import Idealize.ShloMosaic.Lib.Pipeline.ValueKit
public import Idealize.ShloMosaic.Lib.Pipeline.ReadBack

@[expose] public section

set_option maxRecDepth 16384

noncomputable section

/-! The gradient through the feed-forward's up projection, the residual and the layer norm before it. -/

namespace Cert.DxUpProof

open Cert.DxUpIdeal Cert.DxUpIdeal.Gen Idealize.ShloMosaic Idealize.ShloMosaic.TcCoe Idealize.SL.Sem
open Idealize.ShloMosaic.Pipeline (Dat)
open Cert.DownLnProof (mean var rstd xhat)
open Cert.LnProof

variable (m : (ℓ : Loc nD τ sig) → Buf (Elt Ideal) ℓ)

/-- Two gradients laid side by side. -/
def cat (a b : FVec Ideal S4096x2816 .bf16) (r : Fin 4096) (q : Fin 5632) : EReal :=
  if h : q.val < 2816 then a (ix2 r (⟨q.val, h⟩ : Fin 2816)) else b (ix2 r (⟨q.val - 2816, by omega⟩ : Fin 2816))

/-- The gradient at the norm's output: the product and the scaled residual. -/
def dy (a b : FVec Ideal S4096x2816 .bf16) (w : FVec Ideal S5632x1024 .bf16) (x : FVec Ideal S4096x1024 .f32)
    (r : Fin 4096) (j : Fin 1024) : EReal :=
  (∑ q : Fin 5632, cat a b r q * w (ix2 q j)) + Ideal.ofBits .f32 0x3FD744FD#32 * x (ix2 r j)

/-- A row of an array. -/
def line (z : FVec Ideal S4096x1024 .f32) (r : Fin 4096) (j : Fin 1024) : EReal := z (ix2 r j)

/-- The blocks of every grid point. -/
theorem idx : ∀ t : Fin cfg0.N, win0_0.index t = ![t.val / 4, min (t.val % 4) 1] ∧ win0_1.index t = ![t.val / 4, t.val % 4 - 2]
    ∧ win0_2.index t = ![t.val % 4, 0] ∧ win0_3.index t = ![t.val / 4, 0] ∧ win0_4.index t = ![t.val / 4, 0]
    ∧ win0_5.index t = ![t.val / 4, 0] ∧ win0_6.index t = ![0, 0] ∧ win0_7.index t = ![t.val / 4, 0]
    ∧ win0_8.index t = ![t.val / 4, 0] ∧ win0_9.index t = ![0, 0] ∧ win0_10.index t = ![0, 0] :=
  (by decide +kernel : ∀ t : Fin grid0.N, _)

/-- Row `r` of grid point `t`'s block. -/
def rowOf (t : Fin cfg0.N) (r : Fin 512) : Fin 4096 :=
  ⟨t.val / 4 * 512 + r.val, by have := t.isLt; have : cfg0.N = 32 := N_0; omega⟩

/-- Channel `k` of grid point `t`'s chunk. -/
def chan (t : Fin cfg0.N) (k : Fin 1408) : Fin 5632 := ⟨t.val % 4 * 1408 + k.val, by omega⟩

/-- Point `s` of the block of rows that `t` belongs to. -/
def nth (t : Fin cfg0.N) (s : Fin 4) : Fin cfg0.N :=
  ⟨4 * (t.val / 4) + s.val, by have := t.isLt; have : cfg0.N = 32 := N_0; omega⟩

/-- The standardised rows the host prepares. -/
theorem V_xh (c : Dev nD) : (V m c main_v17 : FVec Ideal S4096x1024 .f32)
    = fun i => xhat (line (m ((c : Thread nD τ).loc main_arg4) : FVec Ideal S4096x1024 .f32) (i 0)) (i 1) := by
  entry_read
  funext i; idx_vars i
  pointwise [xhat, rstd, var, mean, line]

/-- The reciprocal standard deviations the host prepares. -/
theorem V_rs (c : Dev nD) : (V m c main_v13 : FVec Ideal S4096x1 .f32)
    = fun i => rstd (line (m ((c : Thread nD τ).loc main_arg4) : FVec Ideal S4096x1024 .f32) (i 0)) := by
  entry_read
  funext i; idx_vars i
  pointwise [rstd, var, mean, line]

/-- A block's residual rows. -/
theorem x_blk (c : Dev nD) (t : Fin cfg0.N) (r : Fin 512) (j : Fin 1024) :
    (iblk m c 3 t : FVec Ideal S512x1024 .f32) (ix2 r j) = (m ((c : Thread nD τ).loc main_arg3) : FVec Ideal S4096x1024 .f32) (ix2 (rowOf t r) j) := by
  blk_point [iblk, V, idx t, rowOf]

/-- A block's standardised rows. -/
theorem xh_blk (c : Dev nD) (t : Fin cfg0.N) (r : Fin 512) (j : Fin 1024) :
    (iblk m c 4 t : FVec Ideal S512x1024 .f32) (ix2 r j) = xhat (line (m ((c : Thread nD τ).loc main_arg4) : FVec Ideal S4096x1024 .f32) (rowOf t r)) j := by
  refine (?_ : _ = (V m c main_v17 : FVec Ideal S4096x1024 .f32) (ix2 (rowOf t r) j)).trans (congrFun (V_xh m c) _)
  blk_point [iblk, idx t, rowOf]

/-- A block's reciprocal standard deviations. -/
theorem rs_blk (c : Dev nD) (t : Fin cfg0.N) (r : Fin 512) :
    (iblk m c 5 t : FVec Ideal S512x1 .f32) (ix2 r 0) = rstd (line (m ((c : Thread nD τ).loc main_arg4) : FVec Ideal S4096x1024 .f32) (rowOf t r)) := by
  refine (?_ : _ = (V m c main_v13 : FVec Ideal S4096x1 .f32) (ix2 (rowOf t r) 0)).trans (congrFun (V_rs m c) _)
  blk_point [iblk, idx t, rowOf]

/-- The norm's scale. -/
theorem g_blk (c : Dev nD) (t : Fin cfg0.N) (j : Fin 1024) :
    (iblk m c 6 t : FVec Ideal S1x1024 .f32) (ix2 0 j) = (m ((c : Thread nD τ).loc main_arg5) : FVec Ideal S1x1024 .f32) (ix2 0 j) := by
  blk_point [iblk, V, idx t]

/-- What grid point `t` adds to the product. -/
def part (c : Dev nD) (t : Fin cfg0.N) (y : S512x1024.Idx) : EReal :=
  ∑ k : Fin 1408, cat (m ((c : Thread nD τ).loc main_arg0)) (m ((c : Thread nD τ).loc main_arg1)) (rowOf t (y 0)) (chan t k) * (m ((c : Thread nD τ).loc main_arg2) : FVec Ideal S5632x1024 .bf16) (ix2 (chan t k) (y 1))

/-- The product of two blocks. -/
def dot (a : FVec Ideal S512x1408 .bf16) (b : FVec Ideal S1408x1024 .bf16) (y : S512x1024.Idx) : EReal :=
  ∑ k : Fin 1408, a (ix2 (y 0) k) * b (ix2 k (y 1))

/-- The chunks of the first gradient. -/
theorem part_0 (c : Dev nD) (t : Fin cfg0.N) (y : S512x1024.Idx) (h : t.val % 4 ≤ 1) :
    part m c t y = dot (iblk m c 0 t) (iblk m c 2 t) y := by
  refine Finset.sum_congr rfl fun k _ => ?_
  have e : chan t k = ⟨t.val % 4 * 1408 + k.val, by omega⟩ := rfl
  unfold cat
  rw [dif_pos (by rw [e]; dsimp only; omega)]
  blk_point [iblk, V, idx t, chan, rowOf]

/-- The chunks of the second. -/
theorem part_1 (c : Dev nD) (t : Fin cfg0.N) (y : S512x1024.Idx) (h : 2 ≤ t.val % 4) :
    part m c t y = dot (iblk m c 1 t) (iblk m c 2 t) y := by
  refine Finset.sum_congr rfl fun k _ => ?_
  have e : chan t k = ⟨t.val % 4 * 1408 + k.val, by omega⟩ := rfl
  unfold cat
  rw [dif_neg (by rw [e]; dsimp only; omega)]
  blk_point [iblk, V, idx t, chan, rowOf]

/-- The first point of a block of rows clears the scratch and adds its part. -/
theorem first (c : Dev nD) (t : Fin cfg0.N) (h : t.val % 4 = 0) (y : S512x1024.Idx) :
    (outsAt0 m c t.val t.isLt).2.2.2.2 y = 0 + part m c t y := by
  rw [outsAt0_A m c t h (by omega) (by omega) (by omega), part_0 m c t y (by omega)]; frame_out
  unfold_payloads
  pointwise [dot]

/-- Every other point adds its part to what the points before it left. -/
theorem step (c : Dev nD) (t : Fin cfg0.N) (h : ¬t.val % 4 = 0) (y : S512x1024.Idx) :
    (outsAt0 m c t.val t.isLt).2.2.2.2 y
      = (outsAt0 m c (t.val - 1) (Nat.lt_of_le_of_lt (Nat.sub_le _ _) t.isLt)).2.2.2.2 y + part m c t y := by
  by_cases h1 : t.val % 4 ≤ 1
  · rw [outsAt0_B m c t h h1 (by omega) (by omega), part_0 m c t y h1]; frame_out
    unfold_payloads
    pointwise [dot]
    blk_point [iblk, V, idx t]
    exact congrFun (Memref.IsWhole.read_unread _ _) y
  · by_cases h3 : t.val % 4 = 3
    · by_cases h4 : t.val < 4
      · rw [outsAt0_D m c t h h1 (by omega) h3 h4, part_1 m c t y (by omega)]; frame_out
        unfold_payloads
        pointwise [dot]
        blk_point [iblk, V, idx t]
        exact congrFun (Memref.IsWhole.read_unread _ _) y
      · rw [outsAt0_E m c t h h1 (by omega) h3 h4, part_1 m c t y (by omega)]; frame_out
        unfold_payloads
        pointwise [dot]
        blk_point [iblk, V, idx t]
        exact congrFun (Memref.IsWhole.read_unread _ _) y
    · rw [outsAt0_C m c t h h1 (by omega) h3, part_1 m c t y (by omega)]; frame_out
      unfold_payloads
      pointwise [dot]
      blk_point [iblk, V, idx t]
      exact congrFun (Memref.IsWhole.read_unread _ _) y

/-- At the last point of a block of rows the scratch holds the four parts. -/
theorem scratch (c : Dev nD) (t : Fin cfg0.N) (h : t.val % 4 = 3) (y : S512x1024.Idx) :
    (outsAt0 m c t.val t.isLt).2.2.2.2 y = ∑ s : Fin 4, part m c (nth t s) y :=
  (Pipeline.eq_sum_fin_of_reset_step_apply_of_flush (fun n h => ((outsAt0 m c n h).2.2.2.2 : S512x1024.Idx → EReal)) 4
    (fun _ => 0) (fun t y => part m c t y) (fun t h y => first m c t h y) (fun t h y => step m c t h y) t h y).trans (zero_add _)

/-- A row of the gradient at the norm's output, from a scratch and a block of the residual. -/
def tot (s x : FVec Ideal S512x1024 .f32) (r : Fin 512) (j : Fin 1024) : EReal :=
  s (ix2 r j) + Ideal.ofBits .f32 0x3FD744FD#32 * x (ix2 r j)

/-- At the last point of a block of rows it is the array's. -/
theorem dy_blk (c : Dev nD) (t : Fin cfg0.N) (h : t.val % 4 = 3) (r : Fin 512) (j : Fin 1024) :
    tot (outsAt0 m c t.val t.isLt).2.2.2.2 (iblk m c 3 t) r j = (dy (m ((c : Thread nD τ).loc main_arg0)) (m ((c : Thread nD τ).loc main_arg1)) (m ((c : Thread nD τ).loc main_arg2)) (m ((c : Thread nD τ).loc main_arg3))) (rowOf t r) j := by
  unfold tot dy
  refine congrArg₂ (· + ·) ((scratch m c t h (ix2 r j)).trans ?_) (congrArg (_ * ·) (x_blk m c t r j))
  refine Fin.sum_mul_add_congr fun s k hl => ?_
  have hr : rowOf (nth t s) r = rowOf t r := Fin.ext (by simp only [rowOf, nth]; omega)
  have hk : chan (nth t s) k = ⟨s.val * 1408 + k.val, hl⟩ := Fin.ext (by simp only [chan, nth]; omega)
  show cat _ _ (rowOf (nth t s) r) (chan (nth t s) k) * (m ((c : Thread nD τ).loc main_arg2) : FVec Ideal S5632x1024 .bf16) (ix2 (chan (nth t s) k) j) = _
  rw [hr, hk]

/-- The gradient of the norm's input, one element at a time. -/
def dz (a b : FVec Ideal S4096x2816 .bf16) (w : FVec Ideal S5632x1024 .bf16) (x z : FVec Ideal S4096x1024 .f32)
    (g : FVec Ideal S1x1024 .f32) : FVec Ideal S4096x1024 .f32 := fun i =>
  back (xhat (line z (i 0))) (rstd (line z (i 0))) (fun k => dy a b w x (i 0) k * g (ix2 0 k)) (i 1)

/-- The gradient of the norm's scale. -/
def dg (a b : FVec Ideal S4096x2816 .bf16) (w : FVec Ideal S5632x1024 .bf16) (x z : FVec Ideal S4096x1024 .f32) :
    FVec Ideal S1x1024 .f32 := fun i => ∑ r : Fin 4096, dy a b w x r (i 1) * xhat (line z r) (i 1)

/-- The gradient of the norm's bias. -/
def db (a b : FVec Ideal S4096x2816 .bf16) (w : FVec Ideal S5632x1024 .bf16) (x : FVec Ideal S4096x1024 .f32) :
    FVec Ideal S1x1024 .f32 := fun i => ∑ r : Fin 4096, dy a b w x r (i 1)

/-- A block of the input's gradient. -/
def dzBlk (s x xh : FVec Ideal S512x1024 .f32) (rs : FVec Ideal S512x1 .f32) (g : FVec Ideal S1x1024 .f32) (y : S512x1024.Idx) : EReal :=
  back (fun k => xh (ix2 (y 0) k)) (rs (ix2 (y 0) 0)) (fun k => tot s x (y 0) k * g (ix2 0 k)) (y 1)

/-- It is the array's block. -/
theorem dzBlk_eq (c : Dev nD) (t : Fin cfg0.N) (h : t.val % 4 = 3) (y : S512x1024.Idx) :
    dzBlk (outsAt0 m c t.val t.isLt).2.2.2.2 (iblk m c 3 t) (iblk m c 4 t) (iblk m c 5 t) (iblk m c 6 t) y
      = dz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t (y 0)) (y 1)) := by
  unfold dzBlk dz
  have h0 := funext fun k => xh_blk m c t (y 0) k
  have h1 := rs_blk m c t (y 0)
  have h2 := funext fun k => congrArg₂ (· * ·) (dy_blk m c t h (y 0) k) (g_blk m c t k)
  exact congrFun (congr (congr (congrArg back h0) h1) h2) (y 1)

theorem out7 (c : Dev nD) (t : Fin cfg0.N) (h : t.val % 4 = 3) (y : S512x1024.Idx) : (outsAt0 m c t.val t.isLt).1 y
    = dzBlk (outsAt0 m c t.val t.isLt).2.2.2.2 (iblk m c 3 t) (iblk m c 4 t) (iblk m c 5 t) (iblk m c 6 t) y := by
  by_cases h4 : t.val < 4
  · rw [outsAt0_D m c t (by omega) (by omega) (by omega) h h4]; frame_out
    unfold_payloads
    pointwise [dzBlk, back, tot]
  · rw [outsAt0_E m c t (by omega) (by omega) (by omega) h h4]; frame_out
    unfold_payloads
    pointwise [dzBlk, back, tot]

theorem out8 (c : Dev nD) (t : Fin cfg0.N) (h : t.val % 4 = 3) (y : S512x1024.Idx) : (outsAt0 m c t.val t.isLt).2.1 y
    = dzBlk (outsAt0 m c t.val t.isLt).2.2.2.2 (iblk m c 3 t) (iblk m c 4 t) (iblk m c 5 t) (iblk m c 6 t) y := by
  by_cases h4 : t.val < 4
  · rw [outsAt0_D m c t (by omega) (by omega) (by omega) h h4]; frame_out
    unfold_payloads
    pointwise [dzBlk, back, tot]
  · rw [outsAt0_E m c t (by omega) (by omega) (by omega) h h4]; frame_out
    unfold_payloads
    pointwise [dzBlk, back, tot]

/-- The input's gradient. -/
theorem final7 (c : Dev nD) : (dats m 0 c).arrAt 7 (cfgs 0).N
    = dz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h : t.val % 4 = 3 := (flush0_7 t).mp hf
  have e0 : ((((cfg0.win 7).blk t).view.emb y) 0).val = win0_7.index t 0 * 512 + 1 * (y 0).val := rfl
  have e1 : ((((cfg0.win 7).blk t).view.emb y) 1).val = win0_7.index t 1 * 1024 + 1 * (y 1).val := rfl
  rw [(idx t).2.2.2.2.2.2.2.1] at e0 e1
  have hr : (((cfg0.win 7).blk t).view.emb y) 0 = rowOf t (y 0) := Fin.ext (by rw [e0]; simp [rowOf])
  have hj : (((cfg0.win 7).blk t).view.emb y) 1 = y 1 := Fin.ext (by rw [e1]; simp)
  blk_simp
  rw [after0_7]
  refine ((out7 m c t h y).trans (dzBlk_eq m c t h y)).trans (congrArg (dz _ _ _ _ _ _) ?_)
  funext k
  match k with
  | ⟨0, _⟩ => exact hr.symm
  | ⟨1, _⟩ => exact hj.symm

/-- The input's gradient rounded. -/
theorem final8 (c : Dev nD) : (dats m 0 c).arrAt 8 (cfgs 0).N
    = dz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have h : t.val % 4 = 3 := (flush0_8 t).mp hf
  have e0 : ((((cfg0.win 8).blk t).view.emb y) 0).val = win0_8.index t 0 * 512 + 1 * (y 0).val := rfl
  have e1 : ((((cfg0.win 8).blk t).view.emb y) 1).val = win0_8.index t 1 * 1024 + 1 * (y 1).val := rfl
  rw [(idx t).2.2.2.2.2.2.2.2.1] at e0 e1
  have hr : (((cfg0.win 8).blk t).view.emb y) 0 = rowOf t (y 0) := Fin.ext (by rw [e0]; simp [rowOf])
  have hj : (((cfg0.win 8).blk t).view.emb y) 1 = y 1 := Fin.ext (by rw [e1]; simp)
  blk_simp
  rw [after0_8]
  refine ((out8 m c t h y).trans (dzBlk_eq m c t h y)).trans (congrArg (dz _ _ _ _ _ _) ?_)
  funext k
  match k with
  | ⟨0, _⟩ => exact hr.symm
  | ⟨1, _⟩ => exact hj.symm

/-- The scale's part of a block of rows. -/
def blkG (s x xh : FVec Ideal S512x1024 .f32) (y : S1x1024.Idx) : EReal := ∑ r : Fin 512, tot s x r (y 1) * xh (ix2 r (y 1))

/-- The bias's part of a block of rows. -/
def blkB (s x : FVec Ideal S512x1024 .f32) (y : S1x1024.Idx) : EReal := ∑ r : Fin 512, tot s x r (y 1)

/-- Row `r` of block `a`. -/
def rowAt (a : Fin 8) (r : Fin 512) : Fin 4096 := ⟨a.val * 512 + r.val, by omega⟩

/-- What block `a` of rows adds to the scale's gradient. -/
def partG (c : Dev nD) (a : Nat) (y : S1x1024.Idx) : EReal :=
  if h : a < 8 then ∑ r : Fin 512, (dy (m ((c : Thread nD τ).loc main_arg0)) (m ((c : Thread nD τ).loc main_arg1)) (m ((c : Thread nD τ).loc main_arg2)) (m ((c : Thread nD τ).loc main_arg3))) (rowAt ⟨a, h⟩ r) (y 1) * xhat (line (m ((c : Thread nD τ).loc main_arg4) : FVec Ideal S4096x1024 .f32) (rowAt ⟨a, h⟩ r)) (y 1) else 0

/-- What block `a` of rows adds to the bias's gradient. -/
def partB (c : Dev nD) (a : Nat) (y : S1x1024.Idx) : EReal :=
  if h : a < 8 then ∑ r : Fin 512, (dy (m ((c : Thread nD τ).loc main_arg0)) (m ((c : Thread nD τ).loc main_arg1)) (m ((c : Thread nD τ).loc main_arg2)) (m ((c : Thread nD τ).loc main_arg3))) (rowAt ⟨a, h⟩ r) (y 1) else 0

theorem partG_eq (c : Dev nD) (t : Fin cfg0.N) (h : t.val % 4 = 3) (y : S1x1024.Idx) :
    blkG (outsAt0 m c t.val t.isLt).2.2.2.2 (iblk m c 3 t) (iblk m c 4 t) y = partG m c (t.val / 4) y := by
  unfold partG
  rw [dif_pos (by have := t.isLt; have : cfg0.N = 32 := N_0; omega)]
  exact Finset.sum_congr rfl fun r _ => congrArg₂ (· * ·) (dy_blk m c t h r (y 1)) (xh_blk m c t r (y 1))

theorem partB_eq (c : Dev nD) (t : Fin cfg0.N) (h : t.val % 4 = 3) (y : S1x1024.Idx) :
    blkB (outsAt0 m c t.val t.isLt).2.2.2.2 (iblk m c 3 t) y = partB m c (t.val / 4) y := by
  unfold partB
  rw [dif_pos (by have := t.isLt; have : cfg0.N = 32 := N_0; omega)]
  exact Finset.sum_congr rfl fun r _ => dy_blk m c t h r (y 1)

/-- The first block of rows clears the scale's gradient and adds its part. -/
theorem first9 (c : Dev nD) (t : Fin cfg0.N) (h : t.val % 4 = 3) (h4 : t.val < 4) (y : S1x1024.Idx) :
    (outsAt0 m c t.val t.isLt).2.2.1 y = 0 + blkG (outsAt0 m c t.val t.isLt).2.2.2.2 (iblk m c 3 t) (iblk m c 4 t) y := by
  rw [outsAt0_D m c t (by omega) (by omega) (by omega) h h4]; frame_out
  unfold_payloads
  pointwise [blkG, tot]

/-- Every other block of rows adds its part. -/
theorem step9 (c : Dev nD) (t : Fin cfg0.N) (h : t.val % 4 = 3) (h4 : ¬t.val < 4) (y : S1x1024.Idx) :
    (outsAt0 m c t.val t.isLt).2.2.1 y
      = (outsAt0 m c (t.val - 1) (Nat.lt_of_le_of_lt (Nat.sub_le _ _) t.isLt)).2.2.1 y + blkG (outsAt0 m c t.val t.isLt).2.2.2.2 (iblk m c 3 t) (iblk m c 4 t) y := by
  rw [outsAt0_E m c t (by omega) (by omega) (by omega) h h4]; frame_out
  unfold_payloads
  pointwise [blkG, tot]

/-- The points between leave it. -/
theorem keep9 (c : Dev nD) (t : Fin cfg0.N) (h : ¬t.val % 4 = 3) (y : S1x1024.Idx) :
    (outsAt0 m c t.val t.isLt).2.2.1 y = (outsAt0 m c (t.val - 1) (Nat.lt_of_le_of_lt (Nat.sub_le _ _) t.isLt)).2.2.1 y := by
  by_cases h0 : t.val % 4 = 0
  · rw [outsAt0_A m c t h0 (by omega) (by omega) h]; frame_out; rfl
  · by_cases h1 : t.val % 4 ≤ 1
    · rw [outsAt0_B m c t h0 h1 (by omega) h]; frame_out; rfl
    · rw [outsAt0_C m c t h0 h1 (by omega) h]; frame_out; rfl

/-- From the first block's last point on, it is the sum over the blocks of rows so far. -/
theorem sofar9 (c : Dev nD) (y : S1x1024.Idx) : ∀ (n : Nat) (h : n < cfg0.N), 3 ≤ n →
    (outsAt0 m c n h).2.2.1 y = ∑ a ∈ Finset.range ((n + 1) / 4), partG m c a y := by
  intro n
  induction n with
  | zero => intro h h3; omega
  | succ n ih =>
    intro h h3
    by_cases hm : (n + 1) % 4 = 3
    · have hp := partG_eq m c ⟨n + 1, h⟩ hm y
      by_cases h4 : n + 1 < 4
      · refine (first9 m c ⟨n + 1, h⟩ hm h4 y).trans ((congrArg (0 + ·) hp).trans ?_)
        have e : (n + 1 + 1) / 4 = 1 := by omega
        have e' : (n + 1) / 4 = 0 := by omega
        rw [e, Finset.sum_range_one, zero_add]
        exact congrArg (fun a => partG m c a y) e'
      · refine (step9 m c ⟨n + 1, h⟩ hm h4 y).trans ((congrArg₂ (· + ·) (ih (by omega) (by omega)) hp).trans ?_)
        have e : (n + 1 + 1) / 4 = (n + 1) / 4 + 1 := by omega
        rw [e, Finset.sum_range_succ]
    · refine (keep9 m c ⟨n + 1, h⟩ hm y).trans ((ih (by omega) (by omega)).trans ?_)
      have e : (n + 1 + 1) / 4 = (n + 1) / 4 := by omega
      rw [e]

/-- The scale's gradient. -/
theorem final9 (c : Dev nD) : (dats m 0 c).arrAt 9 (cfgs 0).N
    = dg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  have h : t.val % 32 = 31 := (flush0_9 t).mp hf
  have e1 : ((((cfg0.win 9).blk t).view.emb y) 1).val = win0_9.index t 1 * 1024 + 1 * (y 1).val := rfl
  rw [(idx t).2.2.2.2.2.2.2.2.2.1] at e1
  have hy : (y 1 : Fin 1024) = ((cfg0.win 9).blk t).view.emb y 1 := Fin.ext (by rw [e1]; simp)
  have e8 : (t.val + 1) / 4 = 8 := by have : t.val < 32 := lt_of_lt_of_eq t.isLt N_0; omega
  blk_simp
  rw [after0_9]
  refine (sofar9 m c y t.val t.isLt (by omega)).trans ?_
  rw [e8, Finset.sum_range]
  unfold dg
  refine (Finset.sum_congr rfl fun a _ => dif_pos a.isLt).trans (Fin.sum_mul_add_congr fun s k hl => ?_)
  have hr : rowAt ⟨s.val, s.isLt⟩ k = ⟨s.val * 512 + k.val, hl⟩ := rfl
  rw [← hy, ← hr]

/-- The first block of rows clears the bias's gradient and adds its part. -/
theorem first10 (c : Dev nD) (t : Fin cfg0.N) (h : t.val % 4 = 3) (h4 : t.val < 4) (y : S1x1024.Idx) :
    (outsAt0 m c t.val t.isLt).2.2.2.1 y = 0 + blkB (outsAt0 m c t.val t.isLt).2.2.2.2 (iblk m c 3 t) y := by
  rw [outsAt0_D m c t (by omega) (by omega) (by omega) h h4]; frame_out
  unfold_payloads
  pointwise [blkB, tot]

/-- Every other block of rows adds its part. -/
theorem step10 (c : Dev nD) (t : Fin cfg0.N) (h : t.val % 4 = 3) (h4 : ¬t.val < 4) (y : S1x1024.Idx) :
    (outsAt0 m c t.val t.isLt).2.2.2.1 y
      = (outsAt0 m c (t.val - 1) (Nat.lt_of_le_of_lt (Nat.sub_le _ _) t.isLt)).2.2.2.1 y + blkB (outsAt0 m c t.val t.isLt).2.2.2.2 (iblk m c 3 t) y := by
  rw [outsAt0_E m c t (by omega) (by omega) (by omega) h h4]; frame_out
  unfold_payloads
  pointwise [blkB, tot]

/-- The points between leave it. -/
theorem keep10 (c : Dev nD) (t : Fin cfg0.N) (h : ¬t.val % 4 = 3) (y : S1x1024.Idx) :
    (outsAt0 m c t.val t.isLt).2.2.2.1 y = (outsAt0 m c (t.val - 1) (Nat.lt_of_le_of_lt (Nat.sub_le _ _) t.isLt)).2.2.2.1 y := by
  by_cases h0 : t.val % 4 = 0
  · rw [outsAt0_A m c t h0 (by omega) (by omega) h]; frame_out; rfl
  · by_cases h1 : t.val % 4 ≤ 1
    · rw [outsAt0_B m c t h0 h1 (by omega) h]; frame_out; rfl
    · rw [outsAt0_C m c t h0 h1 (by omega) h]; frame_out; rfl

/-- From the first block's last point on, it is the sum over the blocks of rows so far. -/
theorem sofar10 (c : Dev nD) (y : S1x1024.Idx) : ∀ (n : Nat) (h : n < cfg0.N), 3 ≤ n →
    (outsAt0 m c n h).2.2.2.1 y = ∑ a ∈ Finset.range ((n + 1) / 4), partB m c a y := by
  intro n
  induction n with
  | zero => intro h h3; omega
  | succ n ih =>
    intro h h3
    by_cases hm : (n + 1) % 4 = 3
    · have hp := partB_eq m c ⟨n + 1, h⟩ hm y
      by_cases h4 : n + 1 < 4
      · refine (first10 m c ⟨n + 1, h⟩ hm h4 y).trans ((congrArg (0 + ·) hp).trans ?_)
        have e : (n + 1 + 1) / 4 = 1 := by omega
        have e' : (n + 1) / 4 = 0 := by omega
        rw [e, Finset.sum_range_one, zero_add]
        exact congrArg (fun a => partB m c a y) e'
      · refine (step10 m c ⟨n + 1, h⟩ hm h4 y).trans ((congrArg₂ (· + ·) (ih (by omega) (by omega)) hp).trans ?_)
        have e : (n + 1 + 1) / 4 = (n + 1) / 4 + 1 := by omega
        rw [e, Finset.sum_range_succ]
    · refine (keep10 m c ⟨n + 1, h⟩ hm y).trans ((ih (by omega) (by omega)).trans ?_)
      have e : (n + 1 + 1) / 4 = (n + 1) / 4 := by omega
      rw [e]

/-- The bias's gradient. -/
theorem final10 (c : Dev nD) : (dats m 0 c).arrAt 10 (cfgs 0).N
    = db (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  have h : t.val % 32 = 31 := (flush0_10 t).mp hf
  have e1 : ((((cfg0.win 10).blk t).view.emb y) 1).val = win0_10.index t 1 * 1024 + 1 * (y 1).val := rfl
  rw [(idx t).2.2.2.2.2.2.2.2.2.2] at e1
  have hy : (y 1 : Fin 1024) = ((cfg0.win 10).blk t).view.emb y 1 := Fin.ext (by rw [e1]; simp)
  have e8 : (t.val + 1) / 4 = 8 := by have : t.val < 32 := lt_of_lt_of_eq t.isLt N_0; omega
  blk_simp
  rw [after0_10]
  refine (sofar10 m c y t.val t.isLt (by omega)).trans ?_
  rw [e8, Finset.sum_range]
  unfold db
  refine (Finset.sum_congr rfl fun a _ => dif_pos a.isLt).trans (Fin.sum_mul_add_congr fun s k hl => ?_)
  have hr : rowAt ⟨s.val, s.isLt⟩ k = ⟨s.val * 512 + k.val, hl⟩ := rfl
  rw [← hy, ← hr]

/-- The reference's gradient at the norm's output. -/
theorem ref_dy (a b : FVec Ideal S4096x2816 .bf16) (w : FVec Ideal S5632x1024 .bf16) (x : FVec Ideal S4096x1024 .f32) (r : Fin 4096) (j : Fin 1024) :
    Cert.PlainDxUpIdeal.Read.val_main_v39 (F := Ideal) a b w x (ix2 r j) = dy a b w x r j := by
  pointwise [Cert.PlainDxUpIdeal.Read.val_main_cst, Cert.PlainDxUpIdeal.Read.val_main_cst_0, Cert.PlainDxUpIdeal.Read.val_main_cst_1, Cert.PlainDxUpIdeal.Read.val_main_cst_2, Cert.PlainDxUpIdeal.Read.val_main_cst_3, Cert.PlainDxUpIdeal.Read.val_main_cst_4, Cert.PlainDxUpIdeal.Read.val_main_cst_5, Cert.PlainDxUpIdeal.Read.val_main_cst_6, Cert.PlainDxUpIdeal.Read.val_main_cst_7, Cert.PlainDxUpIdeal.Read.val_main_cst_8, Cert.PlainDxUpIdeal.Read.val_main_v0, Cert.PlainDxUpIdeal.Read.val_main_v1, Cert.PlainDxUpIdeal.Read.val_main_v2, Cert.PlainDxUpIdeal.Read.val_main_v3, Cert.PlainDxUpIdeal.Read.val_main_v4, Cert.PlainDxUpIdeal.Read.val_main_v36, Cert.PlainDxUpIdeal.Read.val_main_v37, Cert.PlainDxUpIdeal.Read.val_main_v38, Cert.PlainDxUpIdeal.Read.val_main_v39, dy, cat]

/-- The reference's standardised rows. -/
theorem ref_xh (z : FVec Ideal S4096x1024 .f32) (r : Fin 4096) (j : Fin 1024) :
    Cert.PlainDxUpIdeal.Read.val_main_v28 (F := Ideal) z (ix2 r j) = xhat (line z r) j := by
  pointwise [Cert.PlainDxUpIdeal.Read.val_main_cst, Cert.PlainDxUpIdeal.Read.val_main_cst_0, Cert.PlainDxUpIdeal.Read.val_main_cst_1, Cert.PlainDxUpIdeal.Read.val_main_cst_2, Cert.PlainDxUpIdeal.Read.val_main_cst_3, Cert.PlainDxUpIdeal.Read.val_main_cst_4, Cert.PlainDxUpIdeal.Read.val_main_cst_5, Cert.PlainDxUpIdeal.Read.val_main_v6, Cert.PlainDxUpIdeal.Read.val_main_v7, Cert.PlainDxUpIdeal.Read.val_main_v8, Cert.PlainDxUpIdeal.Read.val_main_v9, Cert.PlainDxUpIdeal.Read.val_main_v10, Cert.PlainDxUpIdeal.Read.val_main_v11, Cert.PlainDxUpIdeal.Read.val_main_v12, Cert.PlainDxUpIdeal.Read.val_main_v13, Cert.PlainDxUpIdeal.Read.val_main_v14, Cert.PlainDxUpIdeal.Read.val_main_v15, Cert.PlainDxUpIdeal.Read.val_main_v16, Cert.PlainDxUpIdeal.Read.val_main_v17, Cert.PlainDxUpIdeal.Read.val_main_v18, Cert.PlainDxUpIdeal.Read.val_main_v19, Cert.PlainDxUpIdeal.Read.val_main_v20, Cert.PlainDxUpIdeal.Read.val_main_v21, Cert.PlainDxUpIdeal.Read.val_main_v22, Cert.PlainDxUpIdeal.Read.val_main_v23, Cert.PlainDxUpIdeal.Read.val_main_v24, Cert.PlainDxUpIdeal.Read.val_main_v25, Cert.PlainDxUpIdeal.Read.val_main_v26, Cert.PlainDxUpIdeal.Read.val_main_v27, Cert.PlainDxUpIdeal.Read.val_main_v28, xhat, rstd, var, mean, line]

/-- The reference's gradient of the norm's input, by the chain rule. -/
theorem ref7 (a b : FVec Ideal S4096x2816 .bf16) (w : FVec Ideal S5632x1024 .bf16) (x z : FVec Ideal S4096x1024 .f32) (g : FVec Ideal S1x1024 .f32) :
    Cert.PlainDxUpIdeal.Read.val_main_v70 (F := Ideal) a b w x z g = fun i => chain (line z (i 0)) (fun k => dy a b w x (i 0) k * g (ix2 0 k)) (i 1) := by
  funext i; idx_vars i
  pointwise [Cert.PlainDxUpIdeal.Read.val_main_cst, Cert.PlainDxUpIdeal.Read.val_main_cst_0, Cert.PlainDxUpIdeal.Read.val_main_cst_1, Cert.PlainDxUpIdeal.Read.val_main_cst_2, Cert.PlainDxUpIdeal.Read.val_main_cst_3, Cert.PlainDxUpIdeal.Read.val_main_cst_4, Cert.PlainDxUpIdeal.Read.val_main_cst_5, Cert.PlainDxUpIdeal.Read.val_main_cst_6, Cert.PlainDxUpIdeal.Read.val_main_cst_7, Cert.PlainDxUpIdeal.Read.val_main_cst_8, Cert.PlainDxUpIdeal.Read.val_main_cst_9, Cert.PlainDxUpIdeal.Read.val_main_cst_10, Cert.PlainDxUpIdeal.Read.val_main_cst_11, Cert.PlainDxUpIdeal.Read.val_main_cst_12, Cert.PlainDxUpIdeal.Read.val_main_cst_13, Cert.PlainDxUpIdeal.Read.val_main_cst_14, Cert.PlainDxUpIdeal.Read.val_main_cst_15, Cert.PlainDxUpIdeal.Read.val_main_cst_16, Cert.PlainDxUpIdeal.Read.val_main_cst_17, Cert.PlainDxUpIdeal.Read.val_main_v6, Cert.PlainDxUpIdeal.Read.val_main_v7, Cert.PlainDxUpIdeal.Read.val_main_v8, Cert.PlainDxUpIdeal.Read.val_main_v9, Cert.PlainDxUpIdeal.Read.val_main_v10, Cert.PlainDxUpIdeal.Read.val_main_v11, Cert.PlainDxUpIdeal.Read.val_main_v12, Cert.PlainDxUpIdeal.Read.val_main_v13, Cert.PlainDxUpIdeal.Read.val_main_v14, Cert.PlainDxUpIdeal.Read.val_main_v15, Cert.PlainDxUpIdeal.Read.val_main_v16, Cert.PlainDxUpIdeal.Read.val_main_v17, Cert.PlainDxUpIdeal.Read.val_main_v18, Cert.PlainDxUpIdeal.Read.val_main_v19, Cert.PlainDxUpIdeal.Read.val_main_v20, Cert.PlainDxUpIdeal.Read.val_main_v21, Cert.PlainDxUpIdeal.Read.val_main_v22, Cert.PlainDxUpIdeal.Read.val_main_v23, Cert.PlainDxUpIdeal.Read.val_main_v24, Cert.PlainDxUpIdeal.Read.val_main_v25, Cert.PlainDxUpIdeal.Read.val_main_v26, Cert.PlainDxUpIdeal.Read.val_main_v27, Cert.PlainDxUpIdeal.Read.val_main_v28, Cert.PlainDxUpIdeal.Read.val_main_v45, Cert.PlainDxUpIdeal.Read.val_main_v46, Cert.PlainDxUpIdeal.Read.val_main_v47, Cert.PlainDxUpIdeal.Read.val_main_v48, Cert.PlainDxUpIdeal.Read.val_main_v49, Cert.PlainDxUpIdeal.Read.val_main_v50, Cert.PlainDxUpIdeal.Read.val_main_v51, Cert.PlainDxUpIdeal.Read.val_main_v52, Cert.PlainDxUpIdeal.Read.val_main_v53, Cert.PlainDxUpIdeal.Read.val_main_v54, Cert.PlainDxUpIdeal.Read.val_main_v55, Cert.PlainDxUpIdeal.Read.val_main_v56, Cert.PlainDxUpIdeal.Read.val_main_v57, Cert.PlainDxUpIdeal.Read.val_main_v58, Cert.PlainDxUpIdeal.Read.val_main_v59, Cert.PlainDxUpIdeal.Read.val_main_v60, Cert.PlainDxUpIdeal.Read.val_main_v61, Cert.PlainDxUpIdeal.Read.val_main_v62, Cert.PlainDxUpIdeal.Read.val_main_v63, Cert.PlainDxUpIdeal.Read.val_main_v64, Cert.PlainDxUpIdeal.Read.val_main_v65, Cert.PlainDxUpIdeal.Read.val_main_v66, Cert.PlainDxUpIdeal.Read.val_main_v67, Cert.PlainDxUpIdeal.Read.val_main_v68, Cert.PlainDxUpIdeal.Read.val_main_v69, Cert.PlainDxUpIdeal.Read.val_main_v70, ref_dy, chain, gradVar, rstd, var, mean, line]
  simp only [Finset.univ_unique, Finset.sum_const, Finset.card_singleton, one_smul]

/-- The reference's gradient of the norm's input rounded. -/
theorem ref8 (a b : FVec Ideal S4096x2816 .bf16) (w : FVec Ideal S5632x1024 .bf16) (x z : FVec Ideal S4096x1024 .f32) (g : FVec Ideal S1x1024 .f32) :
    Cert.PlainDxUpIdeal.Read.val_main_v71 (F := Ideal) a b w x z g = Cert.PlainDxUpIdeal.Read.val_main_v70 (F := Ideal) a b w x z g := rfl

/-- The reference's gradient of the scale. -/
theorem ref9 (a b : FVec Ideal S4096x2816 .bf16) (w : FVec Ideal S5632x1024 .bf16) (x z : FVec Ideal S4096x1024 .f32) :
    Cert.PlainDxUpIdeal.Read.val_main_v44 (F := Ideal) a b w x z = dg a b w x z := by
  funext i; idx_vars i
  pointwise [Cert.PlainDxUpIdeal.Read.val_main_v44, Cert.PlainDxUpIdeal.Read.val_main_v43, Cert.PlainDxUpIdeal.Read.val_main_v42, Cert.PlainDxUpIdeal.Read.val_main_cst_10, ref_dy, ref_xh, dg]
  exact Finset.sum_congr rfl fun r _ => mul_comm _ _

/-- The reference's gradient of the bias. -/
theorem ref10 (a b : FVec Ideal S4096x2816 .bf16) (w : FVec Ideal S5632x1024 .bf16) (x : FVec Ideal S4096x1024 .f32) :
    Cert.PlainDxUpIdeal.Read.val_main_v41 (F := Ideal) a b w x = db a b w x := by
  funext i; idx_vars i
  pointwise [Cert.PlainDxUpIdeal.Read.val_main_v41, Cert.PlainDxUpIdeal.Read.val_main_v40, Cert.PlainDxUpIdeal.Read.val_main_cst_9, ref_dy, db]

/-- On finite arguments the two forms agree. -/
theorem chain_eq (a b : FVec Ideal S4096x2816 .bf16) (w : FVec Ideal S5632x1024 .bf16) (x z : FVec Ideal S4096x1024 .f32) (g : FVec Ideal S1x1024 .f32) (ha : ∀ i, IsReal (a i)) (hb : ∀ i, IsReal (b i)) (hw : ∀ i, IsReal (w i)) (hx : ∀ i, IsReal (x i))
    (hz : ∀ i, IsReal (z i)) (hg : ∀ i, IsReal (g i)) :
    (fun i : S4096x1024.Idx => chain (line z (i 0)) (fun k => dy a b w x (i 0) k * g (ix2 0 k)) (i 1)) = dz a b w x z g := by
  funext i
  refine (back_eq (fun k => hz _) (fun k => ?_) (i 1)).symm
  refine ((IsReal.sum fun q => IsReal.mul ?_ (hw _)).add (real_alpha.mul (hx _))).mul (hg _)
  unfold cat
  by_cases h : q.val < 2816
  · rw [dif_pos h]; exact ha _
  · rw [dif_neg h]; exact hb _

/-- The side conditions of the precondition's program. -/
instance preFacts : Cert.Pre_finite_dxup.Facts where
  bitsLt_bf16_f32 := by decide
  bcast_S_S4096x2816 := by decide
  bcast_S_S5632x1024 := by decide
  bcast_S_S4096x1024 := by decide
  bcast_S_S1x1024 := by decide

/-- The kernel and the gradient agree over the extended reals on finite arguments. -/
theorem algebraic : Cert.algebraic_DxUpIdeal_PlainDxUpIdeal_pre_finite_dxup := by
  pair_intro
  · run_from Cert.DxUpIdeal.Value.run_blocks m g
  · have hd (c : Dev nD) := chain_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (fun i => .of_olt ofBits_inf (congrFun (hpre c).1 i))
      (fun i => .of_olt ofBits_inf (congrFun (hpre c).2.1 i)) (fun i => .of_olt ofBits_inf (congrFun (hpre c).2.2.1 i))
      (fun i => .of_olt ofBits_inf (congrFun (hpre c).2.2.2.1 i)) (fun i => .of_olt ofBits_inf (congrFun (hpre c).2.2.2.2.1 i))
      (fun i => .of_olt ofBits_inf (congrFun (hpre c).2.2.2.2.2 i))
    refine Idealize.ShloMosaic.θ_run_mono (Cert.PlainDxUpIdeal.Value.run m' g') fun r hr c => ?_
    obtain ⟨a0, a1, a2, a3, a4, a5⟩ := hagree c
    obtain ⟨h0, h1, h2, h3, hs⟩ := hr c
    refine ⟨h0.trans ?_, h1.trans ?_, h2.trans ?_, h3.trans ?_, hs⟩
    · rw [Cert.PlainDxUpIdeal.Read.val_main_v70_eq m' c, a0, a1, a2, a3, a4, a5]
      exact (ref7 ..).trans ((hd c).trans (final7 m c).symm)
    · rw [Cert.PlainDxUpIdeal.Read.val_main_v71_eq m' c, a0, a1, a2, a3, a4, a5]
      exact (ref8 ..).trans ((ref7 ..).trans ((hd c).trans (final8 m c).symm))
    · refine (Cert.PlainDxUpIdeal.Read.val_main_v44_eq ..).trans ((ref9 ..).trans ?_)
      rw [a0, a1, a2, a3, a4]
      exact (final9 m c).symm
    · refine (Cert.PlainDxUpIdeal.Read.val_main_v41_eq ..).trans ((ref10 ..).trans ?_)
      rw [a0, a1, a2, a3]
      exact (final10 m c).symm

end Cert.DxUpProof
-- ==== Proof.DxQ.lean ====
module

public import proofs.«01_k».proof.Defs
public import proofs.«01_k».proof.Proof.Gen.DxQIdeal.Value
public import proofs.«01_k».proof.Proof.Gen.PlainDxQIdeal.Run
public import proofs.«01_k».proof.Proof.Gen.PlainDxQIdeal.Read
public import proofs.«01_k».proof.Proof.LnMath
public import Idealize.ShloMosaic.Lib.Pointwise
public import Idealize.ShloMosaic.Lib.Pipeline.ValueKit
public import Idealize.ShloMosaic.Lib.Pipeline.ReadBack

@[expose] public section

set_option maxRecDepth 16384

noncomputable section

/-! The gradient through the cross-attention's query projection, the residual and the layer norm before it. -/

namespace Cert.DxQProof

open Cert.DxQIdeal Cert.DxQIdeal.Gen Idealize.ShloMosaic Idealize.ShloMosaic.TcCoe Idealize.SL.Sem
open Idealize.ShloMosaic.Pipeline (Dat)
open Cert.DownLnProof (mean var rstd xhat)
open Cert.LnProof

variable (m : (ℓ : Loc nD τ sig) → Buf (Elt Ideal) ℓ)

/-- The gradient at the norm's output: the product and the scaled residual. -/
def dy {R : Nat} (a : FVec Ideal (⟨2, ![R, 512]⟩) .bf16) (b : FVec Ideal S1024x512 .bf16)
    (x : FVec Ideal (⟨2, ![R, 1024]⟩) .f32) (r : Fin R) (j : Fin 1024) : EReal :=
  (∑ k : Fin 512, a (ix2 r k) * b (ix2 j k)) + Ideal.ofBits .f32 0x3FD744FD#32 * x (ix2 r j)

/-- A row of an array. -/
def line {R : Nat} (z : FVec Ideal (⟨2, ![R, 1024]⟩) .f32) (r : Fin R) (j : Fin 1024) : EReal := z (ix2 r j)

/-- The blocks of every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- Row `r` of grid point `t`'s block. -/
def rowOf (t : Fin cfg0.N) (r : Fin 512) : Fin 4096 :=
  ⟨t.val * 512 + r.val, by have := t.isLt; have : cfg0.N = 8 := N_0; omega⟩

/-- The standardised rows the host prepares. -/
theorem V_xh (c : Dev nD) : (V m c main_v17 : FVec Ideal S4096x1024 .f32)
    = fun i => xhat (line (m ((c : Thread nD τ).loc main_arg3) : FVec Ideal S4096x1024 .f32) (i 0)) (i 1) := by
  entry_read
  funext i; idx_vars i
  pointwise [xhat, rstd, var, mean, line]

/-- The reciprocal standard deviations the host prepares. -/
theorem V_rs (c : Dev nD) : (V m c main_v13 : FVec Ideal S4096x1 .f32)
    = fun i => rstd (line (m ((c : Thread nD τ).loc main_arg3) : FVec Ideal S4096x1024 .f32) (i 0)) := by
  entry_read
  funext i; idx_vars i
  pointwise [rstd, var, mean, line]

/-- A block's gradient rows are the array's. -/
theorem dy_blk (c : Dev nD) (t : Fin cfg0.N) (r : Fin 512) :
    dy (iblk m c 0 t : FVec Ideal S512x512 .bf16) (iblk m c 1 t : FVec Ideal S1024x512 .bf16) (iblk m c 2 t : FVec Ideal S512x1024 .f32) r
      = (dy (m ((c : Thread nD τ).loc main_arg0)) (m ((c : Thread nD τ).loc main_arg1)) (m ((c : Thread nD τ).loc main_arg2))) (rowOf t r) := by
  funext j
  unfold dy
  blk_point [iblk, V, idx t, rowOf]

/-- A block's standardised rows. -/
theorem xh_blk (c : Dev nD) (t : Fin cfg0.N) (r : Fin 512) (j : Fin 1024) :
    (iblk m c 3 t : FVec Ideal S512x1024 .f32) (ix2 r j) = xhat (line (m ((c : Thread nD τ).loc main_arg3) : FVec Ideal S4096x1024 .f32) (rowOf t r)) j := by
  refine (?_ : _ = (V m c main_v17 : FVec Ideal S4096x1024 .f32) (ix2 (rowOf t r) j)).trans (congrFun (V_xh m c) _)
  blk_point [iblk, idx t, rowOf]

/-- A block's reciprocal standard deviations. -/
theorem rs_blk (c : Dev nD) (t : Fin cfg0.N) (r : Fin 512) :
    (iblk m c 4 t : FVec Ideal S512x1 .f32) (ix2 r 0) = rstd (line (m ((c : Thread nD τ).loc main_arg3) : FVec Ideal S4096x1024 .f32) (rowOf t r)) := by
  refine (?_ : _ = (V m c main_v13 : FVec Ideal S4096x1 .f32) (ix2 (rowOf t r) 0)).trans (congrFun (V_rs m c) _)
  blk_point [iblk, idx t, rowOf]

/-- The norm's scale. -/
theorem g_blk (c : Dev nD) (t : Fin cfg0.N) (j : Fin 1024) :
    (iblk m c 5 t : FVec Ideal S1x1024 .f32) (ix2 0 j) = (m ((c : Thread nD τ).loc main_arg4) : FVec Ideal S1x1024 .f32) (ix2 0 j) := by
  blk_point [iblk, V, idx t]

/-- The gradient of the norm's input, one element at a time. -/
def dz (a : FVec Ideal S4096x512 .bf16) (b : FVec Ideal S1024x512 .bf16) (x z : FVec Ideal S4096x1024 .f32)
    (g : FVec Ideal S1x1024 .f32) : FVec Ideal S4096x1024 .f32 := fun i =>
  back (xhat (line z (i 0))) (rstd (line z (i 0))) (fun k => dy a b x (i 0) k * g (ix2 0 k)) (i 1)

/-- The gradient of the norm's scale. -/
def dg (a : FVec Ideal S4096x512 .bf16) (b : FVec Ideal S1024x512 .bf16) (x z : FVec Ideal S4096x1024 .f32) :
    FVec Ideal S1x1024 .f32 := fun i => ∑ r : Fin 4096, dy a b x r (i 1) * xhat (line z r) (i 1)

/-- The gradient of the norm's bias. -/
def db (a : FVec Ideal S4096x512 .bf16) (b : FVec Ideal S1024x512 .bf16) (x : FVec Ideal S4096x1024 .f32) :
    FVec Ideal S1x1024 .f32 := fun i => ∑ r : Fin 4096, dy a b x r (i 1)

/-- A grid point's block of the input's gradient. -/
def dzBlk (c : Dev nD) (t : Fin cfg0.N) (y : S512x1024.Idx) : EReal :=
  back (fun k => (iblk m c 3 t : FVec Ideal S512x1024 .f32) (ix2 (y 0) k)) ((iblk m c 4 t : FVec Ideal S512x1 .f32) (ix2 (y 0) 0))
    (fun k => dy (iblk m c 0 t : FVec Ideal S512x512 .bf16) (iblk m c 1 t : FVec Ideal S1024x512 .bf16) (iblk m c 2 t : FVec Ideal S512x1024 .f32) (y 0) k
      * (iblk m c 5 t : FVec Ideal S1x1024 .f32) (ix2 0 k)) (y 1)

/-- It is the array's block. -/
theorem dzBlk_eq (c : Dev nD) (t : Fin cfg0.N) (y : S512x1024.Idx) : dzBlk m c t y
    = dz (m ((c : Thread nD τ).loc main_arg0)) (m ((c : Thread nD τ).loc main_arg1)) (m ((c : Thread nD τ).loc main_arg2))
      (m ((c : Thread nD τ).loc main_arg3)) (m ((c : Thread nD τ).loc main_arg4)) (ix2 (rowOf t (y 0)) (y 1)) := by
  unfold dzBlk dz
  have h0 := funext fun k => xh_blk m c t (y 0) k
  have h1 := rs_blk m c t (y 0)
  have h2 := funext fun k => congrArg₂ (· * ·) (congrFun (dy_blk m c t (y 0)) k) (g_blk m c t k)
  exact congrFun (congr (congr (congrArg back h0) h1) h2) (y 1)

theorem out6 (c : Dev nD) (t : Fin cfg0.N) (y : S512x1024.Idx) : (outsAt0 m c t.val t.isLt).1 y = dzBlk m c t y := by
  by_cases h : t.val % 8 = 0
  · rw [outsAt0_A m c t h]; frame_out
    unfold_payloads
    pointwise [dzBlk, back, dy]
  · rw [outsAt0_B m c t h]; frame_out
    unfold_payloads
    pointwise [dzBlk, back, dy]

theorem out7 (c : Dev nD) (t : Fin cfg0.N) (y : S512x1024.Idx) : (outsAt0 m c t.val t.isLt).2.1 y = dzBlk m c t y := by
  by_cases h : t.val % 8 = 0
  · rw [outsAt0_A m c t h]; frame_out
    unfold_payloads
    pointwise [dzBlk, back, dy]
  · rw [outsAt0_B m c t h]; frame_out
    unfold_payloads
    pointwise [dzBlk, back, dy]

/-- The input's gradient. -/
theorem final6 (c : Dev nD) : (dats m 0 c).arrAt 6 (cfgs 0).N
    = dz (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  have e0 : ((((cfg0.win 6).blk t).view.emb y) 0).val = win0_6.index t 0 * 512 + 1 * (y 0).val := rfl
  have e1 : ((((cfg0.win 6).blk t).view.emb y) 1).val = win0_6.index t 1 * 1024 + 1 * (y 1).val := rfl
  rw [(idx t).2.2.2.2.2.2.1] at e0 e1
  have hr : (((cfg0.win 6).blk t).view.emb y) 0 = rowOf t (y 0) := Fin.ext (by rw [e0]; simp [rowOf])
  have hj : (((cfg0.win 6).blk t).view.emb y) 1 = y 1 := Fin.ext (by rw [e1]; simp)
  blk_simp
  rw [after0_6]
  refine ((out6 m c t y).trans (dzBlk_eq m c t y)).trans (congrArg (dz _ _ _ _ _) ?_)
  funext k
  match k with
  | ⟨0, _⟩ => exact hr.symm
  | ⟨1, _⟩ => exact hj.symm

/-- The input's gradient rounded. -/
theorem final7 (c : Dev nD) : (dats m 0 c).arrAt 7 (cfgs 0).N
    = dz (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  have e0 : ((((cfg0.win 7).blk t).view.emb y) 0).val = win0_7.index t 0 * 512 + 1 * (y 0).val := rfl
  have e1 : ((((cfg0.win 7).blk t).view.emb y) 1).val = win0_7.index t 1 * 1024 + 1 * (y 1).val := rfl
  rw [(idx t).2.2.2.2.2.2.2.1] at e0 e1
  have hr : (((cfg0.win 7).blk t).view.emb y) 0 = rowOf t (y 0) := Fin.ext (by rw [e0]; simp [rowOf])
  have hj : (((cfg0.win 7).blk t).view.emb y) 1 = y 1 := Fin.ext (by rw [e1]; simp)
  blk_simp
  rw [after0_7]
  refine ((out7 m c t y).trans (dzBlk_eq m c t y)).trans (congrArg (dz _ _ _ _ _) ?_)
  funext k
  match k with
  | ⟨0, _⟩ => exact hr.symm
  | ⟨1, _⟩ => exact hj.symm

/-- Point `s` of the run. -/
def nth (t : Fin cfg0.N) (s : Fin 8) : Fin cfg0.N :=
  ⟨8 * (t.val / 8) + s.val, by have := t.isLt; have : cfg0.N = 8 := N_0; omega⟩

/-- What a grid point adds to the scale's gradient. -/
def partG (c : Dev nD) (t : Fin cfg0.N) (y : S1x1024.Idx) : EReal :=
  ∑ r : Fin 512, (dy (m ((c : Thread nD τ).loc main_arg0)) (m ((c : Thread nD τ).loc main_arg1)) (m ((c : Thread nD τ).loc main_arg2))) (rowOf t r) (y 1) * xhat (line (m ((c : Thread nD τ).loc main_arg3) : FVec Ideal S4096x1024 .f32) (rowOf t r)) (y 1)

/-- What a grid point adds to the bias's gradient. -/
def partB (c : Dev nD) (t : Fin cfg0.N) (y : S1x1024.Idx) : EReal :=
  ∑ r : Fin 512, (dy (m ((c : Thread nD τ).loc main_arg0)) (m ((c : Thread nD τ).loc main_arg1)) (m ((c : Thread nD τ).loc main_arg2))) (rowOf t r) (y 1)

/-- The scale's part from a point's blocks. -/
def blkG (a : FVec Ideal S512x512 .bf16) (b : FVec Ideal S1024x512 .bf16) (x xh : FVec Ideal S512x1024 .f32) (y : S1x1024.Idx) : EReal :=
  ∑ r : Fin 512, dy a b x r (y 1) * xh (ix2 r (y 1))

/-- The bias's part from a point's blocks. -/
def blkB (a : FVec Ideal S512x512 .bf16) (b : FVec Ideal S1024x512 .bf16) (x : FVec Ideal S512x1024 .f32) (y : S1x1024.Idx) : EReal :=
  ∑ r : Fin 512, dy a b x r (y 1)

theorem partG_eq (c : Dev nD) (t : Fin cfg0.N) (y : S1x1024.Idx) :
    partG m c t y = blkG (iblk m c 0 t) (iblk m c 1 t) (iblk m c 2 t) (iblk m c 3 t) y :=
  Finset.sum_congr rfl fun r _ => congrArg₂ (· * ·) (congrFun (dy_blk m c t r) (y 1)).symm (xh_blk m c t r (y 1)).symm

theorem partB_eq (c : Dev nD) (t : Fin cfg0.N) (y : S1x1024.Idx) :
    partB m c t y = blkB (iblk m c 0 t) (iblk m c 1 t) (iblk m c 2 t) y :=
  Finset.sum_congr rfl fun r _ => (congrFun (dy_blk m c t r) (y 1)).symm

theorem first8 (c : Dev nD) (t : Fin cfg0.N) (h : t.val % 8 = 0) (y : S1x1024.Idx) :
    (outsAt0 m c t.val t.isLt).2.2.1 y = 0 + partG m c t y := by
  rw [outsAt0_A m c t h, partG_eq m c t y]; frame_out
  unfold_payloads
  pointwise [blkG, dy]

theorem step8 (c : Dev nD) (t : Fin cfg0.N) (h : ¬t.val % 8 = 0) (y : S1x1024.Idx) :
    (outsAt0 m c t.val t.isLt).2.2.1 y
      = (outsAt0 m c (t.val - 1) (Nat.lt_of_le_of_lt (Nat.sub_le _ _) t.isLt)).2.2.1 y + partG m c t y := by
  rw [outsAt0_B m c t h, partG_eq m c t y]; frame_out
  unfold_payloads
  pointwise [blkG, dy]

/-- The scale's gradient. -/
theorem final8 (c : Dev nD) : (dats m 0 c).arrAt 8 (cfgs 0).N
    = dg (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have h : t.val % 8 = 7 := (flush0_8 t).mp hf
  have e1 : ((((cfg0.win 8).blk t).view.emb y) 1).val = win0_8.index t 1 * 1024 + 1 * (y 1).val := rfl
  rw [(idx t).2.2.2.2.2.2.2.2.1] at e1
  have hy : (y 1 : Fin 1024) = ((cfg0.win 8).blk t).view.emb y 1 := Fin.ext (by rw [e1]; simp)
  blk_simp
  rw [after0_8]
  refine ((Pipeline.eq_sum_fin_of_reset_step_apply_of_flush (fun n h => ((outsAt0 m c n h).2.2.1 : S1x1024.Idx → EReal)) 8
    (fun _ => 0) (fun t y => partG m c t y) (fun t h y => first8 m c t h y) (fun t h y => step8 m c t h y) t h y).trans (zero_add _)).trans ?_
  unfold dg
  refine Fin.sum_mul_add_congr fun s k hl => ?_
  have hr : rowOf (nth t s) k = ⟨s.val * 512 + k.val, hl⟩ := Fin.ext (by
    have : t.val < 8 := lt_of_lt_of_eq t.isLt N_0; simp only [rowOf, nth]; omega)
  rw [← hy, ← hr]
  rfl

theorem first9 (c : Dev nD) (t : Fin cfg0.N) (h : t.val % 8 = 0) (y : S1x1024.Idx) :
    (outsAt0 m c t.val t.isLt).2.2.2 y = 0 + partB m c t y := by
  rw [outsAt0_A m c t h, partB_eq m c t y]; frame_out
  unfold_payloads
  pointwise [blkB, dy]

theorem step9 (c : Dev nD) (t : Fin cfg0.N) (h : ¬t.val % 8 = 0) (y : S1x1024.Idx) :
    (outsAt0 m c t.val t.isLt).2.2.2 y
      = (outsAt0 m c (t.val - 1) (Nat.lt_of_le_of_lt (Nat.sub_le _ _) t.isLt)).2.2.2 y + partB m c t y := by
  rw [outsAt0_B m c t h, partB_eq m c t y]; frame_out
  unfold_payloads
  pointwise [blkB, dy]

/-- The bias's gradient. -/
theorem final9 (c : Dev nD) : (dats m 0 c).arrAt 9 (cfgs 0).N
    = db (m ((c : Thread nD τ).loc main_arg0)) (m ((c : Thread nD τ).loc main_arg1)) (m ((c : Thread nD τ).loc main_arg2)) := by
  refine (dats m 0 c).arrAt_eq_of_covers 9 _ (by decide +kernel) fun t hf y => ?_
  have h : t.val % 8 = 7 := (flush0_9 t).mp hf
  have e1 : ((((cfg0.win 9).blk t).view.emb y) 1).val = win0_9.index t 1 * 1024 + 1 * (y 1).val := rfl
  rw [(idx t).2.2.2.2.2.2.2.2.2] at e1
  have hy : (y 1 : Fin 1024) = ((cfg0.win 9).blk t).view.emb y 1 := Fin.ext (by rw [e1]; simp)
  blk_simp
  rw [after0_9]
  refine ((Pipeline.eq_sum_fin_of_reset_step_apply_of_flush (fun n h => ((outsAt0 m c n h).2.2.2 : S1x1024.Idx → EReal)) 8
    (fun _ => 0) (fun t y => partB m c t y) (fun t h y => first9 m c t h y) (fun t h y => step9 m c t h y) t h y).trans (zero_add _)).trans ?_
  unfold db
  refine Fin.sum_mul_add_congr fun s k hl => ?_
  have hr : rowOf (nth t s) k = ⟨s.val * 512 + k.val, hl⟩ := Fin.ext (by
    have : t.val < 8 := lt_of_lt_of_eq t.isLt N_0; simp only [rowOf, nth]; omega)
  rw [← hy, ← hr]
  rfl

/-- The reference's gradient at the norm's output. -/
theorem ref_dy (a : FVec Ideal S4096x512 .bf16) (b : FVec Ideal S1024x512 .bf16) (x : FVec Ideal S4096x1024 .f32) (r : Fin 4096) (j : Fin 1024) :
    Cert.PlainDxQIdeal.Read.val_main_v36 (F := Ideal) a b x (ix2 r j) = dy a b x r j := by
  pointwise [Cert.PlainDxQIdeal.Read.val_main_cst, Cert.PlainDxQIdeal.Read.val_main_cst_0, Cert.PlainDxQIdeal.Read.val_main_cst_1, Cert.PlainDxQIdeal.Read.val_main_cst_2, Cert.PlainDxQIdeal.Read.val_main_cst_3, Cert.PlainDxQIdeal.Read.val_main_cst_4, Cert.PlainDxQIdeal.Read.val_main_cst_5, Cert.PlainDxQIdeal.Read.val_main_cst_6, Cert.PlainDxQIdeal.Read.val_main_cst_7, Cert.PlainDxQIdeal.Read.val_main_cst_8, Cert.PlainDxQIdeal.Read.val_main_v0, Cert.PlainDxQIdeal.Read.val_main_v1, Cert.PlainDxQIdeal.Read.val_main_v33, Cert.PlainDxQIdeal.Read.val_main_v34, Cert.PlainDxQIdeal.Read.val_main_v35, Cert.PlainDxQIdeal.Read.val_main_v36, dy]

/-- The reference's standardised rows. -/
theorem ref_xh (z : FVec Ideal S4096x1024 .f32) (r : Fin 4096) (j : Fin 1024) :
    Cert.PlainDxQIdeal.Read.val_main_v25 (F := Ideal) z (ix2 r j) = xhat (line z r) j := by
  pointwise [Cert.PlainDxQIdeal.Read.val_main_cst, Cert.PlainDxQIdeal.Read.val_main_cst_0, Cert.PlainDxQIdeal.Read.val_main_cst_1, Cert.PlainDxQIdeal.Read.val_main_cst_2, Cert.PlainDxQIdeal.Read.val_main_cst_3, Cert.PlainDxQIdeal.Read.val_main_cst_4, Cert.PlainDxQIdeal.Read.val_main_cst_5, Cert.PlainDxQIdeal.Read.val_main_v3, Cert.PlainDxQIdeal.Read.val_main_v4, Cert.PlainDxQIdeal.Read.val_main_v5, Cert.PlainDxQIdeal.Read.val_main_v6, Cert.PlainDxQIdeal.Read.val_main_v7, Cert.PlainDxQIdeal.Read.val_main_v8, Cert.PlainDxQIdeal.Read.val_main_v9, Cert.PlainDxQIdeal.Read.val_main_v10, Cert.PlainDxQIdeal.Read.val_main_v11, Cert.PlainDxQIdeal.Read.val_main_v12, Cert.PlainDxQIdeal.Read.val_main_v13, Cert.PlainDxQIdeal.Read.val_main_v14, Cert.PlainDxQIdeal.Read.val_main_v15, Cert.PlainDxQIdeal.Read.val_main_v16, Cert.PlainDxQIdeal.Read.val_main_v17, Cert.PlainDxQIdeal.Read.val_main_v18, Cert.PlainDxQIdeal.Read.val_main_v19, Cert.PlainDxQIdeal.Read.val_main_v20, Cert.PlainDxQIdeal.Read.val_main_v21, Cert.PlainDxQIdeal.Read.val_main_v22, Cert.PlainDxQIdeal.Read.val_main_v23, Cert.PlainDxQIdeal.Read.val_main_v24, Cert.PlainDxQIdeal.Read.val_main_v25, xhat, rstd, var, mean, line]

/-- The reference's gradient of the norm's input, by the chain rule. -/
theorem ref6 (a : FVec Ideal S4096x512 .bf16) (b : FVec Ideal S1024x512 .bf16) (x z : FVec Ideal S4096x1024 .f32) (g : FVec Ideal S1x1024 .f32) :
    Cert.PlainDxQIdeal.Read.val_main_v67 (F := Ideal) a b x z g = fun i => chain (line z (i 0)) (fun k => dy a b x (i 0) k * g (ix2 0 k)) (i 1) := by
  funext i; idx_vars i
  pointwise [Cert.PlainDxQIdeal.Read.val_main_cst, Cert.PlainDxQIdeal.Read.val_main_cst_0, Cert.PlainDxQIdeal.Read.val_main_cst_1, Cert.PlainDxQIdeal.Read.val_main_cst_2, Cert.PlainDxQIdeal.Read.val_main_cst_3, Cert.PlainDxQIdeal.Read.val_main_cst_4, Cert.PlainDxQIdeal.Read.val_main_cst_5, Cert.PlainDxQIdeal.Read.val_main_cst_6, Cert.PlainDxQIdeal.Read.val_main_cst_7, Cert.PlainDxQIdeal.Read.val_main_cst_8, Cert.PlainDxQIdeal.Read.val_main_cst_9, Cert.PlainDxQIdeal.Read.val_main_cst_10, Cert.PlainDxQIdeal.Read.val_main_cst_11, Cert.PlainDxQIdeal.Read.val_main_cst_12, Cert.PlainDxQIdeal.Read.val_main_cst_13, Cert.PlainDxQIdeal.Read.val_main_cst_14, Cert.PlainDxQIdeal.Read.val_main_cst_15, Cert.PlainDxQIdeal.Read.val_main_cst_16, Cert.PlainDxQIdeal.Read.val_main_cst_17, Cert.PlainDxQIdeal.Read.val_main_v3, Cert.PlainDxQIdeal.Read.val_main_v4, Cert.PlainDxQIdeal.Read.val_main_v5, Cert.PlainDxQIdeal.Read.val_main_v6, Cert.PlainDxQIdeal.Read.val_main_v7, Cert.PlainDxQIdeal.Read.val_main_v8, Cert.PlainDxQIdeal.Read.val_main_v9, Cert.PlainDxQIdeal.Read.val_main_v10, Cert.PlainDxQIdeal.Read.val_main_v11, Cert.PlainDxQIdeal.Read.val_main_v12, Cert.PlainDxQIdeal.Read.val_main_v13, Cert.PlainDxQIdeal.Read.val_main_v14, Cert.PlainDxQIdeal.Read.val_main_v15, Cert.PlainDxQIdeal.Read.val_main_v16, Cert.PlainDxQIdeal.Read.val_main_v17, Cert.PlainDxQIdeal.Read.val_main_v18, Cert.PlainDxQIdeal.Read.val_main_v19, Cert.PlainDxQIdeal.Read.val_main_v20, Cert.PlainDxQIdeal.Read.val_main_v21, Cert.PlainDxQIdeal.Read.val_main_v22, Cert.PlainDxQIdeal.Read.val_main_v23, Cert.PlainDxQIdeal.Read.val_main_v24, Cert.PlainDxQIdeal.Read.val_main_v25, Cert.PlainDxQIdeal.Read.val_main_v42, Cert.PlainDxQIdeal.Read.val_main_v43, Cert.PlainDxQIdeal.Read.val_main_v44, Cert.PlainDxQIdeal.Read.val_main_v45, Cert.PlainDxQIdeal.Read.val_main_v46, Cert.PlainDxQIdeal.Read.val_main_v47, Cert.PlainDxQIdeal.Read.val_main_v48, Cert.PlainDxQIdeal.Read.val_main_v49, Cert.PlainDxQIdeal.Read.val_main_v50, Cert.PlainDxQIdeal.Read.val_main_v51, Cert.PlainDxQIdeal.Read.val_main_v52, Cert.PlainDxQIdeal.Read.val_main_v53, Cert.PlainDxQIdeal.Read.val_main_v54, Cert.PlainDxQIdeal.Read.val_main_v55, Cert.PlainDxQIdeal.Read.val_main_v56, Cert.PlainDxQIdeal.Read.val_main_v57, Cert.PlainDxQIdeal.Read.val_main_v58, Cert.PlainDxQIdeal.Read.val_main_v59, Cert.PlainDxQIdeal.Read.val_main_v60, Cert.PlainDxQIdeal.Read.val_main_v61, Cert.PlainDxQIdeal.Read.val_main_v62, Cert.PlainDxQIdeal.Read.val_main_v63, Cert.PlainDxQIdeal.Read.val_main_v64, Cert.PlainDxQIdeal.Read.val_main_v65, Cert.PlainDxQIdeal.Read.val_main_v66, Cert.PlainDxQIdeal.Read.val_main_v67, ref_dy, chain, gradVar, rstd, var, mean, line]
  simp only [Finset.univ_unique, Finset.sum_const, Finset.card_singleton, one_smul]

/-- The reference's gradient of the norm's input rounded. -/
theorem ref7 (a : FVec Ideal S4096x512 .bf16) (b : FVec Ideal S1024x512 .bf16) (x z : FVec Ideal S4096x1024 .f32) (g : FVec Ideal S1x1024 .f32) :
    Cert.PlainDxQIdeal.Read.val_main_v68 (F := Ideal) a b x z g = Cert.PlainDxQIdeal.Read.val_main_v67 (F := Ideal) a b x z g := rfl

/-- The reference's gradient of the scale. -/
theorem ref8 (a : FVec Ideal S4096x512 .bf16) (b : FVec Ideal S1024x512 .bf16) (x z : FVec Ideal S4096x1024 .f32) :
    Cert.PlainDxQIdeal.Read.val_main_v41 (F := Ideal) a b x z = dg a b x z := by
  funext i; idx_vars i
  pointwise [Cert.PlainDxQIdeal.Read.val_main_v41, Cert.PlainDxQIdeal.Read.val_main_v40, Cert.PlainDxQIdeal.Read.val_main_v39, Cert.PlainDxQIdeal.Read.val_main_cst_10, ref_dy, ref_xh, dg]
  exact Finset.sum_congr rfl fun r _ => mul_comm _ _

/-- The reference's gradient of the bias. -/
theorem ref9 (a : FVec Ideal S4096x512 .bf16) (b : FVec Ideal S1024x512 .bf16) (x : FVec Ideal S4096x1024 .f32) :
    Cert.PlainDxQIdeal.Read.val_main_v38 (F := Ideal) a b x = db a b x := by
  funext i; idx_vars i
  pointwise [Cert.PlainDxQIdeal.Read.val_main_v38, Cert.PlainDxQIdeal.Read.val_main_v37, Cert.PlainDxQIdeal.Read.val_main_cst_9, ref_dy, db]

/-- On finite arguments the two forms agree. -/
theorem chain_eq (a : FVec Ideal S4096x512 .bf16) (b : FVec Ideal S1024x512 .bf16) (x z : FVec Ideal S4096x1024 .f32) (g : FVec Ideal S1x1024 .f32) (ha : ∀ i, IsReal (a i)) (hb : ∀ i, IsReal (b i)) (hx : ∀ i, IsReal (x i))
    (hz : ∀ i, IsReal (z i)) (hg : ∀ i, IsReal (g i)) :
    (fun i : S4096x1024.Idx => chain (line z (i 0)) (fun k => dy a b x (i 0) k * g (ix2 0 k)) (i 1)) = dz a b x z g := by
  funext i
  refine (back_eq (fun k => hz _) (fun k => ?_) (i 1)).symm
  exact ((IsReal.sum fun q => (ha _).mul (hb _)).add (real_alpha.mul (hx _))).mul (hg _)

/-- The side conditions of the precondition's program. -/
instance preFacts : Cert.Pre_finite_dxq.Facts where
  bitsLt_bf16_f32 := by decide
  bcast_S_S4096x512 := by decide
  bcast_S_S1024x512 := by decide
  bcast_S_S4096x1024 := by decide
  bcast_S_S1x1024 := by decide

/-- The kernel and the gradient agree over the extended reals on finite arguments. -/
theorem algebraic : Cert.algebraic_DxQIdeal_PlainDxQIdeal_pre_finite_dxq := by
  pair_intro
  · run_from Cert.DxQIdeal.Value.run_blocks m g
  · have hd (c : Dev nD) := chain_eq (m ((c : Thread nD τ).loc main_arg0)) (m ((c : Thread nD τ).loc main_arg1)) (m ((c : Thread nD τ).loc main_arg2))
      (m ((c : Thread nD τ).loc main_arg3)) (m ((c : Thread nD τ).loc main_arg4)) (fun i => .of_olt ofBits_inf (congrFun (hpre c).1 i))
      (fun i => .of_olt ofBits_inf (congrFun (hpre c).2.1 i)) (fun i => .of_olt ofBits_inf (congrFun (hpre c).2.2.1 i))
      (fun i => .of_olt ofBits_inf (congrFun (hpre c).2.2.2.1 i)) (fun i => .of_olt ofBits_inf (congrFun (hpre c).2.2.2.2 i))
    refine Idealize.ShloMosaic.θ_run_mono (Cert.PlainDxQIdeal.Value.run m' g') fun r hr c => ?_
    obtain ⟨a0, a1, a2, a3, a4⟩ := hagree c
    obtain ⟨h0, h1, h2, h3, hs⟩ := hr c
    refine ⟨h0.trans ?_, h1.trans ?_, h2.trans ?_, h3.trans ?_, hs⟩
    · rw [Cert.PlainDxQIdeal.Read.val_main_v67_eq m' c, a0, a1, a2, a3, a4]
      exact (ref6 ..).trans ((hd c).trans (final6 m c).symm)
    · rw [Cert.PlainDxQIdeal.Read.val_main_v68_eq m' c, a0, a1, a2, a3, a4]
      exact (ref7 ..).trans ((ref6 ..).trans ((hd c).trans (final7 m c).symm))
    · refine (Cert.PlainDxQIdeal.Read.val_main_v41_eq ..).trans ((ref8 ..).trans ?_)
      rw [a0, a1, a2, a3]
      exact (final8 m c).symm
    · refine (Cert.PlainDxQIdeal.Read.val_main_v38_eq ..).trans ((ref9 ..).trans ?_)
      rw [a0, a1, a2]
      exact (final9 m c).symm

end Cert.DxQProof
-- ==== Proof.AdamIn.lean ====
module

public import proofs.«01_k».proof.Defs
public import proofs.«01_k».proof.Proof.Gen.AdamInIdeal.Value
public import proofs.«01_k».proof.Proof.Gen.PlainAdamInIdeal.Run
public import proofs.«01_k».proof.Proof.Gen.PlainAdamInIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! AdamW on the in-projection and the feed-forward's up-projection: the pieces' sum, the step, and the two moments. -/

namespace Cert.AdamInProof

open Cert.AdamInIdeal Cert.AdamInIdeal.Gen Idealize.ShloMosaic Idealize.ShloMosaic.TcCoe Idealize.SL.Sem
open Idealize.ShloMosaic.Pipeline (Dat)

variable (m : (ℓ : Loc nD τ sig) → Buf (Elt Ideal) ℓ)

/-- A constant of the optimiser. -/
abbrev lit (b : BitVec 32) : EReal := Ideal.ofBits .f32 b

/-- The gradient: the sum of its eight pieces. -/
def grad (p : FVec Ideal S4x8x704x1024 .bf16) : FVec Ideal S4x704x1024 .f32 :=
  fun i => ∑ s : Fin 8, p (ix4 (i 0) s (i 1) (i 2))

/-- The first moment. -/
def mom (p : FVec Ideal S4x8x704x1024 .bf16) (a : FVec Ideal S4x704x1024 .f32) : FVec Ideal S4x704x1024 .f32 :=
  fun i => lit 0x3F666666#32 * a i + lit 0x3DCCCCCD#32 * grad p i

/-- The second moment. -/
def vel (p : FVec Ideal S4x8x704x1024 .bf16) (v : FVec Ideal S4x704x1024 .f32) : FVec Ideal S4x704x1024 .f32 :=
  fun i => lit 0x3F7FBE77#32 * v i + lit 0x3A83126F#32 * (grad p i * grad p i)

/-- The step. -/
def delta (p : FVec Ideal S4x8x704x1024 .bf16) (w a v : FVec Ideal S4x704x1024 .f32) : FVec Ideal S4x704x1024 .f32 :=
  fun i => lit 0xBA83126F#32 * (Ideal.div (Ideal.div (mom p a i) (lit 0x3F26BD02#32))
    (Ideal.sqrt (Ideal.div (vel p v i) (lit 0x3C231ACC#32)) + lit 0x322BCC77#32) + lit 0x3C23D70A#32 * w i)

/-- The blocks of every grid point. -/
theorem idx : ∀ t : Fin cfg0.N, win0_0.index t = ![t.val / 2, 0, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] :=
  (by decide +kernel : ∀ t : Fin grid0.N, _)

/-- Output 4 after the run. -/
theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  unfold_payloads
  pointwise [grad, lit]
  simp only [Fin.sum_univ_eight]
  blk_point [iblk, V, idx t]

/-- Output 5 after the run. -/
theorem final5 (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold_payloads
  pointwise [delta, mom, vel, grad, lit]
  simp only [Fin.sum_univ_eight]
  blk_point [iblk, V, idx t]

/-- Output 6 after the run. -/
theorem final6 (c : Dev nD) : (dats m 0 c).arrAt 6 (cfgs 0).N = mom (m ((c : Thread nD τ).loc main_arg0)) (m ((c : Thread nD τ).loc main_arg2)) := by
  refine (dats m 0 c).arrAt_eq_of_covers 6 _ (by decide +kernel) fun t _ y => ?_
  blk_simp
  rw [after0_6]; frame_out
  unfold_payloads
  pointwise [mom, grad, lit]
  simp only [Fin.sum_univ_eight]
  blk_point [iblk, V, idx t]

/-- Output 7 after the run. -/
theorem final7 (c : Dev nD) : (dats m 0 c).arrAt 7 (cfgs 0).N = vel (m ((c : Thread nD τ).loc main_arg0)) (m ((c : Thread nD τ).loc main_arg3)) := by
  refine (dats m 0 c).arrAt_eq_of_covers 7 _ (by decide +kernel) fun t _ y => ?_
  blk_simp
  rw [after0_7]; frame_out
  unfold_payloads
  pointwise [vel, grad, lit]
  simp only [Fin.sum_univ_eight]
  blk_point [iblk, V, idx t]

/-- The reference's grad. -/
theorem ref_grad (p : FVec Ideal S4x8x704x1024 .bf16) (w a v : FVec Ideal S4x704x1024 .f32) :
    Cert.PlainAdamInIdeal.Read.val_main_v1 (F := Ideal) p = grad p := by
  funext i; idx_vars i
  pointwise [Cert.PlainAdamInIdeal.Read.val_main_v1, Cert.PlainAdamInIdeal.Read.val_main_v0, Cert.PlainAdamInIdeal.Read.val_main_cst, grad]

/-- The reference's mom. -/
theorem ref_mom (p : FVec Ideal S4x8x704x1024 .bf16) (w a v : FVec Ideal S4x704x1024 .f32) :
    Cert.PlainAdamInIdeal.Read.val_main_v6 (F := Ideal) p a = mom p a := by
  funext i; idx_vars i
  pointwise [Cert.PlainAdamInIdeal.Read.val_main_v6, Cert.PlainAdamInIdeal.Read.val_main_v5, Cert.PlainAdamInIdeal.Read.val_main_v4, Cert.PlainAdamInIdeal.Read.val_main_v3, Cert.PlainAdamInIdeal.Read.val_main_v2, Cert.PlainAdamInIdeal.Read.val_main_cst_0, Cert.PlainAdamInIdeal.Read.val_main_cst_1, ref_grad p w a v, mom, lit]

/-- The reference's vel. -/
theorem ref_vel (p : FVec Ideal S4x8x704x1024 .bf16) (w a v : FVec Ideal S4x704x1024 .f32) :
    Cert.PlainAdamInIdeal.Read.val_main_v12 (F := Ideal) p v = vel p v := by
  funext i; idx_vars i
  pointwise [Cert.PlainAdamInIdeal.Read.val_main_v12, Cert.PlainAdamInIdeal.Read.val_main_v11, Cert.PlainAdamInIdeal.Read.val_main_v10, Cert.PlainAdamInIdeal.Read.val_main_v9, Cert.PlainAdamInIdeal.Read.val_main_v8, Cert.PlainAdamInIdeal.Read.val_main_v7, Cert.PlainAdamInIdeal.Read.val_main_cst_2, Cert.PlainAdamInIdeal.Read.val_main_cst_3, ref_grad p w a v, vel, lit]

/-- The reference's delta. -/
theorem ref_delta (p : FVec Ideal S4x8x704x1024 .bf16) (w a v : FVec Ideal S4x704x1024 .f32) :
    Cert.PlainAdamInIdeal.Read.val_main_v25 (F := Ideal) p w a v = delta p w a v := by
  funext i; idx_vars i
  pointwise [Cert.PlainAdamInIdeal.Read.val_main_v25, Cert.PlainAdamInIdeal.Read.val_main_v24, Cert.PlainAdamInIdeal.Read.val_main_v23, Cert.PlainAdamInIdeal.Read.val_main_v22, Cert.PlainAdamInIdeal.Read.val_main_v21, Cert.PlainAdamInIdeal.Read.val_main_v20, Cert.PlainAdamInIdeal.Read.val_main_v19, Cert.PlainAdamInIdeal.Read.val_main_v18, Cert.PlainAdamInIdeal.Read.val_main_v17, Cert.PlainAdamInIdeal.Read.val_main_v16, Cert.PlainAdamInIdeal.Read.val_main_v15, Cert.PlainAdamInIdeal.Read.val_main_v14, Cert.PlainAdamInIdeal.Read.val_main_v13, Cert.PlainAdamInIdeal.Read.val_main_cst_4, Cert.PlainAdamInIdeal.Read.val_main_cst_5, Cert.PlainAdamInIdeal.Read.val_main_cst_6, Cert.PlainAdamInIdeal.Read.val_main_cst_7, Cert.PlainAdamInIdeal.Read.val_main_cst_8, ref_mom p w a v, ref_vel p w a v, delta, lit]

/-- The kernel and the plain optimiser agree over the extended reals. -/
theorem algebraic : Cert.algebraic_AdamInIdeal_PlainAdamInIdeal := by
  pair_intro
  · run_from Cert.AdamInIdeal.Value.run_blocks m g
  · refine Idealize.ShloMosaic.θ_run_mono (Cert.PlainAdamInIdeal.Value.run m' g') fun r hr c => ?_
    obtain ⟨a0, a1, a2, a3⟩ := hagree c
    obtain ⟨h0, h1, h2, h3, hs⟩ := hr c
    refine ⟨h0.trans ?_, h1.trans ?_, h2.trans ?_, h3.trans ?_, hs⟩
    · rw [a0]; exact (Cert.PlainAdamInIdeal.Read.val_main_v1_eq ..).trans <| (ref_grad _ (m ((c : Thread nD τ).loc main_arg1)) (m ((c : Thread nD τ).loc main_arg2)) (m ((c : Thread nD τ).loc main_arg3))).trans (final4 m c).symm
    · rw [a0, a1, a2, a3]; exact (Cert.PlainAdamInIdeal.Read.val_main_v25_eq ..).trans <| (ref_delta ..).trans (final5 m c).symm
    · rw [a0, a2]; exact (Cert.PlainAdamInIdeal.Read.val_main_v6_eq ..).trans <| (ref_mom _ (m ((c : Thread nD τ).loc main_arg1)) _ (m ((c : Thread nD τ).loc main_arg3))).trans (final6 m c).symm
    · rw [a0, a3]; exact (Cert.PlainAdamInIdeal.Read.val_main_v12_eq ..).trans <| (ref_vel _ (m ((c : Thread nD τ).loc main_arg1)) (m ((c : Thread nD τ).loc main_arg2)) _).trans (final7 m c).symm

end Cert.AdamInProof
-- ==== Proof.AdamBranch.lean ====
module

public import proofs.«01_k».proof.Defs
public import proofs.«01_k».proof.Proof.Gen.AdamBranchIdeal.Value
public import proofs.«01_k».proof.Proof.Gen.PlainAdamBranchIdeal.Run
public import proofs.«01_k».proof.Proof.Gen.PlainAdamBranchIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! AdamW on the branch projection: the pieces' sum, the step, and the two moments. -/

namespace Cert.AdamBranchProof

open Cert.AdamBranchIdeal Cert.AdamBranchIdeal.Gen Idealize.ShloMosaic Idealize.ShloMosaic.TcCoe Idealize.SL.Sem
open Idealize.ShloMosaic.Pipeline (Dat)

variable (m : (ℓ : Loc nD τ sig) → Buf (Elt Ideal) ℓ)

/-- A constant of the optimiser. -/
abbrev lit (b : BitVec 32) : EReal := Ideal.ofBits .f32 b

/-- The gradient: the sum of its eight pieces. -/
def grad (p : FVec Ideal S4x8x1536x128 .bf16) : FVec Ideal S4x1536x128 .f32 :=
  fun i => ∑ s : Fin 8, p (ix4 (i 0) s (i 1) (i 2))

/-- The first moment. -/
def mom (p : FVec Ideal S4x8x1536x128 .bf16) (a : FVec Ideal S4x1536x128 .f32) : FVec Ideal S4x1536x128 .f32 :=
  fun i => lit 0x3F666666#32 * a i + lit 0x3DCCCCCD#32 * grad p i

/-- The second moment. -/
def vel (p : FVec Ideal S4x8x1536x128 .bf16) (v : FVec Ideal S4x1536x128 .f32) : FVec Ideal S4x1536x128 .f32 :=
  fun i => lit 0x3F7FBE77#32 * v i + lit 0x3A83126F#32 * (grad p i * grad p i)

/-- The step. -/
def delta (p : FVec Ideal S4x8x1536x128 .bf16) (w a v : FVec Ideal S4x1536x128 .f32) : FVec Ideal S4x1536x128 .f32 :=
  fun i => lit 0xBA83126F#32 * (Ideal.div (Ideal.div (mom p a i) (lit 0x3F26BD02#32))
    (Ideal.sqrt (Ideal.div (vel p v i) (lit 0x3C231ACC#32)) + lit 0x322BCC77#32) + lit 0x3C23D70A#32 * w i)

/-- The blocks of every grid point. -/
theorem idx : ∀ t : Fin cfg0.N, win0_0.index t = ![t.val, 0, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- Output 4 after the run. -/
theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  unfold_payloads
  pointwise [grad, lit]
  simp only [Fin.sum_univ_eight]
  blk_point [iblk, V, idx t]

/-- Output 5 after the run. -/
theorem final5 (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold_payloads
  pointwise [delta, mom, vel, grad, lit]
  simp only [Fin.sum_univ_eight]
  blk_point [iblk, V, idx t]

/-- Output 6 after the run. -/
theorem final6 (c : Dev nD) : (dats m 0 c).arrAt 6 (cfgs 0).N = mom (m ((c : Thread nD τ).loc main_arg0)) (m ((c : Thread nD τ).loc main_arg2)) := by
  refine (dats m 0 c).arrAt_eq_of_covers 6 _ (by decide +kernel) fun t _ y => ?_
  blk_simp
  rw [after0_6]; frame_out
  unfold_payloads
  pointwise [mom, grad, lit]
  simp only [Fin.sum_univ_eight]
  blk_point [iblk, V, idx t]

/-- Output 7 after the run. -/
theorem final7 (c : Dev nD) : (dats m 0 c).arrAt 7 (cfgs 0).N = vel (m ((c : Thread nD τ).loc main_arg0)) (m ((c : Thread nD τ).loc main_arg3)) := by
  refine (dats m 0 c).arrAt_eq_of_covers 7 _ (by decide +kernel) fun t _ y => ?_
  blk_simp
  rw [after0_7]; frame_out
  unfold_payloads
  pointwise [vel, grad, lit]
  simp only [Fin.sum_univ_eight]
  blk_point [iblk, V, idx t]

/-- The reference's grad. -/
theorem ref_grad (p : FVec Ideal S4x8x1536x128 .bf16) (w a v : FVec Ideal S4x1536x128 .f32) :
    Cert.PlainAdamBranchIdeal.Read.val_main_v1 (F := Ideal) p = grad p := by
  funext i; idx_vars i
  pointwise [Cert.PlainAdamBranchIdeal.Read.val_main_v1, Cert.PlainAdamBranchIdeal.Read.val_main_v0, Cert.PlainAdamBranchIdeal.Read.val_main_cst, grad]

/-- The reference's mom. -/
theorem ref_mom (p : FVec Ideal S4x8x1536x128 .bf16) (w a v : FVec Ideal S4x1536x128 .f32) :
    Cert.PlainAdamBranchIdeal.Read.val_main_v6 (F := Ideal) p a = mom p a := by
  funext i; idx_vars i
  pointwise [Cert.PlainAdamBranchIdeal.Read.val_main_v6, Cert.PlainAdamBranchIdeal.Read.val_main_v5, Cert.PlainAdamBranchIdeal.Read.val_main_v4, Cert.PlainAdamBranchIdeal.Read.val_main_v3, Cert.PlainAdamBranchIdeal.Read.val_main_v2, Cert.PlainAdamBranchIdeal.Read.val_main_cst_0, Cert.PlainAdamBranchIdeal.Read.val_main_cst_1, ref_grad p w a v, mom, lit]

/-- The reference's vel. -/
theorem ref_vel (p : FVec Ideal S4x8x1536x128 .bf16) (w a v : FVec Ideal S4x1536x128 .f32) :
    Cert.PlainAdamBranchIdeal.Read.val_main_v12 (F := Ideal) p v = vel p v := by
  funext i; idx_vars i
  pointwise [Cert.PlainAdamBranchIdeal.Read.val_main_v12, Cert.PlainAdamBranchIdeal.Read.val_main_v11, Cert.PlainAdamBranchIdeal.Read.val_main_v10, Cert.PlainAdamBranchIdeal.Read.val_main_v9, Cert.PlainAdamBranchIdeal.Read.val_main_v8, Cert.PlainAdamBranchIdeal.Read.val_main_v7, Cert.PlainAdamBranchIdeal.Read.val_main_cst_2, Cert.PlainAdamBranchIdeal.Read.val_main_cst_3, ref_grad p w a v, vel, lit]

/-- The reference's delta. -/
theorem ref_delta (p : FVec Ideal S4x8x1536x128 .bf16) (w a v : FVec Ideal S4x1536x128 .f32) :
    Cert.PlainAdamBranchIdeal.Read.val_main_v25 (F := Ideal) p w a v = delta p w a v := by
  funext i; idx_vars i
  pointwise [Cert.PlainAdamBranchIdeal.Read.val_main_v25, Cert.PlainAdamBranchIdeal.Read.val_main_v24, Cert.PlainAdamBranchIdeal.Read.val_main_v23, Cert.PlainAdamBranchIdeal.Read.val_main_v22, Cert.PlainAdamBranchIdeal.Read.val_main_v21, Cert.PlainAdamBranchIdeal.Read.val_main_v20, Cert.PlainAdamBranchIdeal.Read.val_main_v19, Cert.PlainAdamBranchIdeal.Read.val_main_v18, Cert.PlainAdamBranchIdeal.Read.val_main_v17, Cert.PlainAdamBranchIdeal.Read.val_main_v16, Cert.PlainAdamBranchIdeal.Read.val_main_v15, Cert.PlainAdamBranchIdeal.Read.val_main_v14, Cert.PlainAdamBranchIdeal.Read.val_main_v13, Cert.PlainAdamBranchIdeal.Read.val_main_cst_4, Cert.PlainAdamBranchIdeal.Read.val_main_cst_5, Cert.PlainAdamBranchIdeal.Read.val_main_cst_6, Cert.PlainAdamBranchIdeal.Read.val_main_cst_7, Cert.PlainAdamBranchIdeal.Read.val_main_cst_8, ref_mom p w a v, ref_vel p w a v, delta, lit]

/-- The kernel and the plain optimiser agree over the extended reals. -/
theorem algebraic : Cert.algebraic_AdamBranchIdeal_PlainAdamBranchIdeal := by
  pair_intro
  · run_from Cert.AdamBranchIdeal.Value.run_blocks m g
  · refine Idealize.ShloMosaic.θ_run_mono (Cert.PlainAdamBranchIdeal.Value.run m' g') fun r hr c => ?_
    obtain ⟨a0, a1, a2, a3⟩ := hagree c
    obtain ⟨h0, h1, h2, h3, hs⟩ := hr c
    refine ⟨h0.trans ?_, h1.trans ?_, h2.trans ?_, h3.trans ?_, hs⟩
    · rw [a0]; exact (Cert.PlainAdamBranchIdeal.Read.val_main_v1_eq ..).trans <| (ref_grad _ (m ((c : Thread nD τ).loc main_arg1)) (m ((c : Thread nD τ).loc main_arg2)) (m ((c : Thread nD τ).loc main_arg3))).trans (final4 m c).symm
    · rw [a0, a1, a2, a3]; exact (Cert.PlainAdamBranchIdeal.Read.val_main_v25_eq ..).trans <| (ref_delta ..).trans (final5 m c).symm
    · rw [a0, a2]; exact (Cert.PlainAdamBranchIdeal.Read.val_main_v6_eq ..).trans <| (ref_mom _ (m ((c : Thread nD τ).loc main_arg1)) _ (m ((c : Thread nD τ).loc main_arg3))).trans (final6 m c).symm
    · rw [a0, a3]; exact (Cert.PlainAdamBranchIdeal.Read.val_main_v12_eq ..).trans <| (ref_vel _ (m ((c : Thread nD τ).loc main_arg1)) (m ((c : Thread nD τ).loc main_arg2)) _).trans (final7 m c).symm

end Cert.AdamBranchProof
-- ==== Proof.AdamMix.lean ====
module

public import proofs.«01_k».proof.Defs
public import proofs.«01_k».proof.Proof.Gen.AdamMixIdeal.Value
public import proofs.«01_k».proof.Proof.Gen.PlainAdamMixIdeal.Run
public import proofs.«01_k».proof.Proof.Gen.PlainAdamMixIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! AdamW on the mixer's out-projection and the cross-attention's keys and values: the pieces' sum, the step, and the two moments. -/

namespace Cert.AdamMixProof

open Cert.AdamMixIdeal Cert.AdamMixIdeal.Gen Idealize.ShloMosaic Idealize.ShloMosaic.TcCoe Idealize.SL.Sem
open Idealize.ShloMosaic.Pipeline (Dat)

variable (m : (ℓ : Loc nD τ sig) → Buf (Elt Ideal) ℓ)

/-- A constant of the optimiser. -/
abbrev lit (b : BitVec 32) : EReal := Ideal.ofBits .f32 b

/-- The gradient: the sum of its eight pieces. -/
def grad (p : FVec Ideal S4x8x128x1024 .bf16) : FVec Ideal S4x128x1024 .f32 :=
  fun i => ∑ s : Fin 8, p (ix4 (i 0) s (i 1) (i 2))

/-- The first moment. -/
def mom (p : FVec Ideal S4x8x128x1024 .bf16) (a : FVec Ideal S4x128x1024 .f32) : FVec Ideal S4x128x1024 .f32 :=
  fun i => lit 0x3F666666#32 * a i + lit 0x3DCCCCCD#32 * grad p i

/-- The second moment. -/
def vel (p : FVec Ideal S4x8x128x1024 .bf16) (v : FVec Ideal S4x128x1024 .f32) : FVec Ideal S4x128x1024 .f32 :=
  fun i => lit 0x3F7FBE77#32 * v i + lit 0x3A83126F#32 * (grad p i * grad p i)

/-- The step. -/
def delta (p : FVec Ideal S4x8x128x1024 .bf16) (w a v : FVec Ideal S4x128x1024 .f32) : FVec Ideal S4x128x1024 .f32 :=
  fun i => lit 0xBA83126F#32 * (Ideal.div (Ideal.div (mom p a i) (lit 0x3F26BD02#32))
    (Ideal.sqrt (Ideal.div (vel p v i) (lit 0x3C231ACC#32)) + lit 0x322BCC77#32) + lit 0x3C23D70A#32 * w i)

/-- The blocks of every grid point. -/
theorem idx : ∀ t : Fin cfg0.N, win0_0.index t = ![t.val, 0, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- Output 4 after the run. -/
theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  unfold_payloads
  pointwise [grad, lit]
  simp only [Fin.sum_univ_eight]
  blk_point [iblk, V, idx t]

/-- Output 5 after the run. -/
theorem final5 (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold_payloads
  pointwise [delta, mom, vel, grad, lit]
  simp only [Fin.sum_univ_eight]
  blk_point [iblk, V, idx t]

/-- Output 6 after the run. -/
theorem final6 (c : Dev nD) : (dats m 0 c).arrAt 6 (cfgs 0).N = mom (m ((c : Thread nD τ).loc main_arg0)) (m ((c : Thread nD τ).loc main_arg2)) := by
  refine (dats m 0 c).arrAt_eq_of_covers 6 _ (by decide +kernel) fun t _ y => ?_
  blk_simp
  rw [after0_6]; frame_out
  unfold_payloads
  pointwise [mom, grad, lit]
  simp only [Fin.sum_univ_eight]
  blk_point [iblk, V, idx t]

/-- Output 7 after the run. -/
theorem final7 (c : Dev nD) : (dats m 0 c).arrAt 7 (cfgs 0).N = vel (m ((c : Thread nD τ).loc main_arg0)) (m ((c : Thread nD τ).loc main_arg3)) := by
  refine (dats m 0 c).arrAt_eq_of_covers 7 _ (by decide +kernel) fun t _ y => ?_
  blk_simp
  rw [after0_7]; frame_out
  unfold_payloads
  pointwise [vel, grad, lit]
  simp only [Fin.sum_univ_eight]
  blk_point [iblk, V, idx t]

/-- The reference's grad. -/
theorem ref_grad (p : FVec Ideal S4x8x128x1024 .bf16) (w a v : FVec Ideal S4x128x1024 .f32) :
    Cert.PlainAdamMixIdeal.Read.val_main_v1 (F := Ideal) p = grad p := by
  funext i; idx_vars i
  pointwise [Cert.PlainAdamMixIdeal.Read.val_main_v1, Cert.PlainAdamMixIdeal.Read.val_main_v0, Cert.PlainAdamMixIdeal.Read.val_main_cst, grad]

/-- The reference's mom. -/
theorem ref_mom (p : FVec Ideal S4x8x128x1024 .bf16) (w a v : FVec Ideal S4x128x1024 .f32) :
    Cert.PlainAdamMixIdeal.Read.val_main_v6 (F := Ideal) p a = mom p a := by
  funext i; idx_vars i
  pointwise [Cert.PlainAdamMixIdeal.Read.val_main_v6, Cert.PlainAdamMixIdeal.Read.val_main_v5, Cert.PlainAdamMixIdeal.Read.val_main_v4, Cert.PlainAdamMixIdeal.Read.val_main_v3, Cert.PlainAdamMixIdeal.Read.val_main_v2, Cert.PlainAdamMixIdeal.Read.val_main_cst_0, Cert.PlainAdamMixIdeal.Read.val_main_cst_1, ref_grad p w a v, mom, lit]

/-- The reference's vel. -/
theorem ref_vel (p : FVec Ideal S4x8x128x1024 .bf16) (w a v : FVec Ideal S4x128x1024 .f32) :
    Cert.PlainAdamMixIdeal.Read.val_main_v12 (F := Ideal) p v = vel p v := by
  funext i; idx_vars i
  pointwise [Cert.PlainAdamMixIdeal.Read.val_main_v12, Cert.PlainAdamMixIdeal.Read.val_main_v11, Cert.PlainAdamMixIdeal.Read.val_main_v10, Cert.PlainAdamMixIdeal.Read.val_main_v9, Cert.PlainAdamMixIdeal.Read.val_main_v8, Cert.PlainAdamMixIdeal.Read.val_main_v7, Cert.PlainAdamMixIdeal.Read.val_main_cst_2, Cert.PlainAdamMixIdeal.Read.val_main_cst_3, ref_grad p w a v, vel, lit]

/-- The reference's delta. -/
theorem ref_delta (p : FVec Ideal S4x8x128x1024 .bf16) (w a v : FVec Ideal S4x128x1024 .f32) :
    Cert.PlainAdamMixIdeal.Read.val_main_v25 (F := Ideal) p w a v = delta p w a v := by
  funext i; idx_vars i
  pointwise [Cert.PlainAdamMixIdeal.Read.val_main_v25, Cert.PlainAdamMixIdeal.Read.val_main_v24, Cert.PlainAdamMixIdeal.Read.val_main_v23, Cert.PlainAdamMixIdeal.Read.val_main_v22, Cert.PlainAdamMixIdeal.Read.val_main_v21, Cert.PlainAdamMixIdeal.Read.val_main_v20, Cert.PlainAdamMixIdeal.Read.val_main_v19, Cert.PlainAdamMixIdeal.Read.val_main_v18, Cert.PlainAdamMixIdeal.Read.val_main_v17, Cert.PlainAdamMixIdeal.Read.val_main_v16, Cert.PlainAdamMixIdeal.Read.val_main_v15, Cert.PlainAdamMixIdeal.Read.val_main_v14, Cert.PlainAdamMixIdeal.Read.val_main_v13, Cert.PlainAdamMixIdeal.Read.val_main_cst_4, Cert.PlainAdamMixIdeal.Read.val_main_cst_5, Cert.PlainAdamMixIdeal.Read.val_main_cst_6, Cert.PlainAdamMixIdeal.Read.val_main_cst_7, Cert.PlainAdamMixIdeal.Read.val_main_cst_8, ref_mom p w a v, ref_vel p w a v, delta, lit]

/-- The kernel and the plain optimiser agree over the extended reals. -/
theorem algebraic : Cert.algebraic_AdamMixIdeal_PlainAdamMixIdeal := by
  pair_intro
  · run_from Cert.AdamMixIdeal.Value.run_blocks m g
  · refine Idealize.ShloMosaic.θ_run_mono (Cert.PlainAdamMixIdeal.Value.run m' g') fun r hr c => ?_
    obtain ⟨a0, a1, a2, a3⟩ := hagree c
    obtain ⟨h0, h1, h2, h3, hs⟩ := hr c
    refine ⟨h0.trans ?_, h1.trans ?_, h2.trans ?_, h3.trans ?_, hs⟩
    · rw [a0]; exact (Cert.PlainAdamMixIdeal.Read.val_main_v1_eq ..).trans <| (ref_grad _ (m ((c : Thread nD τ).loc main_arg1)) (m ((c : Thread nD τ).loc main_arg2)) (m ((c : Thread nD τ).loc main_arg3))).trans (final4 m c).symm
    · rw [a0, a1, a2, a3]; exact (Cert.PlainAdamMixIdeal.Read.val_main_v25_eq ..).trans <| (ref_delta ..).trans (final5 m c).symm
    · rw [a0, a2]; exact (Cert.PlainAdamMixIdeal.Read.val_main_v6_eq ..).trans <| (ref_mom _ (m ((c : Thread nD τ).loc main_arg1)) _ (m ((c : Thread nD τ).loc main_arg3))).trans (final6 m c).symm
    · rw [a0, a3]; exact (Cert.PlainAdamMixIdeal.Read.val_main_v12_eq ..).trans <| (ref_vel _ (m ((c : Thread nD τ).loc main_arg1)) (m ((c : Thread nD τ).loc main_arg2)) _).trans (final7 m c).symm

end Cert.AdamMixProof
-- ==== Proof.AdamXq.lean ====
module

public import proofs.«01_k».proof.Defs
public import proofs.«01_k».proof.Proof.Gen.AdamXqIdeal.Value
public import proofs.«01_k».proof.Proof.Gen.PlainAdamXqIdeal.Run
public import proofs.«01_k».proof.Proof.Gen.PlainAdamXqIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! AdamW on the cross-attention's query projection: the pieces' sum, the step, and the two moments. -/

namespace Cert.AdamXqProof

open Cert.AdamXqIdeal Cert.AdamXqIdeal.Gen Idealize.ShloMosaic Idealize.ShloMosaic.TcCoe Idealize.SL.Sem
open Idealize.ShloMosaic.Pipeline (Dat)

variable (m : (ℓ : Loc nD τ sig) → Buf (Elt Ideal) ℓ)

/-- A constant of the optimiser. -/
abbrev lit (b : BitVec 32) : EReal := Ideal.ofBits .f32 b

/-- The gradient: the sum of its eight pieces. -/
def grad (p : FVec Ideal S4x8x128x512 .bf16) : FVec Ideal S4x128x512 .f32 :=
  fun i => ∑ s : Fin 8, p (ix4 (i 0) s (i 1) (i 2))

/-- The first moment. -/
def mom (p : FVec Ideal S4x8x128x512 .bf16) (a : FVec Ideal S4x128x512 .f32) : FVec Ideal S4x128x512 .f32 :=
  fun i => lit 0x3F666666#32 * a i + lit 0x3DCCCCCD#32 * grad p i

/-- The second moment. -/
def vel (p : FVec Ideal S4x8x128x512 .bf16) (v : FVec Ideal S4x128x512 .f32) : FVec Ideal S4x128x512 .f32 :=
  fun i => lit 0x3F7FBE77#32 * v i + lit 0x3A83126F#32 * (grad p i * grad p i)

/-- The step. -/
def delta (p : FVec Ideal S4x8x128x512 .bf16) (w a v : FVec Ideal S4x128x512 .f32) : FVec Ideal S4x128x512 .f32 :=
  fun i => lit 0xBA83126F#32 * (Ideal.div (Ideal.div (mom p a i) (lit 0x3F26BD02#32))
    (Ideal.sqrt (Ideal.div (vel p v i) (lit 0x3C231ACC#32)) + lit 0x322BCC77#32) + lit 0x3C23D70A#32 * w i)

/-- The blocks of every grid point. -/
theorem idx : ∀ t : Fin cfg0.N, win0_0.index t = ![t.val, 0, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- Output 4 after the run. -/
theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  unfold_payloads
  pointwise [grad, lit]
  simp only [Fin.sum_univ_eight]
  blk_point [iblk, V, idx t]

/-- Output 5 after the run. -/
theorem final5 (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold_payloads
  pointwise [delta, mom, vel, grad, lit]
  simp only [Fin.sum_univ_eight]
  blk_point [iblk, V, idx t]

/-- Output 6 after the run. -/
theorem final6 (c : Dev nD) : (dats m 0 c).arrAt 6 (cfgs 0).N = mom (m ((c : Thread nD τ).loc main_arg0)) (m ((c : Thread nD τ).loc main_arg2)) := by
  refine (dats m 0 c).arrAt_eq_of_covers 6 _ (by decide +kernel) fun t _ y => ?_
  blk_simp
  rw [after0_6]; frame_out
  unfold_payloads
  pointwise [mom, grad, lit]
  simp only [Fin.sum_univ_eight]
  blk_point [iblk, V, idx t]

/-- Output 7 after the run. -/
theorem final7 (c : Dev nD) : (dats m 0 c).arrAt 7 (cfgs 0).N = vel (m ((c : Thread nD τ).loc main_arg0)) (m ((c : Thread nD τ).loc main_arg3)) := by
  refine (dats m 0 c).arrAt_eq_of_covers 7 _ (by decide +kernel) fun t _ y => ?_
  blk_simp
  rw [after0_7]; frame_out
  unfold_payloads
  pointwise [vel, grad, lit]
  simp only [Fin.sum_univ_eight]
  blk_point [iblk, V, idx t]

/-- The reference's grad. -/
theorem ref_grad (p : FVec Ideal S4x8x128x512 .bf16) (w a v : FVec Ideal S4x128x512 .f32) :
    Cert.PlainAdamXqIdeal.Read.val_main_v1 (F := Ideal) p = grad p := by
  funext i; idx_vars i
  pointwise [Cert.PlainAdamXqIdeal.Read.val_main_v1, Cert.PlainAdamXqIdeal.Read.val_main_v0, Cert.PlainAdamXqIdeal.Read.val_main_cst, grad]

/-- The reference's mom. -/
theorem ref_mom (p : FVec Ideal S4x8x128x512 .bf16) (w a v : FVec Ideal S4x128x512 .f32) :
    Cert.PlainAdamXqIdeal.Read.val_main_v6 (F := Ideal) p a = mom p a := by
  funext i; idx_vars i
  pointwise [Cert.PlainAdamXqIdeal.Read.val_main_v6, Cert.PlainAdamXqIdeal.Read.val_main_v5, Cert.PlainAdamXqIdeal.Read.val_main_v4, Cert.PlainAdamXqIdeal.Read.val_main_v3, Cert.PlainAdamXqIdeal.Read.val_main_v2, Cert.PlainAdamXqIdeal.Read.val_main_cst_0, Cert.PlainAdamXqIdeal.Read.val_main_cst_1, ref_grad p w a v, mom, lit]

/-- The reference's vel. -/
theorem ref_vel (p : FVec Ideal S4x8x128x512 .bf16) (w a v : FVec Ideal S4x128x512 .f32) :
    Cert.PlainAdamXqIdeal.Read.val_main_v12 (F := Ideal) p v = vel p v := by
  funext i; idx_vars i
  pointwise [Cert.PlainAdamXqIdeal.Read.val_main_v12, Cert.PlainAdamXqIdeal.Read.val_main_v11, Cert.PlainAdamXqIdeal.Read.val_main_v10, Cert.PlainAdamXqIdeal.Read.val_main_v9, Cert.PlainAdamXqIdeal.Read.val_main_v8, Cert.PlainAdamXqIdeal.Read.val_main_v7, Cert.PlainAdamXqIdeal.Read.val_main_cst_2, Cert.PlainAdamXqIdeal.Read.val_main_cst_3, ref_grad p w a v, vel, lit]

/-- The reference's delta. -/
theorem ref_delta (p : FVec Ideal S4x8x128x512 .bf16) (w a v : FVec Ideal S4x128x512 .f32) :
    Cert.PlainAdamXqIdeal.Read.val_main_v25 (F := Ideal) p w a v = delta p w a v := by
  funext i; idx_vars i
  pointwise [Cert.PlainAdamXqIdeal.Read.val_main_v25, Cert.PlainAdamXqIdeal.Read.val_main_v24, Cert.PlainAdamXqIdeal.Read.val_main_v23, Cert.PlainAdamXqIdeal.Read.val_main_v22, Cert.PlainAdamXqIdeal.Read.val_main_v21, Cert.PlainAdamXqIdeal.Read.val_main_v20, Cert.PlainAdamXqIdeal.Read.val_main_v19, Cert.PlainAdamXqIdeal.Read.val_main_v18, Cert.PlainAdamXqIdeal.Read.val_main_v17, Cert.PlainAdamXqIdeal.Read.val_main_v16, Cert.PlainAdamXqIdeal.Read.val_main_v15, Cert.PlainAdamXqIdeal.Read.val_main_v14, Cert.PlainAdamXqIdeal.Read.val_main_v13, Cert.PlainAdamXqIdeal.Read.val_main_cst_4, Cert.PlainAdamXqIdeal.Read.val_main_cst_5, Cert.PlainAdamXqIdeal.Read.val_main_cst_6, Cert.PlainAdamXqIdeal.Read.val_main_cst_7, Cert.PlainAdamXqIdeal.Read.val_main_cst_8, ref_mom p w a v, ref_vel p w a v, delta, lit]

/-- The kernel and the plain optimiser agree over the extended reals. -/
theorem algebraic : Cert.algebraic_AdamXqIdeal_PlainAdamXqIdeal := by
  pair_intro
  · run_from Cert.AdamXqIdeal.Value.run_blocks m g
  · refine Idealize.ShloMosaic.θ_run_mono (Cert.PlainAdamXqIdeal.Value.run m' g') fun r hr c => ?_
    obtain ⟨a0, a1, a2, a3⟩ := hagree c
    obtain ⟨h0, h1, h2, h3, hs⟩ := hr c
    refine ⟨h0.trans ?_, h1.trans ?_, h2.trans ?_, h3.trans ?_, hs⟩
    · rw [a0]; exact (Cert.PlainAdamXqIdeal.Read.val_main_v1_eq ..).trans <| (ref_grad _ (m ((c : Thread nD τ).loc main_arg1)) (m ((c : Thread nD τ).loc main_arg2)) (m ((c : Thread nD τ).loc main_arg3))).trans (final4 m c).symm
    · rw [a0, a1, a2, a3]; exact (Cert.PlainAdamXqIdeal.Read.val_main_v25_eq ..).trans <| (ref_delta ..).trans (final5 m c).symm
    · rw [a0, a2]; exact (Cert.PlainAdamXqIdeal.Read.val_main_v6_eq ..).trans <| (ref_mom _ (m ((c : Thread nD τ).loc main_arg1)) _ (m ((c : Thread nD τ).loc main_arg3))).trans (final6 m c).symm
    · rw [a0, a3]; exact (Cert.PlainAdamXqIdeal.Read.val_main_v12_eq ..).trans <| (ref_vel _ (m ((c : Thread nD τ).loc main_arg1)) (m ((c : Thread nD τ).loc main_arg2)) _).trans (final7 m c).symm

end Cert.AdamXqProof
-- ==== Proof.AdamXo.lean ====
module

public import proofs.«01_k».proof.Defs
public import proofs.«01_k».proof.Proof.Gen.AdamXoIdeal.Value
public import proofs.«01_k».proof.Proof.Gen.PlainAdamXoIdeal.Run
public import proofs.«01_k».proof.Proof.Gen.PlainAdamXoIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! AdamW on the cross-attention's out-projection: the pieces' sum, the step, and the two moments. -/

namespace Cert.AdamXoProof

open Cert.AdamXoIdeal Cert.AdamXoIdeal.Gen Idealize.ShloMosaic Idealize.ShloMosaic.TcCoe Idealize.SL.Sem
open Idealize.ShloMosaic.Pipeline (Dat)

variable (m : (ℓ : Loc nD τ sig) → Buf (Elt Ideal) ℓ)

/-- A constant of the optimiser. -/
abbrev lit (b : BitVec 32) : EReal := Ideal.ofBits .f32 b

/-- The gradient: the sum of its eight pieces. -/
def grad (p : FVec Ideal S4x8x512x128 .bf16) : FVec Ideal S4x512x128 .f32 :=
  fun i => ∑ s : Fin 8, p (ix4 (i 0) s (i 1) (i 2))

/-- The first moment. -/
def mom (p : FVec Ideal S4x8x512x128 .bf16) (a : FVec Ideal S4x512x128 .f32) : FVec Ideal S4x512x128 .f32 :=
  fun i => lit 0x3F666666#32 * a i + lit 0x3DCCCCCD#32 * grad p i

/-- The second moment. -/
def vel (p : FVec Ideal S4x8x512x128 .bf16) (v : FVec Ideal S4x512x128 .f32) : FVec Ideal S4x512x128 .f32 :=
  fun i => lit 0x3F7FBE77#32 * v i + lit 0x3A83126F#32 * (grad p i * grad p i)

/-- The step. -/
def delta (p : FVec Ideal S4x8x512x128 .bf16) (w a v : FVec Ideal S4x512x128 .f32) : FVec Ideal S4x512x128 .f32 :=
  fun i => lit 0xBA83126F#32 * (Ideal.div (Ideal.div (mom p a i) (lit 0x3F26BD02#32))
    (Ideal.sqrt (Ideal.div (vel p v i) (lit 0x3C231ACC#32)) + lit 0x322BCC77#32) + lit 0x3C23D70A#32 * w i)

/-- The blocks of every grid point. -/
theorem idx : ∀ t : Fin cfg0.N, win0_0.index t = ![t.val, 0, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- Output 4 after the run. -/
theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  unfold_payloads
  pointwise [grad, lit]
  simp only [Fin.sum_univ_eight]
  blk_point [iblk, V, idx t]

/-- Output 5 after the run. -/
theorem final5 (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold_payloads
  pointwise [delta, mom, vel, grad, lit]
  simp only [Fin.sum_univ_eight]
  blk_point [iblk, V, idx t]

/-- Output 6 after the run. -/
theorem final6 (c : Dev nD) : (dats m 0 c).arrAt 6 (cfgs 0).N = mom (m ((c : Thread nD τ).loc main_arg0)) (m ((c : Thread nD τ).loc main_arg2)) := by
  refine (dats m 0 c).arrAt_eq_of_covers 6 _ (by decide +kernel) fun t _ y => ?_
  blk_simp
  rw [after0_6]; frame_out
  unfold_payloads
  pointwise [mom, grad, lit]
  simp only [Fin.sum_univ_eight]
  blk_point [iblk, V, idx t]

/-- Output 7 after the run. -/
theorem final7 (c : Dev nD) : (dats m 0 c).arrAt 7 (cfgs 0).N = vel (m ((c : Thread nD τ).loc main_arg0)) (m ((c : Thread nD τ).loc main_arg3)) := by
  refine (dats m 0 c).arrAt_eq_of_covers 7 _ (by decide +kernel) fun t _ y => ?_
  blk_simp
  rw [after0_7]; frame_out
  unfold_payloads
  pointwise [vel, grad, lit]
  simp only [Fin.sum_univ_eight]
  blk_point [iblk, V, idx t]

/-- The reference's grad. -/
theorem ref_grad (p : FVec Ideal S4x8x512x128 .bf16) (w a v : FVec Ideal S4x512x128 .f32) :
    Cert.PlainAdamXoIdeal.Read.val_main_v1 (F := Ideal) p = grad p := by
  funext i; idx_vars i
  pointwise [Cert.PlainAdamXoIdeal.Read.val_main_v1, Cert.PlainAdamXoIdeal.Read.val_main_v0, Cert.PlainAdamXoIdeal.Read.val_main_cst, grad]

/-- The reference's mom. -/
theorem ref_mom (p : FVec Ideal S4x8x512x128 .bf16) (w a v : FVec Ideal S4x512x128 .f32) :
    Cert.PlainAdamXoIdeal.Read.val_main_v6 (F := Ideal) p a = mom p a := by
  funext i; idx_vars i
  pointwise [Cert.PlainAdamXoIdeal.Read.val_main_v6, Cert.PlainAdamXoIdeal.Read.val_main_v5, Cert.PlainAdamXoIdeal.Read.val_main_v4, Cert.PlainAdamXoIdeal.Read.val_main_v3, Cert.PlainAdamXoIdeal.Read.val_main_v2, Cert.PlainAdamXoIdeal.Read.val_main_cst_0, Cert.PlainAdamXoIdeal.Read.val_main_cst_1, ref_grad p w a v, mom, lit]

/-- The reference's vel. -/
theorem ref_vel (p : FVec Ideal S4x8x512x128 .bf16) (w a v : FVec Ideal S4x512x128 .f32) :
    Cert.PlainAdamXoIdeal.Read.val_main_v12 (F := Ideal) p v = vel p v := by
  funext i; idx_vars i
  pointwise [Cert.PlainAdamXoIdeal.Read.val_main_v12, Cert.PlainAdamXoIdeal.Read.val_main_v11, Cert.PlainAdamXoIdeal.Read.val_main_v10, Cert.PlainAdamXoIdeal.Read.val_main_v9, Cert.PlainAdamXoIdeal.Read.val_main_v8, Cert.PlainAdamXoIdeal.Read.val_main_v7, Cert.PlainAdamXoIdeal.Read.val_main_cst_2, Cert.PlainAdamXoIdeal.Read.val_main_cst_3, ref_grad p w a v, vel, lit]

/-- The reference's delta. -/
theorem ref_delta (p : FVec Ideal S4x8x512x128 .bf16) (w a v : FVec Ideal S4x512x128 .f32) :
    Cert.PlainAdamXoIdeal.Read.val_main_v25 (F := Ideal) p w a v = delta p w a v := by
  funext i; idx_vars i
  pointwise [Cert.PlainAdamXoIdeal.Read.val_main_v25, Cert.PlainAdamXoIdeal.Read.val_main_v24, Cert.PlainAdamXoIdeal.Read.val_main_v23, Cert.PlainAdamXoIdeal.Read.val_main_v22, Cert.PlainAdamXoIdeal.Read.val_main_v21, Cert.PlainAdamXoIdeal.Read.val_main_v20, Cert.PlainAdamXoIdeal.Read.val_main_v19, Cert.PlainAdamXoIdeal.Read.val_main_v18, Cert.PlainAdamXoIdeal.Read.val_main_v17, Cert.PlainAdamXoIdeal.Read.val_main_v16, Cert.PlainAdamXoIdeal.Read.val_main_v15, Cert.PlainAdamXoIdeal.Read.val_main_v14, Cert.PlainAdamXoIdeal.Read.val_main_v13, Cert.PlainAdamXoIdeal.Read.val_main_cst_4, Cert.PlainAdamXoIdeal.Read.val_main_cst_5, Cert.PlainAdamXoIdeal.Read.val_main_cst_6, Cert.PlainAdamXoIdeal.Read.val_main_cst_7, Cert.PlainAdamXoIdeal.Read.val_main_cst_8, ref_mom p w a v, ref_vel p w a v, delta, lit]

/-- The kernel and the plain optimiser agree over the extended reals. -/
theorem algebraic : Cert.algebraic_AdamXoIdeal_PlainAdamXoIdeal := by
  pair_intro
  · run_from Cert.AdamXoIdeal.Value.run_blocks m g
  · refine Idealize.ShloMosaic.θ_run_mono (Cert.PlainAdamXoIdeal.Value.run m' g') fun r hr c => ?_
    obtain ⟨a0, a1, a2, a3⟩ := hagree c
    obtain ⟨h0, h1, h2, h3, hs⟩ := hr c
    refine ⟨h0.trans ?_, h1.trans ?_, h2.trans ?_, h3.trans ?_, hs⟩
    · rw [a0]; exact (Cert.PlainAdamXoIdeal.Read.val_main_v1_eq ..).trans <| (ref_grad _ (m ((c : Thread nD τ).loc main_arg1)) (m ((c : Thread nD τ).loc main_arg2)) (m ((c : Thread nD τ).loc main_arg3))).trans (final4 m c).symm
    · rw [a0, a1, a2, a3]; exact (Cert.PlainAdamXoIdeal.Read.val_main_v25_eq ..).trans <| (ref_delta ..).trans (final5 m c).symm
    · rw [a0, a2]; exact (Cert.PlainAdamXoIdeal.Read.val_main_v6_eq ..).trans <| (ref_mom _ (m ((c : Thread nD τ).loc main_arg1)) _ (m ((c : Thread nD τ).loc main_arg3))).trans (final6 m c).symm
    · rw [a0, a3]; exact (Cert.PlainAdamXoIdeal.Read.val_main_v12_eq ..).trans <| (ref_vel _ (m ((c : Thread nD τ).loc main_arg1)) (m ((c : Thread nD τ).loc main_arg2)) _).trans (final7 m c).symm

end Cert.AdamXoProof
-- ==== Proof.AdamDown.lean ====
module

public import proofs.«01_k».proof.Defs
public import proofs.«01_k».proof.Proof.Gen.AdamDownIdeal.Value
public import proofs.«01_k».proof.Proof.Gen.PlainAdamDownIdeal.Run
public import proofs.«01_k».proof.Proof.Gen.PlainAdamDownIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! AdamW on the feed-forward's down-projection: the pieces' sum, the step, and the two moments. -/

namespace Cert.AdamDownProof

open Cert.AdamDownIdeal Cert.AdamDownIdeal.Gen Idealize.ShloMosaic Idealize.ShloMosaic.TcCoe Idealize.SL.Sem
open Idealize.ShloMosaic.Pipeline (Dat)

variable (m : (ℓ : Loc nD τ sig) → Buf (Elt Ideal) ℓ)

/-- A constant of the optimiser. -/
abbrev lit (b : BitVec 32) : EReal := Ideal.ofBits .f32 b

/-- The gradient: the sum of its eight pieces. -/
def grad (p : FVec Ideal S4x8x352x1024 .bf16) : FVec Ideal S4x352x1024 .f32 :=
  fun i => ∑ s : Fin 8, p (ix4 (i 0) s (i 1) (i 2))

/-- The first moment. -/
def mom (p : FVec Ideal S4x8x352x1024 .bf16) (a : FVec Ideal S4x352x1024 .f32) : FVec Ideal S4x352x1024 .f32 :=
  fun i => lit 0x3F666666#32 * a i + lit 0x3DCCCCCD#32 * grad p i

/-- The second moment. -/
def vel (p : FVec Ideal S4x8x352x1024 .bf16) (v : FVec Ideal S4x352x1024 .f32) : FVec Ideal S4x352x1024 .f32 :=
  fun i => lit 0x3F7FBE77#32 * v i + lit 0x3A83126F#32 * (grad p i * grad p i)

/-- The step. -/
def delta (p : FVec Ideal S4x8x352x1024 .bf16) (w a v : FVec Ideal S4x352x1024 .f32) : FVec Ideal S4x352x1024 .f32 :=
  fun i => lit 0xBA83126F#32 * (Ideal.div (Ideal.div (mom p a i) (lit 0x3F26BD02#32))
    (Ideal.sqrt (Ideal.div (vel p v i) (lit 0x3C231ACC#32)) + lit 0x322BCC77#32) + lit 0x3C23D70A#32 * w i)

/-- The blocks of every grid point. -/
theorem idx : ∀ t : Fin cfg0.N, win0_0.index t = ![t.val, 0, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- Output 4 after the run. -/
theorem final4 (c : Dev nD) : (dats m 0 c).arrAt 4 (cfgs 0).N = grad (m ((c : Thread nD τ).loc main_arg0)) := by
  refine (dats m 0 c).arrAt_eq_of_covers 4 _ (by decide +kernel) fun t _ y => ?_
  blk_simp
  rw [after0_4]; frame_out
  unfold_payloads
  pointwise [grad, lit]
  simp only [Fin.sum_univ_eight]
  blk_point [iblk, V, idx t]

/-- Output 5 after the run. -/
theorem final5 (c : Dev nD) : (dats m 0 c).arrAt 5 (cfgs 0).N = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  unfold_payloads
  pointwise [delta, mom, vel, grad, lit]
  simp only [Fin.sum_univ_eight]
  blk_point [iblk, V, idx t]

/-- Output 6 after the run. -/
theorem final6 (c : Dev nD) : (dats m 0 c).arrAt 6 (cfgs 0).N = mom (m ((c : Thread nD τ).loc main_arg0)) (m ((c : Thread nD τ).loc main_arg2)) := by
  refine (dats m 0 c).arrAt_eq_of_covers 6 _ (by decide +kernel) fun t _ y => ?_
  blk_simp
  rw [after0_6]; frame_out
  unfold_payloads
  pointwise [mom, grad, lit]
  simp only [Fin.sum_univ_eight]
  blk_point [iblk, V, idx t]

/-- Output 7 after the run. -/
theorem final7 (c : Dev nD) : (dats m 0 c).arrAt 7 (cfgs 0).N = vel (m ((c : Thread nD τ).loc main_arg0)) (m ((c : Thread nD τ).loc main_arg3)) := by
  refine (dats m 0 c).arrAt_eq_of_covers 7 _ (by decide +kernel) fun t _ y => ?_
  blk_simp
  rw [after0_7]; frame_out
  unfold_payloads
  pointwise [vel, grad, lit]
  simp only [Fin.sum_univ_eight]
  blk_point [iblk, V, idx t]

/-- The reference's grad. -/
theorem ref_grad (p : FVec Ideal S4x8x352x1024 .bf16) (w a v : FVec Ideal S4x352x1024 .f32) :
    Cert.PlainAdamDownIdeal.Read.val_main_v1 (F := Ideal) p = grad p := by
  funext i; idx_vars i
  pointwise [Cert.PlainAdamDownIdeal.Read.val_main_v1, Cert.PlainAdamDownIdeal.Read.val_main_v0, Cert.PlainAdamDownIdeal.Read.val_main_cst, grad]

/-- The reference's mom. -/
theorem ref_mom (p : FVec Ideal S4x8x352x1024 .bf16) (w a v : FVec Ideal S4x352x1024 .f32) :
    Cert.PlainAdamDownIdeal.Read.val_main_v6 (F := Ideal) p a = mom p a := by
  funext i; idx_vars i
  pointwise [Cert.PlainAdamDownIdeal.Read.val_main_v6, Cert.PlainAdamDownIdeal.Read.val_main_v5, Cert.PlainAdamDownIdeal.Read.val_main_v4, Cert.PlainAdamDownIdeal.Read.val_main_v3, Cert.PlainAdamDownIdeal.Read.val_main_v2, Cert.PlainAdamDownIdeal.Read.val_main_cst_0, Cert.PlainAdamDownIdeal.Read.val_main_cst_1, ref_grad p w a v, mom, lit]

/-- The reference's vel. -/
theorem ref_vel (p : FVec Ideal S4x8x352x1024 .bf16) (w a v : FVec Ideal S4x352x1024 .f32) :
    Cert.PlainAdamDownIdeal.Read.val_main_v12 (F := Ideal) p v = vel p v := by
  funext i; idx_vars i
  pointwise [Cert.PlainAdamDownIdeal.Read.val_main_v12, Cert.PlainAdamDownIdeal.Read.val_main_v11, Cert.PlainAdamDownIdeal.Read.val_main_v10, Cert.PlainAdamDownIdeal.Read.val_main_v9, Cert.PlainAdamDownIdeal.Read.val_main_v8, Cert.PlainAdamDownIdeal.Read.val_main_v7, Cert.PlainAdamDownIdeal.Read.val_main_cst_2, Cert.PlainAdamDownIdeal.Read.val_main_cst_3, ref_grad p w a v, vel, lit]

/-- The reference's delta. -/
theorem ref_delta (p : FVec Ideal S4x8x352x1024 .bf16) (w a v : FVec Ideal S4x352x1024 .f32) :
    Cert.PlainAdamDownIdeal.Read.val_main_v25 (F := Ideal) p w a v = delta p w a v := by
  funext i; idx_vars i
  pointwise [Cert.PlainAdamDownIdeal.Read.val_main_v25, Cert.PlainAdamDownIdeal.Read.val_main_v24, Cert.PlainAdamDownIdeal.Read.val_main_v23, Cert.PlainAdamDownIdeal.Read.val_main_v22, Cert.PlainAdamDownIdeal.Read.val_main_v21, Cert.PlainAdamDownIdeal.Read.val_main_v20, Cert.PlainAdamDownIdeal.Read.val_main_v19, Cert.PlainAdamDownIdeal.Read.val_main_v18, Cert.PlainAdamDownIdeal.Read.val_main_v17, Cert.PlainAdamDownIdeal.Read.val_main_v16, Cert.PlainAdamDownIdeal.Read.val_main_v15, Cert.PlainAdamDownIdeal.Read.val_main_v14, Cert.PlainAdamDownIdeal.Read.val_main_v13, Cert.PlainAdamDownIdeal.Read.val_main_cst_4, Cert.PlainAdamDownIdeal.Read.val_main_cst_5, Cert.PlainAdamDownIdeal.Read.val_main_cst_6, Cert.PlainAdamDownIdeal.Read.val_main_cst_7, Cert.PlainAdamDownIdeal.Read.val_main_cst_8, ref_mom p w a v, ref_vel p w a v, delta, lit]

/-- The kernel and the plain optimiser agree over the extended reals. -/
theorem algebraic : Cert.algebraic_AdamDownIdeal_PlainAdamDownIdeal := by
  pair_intro
  · run_from Cert.AdamDownIdeal.Value.run_blocks m g
  · refine Idealize.ShloMosaic.θ_run_mono (Cert.PlainAdamDownIdeal.Value.run m' g') fun r hr c => ?_
    obtain ⟨a0, a1, a2, a3⟩ := hagree c
    obtain ⟨h0, h1, h2, h3, hs⟩ := hr c
    refine ⟨h0.trans ?_, h1.trans ?_, h2.trans ?_, h3.trans ?_, hs⟩
    · rw [a0]; exact (Cert.PlainAdamDownIdeal.Read.val_main_v1_eq ..).trans <| (ref_grad _ (m ((c : Thread nD τ).loc main_arg1)) (m ((c : Thread nD τ).loc main_arg2)) (m ((c : Thread nD τ).loc main_arg3))).trans (final4 m c).symm
    · rw [a0, a1, a2, a3]; exact (Cert.PlainAdamDownIdeal.Read.val_main_v25_eq ..).trans <| (ref_delta ..).trans (final5 m c).symm
    · rw [a0, a2]; exact (Cert.PlainAdamDownIdeal.Read.val_main_v6_eq ..).trans <| (ref_mom _ (m ((c : Thread nD τ).loc main_arg1)) _ (m ((c : Thread nD τ).loc main_arg3))).trans (final6 m c).symm
    · rw [a0, a3]; exact (Cert.PlainAdamDownIdeal.Read.val_main_v12_eq ..).trans <| (ref_vel _ (m ((c : Thread nD τ).loc main_arg1)) (m ((c : Thread nD τ).loc main_arg2)) _).trans (final7 m c).symm

end Cert.AdamDownProof
-- ==== Proof.XMath.lean ====
module

public import proofs.«01_k».proof.Proof.LnMath

@[expose] public section

noncomputable section

/-! The softmax of a row of scores, and its gradient: what a kernel computes from the saved log-sum-exp is what the
    quotient and the chain rule give, wherever the scores are real numbers. -/

namespace Cert.XProof

open Idealize.ShloMosaic Cert.LnProof

/-- A row's largest score. -/
def top (s : Fin 256 → EReal) : EReal := Finset.univ.fold max ⊥ s

/-- A row's sum of exponentials. -/
def tot (s : Fin 256 → EReal) : EReal := ∑ k, Ideal.exp (s k - top s)

/-- A row's log-sum-exp. -/
def lse (s : Fin 256 → EReal) : EReal := top s + Ideal.log (tot s)

/-- A row's softmax. -/
def soft (s : Fin 256 → EReal) (k : Fin 256) : EReal := Ideal.div (Ideal.exp (s k - top s)) (tot s)

/-- The f32 pattern of minus infinity. -/
theorem ofBits_neg_inf : Ideal.ofBits .f32 0xFF800000#32 = ⊥ := by simp [Ideal.ofBits, Ideal.ieee]

/-- The f32 pattern of 128. -/
theorem ofBits_128 : Ideal.ofBits .f32 0x43000000#32 = ((128 : ℝ) : EReal) := by
  simp [Ideal.ofBits, Ideal.ieee, -EReal.coe_mul]; norm_num

/-- The root the scores are divided by. -/
theorem sqrt_128 : Ideal.sqrt (Ideal.ofBits .f32 0x43000000#32) = ((√128 : ℝ) : EReal) := by
  rw [ofBits_128, Ideal.sqrt_coe, if_neg (by norm_num)]

/-- Dividing by the root is multiplying by its inverse. -/
theorem div_sqrt (x : EReal) : Ideal.div x (Ideal.sqrt (Ideal.ofBits .f32 0x43000000#32)) = x * (((√128)⁻¹ : ℝ) : EReal) := by
  rw [sqrt_128, Ideal.div_coe (Real.sqrt_pos.mpr (by norm_num)).ne', one_div]

theorem fold_max {f : Fin 256 → EReal} (h : ∀ i, IsReal (f i)) (s : Finset (Fin 256)) :
    s.fold max ⊥ f = ⊥ ∨ IsReal (s.fold max ⊥ f) := by
  induction s using Finset.induction_on with
  | empty => exact .inl rfl
  | insert a s ha ih =>
    right
    rw [Finset.fold_insert ha]
    rcases ih with e | e
    · rw [e, max_bot_right]; exact h a
    · rcases max_choice (f a) (s.fold max ⊥ f) with e' | e' <;> rw [e']
      · exact h a
      · exact e

/-- The largest of real scores is real. -/
theorem real_top {f : Fin 256 → EReal} (h : ∀ i, IsReal (f i)) : IsReal (top f) := by
  unfold top
  rw [← Finset.insert_erase (Finset.mem_univ (0 : Fin 256)), Finset.fold_insert (Finset.notMem_erase _ _)]
  rcases fold_max h (Finset.univ.erase 0) with e | e
  · rw [e, max_bot_right]; exact h 0
  · rcases max_choice (f 0) ((Finset.univ.erase 0).fold max ⊥ f) with e' | e' <;> rw [e']
    · exact h 0
    · exact e

/-- The sum of exponentials is a positive real. -/
theorem real_tot {s : Fin 256 → EReal} (h : ∀ k, IsReal (s k)) : ∃ l : ℝ, 0 < l ∧ tot s = (l : EReal) := by
  obtain ⟨M, hM⟩ := real_top h
  choose S hS using h
  refine ⟨∑ k, Real.exp (S k - M), Finset.sum_pos (fun k _ => Real.exp_pos _) Finset.univ_nonempty, ?_⟩
  unfold tot
  rw [coe_sum]
  refine Finset.sum_congr rfl fun k _ => ?_
  rw [← hM, ← hS k, ← EReal.coe_sub, Ideal.exp_coe]

/-- From the saved log-sum-exp one gets the softmax. -/
theorem exp_lse {s : Fin 256 → EReal} (h : ∀ k, IsReal (s k)) (k : Fin 256) : Ideal.exp (s k - lse s) = soft s k := by
  obtain ⟨l, hl, ht⟩ := real_tot h
  obtain ⟨M, hM⟩ := real_top h
  obtain ⟨S, hS⟩ := h k
  unfold lse soft
  rw [ht, ← hM, ← hS, Ideal.log_coe, if_neg (not_le.mpr hl), ← EReal.coe_add, ← EReal.coe_sub, ← EReal.coe_sub,
    Ideal.exp_coe, Ideal.exp_coe, Ideal.div_coe hl.ne', ← EReal.coe_mul]
  congr 1
  rw [← sub_sub, Real.exp_sub, Real.exp_log hl, mul_one_div]

/-- Multiplying by the sum's inverse gives it as well. -/
theorem mul_inv {s : Fin 256 → EReal} (h : ∀ k, IsReal (s k)) (k : Fin 256) :
    Ideal.exp (s k - top s) * Ideal.div 1 (tot s) = soft s k := by
  obtain ⟨l, hl, ht⟩ := real_tot h
  unfold soft
  rw [ht, Ideal.div_coe hl.ne', Ideal.div_coe hl.ne', one_mul]

/-- The softmax is real. -/
theorem real_soft {s : Fin 256 → EReal} (h : ∀ k, IsReal (s k)) (k : Fin 256) : IsReal (soft s k) := by
  obtain ⟨l, hl, ht⟩ := real_tot h
  obtain ⟨M, hM⟩ := real_top h
  obtain ⟨S, hS⟩ := h k
  unfold soft
  rw [ht, ← hM, ← hS, ← EReal.coe_sub, Ideal.exp_coe, Ideal.div_coe hl.ne', ← EReal.coe_mul]
  exact ⟨_, rfl⟩

/-- The factor of the scores. -/
def scale : EReal := (((√128)⁻¹ : ℝ) : EReal)

/-- The gradient of a row's scores, from the softmax and as the reference differentiates it, is one. -/
theorem grad_eq {s p : Fin 256 → EReal} (h : ∀ k, IsReal (s k)) (hp : ∀ k, IsReal (p k)) (k : Fin 256) :
    Ideal.div ((Ideal.div (p k) (tot s) + -(∑ j, p j * Ideal.div 1 (tot s * tot s) * Ideal.exp (s j - top s)))
      * Ideal.exp (s k - top s)) (Ideal.sqrt (Ideal.ofBits .f32 0x43000000#32))
      = soft s k * (p k - ∑ j, soft s j * p j) * scale := by
  obtain ⟨l, hl, ht⟩ := real_tot h
  obtain ⟨M, hM⟩ := real_top h
  choose S hS using h
  choose P hP using hp
  have hl2 : l * l ≠ 0 := (mul_pos hl hl).ne'
  have he : ∀ j, Ideal.exp (s j - top s) = ((Real.exp (S j - M) : ℝ) : EReal) := fun j => by
    rw [← hM, ← hS j, ← EReal.coe_sub, Ideal.exp_coe]
  have h1 : (∑ j, p j * Ideal.div 1 (tot s * tot s) * Ideal.exp (s j - top s))
      = ((∑ j, P j * (1 / (l * l)) * Real.exp (S j - M) : ℝ) : EReal) := by
    rw [coe_sum]
    refine Finset.sum_congr rfl fun j _ => ?_
    rw [he, ht, ← EReal.coe_mul, Ideal.div_coe hl2, one_mul, ← hP j, ← EReal.coe_mul, ← EReal.coe_mul]
  have h2 : (∑ j, soft s j * p j) = ((∑ j, Real.exp (S j - M) * (1 / l) * P j : ℝ) : EReal) := by
    rw [coe_sum]
    refine Finset.sum_congr rfl fun j _ => ?_
    unfold soft
    rw [he, ht, Ideal.div_coe hl.ne', ← hP j, ← EReal.coe_mul, ← EReal.coe_mul]
  rw [div_sqrt, h1, h2]
  unfold soft scale
  rw [he, ht, Ideal.div_coe hl.ne', Ideal.div_coe hl.ne', ← hP k]
  have h3 : (∑ j, Real.exp (S j - M) * (1 / l) * P j) = l * ∑ j, P j * (1 / (l * l)) * Real.exp (S j - M) := by
    rw [Finset.mul_sum]
    refine Finset.sum_congr rfl fun j _ => ?_
    field_simp
  rw [h3]
  norm_cast
  field_simp
  ring

/-- The arrays of the cross-attention. -/
abbrev Qs := FVec Ideal (⟨2, ![4096, 512]⟩ : Shape) .bf16
/-- The keys and the values, side by side. -/
abbrev Kv := FVec Ideal (⟨2, ![256, 1024]⟩ : Shape) .bf16
/-- The saved log-sum-exps. -/
abbrev Ls := FVec Ideal (⟨3, ![4, 4096, 1]⟩ : Shape) .f32

/-- Column `d` of head `h`. -/
def col (h : Fin 4) (d : Fin 128) : Fin 512 := ⟨h.val * 128 + d.val, by omega⟩
/-- Column `d` of head `h`'s keys. -/
def kcol (h : Fin 4) (d : Fin 128) : Fin 1024 := ⟨h.val * 128 + d.val, by omega⟩
/-- Column `d` of head `h`'s values. -/
def vcol (h : Fin 4) (d : Fin 128) : Fin 1024 := ⟨512 + h.val * 128 + d.val, by omega⟩

theorem col_0 (d : Fin 128) : col 0 d = ⟨d.val, by omega⟩ := Fin.ext (by simp [col])
theorem kcol_0 (d : Fin 128) : kcol 0 d = ⟨d.val, by omega⟩ := Fin.ext (by simp [kcol])

/-- The scores of head `h` at row `r`. -/
def score (q : Qs) (kv : Kv) (h : Fin 4) (r : Fin 4096) (k : Fin 256) : EReal :=
  (∑ d : Fin 128, q (ix2 r (col h d)) * kv (ix2 k (kcol h d))) * scale

/-- The gradient of the probabilities. -/
def dprob (kv : Kv) (g : Qs) (h : Fin 4) (r : Fin 4096) (k : Fin 256) : EReal :=
  ∑ d : Fin 128, g (ix2 r (col h d)) * kv (ix2 k (vcol h d))

/-- The probabilities, from the saved log-sum-exps. -/
def prob (q : Qs) (kv : Kv) (l : Ls) (h : Fin 4) (r : Fin 4096) (k : Fin 256) : EReal :=
  Ideal.exp (score q kv h r k - l (ix3 h r 0))

/-- The gradient of the products the scores are made of. -/
def dscore (q : Qs) (kv : Kv) (l : Ls) (g : Qs) (h : Fin 4) (r : Fin 4096) (k : Fin 256) : EReal :=
  prob q kv l h r k * (dprob kv g h r k - ∑ j, prob q kv l h r j * dprob kv g h r j) * scale

/-- The queries' gradient. -/
def dquery (q : Qs) (kv : Kv) (l : Ls) (g : Qs) (h : Fin 4) (r : Fin 4096) (d : Fin 128) : EReal :=
  ∑ k : Fin 256, dscore q kv l g h r k * kv (ix2 k (kcol h d))

/-- What row `r` adds to the keys' gradient. -/
def dkey (q : Qs) (kv : Kv) (l : Ls) (g : Qs) (h : Fin 4) (r : Fin 4096) (k : Fin 256) (d : Fin 128) : EReal :=
  dscore q kv l g h r k * q (ix2 r (col h d))

/-- What row `r` adds to the values' gradient. -/
def dval (q : Qs) (kv : Kv) (l : Ls) (g : Qs) (h : Fin 4) (r : Fin 4096) (k : Fin 256) (d : Fin 128) : EReal :=
  prob q kv l h r k * g (ix2 r (col h d))

/-- The queries' gradient at a column of the array. -/
def dqAt (q : Qs) (kv : Kv) (l : Ls) (g : Qs) (r : Fin 4096) (j : Fin 512) : EReal :=
  dquery q kv l g ⟨j.val / 128, by omega⟩ r ⟨j.val % 128, by omega⟩

/-- What row `r` adds at a column of the keys' and values' gradient. -/
def dkvAt (q : Qs) (kv : Kv) (l : Ls) (g : Qs) (r : Fin 4096) (k : Fin 256) (j : Fin 1024) : EReal :=
  if j.val < 512 then dkey q kv l g ⟨j.val / 128 % 4, by omega⟩ r k ⟨j.val % 128, by omega⟩
  else dval q kv l g ⟨j.val / 128 % 4, by omega⟩ r k ⟨j.val % 128, by omega⟩

theorem dqAt_eq (q : Qs) (kv : Kv) (l : Ls) (g : Qs) (h : Fin 4) (r : Fin 4096) (j : Fin 512) (d : Fin 128) (e : j.val = 128 * h.val + d.val) :
    dqAt q kv l g r j = dquery q kv l g h r d := by
  unfold dqAt
  congr 1 <;> apply Fin.ext <;> dsimp only <;> omega

theorem dkvAt_key (q : Qs) (kv : Kv) (l : Ls) (g : Qs) (h : Fin 4) (r : Fin 4096) (k : Fin 256) (j : Fin 1024) (d : Fin 128)
    (e : j.val = 128 * h.val + d.val) : dkvAt q kv l g r k j = dkey q kv l g h r k d := by
  unfold dkvAt
  rw [if_pos (by omega)]
  congr 1 <;> apply Fin.ext <;> dsimp only <;> omega

theorem dkvAt_val (q : Qs) (kv : Kv) (l : Ls) (g : Qs) (h : Fin 4) (r : Fin 4096) (k : Fin 256) (j : Fin 1024) (d : Fin 128)
    (e : j.val = 512 + 128 * h.val + d.val) : dkvAt q kv l g r k j = dval q kv l g h r k d := by
  unfold dkvAt
  rw [if_neg (by omega)]
  congr 1 <;> apply Fin.ext <;> dsimp only <;> omega

/-- The scores of real inputs are real. -/
theorem real_score {q : Qs} {kv : Kv} (hq : ∀ i, IsReal (q i)) (hk : ∀ i, IsReal (kv i)) (h : Fin 4) (r : Fin 4096) (k : Fin 256) :
    IsReal (score q kv h r k) :=
  IsReal.mul (IsReal.sum fun _ => (hq _).mul (hk _)) ⟨_, rfl⟩

/-- So are the gradients of the probabilities. -/
theorem real_dprob {kv : Kv} {g : Qs} (hk : ∀ i, IsReal (kv i)) (hg : ∀ i, IsReal (g i)) (h : Fin 4) (r : Fin 4096) (k : Fin 256) :
    IsReal (dprob kv g h r k) :=
  IsReal.sum fun _ => (hg _).mul (hk _)

end Cert.XProof
-- ==== Proof.XBwd.lean ====
module

public import proofs.«01_k».proof.Defs
public import proofs.«01_k».proof.Proof.Gen.XBwdIdeal.Value
public import proofs.«01_k».proof.Proof.Gen.PlainXBwdIdeal.Run
public import proofs.«01_k».proof.Proof.Gen.PlainXBwdIdeal.Read
public import Idealize.ShloMosaic.Lib.Pointwise
public import Idealize.ShloMosaic.Lib.Pipeline.ValueKit
public import Idealize.ShloMosaic.Lib.Pipeline.ReadBack
public import proofs.«01_k».proof.Proof.MergeBias
public import proofs.«01_k».proof.Proof.XMath

@[expose] public section

set_option maxRecDepth 16384

noncomputable section

/-! The cross-attention's gradient. -/

namespace Cert.XBwdProof

open Cert.XBwdIdeal Cert.XBwdIdeal.Gen Idealize.ShloMosaic Idealize.ShloMosaic.TcCoe Idealize.SL.Sem
open Idealize.ShloMosaic.Pipeline (Dat)
open Cert.XProof Cert.LnProof

variable (m : (ℓ : Loc nD τ sig) → Buf (Elt Ideal) ℓ)

/-- The kernel's factor is the real number it names. -/
theorem named_scale : Named.named (F := Ideal) κ "x_scale" (φ := .f32) 0x3DB504F3#32 = scale :=
  IdealRules.named_const.ideal_named_scalar _ _ _ _ rfl

/-- The queries. -/
abbrev qa (c : Dev nD) : Qs := V m c main_arg0
/-- The keys and values. -/
abbrev ka (c : Dev nD) : Kv := V m c main_arg1
/-- The log-sum-exps. -/
abbrev la (c : Dev nD) : Ls := V m c main_v17
/-- The output's gradient. -/
abbrev ga (c : Dev nD) : Qs := V m c main_arg2

/-- The blocks of every grid point. -/
theorem idx : ∀ t : Fin cfg0.N, win0_0.index t = ![t.val, 0] ∧ win0_1.index t = ![0, 0] ∧ win0_2.index t = ![0, t.val, 0]
    ∧ win0_3.index t = ![t.val, 0] ∧ win0_4.index t = ![t.val, 0] ∧ win0_5.index t = ![0, 0] :=
  (by decide +kernel : ∀ t : Fin grid0.N, _)

/-- Row `k` of grid point `t`'s block. -/
def rowOf (t : Fin cfg0.N) (k : Fin 512) : Fin 4096 :=
  ⟨t.val * 512 + k.val, by have := t.isLt; have : cfg0.N = 8 := N_0; omega⟩

/-- The queries' block, from the array. -/
theorem entry0 (c : Dev nD) (t : Fin cfg0.N) (r : Fin 512) (j : Fin 512) :
    (iblk m c 0 t : FVec Ideal S512x512 .bf16) (ix2 r j) = qa m c (ix2 (rowOf t r) j) := by
  blk_point [iblk, idx t, rowOf]

/-- The keys' and values' block. -/
theorem entry1 (c : Dev nD) (t : Fin cfg0.N) (r : Fin 256) (j : Fin 1024) :
    (iblk m c 1 t : FVec Ideal S256x1024 .bf16) (ix2 r j) = ka m c (ix2 r j) := by
  blk_point [iblk, idx t]

/-- The log-sum-exps' block. -/
theorem entry2 (c : Dev nD) (t : Fin cfg0.N) (h : Fin 4) (r : Fin 512) :
    (iblk m c 2 t : FVec Ideal S4x512x1 .f32) (ix3 h r 0) = la m c (ix3 h (rowOf t r) 0) := by
  have e0 : ((((cfg0.win 2).blk t).view.emb (ix3 h r 0)) 0).val = win0_2.index t 0 * 4 + 1 * h.val := rfl
  have e1 : ((((cfg0.win 2).blk t).view.emb (ix3 h r 0)) 1).val = win0_2.index t 1 * 512 + 1 * r.val := rfl
  have e2 : ((((cfg0.win 2).blk t).view.emb (ix3 h r 0)) 2).val = win0_2.index t 2 * 1 + 1 * 0 := rfl
  rw [(idx t).2.2.1] at e0 e1 e2
  have e : (((cfg0.win 2).blk t).view.emb (ix3 h r 0) : S4x4096x1.Idx) = ix3 h (rowOf t r) 0 := by
    funext d
    match d with
    | 0 => exact Fin.ext (by rw [e0]; simp)
    | 1 => exact Fin.ext (by rw [e1]; simp [rowOf])
    | 2 => exact Fin.ext (by rw [e2]; simp)
  unfold la iblk
  generalize V m c = A
  rw [View.read_apply]
  exact (cast_eq _ _).trans (congrArg (A main_v17) e)

/-- The block of the output's gradient. -/
theorem entry3 (c : Dev nD) (t : Fin cfg0.N) (r : Fin 512) (j : Fin 512) :
    (iblk m c 3 t : FVec Ideal S512x512 .bf16) (ix2 r j) = ga m c (ix2 (rowOf t r) j) := by
  blk_point [iblk, idx t, rowOf]

/-- The queries' block as a function. -/
theorem blk0 (c : Dev nD) (t : Fin cfg0.N) : (iblk m c 0 t : FVec Ideal S512x512 .bf16) = fun i => qa m c (ix2 (rowOf t (i 0)) (i 1)) := by
  funext i; idx_vars i
  exact entry0 m c t _ _

/-- The keys' and values' block as a function. -/
theorem blk1 (c : Dev nD) (t : Fin cfg0.N) : (iblk m c 1 t : FVec Ideal S256x1024 .bf16) = fun i => ka m c (ix2 (i 0) (i 1)) := by
  funext i; idx_vars i
  exact entry1 m c t _ _

/-- The log-sum-exps' block as a function. -/
theorem blk2 (c : Dev nD) (t : Fin cfg0.N) : (iblk m c 2 t : FVec Ideal S4x512x1 .f32) = fun i => la m c (ix3 (i 0) (rowOf t (i 1)) 0) := by
  funext i; idx_vars i
  obtain rfl : i2 = 0 := Subsingleton.elim _ _
  exact entry2 m c t _ _

/-- The block of the output's gradient as a function. -/
theorem blk3 (c : Dev nD) (t : Fin cfg0.N) : (iblk m c 3 t : FVec Ideal S512x512 .bf16) = fun i => ga m c (ix2 (rowOf t (i 0)) (i 1)) := by
  funext i; idx_vars i
  exact entry3 m c t _ _

/-- The row of a block's element. -/
theorem row4 (t : Fin cfg0.N) (y : S512x512.Idx) : (((cfg0.win 4).blk t).view.emb y) 0 = rowOf t (y 0) := by
  have e0 : ((((cfg0.win 4).blk t).view.emb y) 0).val = win0_4.index t 0 * 512 + 1 * (y 0).val := rfl
  rw [(idx t).2.2.2.2.1] at e0
  exact Fin.ext (by rw [e0]; simp [rowOf])

/-- The column of a block's element. -/
theorem col4 (t : Fin cfg0.N) (y : S512x512.Idx) : (((cfg0.win 4).blk t).view.emb y) 1 = y 1 := by
  have e0 : ((((cfg0.win 4).blk t).view.emb y) 1).val = win0_4.index t 1 * 512 + 1 * (y 1).val := rfl
  rw [(idx t).2.2.2.2.1] at e0
  exact Fin.ext (by rw [e0]; simp)

/-- The queries' gradient, as an array. -/
def DQ (c : Dev nD) : FVec Ideal S4096x512 .bf16 := fun i => dqAt (qa m c) (ka m c) (la m c) (ga m c) (i 0) (i 1)

/-- A grid point leaves its rows of the queries' gradient. -/
theorem point4 (c : Dev nD) (t : Fin cfg0.N) (y) :
    (outsAt0 m c t.val t.isLt).1 y = DQ m c (((cfg0.win 4).blk t).view.emb y) := by
  by_cases h : t.val % 8 = 0
  · rw [outsAt0_A m c t h]; frame_out
    canon_tiles x h
    · unfold DQ
      rw [row4, col4, show (y 0 : Fin 512) = x 0 from Fin.ext h0]
      refine Eq.trans ?_ (dqAt_eq _ _ _ _ 3 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      rfl
    · unfold DQ
      rw [row4, col4, show (y 0 : Fin 512) = x 0 from Fin.ext h0]
      refine Eq.trans ?_ (dqAt_eq _ _ _ _ 2 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      rfl
    · unfold DQ
      rw [row4, col4, show (y 0 : Fin 512) = x 0 from Fin.ext h0]
      refine Eq.trans ?_ (dqAt_eq _ _ _ _ 1 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      rfl
    · unfold DQ
      rw [row4, col4, show (y 0 : Fin 512) = x 0 from Fin.ext h0]
      refine Eq.trans ?_ (dqAt_eq _ _ _ _ 0 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      simp only [col_0, kcol_0, col_0 (x 1), kcol_0 (x 1)]; rfl
  · rw [outsAt0_B m c t h]; frame_out
    canon_tiles x h
    · unfold DQ
      rw [row4, col4, show (y 0 : Fin 512) = x 0 from Fin.ext h0]
      refine Eq.trans ?_ (dqAt_eq _ _ _ _ 3 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      rfl
    · unfold DQ
      rw [row4, col4, show (y 0 : Fin 512) = x 0 from Fin.ext h0]
      refine Eq.trans ?_ (dqAt_eq _ _ _ _ 2 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      rfl
    · unfold DQ
      rw [row4, col4, show (y 0 : Fin 512) = x 0 from Fin.ext h0]
      refine Eq.trans ?_ (dqAt_eq _ _ _ _ 1 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      rfl
    · unfold DQ
      rw [row4, col4, show (y 0 : Fin 512) = x 0 from Fin.ext h0]
      refine Eq.trans ?_ (dqAt_eq _ _ _ _ 0 _ _ ⟨(x 1).val, by omega⟩ (by first | omega | (dsimp only; omega))).symm
      unfold_payloads
      pointwise [dquery, dscore, dprob, prob, score, named_scale]
      simp only [blk0, blk1, blk2, blk3]
      generalize qa m c = q, ka m c = k, la m c = l, ga m c = g
      simp only [col_0, kcol_0, col_0 (x 1), kcol_0 (x 1)]; rfl

/-- The array of the queries' gradient after the run. -/
theorem final4 (c : Dev nD) : (dats m 0 c).arrAt 4 (cfgs 0).N = DQ m c := by
  refine (dats m 0 c).arrAt_eq_of_covers 4 _ (by decide +kernel) fun t _ y => ?_
  blk_simp
  rw [after0_4]
  exact point4 m c t y

/-- What grid point `t` adds to the keys' and values' gradient. -/
def part (c : Dev nD) (t : Fin cfg0.N) (k : Fin 256) (j : Fin 1024) : EReal :=
  ∑ r : Fin 512, dkvAt (qa m c) (ka m c) (la m c) (ga m c) (rowOf t r) k j

theorem part_key (c : Dev nD) (t : Fin cfg0.N) (k : Fin 256) (j : Fin 1024) (h : Fin 4) (d : Fin 128) (e : j.val = 128 * h.val + d.val) :
    part m c t k j = ∑ r : Fin 512, dkey (qa m c) (ka m c) (la m c) (ga m c) h (rowOf t r) k d :=
  Finset.sum_congr rfl fun _ _ => dkvAt_key _ _ _ _ _ _ _ _ _ e

theorem part_val (c : Dev nD) (t : Fin cfg0.N) (k : Fin 256) (j : Fin 1024) (h : Fin 4) (d : Fin 128) (e : j.val = 512 + 128 * h.val + d.val) :
    part m c t k j = ∑ r : Fin 512, dval (qa m c) (ka m c) (la m c) (ga m c) h (rowOf t r) k d :=
  Finset.sum_congr rfl fun _ _ => dkvAt_val _ _ _ _ _ _ _ _ _ e

/-- The first grid point clears the keys' and values' gradient and adds its part. -/
theorem first5 (c : Dev nD) (t : Fin cfg0.N) (h : t.val % 8 = 0) (y : S256x1024.Idx) :
    (outsAt0 m c t.val t.isLt).2 y = 0 + part m c t (y 0) (y 1) := by
  rw [outsAt0_A m c t h]; frame_open
  simp (disch := decide) only [↓ View.readCov_skip, ↓ View.readCov_cons_toLoadRect, ↓ View.readCov_fill]
  frame_out
  clear h
  refine (Cert.Merge.canon_append_of_cover [_] [_, _, _, _, _, _, _, _] y ?_).trans ?_
  · exact View.cover_of_tiledL (s := S256x1024) _ S256x128.size (by sl_kernel_rfl) y
  rw [zero_add]
  canon_tiles x h
  · rw [show (y 0 : Fin 256) = x 0 from Fin.ext h0, part_val m c t (x 0) (y 1) 3 ⟨(x 1).val, by omega⟩ (by first | omega | (dsimp only; omega))]
    unfold_payloads
    pointwise [dval, prob, score, named_scale]
    simp only [blk0, blk1, blk2, blk3]
    generalize qa m c = q, ka m c = k, la m c = l, ga m c = g
    rfl
  · rw [show (y 0 : Fin 256) = x 0 from Fin.ext h0, part_key m c t (x 0) (y 1) 3 ⟨(x 1).val, by omega⟩ (by first | omega | (dsimp only; omega))]
    unfold_payloads
    pointwise [dkey, dscore, dprob, prob, score, named_scale]
    simp only [blk0, blk1, blk2, blk3]
    generalize qa m c = q, ka m c = k, la m c = l, ga m c = g
    rfl
  · rw [show (y 0 : Fin 256) = x 0 from Fin.ext h0, part_val m c t (x 0) (y 1) 2 ⟨(x 1).val, by omega⟩ (by first | omega | (dsimp only; omega))]
    unfold_payloads
    pointwise [dval, prob, score, named_scale]
    simp only [blk0, blk1, blk2, blk3]
    generalize qa m c = q, ka m c = k, la m c = l, ga m c = g
    rfl
  · rw [show (y 0 : Fin 256) = x 0 from Fin.ext h0, part_key m c t (x 0) (y 1) 2 ⟨(x 1).val, by omega⟩ (by first | omega | (dsimp only; omega))]
    unfold_payloads
    pointwise [dkey, dscore, dprob, prob, score, named_scale]
    simp only [blk0, blk1, blk2, blk3]
    generalize qa m c = q, ka m c = k, la m c = l, ga m c = g
    rfl
  · rw [show (y 0 : Fin 256) = x 0 from Fin.ext h0, part_val m c t (x 0) (y 1) 1 ⟨(x 1).val, by omega⟩ (by first | omega | (dsimp only; omega))]
    unfold_payloads
    pointwise [dval, prob, score, named_scale]
    simp only [blk0, blk1, blk2, blk3]
    generalize qa m c = q, ka m c = k, la m c = l, ga m c = g
    rfl
  · rw [show (y 0 : Fin 256) = x 0 from Fin.ext h0, part_key m c t (x 0) (y 1) 1 ⟨(x 1).val, by omega⟩ (by first | omega | (dsimp only; omega))]
    unfold_payloads
    pointwise [dkey, dscore, dprob, prob, score, named_scale]
    simp only [blk0, blk1, blk2, blk3]
    generalize qa m c = q, ka m c = k, la m c = l, ga m c = g
    rfl
  · rw [show (y 0 : Fin 256) = x 0 from Fin.ext h0, part_val m c t (x 0) (y 1) 0 ⟨(x 1).val, by omega⟩ (by first | omega | (dsimp only; omega))]
    unfold_payloads
    pointwise [dval, prob, score, named_scale]
    simp only [blk0, blk1, blk2, blk3]
    generalize qa m c = q, ka m c = k, la m c = l, ga m c = g
    simp only [col_0, kcol_0, col_0 (x 1), kcol_0 (x 1)]; rfl
  · rw [show (y 0 : Fin 256) = x 0 from Fin.ext h0, part_key m c t (x 0) (y 1) 0 ⟨(x 1).val, by omega⟩ (by first | omega | (dsimp only; omega))]
    unfold_payloads
    pointwise [dkey, dscore, dprob, prob, score, named_scale]
    simp only [blk0, blk1, blk2, blk3]
    generalize qa m c = q, ka m c = k, la m c = l, ga m c = g
    simp only [col_0, kcol_0, col_0 (x 1), kcol_0 (x 1)]; rfl

/-- Every other grid point adds its part to what the points before it left. -/
theorem step5 (c : Dev nD) (t : Fin cfg0.N) (h : ¬t.val % 8 = 0) (y : S256x1024.Idx) :
    (outsAt0 m c t.val t.isLt).2 y
      = (outsAt0 m c (t.val - 1) (Nat.lt_of_le_of_lt (Nat.sub_le _ _) t.isLt)).2 y + part m c t (y 0) (y 1) := by
  rw [outsAt0_B m c t h]; frame_out
  clear h
  generalize (outsAt0 m c (t.val - 1) (Nat.lt_of_le_of_lt (Nat.sub_le _ _) t.isLt)).2 = acc
  canon_tiles x h
  · rw [show (y 0 : Fin 256) = x 0 from Fin.ext h0, part_val m c t (x 0) (y 1) 3 ⟨(x 1).val, by omega⟩ (by first | omega | (dsimp only; omega))]
    unfold_payloads
    pointwise [dval, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    rfl
  · rw [show (y 0 : Fin 256) = x 0 from Fin.ext h0, part_key m c t (x 0) (y 1) 3 ⟨(x 1).val, by omega⟩ (by first | omega | (dsimp only; omega))]
    unfold_payloads
    pointwise [dkey, dscore, dprob, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    rfl
  · rw [show (y 0 : Fin 256) = x 0 from Fin.ext h0, part_val m c t (x 0) (y 1) 2 ⟨(x 1).val, by omega⟩ (by first | omega | (dsimp only; omega))]
    unfold_payloads
    pointwise [dval, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    rfl
  · rw [show (y 0 : Fin 256) = x 0 from Fin.ext h0, part_key m c t (x 0) (y 1) 2 ⟨(x 1).val, by omega⟩ (by first | omega | (dsimp only; omega))]
    unfold_payloads
    pointwise [dkey, dscore, dprob, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    rfl
  · rw [show (y 0 : Fin 256) = x 0 from Fin.ext h0, part_val m c t (x 0) (y 1) 1 ⟨(x 1).val, by omega⟩ (by first | omega | (dsimp only; omega))]
    unfold_payloads
    pointwise [dval, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    rfl
  · rw [show (y 0 : Fin 256) = x 0 from Fin.ext h0, part_key m c t (x 0) (y 1) 1 ⟨(x 1).val, by omega⟩ (by first | omega | (dsimp only; omega))]
    unfold_payloads
    pointwise [dkey, dscore, dprob, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    rfl
  · rw [show (y 0 : Fin 256) = x 0 from Fin.ext h0, part_val m c t (x 0) (y 1) 0 ⟨(x 1).val, by omega⟩ (by first | omega | (dsimp only; omega))]
    unfold_payloads
    pointwise [dval, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    simp only [col_0, kcol_0, col_0 (x 1), kcol_0 (x 1)]; rfl
  · rw [show (y 0 : Fin 256) = x 0 from Fin.ext h0, part_key m c t (x 0) (y 1) 0 ⟨(x 1).val, by omega⟩ (by first | omega | (dsimp only; omega))]
    unfold_payloads
    pointwise [dkey, dscore, dprob, prob, score, named_scale]
    simp only [blk0, blk1, blk2, blk3]
    refine congrArg₂ (· + ·) (congrArg acc (by funext d; match d with | 0 => exact Fin.ext h0.symm | 1 => exact Fin.ext h1.symm)) ?_
    generalize qa m c = q, ka m c = k, la m c = l, ga m c = g
    simp only [col_0, kcol_0, col_0 (x 1), kcol_0 (x 1)]; rfl

/-- The keys' and values' gradient, as an array. -/
def DKV (c : Dev nD) : FVec Ideal S256x1024 .f32 := fun i =>
  ∑ r : Fin 4096, dkvAt (qa m c) (ka m c) (la m c) (ga m c) r (i 0) (i 1)

/-- The array of the keys' and values' gradient after the run. -/
theorem final5 (c : Dev nD) : (dats m 0 c).arrAt 5 (cfgs 0).N = DKV m c := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t (y : S256x1024.Idx) => part m c t (y 0) (y 1)) (fun t h y => first5 m c t h y) (fun t h y => step5 m c t h y) (le_of_eq N_0) t0_7 rfl _,
    zero_add]
  unfold part DKV
  exact Fin.sum_mul_add_congr fun s k hl => rfl

/-- Dividing by the root is multiplying by the factor. -/
theorem div_scale (x : EReal) : Ideal.div x (Ideal.sqrt (Ideal.ofBits .f32 0x43000000#32)) = x * scale := div_sqrt x

/-- The reference's scores. -/
theorem ref_score (q : Qs) (kv : Kv) (h r k) : Cert.PlainXBwdIdeal.Read.val_main_v11 (F := Ideal) q kv (ix3 h r k) = score q kv h r k := by
  pointwise [Cert.PlainXBwdIdeal.Read.val_main_v11, Cert.PlainXBwdIdeal.Read.val_main_v10, Cert.PlainXBwdIdeal.Read.val_main_v9, Cert.PlainXBwdIdeal.Read.val_main_v8,Cert.PlainXBwdIdeal.Read.val_main_v7,Cert.PlainXBwdIdeal.Read.val_main_v6,Cert.PlainXBwdIdeal.Read.val_main_v5,Cert.PlainXBwdIdeal.Read.val_main_v1,Cert.PlainXBwdIdeal.Read.val_main_v0,Cert.PlainXBwdIdeal.Read.val_main_cst, div_scale, score, col, kcol]

/-- The maximum over a row of scores. -/
theorem max_row (v : FVec Ideal (⟨3, ![4, 4096, 256]⟩ : Shape) .f32) (c : FVec Ideal (⟨0, ![]⟩ : Shape) .f32)
    (h : (⟨3, ![4, 4096, 256]⟩ : Shape).ReducesTo [2] ⟨2, ![4, 4096]⟩) (hu) (a : Fin 4) (r : Fin 4096) :
    Host.reduce FloatOps.maximumf v c h hu (ix2 a r) = Finset.univ.fold max (c (Shape.Idx.first hu)) fun k : Fin 256 => v (ix3 a r k) := by
  simp only [pointwise]

/-- The same as an array. -/
theorem ref_scores (q : Qs) (kv : Kv) : Cert.PlainXBwdIdeal.Read.val_main_v11 (F := Ideal) q kv = fun i => score q kv (i 0) (i 1) (i 2) := by
  funext i; idx_vars i; exact ref_score q kv _ _ _

/-- The reference's largest scores. -/
theorem ref_max (q : Qs) (kv : Kv) (h r) : Cert.PlainXBwdIdeal.Read.val_main_v12 (F := Ideal) q kv (ix2 h r) = top (score q kv h r) := by
  unfold Cert.PlainXBwdIdeal.Read.val_main_v12
  rw [ref_scores]
  refine (max_row _ _ _ _ h r).trans ?_
  exact congrArg (fun b => Finset.univ.fold max b (score q kv h r)) ofBits_neg_inf

/-- They are not changed by a maximum with minus infinity. -/
theorem ref_top (q : Qs) (kv : Kv) (h r) : Cert.PlainXBwdIdeal.Read.val_main_v19 (F := Ideal) q kv (ix2 h r) = top (score q kv h r) := by
  rw [Cert.PlainXBwdIdeal.Read.val_main_v19_apply, Cert.PlainXBwdIdeal.Read.val_main_v18_apply, Cert.PlainXBwdIdeal.Read.val_main_cst_2_apply, ref_max]
  exact (congrArg (max · _) ofBits_neg_inf).trans (max_bot_left _)

/-- The reference's exponentials. -/
theorem ref_exp (q : Qs) (kv : Kv) (h r k) : Cert.PlainXBwdIdeal.Read.val_main_v32 (F := Ideal) q kv (ix3 h r k) = Ideal.exp (score q kv h r k - top (score q kv h r)) := by
  rw [Cert.PlainXBwdIdeal.Read.val_main_v32_apply, Cert.PlainXBwdIdeal.Read.val_main_v31_apply, Cert.PlainXBwdIdeal.Read.val_main_v30_apply, Cert.PlainXBwdIdeal.Read.val_main_v29_apply, ref_score]
  exact congrArg (fun t => Ideal.exp (score q kv h r k - t)) ((congrArg (Cert.PlainXBwdIdeal.Read.val_main_v19 (F := Ideal) q kv) (by funext a; match a with | 0 => rfl | 1 => rfl)).trans (ref_top q kv h r))

/-- The same as an array. -/
theorem ref_exps (q : Qs) (kv : Kv) : Cert.PlainXBwdIdeal.Read.val_main_v32 (F := Ideal) q kv = fun i => Ideal.exp (score q kv (i 0) (i 1) (i 2) - top (score q kv (i 0) (i 1))) := by
  funext i; idx_vars i; exact ref_exp q kv _ _ _

/-- The reference's sums of exponentials. -/
theorem ref_tot (q : Qs) (kv : Kv) (h r) : Cert.PlainXBwdIdeal.Read.val_main_v33 (F := Ideal) q kv (ix2 h r) = tot (score q kv h r) := by
  unfold Cert.PlainXBwdIdeal.Read.val_main_v33
  rw [ref_exps]
  pointwise [Cert.PlainXBwdIdeal.Read.val_main_cst_8, tot]

/-- The reference's softmax. -/
theorem ref_soft (q : Qs) (kv : Kv) (h r k) : Cert.PlainXBwdIdeal.Read.val_main_v36 (F := Ideal) q kv (ix3 h r k) = soft (score q kv h r) k := by
  pointwise [Cert.PlainXBwdIdeal.Read.val_main_v36, Cert.PlainXBwdIdeal.Read.val_main_v35, Cert.PlainXBwdIdeal.Read.val_main_v34, ref_exp, ref_tot, soft]

/-- The reference's gradient of the softmax. -/
theorem ref_dprob (kv : Kv) (g : Qs) (h r k) : Cert.PlainXBwdIdeal.Read.val_main_v45 (F := Ideal) kv g (ix3 h r k) = dprob kv g h r k := by
  pointwise [Cert.PlainXBwdIdeal.Read.val_main_v45, Cert.PlainXBwdIdeal.Read.val_main_v44, Cert.PlainXBwdIdeal.Read.val_main_v43, Cert.PlainXBwdIdeal.Read.val_main_v2, Cert.PlainXBwdIdeal.Read.val_main_v4, Cert.PlainXBwdIdeal.Read.val_main_v3, Cert.PlainXBwdIdeal.Read.val_main_v1, dprob, col, vcol]
  exact Finset.sum_congr rfl fun d _ => congrArg (fun j => g (ix2 r ⟨h.val * 128 + d.val, by omega⟩) * kv (ix2 k j)) (Fin.ext (Nat.add_assoc _ _ _).symm)

/-- The inverse squares of the sums. -/
theorem ref_inv (q : Qs) (kv : Kv) (h r z) : Cert.PlainXBwdIdeal.Read.val_main_v39 (F := Ideal) q kv (ix3 h r z) = Ideal.div 1 (tot (score q kv h r) * tot (score q kv h r)) := by
  pointwise [Cert.PlainXBwdIdeal.Read.val_main_v39, Cert.PlainXBwdIdeal.Read.val_main_v38, Cert.PlainXBwdIdeal.Read.val_main_v37, Cert.PlainXBwdIdeal.Read.val_main_v34, Cert.PlainXBwdIdeal.Read.val_main_cst_9, ref_tot]

theorem ref_prod (q : Qs) (kv : Kv) (g : Qs) (h r k) : Cert.PlainXBwdIdeal.Read.val_main_v50 (F := Ideal) q kv g (ix3 h r k)
    = dprob kv g h r k * Ideal.div 1 (tot (score q kv h r) * tot (score q kv h r)) * Ideal.exp (score q kv h r k - top (score q kv h r)) := by
  pointwise [Cert.PlainXBwdIdeal.Read.val_main_v50, Cert.PlainXBwdIdeal.Read.val_main_v49, Cert.PlainXBwdIdeal.Read.val_main_v48, ref_inv, ref_dprob, ref_exp]

theorem ref_sum (q : Qs) (kv : Kv) (g : Qs) (h r) : Cert.PlainXBwdIdeal.Read.val_main_v51 (F := Ideal) q kv g (ix2 h r)
    = ∑ k, dprob kv g h r k * Ideal.div 1 (tot (score q kv h r) * tot (score q kv h r)) * Ideal.exp (score q kv h r k - top (score q kv h r)) := by
  pointwise [Cert.PlainXBwdIdeal.Read.val_main_v51, Cert.PlainXBwdIdeal.Read.val_main_cst_10, ref_prod]

theorem ref_neg (q : Qs) (kv : Kv) (g : Qs) (h r) : Cert.PlainXBwdIdeal.Read.val_main_v56 (F := Ideal) q kv g (ix2 h r)
    = -(∑ k, dprob kv g h r k * Ideal.div 1 (tot (score q kv h r) * tot (score q kv h r)) * Ideal.exp (score q kv h r k - top (score q kv h r))) := by
  pointwise [Cert.PlainXBwdIdeal.Read.val_main_v56, Cert.PlainXBwdIdeal.Read.val_main_v53, Cert.PlainXBwdIdeal.Read.val_main_v52, Cert.PlainXBwdIdeal.Read.val_main_cst_11, ref_sum]
  exact Fin.sum_univ_one _

/-- The reference's gradient of the scores. -/
theorem ref_dscore (q : Qs) (kv : Kv) (g : Qs) (h r k) : Cert.PlainXBwdIdeal.Read.val_main_v61 (F := Ideal) q kv g (ix3 h r k)
    = Ideal.div ((Ideal.div (dprob kv g h r k) (tot (score q kv h r)) + -(∑ j, dprob kv g h r j * Ideal.div 1 (tot (score q kv h r) * tot (score q kv h r))
      * Ideal.exp (score q kv h r j - top (score q kv h r)))) * Ideal.exp (score q kv h r k - top (score q kv h r)))
      (Ideal.sqrt (Ideal.ofBits .f32 0x43000000#32)) := by
  pointwise [Cert.PlainXBwdIdeal.Read.val_main_v61, Cert.PlainXBwdIdeal.Read.val_main_v60, Cert.PlainXBwdIdeal.Read.val_main_v9, Cert.PlainXBwdIdeal.Read.val_main_cst, Cert.PlainXBwdIdeal.Read.val_main_v59, Cert.PlainXBwdIdeal.Read.val_main_v58, Cert.PlainXBwdIdeal.Read.val_main_v57, Cert.PlainXBwdIdeal.Read.val_main_v55, Cert.PlainXBwdIdeal.Read.val_main_v54, Cert.PlainXBwdIdeal.Read.val_main_v34, ref_neg, ref_dprob, ref_exp, ref_tot]

variable {q : Qs} {kv : Kv} {l : Ls} {g : Qs}

/-- The saved log-sum-exps give the softmax. -/
theorem prob_eq (hq : ∀ i, IsReal (q i)) (hk : ∀ i, IsReal (kv i)) (hl : ∀ h r, l (ix3 h r 0) = lse (score q kv h r)) (h r k) :
    prob q kv l h r k = soft (score q kv h r) k := by
  unfold prob
  rw [hl]
  exact exp_lse (fun k => real_score hq hk h r k) k

/-- The two gradients of the scores are one. -/
theorem dscore_eq (hq : ∀ i, IsReal (q i)) (hk : ∀ i, IsReal (kv i)) (hg : ∀ i, IsReal (g i)) (hl : ∀ h r, l (ix3 h r 0) = lse (score q kv h r)) (h r k) :
    Cert.PlainXBwdIdeal.Read.val_main_v61 (F := Ideal) q kv g (ix3 h r k) = dscore q kv l g h r k := by
  rw [ref_dscore, grad_eq (fun k => real_score hq hk h r k) (fun k => real_dprob hk hg h r k)]
  unfold dscore
  simp only [prob_eq hq hk hl]

theorem ref_dquery (hs : ∀ h r k, Cert.PlainXBwdIdeal.Read.val_main_v61 (F := Ideal) q kv g (ix3 h r k) = dscore q kv l g h r k) (h r d) :
    Cert.PlainXBwdIdeal.Read.val_main_v64 (F := Ideal) q kv g (ix3 h r d) = dquery q kv l g h r d := by
  pointwise [Cert.PlainXBwdIdeal.Read.val_main_v64, Cert.PlainXBwdIdeal.Read.val_main_v7, Cert.PlainXBwdIdeal.Read.val_main_v6, Cert.PlainXBwdIdeal.Read.val_main_v1, hs, dquery, kcol]

theorem ref_dkey (hs : ∀ h r k, Cert.PlainXBwdIdeal.Read.val_main_v61 (F := Ideal) q kv g (ix3 h r k) = dscore q kv l g h r k) (h k d) :
    Cert.PlainXBwdIdeal.Read.val_main_v62 (F := Ideal) q kv g (ix3 h k d) = ∑ r : Fin 4096, dkey q kv l g h r k d := by
  pointwise [Cert.PlainXBwdIdeal.Read.val_main_v62, Cert.PlainXBwdIdeal.Read.val_main_v5, Cert.PlainXBwdIdeal.Read.val_main_v0, hs, dkey, col]

theorem ref_dval (hp : ∀ h r k, Cert.PlainXBwdIdeal.Read.val_main_v36 (F := Ideal) q kv (ix3 h r k) = prob q kv l h r k) (h d k) :
    Cert.PlainXBwdIdeal.Read.val_main_v46 (F := Ideal) q kv g (ix3 h d k) = ∑ r : Fin 4096, dval q kv l g h r k d := by
  pointwise [Cert.PlainXBwdIdeal.Read.val_main_v46, Cert.PlainXBwdIdeal.Read.val_main_v44, Cert.PlainXBwdIdeal.Read.val_main_v43, Cert.PlainXBwdIdeal.Read.val_main_v2, hp, dval, col]
  exact Finset.sum_congr rfl fun _ _ => mul_comm _ _

/-- The reference's gradient of the queries. -/
theorem ref_dq (hs : ∀ h r k, Cert.PlainXBwdIdeal.Read.val_main_v61 (F := Ideal) q kv g (ix3 h r k) = dscore q kv l g h r k) :
    Cert.PlainXBwdIdeal.Read.val_main_v72 (F := Ideal) q kv g = fun i => dqAt q kv l g (i 0) (i 1) := by
  funext i
  rw [Cert.PlainXBwdIdeal.Read.val_main_v72_apply, Cert.PlainXBwdIdeal.Read.val_main_v68_apply, Cert.PlainXBwdIdeal.Read.val_main_v65_apply]
  refine (congrArg (Cert.PlainXBwdIdeal.Read.val_main_v64 (F := Ideal) q kv g) (?_ : _ = ix3 (⟨(i 1).val / 128, by have : (i 1).val < 512 := (i 1).isLt; omega⟩ : Fin 4) (i 0) (⟨(i 1).val % 128, by omega⟩ : Fin 128))).trans
    (ref_dquery hs _ _ _)
  have h0 : (i 0).val < 4096 := (i 0).isLt
  have h1 : (i 1).val < 512 := (i 1).isLt
  funext a
  match a with
  | 0 => exact Fin.ext (show ((i 0).val * 512 + (i 1).val) / 128 % 4 = (i 1).val / 128 by omega)
  | 1 => exact Fin.ext (show ((i 0).val * 512 + (i 1).val) / 512 = (i 0).val by omega)
  | 2 => exact Fin.ext (show ((i 0).val * 512 + (i 1).val) % 128 = (i 1).val % 128 by omega)

/-- The reference's gradient of the keys and values. -/
theorem ref_dkv (hs : ∀ h r k, Cert.PlainXBwdIdeal.Read.val_main_v61 (F := Ideal) q kv g (ix3 h r k) = dscore q kv l g h r k)
    (hp : ∀ h r k, Cert.PlainXBwdIdeal.Read.val_main_v36 (F := Ideal) q kv (ix3 h r k) = prob q kv l h r k) :
    Cert.PlainXBwdIdeal.Read.val_main_v71 (F := Ideal) q kv g = fun i => ∑ r : Fin 4096, dkvAt q kv l g r (i 0) (i 1) := by
  funext i; idx_vars i
  pointwise [Cert.PlainXBwdIdeal.Read.val_main_v71, Cert.PlainXBwdIdeal.Read.val_main_v70, Cert.PlainXBwdIdeal.Read.val_main_v67, Cert.PlainXBwdIdeal.Read.val_main_v66, Cert.PlainXBwdIdeal.Read.val_main_v69, Cert.PlainXBwdIdeal.Read.val_main_v63, Cert.PlainXBwdIdeal.Read.val_main_v47, Cert.PlainXBwdIdeal.Read.val_main_cst_12, Cert.PlainXBwdIdeal.Read.val_main_cst_13, ref_dkey hs, ref_dval hp]
  by_cases h : i1.val < 512
  · rw [dif_pos h, dif_neg (by omega), add_zero]
    exact Finset.sum_congr rfl fun r _ => (dkvAt_key _ _ _ _ _ _ _ _ _ (by show i1.val = 128 * (i1.val / 128) + i1.val % 128; omega)).symm
  · rw [dif_neg h, dif_pos (by omega), zero_add]
    exact Finset.sum_congr rfl fun r _ => (dkvAt_val _ _ _ _ _ _ _ _ _ (by show i1.val = 512 + 128 * ((i1.val - 512) / 128) + (i1.val - 512) % 128; omega)).symm

/-- The scores as the host computes them. -/
def hostScores (q : Qs) (kv : Kv) : FVec Ideal S4x4096x256 .f32 :=
  Host.divf (Host.dotGeneral dot_S4096x4x128_S256x4x128_S4x4096x256_2_2_0_0_1_1 none
      (shapeCast S4096x4x128 (extf FTy.f32 q bitsLt_bf16_f32) shapeCasts_S4096x512_S4096x4x128)
      (shapeCast S256x4x128 (extractStridedSlice S256x512 ![0, 0] (extf FTy.f32 kv bitsLt_bf16_f32) slices_S256x1024_S256x512_0_0) shapeCasts_S256x512_S256x4x128))
    (broadcastInDim S4x4096x256 ![] bcast_S_S4x4096x256 (Host.sqrt (constant S_ .f32 0x43000000#32)))

theorem hostScores_eq (q : Qs) (kv : Kv) (h r k) : hostScores q kv (ix3 h r k) = score q kv h r k := by
  pointwise [hostScores, div_scale, score, col, kcol]

theorem col_bcast (x : FVec Ideal S4x4096 .f32) (h r z) : broadcastInDim S4x4096x1 ![0, 1] bcast_S4x4096_S4x4096x1_0_1 x (ix3 h r z) = x (ix2 h r) :=
  broadcastInDim_apply _ bcast_S4x4096_S4x4096x1_0_1 x (ix3 h r z) (ix2 h r) (fun b => match b with
    | ⟨0, _⟩ => by show h.val = if (4 : Nat) = 1 then 0 else h.val; rw [if_neg (by decide)]
    | ⟨1, _⟩ => by show r.val = if (4096 : Nat) = 1 then 0 else r.val; rw [if_neg (by decide)])

/-- The rows' largest scores as the host computes them. -/
def hostTop (s : FVec Ideal S4x4096x256 .f32) : FVec Ideal S4x4096x1 .f32 :=
  broadcastInDim S4x4096x1 ![0, 1] bcast_S4x4096_S4x4096x1_0_1
    (Host.reduce FloatOps.maximumf s (constant S_ .f32 0xFF800000#32) reducesTo_S4x4096x256_S4x4096_d2 h_S_)

theorem hostTop_eq (s : FVec Ideal S4x4096x256 .f32) (h r z) : hostTop s (ix3 h r z) = top fun k => s (ix3 h r k) := by
  refine (col_bcast _ h r z).trans ((max_row _ _ _ _ h r).trans ?_)
  exact congrArg (fun b => Finset.univ.fold max b fun k => s (ix3 h r k)) ofBits_neg_inf

theorem hostTop_wide (s : FVec Ideal S4x4096x256 .f32) : broadcastInDim S4x4096x256 ![0, 1, 2] bcast_S4x4096x1_S4x4096x256_0_1_2 (hostTop s)
    = fun i => top fun k => s (ix3 (i 0) (i 1) k) := by
  funext i
  exact (broadcastInDim_apply _ bcast_S4x4096x1_S4x4096x256_0_1_2 _ i (ix3 (i 0) (i 1) 0) (fun b => match b with
    | ⟨0, _⟩ => by show (i 0).val = if (4 : Nat) = 1 then 0 else (i 0).val; rw [if_neg (by decide)]
    | ⟨1, _⟩ => by show (i 1).val = if (4096 : Nat) = 1 then 0 else (i 1).val; rw [if_neg (by decide)]
    | ⟨2, _⟩ => by show 0 = if (1 : Nat) = 1 then 0 else (i 2).val; rw [if_pos rfl])).trans (hostTop_eq s _ _ _)

theorem sum_row (v : FVec Ideal S4x4096x256 .f32) (h r) :
    Host.reduceAdd v (constant S_ .f32 0x00000000#32) reducesTo_S4x4096x256_S4x4096_d2 h_S_ (ix2 h r) = ∑ k : Fin 256, v (ix3 h r k) := by
  pointwise []

/-- The rows' sums of exponentials as the host computes them. -/
def hostTot (s : FVec Ideal S4x4096x256 .f32) : FVec Ideal S4x4096 .f32 :=
  Host.reduceAdd (Host.exp (subf s (broadcastInDim S4x4096x256 ![0, 1, 2] bcast_S4x4096x1_S4x4096x256_0_1_2 (hostTop s))))
    (constant S_ .f32 0x00000000#32) reducesTo_S4x4096x256_S4x4096_d2 h_S_

theorem hostTot_eq (s : FVec Ideal S4x4096x256 .f32) (h r) : hostTot s (ix2 h r) = tot fun k => s (ix3 h r k) := by
  unfold hostTot tot
  rw [hostTop_wide, sum_row]
  exact Finset.sum_congr rfl fun k _ => rfl

/-- The log-sum-exps as the host computes them. -/
def hostLse (s : FVec Ideal S4x4096x256 .f32) : Ls :=
  addf (hostTop s) (Host.log (broadcastInDim S4x4096x1 ![0, 1] bcast_S4x4096_S4x4096x1_0_1 (hostTot s)))

theorem addf_log (x y : FVec Ideal S4x4096x1 .f32) (i) : addf x (Host.log y) i = x i + Ideal.log (y i) := rfl

theorem hostLse_eq (s : FVec Ideal S4x4096x256 .f32) (h r z) : hostLse s (ix3 h r z) = lse fun k => s (ix3 h r k) := by
  unfold hostLse lse
  rw [addf_log, col_bcast, hostTop_eq, hostTot_eq]

/-- The log-sum-exps the host prepares. -/
theorem V_lse (c : Dev nD) (h r) : (V m c main_v17 : Ls) (ix3 h r 0)
    = lse (score (m ((c : Thread nD τ).loc main_arg0)) (m ((c : Thread nD τ).loc main_arg1)) h r) := by
  have e : (V m c main_v17 : Ls) = hostLse (hostScores (m ((c : Thread nD τ).loc main_arg0)) (m ((c : Thread nD τ).loc main_arg1))) := by
    entry_read
    rfl
  rw [e, hostLse_eq]
  exact congrArg lse (funext fun k => hostScores_eq _ _ h r k)

theorem DQ_eq (c : Dev nD) : DQ m c = fun i => dqAt (m ((c : Thread nD τ).loc main_arg0)) (m ((c : Thread nD τ).loc main_arg1)) (V m c main_v17)
    (m ((c : Thread nD τ).loc main_arg2)) (i 0) (i 1) := by
  unfold DQ qa ka la ga
  rw [V_main_arg0 m c, V_main_arg1 m c, V_main_arg2 m c]

theorem DKV_eq (c : Dev nD) : DKV m c = fun i => ∑ r : Fin 4096, dkvAt (m ((c : Thread nD τ).loc main_arg0)) (m ((c : Thread nD τ).loc main_arg1)) (V m c main_v17)
    (m ((c : Thread nD τ).loc main_arg2)) r (i 0) (i 1) := by
  unfold DKV qa ka la ga
  rw [V_main_arg0 m c, V_main_arg1 m c, V_main_arg2 m c]

instance preFacts : Cert.Pre_finite_xbwd.Facts where
  bitsLt_bf16_f32 := by decide
  bcast_S_S4096x512 := by decide
  bcast_S_S256x1024 := by decide

/-- The kernel and the gradient agree over the extended reals on finite arguments. -/
theorem algebraic : Cert.algebraic_XBwdIdeal_PlainXBwdIdeal_pre_finite_xbwd := by
  pair_intro
  · run_from Cert.XBwdIdeal.Value.run_blocks m g
  · have hq (c : Dev nD) (i) : IsReal ((m ((c : Thread nD τ).loc main_arg0) : Qs) i) := IsReal.of_olt ofBits_inf (congrFun (hpre c).1 i)
    have hk (c : Dev nD) (i) : IsReal ((m ((c : Thread nD τ).loc main_arg1) : Kv) i) := IsReal.of_olt ofBits_inf (congrFun (hpre c).2.1 i)
    have hg (c : Dev nD) (i) : IsReal ((m ((c : Thread nD τ).loc main_arg2) : Qs) i) := IsReal.of_olt ofBits_inf (congrFun (hpre c).2.2 i)
    have hs (c : Dev nD) (h r k) := dscore_eq (hq c) (hk c) (hg c) (V_lse m c) h r k
    have hp (c : Dev nD) (h r k) := (ref_soft _ _ h r k).trans (prob_eq (hq c) (hk c) (V_lse m c) h r k).symm
    refine Idealize.ShloMosaic.θ_run_mono (Cert.PlainXBwdIdeal.Value.run m' g') fun r hr c => ?_
    obtain ⟨a0, a1, a2⟩ := hagree c
    obtain ⟨h0, h1, he⟩ := hr c
    refine ⟨h0.trans ?_, h1.trans ?_, he⟩
    · rw [Cert.PlainXBwdIdeal.Read.val_main_v72_eq m' c, a0, a1, a2]
      exact (ref_dq (hs c)).trans ((DQ_eq m c).symm.trans (final4 m c).symm)
    · rw [Cert.PlainXBwdIdeal.Read.val_main_v71_eq m' c, a0, a1, a2]
      exact (ref_dkv (hs c) (hp c)).trans ((DKV_eq m c).symm.trans (final5 m c).symm)

end Cert.XBwdProof
-- ==== Proof.SumSmall.lean ====
module

public import proofs.«01_k».proof.Defs
public import proofs.«01_k».proof.Proof.Gen.SumSmallIdeal.Value
public import proofs.«01_k».proof.Proof.Gen.PlainSumSmallIdeal.Run
public import proofs.«01_k».proof.Proof.Gen.PlainSumSmallIdeal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The sum of the small gradients' pieces. -/

namespace Cert.SumSmallProof

open Cert.SumSmallIdeal Cert.SumSmallIdeal.Gen Idealize.ShloMosaic Idealize.ShloMosaic.TcCoe Idealize.SL.Sem
open Idealize.ShloMosaic.Pipeline (Dat)

variable (m : (ℓ : Loc nD τ sig) → Buf (Elt Ideal) ℓ)

/-- The sum of the eight pieces. -/
def total (p : FVec Ideal S8x464x1024 .f32) : FVec Ideal S464x1024 .f32 := fun i => ∑ s : Fin 8, p (ix3 s (i 0) (i 1))

/-- The blocks of every grid point. -/
theorem idx : ∀ t : Fin cfg0.N, win0_0.index t = ![0, t.val, 0] ∧ win0_1.index t = ![t.val, 0] :=
  (by decide +kernel : ∀ t : Fin grid0.N, _)

/-- The array after the run. -/
theorem final (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1]; frame_out
  unfold_payloads
  pointwise [total]
  try simp only [Fin.sum_univ_eight]
  blk_point [iblk, V, idx t]

/-- The reference's array. -/
theorem ref (p : FVec Ideal S8x464x1024 .f32) :
    Cert.PlainSumSmallIdeal.Read.val_main_v0 (F := Ideal) p = total p := by
  funext i; idx_vars i
  pointwise [Cert.PlainSumSmallIdeal.Read.val_main_v0, Cert.PlainSumSmallIdeal.Read.val_main_cst, total]

/-- The kernel and the plain sum agree over the extended reals. -/
theorem algebraic : Cert.algebraic_SumSmallIdeal_PlainSumSmallIdeal := by
  pair_intro
  · run_from Cert.SumSmallIdeal.Value.run_blocks m g
  · refine Idealize.ShloMosaic.θ_run_mono (Cert.PlainSumSmallIdeal.Value.run m' g') fun r hr c => ?_
    have a0 := hagree c
    obtain ⟨h0, hs⟩ := hr c
    refine ⟨h0.trans ?_, hs⟩
    rw [a0]
    exact (ref (m ((c : Thread nD τ).loc main_arg0))).trans (final m c).symm

end Cert.SumSmallProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.MergeClaim
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActIdeal.Value
public import proofs.«01_k».proof.Proof.Gen.PlainDActIdeal
public import proofs.«01_k».proof.Proof.Gen.PlainDActIdeal.Run
public import proofs.«01_k».proof.Proof.Gen.PlainDActIdeal.Read
public import proofs.«01_k».proof.Proof.DAct
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.PlainDwDownIdeal
public import proofs.«01_k».proof.Proof.Gen.PlainDwDownIdeal.Run
public import proofs.«01_k».proof.Proof.Gen.PlainDwDownIdeal.Read
public import proofs.«01_k».proof.Proof.DwDown
public import proofs.«01_k».proof.Proof.Gen.DxIn
public import proofs.«01_k».proof.Proof.Gen.DxIn.Skeleton
public import proofs.«01_k».proof.Proof.Gen.DxIn.Launch
public import proofs.«01_k».proof.Proof.Gen.DxIn.Points
public import proofs.«01_k».proof.Proof.Gen.DxIn.Frame
public import proofs.«01_k».proof.Proof.Gen.DxInIdeal
public import proofs.«01_k».proof.Proof.Gen.DxInIdeal.Skeleton
public import proofs.«01_k».proof.Proof.Gen.DxInIdeal.Launch
public import proofs.«01_k».proof.Proof.Gen.DxInIdeal.Points
public import proofs.«01_k».proof.Proof.Gen.DxInIdeal.Frame
public import proofs.«01_k».proof.Proof.Gen.DxInIdeal.Value
public import proofs.«01_k».proof.Proof.Gen.PlainDxInIdeal
public import proofs.«01_k».proof.Proof.Gen.PlainDxInIdeal.Run
public import proofs.«01_k».proof.Proof.Gen.PlainDxInIdeal.Read
public import proofs.«01_k».proof.Proof.DxIn
public import proofs.«01_k».proof.Proof.Gen.DMerged
public import proofs.«01_k».proof.Proof.Gen.DMerged.Skeleton
public import proofs.«01_k».proof.Proof.Gen.DMerged.Launch
public import proofs.«01_k».proof.Proof.Gen.DMerged.Points
public import proofs.«01_k».proof.Proof.Gen.DMerged.Frame
public import proofs.«01_k».proof.Proof.Gen.DMergedIdeal
public import proofs.«01_k».proof.Proof.Gen.DMergedIdeal.Skeleton
public import proofs.«01_k».proof.Proof.Gen.DMergedIdeal.Launch
public import proofs.«01_k».proof.Proof.Gen.DMergedIdeal.Points
public import proofs.«01_k».proof.Proof.Gen.DMergedIdeal.Frame
public import proofs.«01_k».proof.Proof.Gen.DMergedIdeal.Value
public import proofs.«01_k».proof.Proof.Gen.PlainDMergedIdeal
public import proofs.«01_k».proof.Proof.Gen.PlainDMergedIdeal.Run
public import proofs.«01_k».proof.Proof.Gen.PlainDMergedIdeal.Read
public import proofs.«01_k».proof.Proof.DMerged
public import proofs.«01_k».proof.Proof.Gen.DwMix
public import proofs.«01_k».proof.Proof.Gen.DwMix.Skeleton
public import proofs.«01_k».proof.Proof.Gen.DwMix.Launch
public import proofs.«01_k».proof.Proof.Gen.DwMix.Points
public import proofs.«01_k».proof.Proof.Gen.DwMix.Frame
public import proofs.«01_k».proof.Proof.Gen.DwMixIdeal
public import proofs.«01_k».proof.Proof.Gen.DwMixIdeal.Skeleton
public import proofs.«01_k».proof.Proof.Gen.DwMixIdeal.Launch
public import proofs.«01_k».proof.Proof.Gen.DwMixIdeal.Points
public import proofs.«01_k».proof.Proof.Gen.DwMixIdeal.Frame
public import proofs.«01_k».proof.Proof.Gen.DwMixIdeal.Value
public import proofs.«01_k».proof.Proof.Gen.PlainDwMixIdeal
public import proofs.«01_k».proof.Proof.Gen.PlainDwMixIdeal.Run
public import proofs.«01_k».proof.Proof.Gen.PlainDwMixIdeal.Read
public import proofs.«01_k».proof.Proof.DwMix
public import proofs.«01_k».proof.Proof.Gen.DwBranch
public import proofs.«01_k».proof.Proof.Gen.DwBranch.Skeleton
public import proofs.«01_k».proof.Proof.Gen.DwBranch.Launch
public import proofs.«01_k».proof.Proof.Gen.DwBranch.Points
public import proofs.«01_k».proof.Proof.Gen.DwBranch.Frame
public import proofs.«01_k».proof.Proof.Gen.DwBranchIdeal
public import proofs.«01_k».proof.Proof.Gen.DwBranchIdeal.Skeleton
public import proofs.«01_k».proof.Proof.Gen.DwBranchIdeal.Launch
public import proofs.«01_k».proof.Proof.Gen.DwBranchIdeal.Points
public import proofs.«01_k».proof.Proof.Gen.DwBranchIdeal.Frame
public import proofs.«01_k».proof.Proof.Gen.DwBranchIdeal.Value
public import proofs.«01_k».proof.Proof.Gen.PlainDwBranchIdeal
public import proofs.«01_k».proof.Proof.Gen.PlainDwBranchIdeal.Run
public import proofs.«01_k».proof.Proof.Gen.PlainDwBranchIdeal.Read
public import proofs.«01_k».proof.Proof.DwBranch
public import proofs.«01_k».proof.Proof.Gen.DwXq
public import proofs.«01_k».proof.Proof.Gen.DwXq.Skeleton
public import proofs.«01_k».proof.Proof.Gen.DwXq.Launch
public import proofs.«01_k».proof.Proof.Gen.DwXq.Points
public import proofs.«01_k».proof.Proof.Gen.DwXq.Frame
public import proofs.«01_k».proof.Proof.Gen.DwXqIdeal
public import proofs.«01_k».proof.Proof.Gen.DwXqIdeal.Skeleton
public import proofs.«01_k».proof.Proof.Gen.DwXqIdeal.Launch
public import proofs.«01_k».proof.Proof.Gen.DwXqIdeal.Points
public import proofs.«01_k».proof.Proof.Gen.DwXqIdeal.Frame
public import proofs.«01_k».proof.Proof.Gen.DwXqIdeal.Value
public import proofs.«01_k».proof.Proof.Gen.PlainDwXqIdeal
public import proofs.«01_k».proof.Proof.Gen.PlainDwXqIdeal.Run
public import proofs.«01_k».proof.Proof.Gen.PlainDwXqIdeal.Read
public import proofs.«01_k».proof.Proof.DwXq
public import proofs.«01_k».proof.Proof.Gen.Dxo
public import proofs.«01_k».proof.Proof.Gen.Dxo.Skeleton
public import proofs.«01_k».proof.Proof.Gen.Dxo.Launch
public import proofs.«01_k».proof.Proof.Gen.Dxo.Points
public import proofs.«01_k».proof.Proof.Gen.Dxo.Frame
public import proofs.«01_k».proof.Proof.Gen.DxoIdeal
public import proofs.«01_k».proof.Proof.Gen.DxoIdeal.Skeleton
public import proofs.«01_k».proof.Proof.Gen.DxoIdeal.Launch
public import proofs.«01_k».proof.Proof.Gen.DxoIdeal.Points
public import proofs.«01_k».proof.Proof.Gen.DxoIdeal.Frame
public import proofs.«01_k».proof.Proof.Gen.DxoIdeal.Value
public import proofs.«01_k».proof.Proof.Gen.PlainDxoIdeal
public import proofs.«01_k».proof.Proof.Gen.PlainDxoIdeal.Run
public import proofs.«01_k».proof.Proof.Gen.PlainDxoIdeal.Read
public import proofs.«01_k».proof.Proof.Dxo
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpIdeal.Value
public import proofs.«01_k».proof.Proof.Gen.PlainDwUpIdeal
public import proofs.«01_k».proof.Proof.Gen.PlainDwUpIdeal.Run
public import proofs.«01_k».proof.Proof.Gen.PlainDwUpIdeal.Read
public import proofs.«01_k».proof.Proof.DwUp
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.PlainProjIdeal
public import proofs.«01_k».proof.Proof.Gen.PlainProjIdeal.Run
public import proofs.«01_k».proof.Proof.Gen.PlainProjIdeal.Read
public import proofs.«01_k».proof.Proof.Proj
public import proofs.«01_k».proof.Proof.Gen.DownLn
public import proofs.«01_k».proof.Proof.Gen.DownLn.Skeleton
public import proofs.«01_k».proof.Proof.Gen.DownLn.Launch
public import proofs.«01_k».proof.Proof.Gen.DownLn.Points
public import proofs.«01_k».proof.Proof.Gen.DownLn.Frame
public import proofs.«01_k».proof.Proof.Gen.DownLnIdeal
public import proofs.«01_k».proof.Proof.Gen.DownLnIdeal.Skeleton
public import proofs.«01_k».proof.Proof.Gen.DownLnIdeal.Launch
public import proofs.«01_k».proof.Proof.Gen.DownLnIdeal.Points
public import proofs.«01_k».proof.Proof.Gen.DownLnIdeal.Frame
public import proofs.«01_k».proof.Proof.Gen.DownLnIdeal.Value
public import proofs.«01_k».proof.Proof.Gen.PlainDownLnIdeal
public import proofs.«01_k».proof.Proof.Gen.PlainDownLnIdeal.Run
public import proofs.«01_k».proof.Proof.Gen.PlainDownLnIdeal.Read
public import proofs.«01_k».proof.Proof.DownLn
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.PlainMergeFwdIdeal
public import proofs.«01_k».proof.Proof.Gen.PlainMergeFwdIdeal.Run
public import proofs.«01_k».proof.Proof.Gen.PlainMergeFwdIdeal.Read
public import proofs.«01_k».proof.Proof.MergeFwd
public import proofs.«01_k».proof.Proof.Gen.MixLn
public import proofs.«01_k».proof.Proof.Gen.MixLn.Skeleton
public import proofs.«01_k».proof.Proof.Gen.MixLn.Launch
public import proofs.«01_k».proof.Proof.Gen.MixLn.Points
public import proofs.«01_k».proof.Proof.Gen.MixLn.Frame
public import proofs.«01_k».proof.Proof.Gen.MixLnIdeal
public import proofs.«01_k».proof.Proof.Gen.MixLnIdeal.Skeleton
public import proofs.«01_k».proof.Proof.Gen.MixLnIdeal.Launch
public import proofs.«01_k».proof.Proof.Gen.MixLnIdeal.Points
public import proofs.«01_k».proof.Proof.Gen.MixLnIdeal.Frame
public import proofs.«01_k».proof.Proof.Gen.MixLnIdeal.Value
public import proofs.«01_k».proof.Proof.Gen.PlainMixLnIdeal
public import proofs.«01_k».proof.Proof.Gen.PlainMixLnIdeal.Run
public import proofs.«01_k».proof.Proof.Gen.PlainMixLnIdeal.Read
public import proofs.«01_k».proof.Proof.MixLn
public import proofs.«01_k».proof.Proof.Gen.XoLn
public import proofs.«01_k».proof.Proof.Gen.XoLn.Skeleton
public import proofs.«01_k».proof.Proof.Gen.XoLn.Launch
public import proofs.«01_k».proof.Proof.Gen.XoLn.Points
public import proofs.«01_k».proof.Proof.Gen.XoLn.Frame
public import proofs.«01_k».proof.Proof.Gen.XoLnIdeal
public import proofs.«01_k».proof.Proof.Gen.XoLnIdeal.Skeleton
public import proofs.«01_k».proof.Proof.Gen.XoLnIdeal.Launch
public import proofs.«01_k».proof.Proof.Gen.XoLnIdeal.Points
public import proofs.«01_k».proof.Proof.Gen.XoLnIdeal.Frame
public import proofs.«01_k».proof.Proof.Gen.XoLnIdeal.Value
public import proofs.«01_k».proof.Proof.Gen.PlainXoLnIdeal
public import proofs.«01_k».proof.Proof.Gen.PlainXoLnIdeal.Run
public import proofs.«01_k».proof.Proof.Gen.PlainXoLnIdeal.Read
public import proofs.«01_k».proof.Proof.XoLn
public import proofs.«01_k».proof.Proof.Gen.Xq
public import proofs.«01_k».proof.Proof.Gen.Xq.Skeleton
public import proofs.«01_k».proof.Proof.Gen.Xq.Launch
public import proofs.«01_k».proof.Proof.Gen.Xq.Points
public import proofs.«01_k».proof.Proof.Gen.Xq.Frame
public import proofs.«01_k».proof.Proof.Gen.XqIdeal
public import proofs.«01_k».proof.Proof.Gen.XqIdeal.Skeleton
public import proofs.«01_k».proof.Proof.Gen.XqIdeal.Launch
public import proofs.«01_k».proof.Proof.Gen.XqIdeal.Points
public import proofs.«01_k».proof.Proof.Gen.XqIdeal.Frame
public import proofs.«01_k».proof.Proof.Gen.XqIdeal.Value
public import proofs.«01_k».proof.Proof.Gen.PlainXqIdeal
public import proofs.«01_k».proof.Proof.Gen.PlainXqIdeal.Run
public import proofs.«01_k».proof.Proof.Gen.PlainXqIdeal.Read
public import proofs.«01_k».proof.Proof.Xq
public import proofs.«01_k».proof.Proof.Gen.DwUpA
public import proofs.«01_k».proof.Proof.Gen.DwUpA.Skeleton
public import proofs.«01_k».proof.Proof.Gen.DwUpA.Launch
public import proofs.«01_k».proof.Proof.Gen.DwUpA.Points
public import proofs.«01_k».proof.Proof.Gen.DwUpA.Frame
public import proofs.«01_k».proof.Proof.Gen.DwUpAIdeal
public import proofs.«01_k».proof.Proof.Gen.DwUpAIdeal.Skeleton
public import proofs.«01_k».proof.Proof.Gen.DwUpAIdeal.Launch
public import proofs.«01_k».proof.Proof.Gen.DwUpAIdeal.Points
public import proofs.«01_k».proof.Proof.Gen.DwUpAIdeal.Frame
public import proofs.«01_k».proof.Proof.Gen.DwUpAIdeal.Value
public import proofs.«01_k».proof.Proof.Gen.PlainDwUpAIdeal
public import proofs.«01_k».proof.Proof.Gen.PlainDwUpAIdeal.Run
public import proofs.«01_k».proof.Proof.Gen.PlainDwUpAIdeal.Read
public import proofs.«01_k».proof.Proof.DwUpA
public import proofs.«01_k».proof.Proof.Gen.DwInA
public import proofs.«01_k».proof.Proof.Gen.DwInA.Skeleton
public import proofs.«01_k».proof.Proof.Gen.DwInA.Launch
public import proofs.«01_k».proof.Proof.Gen.DwInA.Points
public import proofs.«01_k».proof.Proof.Gen.DwInA.Frame
public import proofs.«01_k».proof.Proof.Gen.DwInAIdeal
public import proofs.«01_k».proof.Proof.Gen.DwInAIdeal.Skeleton
public import proofs.«01_k».proof.Proof.Gen.DwInAIdeal.Launch
public import proofs.«01_k».proof.Proof.Gen.DwInAIdeal.Points
public import proofs.«01_k».proof.Proof.Gen.DwInAIdeal.Frame
public import proofs.«01_k».proof.Proof.Gen.DwInAIdeal.Value
public import proofs.«01_k».proof.Proof.Gen.PlainDwInAIdeal
public import proofs.«01_k».proof.Proof.Gen.PlainDwInAIdeal.Run
public import proofs.«01_k».proof.Proof.Gen.PlainDwInAIdeal.Read
public import proofs.«01_k».proof.Proof.DwInA
public import proofs.«01_k».proof.Proof.Gen.DwInB
public import proofs.«01_k».proof.Proof.Gen.DwInB.Skeleton
public import proofs.«01_k».proof.Proof.Gen.DwInB.Launch
public import proofs.«01_k».proof.Proof.Gen.DwInB.Points
public import proofs.«01_k».proof.Proof.Gen.DwInB.Frame
public import proofs.«01_k».proof.Proof.Gen.DwInBIdeal
public import proofs.«01_k».proof.Proof.Gen.DwInBIdeal.Skeleton
public import proofs.«01_k».proof.Proof.Gen.DwInBIdeal.Launch
public import proofs.«01_k».proof.Proof.Gen.DwInBIdeal.Points
public import proofs.«01_k».proof.Proof.Gen.DwInBIdeal.Frame
public import proofs.«01_k».proof.Proof.Gen.DwInBIdeal.Value
public import proofs.«01_k».proof.Proof.Gen.PlainDwInBIdeal
public import proofs.«01_k».proof.Proof.Gen.PlainDwInBIdeal.Run
public import proofs.«01_k».proof.Proof.Gen.PlainDwInBIdeal.Read
public import proofs.«01_k».proof.Proof.DwInB
public import proofs.«01_k».proof.Proof.Gen.DwInC
public import proofs.«01_k».proof.Proof.Gen.DwInC.Skeleton
public import proofs.«01_k».proof.Proof.Gen.DwInC.Launch
public import proofs.«01_k».proof.Proof.Gen.DwInC.Points
public import proofs.«01_k».proof.Proof.Gen.DwInC.Frame
public import proofs.«01_k».proof.Proof.Gen.DwInCIdeal
public import proofs.«01_k».proof.Proof.Gen.DwInCIdeal.Skeleton
public import proofs.«01_k».proof.Proof.Gen.DwInCIdeal.Launch
public import proofs.«01_k».proof.Proof.Gen.DwInCIdeal.Points
public import proofs.«01_k».proof.Proof.Gen.DwInCIdeal.Frame
public import proofs.«01_k».proof.Proof.Gen.DwInCIdeal.Value
public import proofs.«01_k».proof.Proof.Gen.PlainDwInCIdeal
public import proofs.«01_k».proof.Proof.Gen.PlainDwInCIdeal.Run
public import proofs.«01_k».proof.Proof.Gen.PlainDwInCIdeal.Read
public import proofs.«01_k».proof.Proof.DwInC
public import proofs.«01_k».proof.Proof.Gen.DxUp
public import proofs.«01_k».proof.Proof.Gen.DxUp.Skeleton
public import proofs.«01_k».proof.Proof.Gen.DxUp.Launch
public import proofs.«01_k».proof.Proof.Gen.DxUp.Points
public import proofs.«01_k».proof.Proof.Gen.DxUp.Frame
public import proofs.«01_k».proof.Proof.Gen.DxUpIdeal
public import proofs.«01_k».proof.Proof.Gen.DxUpIdeal.Skeleton
public import proofs.«01_k».proof.Proof.Gen.DxUpIdeal.Launch
public import proofs.«01_k».proof.Proof.Gen.DxUpIdeal.Points
public import proofs.«01_k».proof.Proof.Gen.DxUpIdeal.Frame
public import proofs.«01_k».proof.Proof.Gen.DxUpIdeal.Value
public import proofs.«01_k».proof.Proof.Gen.PlainDxUpIdeal
public import proofs.«01_k».proof.Proof.Gen.PlainDxUpIdeal.Run
public import proofs.«01_k».proof.Proof.Gen.PlainDxUpIdeal.Read
public import proofs.«01_k».proof.Proof.DxUp
public import proofs.«01_k».proof.Proof.Gen.DxQ
public import proofs.«01_k».proof.Proof.Gen.DxQ.Skeleton
public import proofs.«01_k».proof.Proof.Gen.DxQ.Launch
public import proofs.«01_k».proof.Proof.Gen.DxQ.Points
public import proofs.«01_k».proof.Proof.Gen.DxQ.Frame
public import proofs.«01_k».proof.Proof.Gen.DxQIdeal
public import proofs.«01_k».proof.Proof.Gen.DxQIdeal.Skeleton
public import proofs.«01_k».proof.Proof.Gen.DxQIdeal.Launch
public import proofs.«01_k».proof.Proof.Gen.DxQIdeal.Points
public import proofs.«01_k».proof.Proof.Gen.DxQIdeal.Frame
public import proofs.«01_k».proof.Proof.Gen.DxQIdeal.Value
public import proofs.«01_k».proof.Proof.Gen.PlainDxQIdeal
public import proofs.«01_k».proof.Proof.Gen.PlainDxQIdeal.Run
public import proofs.«01_k».proof.Proof.Gen.PlainDxQIdeal.Read
public import proofs.«01_k».proof.Proof.DxQ
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.PlainAdamInIdeal
public import proofs.«01_k».proof.Proof.Gen.PlainAdamInIdeal.Run
public import proofs.«01_k».proof.Proof.Gen.PlainAdamInIdeal.Read
public import proofs.«01_k».proof.Proof.AdamIn
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchIdeal.Value
public import proofs.«01_k».proof.Proof.Gen.PlainAdamBranchIdeal
public import proofs.«01_k».proof.Proof.Gen.PlainAdamBranchIdeal.Run
public import proofs.«01_k».proof.Proof.Gen.PlainAdamBranchIdeal.Read
public import proofs.«01_k».proof.Proof.AdamBranch
public import proofs.«01_k».proof.Proof.Gen.AdamMix
public import proofs.«01_k».proof.Proof.Gen.AdamMix.Skeleton
public import proofs.«01_k».proof.Proof.Gen.AdamMix.Launch
public import proofs.«01_k».proof.Proof.Gen.AdamMix.Points
public import proofs.«01_k».proof.Proof.Gen.AdamMix.Frame
public import proofs.«01_k».proof.Proof.Gen.AdamMixIdeal
public import proofs.«01_k».proof.Proof.Gen.AdamMixIdeal.Skeleton
public import proofs.«01_k».proof.Proof.Gen.AdamMixIdeal.Launch
public import proofs.«01_k».proof.Proof.Gen.AdamMixIdeal.Points
public import proofs.«01_k».proof.Proof.Gen.AdamMixIdeal.Frame
public import proofs.«01_k».proof.Proof.Gen.AdamMixIdeal.Value
public import proofs.«01_k».proof.Proof.Gen.PlainAdamMixIdeal
public import proofs.«01_k».proof.Proof.Gen.PlainAdamMixIdeal.Run
public import proofs.«01_k».proof.Proof.Gen.PlainAdamMixIdeal.Read
public import proofs.«01_k».proof.Proof.AdamMix
public import proofs.«01_k».proof.Proof.Gen.AdamXq
public import proofs.«01_k».proof.Proof.Gen.AdamXq.Skeleton
public import proofs.«01_k».proof.Proof.Gen.AdamXq.Launch
public import proofs.«01_k».proof.Proof.Gen.AdamXq.Points
public import proofs.«01_k».proof.Proof.Gen.AdamXq.Frame
public import proofs.«01_k».proof.Proof.Gen.AdamXqIdeal
public import proofs.«01_k».proof.Proof.Gen.AdamXqIdeal.Skeleton
public import proofs.«01_k».proof.Proof.Gen.AdamXqIdeal.Launch
public import proofs.«01_k».proof.Proof.Gen.AdamXqIdeal.Points
public import proofs.«01_k».proof.Proof.Gen.AdamXqIdeal.Frame
public import proofs.«01_k».proof.Proof.Gen.AdamXqIdeal.Value
public import proofs.«01_k».proof.Proof.Gen.PlainAdamXqIdeal
public import proofs.«01_k».proof.Proof.Gen.PlainAdamXqIdeal.Run
public import proofs.«01_k».proof.Proof.Gen.PlainAdamXqIdeal.Read
public import proofs.«01_k».proof.Proof.AdamXq
public import proofs.«01_k».proof.Proof.Gen.AdamXo
public import proofs.«01_k».proof.Proof.Gen.AdamXo.Skeleton
public import proofs.«01_k».proof.Proof.Gen.AdamXo.Launch
public import proofs.«01_k».proof.Proof.Gen.AdamXo.Points
public import proofs.«01_k».proof.Proof.Gen.AdamXo.Frame
public import proofs.«01_k».proof.Proof.Gen.AdamXoIdeal
public import proofs.«01_k».proof.Proof.Gen.AdamXoIdeal.Skeleton
public import proofs.«01_k».proof.Proof.Gen.AdamXoIdeal.Launch
public import proofs.«01_k».proof.Proof.Gen.AdamXoIdeal.Points
public import proofs.«01_k».proof.Proof.Gen.AdamXoIdeal.Frame
public import proofs.«01_k».proof.Proof.Gen.AdamXoIdeal.Value
public import proofs.«01_k».proof.Proof.Gen.PlainAdamXoIdeal
public import proofs.«01_k».proof.Proof.Gen.PlainAdamXoIdeal.Run
public import proofs.«01_k».proof.Proof.Gen.PlainAdamXoIdeal.Read
public import proofs.«01_k».proof.Proof.AdamXo
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.PlainAdamDownIdeal
public import proofs.«01_k».proof.Proof.Gen.PlainAdamDownIdeal.Run
public import proofs.«01_k».proof.Proof.Gen.PlainAdamDownIdeal.Read
public import proofs.«01_k».proof.Proof.AdamDown
public import proofs.«01_k».proof.Proof.Gen.XBwd
public import proofs.«01_k».proof.Proof.Gen.XBwd.Skeleton
public import proofs.«01_k».proof.Proof.Gen.XBwd.Launch
public import proofs.«01_k».proof.Proof.Gen.XBwd.Points
public import proofs.«01_k».proof.Proof.Gen.XBwd.Frame
public import proofs.«01_k».proof.Proof.Gen.XBwdIdeal
public import proofs.«01_k».proof.Proof.Gen.XBwdIdeal.Skeleton
public import proofs.«01_k».proof.Proof.Gen.XBwdIdeal.Launch
public import proofs.«01_k».proof.Proof.Gen.XBwdIdeal.Points
public import proofs.«01_k».proof.Proof.Gen.XBwdIdeal.Frame
public import proofs.«01_k».proof.Proof.Gen.XBwdIdeal.Value
public import proofs.«01_k».proof.Proof.Gen.PlainXBwdIdeal
public import proofs.«01_k».proof.Proof.Gen.PlainXBwdIdeal.Run
public import proofs.«01_k».proof.Proof.Gen.PlainXBwdIdeal.Read
public import proofs.«01_k».proof.Proof.XBwd
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.PlainSumSmallIdeal
public import proofs.«01_k».proof.Proof.Gen.PlainSumSmallIdeal.Run
public import proofs.«01_k».proof.Proof.Gen.PlainSumSmallIdeal.Read
public import proofs.«01_k».proof.Proof.SumSmall
public import Idealize.ShloMosaic.Adequacy
public import Idealize.ShloMosaic.Init

@[expose] public section

noncomputable section

namespace Cert.Proof

open Idealize.ShloMosaic Idealize.SL.Sem

/-- The merge's gradient kernel terminates without a fault and leaves its arguments, at the hardware's words. -/
theorem frame_kernel : Cert.quiescent_Kernel := fun m ρ _ => Cert.Kernel.Gen.frame m ρ

/-- The same over the extended reals. -/
theorem frame_kernel_ideal : Cert.quiescent_KernelIdeal := fun m ρ _ => Cert.KernelIdeal.Gen.frame m ρ

/-- The plain gradient's frame. -/
theorem frame_reference : Cert.quiescent_ReferenceIdeal := fun m ρ _ =>
  (θ_run Cert.ReferenceIdeal.defs _ _).mono (fun r h => ⟨fun c => (h c).2.2.2.2.2.2.2.2,
      sem_eq_zero_of_no_sems (by decide) r.2⟩)
    (Cert.ReferenceIdeal.Value.run m ρ)

/-- The plain reference of `DAct` terminates and leaves its arguments. -/
theorem frame_plain_DAct : Cert.quiescent_PlainDActIdeal := fun m ρ _ =>
  (θ_run Cert.PlainDActIdeal.defs _ _).mono (fun r h => ⟨fun c => (h c).2,
      sem_eq_zero_of_no_sems (by decide) r.2⟩)
    (Cert.PlainDActIdeal.Value.run m ρ)

/-- The plain reference of `DwDown` terminates and leaves its arguments. -/
theorem frame_plain_DwDown : Cert.quiescent_PlainDwDownIdeal := fun m ρ _ =>
  (θ_run Cert.PlainDwDownIdeal.defs _ _).mono (fun r h => ⟨fun c => (h c).2,
      sem_eq_zero_of_no_sems (by decide) r.2⟩)
    (Cert.PlainDwDownIdeal.Value.run m ρ)

/-- The plain reference of `DxIn` terminates and leaves its arguments. -/
theorem frame_plain_DxIn : Cert.quiescent_PlainDxInIdeal := fun m ρ _ =>
  (θ_run Cert.PlainDxInIdeal.defs _ _).mono (fun r h => ⟨fun c => (h c).2,
      sem_eq_zero_of_no_sems (by decide) r.2⟩)
    (Cert.PlainDxInIdeal.Value.run m ρ)

/-- The plain reference of `DMerged` terminates and leaves its arguments. -/
theorem frame_plain_DMerged : Cert.quiescent_PlainDMergedIdeal := fun m ρ _ =>
  (θ_run Cert.PlainDMergedIdeal.defs _ _).mono (fun r h => ⟨fun c => (h c).2,
      sem_eq_zero_of_no_sems (by decide) r.2⟩)
    (Cert.PlainDMergedIdeal.Value.run m ρ)

/-- The plain reference of `DwMix` terminates and leaves its arguments. -/
theorem frame_plain_DwMix : Cert.quiescent_PlainDwMixIdeal := fun m ρ _ =>
  (θ_run Cert.PlainDwMixIdeal.defs _ _).mono (fun r h => ⟨fun c => (h c).2,
      sem_eq_zero_of_no_sems (by decide) r.2⟩)
    (Cert.PlainDwMixIdeal.Value.run m ρ)

/-- The plain reference of `DwBranch` terminates and leaves its arguments. -/
theorem frame_plain_DwBranch : Cert.quiescent_PlainDwBranchIdeal := fun m ρ _ =>
  (θ_run Cert.PlainDwBranchIdeal.defs _ _).mono (fun r h => ⟨fun c => (h c).2,
      sem_eq_zero_of_no_sems (by decide) r.2⟩)
    (Cert.PlainDwBranchIdeal.Value.run m ρ)

/-- The plain reference of `DwXq` terminates and leaves its arguments. -/
theorem frame_plain_DwXq : Cert.quiescent_PlainDwXqIdeal := fun m ρ _ =>
  (θ_run Cert.PlainDwXqIdeal.defs _ _).mono (fun r h => ⟨fun c => (h c).2,
      sem_eq_zero_of_no_sems (by decide) r.2⟩)
    (Cert.PlainDwXqIdeal.Value.run m ρ)

/-- The plain reference of `Dxo` terminates and leaves its arguments. -/
theorem frame_plain_Dxo : Cert.quiescent_PlainDxoIdeal := fun m ρ _ =>
  (θ_run Cert.PlainDxoIdeal.defs _ _).mono (fun r h => ⟨fun c => (h c).2,
      sem_eq_zero_of_no_sems (by decide) r.2⟩)
    (Cert.PlainDxoIdeal.Value.run m ρ)

/-- The plain reference of `DwUp` terminates and leaves its arguments. -/
theorem frame_plain_DwUp : Cert.quiescent_PlainDwUpIdeal := fun m ρ _ =>
  (θ_run Cert.PlainDwUpIdeal.defs _ _).mono (fun r h => ⟨fun c => (h c).2,
      sem_eq_zero_of_no_sems (by decide) r.2⟩)
    (Cert.PlainDwUpIdeal.Value.run m ρ)

/-- The plain reference of `Proj` terminates and leaves its arguments. -/
theorem frame_plain_Proj : Cert.quiescent_PlainProjIdeal := fun m ρ _ =>
  (θ_run Cert.PlainProjIdeal.defs _ _).mono (fun r h => ⟨fun c => (h c).2,
      sem_eq_zero_of_no_sems (by decide) r.2⟩)
    (Cert.PlainProjIdeal.Value.run m ρ)

/-- The plain reference of `DownLn` terminates and leaves its arguments. -/
theorem frame_plain_DownLn : Cert.quiescent_PlainDownLnIdeal := fun m ρ _ =>
  (θ_run Cert.PlainDownLnIdeal.defs _ _).mono (fun r h => ⟨fun c => (h c).2.2.2.2,
      sem_eq_zero_of_no_sems (by decide) r.2⟩)
    (Cert.PlainDownLnIdeal.Value.run m ρ)

/-- The plain reference of `MergeFwd` terminates and leaves its arguments. -/
theorem frame_plain_MergeFwd : Cert.quiescent_PlainMergeFwdIdeal := fun m ρ _ =>
  (θ_run Cert.PlainMergeFwdIdeal.defs _ _).mono (fun r h => ⟨fun c => (h c).2,
      sem_eq_zero_of_no_sems (by decide) r.2⟩)
    (Cert.PlainMergeFwdIdeal.Value.run m ρ)

/-- The plain reference of `MixLn` terminates and leaves its arguments. -/
theorem frame_plain_MixLn : Cert.quiescent_PlainMixLnIdeal := fun m ρ _ =>
  (θ_run Cert.PlainMixLnIdeal.defs _ _).mono (fun r h => ⟨fun c => (h c).2.2.2.2,
      sem_eq_zero_of_no_sems (by decide) r.2⟩)
    (Cert.PlainMixLnIdeal.Value.run m ρ)

/-- The plain reference of `XoLn` terminates and leaves its arguments. -/
theorem frame_plain_XoLn : Cert.quiescent_PlainXoLnIdeal := fun m ρ _ =>
  (θ_run Cert.PlainXoLnIdeal.defs _ _).mono (fun r h => ⟨fun c => (h c).2.2.2.2,
      sem_eq_zero_of_no_sems (by decide) r.2⟩)
    (Cert.PlainXoLnIdeal.Value.run m ρ)

/-- The plain reference of `Xq` terminates and leaves its arguments. -/
theorem frame_plain_Xq : Cert.quiescent_PlainXqIdeal := fun m ρ _ =>
  (θ_run Cert.PlainXqIdeal.defs _ _).mono (fun r h => ⟨fun c => (h c).2,
      sem_eq_zero_of_no_sems (by decide) r.2⟩)
    (Cert.PlainXqIdeal.Value.run m ρ)

/-- The plain reference of `DwUpA` terminates and leaves its arguments. -/
theorem frame_plain_DwUpA : Cert.quiescent_PlainDwUpAIdeal := fun m ρ _ =>
  (θ_run Cert.PlainDwUpAIdeal.defs _ _).mono (fun r h => ⟨fun c => (h c).2,
      sem_eq_zero_of_no_sems (by decide) r.2⟩)
    (Cert.PlainDwUpAIdeal.Value.run m ρ)

/-- The plain reference of `DwInA` terminates and leaves its arguments. -/
theorem frame_plain_DwInA : Cert.quiescent_PlainDwInAIdeal := fun m ρ _ =>
  (θ_run Cert.PlainDwInAIdeal.defs _ _).mono (fun r h => ⟨fun c => (h c).2,
      sem_eq_zero_of_no_sems (by decide) r.2⟩)
    (Cert.PlainDwInAIdeal.Value.run m ρ)

/-- The plain reference of `DwInB` terminates and leaves its arguments. -/
theorem frame_plain_DwInB : Cert.quiescent_PlainDwInBIdeal := fun m ρ _ =>
  (θ_run Cert.PlainDwInBIdeal.defs _ _).mono (fun r h => ⟨fun c => (h c).2,
      sem_eq_zero_of_no_sems (by decide) r.2⟩)
    (Cert.PlainDwInBIdeal.Value.run m ρ)

/-- The plain reference of `DwInC` terminates and leaves its arguments. -/
theorem frame_plain_DwInC : Cert.quiescent_PlainDwInCIdeal := fun m ρ _ =>
  (θ_run Cert.PlainDwInCIdeal.defs _ _).mono (fun r h => ⟨fun c => (h c).2,
      sem_eq_zero_of_no_sems (by decide) r.2⟩)
    (Cert.PlainDwInCIdeal.Value.run m ρ)

/-- The plain reference of `DxUp` terminates and leaves its arguments. -/
theorem frame_plain_DxUp : Cert.quiescent_PlainDxUpIdeal := fun m ρ _ =>
  (θ_run Cert.PlainDxUpIdeal.defs _ _).mono (fun r h => ⟨fun c => (h c).2.2.2.2,
      sem_eq_zero_of_no_sems (by decide) r.2⟩)
    (Cert.PlainDxUpIdeal.Value.run m ρ)

/-- The plain reference of `DxQ` terminates and leaves its arguments. -/
theorem frame_plain_DxQ : Cert.quiescent_PlainDxQIdeal := fun m ρ _ =>
  (θ_run Cert.PlainDxQIdeal.defs _ _).mono (fun r h => ⟨fun c => (h c).2.2.2.2,
      sem_eq_zero_of_no_sems (by decide) r.2⟩)
    (Cert.PlainDxQIdeal.Value.run m ρ)

/-- The plain reference of `AdamIn` terminates and leaves its arguments. -/
theorem frame_plain_AdamIn : Cert.quiescent_PlainAdamInIdeal := fun m ρ _ =>
  (θ_run Cert.PlainAdamInIdeal.defs _ _).mono (fun r h => ⟨fun c => (h c).2.2.2.2,
      sem_eq_zero_of_no_sems (by decide) r.2⟩)
    (Cert.PlainAdamInIdeal.Value.run m ρ)

/-- The plain reference of `AdamBranch` terminates and leaves its arguments. -/
theorem frame_plain_AdamBranch : Cert.quiescent_PlainAdamBranchIdeal := fun m ρ _ =>
  (θ_run Cert.PlainAdamBranchIdeal.defs _ _).mono (fun r h => ⟨fun c => (h c).2.2.2.2,
      sem_eq_zero_of_no_sems (by decide) r.2⟩)
    (Cert.PlainAdamBranchIdeal.Value.run m ρ)

/-- The plain reference of `AdamMix` terminates and leaves its arguments. -/
theorem frame_plain_AdamMix : Cert.quiescent_PlainAdamMixIdeal := fun m ρ _ =>
  (θ_run Cert.PlainAdamMixIdeal.defs _ _).mono (fun r h => ⟨fun c => (h c).2.2.2.2,
      sem_eq_zero_of_no_sems (by decide) r.2⟩)
    (Cert.PlainAdamMixIdeal.Value.run m ρ)

/-- The plain reference of `AdamXq` terminates and leaves its arguments. -/
theorem frame_plain_AdamXq : Cert.quiescent_PlainAdamXqIdeal := fun m ρ _ =>
  (θ_run Cert.PlainAdamXqIdeal.defs _ _).mono (fun r h => ⟨fun c => (h c).2.2.2.2,
      sem_eq_zero_of_no_sems (by decide) r.2⟩)
    (Cert.PlainAdamXqIdeal.Value.run m ρ)

/-- The plain reference of `AdamXo` terminates and leaves its arguments. -/
theorem frame_plain_AdamXo : Cert.quiescent_PlainAdamXoIdeal := fun m ρ _ =>
  (θ_run Cert.PlainAdamXoIdeal.defs _ _).mono (fun r h => ⟨fun c => (h c).2.2.2.2,
      sem_eq_zero_of_no_sems (by decide) r.2⟩)
    (Cert.PlainAdamXoIdeal.Value.run m ρ)

/-- The plain reference of `AdamDown` terminates and leaves its arguments. -/
theorem frame_plain_AdamDown : Cert.quiescent_PlainAdamDownIdeal := fun m ρ _ =>
  (θ_run Cert.PlainAdamDownIdeal.defs _ _).mono (fun r h => ⟨fun c => (h c).2.2.2.2,
      sem_eq_zero_of_no_sems (by decide) r.2⟩)
    (Cert.PlainAdamDownIdeal.Value.run m ρ)

/-- The plain reference of `XBwd` terminates and leaves its arguments. -/
theorem frame_plain_XBwd : Cert.quiescent_PlainXBwdIdeal := fun m ρ _ =>
  (θ_run Cert.PlainXBwdIdeal.defs _ _).mono (fun r h => ⟨fun c => (h c).2.2,
      sem_eq_zero_of_no_sems (by decide) r.2⟩)
    (Cert.PlainXBwdIdeal.Value.run m ρ)

/-- The plain reference of `SumSmall` terminates and leaves its arguments. -/
theorem frame_plain_SumSmall : Cert.quiescent_PlainSumSmallIdeal := fun m ρ _ =>
  (θ_run Cert.PlainSumSmallIdeal.defs _ _).mono (fun r h => ⟨fun c => (h c).2,
      sem_eq_zero_of_no_sems (by decide) r.2⟩)
    (Cert.PlainSumSmallIdeal.Value.run m ρ)

/-- All claims. -/
theorem claim : Cert.Claim := ⟨Cert.Kernel.Gen.facts,
  Cert.KernelIdeal.Gen.facts,
  Cert.ReferenceIdeal.Gen.facts,
  Cert.DAct.Gen.facts,
  Cert.DActIdeal.Gen.facts,
  Cert.PlainDActIdeal.Gen.facts,
  Cert.DwDown.Gen.facts,
  Cert.DwDownIdeal.Gen.facts,
  Cert.PlainDwDownIdeal.Gen.facts,
  Cert.DxIn.Gen.facts,
  Cert.DxInIdeal.Gen.facts,
  Cert.PlainDxInIdeal.Gen.facts,
  Cert.DMerged.Gen.facts,
  Cert.DMergedIdeal.Gen.facts,
  Cert.PlainDMergedIdeal.Gen.facts,
  Cert.DwMix.Gen.facts,
  Cert.DwMixIdeal.Gen.facts,
  Cert.PlainDwMixIdeal.Gen.facts,
  Cert.DwBranch.Gen.facts,
  Cert.DwBranchIdeal.Gen.facts,
  Cert.PlainDwBranchIdeal.Gen.facts,
  Cert.DwXq.Gen.facts,
  Cert.DwXqIdeal.Gen.facts,
  Cert.PlainDwXqIdeal.Gen.facts,
  Cert.Dxo.Gen.facts,
  Cert.DxoIdeal.Gen.facts,
  Cert.PlainDxoIdeal.Gen.facts,
  Cert.DwUp.Gen.facts,
  Cert.DwUpIdeal.Gen.facts,
  Cert.PlainDwUpIdeal.Gen.facts,
  Cert.Proj.Gen.facts,
  Cert.ProjIdeal.Gen.facts,
  Cert.PlainProjIdeal.Gen.facts,
  Cert.DownLn.Gen.facts,
  Cert.DownLnIdeal.Gen.facts,
  Cert.PlainDownLnIdeal.Gen.facts,
  Cert.MergeFwd.Gen.facts,
  Cert.MergeFwdIdeal.Gen.facts,
  Cert.PlainMergeFwdIdeal.Gen.facts,
  Cert.MixLn.Gen.facts,
  Cert.MixLnIdeal.Gen.facts,
  Cert.PlainMixLnIdeal.Gen.facts,
  Cert.XoLn.Gen.facts,
  Cert.XoLnIdeal.Gen.facts,
  Cert.PlainXoLnIdeal.Gen.facts,
  Cert.Xq.Gen.facts,
  Cert.XqIdeal.Gen.facts,
  Cert.PlainXqIdeal.Gen.facts,
  Cert.DwUpA.Gen.facts,
  Cert.DwUpAIdeal.Gen.facts,
  Cert.PlainDwUpAIdeal.Gen.facts,
  Cert.DwInA.Gen.facts,
  Cert.DwInAIdeal.Gen.facts,
  Cert.PlainDwInAIdeal.Gen.facts,
  Cert.DwInB.Gen.facts,
  Cert.DwInBIdeal.Gen.facts,
  Cert.PlainDwInBIdeal.Gen.facts,
  Cert.DwInC.Gen.facts,
  Cert.DwInCIdeal.Gen.facts,
  Cert.PlainDwInCIdeal.Gen.facts,
  Cert.DxUp.Gen.facts,
  Cert.DxUpIdeal.Gen.facts,
  Cert.PlainDxUpIdeal.Gen.facts,
  Cert.DxQ.Gen.facts,
  Cert.DxQIdeal.Gen.facts,
  Cert.PlainDxQIdeal.Gen.facts,
  Cert.AdamIn.Gen.facts,
  Cert.AdamInIdeal.Gen.facts,
  Cert.PlainAdamInIdeal.Gen.facts,
  Cert.AdamBranch.Gen.facts,
  Cert.AdamBranchIdeal.Gen.facts,
  Cert.PlainAdamBranchIdeal.Gen.facts,
  Cert.AdamMix.Gen.facts,
  Cert.AdamMixIdeal.Gen.facts,
  Cert.PlainAdamMixIdeal.Gen.facts,
  Cert.AdamXq.Gen.facts,
  Cert.AdamXqIdeal.Gen.facts,
  Cert.PlainAdamXqIdeal.Gen.facts,
  Cert.AdamXo.Gen.facts,
  Cert.AdamXoIdeal.Gen.facts,
  Cert.PlainAdamXoIdeal.Gen.facts,
  Cert.AdamDown.Gen.facts,
  Cert.AdamDownIdeal.Gen.facts,
  Cert.PlainAdamDownIdeal.Gen.facts,
  Cert.XBwd.Gen.facts,
  Cert.XBwdIdeal.Gen.facts,
  Cert.PlainXBwdIdeal.Gen.facts,
  Cert.SumSmall.Gen.facts,
  Cert.SumSmallIdeal.Gen.facts,
  Cert.PlainSumSmallIdeal.Gen.facts,
  Cert.DxUpProof.preFacts,
  Cert.DxQProof.preFacts,
  Cert.XBwdProof.preFacts,
  frame_kernel,
  frame_kernel_ideal,
  frame_reference,
  fun m ρ _ => Cert.DAct.Gen.frame m ρ,
  fun m ρ _ => Cert.DActIdeal.Gen.frame m ρ,
  frame_plain_DAct,
  fun m ρ _ => Cert.DwDown.Gen.frame m ρ,
  fun m ρ _ => Cert.DwDownIdeal.Gen.frame m ρ,
  frame_plain_DwDown,
  fun m ρ _ => Cert.DxIn.Gen.frame m ρ,
  fun m ρ _ => Cert.DxInIdeal.Gen.frame m ρ,
  frame_plain_DxIn,
  fun m ρ _ => Cert.DMerged.Gen.frame m ρ,
  fun m ρ _ => Cert.DMergedIdeal.Gen.frame m ρ,
  frame_plain_DMerged,
  fun m ρ _ => Cert.DwMix.Gen.frame m ρ,
  fun m ρ _ => Cert.DwMixIdeal.Gen.frame m ρ,
  frame_plain_DwMix,
  fun m ρ _ => Cert.DwBranch.Gen.frame m ρ,
  fun m ρ _ => Cert.DwBranchIdeal.Gen.frame m ρ,
  frame_plain_DwBranch,
  fun m ρ _ => Cert.DwXq.Gen.frame m ρ,
  fun m ρ _ => Cert.DwXqIdeal.Gen.frame m ρ,
  frame_plain_DwXq,
  fun m ρ _ => Cert.Dxo.Gen.frame m ρ,
  fun m ρ _ => Cert.DxoIdeal.Gen.frame m ρ,
  frame_plain_Dxo,
  fun m ρ _ => Cert.DwUp.Gen.frame m ρ,
  fun m ρ _ => Cert.DwUpIdeal.Gen.frame m ρ,
  frame_plain_DwUp,
  fun m ρ _ => Cert.Proj.Gen.frame m ρ,
  fun m ρ _ => Cert.ProjIdeal.Gen.frame m ρ,
  frame_plain_Proj,
  fun m ρ _ => Cert.DownLn.Gen.frame m ρ,
  fun m ρ _ => Cert.DownLnIdeal.Gen.frame m ρ,
  frame_plain_DownLn,
  fun m ρ _ => Cert.MergeFwd.Gen.frame m ρ,
  fun m ρ _ => Cert.MergeFwdIdeal.Gen.frame m ρ,
  frame_plain_MergeFwd,
  fun m ρ _ => Cert.MixLn.Gen.frame m ρ,
  fun m ρ _ => Cert.MixLnIdeal.Gen.frame m ρ,
  frame_plain_MixLn,
  fun m ρ _ => Cert.XoLn.Gen.frame m ρ,
  fun m ρ _ => Cert.XoLnIdeal.Gen.frame m ρ,
  frame_plain_XoLn,
  fun m ρ _ => Cert.Xq.Gen.frame m ρ,
  fun m ρ _ => Cert.XqIdeal.Gen.frame m ρ,
  frame_plain_Xq,
  fun m ρ _ => Cert.DwUpA.Gen.frame m ρ,
  fun m ρ _ => Cert.DwUpAIdeal.Gen.frame m ρ,
  frame_plain_DwUpA,
  fun m ρ _ => Cert.DwInA.Gen.frame m ρ,
  fun m ρ _ => Cert.DwInAIdeal.Gen.frame m ρ,
  frame_plain_DwInA,
  fun m ρ _ => Cert.DwInB.Gen.frame m ρ,
  fun m ρ _ => Cert.DwInBIdeal.Gen.frame m ρ,
  frame_plain_DwInB,
  fun m ρ _ => Cert.DwInC.Gen.frame m ρ,
  fun m ρ _ => Cert.DwInCIdeal.Gen.frame m ρ,
  frame_plain_DwInC,
  fun m ρ _ => Cert.DxUp.Gen.frame m ρ,
  fun m ρ _ => Cert.DxUpIdeal.Gen.frame m ρ,
  fun m ρ _ => Cert.DxUpIdeal.Gen.frame m ρ,
  frame_plain_DxUp,
  fun m ρ _ => frame_plain_DxUp m ρ trivial,
  fun m ρ _ => Cert.DxQ.Gen.frame m ρ,
  fun m ρ _ => Cert.DxQIdeal.Gen.frame m ρ,
  fun m ρ _ => Cert.DxQIdeal.Gen.frame m ρ,
  frame_plain_DxQ,
  fun m ρ _ => frame_plain_DxQ m ρ trivial,
  fun m ρ _ => Cert.AdamIn.Gen.frame m ρ,
  fun m ρ _ => Cert.AdamInIdeal.Gen.frame m ρ,
  frame_plain_AdamIn,
  fun m ρ _ => Cert.AdamBranch.Gen.frame m ρ,
  fun m ρ _ => Cert.AdamBranchIdeal.Gen.frame m ρ,
  frame_plain_AdamBranch,
  fun m ρ _ => Cert.AdamMix.Gen.frame m ρ,
  fun m ρ _ => Cert.AdamMixIdeal.Gen.frame m ρ,
  frame_plain_AdamMix,
  fun m ρ _ => Cert.AdamXq.Gen.frame m ρ,
  fun m ρ _ => Cert.AdamXqIdeal.Gen.frame m ρ,
  frame_plain_AdamXq,
  fun m ρ _ => Cert.AdamXo.Gen.frame m ρ,
  fun m ρ _ => Cert.AdamXoIdeal.Gen.frame m ρ,
  frame_plain_AdamXo,
  fun m ρ _ => Cert.AdamDown.Gen.frame m ρ,
  fun m ρ _ => Cert.AdamDownIdeal.Gen.frame m ρ,
  frame_plain_AdamDown,
  fun m ρ _ => Cert.XBwd.Gen.frame m ρ,
  fun m ρ _ => Cert.XBwdIdeal.Gen.frame m ρ,
  fun m ρ _ => Cert.XBwdIdeal.Gen.frame m ρ,
  frame_plain_XBwd,
  fun m ρ _ => frame_plain_XBwd m ρ trivial,
  fun m ρ _ => Cert.SumSmall.Gen.frame m ρ,
  fun m ρ _ => Cert.SumSmallIdeal.Gen.frame m ρ,
  frame_plain_SumSmall,
  trivial,
  Cert.Merge.algebraic,
  trivial,
  Cert.DActProof.algebraic,
  trivial,
  Cert.DwDownProof.algebraic,
  trivial,
  Cert.DxInProof.algebraic,
  trivial,
  Cert.DMergedProof.algebraic,
  trivial,
  Cert.DwMixProof.algebraic,
  trivial,
  Cert.DwBranchProof.algebraic,
  trivial,
  Cert.DwXqProof.algebraic,
  trivial,
  Cert.DxoProof.algebraic,
  trivial,
  Cert.DwUpProof.algebraic,
  trivial,
  Cert.ProjProof.algebraic,
  trivial,
  Cert.DownLnProof.algebraic,
  trivial,
  Cert.MergeFwdProof.algebraic,
  trivial,
  Cert.MixLnProof.algebraic,
  trivial,
  Cert.XoLnProof.algebraic,
  trivial,
  Cert.XqProof.algebraic,
  trivial,
  Cert.DwUpAProof.algebraic,
  trivial,
  Cert.DwInAProof.algebraic,
  trivial,
  Cert.DwInBProof.algebraic,
  trivial,
  Cert.DwInCProof.algebraic,
  trivial,
  Cert.DxUpProof.algebraic,
  trivial,
  Cert.DxQProof.algebraic,
  trivial,
  Cert.AdamInProof.algebraic,
  trivial,
  Cert.AdamBranchProof.algebraic,
  trivial,
  Cert.AdamMixProof.algebraic,
  trivial,
  Cert.AdamXqProof.algebraic,
  trivial,
  Cert.AdamXoProof.algebraic,
  trivial,
  Cert.AdamDownProof.algebraic,
  IdealRules.named_const.statement Cert.XBwdIdeal.κ "x_scale" .f32 0x3DB504F3#32 (((Real.sqrt 128)⁻¹ : ℝ) : EReal) rfl,
  Cert.XBwdProof.algebraic,
  trivial,
  Cert.SumSmallProof.algebraic⟩

end Cert.Proof

end
